-- ==== Defs.lean ====
def Pre_SwapHalves (m : (ℓ : Loc Cert.SwapHalves.nD Cert.SwapHalves.τ Cert.SwapHalves.sig) → Buf (Elt Bits) ℓ) : Prop :=
  True

def Pre_SwapHalvesIdeal (m : (ℓ : Loc Cert.SwapHalvesIdeal.nD Cert.SwapHalvesIdeal.τ Cert.SwapHalvesIdeal.sig) → Buf (Elt Ideal) ℓ) : Prop :=
  True

def Pre_SwapHalvesRefIdeal (m : (ℓ : Loc Cert.SwapHalvesRefIdeal.nD Cert.SwapHalvesRefIdeal.τ Cert.SwapHalvesRefIdeal.sig) → Buf (Elt Ideal) ℓ) : Prop :=
  True

def Pre_JoinHalves (m : (ℓ : Loc Cert.JoinHalves.nD Cert.JoinHalves.τ Cert.JoinHalves.sig) → Buf (Elt Bits) ℓ) : Prop :=
  True

def Pre_JoinHalvesIdeal (m : (ℓ : Loc Cert.JoinHalvesIdeal.nD Cert.JoinHalvesIdeal.τ Cert.JoinHalvesIdeal.sig) → Buf (Elt Ideal) ℓ) : Prop :=
  True

def Pre_JoinHalvesRefIdeal (m : (ℓ : Loc Cert.JoinHalvesRefIdeal.nD Cert.JoinHalvesRefIdeal.τ Cert.JoinHalvesRefIdeal.sig) → Buf (Elt Ideal) ℓ) : Prop :=
  True

def Pre_ScatterChips (m : (ℓ : Loc Cert.ScatterChips.nD Cert.ScatterChips.τ Cert.ScatterChips.sig) → Buf (Elt Bits) ℓ) : Prop :=
  True

def Pre_ScatterChipsIdeal (m : (ℓ : Loc Cert.ScatterChipsIdeal.nD Cert.ScatterChipsIdeal.τ Cert.ScatterChipsIdeal.sig) → Buf (Elt Ideal) ℓ) : Prop :=
  True

def Pre_ScatterChipsRefIdeal (m : (ℓ : Loc Cert.ScatterChipsRefIdeal.nD Cert.ScatterChipsRefIdeal.τ Cert.ScatterChipsRefIdeal.sig) → Buf (Elt Ideal) ℓ) : Prop :=
  True

def Pre_GatherSmall (m : (ℓ : Loc Cert.GatherSmall.nD Cert.GatherSmall.τ Cert.GatherSmall.sig) → Buf (Elt Bits) ℓ) : Prop :=
  True

def Pre_GatherSmallIdeal (m : (ℓ : Loc Cert.GatherSmallIdeal.nD Cert.GatherSmallIdeal.τ Cert.GatherSmallIdeal.sig) → Buf (Elt Ideal) ℓ) : Prop :=
  True

def Pre_GatherSmallRefIdeal (m : (ℓ : Loc Cert.GatherSmallRefIdeal.nD Cert.GatherSmallRefIdeal.τ Cert.GatherSmallRefIdeal.sig) → Buf (Elt Ideal) ℓ) : Prop :=
  True

def Pre_GatherWeights (m : (ℓ : Loc Cert.GatherWeights.nD Cert.GatherWeights.τ Cert.GatherWeights.sig) → Buf (Elt Bits) ℓ) : Prop :=
  True

def Pre_GatherWeightsIdeal (m : (ℓ : Loc Cert.GatherWeightsIdeal.nD Cert.GatherWeightsIdeal.τ Cert.GatherWeightsIdeal.sig) → Buf (Elt Ideal) ℓ) : Prop :=
  True

def Pre_GatherWeightsRefIdeal (m : (ℓ : Loc Cert.GatherWeightsRefIdeal.nD Cert.GatherWeightsRefIdeal.τ Cert.GatherWeightsRefIdeal.sig) → Buf (Elt Ideal) ℓ) : Prop :=
  True

def Pre_AdamwAttnNormG (m : (ℓ : Loc Cert.AdamwAttnNormG.nD Cert.AdamwAttnNormG.τ Cert.AdamwAttnNormG.sig) → Buf (Elt Bits) ℓ) : Prop :=
  True

def Pre_AdamwAttnNormGIdeal (m : (ℓ : Loc Cert.AdamwAttnNormGIdeal.nD Cert.AdamwAttnNormGIdeal.τ Cert.AdamwAttnNormGIdeal.sig) → Buf (Elt Ideal) ℓ) : Prop :=
  True

def Pre_AdamwAttnNormGRefIdeal (m : (ℓ : Loc Cert.AdamwAttnNormGRefIdeal.nD Cert.AdamwAttnNormGRefIdeal.τ Cert.AdamwAttnNormGRefIdeal.sig) → Buf (Elt Ideal) ℓ) : Prop :=
  True

def Pre_AdamwWIn (m : (ℓ : Loc Cert.AdamwWIn.nD Cert.AdamwWIn.τ Cert.AdamwWIn.sig) → Buf (Elt Bits) ℓ) : Prop :=
  True

def Pre_AdamwWInIdeal (m : (ℓ : Loc Cert.AdamwWInIdeal.nD Cert.AdamwWInIdeal.τ Cert.AdamwWInIdeal.sig) → Buf (Elt Ideal) ℓ) : Prop :=
  True

def Pre_AdamwWInRefIdeal (m : (ℓ : Loc Cert.AdamwWInRefIdeal.nD Cert.AdamwWInRefIdeal.τ Cert.AdamwWInRefIdeal.sig) → Buf (Elt Ideal) ℓ) : Prop :=
  True

def Pre_AdamwGlaGateW2 (m : (ℓ : Loc Cert.AdamwGlaGateW2.nD Cert.AdamwGlaGateW2.τ Cert.AdamwGlaGateW2.sig) → Buf (Elt Bits) ℓ) : Prop :=
  True

def Pre_AdamwGlaGateW2Ideal (m : (ℓ : Loc Cert.AdamwGlaGateW2Ideal.nD Cert.AdamwGlaGateW2Ideal.τ Cert.AdamwGlaGateW2Ideal.sig) → Buf (Elt Ideal) ℓ) : Prop :=
  True

def Pre_AdamwGlaGateW2RefIdeal (m : (ℓ : Loc Cert.AdamwGlaGateW2RefIdeal.nD Cert.AdamwGlaGateW2RefIdeal.τ Cert.AdamwGlaGateW2RefIdeal.sig) → Buf (Elt Ideal) ℓ) : Prop :=
  True

def Pre_AdamwGlaGateB (m : (ℓ : Loc Cert.AdamwGlaGateB.nD Cert.AdamwGlaGateB.τ Cert.AdamwGlaGateB.sig) → Buf (Elt Bits) ℓ) : Prop :=
  True

def Pre_AdamwGlaGateBIdeal (m : (ℓ : Loc Cert.AdamwGlaGateBIdeal.nD Cert.AdamwGlaGateBIdeal.τ Cert.AdamwGlaGateBIdeal.sig) → Buf (Elt Ideal) ℓ) : Prop :=
  True

def Pre_AdamwGlaGateBRefIdeal (m : (ℓ : Loc Cert.AdamwGlaGateBRefIdeal.nD Cert.AdamwGlaGateBRefIdeal.τ Cert.AdamwGlaGateBRefIdeal.sig) → Buf (Elt Ideal) ℓ) : Prop :=
  True

def Pre_AdamwGlaNormG (m : (ℓ : Loc Cert.AdamwGlaNormG.nD Cert.AdamwGlaNormG.τ Cert.AdamwGlaNormG.sig) → Buf (Elt Bits) ℓ) : Prop :=
  True

def Pre_AdamwGlaNormGIdeal (m : (ℓ : Loc Cert.AdamwGlaNormGIdeal.nD Cert.AdamwGlaNormGIdeal.τ Cert.AdamwGlaNormGIdeal.sig) → Buf (Elt Ideal) ℓ) : Prop :=
  True

def Pre_AdamwGlaNormGRefIdeal (m : (ℓ : Loc Cert.AdamwGlaNormGRefIdeal.nD Cert.AdamwGlaNormGRefIdeal.τ Cert.AdamwGlaNormGRefIdeal.sig) → Buf (Elt Ideal) ℓ) : Prop :=
  True

def Pre_AdamwRelBias (m : (ℓ : Loc Cert.AdamwRelBias.nD Cert.AdamwRelBias.τ Cert.AdamwRelBias.sig) → Buf (Elt Bits) ℓ) : Prop :=
  True

def Pre_AdamwRelBiasIdeal (m : (ℓ : Loc Cert.AdamwRelBiasIdeal.nD Cert.AdamwRelBiasIdeal.τ Cert.AdamwRelBiasIdeal.sig) → Buf (Elt Ideal) ℓ) : Prop :=
  True

def Pre_AdamwRelBiasRefIdeal (m : (ℓ : Loc Cert.AdamwRelBiasRefIdeal.nD Cert.AdamwRelBiasRefIdeal.τ Cert.AdamwRelBiasRefIdeal.sig) → Buf (Elt Ideal) ℓ) : Prop :=
  True

def Pre_AdamwWOut (m : (ℓ : Loc Cert.AdamwWOut.nD Cert.AdamwWOut.τ Cert.AdamwWOut.sig) → Buf (Elt Bits) ℓ) : Prop :=
  True

def Pre_AdamwWOutIdeal (m : (ℓ : Loc Cert.AdamwWOutIdeal.nD Cert.AdamwWOutIdeal.τ Cert.AdamwWOutIdeal.sig) → Buf (Elt Ideal) ℓ) : Prop :=
  True

def Pre_AdamwWOutRefIdeal (m : (ℓ : Loc Cert.AdamwWOutRefIdeal.nD Cert.AdamwWOutRefIdeal.τ Cert.AdamwWOutRefIdeal.sig) → Buf (Elt Ideal) ℓ) : Prop :=
  True

def Pre_AdamwWFf1 (m : (ℓ : Loc Cert.AdamwWFf1.nD Cert.AdamwWFf1.τ Cert.AdamwWFf1.sig) → Buf (Elt Bits) ℓ) : Prop :=
  True

def Pre_AdamwWFf1Ideal (m : (ℓ : Loc Cert.AdamwWFf1Ideal.nD Cert.AdamwWFf1Ideal.τ Cert.AdamwWFf1Ideal.sig) → Buf (Elt Ideal) ℓ) : Prop :=
  True

def Pre_AdamwWFf1RefIdeal (m : (ℓ : Loc Cert.AdamwWFf1RefIdeal.nD Cert.AdamwWFf1RefIdeal.τ Cert.AdamwWFf1RefIdeal.sig) → Buf (Elt Ideal) ℓ) : Prop :=
  True

def Pre_SumIn (m : (ℓ : Loc Cert.SumIn.nD Cert.SumIn.τ Cert.SumIn.sig) → Buf (Elt Bits) ℓ) : Prop :=
  True

def Pre_SumInIdeal (m : (ℓ : Loc Cert.SumInIdeal.nD Cert.SumInIdeal.τ Cert.SumInIdeal.sig) → Buf (Elt Ideal) ℓ) : Prop :=
  True

def Pre_SumInRefIdeal (m : (ℓ : Loc Cert.SumInRefIdeal.nD Cert.SumInRefIdeal.τ Cert.SumInRefIdeal.sig) → Buf (Elt Ideal) ℓ) : Prop :=
  True

def Pre_SumOut (m : (ℓ : Loc Cert.SumOut.nD Cert.SumOut.τ Cert.SumOut.sig) → Buf (Elt Bits) ℓ) : Prop :=
  True

def Pre_SumOutIdeal (m : (ℓ : Loc Cert.SumOutIdeal.nD Cert.SumOutIdeal.τ Cert.SumOutIdeal.sig) → Buf (Elt Ideal) ℓ) : Prop :=
  True

def Pre_SumOutRefIdeal (m : (ℓ : Loc Cert.SumOutRefIdeal.nD Cert.SumOutRefIdeal.τ Cert.SumOutRefIdeal.sig) → Buf (Elt Ideal) ℓ) : Prop :=
  True

def Pre_SumFf (m : (ℓ : Loc Cert.SumFf.nD Cert.SumFf.τ Cert.SumFf.sig) → Buf (Elt Bits) ℓ) : Prop :=
  True

def Pre_SumFfIdeal (m : (ℓ : Loc Cert.SumFfIdeal.nD Cert.SumFfIdeal.τ Cert.SumFfIdeal.sig) → Buf (Elt Ideal) ℓ) : Prop :=
  True

def Pre_SumFfRefIdeal (m : (ℓ : Loc Cert.SumFfRefIdeal.nD Cert.SumFfRefIdeal.τ Cert.SumFfRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_AddIn [hPre_core_named_in : Cert.Pre_core_named_in.Facts] (m : (ℓ : Loc Cert.AddIn.nD Cert.AddIn.τ Cert.AddIn.sig) → Buf (Elt Bits) ℓ) : Prop :=
  ∀ c : Dev Cert.AddIn.nD,
    (Cert.Pre_core_named_in.fn (F := Bits) (m ((c.tc : Thread Cert.AddIn.nD Cert.AddIn.τ).loc Cert.AddIn.main_arg0)) (m ((c.tc : Thread Cert.AddIn.nD Cert.AddIn.τ).loc Cert.AddIn.main_arg1)) (m ((c.tc : Thread Cert.AddIn.nD Cert.AddIn.τ).loc Cert.AddIn.main_arg2))) = (fun _ => 1#1)

def Pre_AddInIdeal [hPre_core_named_in : Cert.Pre_core_named_in.Facts] (m : (ℓ : Loc Cert.AddInIdeal.nD Cert.AddInIdeal.τ Cert.AddInIdeal.sig) → Buf (Elt Ideal) ℓ) : Prop :=
  ∀ c : Dev Cert.AddInIdeal.nD,
    (Cert.Pre_core_named_in.fn (F := Ideal) (m ((c.tc : Thread Cert.AddInIdeal.nD Cert.AddInIdeal.τ).loc Cert.AddInIdeal.main_arg0)) (m ((c.tc : Thread Cert.AddInIdeal.nD Cert.AddInIdeal.τ).loc Cert.AddInIdeal.main_arg1)) (m ((c.tc : Thread Cert.AddInIdeal.nD Cert.AddInIdeal.τ).loc Cert.AddInIdeal.main_arg2))) = (fun _ => 1#1)

def Pre_AddInRefIdeal (m : (ℓ : Loc Cert.AddInRefIdeal.nD Cert.AddInRefIdeal.τ Cert.AddInRefIdeal.sig) → Buf (Elt Ideal) ℓ) : Prop :=
  True

def Pre_AddInRefIdeal_core_named_in [hPre_core_named_in : Cert.Pre_core_named_in.Facts] (m : (ℓ : Loc Cert.AddInRefIdeal.nD Cert.AddInRefIdeal.τ Cert.AddInRefIdeal.sig) → Buf (Elt Ideal) ℓ) : Prop :=
  ∀ c : Dev Cert.AddInRefIdeal.nD,
    (Cert.Pre_core_named_in.fn (F := Ideal) (m ((c.tc : Thread Cert.AddInRefIdeal.nD Cert.AddInRefIdeal.τ).loc Cert.AddInRefIdeal.main_arg0)) (m ((c.tc : Thread Cert.AddInRefIdeal.nD Cert.AddInRefIdeal.τ).loc Cert.AddInRefIdeal.main_arg1)) (m ((c.tc : Thread Cert.AddInRefIdeal.nD Cert.AddInRefIdeal.τ).loc Cert.AddInRefIdeal.main_arg2))) = (fun _ => 1#1)

def Pre_AddOut [hPre_core_named_out : Cert.Pre_core_named_out.Facts] (m : (ℓ : Loc Cert.AddOut.nD Cert.AddOut.τ Cert.AddOut.sig) → Buf (Elt Bits) ℓ) : Prop :=
  ∀ c : Dev Cert.AddOut.nD,
    (Cert.Pre_core_named_out.fn (F := Bits) (m ((c.tc : Thread Cert.AddOut.nD Cert.AddOut.τ).loc Cert.AddOut.main_arg0)) (m ((c.tc : Thread Cert.AddOut.nD Cert.AddOut.τ).loc Cert.AddOut.main_arg1)) (m ((c.tc : Thread Cert.AddOut.nD Cert.AddOut.τ).loc Cert.AddOut.main_arg2))) = (fun _ => 1#1)

def Pre_AddOutIdeal [hPre_core_named_out : Cert.Pre_core_named_out.Facts] (m : (ℓ : Loc Cert.AddOutIdeal.nD Cert.AddOutIdeal.τ Cert.AddOutIdeal.sig) → Buf (Elt Ideal) ℓ) : Prop :=
  ∀ c : Dev Cert.AddOutIdeal.nD,
    (Cert.Pre_core_named_out.fn (F := Ideal) (m ((c.tc : Thread Cert.AddOutIdeal.nD Cert.AddOutIdeal.τ).loc Cert.AddOutIdeal.main_arg0)) (m ((c.tc : Thread Cert.AddOutIdeal.nD Cert.AddOutIdeal.τ).loc Cert.AddOutIdeal.main_arg1)) (m ((c.tc : Thread Cert.AddOutIdeal.nD Cert.AddOutIdeal.τ).loc Cert.AddOutIdeal.main_arg2))) = (fun _ => 1#1)

def Pre_AddOutRefIdeal (m : (ℓ : Loc Cert.AddOutRefIdeal.nD Cert.AddOutRefIdeal.τ Cert.AddOutRefIdeal.sig) → Buf (Elt Ideal) ℓ) : Prop :=
  True

def Pre_AddOutRefIdeal_core_named_out [hPre_core_named_out : Cert.Pre_core_named_out.Facts] (m : (ℓ : Loc Cert.AddOutRefIdeal.nD Cert.AddOutRefIdeal.τ Cert.AddOutRefIdeal.sig) → Buf (Elt Ideal) ℓ) : Prop :=
  ∀ c : Dev Cert.AddOutRefIdeal.nD,
    (Cert.Pre_core_named_out.fn (F := Ideal) (m ((c.tc : Thread Cert.AddOutRefIdeal.nD Cert.AddOutRefIdeal.τ).loc Cert.AddOutRefIdeal.main_arg0)) (m ((c.tc : Thread Cert.AddOutRefIdeal.nD Cert.AddOutRefIdeal.τ).loc Cert.AddOutRefIdeal.main_arg1)) (m ((c.tc : Thread Cert.AddOutRefIdeal.nD Cert.AddOutRefIdeal.τ).loc Cert.AddOutRefIdeal.main_arg2))) = (fun _ => 1#1)

def Pre_AddFf [hPre_core_named_ff : Cert.Pre_core_named_ff.Facts] (m : (ℓ : Loc Cert.AddFf.nD Cert.AddFf.τ Cert.AddFf.sig) → Buf (Elt Bits) ℓ) : Prop :=
  ∀ c : Dev Cert.AddFf.nD,
    (Cert.Pre_core_named_ff.fn (F := Bits) (m ((c.tc : Thread Cert.AddFf.nD Cert.AddFf.τ).loc Cert.AddFf.main_arg0)) (m ((c.tc : Thread Cert.AddFf.nD Cert.AddFf.τ).loc Cert.AddFf.main_arg1)) (m ((c.tc : Thread Cert.AddFf.nD Cert.AddFf.τ).loc Cert.AddFf.main_arg2))) = (fun _ => 1#1)

def Pre_AddFfIdeal [hPre_core_named_ff : Cert.Pre_core_named_ff.Facts] (m : (ℓ : Loc Cert.AddFfIdeal.nD Cert.AddFfIdeal.τ Cert.AddFfIdeal.sig) → Buf (Elt Ideal) ℓ) : Prop :=
  ∀ c : Dev Cert.AddFfIdeal.nD,
    (Cert.Pre_core_named_ff.fn (F := Ideal) (m ((c.tc : Thread Cert.AddFfIdeal.nD Cert.AddFfIdeal.τ).loc Cert.AddFfIdeal.main_arg0)) (m ((c.tc : Thread Cert.AddFfIdeal.nD Cert.AddFfIdeal.τ).loc Cert.AddFfIdeal.main_arg1)) (m ((c.tc : Thread Cert.AddFfIdeal.nD Cert.AddFfIdeal.τ).loc Cert.AddFfIdeal.main_arg2))) = (fun _ => 1#1)

def Pre_AddFfRefIdeal (m : (ℓ : Loc Cert.AddFfRefIdeal.nD Cert.AddFfRefIdeal.τ Cert.AddFfRefIdeal.sig) → Buf (Elt Ideal) ℓ) : Prop :=
  True

def Pre_AddFfRefIdeal_core_named_ff [hPre_core_named_ff : Cert.Pre_core_named_ff.Facts] (m : (ℓ : Loc Cert.AddFfRefIdeal.nD Cert.AddFfRefIdeal.τ Cert.AddFfRefIdeal.sig) → Buf (Elt Ideal) ℓ) : Prop :=
  ∀ c : Dev Cert.AddFfRefIdeal.nD,
    (Cert.Pre_core_named_ff.fn (F := Ideal) (m ((c.tc : Thread Cert.AddFfRefIdeal.nD Cert.AddFfRefIdeal.τ).loc Cert.AddFfRefIdeal.main_arg0)) (m ((c.tc : Thread Cert.AddFfRefIdeal.nD Cert.AddFfRefIdeal.τ).loc Cert.AddFfRefIdeal.main_arg1)) (m ((c.tc : Thread Cert.AddFfRefIdeal.nD Cert.AddFfRefIdeal.τ).loc Cert.AddFfRefIdeal.main_arg2))) = (fun _ => 1#1)

def Pre_WgradGla (m : (ℓ : Loc Cert.WgradGla.nD Cert.WgradGla.τ Cert.WgradGla.sig) → Buf (Elt Bits) ℓ) : Prop :=
  True

def Pre_WgradGlaIdeal (m : (ℓ : Loc Cert.WgradGlaIdeal.nD Cert.WgradGlaIdeal.τ Cert.WgradGlaIdeal.sig) → Buf (Elt Ideal) ℓ) : Prop :=
  True

def Pre_WgradGlaRefIdeal (m : (ℓ : Loc Cert.WgradGlaRefIdeal.nD Cert.WgradGlaRefIdeal.τ Cert.WgradGlaRefIdeal.sig) → Buf (Elt Ideal) ℓ) : Prop :=
  True

def Pre_WgradHeads (m : (ℓ : Loc Cert.WgradHeads.nD Cert.WgradHeads.τ Cert.WgradHeads.sig) → Buf (Elt Bits) ℓ) : Prop :=
  True

def Pre_WgradHeadsIdeal (m : (ℓ : Loc Cert.WgradHeadsIdeal.nD Cert.WgradHeadsIdeal.τ Cert.WgradHeadsIdeal.sig) → Buf (Elt Ideal) ℓ) : Prop :=
  True

def Pre_WgradHeadsRefIdeal (m : (ℓ : Loc Cert.WgradHeadsRefIdeal.nD Cert.WgradHeadsRefIdeal.τ Cert.WgradHeadsRefIdeal.sig) → Buf (Elt Ideal) ℓ) : Prop :=
  True

def Pre_WgradOut (m : (ℓ : Loc Cert.WgradOut.nD Cert.WgradOut.τ Cert.WgradOut.sig) → Buf (Elt Bits) ℓ) : Prop :=
  True

def Pre_WgradOutIdeal (m : (ℓ : Loc Cert.WgradOutIdeal.nD Cert.WgradOutIdeal.τ Cert.WgradOutIdeal.sig) → Buf (Elt Ideal) ℓ) : Prop :=
  True

def Pre_WgradOutRefIdeal (m : (ℓ : Loc Cert.WgradOutRefIdeal.nD Cert.WgradOutRefIdeal.τ Cert.WgradOutRefIdeal.sig) → Buf (Elt Ideal) ℓ) : Prop :=
  True

def Pre_WgradFf1 (m : (ℓ : Loc Cert.WgradFf1.nD Cert.WgradFf1.τ Cert.WgradFf1.sig) → Buf (Elt Bits) ℓ) : Prop :=
  True

def Pre_WgradFf1Ideal (m : (ℓ : Loc Cert.WgradFf1Ideal.nD Cert.WgradFf1Ideal.τ Cert.WgradFf1Ideal.sig) → Buf (Elt Ideal) ℓ) : Prop :=
  True

def Pre_WgradFf1RefIdeal (m : (ℓ : Loc Cert.WgradFf1RefIdeal.nD Cert.WgradFf1RefIdeal.τ Cert.WgradFf1RefIdeal.sig) → Buf (Elt Ideal) ℓ) : Prop :=
  True

def Pre_WgradFf2 (m : (ℓ : Loc Cert.WgradFf2.nD Cert.WgradFf2.τ Cert.WgradFf2.sig) → Buf (Elt Bits) ℓ) : Prop :=
  True

def Pre_WgradFf2Ideal (m : (ℓ : Loc Cert.WgradFf2Ideal.nD Cert.WgradFf2Ideal.τ Cert.WgradFf2Ideal.sig) → Buf (Elt Ideal) ℓ) : Prop :=
  True

def Pre_WgradFf2RefIdeal (m : (ℓ : Loc Cert.WgradFf2RefIdeal.nD Cert.WgradFf2RefIdeal.τ Cert.WgradFf2RefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_DxFinal (m : (ℓ : Loc Cert.DxFinal.nD Cert.DxFinal.τ Cert.DxFinal.sig) → Buf (Elt Bits) ℓ) : Prop :=
  True

def Pre_DxFinalIdeal (m : (ℓ : Loc Cert.DxFinalIdeal.nD Cert.DxFinalIdeal.τ Cert.DxFinalIdeal.sig) → Buf (Elt Ideal) ℓ) : Prop :=
  True

def Pre_DxFinalRefIdeal (m : (ℓ : Loc Cert.DxFinalRefIdeal.nD Cert.DxFinalRefIdeal.τ Cert.DxFinalRefIdeal.sig) → Buf (Elt Ideal) ℓ) : Prop :=
  True

def Pre_PostFused (m : (ℓ : Loc Cert.PostFused.nD Cert.PostFused.τ Cert.PostFused.sig) → Buf (Elt Bits) ℓ) : Prop :=
  True

def Pre_PostFusedIdeal (m : (ℓ : Loc Cert.PostFusedIdeal.nD Cert.PostFusedIdeal.τ Cert.PostFusedIdeal.sig) → Buf (Elt Ideal) ℓ) : Prop :=
  True

def Pre_PostFusedRefIdeal (m : (ℓ : Loc Cert.PostFusedRefIdeal.nD Cert.PostFusedRefIdeal.τ Cert.PostFusedRefIdeal.sig) → Buf (Elt Ideal) ℓ) : Prop :=
  True

def Pre_BiasTables (m : (ℓ : Loc Cert.BiasTables.nD Cert.BiasTables.τ Cert.BiasTables.sig) → Buf (Elt Bits) ℓ) : Prop :=
  True

def Pre_BiasTablesIdeal (m : (ℓ : Loc Cert.BiasTablesIdeal.nD Cert.BiasTablesIdeal.τ Cert.BiasTablesIdeal.sig) → Buf (Elt Ideal) ℓ) : Prop :=
  True

def Pre_BiasTablesRefIdeal (m : (ℓ : Loc Cert.BiasTablesRefIdeal.nD Cert.BiasTablesRefIdeal.τ Cert.BiasTablesRefIdeal.sig) → Buf (Elt Ideal) ℓ) : Prop :=
  True

def quiescent_SwapHalves [hSwapHalves : Cert.SwapHalves.Facts] : Prop :=
  ∀ (m : (ℓ : Loc Cert.SwapHalves.nD Cert.SwapHalves.τ Cert.SwapHalves.sig) → Buf (Elt Bits) ℓ) (g : Dev Cert.SwapHalves.nD → PrngReg), Pre_SwapHalves m →
    θ_run (Cert.SwapHalves.defs (F := Bits)) (onTc (τ := Cert.SwapHalves.τ) (Cert.SwapHalves.main (F := Bits))) ⟨m, fun _ => 0, g⟩ (fun r => (∀ c : Dev Cert.SwapHalves.nD,
      r.2.mem ((c.tc : Thread Cert.SwapHalves.nD Cert.SwapHalves.τ).loc Cert.SwapHalves.main_arg0) = m ((c.tc : Thread Cert.SwapHalves.nD Cert.SwapHalves.τ).loc Cert.SwapHalves.main_arg0)
      ∧ r.2.mem ((c.tc : Thread Cert.SwapHalves.nD Cert.SwapHalves.τ).loc Cert.SwapHalves.main_arg1) = m ((c.tc : Thread Cert.SwapHalves.nD Cert.SwapHalves.τ).loc Cert.SwapHalves.main_arg1)
      ∧ r.2.mem ((c.tc : Thread Cert.SwapHalves.nD Cert.SwapHalves.τ).loc Cert.SwapHalves.main_arg2) = m ((c.tc : Thread Cert.SwapHalves.nD Cert.SwapHalves.τ).loc Cert.SwapHalves.main_arg2)
      ∧ r.2.mem ((c.tc : Thread Cert.SwapHalves.nD Cert.SwapHalves.τ).loc Cert.SwapHalves.main_arg3) = m ((c.tc : Thread Cert.SwapHalves.nD Cert.SwapHalves.τ).loc Cert.SwapHalves.main_arg3))
      ∧ r.2.sem = fun _ => 0)

def quiescent_SwapHalvesIdeal [hSwapHalvesIdeal : Cert.SwapHalvesIdeal.Facts] : Prop :=
  ∀ (m : (ℓ : Loc Cert.SwapHalvesIdeal.nD Cert.SwapHalvesIdeal.τ Cert.SwapHalvesIdeal.sig) → Buf (Elt Ideal) ℓ) (g : Dev Cert.SwapHalvesIdeal.nD → PrngReg), Pre_SwapHalvesIdeal m →
    θ_run (Cert.SwapHalvesIdeal.defs (F := Ideal)) (onTc (τ := Cert.SwapHalvesIdeal.τ) (Cert.SwapHalvesIdeal.main (F := Ideal))) ⟨m, fun _ => 0, g⟩ (fun r => (∀ c : Dev Cert.SwapHalvesIdeal.nD,
      r.2.mem ((c.tc : Thread Cert.SwapHalvesIdeal.nD Cert.SwapHalvesIdeal.τ).loc Cert.SwapHalvesIdeal.main_arg0) = m ((c.tc : Thread Cert.SwapHalvesIdeal.nD Cert.SwapHalvesIdeal.τ).loc Cert.SwapHalvesIdeal.main_arg0)
      ∧ r.2.mem ((c.tc : Thread Cert.SwapHalvesIdeal.nD Cert.SwapHalvesIdeal.τ).loc Cert.SwapHalvesIdeal.main_arg1) = m ((c.tc : Thread Cert.SwapHalvesIdeal.nD Cert.SwapHalvesIdeal.τ).loc Cert.SwapHalvesIdeal.main_arg1)
      ∧ r.2.mem ((c.tc : Thread Cert.SwapHalvesIdeal.nD Cert.SwapHalvesIdeal.τ).loc Cert.SwapHalvesIdeal.main_arg2) = m ((c.tc : Thread Cert.SwapHalvesIdeal.nD Cert.SwapHalvesIdeal.τ).loc Cert.SwapHalvesIdeal.main_arg2)
      ∧ r.2.mem ((c.tc : Thread Cert.SwapHalvesIdeal.nD Cert.SwapHalvesIdeal.τ).loc Cert.SwapHalvesIdeal.main_arg3) = m ((c.tc : Thread Cert.SwapHalvesIdeal.nD Cert.SwapHalvesIdeal.τ).loc Cert.SwapHalvesIdeal.main_arg3))
      ∧ r.2.sem = fun _ => 0)

def quiescent_SwapHalvesRefIdeal [hSwapHalvesRefIdeal : Cert.SwapHalvesRefIdeal.Facts] : Prop :=
  ∀ (m : (ℓ : Loc Cert.SwapHalvesRefIdeal.nD Cert.SwapHalvesRefIdeal.τ Cert.SwapHalvesRefIdeal.sig) → Buf (Elt Ideal) ℓ) (g : Dev Cert.SwapHalvesRefIdeal.nD → PrngReg), Pre_SwapHalvesRefIdeal m →
    θ_run (Cert.SwapHalvesRefIdeal.defs (F := Ideal)) (onTc (τ := Cert.SwapHalvesRefIdeal.τ) (Cert.SwapHalvesRefIdeal.main (F := Ideal))) ⟨m, fun _ => 0, g⟩ (fun r => (∀ c : Dev Cert.SwapHalvesRefIdeal.nD,
      r.2.mem ((c.tc : Thread Cert.SwapHalvesRefIdeal.nD Cert.SwapHalvesRefIdeal.τ).loc Cert.SwapHalvesRefIdeal.main_arg0) = m ((c.tc : Thread Cert.SwapHalvesRefIdeal.nD Cert.SwapHalvesRefIdeal.τ).loc Cert.SwapHalvesRefIdeal.main_arg0)
      ∧ r.2.mem ((c.tc : Thread Cert.SwapHalvesRefIdeal.nD Cert.SwapHalvesRefIdeal.τ).loc Cert.SwapHalvesRefIdeal.main_arg1) = m ((c.tc : Thread Cert.SwapHalvesRefIdeal.nD Cert.SwapHalvesRefIdeal.τ).loc Cert.SwapHalvesRefIdeal.main_arg1)
      ∧ r.2.mem ((c.tc : Thread Cert.SwapHalvesRefIdeal.nD Cert.SwapHalvesRefIdeal.τ).loc Cert.SwapHalvesRefIdeal.main_arg2) = m ((c.tc : Thread Cert.SwapHalvesRefIdeal.nD Cert.SwapHalvesRefIdeal.τ).loc Cert.SwapHalvesRefIdeal.main_arg2)
      ∧ r.2.mem ((c.tc : Thread Cert.SwapHalvesRefIdeal.nD Cert.SwapHalvesRefIdeal.τ).loc Cert.SwapHalvesRefIdeal.main_arg3) = m ((c.tc : Thread Cert.SwapHalvesRefIdeal.nD Cert.SwapHalvesRefIdeal.τ).loc Cert.SwapHalvesRefIdeal.main_arg3))
      ∧ r.2.sem = fun _ => 0)

def quiescent_JoinHalves [hJoinHalves : Cert.JoinHalves.Facts] : Prop :=
  ∀ (m : (ℓ : Loc Cert.JoinHalves.nD Cert.JoinHalves.τ Cert.JoinHalves.sig) → Buf (Elt Bits) ℓ) (g : Dev Cert.JoinHalves.nD → PrngReg), Pre_JoinHalves m →
    θ_run (Cert.JoinHalves.defs (F := Bits)) (onTc (τ := Cert.JoinHalves.τ) (Cert.JoinHalves.main (F := Bits))) ⟨m, fun _ => 0, g⟩ (fun r => (∀ c : Dev Cert.JoinHalves.nD,
      r.2.mem ((c.tc : Thread Cert.JoinHalves.nD Cert.JoinHalves.τ).loc Cert.JoinHalves.main_arg0) = m ((c.tc : Thread Cert.JoinHalves.nD Cert.JoinHalves.τ).loc Cert.JoinHalves.main_arg0)
      ∧ r.2.mem ((c.tc : Thread Cert.JoinHalves.nD Cert.JoinHalves.τ).loc Cert.JoinHalves.main_arg1) = m ((c.tc : Thread Cert.JoinHalves.nD Cert.JoinHalves.τ).loc Cert.JoinHalves.main_arg1)
      ∧ r.2.mem ((c.tc : Thread Cert.JoinHalves.nD Cert.JoinHalves.τ).loc Cert.JoinHalves.main_arg2) = m ((c.tc : Thread Cert.JoinHalves.nD Cert.JoinHalves.τ).loc Cert.JoinHalves.main_arg2)
      ∧ r.2.mem ((c.tc : Thread Cert.JoinHalves.nD Cert.JoinHalves.τ).loc Cert.JoinHalves.main_arg3) = m ((c.tc : Thread Cert.JoinHalves.nD Cert.JoinHalves.τ).loc Cert.JoinHalves.main_arg3))
      ∧ r.2.sem = fun _ => 0)

def quiescent_JoinHalvesIdeal [hJoinHalvesIdeal : Cert.JoinHalvesIdeal.Facts] : Prop :=
  ∀ (m : (ℓ : Loc Cert.JoinHalvesIdeal.nD Cert.JoinHalvesIdeal.τ Cert.JoinHalvesIdeal.sig) → Buf (Elt Ideal) ℓ) (g : Dev Cert.JoinHalvesIdeal.nD → PrngReg), Pre_JoinHalvesIdeal m →
    θ_run (Cert.JoinHalvesIdeal.defs (F := Ideal)) (onTc (τ := Cert.JoinHalvesIdeal.τ) (Cert.JoinHalvesIdeal.main (F := Ideal))) ⟨m, fun _ => 0, g⟩ (fun r => (∀ c : Dev Cert.JoinHalvesIdeal.nD,
      r.2.mem ((c.tc : Thread Cert.JoinHalvesIdeal.nD Cert.JoinHalvesIdeal.τ).loc Cert.JoinHalvesIdeal.main_arg0) = m ((c.tc : Thread Cert.JoinHalvesIdeal.nD Cert.JoinHalvesIdeal.τ).loc Cert.JoinHalvesIdeal.main_arg0)
      ∧ r.2.mem ((c.tc : Thread Cert.JoinHalvesIdeal.nD Cert.JoinHalvesIdeal.τ).loc Cert.JoinHalvesIdeal.main_arg1) = m ((c.tc : Thread Cert.JoinHalvesIdeal.nD Cert.JoinHalvesIdeal.τ).loc Cert.JoinHalvesIdeal.main_arg1)
      ∧ r.2.mem ((c.tc : Thread Cert.JoinHalvesIdeal.nD Cert.JoinHalvesIdeal.τ).loc Cert.JoinHalvesIdeal.main_arg2) = m ((c.tc : Thread Cert.JoinHalvesIdeal.nD Cert.JoinHalvesIdeal.τ).loc Cert.JoinHalvesIdeal.main_arg2)
      ∧ r.2.mem ((c.tc : Thread Cert.JoinHalvesIdeal.nD Cert.JoinHalvesIdeal.τ).loc Cert.JoinHalvesIdeal.main_arg3) = m ((c.tc : Thread Cert.JoinHalvesIdeal.nD Cert.JoinHalvesIdeal.τ).loc Cert.JoinHalvesIdeal.main_arg3))
      ∧ r.2.sem = fun _ => 0)

def quiescent_JoinHalvesRefIdeal [hJoinHalvesRefIdeal : Cert.JoinHalvesRefIdeal.Facts] : Prop :=
  ∀ (m : (ℓ : Loc Cert.JoinHalvesRefIdeal.nD Cert.JoinHalvesRefIdeal.τ Cert.JoinHalvesRefIdeal.sig) → Buf (Elt Ideal) ℓ) (g : Dev Cert.JoinHalvesRefIdeal.nD → PrngReg), Pre_JoinHalvesRefIdeal m →
    θ_run (Cert.JoinHalvesRefIdeal.defs (F := Ideal)) (onTc (τ := Cert.JoinHalvesRefIdeal.τ) (Cert.JoinHalvesRefIdeal.main (F := Ideal))) ⟨m, fun _ => 0, g⟩ (fun r => (∀ c : Dev Cert.JoinHalvesRefIdeal.nD,
      r.2.mem ((c.tc : Thread Cert.JoinHalvesRefIdeal.nD Cert.JoinHalvesRefIdeal.τ).loc Cert.JoinHalvesRefIdeal.main_arg0) = m ((c.tc : Thread Cert.JoinHalvesRefIdeal.nD Cert.JoinHalvesRefIdeal.τ).loc Cert.JoinHalvesRefIdeal.main_arg0)
      ∧ r.2.mem ((c.tc : Thread Cert.JoinHalvesRefIdeal.nD Cert.JoinHalvesRefIdeal.τ).loc Cert.JoinHalvesRefIdeal.main_arg1) = m ((c.tc : Thread Cert.JoinHalvesRefIdeal.nD Cert.JoinHalvesRefIdeal.τ).loc Cert.JoinHalvesRefIdeal.main_arg1)
      ∧ r.2.mem ((c.tc : Thread Cert.JoinHalvesRefIdeal.nD Cert.JoinHalvesRefIdeal.τ).loc Cert.JoinHalvesRefIdeal.main_arg2) = m ((c.tc : Thread Cert.JoinHalvesRefIdeal.nD Cert.JoinHalvesRefIdeal.τ).loc Cert.JoinHalvesRefIdeal.main_arg2)
      ∧ r.2.mem ((c.tc : Thread Cert.JoinHalvesRefIdeal.nD Cert.JoinHalvesRefIdeal.τ).loc Cert.JoinHalvesRefIdeal.main_arg3) = m ((c.tc : Thread Cert.JoinHalvesRefIdeal.nD Cert.JoinHalvesRefIdeal.τ).loc Cert.JoinHalvesRefIdeal.main_arg3))
      ∧ r.2.sem = fun _ => 0)

def quiescent_ScatterChips [hScatterChips : Cert.ScatterChips.Facts] : Prop :=
  ∀ (m : (ℓ : Loc Cert.ScatterChips.nD Cert.ScatterChips.τ Cert.ScatterChips.sig) → Buf (Elt Bits) ℓ) (g : Dev Cert.ScatterChips.nD → PrngReg), Pre_ScatterChips m →
    θ_run (Cert.ScatterChips.defs (F := Bits)) (onTc (τ := Cert.ScatterChips.τ) (Cert.ScatterChips.main (F := Bits))) ⟨m, fun _ => 0, g⟩ (fun r => (∀ c : Dev Cert.ScatterChips.nD,
      r.2.mem ((c.tc : Thread Cert.ScatterChips.nD Cert.ScatterChips.τ).loc Cert.ScatterChips.main_arg0) = m ((c.tc : Thread Cert.ScatterChips.nD Cert.ScatterChips.τ).loc Cert.ScatterChips.main_arg0)
      ∧ r.2.mem ((c.tc : Thread Cert.ScatterChips.nD Cert.ScatterChips.τ).loc Cert.ScatterChips.main_arg1) = m ((c.tc : Thread Cert.ScatterChips.nD Cert.ScatterChips.τ).loc Cert.ScatterChips.main_arg1)
      ∧ r.2.mem ((c.tc : Thread Cert.ScatterChips.nD Cert.ScatterChips.τ).loc Cert.ScatterChips.main_arg2) = m ((c.tc : Thread Cert.ScatterChips.nD Cert.ScatterChips.τ).loc Cert.ScatterChips.main_arg2)
      ∧ r.2.mem ((c.tc : Thread Cert.ScatterChips.nD Cert.ScatterChips.τ).loc Cert.ScatterChips.main_arg3) = m ((c.tc : Thread Cert.ScatterChips.nD Cert.ScatterChips.τ).loc Cert.ScatterChips.main_arg3))
      ∧ r.2.sem = fun _ => 0)

def quiescent_ScatterChipsIdeal [hScatterChipsIdeal : Cert.ScatterChipsIdeal.Facts] : Prop :=
  ∀ (m : (ℓ : Loc Cert.ScatterChipsIdeal.nD Cert.ScatterChipsIdeal.τ Cert.ScatterChipsIdeal.sig) → Buf (Elt Ideal) ℓ) (g : Dev Cert.ScatterChipsIdeal.nD → PrngReg), Pre_ScatterChipsIdeal m →
    θ_run (Cert.ScatterChipsIdeal.defs (F := Ideal)) (onTc (τ := Cert.ScatterChipsIdeal.τ) (Cert.ScatterChipsIdeal.main (F := Ideal))) ⟨m, fun _ => 0, g⟩ (fun r => (∀ c : Dev Cert.ScatterChipsIdeal.nD,
      r.2.mem ((c.tc : Thread Cert.ScatterChipsIdeal.nD Cert.ScatterChipsIdeal.τ).loc Cert.ScatterChipsIdeal.main_arg0) = m ((c.tc : Thread Cert.ScatterChipsIdeal.nD Cert.ScatterChipsIdeal.τ).loc Cert.ScatterChipsIdeal.main_arg0)
      ∧ r.2.mem ((c.tc : Thread Cert.ScatterChipsIdeal.nD Cert.ScatterChipsIdeal.τ).loc Cert.ScatterChipsIdeal.main_arg1) = m ((c.tc : Thread Cert.ScatterChipsIdeal.nD Cert.ScatterChipsIdeal.τ).loc Cert.ScatterChipsIdeal.main_arg1)
      ∧ r.2.mem ((c.tc : Thread Cert.ScatterChipsIdeal.nD Cert.ScatterChipsIdeal.τ).loc Cert.ScatterChipsIdeal.main_arg2) = m ((c.tc : Thread Cert.ScatterChipsIdeal.nD Cert.ScatterChipsIdeal.τ).loc Cert.ScatterChipsIdeal.main_arg2)
      ∧ r.2.mem ((c.tc : Thread Cert.ScatterChipsIdeal.nD Cert.ScatterChipsIdeal.τ).loc Cert.ScatterChipsIdeal.main_arg3) = m ((c.tc : Thread Cert.ScatterChipsIdeal.nD Cert.ScatterChipsIdeal.τ).loc Cert.ScatterChipsIdeal.main_arg3))
      ∧ r.2.sem = fun _ => 0)

def quiescent_ScatterChipsRefIdeal [hScatterChipsRefIdeal : Cert.ScatterChipsRefIdeal.Facts] : Prop :=
  ∀ (m : (ℓ : Loc Cert.ScatterChipsRefIdeal.nD Cert.ScatterChipsRefIdeal.τ Cert.ScatterChipsRefIdeal.sig) → Buf (Elt Ideal) ℓ) (g : Dev Cert.ScatterChipsRefIdeal.nD → PrngReg), Pre_ScatterChipsRefIdeal m →
    θ_run (Cert.ScatterChipsRefIdeal.defs (F := Ideal)) (onTc (τ := Cert.ScatterChipsRefIdeal.τ) (Cert.ScatterChipsRefIdeal.main (F := Ideal))) ⟨m, fun _ => 0, g⟩ (fun r => (∀ c : Dev Cert.ScatterChipsRefIdeal.nD,
      r.2.mem ((c.tc : Thread Cert.ScatterChipsRefIdeal.nD Cert.ScatterChipsRefIdeal.τ).loc Cert.ScatterChipsRefIdeal.main_arg0) = m ((c.tc : Thread Cert.ScatterChipsRefIdeal.nD Cert.ScatterChipsRefIdeal.τ).loc Cert.ScatterChipsRefIdeal.main_arg0)
      ∧ r.2.mem ((c.tc : Thread Cert.ScatterChipsRefIdeal.nD Cert.ScatterChipsRefIdeal.τ).loc Cert.ScatterChipsRefIdeal.main_arg1) = m ((c.tc : Thread Cert.ScatterChipsRefIdeal.nD Cert.ScatterChipsRefIdeal.τ).loc Cert.ScatterChipsRefIdeal.main_arg1)
      ∧ r.2.mem ((c.tc : Thread Cert.ScatterChipsRefIdeal.nD Cert.ScatterChipsRefIdeal.τ).loc Cert.ScatterChipsRefIdeal.main_arg2) = m ((c.tc : Thread Cert.ScatterChipsRefIdeal.nD Cert.ScatterChipsRefIdeal.τ).loc Cert.ScatterChipsRefIdeal.main_arg2)
      ∧ r.2.mem ((c.tc : Thread Cert.ScatterChipsRefIdeal.nD Cert.ScatterChipsRefIdeal.τ).loc Cert.ScatterChipsRefIdeal.main_arg3) = m ((c.tc : Thread Cert.ScatterChipsRefIdeal.nD Cert.ScatterChipsRefIdeal.τ).loc Cert.ScatterChipsRefIdeal.main_arg3))
      ∧ r.2.sem = fun _ => 0)

def quiescent_GatherSmall [hGatherSmall : Cert.GatherSmall.Facts] : Prop :=
  ∀ (m : (ℓ : Loc Cert.GatherSmall.nD Cert.GatherSmall.τ Cert.GatherSmall.sig) → Buf (Elt Bits) ℓ) (g : Dev Cert.GatherSmall.nD → PrngReg), Pre_GatherSmall m →
    θ_run (Cert.GatherSmall.defs (F := Bits)) (onTc (τ := Cert.GatherSmall.τ) (Cert.GatherSmall.main (F := Bits))) ⟨m, fun _ => 0, g⟩ (fun r => (∀ c : Dev Cert.GatherSmall.nD,
      r.2.mem ((c.tc : Thread Cert.GatherSmall.nD Cert.GatherSmall.τ).loc Cert.GatherSmall.main_arg0) = m ((c.tc : Thread Cert.GatherSmall.nD Cert.GatherSmall.τ).loc Cert.GatherSmall.main_arg0))
      ∧ r.2.sem = fun _ => 0)

def quiescent_GatherSmallIdeal [hGatherSmallIdeal : Cert.GatherSmallIdeal.Facts] : Prop :=
  ∀ (m : (ℓ : Loc Cert.GatherSmallIdeal.nD Cert.GatherSmallIdeal.τ Cert.GatherSmallIdeal.sig) → Buf (Elt Ideal) ℓ) (g : Dev Cert.GatherSmallIdeal.nD → PrngReg), Pre_GatherSmallIdeal m →
    θ_run (Cert.GatherSmallIdeal.defs (F := Ideal)) (onTc (τ := Cert.GatherSmallIdeal.τ) (Cert.GatherSmallIdeal.main (F := Ideal))) ⟨m, fun _ => 0, g⟩ (fun r => (∀ c : Dev Cert.GatherSmallIdeal.nD,
      r.2.mem ((c.tc : Thread Cert.GatherSmallIdeal.nD Cert.GatherSmallIdeal.τ).loc Cert.GatherSmallIdeal.main_arg0) = m ((c.tc : Thread Cert.GatherSmallIdeal.nD Cert.GatherSmallIdeal.τ).loc Cert.GatherSmallIdeal.main_arg0))
      ∧ r.2.sem = fun _ => 0)

def quiescent_GatherSmallRefIdeal [hGatherSmallRefIdeal : Cert.GatherSmallRefIdeal.Facts] : Prop :=
  ∀ (m : (ℓ : Loc Cert.GatherSmallRefIdeal.nD Cert.GatherSmallRefIdeal.τ Cert.GatherSmallRefIdeal.sig) → Buf (Elt Ideal) ℓ) (g : Dev Cert.GatherSmallRefIdeal.nD → PrngReg), Pre_GatherSmallRefIdeal m →
    θ_run (Cert.GatherSmallRefIdeal.defs (F := Ideal)) (onTc (τ := Cert.GatherSmallRefIdeal.τ) (Cert.GatherSmallRefIdeal.main (F := Ideal))) ⟨m, fun _ => 0, g⟩ (fun r => (∀ c : Dev Cert.GatherSmallRefIdeal.nD,
      r.2.mem ((c.tc : Thread Cert.GatherSmallRefIdeal.nD Cert.GatherSmallRefIdeal.τ).loc Cert.GatherSmallRefIdeal.main_arg0) = m ((c.tc : Thread Cert.GatherSmallRefIdeal.nD Cert.GatherSmallRefIdeal.τ).loc Cert.GatherSmallRefIdeal.main_arg0))
      ∧ r.2.sem = fun _ => 0)

def quiescent_GatherWeights [hGatherWeights : Cert.GatherWeights.Facts] : Prop :=
  ∀ (m : (ℓ : Loc Cert.GatherWeights.nD Cert.GatherWeights.τ Cert.GatherWeights.sig) → Buf (Elt Bits) ℓ) (g : Dev Cert.GatherWeights.nD → PrngReg), Pre_GatherWeights m →
    θ_run (Cert.GatherWeights.defs (F := Bits)) (onTc (τ := Cert.GatherWeights.τ) (Cert.GatherWeights.main (F := Bits))) ⟨m, fun _ => 0, g⟩ (fun r => (∀ c : Dev Cert.GatherWeights.nD,
      r.2.mem ((c.tc : Thread Cert.GatherWeights.nD Cert.GatherWeights.τ).loc Cert.GatherWeights.main_arg0) = m ((c.tc : Thread Cert.GatherWeights.nD Cert.GatherWeights.τ).loc Cert.GatherWeights.main_arg0)
      ∧ r.2.mem ((c.tc : Thread Cert.GatherWeights.nD Cert.GatherWeights.τ).loc Cert.GatherWeights.main_arg1) = m ((c.tc : Thread Cert.GatherWeights.nD Cert.GatherWeights.τ).loc Cert.GatherWeights.main_arg1)
      ∧ r.2.mem ((c.tc : Thread Cert.GatherWeights.nD Cert.GatherWeights.τ).loc Cert.GatherWeights.main_arg2) = m ((c.tc : Thread Cert.GatherWeights.nD Cert.GatherWeights.τ).loc Cert.GatherWeights.main_arg2)
      ∧ r.2.mem ((c.tc : Thread Cert.GatherWeights.nD Cert.GatherWeights.τ).loc Cert.GatherWeights.main_arg3) = m ((c.tc : Thread Cert.GatherWeights.nD Cert.GatherWeights.τ).loc Cert.GatherWeights.main_arg3)
      ∧ r.2.mem ((c.tc : Thread Cert.GatherWeights.nD Cert.GatherWeights.τ).loc Cert.GatherWeights.main_arg4) = m ((c.tc : Thread Cert.GatherWeights.nD Cert.GatherWeights.τ).loc Cert.GatherWeights.main_arg4))
      ∧ r.2.sem = fun _ => 0)

def quiescent_GatherWeightsIdeal [hGatherWeightsIdeal : Cert.GatherWeightsIdeal.Facts] : Prop :=
  ∀ (m : (ℓ : Loc Cert.GatherWeightsIdeal.nD Cert.GatherWeightsIdeal.τ Cert.GatherWeightsIdeal.sig) → Buf (Elt Ideal) ℓ) (g : Dev Cert.GatherWeightsIdeal.nD → PrngReg), Pre_GatherWeightsIdeal m →
    θ_run (Cert.GatherWeightsIdeal.defs (F := Ideal)) (onTc (τ := Cert.GatherWeightsIdeal.τ) (Cert.GatherWeightsIdeal.main (F := Ideal))) ⟨m, fun _ => 0, g⟩ (fun r => (∀ c : Dev Cert.GatherWeightsIdeal.nD,
      r.2.mem ((c.tc : Thread Cert.GatherWeightsIdeal.nD Cert.GatherWeightsIdeal.τ).loc Cert.GatherWeightsIdeal.main_arg0) = m ((c.tc : Thread Cert.GatherWeightsIdeal.nD Cert.GatherWeightsIdeal.τ).loc Cert.GatherWeightsIdeal.main_arg0)
      ∧ r.2.mem ((c.tc : Thread Cert.GatherWeightsIdeal.nD Cert.GatherWeightsIdeal.τ).loc Cert.GatherWeightsIdeal.main_arg1) = m ((c.tc : Thread Cert.GatherWeightsIdeal.nD Cert.GatherWeightsIdeal.τ).loc Cert.GatherWeightsIdeal.main_arg1)
      ∧ r.2.mem ((c.tc : Thread Cert.GatherWeightsIdeal.nD Cert.GatherWeightsIdeal.τ).loc Cert.GatherWeightsIdeal.main_arg2) = m ((c.tc : Thread Cert.GatherWeightsIdeal.nD Cert.GatherWeightsIdeal.τ).loc Cert.GatherWeightsIdeal.main_arg2)
      ∧ r.2.mem ((c.tc : Thread Cert.GatherWeightsIdeal.nD Cert.GatherWeightsIdeal.τ).loc Cert.GatherWeightsIdeal.main_arg3) = m ((c.tc : Thread Cert.GatherWeightsIdeal.nD Cert.GatherWeightsIdeal.τ).loc Cert.GatherWeightsIdeal.main_arg3)
      ∧ r.2.mem ((c.tc : Thread Cert.GatherWeightsIdeal.nD Cert.GatherWeightsIdeal.τ).loc Cert.GatherWeightsIdeal.main_arg4) = m ((c.tc : Thread Cert.GatherWeightsIdeal.nD Cert.GatherWeightsIdeal.τ).loc Cert.GatherWeightsIdeal.main_arg4))
      ∧ r.2.sem = fun _ => 0)

def quiescent_GatherWeightsRefIdeal [hGatherWeightsRefIdeal : Cert.GatherWeightsRefIdeal.Facts] : Prop :=
  ∀ (m : (ℓ : Loc Cert.GatherWeightsRefIdeal.nD Cert.GatherWeightsRefIdeal.τ Cert.GatherWeightsRefIdeal.sig) → Buf (Elt Ideal) ℓ) (g : Dev Cert.GatherWeightsRefIdeal.nD → PrngReg), Pre_GatherWeightsRefIdeal m →
    θ_run (Cert.GatherWeightsRefIdeal.defs (F := Ideal)) (onTc (τ := Cert.GatherWeightsRefIdeal.τ) (Cert.GatherWeightsRefIdeal.main (F := Ideal))) ⟨m, fun _ => 0, g⟩ (fun r => (∀ c : Dev Cert.GatherWeightsRefIdeal.nD,
      r.2.mem ((c.tc : Thread Cert.GatherWeightsRefIdeal.nD Cert.GatherWeightsRefIdeal.τ).loc Cert.GatherWeightsRefIdeal.main_arg0) = m ((c.tc : Thread Cert.GatherWeightsRefIdeal.nD Cert.GatherWeightsRefIdeal.τ).loc Cert.GatherWeightsRefIdeal.main_arg0)
      ∧ r.2.mem ((c.tc : Thread Cert.GatherWeightsRefIdeal.nD Cert.GatherWeightsRefIdeal.τ).loc Cert.GatherWeightsRefIdeal.main_arg1) = m ((c.tc : Thread Cert.GatherWeightsRefIdeal.nD Cert.GatherWeightsRefIdeal.τ).loc Cert.GatherWeightsRefIdeal.main_arg1)
      ∧ r.2.mem ((c.tc : Thread Cert.GatherWeightsRefIdeal.nD Cert.GatherWeightsRefIdeal.τ).loc Cert.GatherWeightsRefIdeal.main_arg2) = m ((c.tc : Thread Cert.GatherWeightsRefIdeal.nD Cert.GatherWeightsRefIdeal.τ).loc Cert.GatherWeightsRefIdeal.main_arg2)
      ∧ r.2.mem ((c.tc : Thread Cert.GatherWeightsRefIdeal.nD Cert.GatherWeightsRefIdeal.τ).loc Cert.GatherWeightsRefIdeal.main_arg3) = m ((c.tc : Thread Cert.GatherWeightsRefIdeal.nD Cert.GatherWeightsRefIdeal.τ).loc Cert.GatherWeightsRefIdeal.main_arg3)
      ∧ r.2.mem ((c.tc : Thread Cert.GatherWeightsRefIdeal.nD Cert.GatherWeightsRefIdeal.τ).loc Cert.GatherWeightsRefIdeal.main_arg4) = m ((c.tc : Thread Cert.GatherWeightsRefIdeal.nD Cert.GatherWeightsRefIdeal.τ).loc Cert.GatherWeightsRefIdeal.main_arg4))
      ∧ r.2.sem = fun _ => 0)

def quiescent_AdamwAttnNormG [hAdamwAttnNormG : Cert.AdamwAttnNormG.Facts] : Prop :=
  ∀ (m : (ℓ : Loc Cert.AdamwAttnNormG.nD Cert.AdamwAttnNormG.τ Cert.AdamwAttnNormG.sig) → Buf (Elt Bits) ℓ) (g : Dev Cert.AdamwAttnNormG.nD → PrngReg), Pre_AdamwAttnNormG m →
    θ_run (Cert.AdamwAttnNormG.defs (F := Bits)) (onTc (τ := Cert.AdamwAttnNormG.τ) (Cert.AdamwAttnNormG.main (F := Bits))) ⟨m, fun _ => 0, g⟩ (fun r => (∀ c : Dev Cert.AdamwAttnNormG.nD,
      r.2.mem ((c.tc : Thread Cert.AdamwAttnNormG.nD Cert.AdamwAttnNormG.τ).loc Cert.AdamwAttnNormG.main_arg0) = m ((c.tc : Thread Cert.AdamwAttnNormG.nD Cert.AdamwAttnNormG.τ).loc Cert.AdamwAttnNormG.main_arg0)
      ∧ r.2.mem ((c.tc : Thread Cert.AdamwAttnNormG.nD Cert.AdamwAttnNormG.τ).loc Cert.AdamwAttnNormG.main_arg1) = m ((c.tc : Thread Cert.AdamwAttnNormG.nD Cert.AdamwAttnNormG.τ).loc Cert.AdamwAttnNormG.main_arg1)
      ∧ r.2.mem ((c.tc : Thread Cert.AdamwAttnNormG.nD Cert.AdamwAttnNormG.τ).loc Cert.AdamwAttnNormG.main_arg2) = m ((c.tc : Thread Cert.AdamwAttnNormG.nD Cert.AdamwAttnNormG.τ).loc Cert.AdamwAttnNormG.main_arg2)
      ∧ r.2.mem ((c.tc : Thread Cert.AdamwAttnNormG.nD Cert.AdamwAttnNormG.τ).loc Cert.AdamwAttnNormG.main_arg3) = m ((c.tc : Thread Cert.AdamwAttnNormG.nD Cert.AdamwAttnNormG.τ).loc Cert.AdamwAttnNormG.main_arg3))
      ∧ r.2.sem = fun _ => 0)

def quiescent_AdamwAttnNormGIdeal [hAdamwAttnNormGIdeal : Cert.AdamwAttnNormGIdeal.Facts] : Prop :=
  ∀ (m : (ℓ : Loc Cert.AdamwAttnNormGIdeal.nD Cert.AdamwAttnNormGIdeal.τ Cert.AdamwAttnNormGIdeal.sig) → Buf (Elt Ideal) ℓ) (g : Dev Cert.AdamwAttnNormGIdeal.nD → PrngReg), Pre_AdamwAttnNormGIdeal m →
    θ_run (Cert.AdamwAttnNormGIdeal.defs (F := Ideal)) (onTc (τ := Cert.AdamwAttnNormGIdeal.τ) (Cert.AdamwAttnNormGIdeal.main (F := Ideal))) ⟨m, fun _ => 0, g⟩ (fun r => (∀ c : Dev Cert.AdamwAttnNormGIdeal.nD,
      r.2.mem ((c.tc : Thread Cert.AdamwAttnNormGIdeal.nD Cert.AdamwAttnNormGIdeal.τ).loc Cert.AdamwAttnNormGIdeal.main_arg0) = m ((c.tc : Thread Cert.AdamwAttnNormGIdeal.nD Cert.AdamwAttnNormGIdeal.τ).loc Cert.AdamwAttnNormGIdeal.main_arg0)
      ∧ r.2.mem ((c.tc : Thread Cert.AdamwAttnNormGIdeal.nD Cert.AdamwAttnNormGIdeal.τ).loc Cert.AdamwAttnNormGIdeal.main_arg1) = m ((c.tc : Thread Cert.AdamwAttnNormGIdeal.nD Cert.AdamwAttnNormGIdeal.τ).loc Cert.AdamwAttnNormGIdeal.main_arg1)
      ∧ r.2.mem ((c.tc : Thread Cert.AdamwAttnNormGIdeal.nD Cert.AdamwAttnNormGIdeal.τ).loc Cert.AdamwAttnNormGIdeal.main_arg2) = m ((c.tc : Thread Cert.AdamwAttnNormGIdeal.nD Cert.AdamwAttnNormGIdeal.τ).loc Cert.AdamwAttnNormGIdeal.main_arg2)
      ∧ r.2.mem ((c.tc : Thread Cert.AdamwAttnNormGIdeal.nD Cert.AdamwAttnNormGIdeal.τ).loc Cert.AdamwAttnNormGIdeal.main_arg3) = m ((c.tc : Thread Cert.AdamwAttnNormGIdeal.nD Cert.AdamwAttnNormGIdeal.τ).loc Cert.AdamwAttnNormGIdeal.main_arg3))
      ∧ r.2.sem = fun _ => 0)

def quiescent_AdamwAttnNormGRefIdeal [hAdamwAttnNormGRefIdeal : Cert.AdamwAttnNormGRefIdeal.Facts] : Prop :=
  ∀ (m : (ℓ : Loc Cert.AdamwAttnNormGRefIdeal.nD Cert.AdamwAttnNormGRefIdeal.τ Cert.AdamwAttnNormGRefIdeal.sig) → Buf (Elt Ideal) ℓ) (g : Dev Cert.AdamwAttnNormGRefIdeal.nD → PrngReg), Pre_AdamwAttnNormGRefIdeal m →
    θ_run (Cert.AdamwAttnNormGRefIdeal.defs (F := Ideal)) (onTc (τ := Cert.AdamwAttnNormGRefIdeal.τ) (Cert.AdamwAttnNormGRefIdeal.main (F := Ideal))) ⟨m, fun _ => 0, g⟩ (fun r => (∀ c : Dev Cert.AdamwAttnNormGRefIdeal.nD,
      r.2.mem ((c.tc : Thread Cert.AdamwAttnNormGRefIdeal.nD Cert.AdamwAttnNormGRefIdeal.τ).loc Cert.AdamwAttnNormGRefIdeal.main_arg0) = m ((c.tc : Thread Cert.AdamwAttnNormGRefIdeal.nD Cert.AdamwAttnNormGRefIdeal.τ).loc Cert.AdamwAttnNormGRefIdeal.main_arg0)
      ∧ r.2.mem ((c.tc : Thread Cert.AdamwAttnNormGRefIdeal.nD Cert.AdamwAttnNormGRefIdeal.τ).loc Cert.AdamwAttnNormGRefIdeal.main_arg1) = m ((c.tc : Thread Cert.AdamwAttnNormGRefIdeal.nD Cert.AdamwAttnNormGRefIdeal.τ).loc Cert.AdamwAttnNormGRefIdeal.main_arg1)
      ∧ r.2.mem ((c.tc : Thread Cert.AdamwAttnNormGRefIdeal.nD Cert.AdamwAttnNormGRefIdeal.τ).loc Cert.AdamwAttnNormGRefIdeal.main_arg2) = m ((c.tc : Thread Cert.AdamwAttnNormGRefIdeal.nD Cert.AdamwAttnNormGRefIdeal.τ).loc Cert.AdamwAttnNormGRefIdeal.main_arg2)
      ∧ r.2.mem ((c.tc : Thread Cert.AdamwAttnNormGRefIdeal.nD Cert.AdamwAttnNormGRefIdeal.τ).loc Cert.AdamwAttnNormGRefIdeal.main_arg3) = m ((c.tc : Thread Cert.AdamwAttnNormGRefIdeal.nD Cert.AdamwAttnNormGRefIdeal.τ).loc Cert.AdamwAttnNormGRefIdeal.main_arg3))
      ∧ r.2.sem = fun _ => 0)

def quiescent_AdamwWIn [hAdamwWIn : Cert.AdamwWIn.Facts] : Prop :=
  ∀ (m : (ℓ : Loc Cert.AdamwWIn.nD Cert.AdamwWIn.τ Cert.AdamwWIn.sig) → Buf (Elt Bits) ℓ) (g : Dev Cert.AdamwWIn.nD → PrngReg), Pre_AdamwWIn m →
    θ_run (Cert.AdamwWIn.defs (F := Bits)) (onTc (τ := Cert.AdamwWIn.τ) (Cert.AdamwWIn.main (F := Bits))) ⟨m, fun _ => 0, g⟩ (fun r => (∀ c : Dev Cert.AdamwWIn.nD,
      r.2.mem ((c.tc : Thread Cert.AdamwWIn.nD Cert.AdamwWIn.τ).loc Cert.AdamwWIn.main_arg0) = m ((c.tc : Thread Cert.AdamwWIn.nD Cert.AdamwWIn.τ).loc Cert.AdamwWIn.main_arg0)
      ∧ r.2.mem ((c.tc : Thread Cert.AdamwWIn.nD Cert.AdamwWIn.τ).loc Cert.AdamwWIn.main_arg1) = m ((c.tc : Thread Cert.AdamwWIn.nD Cert.AdamwWIn.τ).loc Cert.AdamwWIn.main_arg1)
      ∧ r.2.mem ((c.tc : Thread Cert.AdamwWIn.nD Cert.AdamwWIn.τ).loc Cert.AdamwWIn.main_arg2) = m ((c.tc : Thread Cert.AdamwWIn.nD Cert.AdamwWIn.τ).loc Cert.AdamwWIn.main_arg2)
      ∧ r.2.mem ((c.tc : Thread Cert.AdamwWIn.nD Cert.AdamwWIn.τ).loc Cert.AdamwWIn.main_arg3) = m ((c.tc : Thread Cert.AdamwWIn.nD Cert.AdamwWIn.τ).loc Cert.AdamwWIn.main_arg3))
      ∧ r.2.sem = fun _ => 0)

def quiescent_AdamwWInIdeal [hAdamwWInIdeal : Cert.AdamwWInIdeal.Facts] : Prop :=
  ∀ (m : (ℓ : Loc Cert.AdamwWInIdeal.nD Cert.AdamwWInIdeal.τ Cert.AdamwWInIdeal.sig) → Buf (Elt Ideal) ℓ) (g : Dev Cert.AdamwWInIdeal.nD → PrngReg), Pre_AdamwWInIdeal m →
    θ_run (Cert.AdamwWInIdeal.defs (F := Ideal)) (onTc (τ := Cert.AdamwWInIdeal.τ) (Cert.AdamwWInIdeal.main (F := Ideal))) ⟨m, fun _ => 0, g⟩ (fun r => (∀ c : Dev Cert.AdamwWInIdeal.nD,
      r.2.mem ((c.tc : Thread Cert.AdamwWInIdeal.nD Cert.AdamwWInIdeal.τ).loc Cert.AdamwWInIdeal.main_arg0) = m ((c.tc : Thread Cert.AdamwWInIdeal.nD Cert.AdamwWInIdeal.τ).loc Cert.AdamwWInIdeal.main_arg0)
      ∧ r.2.mem ((c.tc : Thread Cert.AdamwWInIdeal.nD Cert.AdamwWInIdeal.τ).loc Cert.AdamwWInIdeal.main_arg1) = m ((c.tc : Thread Cert.AdamwWInIdeal.nD Cert.AdamwWInIdeal.τ).loc Cert.AdamwWInIdeal.main_arg1)
      ∧ r.2.mem ((c.tc : Thread Cert.AdamwWInIdeal.nD Cert.AdamwWInIdeal.τ).loc Cert.AdamwWInIdeal.main_arg2) = m ((c.tc : Thread Cert.AdamwWInIdeal.nD Cert.AdamwWInIdeal.τ).loc Cert.AdamwWInIdeal.main_arg2)
      ∧ r.2.mem ((c.tc : Thread Cert.AdamwWInIdeal.nD Cert.AdamwWInIdeal.τ).loc Cert.AdamwWInIdeal.main_arg3) = m ((c.tc : Thread Cert.AdamwWInIdeal.nD Cert.AdamwWInIdeal.τ).loc Cert.AdamwWInIdeal.main_arg3))
      ∧ r.2.sem = fun _ => 0)

def quiescent_AdamwWInRefIdeal [hAdamwWInRefIdeal : Cert.AdamwWInRefIdeal.Facts] : Prop :=
  ∀ (m : (ℓ : Loc Cert.AdamwWInRefIdeal.nD Cert.AdamwWInRefIdeal.τ Cert.AdamwWInRefIdeal.sig) → Buf (Elt Ideal) ℓ) (g : Dev Cert.AdamwWInRefIdeal.nD → PrngReg), Pre_AdamwWInRefIdeal m →
    θ_run (Cert.AdamwWInRefIdeal.defs (F := Ideal)) (onTc (τ := Cert.AdamwWInRefIdeal.τ) (Cert.AdamwWInRefIdeal.main (F := Ideal))) ⟨m, fun _ => 0, g⟩ (fun r => (∀ c : Dev Cert.AdamwWInRefIdeal.nD,
      r.2.mem ((c.tc : Thread Cert.AdamwWInRefIdeal.nD Cert.AdamwWInRefIdeal.τ).loc Cert.AdamwWInRefIdeal.main_arg0) = m ((c.tc : Thread Cert.AdamwWInRefIdeal.nD Cert.AdamwWInRefIdeal.τ).loc Cert.AdamwWInRefIdeal.main_arg0)
      ∧ r.2.mem ((c.tc : Thread Cert.AdamwWInRefIdeal.nD Cert.AdamwWInRefIdeal.τ).loc Cert.AdamwWInRefIdeal.main_arg1) = m ((c.tc : Thread Cert.AdamwWInRefIdeal.nD Cert.AdamwWInRefIdeal.τ).loc Cert.AdamwWInRefIdeal.main_arg1)
      ∧ r.2.mem ((c.tc : Thread Cert.AdamwWInRefIdeal.nD Cert.AdamwWInRefIdeal.τ).loc Cert.AdamwWInRefIdeal.main_arg2) = m ((c.tc : Thread Cert.AdamwWInRefIdeal.nD Cert.AdamwWInRefIdeal.τ).loc Cert.AdamwWInRefIdeal.main_arg2)
      ∧ r.2.mem ((c.tc : Thread Cert.AdamwWInRefIdeal.nD Cert.AdamwWInRefIdeal.τ).loc Cert.AdamwWInRefIdeal.main_arg3) = m ((c.tc : Thread Cert.AdamwWInRefIdeal.nD Cert.AdamwWInRefIdeal.τ).loc Cert.AdamwWInRefIdeal.main_arg3))
      ∧ r.2.sem = fun _ => 0)

def quiescent_AdamwGlaGateW2 [hAdamwGlaGateW2 : Cert.AdamwGlaGateW2.Facts] : Prop :=
  ∀ (m : (ℓ : Loc Cert.AdamwGlaGateW2.nD Cert.AdamwGlaGateW2.τ Cert.AdamwGlaGateW2.sig) → Buf (Elt Bits) ℓ) (g : Dev Cert.AdamwGlaGateW2.nD → PrngReg), Pre_AdamwGlaGateW2 m →
    θ_run (Cert.AdamwGlaGateW2.defs (F := Bits)) (onTc (τ := Cert.AdamwGlaGateW2.τ) (Cert.AdamwGlaGateW2.main (F := Bits))) ⟨m, fun _ => 0, g⟩ (fun r => (∀ c : Dev Cert.AdamwGlaGateW2.nD,
      r.2.mem ((c.tc : Thread Cert.AdamwGlaGateW2.nD Cert.AdamwGlaGateW2.τ).loc Cert.AdamwGlaGateW2.main_arg0) = m ((c.tc : Thread Cert.AdamwGlaGateW2.nD Cert.AdamwGlaGateW2.τ).loc Cert.AdamwGlaGateW2.main_arg0)
      ∧ r.2.mem ((c.tc : Thread Cert.AdamwGlaGateW2.nD Cert.AdamwGlaGateW2.τ).loc Cert.AdamwGlaGateW2.main_arg1) = m ((c.tc : Thread Cert.AdamwGlaGateW2.nD Cert.AdamwGlaGateW2.τ).loc Cert.AdamwGlaGateW2.main_arg1)
      ∧ r.2.mem ((c.tc : Thread Cert.AdamwGlaGateW2.nD Cert.AdamwGlaGateW2.τ).loc Cert.AdamwGlaGateW2.main_arg2) = m ((c.tc : Thread Cert.AdamwGlaGateW2.nD Cert.AdamwGlaGateW2.τ).loc Cert.AdamwGlaGateW2.main_arg2)
      ∧ r.2.mem ((c.tc : Thread Cert.AdamwGlaGateW2.nD Cert.AdamwGlaGateW2.τ).loc Cert.AdamwGlaGateW2.main_arg3) = m ((c.tc : Thread Cert.AdamwGlaGateW2.nD Cert.AdamwGlaGateW2.τ).loc Cert.AdamwGlaGateW2.main_arg3))
      ∧ r.2.sem = fun _ => 0)

def quiescent_AdamwGlaGateW2Ideal [hAdamwGlaGateW2Ideal : Cert.AdamwGlaGateW2Ideal.Facts] : Prop :=
  ∀ (m : (ℓ : Loc Cert.AdamwGlaGateW2Ideal.nD Cert.AdamwGlaGateW2Ideal.τ Cert.AdamwGlaGateW2Ideal.sig) → Buf (Elt Ideal) ℓ) (g : Dev Cert.AdamwGlaGateW2Ideal.nD → PrngReg), Pre_AdamwGlaGateW2Ideal m →
    θ_run (Cert.AdamwGlaGateW2Ideal.defs (F := Ideal)) (onTc (τ := Cert.AdamwGlaGateW2Ideal.τ) (Cert.AdamwGlaGateW2Ideal.main (F := Ideal))) ⟨m, fun _ => 0, g⟩ (fun r => (∀ c : Dev Cert.AdamwGlaGateW2Ideal.nD,
      r.2.mem ((c.tc : Thread Cert.AdamwGlaGateW2Ideal.nD Cert.AdamwGlaGateW2Ideal.τ).loc Cert.AdamwGlaGateW2Ideal.main_arg0) = m ((c.tc : Thread Cert.AdamwGlaGateW2Ideal.nD Cert.AdamwGlaGateW2Ideal.τ).loc Cert.AdamwGlaGateW2Ideal.main_arg0)
      ∧ r.2.mem ((c.tc : Thread Cert.AdamwGlaGateW2Ideal.nD Cert.AdamwGlaGateW2Ideal.τ).loc Cert.AdamwGlaGateW2Ideal.main_arg1) = m ((c.tc : Thread Cert.AdamwGlaGateW2Ideal.nD Cert.AdamwGlaGateW2Ideal.τ).loc Cert.AdamwGlaGateW2Ideal.main_arg1)
      ∧ r.2.mem ((c.tc : Thread Cert.AdamwGlaGateW2Ideal.nD Cert.AdamwGlaGateW2Ideal.τ).loc Cert.AdamwGlaGateW2Ideal.main_arg2) = m ((c.tc : Thread Cert.AdamwGlaGateW2Ideal.nD Cert.AdamwGlaGateW2Ideal.τ).loc Cert.AdamwGlaGateW2Ideal.main_arg2)
      ∧ r.2.mem ((c.tc : Thread Cert.AdamwGlaGateW2Ideal.nD Cert.AdamwGlaGateW2Ideal.τ).loc Cert.AdamwGlaGateW2Ideal.main_arg3) = m ((c.tc : Thread Cert.AdamwGlaGateW2Ideal.nD Cert.AdamwGlaGateW2Ideal.τ).loc Cert.AdamwGlaGateW2Ideal.main_arg3))
      ∧ r.2.sem = fun _ => 0)

def quiescent_AdamwGlaGateW2RefIdeal [hAdamwGlaGateW2RefIdeal : Cert.AdamwGlaGateW2RefIdeal.Facts] : Prop :=
  ∀ (m : (ℓ : Loc Cert.AdamwGlaGateW2RefIdeal.nD Cert.AdamwGlaGateW2RefIdeal.τ Cert.AdamwGlaGateW2RefIdeal.sig) → Buf (Elt Ideal) ℓ) (g : Dev Cert.AdamwGlaGateW2RefIdeal.nD → PrngReg), Pre_AdamwGlaGateW2RefIdeal m →
    θ_run (Cert.AdamwGlaGateW2RefIdeal.defs (F := Ideal)) (onTc (τ := Cert.AdamwGlaGateW2RefIdeal.τ) (Cert.AdamwGlaGateW2RefIdeal.main (F := Ideal))) ⟨m, fun _ => 0, g⟩ (fun r => (∀ c : Dev Cert.AdamwGlaGateW2RefIdeal.nD,
      r.2.mem ((c.tc : Thread Cert.AdamwGlaGateW2RefIdeal.nD Cert.AdamwGlaGateW2RefIdeal.τ).loc Cert.AdamwGlaGateW2RefIdeal.main_arg0) = m ((c.tc : Thread Cert.AdamwGlaGateW2RefIdeal.nD Cert.AdamwGlaGateW2RefIdeal.τ).loc Cert.AdamwGlaGateW2RefIdeal.main_arg0)
      ∧ r.2.mem ((c.tc : Thread Cert.AdamwGlaGateW2RefIdeal.nD Cert.AdamwGlaGateW2RefIdeal.τ).loc Cert.AdamwGlaGateW2RefIdeal.main_arg1) = m ((c.tc : Thread Cert.AdamwGlaGateW2RefIdeal.nD Cert.AdamwGlaGateW2RefIdeal.τ).loc Cert.AdamwGlaGateW2RefIdeal.main_arg1)
      ∧ r.2.mem ((c.tc : Thread Cert.AdamwGlaGateW2RefIdeal.nD Cert.AdamwGlaGateW2RefIdeal.τ).loc Cert.AdamwGlaGateW2RefIdeal.main_arg2) = m ((c.tc : Thread Cert.AdamwGlaGateW2RefIdeal.nD Cert.AdamwGlaGateW2RefIdeal.τ).loc Cert.AdamwGlaGateW2RefIdeal.main_arg2)
      ∧ r.2.mem ((c.tc : Thread Cert.AdamwGlaGateW2RefIdeal.nD Cert.AdamwGlaGateW2RefIdeal.τ).loc Cert.AdamwGlaGateW2RefIdeal.main_arg3) = m ((c.tc : Thread Cert.AdamwGlaGateW2RefIdeal.nD Cert.AdamwGlaGateW2RefIdeal.τ).loc Cert.AdamwGlaGateW2RefIdeal.main_arg3))
      ∧ r.2.sem = fun _ => 0)

def quiescent_AdamwGlaGateB [hAdamwGlaGateB : Cert.AdamwGlaGateB.Facts] : Prop :=
  ∀ (m : (ℓ : Loc Cert.AdamwGlaGateB.nD Cert.AdamwGlaGateB.τ Cert.AdamwGlaGateB.sig) → Buf (Elt Bits) ℓ) (g : Dev Cert.AdamwGlaGateB.nD → PrngReg), Pre_AdamwGlaGateB m →
    θ_run (Cert.AdamwGlaGateB.defs (F := Bits)) (onTc (τ := Cert.AdamwGlaGateB.τ) (Cert.AdamwGlaGateB.main (F := Bits))) ⟨m, fun _ => 0, g⟩ (fun r => (∀ c : Dev Cert.AdamwGlaGateB.nD,
      r.2.mem ((c.tc : Thread Cert.AdamwGlaGateB.nD Cert.AdamwGlaGateB.τ).loc Cert.AdamwGlaGateB.main_arg0) = m ((c.tc : Thread Cert.AdamwGlaGateB.nD Cert.AdamwGlaGateB.τ).loc Cert.AdamwGlaGateB.main_arg0)
      ∧ r.2.mem ((c.tc : Thread Cert.AdamwGlaGateB.nD Cert.AdamwGlaGateB.τ).loc Cert.AdamwGlaGateB.main_arg1) = m ((c.tc : Thread Cert.AdamwGlaGateB.nD Cert.AdamwGlaGateB.τ).loc Cert.AdamwGlaGateB.main_arg1)
      ∧ r.2.mem ((c.tc : Thread Cert.AdamwGlaGateB.nD Cert.AdamwGlaGateB.τ).loc Cert.AdamwGlaGateB.main_arg2) = m ((c.tc : Thread Cert.AdamwGlaGateB.nD Cert.AdamwGlaGateB.τ).loc Cert.AdamwGlaGateB.main_arg2)
      ∧ r.2.mem ((c.tc : Thread Cert.AdamwGlaGateB.nD Cert.AdamwGlaGateB.τ).loc Cert.AdamwGlaGateB.main_arg3) = m ((c.tc : Thread Cert.AdamwGlaGateB.nD Cert.AdamwGlaGateB.τ).loc Cert.AdamwGlaGateB.main_arg3))
      ∧ r.2.sem = fun _ => 0)

def quiescent_AdamwGlaGateBIdeal [hAdamwGlaGateBIdeal : Cert.AdamwGlaGateBIdeal.Facts] : Prop :=
  ∀ (m : (ℓ : Loc Cert.AdamwGlaGateBIdeal.nD Cert.AdamwGlaGateBIdeal.τ Cert.AdamwGlaGateBIdeal.sig) → Buf (Elt Ideal) ℓ) (g : Dev Cert.AdamwGlaGateBIdeal.nD → PrngReg), Pre_AdamwGlaGateBIdeal m →
    θ_run (Cert.AdamwGlaGateBIdeal.defs (F := Ideal)) (onTc (τ := Cert.AdamwGlaGateBIdeal.τ) (Cert.AdamwGlaGateBIdeal.main (F := Ideal))) ⟨m, fun _ => 0, g⟩ (fun r => (∀ c : Dev Cert.AdamwGlaGateBIdeal.nD,
      r.2.mem ((c.tc : Thread Cert.AdamwGlaGateBIdeal.nD Cert.AdamwGlaGateBIdeal.τ).loc Cert.AdamwGlaGateBIdeal.main_arg0) = m ((c.tc : Thread Cert.AdamwGlaGateBIdeal.nD Cert.AdamwGlaGateBIdeal.τ).loc Cert.AdamwGlaGateBIdeal.main_arg0)
      ∧ r.2.mem ((c.tc : Thread Cert.AdamwGlaGateBIdeal.nD Cert.AdamwGlaGateBIdeal.τ).loc Cert.AdamwGlaGateBIdeal.main_arg1) = m ((c.tc : Thread Cert.AdamwGlaGateBIdeal.nD Cert.AdamwGlaGateBIdeal.τ).loc Cert.AdamwGlaGateBIdeal.main_arg1)
      ∧ r.2.mem ((c.tc : Thread Cert.AdamwGlaGateBIdeal.nD Cert.AdamwGlaGateBIdeal.τ).loc Cert.AdamwGlaGateBIdeal.main_arg2) = m ((c.tc : Thread Cert.AdamwGlaGateBIdeal.nD Cert.AdamwGlaGateBIdeal.τ).loc Cert.AdamwGlaGateBIdeal.main_arg2)
      ∧ r.2.mem ((c.tc : Thread Cert.AdamwGlaGateBIdeal.nD Cert.AdamwGlaGateBIdeal.τ).loc Cert.AdamwGlaGateBIdeal.main_arg3) = m ((c.tc : Thread Cert.AdamwGlaGateBIdeal.nD Cert.AdamwGlaGateBIdeal.τ).loc Cert.AdamwGlaGateBIdeal.main_arg3))
      ∧ r.2.sem = fun _ => 0)

def quiescent_AdamwGlaGateBRefIdeal [hAdamwGlaGateBRefIdeal : Cert.AdamwGlaGateBRefIdeal.Facts] : Prop :=
  ∀ (m : (ℓ : Loc Cert.AdamwGlaGateBRefIdeal.nD Cert.AdamwGlaGateBRefIdeal.τ Cert.AdamwGlaGateBRefIdeal.sig) → Buf (Elt Ideal) ℓ) (g : Dev Cert.AdamwGlaGateBRefIdeal.nD → PrngReg), Pre_AdamwGlaGateBRefIdeal m →
    θ_run (Cert.AdamwGlaGateBRefIdeal.defs (F := Ideal)) (onTc (τ := Cert.AdamwGlaGateBRefIdeal.τ) (Cert.AdamwGlaGateBRefIdeal.main (F := Ideal))) ⟨m, fun _ => 0, g⟩ (fun r => (∀ c : Dev Cert.AdamwGlaGateBRefIdeal.nD,
      r.2.mem ((c.tc : Thread Cert.AdamwGlaGateBRefIdeal.nD Cert.AdamwGlaGateBRefIdeal.τ).loc Cert.AdamwGlaGateBRefIdeal.main_arg0) = m ((c.tc : Thread Cert.AdamwGlaGateBRefIdeal.nD Cert.AdamwGlaGateBRefIdeal.τ).loc Cert.AdamwGlaGateBRefIdeal.main_arg0)
      ∧ r.2.mem ((c.tc : Thread Cert.AdamwGlaGateBRefIdeal.nD Cert.AdamwGlaGateBRefIdeal.τ).loc Cert.AdamwGlaGateBRefIdeal.main_arg1) = m ((c.tc : Thread Cert.AdamwGlaGateBRefIdeal.nD Cert.AdamwGlaGateBRefIdeal.τ).loc Cert.AdamwGlaGateBRefIdeal.main_arg1)
      ∧ r.2.mem ((c.tc : Thread Cert.AdamwGlaGateBRefIdeal.nD Cert.AdamwGlaGateBRefIdeal.τ).loc Cert.AdamwGlaGateBRefIdeal.main_arg2) = m ((c.tc : Thread Cert.AdamwGlaGateBRefIdeal.nD Cert.AdamwGlaGateBRefIdeal.τ).loc Cert.AdamwGlaGateBRefIdeal.main_arg2)
      ∧ r.2.mem ((c.tc : Thread Cert.AdamwGlaGateBRefIdeal.nD Cert.AdamwGlaGateBRefIdeal.τ).loc Cert.AdamwGlaGateBRefIdeal.main_arg3) = m ((c.tc : Thread Cert.AdamwGlaGateBRefIdeal.nD Cert.AdamwGlaGateBRefIdeal.τ).loc Cert.AdamwGlaGateBRefIdeal.main_arg3))
      ∧ r.2.sem = fun _ => 0)

def quiescent_AdamwGlaNormG [hAdamwGlaNormG : Cert.AdamwGlaNormG.Facts] : Prop :=
  ∀ (m : (ℓ : Loc Cert.AdamwGlaNormG.nD Cert.AdamwGlaNormG.τ Cert.AdamwGlaNormG.sig) → Buf (Elt Bits) ℓ) (g : Dev Cert.AdamwGlaNormG.nD → PrngReg), Pre_AdamwGlaNormG m →
    θ_run (Cert.AdamwGlaNormG.defs (F := Bits)) (onTc (τ := Cert.AdamwGlaNormG.τ) (Cert.AdamwGlaNormG.main (F := Bits))) ⟨m, fun _ => 0, g⟩ (fun r => (∀ c : Dev Cert.AdamwGlaNormG.nD,
      r.2.mem ((c.tc : Thread Cert.AdamwGlaNormG.nD Cert.AdamwGlaNormG.τ).loc Cert.AdamwGlaNormG.main_arg0) = m ((c.tc : Thread Cert.AdamwGlaNormG.nD Cert.AdamwGlaNormG.τ).loc Cert.AdamwGlaNormG.main_arg0)
      ∧ r.2.mem ((c.tc : Thread Cert.AdamwGlaNormG.nD Cert.AdamwGlaNormG.τ).loc Cert.AdamwGlaNormG.main_arg1) = m ((c.tc : Thread Cert.AdamwGlaNormG.nD Cert.AdamwGlaNormG.τ).loc Cert.AdamwGlaNormG.main_arg1)
      ∧ r.2.mem ((c.tc : Thread Cert.AdamwGlaNormG.nD Cert.AdamwGlaNormG.τ).loc Cert.AdamwGlaNormG.main_arg2) = m ((c.tc : Thread Cert.AdamwGlaNormG.nD Cert.AdamwGlaNormG.τ).loc Cert.AdamwGlaNormG.main_arg2)
      ∧ r.2.mem ((c.tc : Thread Cert.AdamwGlaNormG.nD Cert.AdamwGlaNormG.τ).loc Cert.AdamwGlaNormG.main_arg3) = m ((c.tc : Thread Cert.AdamwGlaNormG.nD Cert.AdamwGlaNormG.τ).loc Cert.AdamwGlaNormG.main_arg3))
      ∧ r.2.sem = fun _ => 0)

def quiescent_AdamwGlaNormGIdeal [hAdamwGlaNormGIdeal : Cert.AdamwGlaNormGIdeal.Facts] : Prop :=
  ∀ (m : (ℓ : Loc Cert.AdamwGlaNormGIdeal.nD Cert.AdamwGlaNormGIdeal.τ Cert.AdamwGlaNormGIdeal.sig) → Buf (Elt Ideal) ℓ) (g : Dev Cert.AdamwGlaNormGIdeal.nD → PrngReg), Pre_AdamwGlaNormGIdeal m →
    θ_run (Cert.AdamwGlaNormGIdeal.defs (F := Ideal)) (onTc (τ := Cert.AdamwGlaNormGIdeal.τ) (Cert.AdamwGlaNormGIdeal.main (F := Ideal))) ⟨m, fun _ => 0, g⟩ (fun r => (∀ c : Dev Cert.AdamwGlaNormGIdeal.nD,
      r.2.mem ((c.tc : Thread Cert.AdamwGlaNormGIdeal.nD Cert.AdamwGlaNormGIdeal.τ).loc Cert.AdamwGlaNormGIdeal.main_arg0) = m ((c.tc : Thread Cert.AdamwGlaNormGIdeal.nD Cert.AdamwGlaNormGIdeal.τ).loc Cert.AdamwGlaNormGIdeal.main_arg0)
      ∧ r.2.mem ((c.tc : Thread Cert.AdamwGlaNormGIdeal.nD Cert.AdamwGlaNormGIdeal.τ).loc Cert.AdamwGlaNormGIdeal.main_arg1) = m ((c.tc : Thread Cert.AdamwGlaNormGIdeal.nD Cert.AdamwGlaNormGIdeal.τ).loc Cert.AdamwGlaNormGIdeal.main_arg1)
      ∧ r.2.mem ((c.tc : Thread Cert.AdamwGlaNormGIdeal.nD Cert.AdamwGlaNormGIdeal.τ).loc Cert.AdamwGlaNormGIdeal.main_arg2) = m ((c.tc : Thread Cert.AdamwGlaNormGIdeal.nD Cert.AdamwGlaNormGIdeal.τ).loc Cert.AdamwGlaNormGIdeal.main_arg2)
      ∧ r.2.mem ((c.tc : Thread Cert.AdamwGlaNormGIdeal.nD Cert.AdamwGlaNormGIdeal.τ).loc Cert.AdamwGlaNormGIdeal.main_arg3) = m ((c.tc : Thread Cert.AdamwGlaNormGIdeal.nD Cert.AdamwGlaNormGIdeal.τ).loc Cert.AdamwGlaNormGIdeal.main_arg3))
      ∧ r.2.sem = fun _ => 0)

def quiescent_AdamwGlaNormGRefIdeal [hAdamwGlaNormGRefIdeal : Cert.AdamwGlaNormGRefIdeal.Facts] : Prop :=
  ∀ (m : (ℓ : Loc Cert.AdamwGlaNormGRefIdeal.nD Cert.AdamwGlaNormGRefIdeal.τ Cert.AdamwGlaNormGRefIdeal.sig) → Buf (Elt Ideal) ℓ) (g : Dev Cert.AdamwGlaNormGRefIdeal.nD → PrngReg), Pre_AdamwGlaNormGRefIdeal m →
    θ_run (Cert.AdamwGlaNormGRefIdeal.defs (F := Ideal)) (onTc (τ := Cert.AdamwGlaNormGRefIdeal.τ) (Cert.AdamwGlaNormGRefIdeal.main (F := Ideal))) ⟨m, fun _ => 0, g⟩ (fun r => (∀ c : Dev Cert.AdamwGlaNormGRefIdeal.nD,
      r.2.mem ((c.tc : Thread Cert.AdamwGlaNormGRefIdeal.nD Cert.AdamwGlaNormGRefIdeal.τ).loc Cert.AdamwGlaNormGRefIdeal.main_arg0) = m ((c.tc : Thread Cert.AdamwGlaNormGRefIdeal.nD Cert.AdamwGlaNormGRefIdeal.τ).loc Cert.AdamwGlaNormGRefIdeal.main_arg0)
      ∧ r.2.mem ((c.tc : Thread Cert.AdamwGlaNormGRefIdeal.nD Cert.AdamwGlaNormGRefIdeal.τ).loc Cert.AdamwGlaNormGRefIdeal.main_arg1) = m ((c.tc : Thread Cert.AdamwGlaNormGRefIdeal.nD Cert.AdamwGlaNormGRefIdeal.τ).loc Cert.AdamwGlaNormGRefIdeal.main_arg1)
      ∧ r.2.mem ((c.tc : Thread Cert.AdamwGlaNormGRefIdeal.nD Cert.AdamwGlaNormGRefIdeal.τ).loc Cert.AdamwGlaNormGRefIdeal.main_arg2) = m ((c.tc : Thread Cert.AdamwGlaNormGRefIdeal.nD Cert.AdamwGlaNormGRefIdeal.τ).loc Cert.AdamwGlaNormGRefIdeal.main_arg2)
      ∧ r.2.mem ((c.tc : Thread Cert.AdamwGlaNormGRefIdeal.nD Cert.AdamwGlaNormGRefIdeal.τ).loc Cert.AdamwGlaNormGRefIdeal.main_arg3) = m ((c.tc : Thread Cert.AdamwGlaNormGRefIdeal.nD Cert.AdamwGlaNormGRefIdeal.τ).loc Cert.AdamwGlaNormGRefIdeal.main_arg3))
      ∧ r.2.sem = fun _ => 0)

def quiescent_AdamwRelBias [hAdamwRelBias : Cert.AdamwRelBias.Facts] : Prop :=
  ∀ (m : (ℓ : Loc Cert.AdamwRelBias.nD Cert.AdamwRelBias.τ Cert.AdamwRelBias.sig) → Buf (Elt Bits) ℓ) (g : Dev Cert.AdamwRelBias.nD → PrngReg), Pre_AdamwRelBias m →
    θ_run (Cert.AdamwRelBias.defs (F := Bits)) (onTc (τ := Cert.AdamwRelBias.τ) (Cert.AdamwRelBias.main (F := Bits))) ⟨m, fun _ => 0, g⟩ (fun r => (∀ c : Dev Cert.AdamwRelBias.nD,
      r.2.mem ((c.tc : Thread Cert.AdamwRelBias.nD Cert.AdamwRelBias.τ).loc Cert.AdamwRelBias.main_arg0) = m ((c.tc : Thread Cert.AdamwRelBias.nD Cert.AdamwRelBias.τ).loc Cert.AdamwRelBias.main_arg0)
      ∧ r.2.mem ((c.tc : Thread Cert.AdamwRelBias.nD Cert.AdamwRelBias.τ).loc Cert.AdamwRelBias.main_arg1) = m ((c.tc : Thread Cert.AdamwRelBias.nD Cert.AdamwRelBias.τ).loc Cert.AdamwRelBias.main_arg1)
      ∧ r.2.mem ((c.tc : Thread Cert.AdamwRelBias.nD Cert.AdamwRelBias.τ).loc Cert.AdamwRelBias.main_arg2) = m ((c.tc : Thread Cert.AdamwRelBias.nD Cert.AdamwRelBias.τ).loc Cert.AdamwRelBias.main_arg2)
      ∧ r.2.mem ((c.tc : Thread Cert.AdamwRelBias.nD Cert.AdamwRelBias.τ).loc Cert.AdamwRelBias.main_arg3) = m ((c.tc : Thread Cert.AdamwRelBias.nD Cert.AdamwRelBias.τ).loc Cert.AdamwRelBias.main_arg3))
      ∧ r.2.sem = fun _ => 0)

def quiescent_AdamwRelBiasIdeal [hAdamwRelBiasIdeal : Cert.AdamwRelBiasIdeal.Facts] : Prop :=
  ∀ (m : (ℓ : Loc Cert.AdamwRelBiasIdeal.nD Cert.AdamwRelBiasIdeal.τ Cert.AdamwRelBiasIdeal.sig) → Buf (Elt Ideal) ℓ) (g : Dev Cert.AdamwRelBiasIdeal.nD → PrngReg), Pre_AdamwRelBiasIdeal m →
    θ_run (Cert.AdamwRelBiasIdeal.defs (F := Ideal)) (onTc (τ := Cert.AdamwRelBiasIdeal.τ) (Cert.AdamwRelBiasIdeal.main (F := Ideal))) ⟨m, fun _ => 0, g⟩ (fun r => (∀ c : Dev Cert.AdamwRelBiasIdeal.nD,
      r.2.mem ((c.tc : Thread Cert.AdamwRelBiasIdeal.nD Cert.AdamwRelBiasIdeal.τ).loc Cert.AdamwRelBiasIdeal.main_arg0) = m ((c.tc : Thread Cert.AdamwRelBiasIdeal.nD Cert.AdamwRelBiasIdeal.τ).loc Cert.AdamwRelBiasIdeal.main_arg0)
      ∧ r.2.mem ((c.tc : Thread Cert.AdamwRelBiasIdeal.nD Cert.AdamwRelBiasIdeal.τ).loc Cert.AdamwRelBiasIdeal.main_arg1) = m ((c.tc : Thread Cert.AdamwRelBiasIdeal.nD Cert.AdamwRelBiasIdeal.τ).loc Cert.AdamwRelBiasIdeal.main_arg1)
      ∧ r.2.mem ((c.tc : Thread Cert.AdamwRelBiasIdeal.nD Cert.AdamwRelBiasIdeal.τ).loc Cert.AdamwRelBiasIdeal.main_arg2) = m ((c.tc : Thread Cert.AdamwRelBiasIdeal.nD Cert.AdamwRelBiasIdeal.τ).loc Cert.AdamwRelBiasIdeal.main_arg2)
      ∧ r.2.mem ((c.tc : Thread Cert.AdamwRelBiasIdeal.nD Cert.AdamwRelBiasIdeal.τ).loc Cert.AdamwRelBiasIdeal.main_arg3) = m ((c.tc : Thread Cert.AdamwRelBiasIdeal.nD Cert.AdamwRelBiasIdeal.τ).loc Cert.AdamwRelBiasIdeal.main_arg3))
      ∧ r.2.sem = fun _ => 0)

def quiescent_AdamwRelBiasRefIdeal [hAdamwRelBiasRefIdeal : Cert.AdamwRelBiasRefIdeal.Facts] : Prop :=
  ∀ (m : (ℓ : Loc Cert.AdamwRelBiasRefIdeal.nD Cert.AdamwRelBiasRefIdeal.τ Cert.AdamwRelBiasRefIdeal.sig) → Buf (Elt Ideal) ℓ) (g : Dev Cert.AdamwRelBiasRefIdeal.nD → PrngReg), Pre_AdamwRelBiasRefIdeal m →
    θ_run (Cert.AdamwRelBiasRefIdeal.defs (F := Ideal)) (onTc (τ := Cert.AdamwRelBiasRefIdeal.τ) (Cert.AdamwRelBiasRefIdeal.main (F := Ideal))) ⟨m, fun _ => 0, g⟩ (fun r => (∀ c : Dev Cert.AdamwRelBiasRefIdeal.nD,
      r.2.mem ((c.tc : Thread Cert.AdamwRelBiasRefIdeal.nD Cert.AdamwRelBiasRefIdeal.τ).loc Cert.AdamwRelBiasRefIdeal.main_arg0) = m ((c.tc : Thread Cert.AdamwRelBiasRefIdeal.nD Cert.AdamwRelBiasRefIdeal.τ).loc Cert.AdamwRelBiasRefIdeal.main_arg0)
      ∧ r.2.mem ((c.tc : Thread Cert.AdamwRelBiasRefIdeal.nD Cert.AdamwRelBiasRefIdeal.τ).loc Cert.AdamwRelBiasRefIdeal.main_arg1) = m ((c.tc : Thread Cert.AdamwRelBiasRefIdeal.nD Cert.AdamwRelBiasRefIdeal.τ).loc Cert.AdamwRelBiasRefIdeal.main_arg1)
      ∧ r.2.mem ((c.tc : Thread Cert.AdamwRelBiasRefIdeal.nD Cert.AdamwRelBiasRefIdeal.τ).loc Cert.AdamwRelBiasRefIdeal.main_arg2) = m ((c.tc : Thread Cert.AdamwRelBiasRefIdeal.nD Cert.AdamwRelBiasRefIdeal.τ).loc Cert.AdamwRelBiasRefIdeal.main_arg2)
      ∧ r.2.mem ((c.tc : Thread Cert.AdamwRelBiasRefIdeal.nD Cert.AdamwRelBiasRefIdeal.τ).loc Cert.AdamwRelBiasRefIdeal.main_arg3) = m ((c.tc : Thread Cert.AdamwRelBiasRefIdeal.nD Cert.AdamwRelBiasRefIdeal.τ).loc Cert.AdamwRelBiasRefIdeal.main_arg3))
      ∧ r.2.sem = fun _ => 0)

def quiescent_AdamwWOut [hAdamwWOut : Cert.AdamwWOut.Facts] : Prop :=
  ∀ (m : (ℓ : Loc Cert.AdamwWOut.nD Cert.AdamwWOut.τ Cert.AdamwWOut.sig) → Buf (Elt Bits) ℓ) (g : Dev Cert.AdamwWOut.nD → PrngReg), Pre_AdamwWOut m →
    θ_run (Cert.AdamwWOut.defs (F := Bits)) (onTc (τ := Cert.AdamwWOut.τ) (Cert.AdamwWOut.main (F := Bits))) ⟨m, fun _ => 0, g⟩ (fun r => (∀ c : Dev Cert.AdamwWOut.nD,
      r.2.mem ((c.tc : Thread Cert.AdamwWOut.nD Cert.AdamwWOut.τ).loc Cert.AdamwWOut.main_arg0) = m ((c.tc : Thread Cert.AdamwWOut.nD Cert.AdamwWOut.τ).loc Cert.AdamwWOut.main_arg0)
      ∧ r.2.mem ((c.tc : Thread Cert.AdamwWOut.nD Cert.AdamwWOut.τ).loc Cert.AdamwWOut.main_arg1) = m ((c.tc : Thread Cert.AdamwWOut.nD Cert.AdamwWOut.τ).loc Cert.AdamwWOut.main_arg1)
      ∧ r.2.mem ((c.tc : Thread Cert.AdamwWOut.nD Cert.AdamwWOut.τ).loc Cert.AdamwWOut.main_arg2) = m ((c.tc : Thread Cert.AdamwWOut.nD Cert.AdamwWOut.τ).loc Cert.AdamwWOut.main_arg2)
      ∧ r.2.mem ((c.tc : Thread Cert.AdamwWOut.nD Cert.AdamwWOut.τ).loc Cert.AdamwWOut.main_arg3) = m ((c.tc : Thread Cert.AdamwWOut.nD Cert.AdamwWOut.τ).loc Cert.AdamwWOut.main_arg3))
      ∧ r.2.sem = fun _ => 0)

def quiescent_AdamwWOutIdeal [hAdamwWOutIdeal : Cert.AdamwWOutIdeal.Facts] : Prop :=
  ∀ (m : (ℓ : Loc Cert.AdamwWOutIdeal.nD Cert.AdamwWOutIdeal.τ Cert.AdamwWOutIdeal.sig) → Buf (Elt Ideal) ℓ) (g : Dev Cert.AdamwWOutIdeal.nD → PrngReg), Pre_AdamwWOutIdeal m →
    θ_run (Cert.AdamwWOutIdeal.defs (F := Ideal)) (onTc (τ := Cert.AdamwWOutIdeal.τ) (Cert.AdamwWOutIdeal.main (F := Ideal))) ⟨m, fun _ => 0, g⟩ (fun r => (∀ c : Dev Cert.AdamwWOutIdeal.nD,
      r.2.mem ((c.tc : Thread Cert.AdamwWOutIdeal.nD Cert.AdamwWOutIdeal.τ).loc Cert.AdamwWOutIdeal.main_arg0) = m ((c.tc : Thread Cert.AdamwWOutIdeal.nD Cert.AdamwWOutIdeal.τ).loc Cert.AdamwWOutIdeal.main_arg0)
      ∧ r.2.mem ((c.tc : Thread Cert.AdamwWOutIdeal.nD Cert.AdamwWOutIdeal.τ).loc Cert.AdamwWOutIdeal.main_arg1) = m ((c.tc : Thread Cert.AdamwWOutIdeal.nD Cert.AdamwWOutIdeal.τ).loc Cert.AdamwWOutIdeal.main_arg1)
      ∧ r.2.mem ((c.tc : Thread Cert.AdamwWOutIdeal.nD Cert.AdamwWOutIdeal.τ).loc Cert.AdamwWOutIdeal.main_arg2) = m ((c.tc : Thread Cert.AdamwWOutIdeal.nD Cert.AdamwWOutIdeal.τ).loc Cert.AdamwWOutIdeal.main_arg2)
      ∧ r.2.mem ((c.tc : Thread Cert.AdamwWOutIdeal.nD Cert.AdamwWOutIdeal.τ).loc Cert.AdamwWOutIdeal.main_arg3) = m ((c.tc : Thread Cert.AdamwWOutIdeal.nD Cert.AdamwWOutIdeal.τ).loc Cert.AdamwWOutIdeal.main_arg3))
      ∧ r.2.sem = fun _ => 0)

def quiescent_AdamwWOutRefIdeal [hAdamwWOutRefIdeal : Cert.AdamwWOutRefIdeal.Facts] : Prop :=
  ∀ (m : (ℓ : Loc Cert.AdamwWOutRefIdeal.nD Cert.AdamwWOutRefIdeal.τ Cert.AdamwWOutRefIdeal.sig) → Buf (Elt Ideal) ℓ) (g : Dev Cert.AdamwWOutRefIdeal.nD → PrngReg), Pre_AdamwWOutRefIdeal m →
    θ_run (Cert.AdamwWOutRefIdeal.defs (F := Ideal)) (onTc (τ := Cert.AdamwWOutRefIdeal.τ) (Cert.AdamwWOutRefIdeal.main (F := Ideal))) ⟨m, fun _ => 0, g⟩ (fun r => (∀ c : Dev Cert.AdamwWOutRefIdeal.nD,
      r.2.mem ((c.tc : Thread Cert.AdamwWOutRefIdeal.nD Cert.AdamwWOutRefIdeal.τ).loc Cert.AdamwWOutRefIdeal.main_arg0) = m ((c.tc : Thread Cert.AdamwWOutRefIdeal.nD Cert.AdamwWOutRefIdeal.τ).loc Cert.AdamwWOutRefIdeal.main_arg0)
      ∧ r.2.mem ((c.tc : Thread Cert.AdamwWOutRefIdeal.nD Cert.AdamwWOutRefIdeal.τ).loc Cert.AdamwWOutRefIdeal.main_arg1) = m ((c.tc : Thread Cert.AdamwWOutRefIdeal.nD Cert.AdamwWOutRefIdeal.τ).loc Cert.AdamwWOutRefIdeal.main_arg1)
      ∧ r.2.mem ((c.tc : Thread Cert.AdamwWOutRefIdeal.nD Cert.AdamwWOutRefIdeal.τ).loc Cert.AdamwWOutRefIdeal.main_arg2) = m ((c.tc : Thread Cert.AdamwWOutRefIdeal.nD Cert.AdamwWOutRefIdeal.τ).loc Cert.AdamwWOutRefIdeal.main_arg2)
      ∧ r.2.mem ((c.tc : Thread Cert.AdamwWOutRefIdeal.nD Cert.AdamwWOutRefIdeal.τ).loc Cert.AdamwWOutRefIdeal.main_arg3) = m ((c.tc : Thread Cert.AdamwWOutRefIdeal.nD Cert.AdamwWOutRefIdeal.τ).loc Cert.AdamwWOutRefIdeal.main_arg3))
      ∧ r.2.sem = fun _ => 0)

def quiescent_AdamwWFf1 [hAdamwWFf1 : Cert.AdamwWFf1.Facts] : Prop :=
  ∀ (m : (ℓ : Loc Cert.AdamwWFf1.nD Cert.AdamwWFf1.τ Cert.AdamwWFf1.sig) → Buf (Elt Bits) ℓ) (g : Dev Cert.AdamwWFf1.nD → PrngReg), Pre_AdamwWFf1 m →
    θ_run (Cert.AdamwWFf1.defs (F := Bits)) (onTc (τ := Cert.AdamwWFf1.τ) (Cert.AdamwWFf1.main (F := Bits))) ⟨m, fun _ => 0, g⟩ (fun r => (∀ c : Dev Cert.AdamwWFf1.nD,
      r.2.mem ((c.tc : Thread Cert.AdamwWFf1.nD Cert.AdamwWFf1.τ).loc Cert.AdamwWFf1.main_arg0) = m ((c.tc : Thread Cert.AdamwWFf1.nD Cert.AdamwWFf1.τ).loc Cert.AdamwWFf1.main_arg0)
      ∧ r.2.mem ((c.tc : Thread Cert.AdamwWFf1.nD Cert.AdamwWFf1.τ).loc Cert.AdamwWFf1.main_arg1) = m ((c.tc : Thread Cert.AdamwWFf1.nD Cert.AdamwWFf1.τ).loc Cert.AdamwWFf1.main_arg1)
      ∧ r.2.mem ((c.tc : Thread Cert.AdamwWFf1.nD Cert.AdamwWFf1.τ).loc Cert.AdamwWFf1.main_arg2) = m ((c.tc : Thread Cert.AdamwWFf1.nD Cert.AdamwWFf1.τ).loc Cert.AdamwWFf1.main_arg2)
      ∧ r.2.mem ((c.tc : Thread Cert.AdamwWFf1.nD Cert.AdamwWFf1.τ).loc Cert.AdamwWFf1.main_arg3) = m ((c.tc : Thread Cert.AdamwWFf1.nD Cert.AdamwWFf1.τ).loc Cert.AdamwWFf1.main_arg3))
      ∧ r.2.sem = fun _ => 0)

def quiescent_AdamwWFf1Ideal [hAdamwWFf1Ideal : Cert.AdamwWFf1Ideal.Facts] : Prop :=
  ∀ (m : (ℓ : Loc Cert.AdamwWFf1Ideal.nD Cert.AdamwWFf1Ideal.τ Cert.AdamwWFf1Ideal.sig) → Buf (Elt Ideal) ℓ) (g : Dev Cert.AdamwWFf1Ideal.nD → PrngReg), Pre_AdamwWFf1Ideal m →
    θ_run (Cert.AdamwWFf1Ideal.defs (F := Ideal)) (onTc (τ := Cert.AdamwWFf1Ideal.τ) (Cert.AdamwWFf1Ideal.main (F := Ideal))) ⟨m, fun _ => 0, g⟩ (fun r => (∀ c : Dev Cert.AdamwWFf1Ideal.nD,
      r.2.mem ((c.tc : Thread Cert.AdamwWFf1Ideal.nD Cert.AdamwWFf1Ideal.τ).loc Cert.AdamwWFf1Ideal.main_arg0) = m ((c.tc : Thread Cert.AdamwWFf1Ideal.nD Cert.AdamwWFf1Ideal.τ).loc Cert.AdamwWFf1Ideal.main_arg0)
      ∧ r.2.mem ((c.tc : Thread Cert.AdamwWFf1Ideal.nD Cert.AdamwWFf1Ideal.τ).loc Cert.AdamwWFf1Ideal.main_arg1) = m ((c.tc : Thread Cert.AdamwWFf1Ideal.nD Cert.AdamwWFf1Ideal.τ).loc Cert.AdamwWFf1Ideal.main_arg1)
      ∧ r.2.mem ((c.tc : Thread Cert.AdamwWFf1Ideal.nD Cert.AdamwWFf1Ideal.τ).loc Cert.AdamwWFf1Ideal.main_arg2) = m ((c.tc : Thread Cert.AdamwWFf1Ideal.nD Cert.AdamwWFf1Ideal.τ).loc Cert.AdamwWFf1Ideal.main_arg2)
      ∧ r.2.mem ((c.tc : Thread Cert.AdamwWFf1Ideal.nD Cert.AdamwWFf1Ideal.τ).loc Cert.AdamwWFf1Ideal.main_arg3) = m ((c.tc : Thread Cert.AdamwWFf1Ideal.nD Cert.AdamwWFf1Ideal.τ).loc Cert.AdamwWFf1Ideal.main_arg3))
      ∧ r.2.sem = fun _ => 0)

def quiescent_AdamwWFf1RefIdeal [hAdamwWFf1RefIdeal : Cert.AdamwWFf1RefIdeal.Facts] : Prop :=
  ∀ (m : (ℓ : Loc Cert.AdamwWFf1RefIdeal.nD Cert.AdamwWFf1RefIdeal.τ Cert.AdamwWFf1RefIdeal.sig) → Buf (Elt Ideal) ℓ) (g : Dev Cert.AdamwWFf1RefIdeal.nD → PrngReg), Pre_AdamwWFf1RefIdeal m →
    θ_run (Cert.AdamwWFf1RefIdeal.defs (F := Ideal)) (onTc (τ := Cert.AdamwWFf1RefIdeal.τ) (Cert.AdamwWFf1RefIdeal.main (F := Ideal))) ⟨m, fun _ => 0, g⟩ (fun r => (∀ c : Dev Cert.AdamwWFf1RefIdeal.nD,
      r.2.mem ((c.tc : Thread Cert.AdamwWFf1RefIdeal.nD Cert.AdamwWFf1RefIdeal.τ).loc Cert.AdamwWFf1RefIdeal.main_arg0) = m ((c.tc : Thread Cert.AdamwWFf1RefIdeal.nD Cert.AdamwWFf1RefIdeal.τ).loc Cert.AdamwWFf1RefIdeal.main_arg0)
      ∧ r.2.mem ((c.tc : Thread Cert.AdamwWFf1RefIdeal.nD Cert.AdamwWFf1RefIdeal.τ).loc Cert.AdamwWFf1RefIdeal.main_arg1) = m ((c.tc : Thread Cert.AdamwWFf1RefIdeal.nD Cert.AdamwWFf1RefIdeal.τ).loc Cert.AdamwWFf1RefIdeal.main_arg1)
      ∧ r.2.mem ((c.tc : Thread Cert.AdamwWFf1RefIdeal.nD Cert.AdamwWFf1RefIdeal.τ).loc Cert.AdamwWFf1RefIdeal.main_arg2) = m ((c.tc : Thread Cert.AdamwWFf1RefIdeal.nD Cert.AdamwWFf1RefIdeal.τ).loc Cert.AdamwWFf1RefIdeal.main_arg2)
      ∧ r.2.mem ((c.tc : Thread Cert.AdamwWFf1RefIdeal.nD Cert.AdamwWFf1RefIdeal.τ).loc Cert.AdamwWFf1RefIdeal.main_arg3) = m ((c.tc : Thread Cert.AdamwWFf1RefIdeal.nD Cert.AdamwWFf1RefIdeal.τ).loc Cert.AdamwWFf1RefIdeal.main_arg3))
      ∧ r.2.sem = fun _ => 0)

def quiescent_SumIn [hSumIn : Cert.SumIn.Facts] : Prop :=
  ∀ (m : (ℓ : Loc Cert.SumIn.nD Cert.SumIn.τ Cert.SumIn.sig) → Buf (Elt Bits) ℓ) (g : Dev Cert.SumIn.nD → PrngReg), Pre_SumIn m →
    θ_run (Cert.SumIn.defs (F := Bits)) (onTc (τ := Cert.SumIn.τ) (Cert.SumIn.main (F := Bits))) ⟨m, fun _ => 0, g⟩ (fun r => (∀ c : Dev Cert.SumIn.nD,
      r.2.mem ((c.tc : Thread Cert.SumIn.nD Cert.SumIn.τ).loc Cert.SumIn.main_arg0) = m ((c.tc : Thread Cert.SumIn.nD Cert.SumIn.τ).loc Cert.SumIn.main_arg0))
      ∧ r.2.sem = fun _ => 0)

def quiescent_SumInIdeal [hSumInIdeal : Cert.SumInIdeal.Facts] : Prop :=
  ∀ (m : (ℓ : Loc Cert.SumInIdeal.nD Cert.SumInIdeal.τ Cert.SumInIdeal.sig) → Buf (Elt Ideal) ℓ) (g : Dev Cert.SumInIdeal.nD → PrngReg), Pre_SumInIdeal m →
    θ_run (Cert.SumInIdeal.defs (F := Ideal)) (onTc (τ := Cert.SumInIdeal.τ) (Cert.SumInIdeal.main (F := Ideal))) ⟨m, fun _ => 0, g⟩ (fun r => (∀ c : Dev Cert.SumInIdeal.nD,
      r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0))
      ∧ r.2.sem = fun _ => 0)

def quiescent_SumInRefIdeal [hSumInRefIdeal : Cert.SumInRefIdeal.Facts] : Prop :=
  ∀ (m : (ℓ : Loc Cert.SumInRefIdeal.nD Cert.SumInRefIdeal.τ Cert.SumInRefIdeal.sig) → Buf (Elt Ideal) ℓ) (g : Dev Cert.SumInRefIdeal.nD → PrngReg), Pre_SumInRefIdeal m →
    θ_run (Cert.SumInRefIdeal.defs (F := Ideal)) (onTc (τ := Cert.SumInRefIdeal.τ) (Cert.SumInRefIdeal.main (F := Ideal))) ⟨m, fun _ => 0, g⟩ (fun r => (∀ c : Dev Cert.SumInRefIdeal.nD,
      r.2.mem ((c.tc : Thread Cert.SumInRefIdeal.nD Cert.SumInRefIdeal.τ).loc Cert.SumInRefIdeal.main_arg0) = m ((c.tc : Thread Cert.SumInRefIdeal.nD Cert.SumInRefIdeal.τ).loc Cert.SumInRefIdeal.main_arg0))
      ∧ r.2.sem = fun _ => 0)

def quiescent_SumOut [hSumOut : Cert.SumOut.Facts] : Prop :=
  ∀ (m : (ℓ : Loc Cert.SumOut.nD Cert.SumOut.τ Cert.SumOut.sig) → Buf (Elt Bits) ℓ) (g : Dev Cert.SumOut.nD → PrngReg), Pre_SumOut m →
    θ_run (Cert.SumOut.defs (F := Bits)) (onTc (τ := Cert.SumOut.τ) (Cert.SumOut.main (F := Bits))) ⟨m, fun _ => 0, g⟩ (fun r => (∀ c : Dev Cert.SumOut.nD,
      r.2.mem ((c.tc : Thread Cert.SumOut.nD Cert.SumOut.τ).loc Cert.SumOut.main_arg0) = m ((c.tc : Thread Cert.SumOut.nD Cert.SumOut.τ).loc Cert.SumOut.main_arg0))
      ∧ r.2.sem = fun _ => 0)

def quiescent_SumOutIdeal [hSumOutIdeal : Cert.SumOutIdeal.Facts] : Prop :=
  ∀ (m : (ℓ : Loc Cert.SumOutIdeal.nD Cert.SumOutIdeal.τ Cert.SumOutIdeal.sig) → Buf (Elt Ideal) ℓ) (g : Dev Cert.SumOutIdeal.nD → PrngReg), Pre_SumOutIdeal m →
    θ_run (Cert.SumOutIdeal.defs (F := Ideal)) (onTc (τ := Cert.SumOutIdeal.τ) (Cert.SumOutIdeal.main (F := Ideal))) ⟨m, fun _ => 0, g⟩ (fun r => (∀ c : Dev Cert.SumOutIdeal.nD,
      r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0))
      ∧ r.2.sem = fun _ => 0)

def quiescent_SumOutRefIdeal [hSumOutRefIdeal : Cert.SumOutRefIdeal.Facts] : Prop :=
  ∀ (m : (ℓ : Loc Cert.SumOutRefIdeal.nD Cert.SumOutRefIdeal.τ Cert.SumOutRefIdeal.sig) → Buf (Elt Ideal) ℓ) (g : Dev Cert.SumOutRefIdeal.nD → PrngReg), Pre_SumOutRefIdeal m →
    θ_run (Cert.SumOutRefIdeal.defs (F := Ideal)) (onTc (τ := Cert.SumOutRefIdeal.τ) (Cert.SumOutRefIdeal.main (F := Ideal))) ⟨m, fun _ => 0, g⟩ (fun r => (∀ c : Dev Cert.SumOutRefIdeal.nD,
      r.2.mem ((c.tc : Thread Cert.SumOutRefIdeal.nD Cert.SumOutRefIdeal.τ).loc Cert.SumOutRefIdeal.main_arg0) = m ((c.tc : Thread Cert.SumOutRefIdeal.nD Cert.SumOutRefIdeal.τ).loc Cert.SumOutRefIdeal.main_arg0))
      ∧ r.2.sem = fun _ => 0)

def quiescent_SumFf [hSumFf : Cert.SumFf.Facts] : Prop :=
  ∀ (m : (ℓ : Loc Cert.SumFf.nD Cert.SumFf.τ Cert.SumFf.sig) → Buf (Elt Bits) ℓ) (g : Dev Cert.SumFf.nD → PrngReg), Pre_SumFf m →
    θ_run (Cert.SumFf.defs (F := Bits)) (onTc (τ := Cert.SumFf.τ) (Cert.SumFf.main (F := Bits))) ⟨m, fun _ => 0, g⟩ (fun r => (∀ c : Dev Cert.SumFf.nD,
      r.2.mem ((c.tc : Thread Cert.SumFf.nD Cert.SumFf.τ).loc Cert.SumFf.main_arg0) = m ((c.tc : Thread Cert.SumFf.nD Cert.SumFf.τ).loc Cert.SumFf.main_arg0))
      ∧ r.2.sem = fun _ => 0)

def quiescent_SumFfIdeal [hSumFfIdeal : Cert.SumFfIdeal.Facts] : Prop :=
  ∀ (m : (ℓ : Loc Cert.SumFfIdeal.nD Cert.SumFfIdeal.τ Cert.SumFfIdeal.sig) → Buf (Elt Ideal) ℓ) (g : Dev Cert.SumFfIdeal.nD → PrngReg), Pre_SumFfIdeal m →
    θ_run (Cert.SumFfIdeal.defs (F := Ideal)) (onTc (τ := Cert.SumFfIdeal.τ) (Cert.SumFfIdeal.main (F := Ideal))) ⟨m, fun _ => 0, g⟩ (fun r => (∀ c : Dev Cert.SumFfIdeal.nD,
      r.2.mem ((c.tc : Thread Cert.SumFfIdeal.nD Cert.SumFfIdeal.τ).loc Cert.SumFfIdeal.main_arg0) = m ((c.tc : Thread Cert.SumFfIdeal.nD Cert.SumFfIdeal.τ).loc Cert.SumFfIdeal.main_arg0))
      ∧ r.2.sem = fun _ => 0)

def quiescent_SumFfRefIdeal [hSumFfRefIdeal : Cert.SumFfRefIdeal.Facts] : Prop :=
  ∀ (m : (ℓ : Loc Cert.SumFfRefIdeal.nD Cert.SumFfRefIdeal.τ Cert.SumFfRefIdeal.sig) → Buf (Elt Ideal) ℓ) (g : Dev Cert.SumFfRefIdeal.nD → PrngReg), Pre_SumFfRefIdeal m →
    θ_run (Cert.SumFfRefIdeal.defs (F := Ideal)) (onTc (τ := Cert.SumFfRefIdeal.τ) (Cert.SumFfRefIdeal.main (F := Ideal))) ⟨m, fun _ => 0, g⟩ (fun r => (∀ c : Dev Cert.SumFfRefIdeal.nD,
      r.2.mem ((c.tc : Thread Cert.SumFfRefIdeal.nD Cert.SumFfRefIdeal.τ).loc Cert.SumFfRefIdeal.main_arg0) = m ((c.tc : Thread Cert.SumFfRefIdeal.nD Cert.SumFfRefIdeal.τ).loc Cert.SumFfRefIdeal.main_arg0))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_AddIn [hAddIn : Cert.AddIn.Facts] [hPre_core_named_in : Cert.Pre_core_named_in.Facts] : Prop :=
  ∀ (m : (ℓ : Loc Cert.AddIn.nD Cert.AddIn.τ Cert.AddIn.sig) → Buf (Elt Bits) ℓ) (g : Dev Cert.AddIn.nD → PrngReg), Pre_AddIn m →
    θ_run (Cert.AddIn.defs (F := Bits)) (onTc (τ := Cert.AddIn.τ) (Cert.AddIn.main (F := Bits))) ⟨m, fun _ => 0, g⟩ (fun r => (∀ c : Dev Cert.AddIn.nD,
      r.2.mem ((c.tc : Thread Cert.AddIn.nD Cert.AddIn.τ).loc Cert.AddIn.main_arg0) = m ((c.tc : Thread Cert.AddIn.nD Cert.AddIn.τ).loc Cert.AddIn.main_arg0)
      ∧ r.2.mem ((c.tc : Thread Cert.AddIn.nD Cert.AddIn.τ).loc Cert.AddIn.main_arg1) = m ((c.tc : Thread Cert.AddIn.nD Cert.AddIn.τ).loc Cert.AddIn.main_arg1)
      ∧ r.2.mem ((c.tc : Thread Cert.AddIn.nD Cert.AddIn.τ).loc Cert.AddIn.main_arg2) = m ((c.tc : Thread Cert.AddIn.nD Cert.AddIn.τ).loc Cert.AddIn.main_arg2))
      ∧ r.2.sem = fun _ => 0)

def quiescent_AddInIdeal [hAddInIdeal : Cert.AddInIdeal.Facts] [hPre_core_named_in : Cert.Pre_core_named_in.Facts] : Prop :=
  ∀ (m : (ℓ : Loc Cert.AddInIdeal.nD Cert.AddInIdeal.τ Cert.AddInIdeal.sig) → Buf (Elt Ideal) ℓ) (g : Dev Cert.AddInIdeal.nD → PrngReg), Pre_AddInIdeal m →
    θ_run (Cert.AddInIdeal.defs (F := Ideal)) (onTc (τ := Cert.AddInIdeal.τ) (Cert.AddInIdeal.main (F := Ideal))) ⟨m, fun _ => 0, g⟩ (fun r => (∀ c : Dev Cert.AddInIdeal.nD,
      r.2.mem ((c.tc : Thread Cert.AddInIdeal.nD Cert.AddInIdeal.τ).loc Cert.AddInIdeal.main_arg0) = m ((c.tc : Thread Cert.AddInIdeal.nD Cert.AddInIdeal.τ).loc Cert.AddInIdeal.main_arg0)
      ∧ r.2.mem ((c.tc : Thread Cert.AddInIdeal.nD Cert.AddInIdeal.τ).loc Cert.AddInIdeal.main_arg1) = m ((c.tc : Thread Cert.AddInIdeal.nD Cert.AddInIdeal.τ).loc Cert.AddInIdeal.main_arg1)
      ∧ r.2.mem ((c.tc : Thread Cert.AddInIdeal.nD Cert.AddInIdeal.τ).loc Cert.AddInIdeal.main_arg2) = m ((c.tc : Thread Cert.AddInIdeal.nD Cert.AddInIdeal.τ).loc Cert.AddInIdeal.main_arg2))
      ∧ r.2.sem = fun _ => 0)

def quiescent_AddInRefIdeal [hAddInRefIdeal : Cert.AddInRefIdeal.Facts] : Prop :=
  ∀ (m : (ℓ : Loc Cert.AddInRefIdeal.nD Cert.AddInRefIdeal.τ Cert.AddInRefIdeal.sig) → Buf (Elt Ideal) ℓ) (g : Dev Cert.AddInRefIdeal.nD → PrngReg), Pre_AddInRefIdeal m →
    θ_run (Cert.AddInRefIdeal.defs (F := Ideal)) (onTc (τ := Cert.AddInRefIdeal.τ) (Cert.AddInRefIdeal.main (F := Ideal))) ⟨m, fun _ => 0, g⟩ (fun r => (∀ c : Dev Cert.AddInRefIdeal.nD,
      r.2.mem ((c.tc : Thread Cert.AddInRefIdeal.nD Cert.AddInRefIdeal.τ).loc Cert.AddInRefIdeal.main_arg0) = m ((c.tc : Thread Cert.AddInRefIdeal.nD Cert.AddInRefIdeal.τ).loc Cert.AddInRefIdeal.main_arg0)
      ∧ r.2.mem ((c.tc : Thread Cert.AddInRefIdeal.nD Cert.AddInRefIdeal.τ).loc Cert.AddInRefIdeal.main_arg1) = m ((c.tc : Thread Cert.AddInRefIdeal.nD Cert.AddInRefIdeal.τ).loc Cert.AddInRefIdeal.main_arg1)
      ∧ r.2.mem ((c.tc : Thread Cert.AddInRefIdeal.nD Cert.AddInRefIdeal.τ).loc Cert.AddInRefIdeal.main_arg2) = m ((c.tc : Thread Cert.AddInRefIdeal.nD Cert.AddInRefIdeal.τ).loc Cert.AddInRefIdeal.main_arg2))
      ∧ r.2.sem = fun _ => 0)

def quiescent_AddInRefIdeal_pre_core_named_in [hAddInRefIdeal : Cert.AddInRefIdeal.Facts] [hPre_core_named_in : Cert.Pre_core_named_in.Facts] : Prop :=
  ∀ (m : (ℓ : Loc Cert.AddInRefIdeal.nD Cert.AddInRefIdeal.τ Cert.AddInRefIdeal.sig) → Buf (Elt Ideal) ℓ) (g : Dev Cert.AddInRefIdeal.nD → PrngReg), Pre_AddInRefIdeal_core_named_in m →
    θ_run (Cert.AddInRefIdeal.defs (F := Ideal)) (onTc (τ := Cert.AddInRefIdeal.τ) (Cert.AddInRefIdeal.main (F := Ideal))) ⟨m, fun _ => 0, g⟩ (fun r => (∀ c : Dev Cert.AddInRefIdeal.nD,
      r.2.mem ((c.tc : Thread Cert.AddInRefIdeal.nD Cert.AddInRefIdeal.τ).loc Cert.AddInRefIdeal.main_arg0) = m ((c.tc : Thread Cert.AddInRefIdeal.nD Cert.AddInRefIdeal.τ).loc Cert.AddInRefIdeal.main_arg0)
      ∧ r.2.mem ((c.tc : Thread Cert.AddInRefIdeal.nD Cert.AddInRefIdeal.τ).loc Cert.AddInRefIdeal.main_arg1) = m ((c.tc : Thread Cert.AddInRefIdeal.nD Cert.AddInRefIdeal.τ).loc Cert.AddInRefIdeal.main_arg1)
      ∧ r.2.mem ((c.tc : Thread Cert.AddInRefIdeal.nD Cert.AddInRefIdeal.τ).loc Cert.AddInRefIdeal.main_arg2) = m ((c.tc : Thread Cert.AddInRefIdeal.nD Cert.AddInRefIdeal.τ).loc Cert.AddInRefIdeal.main_arg2))
      ∧ r.2.sem = fun _ => 0)

def quiescent_AddOut [hAddOut : Cert.AddOut.Facts] [hPre_core_named_out : Cert.Pre_core_named_out.Facts] : Prop :=
  ∀ (m : (ℓ : Loc Cert.AddOut.nD Cert.AddOut.τ Cert.AddOut.sig) → Buf (Elt Bits) ℓ) (g : Dev Cert.AddOut.nD → PrngReg), Pre_AddOut m →
    θ_run (Cert.AddOut.defs (F := Bits)) (onTc (τ := Cert.AddOut.τ) (Cert.AddOut.main (F := Bits))) ⟨m, fun _ => 0, g⟩ (fun r => (∀ c : Dev Cert.AddOut.nD,
      r.2.mem ((c.tc : Thread Cert.AddOut.nD Cert.AddOut.τ).loc Cert.AddOut.main_arg0) = m ((c.tc : Thread Cert.AddOut.nD Cert.AddOut.τ).loc Cert.AddOut.main_arg0)
      ∧ r.2.mem ((c.tc : Thread Cert.AddOut.nD Cert.AddOut.τ).loc Cert.AddOut.main_arg1) = m ((c.tc : Thread Cert.AddOut.nD Cert.AddOut.τ).loc Cert.AddOut.main_arg1)
      ∧ r.2.mem ((c.tc : Thread Cert.AddOut.nD Cert.AddOut.τ).loc Cert.AddOut.main_arg2) = m ((c.tc : Thread Cert.AddOut.nD Cert.AddOut.τ).loc Cert.AddOut.main_arg2))
      ∧ r.2.sem = fun _ => 0)

def quiescent_AddOutIdeal [hAddOutIdeal : Cert.AddOutIdeal.Facts] [hPre_core_named_out : Cert.Pre_core_named_out.Facts] : Prop :=
  ∀ (m : (ℓ : Loc Cert.AddOutIdeal.nD Cert.AddOutIdeal.τ Cert.AddOutIdeal.sig) → Buf (Elt Ideal) ℓ) (g : Dev Cert.AddOutIdeal.nD → PrngReg), Pre_AddOutIdeal m →
    θ_run (Cert.AddOutIdeal.defs (F := Ideal)) (onTc (τ := Cert.AddOutIdeal.τ) (Cert.AddOutIdeal.main (F := Ideal))) ⟨m, fun _ => 0, g⟩ (fun r => (∀ c : Dev Cert.AddOutIdeal.nD,
      r.2.mem ((c.tc : Thread Cert.AddOutIdeal.nD Cert.AddOutIdeal.τ).loc Cert.AddOutIdeal.main_arg0) = m ((c.tc : Thread Cert.AddOutIdeal.nD Cert.AddOutIdeal.τ).loc Cert.AddOutIdeal.main_arg0)
      ∧ r.2.mem ((c.tc : Thread Cert.AddOutIdeal.nD Cert.AddOutIdeal.τ).loc Cert.AddOutIdeal.main_arg1) = m ((c.tc : Thread Cert.AddOutIdeal.nD Cert.AddOutIdeal.τ).loc Cert.AddOutIdeal.main_arg1)
      ∧ r.2.mem ((c.tc : Thread Cert.AddOutIdeal.nD Cert.AddOutIdeal.τ).loc Cert.AddOutIdeal.main_arg2) = m ((c.tc : Thread Cert.AddOutIdeal.nD Cert.AddOutIdeal.τ).loc Cert.AddOutIdeal.main_arg2))
      ∧ r.2.sem = fun _ => 0)

def quiescent_AddOutRefIdeal [hAddOutRefIdeal : Cert.AddOutRefIdeal.Facts] : Prop :=
  ∀ (m : (ℓ : Loc Cert.AddOutRefIdeal.nD Cert.AddOutRefIdeal.τ Cert.AddOutRefIdeal.sig) → Buf (Elt Ideal) ℓ) (g : Dev Cert.AddOutRefIdeal.nD → PrngReg), Pre_AddOutRefIdeal m →
    θ_run (Cert.AddOutRefIdeal.defs (F := Ideal)) (onTc (τ := Cert.AddOutRefIdeal.τ) (Cert.AddOutRefIdeal.main (F := Ideal))) ⟨m, fun _ => 0, g⟩ (fun r => (∀ c : Dev Cert.AddOutRefIdeal.nD,
      r.2.mem ((c.tc : Thread Cert.AddOutRefIdeal.nD Cert.AddOutRefIdeal.τ).loc Cert.AddOutRefIdeal.main_arg0) = m ((c.tc : Thread Cert.AddOutRefIdeal.nD Cert.AddOutRefIdeal.τ).loc Cert.AddOutRefIdeal.main_arg0)
      ∧ r.2.mem ((c.tc : Thread Cert.AddOutRefIdeal.nD Cert.AddOutRefIdeal.τ).loc Cert.AddOutRefIdeal.main_arg1) = m ((c.tc : Thread Cert.AddOutRefIdeal.nD Cert.AddOutRefIdeal.τ).loc Cert.AddOutRefIdeal.main_arg1)
      ∧ r.2.mem ((c.tc : Thread Cert.AddOutRefIdeal.nD Cert.AddOutRefIdeal.τ).loc Cert.AddOutRefIdeal.main_arg2) = m ((c.tc : Thread Cert.AddOutRefIdeal.nD Cert.AddOutRefIdeal.τ).loc Cert.AddOutRefIdeal.main_arg2))
      ∧ r.2.sem = fun _ => 0)

def quiescent_AddOutRefIdeal_pre_core_named_out [hAddOutRefIdeal : Cert.AddOutRefIdeal.Facts] [hPre_core_named_out : Cert.Pre_core_named_out.Facts] : Prop :=
  ∀ (m : (ℓ : Loc Cert.AddOutRefIdeal.nD Cert.AddOutRefIdeal.τ Cert.AddOutRefIdeal.sig) → Buf (Elt Ideal) ℓ) (g : Dev Cert.AddOutRefIdeal.nD → PrngReg), Pre_AddOutRefIdeal_core_named_out m →
    θ_run (Cert.AddOutRefIdeal.defs (F := Ideal)) (onTc (τ := Cert.AddOutRefIdeal.τ) (Cert.AddOutRefIdeal.main (F := Ideal))) ⟨m, fun _ => 0, g⟩ (fun r => (∀ c : Dev Cert.AddOutRefIdeal.nD,
      r.2.mem ((c.tc : Thread Cert.AddOutRefIdeal.nD Cert.AddOutRefIdeal.τ).loc Cert.AddOutRefIdeal.main_arg0) = m ((c.tc : Thread Cert.AddOutRefIdeal.nD Cert.AddOutRefIdeal.τ).loc Cert.AddOutRefIdeal.main_arg0)
      ∧ r.2.mem ((c.tc : Thread Cert.AddOutRefIdeal.nD Cert.AddOutRefIdeal.τ).loc Cert.AddOutRefIdeal.main_arg1) = m ((c.tc : Thread Cert.AddOutRefIdeal.nD Cert.AddOutRefIdeal.τ).loc Cert.AddOutRefIdeal.main_arg1)
      ∧ r.2.mem ((c.tc : Thread Cert.AddOutRefIdeal.nD Cert.AddOutRefIdeal.τ).loc Cert.AddOutRefIdeal.main_arg2) = m ((c.tc : Thread Cert.AddOutRefIdeal.nD Cert.AddOutRefIdeal.τ).loc Cert.AddOutRefIdeal.main_arg2))
      ∧ r.2.sem = fun _ => 0)

def quiescent_AddFf [hAddFf : Cert.AddFf.Facts] [hPre_core_named_ff : Cert.Pre_core_named_ff.Facts] : Prop :=
  ∀ (m : (ℓ : Loc Cert.AddFf.nD Cert.AddFf.τ Cert.AddFf.sig) → Buf (Elt Bits) ℓ) (g : Dev Cert.AddFf.nD → PrngReg), Pre_AddFf m →
    θ_run (Cert.AddFf.defs (F := Bits)) (onTc (τ := Cert.AddFf.τ) (Cert.AddFf.main (F := Bits))) ⟨m, fun _ => 0, g⟩ (fun r => (∀ c : Dev Cert.AddFf.nD,
      r.2.mem ((c.tc : Thread Cert.AddFf.nD Cert.AddFf.τ).loc Cert.AddFf.main_arg0) = m ((c.tc : Thread Cert.AddFf.nD Cert.AddFf.τ).loc Cert.AddFf.main_arg0)
      ∧ r.2.mem ((c.tc : Thread Cert.AddFf.nD Cert.AddFf.τ).loc Cert.AddFf.main_arg1) = m ((c.tc : Thread Cert.AddFf.nD Cert.AddFf.τ).loc Cert.AddFf.main_arg1)
      ∧ r.2.mem ((c.tc : Thread Cert.AddFf.nD Cert.AddFf.τ).loc Cert.AddFf.main_arg2) = m ((c.tc : Thread Cert.AddFf.nD Cert.AddFf.τ).loc Cert.AddFf.main_arg2))
      ∧ r.2.sem = fun _ => 0)

def quiescent_AddFfIdeal [hAddFfIdeal : Cert.AddFfIdeal.Facts] [hPre_core_named_ff : Cert.Pre_core_named_ff.Facts] : Prop :=
  ∀ (m : (ℓ : Loc Cert.AddFfIdeal.nD Cert.AddFfIdeal.τ Cert.AddFfIdeal.sig) → Buf (Elt Ideal) ℓ) (g : Dev Cert.AddFfIdeal.nD → PrngReg), Pre_AddFfIdeal m →
    θ_run (Cert.AddFfIdeal.defs (F := Ideal)) (onTc (τ := Cert.AddFfIdeal.τ) (Cert.AddFfIdeal.main (F := Ideal))) ⟨m, fun _ => 0, g⟩ (fun r => (∀ c : Dev Cert.AddFfIdeal.nD,
      r.2.mem ((c.tc : Thread Cert.AddFfIdeal.nD Cert.AddFfIdeal.τ).loc Cert.AddFfIdeal.main_arg0) = m ((c.tc : Thread Cert.AddFfIdeal.nD Cert.AddFfIdeal.τ).loc Cert.AddFfIdeal.main_arg0)
      ∧ r.2.mem ((c.tc : Thread Cert.AddFfIdeal.nD Cert.AddFfIdeal.τ).loc Cert.AddFfIdeal.main_arg1) = m ((c.tc : Thread Cert.AddFfIdeal.nD Cert.AddFfIdeal.τ).loc Cert.AddFfIdeal.main_arg1)
      ∧ r.2.mem ((c.tc : Thread Cert.AddFfIdeal.nD Cert.AddFfIdeal.τ).loc Cert.AddFfIdeal.main_arg2) = m ((c.tc : Thread Cert.AddFfIdeal.nD Cert.AddFfIdeal.τ).loc Cert.AddFfIdeal.main_arg2))
      ∧ r.2.sem = fun _ => 0)

def quiescent_AddFfRefIdeal [hAddFfRefIdeal : Cert.AddFfRefIdeal.Facts] : Prop :=
  ∀ (m : (ℓ : Loc Cert.AddFfRefIdeal.nD Cert.AddFfRefIdeal.τ Cert.AddFfRefIdeal.sig) → Buf (Elt Ideal) ℓ) (g : Dev Cert.AddFfRefIdeal.nD → PrngReg), Pre_AddFfRefIdeal m →
    θ_run (Cert.AddFfRefIdeal.defs (F := Ideal)) (onTc (τ := Cert.AddFfRefIdeal.τ) (Cert.AddFfRefIdeal.main (F := Ideal))) ⟨m, fun _ => 0, g⟩ (fun r => (∀ c : Dev Cert.AddFfRefIdeal.nD,
      r.2.mem ((c.tc : Thread Cert.AddFfRefIdeal.nD Cert.AddFfRefIdeal.τ).loc Cert.AddFfRefIdeal.main_arg0) = m ((c.tc : Thread Cert.AddFfRefIdeal.nD Cert.AddFfRefIdeal.τ).loc Cert.AddFfRefIdeal.main_arg0)
      ∧ r.2.mem ((c.tc : Thread Cert.AddFfRefIdeal.nD Cert.AddFfRefIdeal.τ).loc Cert.AddFfRefIdeal.main_arg1) = m ((c.tc : Thread Cert.AddFfRefIdeal.nD Cert.AddFfRefIdeal.τ).loc Cert.AddFfRefIdeal.main_arg1)
      ∧ r.2.mem ((c.tc : Thread Cert.AddFfRefIdeal.nD Cert.AddFfRefIdeal.τ).loc Cert.AddFfRefIdeal.main_arg2) = m ((c.tc : Thread Cert.AddFfRefIdeal.nD Cert.AddFfRefIdeal.τ).loc Cert.AddFfRefIdeal.main_arg2))
      ∧ r.2.sem = fun _ => 0)

def quiescent_AddFfRefIdeal_pre_core_named_ff [hAddFfRefIdeal : Cert.AddFfRefIdeal.Facts] [hPre_core_named_ff : Cert.Pre_core_named_ff.Facts] : Prop :=
  ∀ (m : (ℓ : Loc Cert.AddFfRefIdeal.nD Cert.AddFfRefIdeal.τ Cert.AddFfRefIdeal.sig) → Buf (Elt Ideal) ℓ) (g : Dev Cert.AddFfRefIdeal.nD → PrngReg), Pre_AddFfRefIdeal_core_named_ff m →
    θ_run (Cert.AddFfRefIdeal.defs (F := Ideal)) (onTc (τ := Cert.AddFfRefIdeal.τ) (Cert.AddFfRefIdeal.main (F := Ideal))) ⟨m, fun _ => 0, g⟩ (fun r => (∀ c : Dev Cert.AddFfRefIdeal.nD,
      r.2.mem ((c.tc : Thread Cert.AddFfRefIdeal.nD Cert.AddFfRefIdeal.τ).loc Cert.AddFfRefIdeal.main_arg0) = m ((c.tc : Thread Cert.AddFfRefIdeal.nD Cert.AddFfRefIdeal.τ).loc Cert.AddFfRefIdeal.main_arg0)
      ∧ r.2.mem ((c.tc : Thread Cert.AddFfRefIdeal.nD Cert.AddFfRefIdeal.τ).loc Cert.AddFfRefIdeal.main_arg1) = m ((c.tc : Thread Cert.AddFfRefIdeal.nD Cert.AddFfRefIdeal.τ).loc Cert.AddFfRefIdeal.main_arg1)
      ∧ r.2.mem ((c.tc : Thread Cert.AddFfRefIdeal.nD Cert.AddFfRefIdeal.τ).loc Cert.AddFfRefIdeal.main_arg2) = m ((c.tc : Thread Cert.AddFfRefIdeal.nD Cert.AddFfRefIdeal.τ).loc Cert.AddFfRefIdeal.main_arg2))
      ∧ r.2.sem = fun _ => 0)

def quiescent_WgradGla [hWgradGla : Cert.WgradGla.Facts] : Prop :=
  ∀ (m : (ℓ : Loc Cert.WgradGla.nD Cert.WgradGla.τ Cert.WgradGla.sig) → Buf (Elt Bits) ℓ) (g : Dev Cert.WgradGla.nD → PrngReg), Pre_WgradGla m →
    θ_run (Cert.WgradGla.defs (F := Bits)) (onTc (τ := Cert.WgradGla.τ) (Cert.WgradGla.main (F := Bits))) ⟨m, fun _ => 0, g⟩ (fun r => (∀ c : Dev Cert.WgradGla.nD,
      r.2.mem ((c.tc : Thread Cert.WgradGla.nD Cert.WgradGla.τ).loc Cert.WgradGla.main_arg0) = m ((c.tc : Thread Cert.WgradGla.nD Cert.WgradGla.τ).loc Cert.WgradGla.main_arg0)
      ∧ r.2.mem ((c.tc : Thread Cert.WgradGla.nD Cert.WgradGla.τ).loc Cert.WgradGla.main_arg1) = m ((c.tc : Thread Cert.WgradGla.nD Cert.WgradGla.τ).loc Cert.WgradGla.main_arg1))
      ∧ r.2.sem = fun _ => 0)

def quiescent_WgradGlaIdeal [hWgradGlaIdeal : Cert.WgradGlaIdeal.Facts] : Prop :=
  ∀ (m : (ℓ : Loc Cert.WgradGlaIdeal.nD Cert.WgradGlaIdeal.τ Cert.WgradGlaIdeal.sig) → Buf (Elt Ideal) ℓ) (g : Dev Cert.WgradGlaIdeal.nD → PrngReg), Pre_WgradGlaIdeal m →
    θ_run (Cert.WgradGlaIdeal.defs (F := Ideal)) (onTc (τ := Cert.WgradGlaIdeal.τ) (Cert.WgradGlaIdeal.main (F := Ideal))) ⟨m, fun _ => 0, g⟩ (fun r => (∀ c : Dev Cert.WgradGlaIdeal.nD,
      r.2.mem ((c.tc : Thread Cert.WgradGlaIdeal.nD Cert.WgradGlaIdeal.τ).loc Cert.WgradGlaIdeal.main_arg0) = m ((c.tc : Thread Cert.WgradGlaIdeal.nD Cert.WgradGlaIdeal.τ).loc Cert.WgradGlaIdeal.main_arg0)
      ∧ r.2.mem ((c.tc : Thread Cert.WgradGlaIdeal.nD Cert.WgradGlaIdeal.τ).loc Cert.WgradGlaIdeal.main_arg1) = m ((c.tc : Thread Cert.WgradGlaIdeal.nD Cert.WgradGlaIdeal.τ).loc Cert.WgradGlaIdeal.main_arg1))
      ∧ r.2.sem = fun _ => 0)

def quiescent_WgradGlaRefIdeal [hWgradGlaRefIdeal : Cert.WgradGlaRefIdeal.Facts] : Prop :=
  ∀ (m : (ℓ : Loc Cert.WgradGlaRefIdeal.nD Cert.WgradGlaRefIdeal.τ Cert.WgradGlaRefIdeal.sig) → Buf (Elt Ideal) ℓ) (g : Dev Cert.WgradGlaRefIdeal.nD → PrngReg), Pre_WgradGlaRefIdeal m →
    θ_run (Cert.WgradGlaRefIdeal.defs (F := Ideal)) (onTc (τ := Cert.WgradGlaRefIdeal.τ) (Cert.WgradGlaRefIdeal.main (F := Ideal))) ⟨m, fun _ => 0, g⟩ (fun r => (∀ c : Dev Cert.WgradGlaRefIdeal.nD,
      r.2.mem ((c.tc : Thread Cert.WgradGlaRefIdeal.nD Cert.WgradGlaRefIdeal.τ).loc Cert.WgradGlaRefIdeal.main_arg0) = m ((c.tc : Thread Cert.WgradGlaRefIdeal.nD Cert.WgradGlaRefIdeal.τ).loc Cert.WgradGlaRefIdeal.main_arg0)
      ∧ r.2.mem ((c.tc : Thread Cert.WgradGlaRefIdeal.nD Cert.WgradGlaRefIdeal.τ).loc Cert.WgradGlaRefIdeal.main_arg1) = m ((c.tc : Thread Cert.WgradGlaRefIdeal.nD Cert.WgradGlaRefIdeal.τ).loc Cert.WgradGlaRefIdeal.main_arg1))
      ∧ r.2.sem = fun _ => 0)

def quiescent_WgradHeads [hWgradHeads : Cert.WgradHeads.Facts] : Prop :=
  ∀ (m : (ℓ : Loc Cert.WgradHeads.nD Cert.WgradHeads.τ Cert.WgradHeads.sig) → Buf (Elt Bits) ℓ) (g : Dev Cert.WgradHeads.nD → PrngReg), Pre_WgradHeads m →
    θ_run (Cert.WgradHeads.defs (F := Bits)) (onTc (τ := Cert.WgradHeads.τ) (Cert.WgradHeads.main (F := Bits))) ⟨m, fun _ => 0, g⟩ (fun r => (∀ c : Dev Cert.WgradHeads.nD,
      r.2.mem ((c.tc : Thread Cert.WgradHeads.nD Cert.WgradHeads.τ).loc Cert.WgradHeads.main_arg0) = m ((c.tc : Thread Cert.WgradHeads.nD Cert.WgradHeads.τ).loc Cert.WgradHeads.main_arg0)
      ∧ r.2.mem ((c.tc : Thread Cert.WgradHeads.nD Cert.WgradHeads.τ).loc Cert.WgradHeads.main_arg1) = m ((c.tc : Thread Cert.WgradHeads.nD Cert.WgradHeads.τ).loc Cert.WgradHeads.main_arg1))
      ∧ r.2.sem = fun _ => 0)

def quiescent_WgradHeadsIdeal [hWgradHeadsIdeal : Cert.WgradHeadsIdeal.Facts] : Prop :=
  ∀ (m : (ℓ : Loc Cert.WgradHeadsIdeal.nD Cert.WgradHeadsIdeal.τ Cert.WgradHeadsIdeal.sig) → Buf (Elt Ideal) ℓ) (g : Dev Cert.WgradHeadsIdeal.nD → PrngReg), Pre_WgradHeadsIdeal m →
    θ_run (Cert.WgradHeadsIdeal.defs (F := Ideal)) (onTc (τ := Cert.WgradHeadsIdeal.τ) (Cert.WgradHeadsIdeal.main (F := Ideal))) ⟨m, fun _ => 0, g⟩ (fun r => (∀ c : Dev Cert.WgradHeadsIdeal.nD,
      r.2.mem ((c.tc : Thread Cert.WgradHeadsIdeal.nD Cert.WgradHeadsIdeal.τ).loc Cert.WgradHeadsIdeal.main_arg0) = m ((c.tc : Thread Cert.WgradHeadsIdeal.nD Cert.WgradHeadsIdeal.τ).loc Cert.WgradHeadsIdeal.main_arg0)
      ∧ r.2.mem ((c.tc : Thread Cert.WgradHeadsIdeal.nD Cert.WgradHeadsIdeal.τ).loc Cert.WgradHeadsIdeal.main_arg1) = m ((c.tc : Thread Cert.WgradHeadsIdeal.nD Cert.WgradHeadsIdeal.τ).loc Cert.WgradHeadsIdeal.main_arg1))
      ∧ r.2.sem = fun _ => 0)

def quiescent_WgradHeadsRefIdeal [hWgradHeadsRefIdeal : Cert.WgradHeadsRefIdeal.Facts] : Prop :=
  ∀ (m : (ℓ : Loc Cert.WgradHeadsRefIdeal.nD Cert.WgradHeadsRefIdeal.τ Cert.WgradHeadsRefIdeal.sig) → Buf (Elt Ideal) ℓ) (g : Dev Cert.WgradHeadsRefIdeal.nD → PrngReg), Pre_WgradHeadsRefIdeal m →
    θ_run (Cert.WgradHeadsRefIdeal.defs (F := Ideal)) (onTc (τ := Cert.WgradHeadsRefIdeal.τ) (Cert.WgradHeadsRefIdeal.main (F := Ideal))) ⟨m, fun _ => 0, g⟩ (fun r => (∀ c : Dev Cert.WgradHeadsRefIdeal.nD,
      r.2.mem ((c.tc : Thread Cert.WgradHeadsRefIdeal.nD Cert.WgradHeadsRefIdeal.τ).loc Cert.WgradHeadsRefIdeal.main_arg0) = m ((c.tc : Thread Cert.WgradHeadsRefIdeal.nD Cert.WgradHeadsRefIdeal.τ).loc Cert.WgradHeadsRefIdeal.main_arg0)
      ∧ r.2.mem ((c.tc : Thread Cert.WgradHeadsRefIdeal.nD Cert.WgradHeadsRefIdeal.τ).loc Cert.WgradHeadsRefIdeal.main_arg1) = m ((c.tc : Thread Cert.WgradHeadsRefIdeal.nD Cert.WgradHeadsRefIdeal.τ).loc Cert.WgradHeadsRefIdeal.main_arg1))
      ∧ r.2.sem = fun _ => 0)

def quiescent_WgradOut [hWgradOut : Cert.WgradOut.Facts] : Prop :=
  ∀ (m : (ℓ : Loc Cert.WgradOut.nD Cert.WgradOut.τ Cert.WgradOut.sig) → Buf (Elt Bits) ℓ) (g : Dev Cert.WgradOut.nD → PrngReg), Pre_WgradOut m →
    θ_run (Cert.WgradOut.defs (F := Bits)) (onTc (τ := Cert.WgradOut.τ) (Cert.WgradOut.main (F := Bits))) ⟨m, fun _ => 0, g⟩ (fun r => (∀ c : Dev Cert.WgradOut.nD,
      r.2.mem ((c.tc : Thread Cert.WgradOut.nD Cert.WgradOut.τ).loc Cert.WgradOut.main_arg0) = m ((c.tc : Thread Cert.WgradOut.nD Cert.WgradOut.τ).loc Cert.WgradOut.main_arg0)
      ∧ r.2.mem ((c.tc : Thread Cert.WgradOut.nD Cert.WgradOut.τ).loc Cert.WgradOut.main_arg1) = m ((c.tc : Thread Cert.WgradOut.nD Cert.WgradOut.τ).loc Cert.WgradOut.main_arg1))
      ∧ r.2.sem = fun _ => 0)

def quiescent_WgradOutIdeal [hWgradOutIdeal : Cert.WgradOutIdeal.Facts] : Prop :=
  ∀ (m : (ℓ : Loc Cert.WgradOutIdeal.nD Cert.WgradOutIdeal.τ Cert.WgradOutIdeal.sig) → Buf (Elt Ideal) ℓ) (g : Dev Cert.WgradOutIdeal.nD → PrngReg), Pre_WgradOutIdeal m →
    θ_run (Cert.WgradOutIdeal.defs (F := Ideal)) (onTc (τ := Cert.WgradOutIdeal.τ) (Cert.WgradOutIdeal.main (F := Ideal))) ⟨m, fun _ => 0, g⟩ (fun r => (∀ c : Dev Cert.WgradOutIdeal.nD,
      r.2.mem ((c.tc : Thread Cert.WgradOutIdeal.nD Cert.WgradOutIdeal.τ).loc Cert.WgradOutIdeal.main_arg0) = m ((c.tc : Thread Cert.WgradOutIdeal.nD Cert.WgradOutIdeal.τ).loc Cert.WgradOutIdeal.main_arg0)
      ∧ r.2.mem ((c.tc : Thread Cert.WgradOutIdeal.nD Cert.WgradOutIdeal.τ).loc Cert.WgradOutIdeal.main_arg1) = m ((c.tc : Thread Cert.WgradOutIdeal.nD Cert.WgradOutIdeal.τ).loc Cert.WgradOutIdeal.main_arg1))
      ∧ r.2.sem = fun _ => 0)

def quiescent_WgradOutRefIdeal [hWgradOutRefIdeal : Cert.WgradOutRefIdeal.Facts] : Prop :=
  ∀ (m : (ℓ : Loc Cert.WgradOutRefIdeal.nD Cert.WgradOutRefIdeal.τ Cert.WgradOutRefIdeal.sig) → Buf (Elt Ideal) ℓ) (g : Dev Cert.WgradOutRefIdeal.nD → PrngReg), Pre_WgradOutRefIdeal m →
    θ_run (Cert.WgradOutRefIdeal.defs (F := Ideal)) (onTc (τ := Cert.WgradOutRefIdeal.τ) (Cert.WgradOutRefIdeal.main (F := Ideal))) ⟨m, fun _ => 0, g⟩ (fun r => (∀ c : Dev Cert.WgradOutRefIdeal.nD,
      r.2.mem ((c.tc : Thread Cert.WgradOutRefIdeal.nD Cert.WgradOutRefIdeal.τ).loc Cert.WgradOutRefIdeal.main_arg0) = m ((c.tc : Thread Cert.WgradOutRefIdeal.nD Cert.WgradOutRefIdeal.τ).loc Cert.WgradOutRefIdeal.main_arg0)
      ∧ r.2.mem ((c.tc : Thread Cert.WgradOutRefIdeal.nD Cert.WgradOutRefIdeal.τ).loc Cert.WgradOutRefIdeal.main_arg1) = m ((c.tc : Thread Cert.WgradOutRefIdeal.nD Cert.WgradOutRefIdeal.τ).loc Cert.WgradOutRefIdeal.main_arg1))
      ∧ r.2.sem = fun _ => 0)

def quiescent_WgradFf1 [hWgradFf1 : Cert.WgradFf1.Facts] : Prop :=
  ∀ (m : (ℓ : Loc Cert.WgradFf1.nD Cert.WgradFf1.τ Cert.WgradFf1.sig) → Buf (Elt Bits) ℓ) (g : Dev Cert.WgradFf1.nD → PrngReg), Pre_WgradFf1 m →
    θ_run (Cert.WgradFf1.defs (F := Bits)) (onTc (τ := Cert.WgradFf1.τ) (Cert.WgradFf1.main (F := Bits))) ⟨m, fun _ => 0, g⟩ (fun r => (∀ c : Dev Cert.WgradFf1.nD,
      r.2.mem ((c.tc : Thread Cert.WgradFf1.nD Cert.WgradFf1.τ).loc Cert.WgradFf1.main_arg0) = m ((c.tc : Thread Cert.WgradFf1.nD Cert.WgradFf1.τ).loc Cert.WgradFf1.main_arg0)
      ∧ r.2.mem ((c.tc : Thread Cert.WgradFf1.nD Cert.WgradFf1.τ).loc Cert.WgradFf1.main_arg1) = m ((c.tc : Thread Cert.WgradFf1.nD Cert.WgradFf1.τ).loc Cert.WgradFf1.main_arg1))
      ∧ r.2.sem = fun _ => 0)

def quiescent_WgradFf1Ideal [hWgradFf1Ideal : Cert.WgradFf1Ideal.Facts] : Prop :=
  ∀ (m : (ℓ : Loc Cert.WgradFf1Ideal.nD Cert.WgradFf1Ideal.τ Cert.WgradFf1Ideal.sig) → Buf (Elt Ideal) ℓ) (g : Dev Cert.WgradFf1Ideal.nD → PrngReg), Pre_WgradFf1Ideal m →
    θ_run (Cert.WgradFf1Ideal.defs (F := Ideal)) (onTc (τ := Cert.WgradFf1Ideal.τ) (Cert.WgradFf1Ideal.main (F := Ideal))) ⟨m, fun _ => 0, g⟩ (fun r => (∀ c : Dev Cert.WgradFf1Ideal.nD,
      r.2.mem ((c.tc : Thread Cert.WgradFf1Ideal.nD Cert.WgradFf1Ideal.τ).loc Cert.WgradFf1Ideal.main_arg0) = m ((c.tc : Thread Cert.WgradFf1Ideal.nD Cert.WgradFf1Ideal.τ).loc Cert.WgradFf1Ideal.main_arg0)
      ∧ r.2.mem ((c.tc : Thread Cert.WgradFf1Ideal.nD Cert.WgradFf1Ideal.τ).loc Cert.WgradFf1Ideal.main_arg1) = m ((c.tc : Thread Cert.WgradFf1Ideal.nD Cert.WgradFf1Ideal.τ).loc Cert.WgradFf1Ideal.main_arg1))
      ∧ r.2.sem = fun _ => 0)

def quiescent_WgradFf1RefIdeal [hWgradFf1RefIdeal : Cert.WgradFf1RefIdeal.Facts] : Prop :=
  ∀ (m : (ℓ : Loc Cert.WgradFf1RefIdeal.nD Cert.WgradFf1RefIdeal.τ Cert.WgradFf1RefIdeal.sig) → Buf (Elt Ideal) ℓ) (g : Dev Cert.WgradFf1RefIdeal.nD → PrngReg), Pre_WgradFf1RefIdeal m →
    θ_run (Cert.WgradFf1RefIdeal.defs (F := Ideal)) (onTc (τ := Cert.WgradFf1RefIdeal.τ) (Cert.WgradFf1RefIdeal.main (F := Ideal))) ⟨m, fun _ => 0, g⟩ (fun r => (∀ c : Dev Cert.WgradFf1RefIdeal.nD,
      r.2.mem ((c.tc : Thread Cert.WgradFf1RefIdeal.nD Cert.WgradFf1RefIdeal.τ).loc Cert.WgradFf1RefIdeal.main_arg0) = m ((c.tc : Thread Cert.WgradFf1RefIdeal.nD Cert.WgradFf1RefIdeal.τ).loc Cert.WgradFf1RefIdeal.main_arg0)
      ∧ r.2.mem ((c.tc : Thread Cert.WgradFf1RefIdeal.nD Cert.WgradFf1RefIdeal.τ).loc Cert.WgradFf1RefIdeal.main_arg1) = m ((c.tc : Thread Cert.WgradFf1RefIdeal.nD Cert.WgradFf1RefIdeal.τ).loc Cert.WgradFf1RefIdeal.main_arg1))
      ∧ r.2.sem = fun _ => 0)

def quiescent_WgradFf2 [hWgradFf2 : Cert.WgradFf2.Facts] : Prop :=
  ∀ (m : (ℓ : Loc Cert.WgradFf2.nD Cert.WgradFf2.τ Cert.WgradFf2.sig) → Buf (Elt Bits) ℓ) (g : Dev Cert.WgradFf2.nD → PrngReg), Pre_WgradFf2 m →
    θ_run (Cert.WgradFf2.defs (F := Bits)) (onTc (τ := Cert.WgradFf2.τ) (Cert.WgradFf2.main (F := Bits))) ⟨m, fun _ => 0, g⟩ (fun r => (∀ c : Dev Cert.WgradFf2.nD,
      r.2.mem ((c.tc : Thread Cert.WgradFf2.nD Cert.WgradFf2.τ).loc Cert.WgradFf2.main_arg0) = m ((c.tc : Thread Cert.WgradFf2.nD Cert.WgradFf2.τ).loc Cert.WgradFf2.main_arg0)
      ∧ r.2.mem ((c.tc : Thread Cert.WgradFf2.nD Cert.WgradFf2.τ).loc Cert.WgradFf2.main_arg1) = m ((c.tc : Thread Cert.WgradFf2.nD Cert.WgradFf2.τ).loc Cert.WgradFf2.main_arg1))
      ∧ r.2.sem = fun _ => 0)

def quiescent_WgradFf2Ideal [hWgradFf2Ideal : Cert.WgradFf2Ideal.Facts] : Prop :=
  ∀ (m : (ℓ : Loc Cert.WgradFf2Ideal.nD Cert.WgradFf2Ideal.τ Cert.WgradFf2Ideal.sig) → Buf (Elt Ideal) ℓ) (g : Dev Cert.WgradFf2Ideal.nD → PrngReg), Pre_WgradFf2Ideal m →
    θ_run (Cert.WgradFf2Ideal.defs (F := Ideal)) (onTc (τ := Cert.WgradFf2Ideal.τ) (Cert.WgradFf2Ideal.main (F := Ideal))) ⟨m, fun _ => 0, g⟩ (fun r => (∀ c : Dev Cert.WgradFf2Ideal.nD,
      r.2.mem ((c.tc : Thread Cert.WgradFf2Ideal.nD Cert.WgradFf2Ideal.τ).loc Cert.WgradFf2Ideal.main_arg0) = m ((c.tc : Thread Cert.WgradFf2Ideal.nD Cert.WgradFf2Ideal.τ).loc Cert.WgradFf2Ideal.main_arg0)
      ∧ r.2.mem ((c.tc : Thread Cert.WgradFf2Ideal.nD Cert.WgradFf2Ideal.τ).loc Cert.WgradFf2Ideal.main_arg1) = m ((c.tc : Thread Cert.WgradFf2Ideal.nD Cert.WgradFf2Ideal.τ).loc Cert.WgradFf2Ideal.main_arg1))
      ∧ r.2.sem = fun _ => 0)

def quiescent_WgradFf2RefIdeal [hWgradFf2RefIdeal : Cert.WgradFf2RefIdeal.Facts] : Prop :=
  ∀ (m : (ℓ : Loc Cert.WgradFf2RefIdeal.nD Cert.WgradFf2RefIdeal.τ Cert.WgradFf2RefIdeal.sig) → Buf (Elt Ideal) ℓ) (g : Dev Cert.WgradFf2RefIdeal.nD → PrngReg), Pre_WgradFf2RefIdeal m →
    θ_run (Cert.WgradFf2RefIdeal.defs (F := Ideal)) (onTc (τ := Cert.WgradFf2RefIdeal.τ) (Cert.WgradFf2RefIdeal.main (F := Ideal))) ⟨m, fun _ => 0, g⟩ (fun r => (∀ c : Dev Cert.WgradFf2RefIdeal.nD,
      r.2.mem ((c.tc : Thread Cert.WgradFf2RefIdeal.nD Cert.WgradFf2RefIdeal.τ).loc Cert.WgradFf2RefIdeal.main_arg0) = m ((c.tc : Thread Cert.WgradFf2RefIdeal.nD Cert.WgradFf2RefIdeal.τ).loc Cert.WgradFf2RefIdeal.main_arg0)
      ∧ r.2.mem ((c.tc : Thread Cert.WgradFf2RefIdeal.nD Cert.WgradFf2RefIdeal.τ).loc Cert.WgradFf2RefIdeal.main_arg1) = m ((c.tc : Thread Cert.WgradFf2RefIdeal.nD Cert.WgradFf2RefIdeal.τ).loc Cert.WgradFf2RefIdeal.main_arg1))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def quiescent_DxFinal [hDxFinal : Cert.DxFinal.Facts] : Prop :=
  ∀ (m : (ℓ : Loc Cert.DxFinal.nD Cert.DxFinal.τ Cert.DxFinal.sig) → Buf (Elt Bits) ℓ) (g : Dev Cert.DxFinal.nD → PrngReg), Pre_DxFinal m →
    θ_run (Cert.DxFinal.defs (F := Bits)) (onTc (τ := Cert.DxFinal.τ) (Cert.DxFinal.main (F := Bits))) ⟨m, fun _ => 0, g⟩ (fun r => (∀ c : Dev Cert.DxFinal.nD,
      r.2.mem ((c.tc : Thread Cert.DxFinal.nD Cert.DxFinal.τ).loc Cert.DxFinal.main_arg0) = m ((c.tc : Thread Cert.DxFinal.nD Cert.DxFinal.τ).loc Cert.DxFinal.main_arg0)
      ∧ r.2.mem ((c.tc : Thread Cert.DxFinal.nD Cert.DxFinal.τ).loc Cert.DxFinal.main_arg1) = m ((c.tc : Thread Cert.DxFinal.nD Cert.DxFinal.τ).loc Cert.DxFinal.main_arg1)
      ∧ r.2.mem ((c.tc : Thread Cert.DxFinal.nD Cert.DxFinal.τ).loc Cert.DxFinal.main_arg2) = m ((c.tc : Thread Cert.DxFinal.nD Cert.DxFinal.τ).loc Cert.DxFinal.main_arg2)
      ∧ r.2.mem ((c.tc : Thread Cert.DxFinal.nD Cert.DxFinal.τ).loc Cert.DxFinal.main_arg3) = m ((c.tc : Thread Cert.DxFinal.nD Cert.DxFinal.τ).loc Cert.DxFinal.main_arg3)
      ∧ r.2.mem ((c.tc : Thread Cert.DxFinal.nD Cert.DxFinal.τ).loc Cert.DxFinal.main_arg4) = m ((c.tc : Thread Cert.DxFinal.nD Cert.DxFinal.τ).loc Cert.DxFinal.main_arg4)
      ∧ r.2.mem ((c.tc : Thread Cert.DxFinal.nD Cert.DxFinal.τ).loc Cert.DxFinal.main_arg5) = m ((c.tc : Thread Cert.DxFinal.nD Cert.DxFinal.τ).loc Cert.DxFinal.main_arg5)
      ∧ r.2.mem ((c.tc : Thread Cert.DxFinal.nD Cert.DxFinal.τ).loc Cert.DxFinal.main_arg6) = m ((c.tc : Thread Cert.DxFinal.nD Cert.DxFinal.τ).loc Cert.DxFinal.main_arg6)
      ∧ r.2.mem ((c.tc : Thread Cert.DxFinal.nD Cert.DxFinal.τ).loc Cert.DxFinal.main_arg7) = m ((c.tc : Thread Cert.DxFinal.nD Cert.DxFinal.τ).loc Cert.DxFinal.main_arg7))
      ∧ r.2.sem = fun _ => 0)

def quiescent_DxFinalIdeal [hDxFinalIdeal : Cert.DxFinalIdeal.Facts] : Prop :=
  ∀ (m : (ℓ : Loc Cert.DxFinalIdeal.nD Cert.DxFinalIdeal.τ Cert.DxFinalIdeal.sig) → Buf (Elt Ideal) ℓ) (g : Dev Cert.DxFinalIdeal.nD → PrngReg), Pre_DxFinalIdeal m →
    θ_run (Cert.DxFinalIdeal.defs (F := Ideal)) (onTc (τ := Cert.DxFinalIdeal.τ) (Cert.DxFinalIdeal.main (F := Ideal))) ⟨m, fun _ => 0, g⟩ (fun r => (∀ c : Dev Cert.DxFinalIdeal.nD,
      r.2.mem ((c.tc : Thread Cert.DxFinalIdeal.nD Cert.DxFinalIdeal.τ).loc Cert.DxFinalIdeal.main_arg0) = m ((c.tc : Thread Cert.DxFinalIdeal.nD Cert.DxFinalIdeal.τ).loc Cert.DxFinalIdeal.main_arg0)
      ∧ r.2.mem ((c.tc : Thread Cert.DxFinalIdeal.nD Cert.DxFinalIdeal.τ).loc Cert.DxFinalIdeal.main_arg1) = m ((c.tc : Thread Cert.DxFinalIdeal.nD Cert.DxFinalIdeal.τ).loc Cert.DxFinalIdeal.main_arg1)
      ∧ r.2.mem ((c.tc : Thread Cert.DxFinalIdeal.nD Cert.DxFinalIdeal.τ).loc Cert.DxFinalIdeal.main_arg2) = m ((c.tc : Thread Cert.DxFinalIdeal.nD Cert.DxFinalIdeal.τ).loc Cert.DxFinalIdeal.main_arg2)
      ∧ r.2.mem ((c.tc : Thread Cert.DxFinalIdeal.nD Cert.DxFinalIdeal.τ).loc Cert.DxFinalIdeal.main_arg3) = m ((c.tc : Thread Cert.DxFinalIdeal.nD Cert.DxFinalIdeal.τ).loc Cert.DxFinalIdeal.main_arg3)
      ∧ r.2.mem ((c.tc : Thread Cert.DxFinalIdeal.nD Cert.DxFinalIdeal.τ).loc Cert.DxFinalIdeal.main_arg4) = m ((c.tc : Thread Cert.DxFinalIdeal.nD Cert.DxFinalIdeal.τ).loc Cert.DxFinalIdeal.main_arg4)
      ∧ r.2.mem ((c.tc : Thread Cert.DxFinalIdeal.nD Cert.DxFinalIdeal.τ).loc Cert.DxFinalIdeal.main_arg5) = m ((c.tc : Thread Cert.DxFinalIdeal.nD Cert.DxFinalIdeal.τ).loc Cert.DxFinalIdeal.main_arg5)
      ∧ r.2.mem ((c.tc : Thread Cert.DxFinalIdeal.nD Cert.DxFinalIdeal.τ).loc Cert.DxFinalIdeal.main_arg6) = m ((c.tc : Thread Cert.DxFinalIdeal.nD Cert.DxFinalIdeal.τ).loc Cert.DxFinalIdeal.main_arg6)
      ∧ r.2.mem ((c.tc : Thread Cert.DxFinalIdeal.nD Cert.DxFinalIdeal.τ).loc Cert.DxFinalIdeal.main_arg7) = m ((c.tc : Thread Cert.DxFinalIdeal.nD Cert.DxFinalIdeal.τ).loc Cert.DxFinalIdeal.main_arg7))
      ∧ r.2.sem = fun _ => 0)

def quiescent_DxFinalRefIdeal [hDxFinalRefIdeal : Cert.DxFinalRefIdeal.Facts] : Prop :=
  ∀ (m : (ℓ : Loc Cert.DxFinalRefIdeal.nD Cert.DxFinalRefIdeal.τ Cert.DxFinalRefIdeal.sig) → Buf (Elt Ideal) ℓ) (g : Dev Cert.DxFinalRefIdeal.nD → PrngReg), Pre_DxFinalRefIdeal m →
    θ_run (Cert.DxFinalRefIdeal.defs (F := Ideal)) (onTc (τ := Cert.DxFinalRefIdeal.τ) (Cert.DxFinalRefIdeal.main (F := Ideal))) ⟨m, fun _ => 0, g⟩ (fun r => (∀ c : Dev Cert.DxFinalRefIdeal.nD,
      r.2.mem ((c.tc : Thread Cert.DxFinalRefIdeal.nD Cert.DxFinalRefIdeal.τ).loc Cert.DxFinalRefIdeal.main_arg0) = m ((c.tc : Thread Cert.DxFinalRefIdeal.nD Cert.DxFinalRefIdeal.τ).loc Cert.DxFinalRefIdeal.main_arg0)
      ∧ r.2.mem ((c.tc : Thread Cert.DxFinalRefIdeal.nD Cert.DxFinalRefIdeal.τ).loc Cert.DxFinalRefIdeal.main_arg1) = m ((c.tc : Thread Cert.DxFinalRefIdeal.nD Cert.DxFinalRefIdeal.τ).loc Cert.DxFinalRefIdeal.main_arg1)
      ∧ r.2.mem ((c.tc : Thread Cert.DxFinalRefIdeal.nD Cert.DxFinalRefIdeal.τ).loc Cert.DxFinalRefIdeal.main_arg2) = m ((c.tc : Thread Cert.DxFinalRefIdeal.nD Cert.DxFinalRefIdeal.τ).loc Cert.DxFinalRefIdeal.main_arg2)
      ∧ r.2.mem ((c.tc : Thread Cert.DxFinalRefIdeal.nD Cert.DxFinalRefIdeal.τ).loc Cert.DxFinalRefIdeal.main_arg3) = m ((c.tc : Thread Cert.DxFinalRefIdeal.nD Cert.DxFinalRefIdeal.τ).loc Cert.DxFinalRefIdeal.main_arg3)
      ∧ r.2.mem ((c.tc : Thread Cert.DxFinalRefIdeal.nD Cert.DxFinalRefIdeal.τ).loc Cert.DxFinalRefIdeal.main_arg4) = m ((c.tc : Thread Cert.DxFinalRefIdeal.nD Cert.DxFinalRefIdeal.τ).loc Cert.DxFinalRefIdeal.main_arg4)
      ∧ r.2.mem ((c.tc : Thread Cert.DxFinalRefIdeal.nD Cert.DxFinalRefIdeal.τ).loc Cert.DxFinalRefIdeal.main_arg5) = m ((c.tc : Thread Cert.DxFinalRefIdeal.nD Cert.DxFinalRefIdeal.τ).loc Cert.DxFinalRefIdeal.main_arg5)
      ∧ r.2.mem ((c.tc : Thread Cert.DxFinalRefIdeal.nD Cert.DxFinalRefIdeal.τ).loc Cert.DxFinalRefIdeal.main_arg6) = m ((c.tc : Thread Cert.DxFinalRefIdeal.nD Cert.DxFinalRefIdeal.τ).loc Cert.DxFinalRefIdeal.main_arg6)
      ∧ r.2.mem ((c.tc : Thread Cert.DxFinalRefIdeal.nD Cert.DxFinalRefIdeal.τ).loc Cert.DxFinalRefIdeal.main_arg7) = m ((c.tc : Thread Cert.DxFinalRefIdeal.nD Cert.DxFinalRefIdeal.τ).loc Cert.DxFinalRefIdeal.main_arg7))
      ∧ r.2.sem = fun _ => 0)

def quiescent_PostFused [hPostFused : Cert.PostFused.Facts] : Prop :=
  ∀ (m : (ℓ : Loc Cert.PostFused.nD Cert.PostFused.τ Cert.PostFused.sig) → Buf (Elt Bits) ℓ) (g : Dev Cert.PostFused.nD → PrngReg), Pre_PostFused m →
    θ_run (Cert.PostFused.defs (F := Bits)) (onTc (τ := Cert.PostFused.τ) (Cert.PostFused.main (F := Bits))) ⟨m, fun _ => 0, g⟩ (fun r => (∀ c : Dev Cert.PostFused.nD,
      r.2.mem ((c.tc : Thread Cert.PostFused.nD Cert.PostFused.τ).loc Cert.PostFused.main_arg0) = m ((c.tc : Thread Cert.PostFused.nD Cert.PostFused.τ).loc Cert.PostFused.main_arg0)
      ∧ r.2.mem ((c.tc : Thread Cert.PostFused.nD Cert.PostFused.τ).loc Cert.PostFused.main_arg1) = m ((c.tc : Thread Cert.PostFused.nD Cert.PostFused.τ).loc Cert.PostFused.main_arg1)
      ∧ r.2.mem ((c.tc : Thread Cert.PostFused.nD Cert.PostFused.τ).loc Cert.PostFused.main_arg2) = m ((c.tc : Thread Cert.PostFused.nD Cert.PostFused.τ).loc Cert.PostFused.main_arg2)
      ∧ r.2.mem ((c.tc : Thread Cert.PostFused.nD Cert.PostFused.τ).loc Cert.PostFused.main_arg3) = m ((c.tc : Thread Cert.PostFused.nD Cert.PostFused.τ).loc Cert.PostFused.main_arg3)
      ∧ r.2.mem ((c.tc : Thread Cert.PostFused.nD Cert.PostFused.τ).loc Cert.PostFused.main_arg4) = m ((c.tc : Thread Cert.PostFused.nD Cert.PostFused.τ).loc Cert.PostFused.main_arg4)
      ∧ r.2.mem ((c.tc : Thread Cert.PostFused.nD Cert.PostFused.τ).loc Cert.PostFused.main_arg5) = m ((c.tc : Thread Cert.PostFused.nD Cert.PostFused.τ).loc Cert.PostFused.main_arg5)
      ∧ r.2.mem ((c.tc : Thread Cert.PostFused.nD Cert.PostFused.τ).loc Cert.PostFused.main_arg6) = m ((c.tc : Thread Cert.PostFused.nD Cert.PostFused.τ).loc Cert.PostFused.main_arg6)
      ∧ r.2.mem ((c.tc : Thread Cert.PostFused.nD Cert.PostFused.τ).loc Cert.PostFused.main_arg7) = m ((c.tc : Thread Cert.PostFused.nD Cert.PostFused.τ).loc Cert.PostFused.main_arg7)
      ∧ r.2.mem ((c.tc : Thread Cert.PostFused.nD Cert.PostFused.τ).loc Cert.PostFused.main_arg8) = m ((c.tc : Thread Cert.PostFused.nD Cert.PostFused.τ).loc Cert.PostFused.main_arg8))
      ∧ r.2.sem = fun _ => 0)

def quiescent_PostFusedIdeal [hPostFusedIdeal : Cert.PostFusedIdeal.Facts] : Prop :=
  ∀ (m : (ℓ : Loc Cert.PostFusedIdeal.nD Cert.PostFusedIdeal.τ Cert.PostFusedIdeal.sig) → Buf (Elt Ideal) ℓ) (g : Dev Cert.PostFusedIdeal.nD → PrngReg), Pre_PostFusedIdeal m →
    θ_run (Cert.PostFusedIdeal.defs (F := Ideal)) (onTc (τ := Cert.PostFusedIdeal.τ) (Cert.PostFusedIdeal.main (F := Ideal))) ⟨m, fun _ => 0, g⟩ (fun r => (∀ c : Dev Cert.PostFusedIdeal.nD,
      r.2.mem ((c.tc : Thread Cert.PostFusedIdeal.nD Cert.PostFusedIdeal.τ).loc Cert.PostFusedIdeal.main_arg0) = m ((c.tc : Thread Cert.PostFusedIdeal.nD Cert.PostFusedIdeal.τ).loc Cert.PostFusedIdeal.main_arg0)
      ∧ r.2.mem ((c.tc : Thread Cert.PostFusedIdeal.nD Cert.PostFusedIdeal.τ).loc Cert.PostFusedIdeal.main_arg1) = m ((c.tc : Thread Cert.PostFusedIdeal.nD Cert.PostFusedIdeal.τ).loc Cert.PostFusedIdeal.main_arg1)
      ∧ r.2.mem ((c.tc : Thread Cert.PostFusedIdeal.nD Cert.PostFusedIdeal.τ).loc Cert.PostFusedIdeal.main_arg2) = m ((c.tc : Thread Cert.PostFusedIdeal.nD Cert.PostFusedIdeal.τ).loc Cert.PostFusedIdeal.main_arg2)
      ∧ r.2.mem ((c.tc : Thread Cert.PostFusedIdeal.nD Cert.PostFusedIdeal.τ).loc Cert.PostFusedIdeal.main_arg3) = m ((c.tc : Thread Cert.PostFusedIdeal.nD Cert.PostFusedIdeal.τ).loc Cert.PostFusedIdeal.main_arg3)
      ∧ r.2.mem ((c.tc : Thread Cert.PostFusedIdeal.nD Cert.PostFusedIdeal.τ).loc Cert.PostFusedIdeal.main_arg4) = m ((c.tc : Thread Cert.PostFusedIdeal.nD Cert.PostFusedIdeal.τ).loc Cert.PostFusedIdeal.main_arg4)
      ∧ r.2.mem ((c.tc : Thread Cert.PostFusedIdeal.nD Cert.PostFusedIdeal.τ).loc Cert.PostFusedIdeal.main_arg5) = m ((c.tc : Thread Cert.PostFusedIdeal.nD Cert.PostFusedIdeal.τ).loc Cert.PostFusedIdeal.main_arg5)
      ∧ r.2.mem ((c.tc : Thread Cert.PostFusedIdeal.nD Cert.PostFusedIdeal.τ).loc Cert.PostFusedIdeal.main_arg6) = m ((c.tc : Thread Cert.PostFusedIdeal.nD Cert.PostFusedIdeal.τ).loc Cert.PostFusedIdeal.main_arg6)
      ∧ r.2.mem ((c.tc : Thread Cert.PostFusedIdeal.nD Cert.PostFusedIdeal.τ).loc Cert.PostFusedIdeal.main_arg7) = m ((c.tc : Thread Cert.PostFusedIdeal.nD Cert.PostFusedIdeal.τ).loc Cert.PostFusedIdeal.main_arg7)
      ∧ r.2.mem ((c.tc : Thread Cert.PostFusedIdeal.nD Cert.PostFusedIdeal.τ).loc Cert.PostFusedIdeal.main_arg8) = m ((c.tc : Thread Cert.PostFusedIdeal.nD Cert.PostFusedIdeal.τ).loc Cert.PostFusedIdeal.main_arg8))
      ∧ r.2.sem = fun _ => 0)

def quiescent_PostFusedRefIdeal [hPostFusedRefIdeal : Cert.PostFusedRefIdeal.Facts] : Prop :=
  ∀ (m : (ℓ : Loc Cert.PostFusedRefIdeal.nD Cert.PostFusedRefIdeal.τ Cert.PostFusedRefIdeal.sig) → Buf (Elt Ideal) ℓ) (g : Dev Cert.PostFusedRefIdeal.nD → PrngReg), Pre_PostFusedRefIdeal m →
    θ_run (Cert.PostFusedRefIdeal.defs (F := Ideal)) (onTc (τ := Cert.PostFusedRefIdeal.τ) (Cert.PostFusedRefIdeal.main (F := Ideal))) ⟨m, fun _ => 0, g⟩ (fun r => (∀ c : Dev Cert.PostFusedRefIdeal.nD,
      r.2.mem ((c.tc : Thread Cert.PostFusedRefIdeal.nD Cert.PostFusedRefIdeal.τ).loc Cert.PostFusedRefIdeal.main_arg0) = m ((c.tc : Thread Cert.PostFusedRefIdeal.nD Cert.PostFusedRefIdeal.τ).loc Cert.PostFusedRefIdeal.main_arg0)
      ∧ r.2.mem ((c.tc : Thread Cert.PostFusedRefIdeal.nD Cert.PostFusedRefIdeal.τ).loc Cert.PostFusedRefIdeal.main_arg1) = m ((c.tc : Thread Cert.PostFusedRefIdeal.nD Cert.PostFusedRefIdeal.τ).loc Cert.PostFusedRefIdeal.main_arg1)
      ∧ r.2.mem ((c.tc : Thread Cert.PostFusedRefIdeal.nD Cert.PostFusedRefIdeal.τ).loc Cert.PostFusedRefIdeal.main_arg2) = m ((c.tc : Thread Cert.PostFusedRefIdeal.nD Cert.PostFusedRefIdeal.τ).loc Cert.PostFusedRefIdeal.main_arg2)
      ∧ r.2.mem ((c.tc : Thread Cert.PostFusedRefIdeal.nD Cert.PostFusedRefIdeal.τ).loc Cert.PostFusedRefIdeal.main_arg3) = m ((c.tc : Thread Cert.PostFusedRefIdeal.nD Cert.PostFusedRefIdeal.τ).loc Cert.PostFusedRefIdeal.main_arg3)
      ∧ r.2.mem ((c.tc : Thread Cert.PostFusedRefIdeal.nD Cert.PostFusedRefIdeal.τ).loc Cert.PostFusedRefIdeal.main_arg4) = m ((c.tc : Thread Cert.PostFusedRefIdeal.nD Cert.PostFusedRefIdeal.τ).loc Cert.PostFusedRefIdeal.main_arg4)
      ∧ r.2.mem ((c.tc : Thread Cert.PostFusedRefIdeal.nD Cert.PostFusedRefIdeal.τ).loc Cert.PostFusedRefIdeal.main_arg5) = m ((c.tc : Thread Cert.PostFusedRefIdeal.nD Cert.PostFusedRefIdeal.τ).loc Cert.PostFusedRefIdeal.main_arg5)
      ∧ r.2.mem ((c.tc : Thread Cert.PostFusedRefIdeal.nD Cert.PostFusedRefIdeal.τ).loc Cert.PostFusedRefIdeal.main_arg6) = m ((c.tc : Thread Cert.PostFusedRefIdeal.nD Cert.PostFusedRefIdeal.τ).loc Cert.PostFusedRefIdeal.main_arg6)
      ∧ r.2.mem ((c.tc : Thread Cert.PostFusedRefIdeal.nD Cert.PostFusedRefIdeal.τ).loc Cert.PostFusedRefIdeal.main_arg7) = m ((c.tc : Thread Cert.PostFusedRefIdeal.nD Cert.PostFusedRefIdeal.τ).loc Cert.PostFusedRefIdeal.main_arg7)
      ∧ r.2.mem ((c.tc : Thread Cert.PostFusedRefIdeal.nD Cert.PostFusedRefIdeal.τ).loc Cert.PostFusedRefIdeal.main_arg8) = m ((c.tc : Thread Cert.PostFusedRefIdeal.nD Cert.PostFusedRefIdeal.τ).loc Cert.PostFusedRefIdeal.main_arg8))
      ∧ r.2.sem = fun _ => 0)

def quiescent_BiasTables [hBiasTables : Cert.BiasTables.Facts] : Prop :=
  ∀ (m : (ℓ : Loc Cert.BiasTables.nD Cert.BiasTables.τ Cert.BiasTables.sig) → Buf (Elt Bits) ℓ) (g : Dev Cert.BiasTables.nD → PrngReg), Pre_BiasTables m →
    θ_run (Cert.BiasTables.defs (F := Bits)) (onTc (τ := Cert.BiasTables.τ) (Cert.BiasTables.main (F := Bits))) ⟨m, fun _ => 0, g⟩ (fun r => (∀ c : Dev Cert.BiasTables.nD,
      r.2.mem ((c.tc : Thread Cert.BiasTables.nD Cert.BiasTables.τ).loc Cert.BiasTables.main_arg0) = m ((c.tc : Thread Cert.BiasTables.nD Cert.BiasTables.τ).loc Cert.BiasTables.main_arg0)
      ∧ r.2.mem ((c.tc : Thread Cert.BiasTables.nD Cert.BiasTables.τ).loc Cert.BiasTables.main_arg1) = m ((c.tc : Thread Cert.BiasTables.nD Cert.BiasTables.τ).loc Cert.BiasTables.main_arg1))
      ∧ r.2.sem = fun _ => 0)

def quiescent_BiasTablesIdeal [hBiasTablesIdeal : Cert.BiasTablesIdeal.Facts] : Prop :=
  ∀ (m : (ℓ : Loc Cert.BiasTablesIdeal.nD Cert.BiasTablesIdeal.τ Cert.BiasTablesIdeal.sig) → Buf (Elt Ideal) ℓ) (g : Dev Cert.BiasTablesIdeal.nD → PrngReg), Pre_BiasTablesIdeal m →
    θ_run (Cert.BiasTablesIdeal.defs (F := Ideal)) (onTc (τ := Cert.BiasTablesIdeal.τ) (Cert.BiasTablesIdeal.main (F := Ideal))) ⟨m, fun _ => 0, g⟩ (fun r => (∀ c : Dev Cert.BiasTablesIdeal.nD,
      r.2.mem ((c.tc : Thread Cert.BiasTablesIdeal.nD Cert.BiasTablesIdeal.τ).loc Cert.BiasTablesIdeal.main_arg0) = m ((c.tc : Thread Cert.BiasTablesIdeal.nD Cert.BiasTablesIdeal.τ).loc Cert.BiasTablesIdeal.main_arg0)
      ∧ r.2.mem ((c.tc : Thread Cert.BiasTablesIdeal.nD Cert.BiasTablesIdeal.τ).loc Cert.BiasTablesIdeal.main_arg1) = m ((c.tc : Thread Cert.BiasTablesIdeal.nD Cert.BiasTablesIdeal.τ).loc Cert.BiasTablesIdeal.main_arg1))
      ∧ r.2.sem = fun _ => 0)

def quiescent_BiasTablesRefIdeal [hBiasTablesRefIdeal : Cert.BiasTablesRefIdeal.Facts] : Prop :=
  ∀ (m : (ℓ : Loc Cert.BiasTablesRefIdeal.nD Cert.BiasTablesRefIdeal.τ Cert.BiasTablesRefIdeal.sig) → Buf (Elt Ideal) ℓ) (g : Dev Cert.BiasTablesRefIdeal.nD → PrngReg), Pre_BiasTablesRefIdeal m →
    θ_run (Cert.BiasTablesRefIdeal.defs (F := Ideal)) (onTc (τ := Cert.BiasTablesRefIdeal.τ) (Cert.BiasTablesRefIdeal.main (F := Ideal))) ⟨m, fun _ => 0, g⟩ (fun r => (∀ c : Dev Cert.BiasTablesRefIdeal.nD,
      r.2.mem ((c.tc : Thread Cert.BiasTablesRefIdeal.nD Cert.BiasTablesRefIdeal.τ).loc Cert.BiasTablesRefIdeal.main_arg0) = m ((c.tc : Thread Cert.BiasTablesRefIdeal.nD Cert.BiasTablesRefIdeal.τ).loc Cert.BiasTablesRefIdeal.main_arg0)
      ∧ r.2.mem ((c.tc : Thread Cert.BiasTablesRefIdeal.nD Cert.BiasTablesRefIdeal.τ).loc Cert.BiasTablesRefIdeal.main_arg1) = m ((c.tc : Thread Cert.BiasTablesRefIdeal.nD Cert.BiasTablesRefIdeal.τ).loc Cert.BiasTablesRefIdeal.main_arg1))
      ∧ r.2.sem = fun _ => 0)

def preserves_SwapHalves_SwapHalvesIdeal : Prop :=
  True

def algebraic_SwapHalvesIdeal_SwapHalvesRefIdeal [hSwapHalvesIdeal : Cert.SwapHalvesIdeal.Facts] [hSwapHalvesRefIdeal : Cert.SwapHalvesRefIdeal.Facts] : Prop :=
  ∀ (m : (ℓ : Loc Cert.SwapHalvesIdeal.nD Cert.SwapHalvesIdeal.τ Cert.SwapHalvesIdeal.sig) → Buf (Elt Ideal) ℓ) (g : Dev Cert.SwapHalvesIdeal.nD → PrngReg)
    (m' : (ℓ : Loc Cert.SwapHalvesRefIdeal.nD Cert.SwapHalvesRefIdeal.τ Cert.SwapHalvesRefIdeal.sig) → Buf (Elt Ideal) ℓ) (g' : Dev Cert.SwapHalvesRefIdeal.nD → PrngReg), Pre_SwapHalvesIdeal m →
    (∀ c : Dev Cert.SwapHalvesIdeal.nD,
      m ((c.tc : Thread Cert.SwapHalvesIdeal.nD Cert.SwapHalvesIdeal.τ).loc Cert.SwapHalvesIdeal.main_arg0) = Layout.block ⟨3, ![4, 1024, 772]⟩ ⟨3, ![32, 1024, 772]⟩ 0 8 c (m' (((0 : Dev Cert.SwapHalvesRefIdeal.nD).tc : Thread Cert.SwapHalvesRefIdeal.nD Cert.SwapHalvesRefIdeal.τ).loc Cert.SwapHalvesRefIdeal.main_arg0))
      ∧ m ((c.tc : Thread Cert.SwapHalvesIdeal.nD Cert.SwapHalvesIdeal.τ).loc Cert.SwapHalvesIdeal.main_arg1) = Layout.block ⟨3, ![4, 256, 1024]⟩ ⟨3, ![32, 256, 1024]⟩ 0 8 c (m' (((0 : Dev Cert.SwapHalvesRefIdeal.nD).tc : Thread Cert.SwapHalvesRefIdeal.nD Cert.SwapHalvesRefIdeal.τ).loc Cert.SwapHalvesRefIdeal.main_arg1))
      ∧ m ((c.tc : Thread Cert.SwapHalvesIdeal.nD Cert.SwapHalvesIdeal.τ).loc Cert.SwapHalvesIdeal.main_arg2) = Layout.block ⟨3, ![4, 1024, 1024]⟩ ⟨3, ![32, 1024, 1024]⟩ 0 8 c (m' (((0 : Dev Cert.SwapHalvesRefIdeal.nD).tc : Thread Cert.SwapHalvesRefIdeal.nD Cert.SwapHalvesRefIdeal.τ).loc Cert.SwapHalvesRefIdeal.main_arg2))
      ∧ m ((c.tc : Thread Cert.SwapHalvesIdeal.nD Cert.SwapHalvesIdeal.τ).loc Cert.SwapHalvesIdeal.main_arg3) = Layout.block ⟨3, ![4, 1024, 1024]⟩ ⟨3, ![32, 1024, 1024]⟩ 0 8 c (m' (((0 : Dev Cert.SwapHalvesRefIdeal.nD).tc : Thread Cert.SwapHalvesRefIdeal.nD Cert.SwapHalvesRefIdeal.τ).loc Cert.SwapHalvesRefIdeal.main_arg3))) →
    ∃ (v0 : Buf (Elt Ideal) (((0 : Dev Cert.SwapHalvesRefIdeal.nD).tc : Thread Cert.SwapHalvesRefIdeal.nD Cert.SwapHalvesRefIdeal.τ).loc Cert.SwapHalvesRefIdeal.main_v6)) (v1 : Buf (Elt Ideal) (((0 : Dev Cert.SwapHalvesRefIdeal.nD).tc : Thread Cert.SwapHalvesRefIdeal.nD Cert.SwapHalvesRefIdeal.τ).loc Cert.SwapHalvesRefIdeal.main_v13)) (v2 : Buf (Elt Ideal) (((0 : Dev Cert.SwapHalvesRefIdeal.nD).tc : Thread Cert.SwapHalvesRefIdeal.nD Cert.SwapHalvesRefIdeal.τ).loc Cert.SwapHalvesRefIdeal.main_v20)) (v3 : Buf (Elt Ideal) (((0 : Dev Cert.SwapHalvesRefIdeal.nD).tc : Thread Cert.SwapHalvesRefIdeal.nD Cert.SwapHalvesRefIdeal.τ).loc Cert.SwapHalvesRefIdeal.main_v27)),
      θ_run (Cert.SwapHalvesIdeal.defs (F := Ideal)) (onTc (τ := Cert.SwapHalvesIdeal.τ) (Cert.SwapHalvesIdeal.main (F := Ideal))) ⟨m, fun _ => 0, g⟩ (fun r => ∀ c : Dev Cert.SwapHalvesIdeal.nD,
          r.2.mem ((c.tc : Thread Cert.SwapHalvesIdeal.nD Cert.SwapHalvesIdeal.τ).loc Cert.SwapHalvesIdeal.main_v1_0) = Layout.blockN ⟨3, ![4, 512, 772]⟩ ⟨3, ![16, 1024, 772]⟩ (Layout.meshBlock [2, 2, 2] ![[0, 1], [2], []] c) v0
          ∧ r.2.mem ((c.tc : Thread Cert.SwapHalvesIdeal.nD Cert.SwapHalvesIdeal.τ).loc Cert.SwapHalvesIdeal.main_v1_1) = Layout.blockN ⟨3, ![4, 128, 1024]⟩ ⟨3, ![16, 256, 1024]⟩ (Layout.meshBlock [2, 2, 2] ![[0, 1], [2], []] c) v1
          ∧ r.2.mem ((c.tc : Thread Cert.SwapHalvesIdeal.nD Cert.SwapHalvesIdeal.τ).loc Cert.SwapHalvesIdeal.main_v1_2) = Layout.blockN ⟨3, ![4, 512, 1024]⟩ ⟨3, ![16, 1024, 1024]⟩ (Layout.meshBlock [2, 2, 2] ![[0, 1], [2], []] c) v2
          ∧ r.2.mem ((c.tc : Thread Cert.SwapHalvesIdeal.nD Cert.SwapHalvesIdeal.τ).loc Cert.SwapHalvesIdeal.main_v1_3) = Layout.blockN ⟨3, ![4, 512, 1024]⟩ ⟨3, ![16, 1024, 1024]⟩ (Layout.meshBlock [2, 2, 2] ![[0, 1], [2], []] c) v3
          ∧ r.2.mem ((c.tc : Thread Cert.SwapHalvesIdeal.nD Cert.SwapHalvesIdeal.τ).loc Cert.SwapHalvesIdeal.main_arg0) = m ((c.tc : Thread Cert.SwapHalvesIdeal.nD Cert.SwapHalvesIdeal.τ).loc Cert.SwapHalvesIdeal.main_arg0)
          ∧ r.2.mem ((c.tc : Thread Cert.SwapHalvesIdeal.nD Cert.SwapHalvesIdeal.τ).loc Cert.SwapHalvesIdeal.main_arg1) = m ((c.tc : Thread Cert.SwapHalvesIdeal.nD Cert.SwapHalvesIdeal.τ).loc Cert.SwapHalvesIdeal.main_arg1)
          ∧ r.2.mem ((c.tc : Thread Cert.SwapHalvesIdeal.nD Cert.SwapHalvesIdeal.τ).loc Cert.SwapHalvesIdeal.main_arg2) = m ((c.tc : Thread Cert.SwapHalvesIdeal.nD Cert.SwapHalvesIdeal.τ).loc Cert.SwapHalvesIdeal.main_arg2)
          ∧ r.2.mem ((c.tc : Thread Cert.SwapHalvesIdeal.nD Cert.SwapHalvesIdeal.τ).loc Cert.SwapHalvesIdeal.main_arg3) = m ((c.tc : Thread Cert.SwapHalvesIdeal.nD Cert.SwapHalvesIdeal.τ).loc Cert.SwapHalvesIdeal.main_arg3))
      ∧ θ_run (Cert.SwapHalvesRefIdeal.defs (F := Ideal)) (onTc (τ := Cert.SwapHalvesRefIdeal.τ) (Cert.SwapHalvesRefIdeal.main (F := Ideal))) ⟨m', fun _ => 0, g'⟩ (fun r =>
          r.2.mem (((0 : Dev Cert.SwapHalvesRefIdeal.nD).tc : Thread Cert.SwapHalvesRefIdeal.nD Cert.SwapHalvesRefIdeal.τ).loc Cert.SwapHalvesRefIdeal.main_v6) = v0
          ∧ r.2.mem (((0 : Dev Cert.SwapHalvesRefIdeal.nD).tc : Thread Cert.SwapHalvesRefIdeal.nD Cert.SwapHalvesRefIdeal.τ).loc Cert.SwapHalvesRefIdeal.main_v13) = v1
          ∧ r.2.mem (((0 : Dev Cert.SwapHalvesRefIdeal.nD).tc : Thread Cert.SwapHalvesRefIdeal.nD Cert.SwapHalvesRefIdeal.τ).loc Cert.SwapHalvesRefIdeal.main_v20) = v2
          ∧ r.2.mem (((0 : Dev Cert.SwapHalvesRefIdeal.nD).tc : Thread Cert.SwapHalvesRefIdeal.nD Cert.SwapHalvesRefIdeal.τ).loc Cert.SwapHalvesRefIdeal.main_v27) = v3
          ∧ r.2.mem (((0 : Dev Cert.SwapHalvesRefIdeal.nD).tc : Thread Cert.SwapHalvesRefIdeal.nD Cert.SwapHalvesRefIdeal.τ).loc Cert.SwapHalvesRefIdeal.main_arg0) = m' (((0 : Dev Cert.SwapHalvesRefIdeal.nD).tc : Thread Cert.SwapHalvesRefIdeal.nD Cert.SwapHalvesRefIdeal.τ).loc Cert.SwapHalvesRefIdeal.main_arg0)
          ∧ r.2.mem (((0 : Dev Cert.SwapHalvesRefIdeal.nD).tc : Thread Cert.SwapHalvesRefIdeal.nD Cert.SwapHalvesRefIdeal.τ).loc Cert.SwapHalvesRefIdeal.main_arg1) = m' (((0 : Dev Cert.SwapHalvesRefIdeal.nD).tc : Thread Cert.SwapHalvesRefIdeal.nD Cert.SwapHalvesRefIdeal.τ).loc Cert.SwapHalvesRefIdeal.main_arg1)
          ∧ r.2.mem (((0 : Dev Cert.SwapHalvesRefIdeal.nD).tc : Thread Cert.SwapHalvesRefIdeal.nD Cert.SwapHalvesRefIdeal.τ).loc Cert.SwapHalvesRefIdeal.main_arg2) = m' (((0 : Dev Cert.SwapHalvesRefIdeal.nD).tc : Thread Cert.SwapHalvesRefIdeal.nD Cert.SwapHalvesRefIdeal.τ).loc Cert.SwapHalvesRefIdeal.main_arg2)
          ∧ r.2.mem (((0 : Dev Cert.SwapHalvesRefIdeal.nD).tc : Thread Cert.SwapHalvesRefIdeal.nD Cert.SwapHalvesRefIdeal.τ).loc Cert.SwapHalvesRefIdeal.main_arg3) = m' (((0 : Dev Cert.SwapHalvesRefIdeal.nD).tc : Thread Cert.SwapHalvesRefIdeal.nD Cert.SwapHalvesRefIdeal.τ).loc Cert.SwapHalvesRefIdeal.main_arg3))

def preserves_JoinHalves_JoinHalvesIdeal : Prop :=
  True

def algebraic_JoinHalvesIdeal_JoinHalvesRefIdeal [hJoinHalvesIdeal : Cert.JoinHalvesIdeal.Facts] [hJoinHalvesRefIdeal : Cert.JoinHalvesRefIdeal.Facts] : Prop :=
  ∀ (m : (ℓ : Loc Cert.JoinHalvesIdeal.nD Cert.JoinHalvesIdeal.τ Cert.JoinHalvesIdeal.sig) → Buf (Elt Ideal) ℓ) (g : Dev Cert.JoinHalvesIdeal.nD → PrngReg)
    (m' : (ℓ : Loc Cert.JoinHalvesRefIdeal.nD Cert.JoinHalvesRefIdeal.τ Cert.JoinHalvesRefIdeal.sig) → Buf (Elt Ideal) ℓ) (g' : Dev Cert.JoinHalvesRefIdeal.nD → PrngReg), Pre_JoinHalvesIdeal m →
    (∀ c : Dev Cert.JoinHalvesIdeal.nD,
      m ((c.tc : Thread Cert.JoinHalvesIdeal.nD Cert.JoinHalvesIdeal.τ).loc Cert.JoinHalvesIdeal.main_arg0) = Layout.blockN ⟨2, ![512, 772]⟩ ⟨2, ![1024, 3088]⟩ (Layout.meshBlock [2, 2, 2] ![[2], [0, 1]] c) (m' (((0 : Dev Cert.JoinHalvesRefIdeal.nD).tc : Thread Cert.JoinHalvesRefIdeal.nD Cert.JoinHalvesRefIdeal.τ).loc Cert.JoinHalvesRefIdeal.main_arg0))
      ∧ m ((c.tc : Thread Cert.JoinHalvesIdeal.nD Cert.JoinHalvesIdeal.τ).loc Cert.JoinHalvesIdeal.main_arg1) = Layout.block ⟨2, ![128, 1024]⟩ ⟨2, ![1024, 1024]⟩ 0 8 c (m' (((0 : Dev Cert.JoinHalvesRefIdeal.nD).tc : Thread Cert.JoinHalvesRefIdeal.nD Cert.JoinHalvesRefIdeal.τ).loc Cert.JoinHalvesRefIdeal.main_arg1))
      ∧ m ((c.tc : Thread Cert.JoinHalvesIdeal.nD Cert.JoinHalvesIdeal.τ).loc Cert.JoinHalvesIdeal.main_arg2) = Layout.blockN ⟨2, ![512, 1024]⟩ ⟨2, ![1024, 4096]⟩ (Layout.meshBlock [2, 2, 2] ![[2], [0, 1]] c) (m' (((0 : Dev Cert.JoinHalvesRefIdeal.nD).tc : Thread Cert.JoinHalvesRefIdeal.nD Cert.JoinHalvesRefIdeal.τ).loc Cert.JoinHalvesRefIdeal.main_arg2))
      ∧ m ((c.tc : Thread Cert.JoinHalvesIdeal.nD Cert.JoinHalvesIdeal.τ).loc Cert.JoinHalvesIdeal.main_arg3) = Layout.block ⟨2, ![512, 1024]⟩ ⟨2, ![4096, 1024]⟩ 0 8 c (m' (((0 : Dev Cert.JoinHalvesRefIdeal.nD).tc : Thread Cert.JoinHalvesRefIdeal.nD Cert.JoinHalvesRefIdeal.τ).loc Cert.JoinHalvesRefIdeal.main_arg3))) →
    ∃ (v0 : Buf (Elt Ideal) (((0 : Dev Cert.JoinHalvesRefIdeal.nD).tc : Thread Cert.JoinHalvesRefIdeal.nD Cert.JoinHalvesRefIdeal.τ).loc Cert.JoinHalvesRefIdeal.main_arg0)) (v1 : Buf (Elt Ideal) (((0 : Dev Cert.JoinHalvesRefIdeal.nD).tc : Thread Cert.JoinHalvesRefIdeal.nD Cert.JoinHalvesRefIdeal.τ).loc Cert.JoinHalvesRefIdeal.main_arg1)) (v2 : Buf (Elt Ideal) (((0 : Dev Cert.JoinHalvesRefIdeal.nD).tc : Thread Cert.JoinHalvesRefIdeal.nD Cert.JoinHalvesRefIdeal.τ).loc Cert.JoinHalvesRefIdeal.main_arg2)) (v3 : Buf (Elt Ideal) (((0 : Dev Cert.JoinHalvesRefIdeal.nD).tc : Thread Cert.JoinHalvesRefIdeal.nD Cert.JoinHalvesRefIdeal.τ).loc Cert.JoinHalvesRefIdeal.main_arg3)),
      θ_run (Cert.JoinHalvesIdeal.defs (F := Ideal)) (onTc (τ := Cert.JoinHalvesIdeal.τ) (Cert.JoinHalvesIdeal.main (F := Ideal))) ⟨m, fun _ => 0, g⟩ (fun r => ∀ c : Dev Cert.JoinHalvesIdeal.nD,
          r.2.mem ((c.tc : Thread Cert.JoinHalvesIdeal.nD Cert.JoinHalvesIdeal.τ).loc Cert.JoinHalvesIdeal.main_v1_0) = Layout.blockN ⟨2, ![1024, 772]⟩ ⟨2, ![1024, 3088]⟩ (Layout.meshBlock [2, 2, 2] ![[], [0, 1]] c) v0
          ∧ r.2.mem ((c.tc : Thread Cert.JoinHalvesIdeal.nD Cert.JoinHalvesIdeal.τ).loc Cert.JoinHalvesIdeal.main_v1_1) = Layout.blockN ⟨2, ![256, 1024]⟩ ⟨2, ![1024, 1024]⟩ (Layout.meshBlock [2, 2, 2] ![[0, 1], []] c) v1
          ∧ r.2.mem ((c.tc : Thread Cert.JoinHalvesIdeal.nD Cert.JoinHalvesIdeal.τ).loc Cert.JoinHalvesIdeal.main_v1_2) = Layout.blockN ⟨2, ![1024, 1024]⟩ ⟨2, ![1024, 4096]⟩ (Layout.meshBlock [2, 2, 2] ![[], [0, 1]] c) v2
          ∧ r.2.mem ((c.tc : Thread Cert.JoinHalvesIdeal.nD Cert.JoinHalvesIdeal.τ).loc Cert.JoinHalvesIdeal.main_v1_3) = Layout.blockN ⟨2, ![1024, 1024]⟩ ⟨2, ![4096, 1024]⟩ (Layout.meshBlock [2, 2, 2] ![[0, 1], []] c) v3
          ∧ r.2.mem ((c.tc : Thread Cert.JoinHalvesIdeal.nD Cert.JoinHalvesIdeal.τ).loc Cert.JoinHalvesIdeal.main_arg0) = m ((c.tc : Thread Cert.JoinHalvesIdeal.nD Cert.JoinHalvesIdeal.τ).loc Cert.JoinHalvesIdeal.main_arg0)
          ∧ r.2.mem ((c.tc : Thread Cert.JoinHalvesIdeal.nD Cert.JoinHalvesIdeal.τ).loc Cert.JoinHalvesIdeal.main_arg1) = m ((c.tc : Thread Cert.JoinHalvesIdeal.nD Cert.JoinHalvesIdeal.τ).loc Cert.JoinHalvesIdeal.main_arg1)
          ∧ r.2.mem ((c.tc : Thread Cert.JoinHalvesIdeal.nD Cert.JoinHalvesIdeal.τ).loc Cert.JoinHalvesIdeal.main_arg2) = m ((c.tc : Thread Cert.JoinHalvesIdeal.nD Cert.JoinHalvesIdeal.τ).loc Cert.JoinHalvesIdeal.main_arg2)
          ∧ r.2.mem ((c.tc : Thread Cert.JoinHalvesIdeal.nD Cert.JoinHalvesIdeal.τ).loc Cert.JoinHalvesIdeal.main_arg3) = m ((c.tc : Thread Cert.JoinHalvesIdeal.nD Cert.JoinHalvesIdeal.τ).loc Cert.JoinHalvesIdeal.main_arg3))
      ∧ θ_run (Cert.JoinHalvesRefIdeal.defs (F := Ideal)) (onTc (τ := Cert.JoinHalvesRefIdeal.τ) (Cert.JoinHalvesRefIdeal.main (F := Ideal))) ⟨m', fun _ => 0, g'⟩ (fun r =>
          r.2.mem (((0 : Dev Cert.JoinHalvesRefIdeal.nD).tc : Thread Cert.JoinHalvesRefIdeal.nD Cert.JoinHalvesRefIdeal.τ).loc Cert.JoinHalvesRefIdeal.main_arg0) = v0
          ∧ r.2.mem (((0 : Dev Cert.JoinHalvesRefIdeal.nD).tc : Thread Cert.JoinHalvesRefIdeal.nD Cert.JoinHalvesRefIdeal.τ).loc Cert.JoinHalvesRefIdeal.main_arg1) = v1
          ∧ r.2.mem (((0 : Dev Cert.JoinHalvesRefIdeal.nD).tc : Thread Cert.JoinHalvesRefIdeal.nD Cert.JoinHalvesRefIdeal.τ).loc Cert.JoinHalvesRefIdeal.main_arg2) = v2
          ∧ r.2.mem (((0 : Dev Cert.JoinHalvesRefIdeal.nD).tc : Thread Cert.JoinHalvesRefIdeal.nD Cert.JoinHalvesRefIdeal.τ).loc Cert.JoinHalvesRefIdeal.main_arg3) = v3
          ∧ r.2.mem (((0 : Dev Cert.JoinHalvesRefIdeal.nD).tc : Thread Cert.JoinHalvesRefIdeal.nD Cert.JoinHalvesRefIdeal.τ).loc Cert.JoinHalvesRefIdeal.main_arg0) = m' (((0 : Dev Cert.JoinHalvesRefIdeal.nD).tc : Thread Cert.JoinHalvesRefIdeal.nD Cert.JoinHalvesRefIdeal.τ).loc Cert.JoinHalvesRefIdeal.main_arg0)
          ∧ r.2.mem (((0 : Dev Cert.JoinHalvesRefIdeal.nD).tc : Thread Cert.JoinHalvesRefIdeal.nD Cert.JoinHalvesRefIdeal.τ).loc Cert.JoinHalvesRefIdeal.main_arg1) = m' (((0 : Dev Cert.JoinHalvesRefIdeal.nD).tc : Thread Cert.JoinHalvesRefIdeal.nD Cert.JoinHalvesRefIdeal.τ).loc Cert.JoinHalvesRefIdeal.main_arg1)
          ∧ r.2.mem (((0 : Dev Cert.JoinHalvesRefIdeal.nD).tc : Thread Cert.JoinHalvesRefIdeal.nD Cert.JoinHalvesRefIdeal.τ).loc Cert.JoinHalvesRefIdeal.main_arg2) = m' (((0 : Dev Cert.JoinHalvesRefIdeal.nD).tc : Thread Cert.JoinHalvesRefIdeal.nD Cert.JoinHalvesRefIdeal.τ).loc Cert.JoinHalvesRefIdeal.main_arg2)
          ∧ r.2.mem (((0 : Dev Cert.JoinHalvesRefIdeal.nD).tc : Thread Cert.JoinHalvesRefIdeal.nD Cert.JoinHalvesRefIdeal.τ).loc Cert.JoinHalvesRefIdeal.main_arg3) = m' (((0 : Dev Cert.JoinHalvesRefIdeal.nD).tc : Thread Cert.JoinHalvesRefIdeal.nD Cert.JoinHalvesRefIdeal.τ).loc Cert.JoinHalvesRefIdeal.main_arg3))

def preserves_ScatterChips_ScatterChipsIdeal : Prop :=
  True

def algebraic_ScatterChipsIdeal_ScatterChipsRefIdeal [hScatterChipsIdeal : Cert.ScatterChipsIdeal.Facts] [hScatterChipsRefIdeal : Cert.ScatterChipsRefIdeal.Facts] : Prop :=
  ∀ (m : (ℓ : Loc Cert.ScatterChipsIdeal.nD Cert.ScatterChipsIdeal.τ Cert.ScatterChipsIdeal.sig) → Buf (Elt Ideal) ℓ) (g : Dev Cert.ScatterChipsIdeal.nD → PrngReg)
    (m' : (ℓ : Loc Cert.ScatterChipsRefIdeal.nD Cert.ScatterChipsRefIdeal.τ Cert.ScatterChipsRefIdeal.sig) → Buf (Elt Ideal) ℓ) (g' : Dev Cert.ScatterChipsRefIdeal.nD → PrngReg), Pre_ScatterChipsIdeal m →
    (∀ c : Dev Cert.ScatterChipsIdeal.nD,
      m ((c.tc : Thread Cert.ScatterChipsIdeal.nD Cert.ScatterChipsIdeal.τ).loc Cert.ScatterChipsIdeal.main_arg0) = Layout.blockN ⟨3, ![4, 512, 772]⟩ ⟨3, ![16, 1024, 772]⟩ (Layout.meshBlock [2, 2, 2] ![[0, 1], [2], []] c) (m' (((0 : Dev Cert.ScatterChipsRefIdeal.nD).tc : Thread Cert.ScatterChipsRefIdeal.nD Cert.ScatterChipsRefIdeal.τ).loc Cert.ScatterChipsRefIdeal.main_arg0))
      ∧ m ((c.tc : Thread Cert.ScatterChipsIdeal.nD Cert.ScatterChipsIdeal.τ).loc Cert.ScatterChipsIdeal.main_arg1) = Layout.blockN ⟨3, ![4, 128, 1024]⟩ ⟨3, ![16, 256, 1024]⟩ (Layout.meshBlock [2, 2, 2] ![[0, 1], [2], []] c) (m' (((0 : Dev Cert.ScatterChipsRefIdeal.nD).tc : Thread Cert.ScatterChipsRefIdeal.nD Cert.ScatterChipsRefIdeal.τ).loc Cert.ScatterChipsRefIdeal.main_arg1))
      ∧ m ((c.tc : Thread Cert.ScatterChipsIdeal.nD Cert.ScatterChipsIdeal.τ).loc Cert.ScatterChipsIdeal.main_arg2) = Layout.blockN ⟨3, ![4, 512, 1024]⟩ ⟨3, ![16, 1024, 1024]⟩ (Layout.meshBlock [2, 2, 2] ![[0, 1], [2], []] c) (m' (((0 : Dev Cert.ScatterChipsRefIdeal.nD).tc : Thread Cert.ScatterChipsRefIdeal.nD Cert.ScatterChipsRefIdeal.τ).loc Cert.ScatterChipsRefIdeal.main_arg2))
      ∧ m ((c.tc : Thread Cert.ScatterChipsIdeal.nD Cert.ScatterChipsIdeal.τ).loc Cert.ScatterChipsIdeal.main_arg3) = Layout.blockN ⟨3, ![4, 512, 1024]⟩ ⟨3, ![16, 1024, 1024]⟩ (Layout.meshBlock [2, 2, 2] ![[0, 1], [2], []] c) (m' (((0 : Dev Cert.ScatterChipsRefIdeal.nD).tc : Thread Cert.ScatterChipsRefIdeal.nD Cert.ScatterChipsRefIdeal.τ).loc Cert.ScatterChipsRefIdeal.main_arg3))) →
    ∃ (v0 : Buf (Elt Ideal) (((0 : Dev Cert.ScatterChipsRefIdeal.nD).tc : Thread Cert.ScatterChipsRefIdeal.nD Cert.ScatterChipsRefIdeal.τ).loc Cert.ScatterChipsRefIdeal.main_v2)) (v1 : Buf (Elt Ideal) (((0 : Dev Cert.ScatterChipsRefIdeal.nD).tc : Thread Cert.ScatterChipsRefIdeal.nD Cert.ScatterChipsRefIdeal.τ).loc Cert.ScatterChipsRefIdeal.main_v5)) (v2 : Buf (Elt Ideal) (((0 : Dev Cert.ScatterChipsRefIdeal.nD).tc : Thread Cert.ScatterChipsRefIdeal.nD Cert.ScatterChipsRefIdeal.τ).loc Cert.ScatterChipsRefIdeal.main_v8)) (v3 : Buf (Elt Ideal) (((0 : Dev Cert.ScatterChipsRefIdeal.nD).tc : Thread Cert.ScatterChipsRefIdeal.nD Cert.ScatterChipsRefIdeal.τ).loc Cert.ScatterChipsRefIdeal.main_v11)),
      θ_run (Cert.ScatterChipsIdeal.defs (F := Ideal)) (onTc (τ := Cert.ScatterChipsIdeal.τ) (Cert.ScatterChipsIdeal.main (F := Ideal))) ⟨m, fun _ => 0, g⟩ (fun r => ∀ c : Dev Cert.ScatterChipsIdeal.nD,
          r.2.mem ((c.tc : Thread Cert.ScatterChipsIdeal.nD Cert.ScatterChipsIdeal.τ).loc Cert.ScatterChipsIdeal.main_v1_0) = Layout.blockN ⟨3, ![4, 512, 772]⟩ ⟨3, ![16, 1024, 772]⟩ (Layout.meshBlock [2, 2, 2] ![[0, 1], [2], []] c) v0
          ∧ r.2.mem ((c.tc : Thread Cert.ScatterChipsIdeal.nD Cert.ScatterChipsIdeal.τ).loc Cert.ScatterChipsIdeal.main_v1_1) = Layout.blockN ⟨3, ![4, 128, 1024]⟩ ⟨3, ![16, 256, 1024]⟩ (Layout.meshBlock [2, 2, 2] ![[0, 1], [2], []] c) v1
          ∧ r.2.mem ((c.tc : Thread Cert.ScatterChipsIdeal.nD Cert.ScatterChipsIdeal.τ).loc Cert.ScatterChipsIdeal.main_v1_2) = Layout.blockN ⟨3, ![4, 512, 1024]⟩ ⟨3, ![16, 1024, 1024]⟩ (Layout.meshBlock [2, 2, 2] ![[0, 1], [2], []] c) v2
          ∧ r.2.mem ((c.tc : Thread Cert.ScatterChipsIdeal.nD Cert.ScatterChipsIdeal.τ).loc Cert.ScatterChipsIdeal.main_v1_3) = Layout.blockN ⟨3, ![4, 512, 1024]⟩ ⟨3, ![16, 1024, 1024]⟩ (Layout.meshBlock [2, 2, 2] ![[0, 1], [2], []] c) v3
          ∧ r.2.mem ((c.tc : Thread Cert.ScatterChipsIdeal.nD Cert.ScatterChipsIdeal.τ).loc Cert.ScatterChipsIdeal.main_arg0) = m ((c.tc : Thread Cert.ScatterChipsIdeal.nD Cert.ScatterChipsIdeal.τ).loc Cert.ScatterChipsIdeal.main_arg0)
          ∧ r.2.mem ((c.tc : Thread Cert.ScatterChipsIdeal.nD Cert.ScatterChipsIdeal.τ).loc Cert.ScatterChipsIdeal.main_arg1) = m ((c.tc : Thread Cert.ScatterChipsIdeal.nD Cert.ScatterChipsIdeal.τ).loc Cert.ScatterChipsIdeal.main_arg1)
          ∧ r.2.mem ((c.tc : Thread Cert.ScatterChipsIdeal.nD Cert.ScatterChipsIdeal.τ).loc Cert.ScatterChipsIdeal.main_arg2) = m ((c.tc : Thread Cert.ScatterChipsIdeal.nD Cert.ScatterChipsIdeal.τ).loc Cert.ScatterChipsIdeal.main_arg2)
          ∧ r.2.mem ((c.tc : Thread Cert.ScatterChipsIdeal.nD Cert.ScatterChipsIdeal.τ).loc Cert.ScatterChipsIdeal.main_arg3) = m ((c.tc : Thread Cert.ScatterChipsIdeal.nD Cert.ScatterChipsIdeal.τ).loc Cert.ScatterChipsIdeal.main_arg3))
      ∧ θ_run (Cert.ScatterChipsRefIdeal.defs (F := Ideal)) (onTc (τ := Cert.ScatterChipsRefIdeal.τ) (Cert.ScatterChipsRefIdeal.main (F := Ideal))) ⟨m', fun _ => 0, g'⟩ (fun r =>
          r.2.mem (((0 : Dev Cert.ScatterChipsRefIdeal.nD).tc : Thread Cert.ScatterChipsRefIdeal.nD Cert.ScatterChipsRefIdeal.τ).loc Cert.ScatterChipsRefIdeal.main_v2) = v0
          ∧ r.2.mem (((0 : Dev Cert.ScatterChipsRefIdeal.nD).tc : Thread Cert.ScatterChipsRefIdeal.nD Cert.ScatterChipsRefIdeal.τ).loc Cert.ScatterChipsRefIdeal.main_v5) = v1
          ∧ r.2.mem (((0 : Dev Cert.ScatterChipsRefIdeal.nD).tc : Thread Cert.ScatterChipsRefIdeal.nD Cert.ScatterChipsRefIdeal.τ).loc Cert.ScatterChipsRefIdeal.main_v8) = v2
          ∧ r.2.mem (((0 : Dev Cert.ScatterChipsRefIdeal.nD).tc : Thread Cert.ScatterChipsRefIdeal.nD Cert.ScatterChipsRefIdeal.τ).loc Cert.ScatterChipsRefIdeal.main_v11) = v3
          ∧ r.2.mem (((0 : Dev Cert.ScatterChipsRefIdeal.nD).tc : Thread Cert.ScatterChipsRefIdeal.nD Cert.ScatterChipsRefIdeal.τ).loc Cert.ScatterChipsRefIdeal.main_arg0) = m' (((0 : Dev Cert.ScatterChipsRefIdeal.nD).tc : Thread Cert.ScatterChipsRefIdeal.nD Cert.ScatterChipsRefIdeal.τ).loc Cert.ScatterChipsRefIdeal.main_arg0)
          ∧ r.2.mem (((0 : Dev Cert.ScatterChipsRefIdeal.nD).tc : Thread Cert.ScatterChipsRefIdeal.nD Cert.ScatterChipsRefIdeal.τ).loc Cert.ScatterChipsRefIdeal.main_arg1) = m' (((0 : Dev Cert.ScatterChipsRefIdeal.nD).tc : Thread Cert.ScatterChipsRefIdeal.nD Cert.ScatterChipsRefIdeal.τ).loc Cert.ScatterChipsRefIdeal.main_arg1)
          ∧ r.2.mem (((0 : Dev Cert.ScatterChipsRefIdeal.nD).tc : Thread Cert.ScatterChipsRefIdeal.nD Cert.ScatterChipsRefIdeal.τ).loc Cert.ScatterChipsRefIdeal.main_arg2) = m' (((0 : Dev Cert.ScatterChipsRefIdeal.nD).tc : Thread Cert.ScatterChipsRefIdeal.nD Cert.ScatterChipsRefIdeal.τ).loc Cert.ScatterChipsRefIdeal.main_arg2)
          ∧ r.2.mem (((0 : Dev Cert.ScatterChipsRefIdeal.nD).tc : Thread Cert.ScatterChipsRefIdeal.nD Cert.ScatterChipsRefIdeal.τ).loc Cert.ScatterChipsRefIdeal.main_arg3) = m' (((0 : Dev Cert.ScatterChipsRefIdeal.nD).tc : Thread Cert.ScatterChipsRefIdeal.nD Cert.ScatterChipsRefIdeal.τ).loc Cert.ScatterChipsRefIdeal.main_arg3))

def preserves_GatherSmall_GatherSmallIdeal : Prop :=
  True

def algebraic_GatherSmallIdeal_GatherSmallRefIdeal [hGatherSmallIdeal : Cert.GatherSmallIdeal.Facts] [hGatherSmallRefIdeal : Cert.GatherSmallRefIdeal.Facts] : Prop :=
  ∀ (m : (ℓ : Loc Cert.GatherSmallIdeal.nD Cert.GatherSmallIdeal.τ Cert.GatherSmallIdeal.sig) → Buf (Elt Ideal) ℓ) (g : Dev Cert.GatherSmallIdeal.nD → PrngReg)
    (m' : (ℓ : Loc Cert.GatherSmallRefIdeal.nD Cert.GatherSmallRefIdeal.τ Cert.GatherSmallRefIdeal.sig) → Buf (Elt Ideal) ℓ) (g' : Dev Cert.GatherSmallRefIdeal.nD → PrngReg), Pre_GatherSmallIdeal m →
    (∀ c : Dev Cert.GatherSmallIdeal.nD,
      m ((c.tc : Thread Cert.GatherSmallIdeal.nD Cert.GatherSmallIdeal.τ).loc Cert.GatherSmallIdeal.main_arg0) = Layout.block ⟨2, ![64, 128]⟩ ⟨2, ![512, 128]⟩ 0 8 c (m' (((0 : Dev Cert.GatherSmallRefIdeal.nD).tc : Thread Cert.GatherSmallRefIdeal.nD Cert.GatherSmallRefIdeal.τ).loc Cert.GatherSmallRefIdeal.main_arg0))) →
    ∃ (v0 : Buf (Elt Ideal) (((0 : Dev Cert.GatherSmallRefIdeal.nD).tc : Thread Cert.GatherSmallRefIdeal.nD Cert.GatherSmallRefIdeal.τ).loc Cert.GatherSmallRefIdeal.main_v0)),
      θ_run (Cert.GatherSmallIdeal.defs (F := Ideal)) (onTc (τ := Cert.GatherSmallIdeal.τ) (Cert.GatherSmallIdeal.main (F := Ideal))) ⟨m, fun _ => 0, g⟩ (fun r => ∀ c : Dev Cert.GatherSmallIdeal.nD,
          r.2.mem ((c.tc : Thread Cert.GatherSmallIdeal.nD Cert.GatherSmallIdeal.τ).loc Cert.GatherSmallIdeal.main_v1) = v0
          ∧ r.2.mem ((c.tc : Thread Cert.GatherSmallIdeal.nD Cert.GatherSmallIdeal.τ).loc Cert.GatherSmallIdeal.main_arg0) = m ((c.tc : Thread Cert.GatherSmallIdeal.nD Cert.GatherSmallIdeal.τ).loc Cert.GatherSmallIdeal.main_arg0))
      ∧ θ_run (Cert.GatherSmallRefIdeal.defs (F := Ideal)) (onTc (τ := Cert.GatherSmallRefIdeal.τ) (Cert.GatherSmallRefIdeal.main (F := Ideal))) ⟨m', fun _ => 0, g'⟩ (fun r =>
          r.2.mem (((0 : Dev Cert.GatherSmallRefIdeal.nD).tc : Thread Cert.GatherSmallRefIdeal.nD Cert.GatherSmallRefIdeal.τ).loc Cert.GatherSmallRefIdeal.main_v0) = v0
          ∧ r.2.mem (((0 : Dev Cert.GatherSmallRefIdeal.nD).tc : Thread Cert.GatherSmallRefIdeal.nD Cert.GatherSmallRefIdeal.τ).loc Cert.GatherSmallRefIdeal.main_arg0) = m' (((0 : Dev Cert.GatherSmallRefIdeal.nD).tc : Thread Cert.GatherSmallRefIdeal.nD Cert.GatherSmallRefIdeal.τ).loc Cert.GatherSmallRefIdeal.main_arg0))

def preserves_GatherWeights_GatherWeightsIdeal : Prop :=
  True

def algebraic_GatherWeightsIdeal_GatherWeightsRefIdeal [hGatherWeightsIdeal : Cert.GatherWeightsIdeal.Facts] [hGatherWeightsRefIdeal : Cert.GatherWeightsRefIdeal.Facts] : Prop :=
  ∀ (m : (ℓ : Loc Cert.GatherWeightsIdeal.nD Cert.GatherWeightsIdeal.τ Cert.GatherWeightsIdeal.sig) → Buf (Elt Ideal) ℓ) (g : Dev Cert.GatherWeightsIdeal.nD → PrngReg)
    (m' : (ℓ : Loc Cert.GatherWeightsRefIdeal.nD Cert.GatherWeightsRefIdeal.τ Cert.GatherWeightsRefIdeal.sig) → Buf (Elt Ideal) ℓ) (g' : Dev Cert.GatherWeightsRefIdeal.nD → PrngReg), Pre_GatherWeightsIdeal m →
    (∀ c : Dev Cert.GatherWeightsIdeal.nD,
      m ((c.tc : Thread Cert.GatherWeightsIdeal.nD Cert.GatherWeightsIdeal.τ).loc Cert.GatherWeightsIdeal.main_arg0) = Layout.blockN ⟨2, ![1024, 772]⟩ ⟨2, ![1024, 3088]⟩ (Layout.meshBlock [2, 2, 2] ![[], [0, 1]] c) (m' (((0 : Dev Cert.GatherWeightsRefIdeal.nD).tc : Thread Cert.GatherWeightsRefIdeal.nD Cert.GatherWeightsRefIdeal.τ).loc Cert.GatherWeightsRefIdeal.main_arg0))
      ∧ m ((c.tc : Thread Cert.GatherWeightsIdeal.nD Cert.GatherWeightsIdeal.τ).loc Cert.GatherWeightsIdeal.main_arg1) = Layout.blockN ⟨2, ![256, 1024]⟩ ⟨2, ![1024, 1024]⟩ (Layout.meshBlock [2, 2, 2] ![[0, 1], []] c) (m' (((0 : Dev Cert.GatherWeightsRefIdeal.nD).tc : Thread Cert.GatherWeightsRefIdeal.nD Cert.GatherWeightsRefIdeal.τ).loc Cert.GatherWeightsRefIdeal.main_arg1))
      ∧ m ((c.tc : Thread Cert.GatherWeightsIdeal.nD Cert.GatherWeightsIdeal.τ).loc Cert.GatherWeightsIdeal.main_arg2) = Layout.blockN ⟨2, ![1024, 1024]⟩ ⟨2, ![1024, 4096]⟩ (Layout.meshBlock [2, 2, 2] ![[], [0, 1]] c) (m' (((0 : Dev Cert.GatherWeightsRefIdeal.nD).tc : Thread Cert.GatherWeightsRefIdeal.nD Cert.GatherWeightsRefIdeal.τ).loc Cert.GatherWeightsRefIdeal.main_arg2))
      ∧ m ((c.tc : Thread Cert.GatherWeightsIdeal.nD Cert.GatherWeightsIdeal.τ).loc Cert.GatherWeightsIdeal.main_arg3) = Layout.blockN ⟨2, ![1024, 1024]⟩ ⟨2, ![4096, 1024]⟩ (Layout.meshBlock [2, 2, 2] ![[0, 1], []] c) (m' (((0 : Dev Cert.GatherWeightsRefIdeal.nD).tc : Thread Cert.GatherWeightsRefIdeal.nD Cert.GatherWeightsRefIdeal.τ).loc Cert.GatherWeightsRefIdeal.main_arg3))
      ∧ m ((c.tc : Thread Cert.GatherWeightsIdeal.nD Cert.GatherWeightsIdeal.τ).loc Cert.GatherWeightsIdeal.main_arg4) = Layout.blockN ⟨2, ![16, 64]⟩ ⟨2, ![16, 256]⟩ (Layout.meshBlock [2, 2, 2] ![[], [0, 1]] c) (m' (((0 : Dev Cert.GatherWeightsRefIdeal.nD).tc : Thread Cert.GatherWeightsRefIdeal.nD Cert.GatherWeightsRefIdeal.τ).loc Cert.GatherWeightsRefIdeal.main_arg4))) →
    ∃ (v0 : Buf (Elt Ideal) (((0 : Dev Cert.GatherWeightsRefIdeal.nD).tc : Thread Cert.GatherWeightsRefIdeal.nD Cert.GatherWeightsRefIdeal.τ).loc Cert.GatherWeightsRefIdeal.main_v1)) (v1 : Buf (Elt Ideal) (((0 : Dev Cert.GatherWeightsRefIdeal.nD).tc : Thread Cert.GatherWeightsRefIdeal.nD Cert.GatherWeightsRefIdeal.τ).loc Cert.GatherWeightsRefIdeal.main_v2)) (v2 : Buf (Elt Ideal) (((0 : Dev Cert.GatherWeightsRefIdeal.nD).tc : Thread Cert.GatherWeightsRefIdeal.nD Cert.GatherWeightsRefIdeal.τ).loc Cert.GatherWeightsRefIdeal.main_v4)) (v3 : Buf (Elt Ideal) (((0 : Dev Cert.GatherWeightsRefIdeal.nD).tc : Thread Cert.GatherWeightsRefIdeal.nD Cert.GatherWeightsRefIdeal.τ).loc Cert.GatherWeightsRefIdeal.main_v5)) (v4 : Buf (Elt Ideal) (((0 : Dev Cert.GatherWeightsRefIdeal.nD).tc : Thread Cert.GatherWeightsRefIdeal.nD Cert.GatherWeightsRefIdeal.τ).loc Cert.GatherWeightsRefIdeal.main_v7)),
      θ_run (Cert.GatherWeightsIdeal.defs (F := Ideal)) (onTc (τ := Cert.GatherWeightsIdeal.τ) (Cert.GatherWeightsIdeal.main (F := Ideal))) ⟨m, fun _ => 0, g⟩ (fun r => ∀ c : Dev Cert.GatherWeightsIdeal.nD,
          r.2.mem ((c.tc : Thread Cert.GatherWeightsIdeal.nD Cert.GatherWeightsIdeal.τ).loc Cert.GatherWeightsIdeal.main_v1_0) = v0
          ∧ r.2.mem ((c.tc : Thread Cert.GatherWeightsIdeal.nD Cert.GatherWeightsIdeal.τ).loc Cert.GatherWeightsIdeal.main_v1_1) = v1
          ∧ r.2.mem ((c.tc : Thread Cert.GatherWeightsIdeal.nD Cert.GatherWeightsIdeal.τ).loc Cert.GatherWeightsIdeal.main_v1_2) = v2
          ∧ r.2.mem ((c.tc : Thread Cert.GatherWeightsIdeal.nD Cert.GatherWeightsIdeal.τ).loc Cert.GatherWeightsIdeal.main_v1_3) = v3
          ∧ r.2.mem ((c.tc : Thread Cert.GatherWeightsIdeal.nD Cert.GatherWeightsIdeal.τ).loc Cert.GatherWeightsIdeal.main_v1_4) = v4
          ∧ r.2.mem ((c.tc : Thread Cert.GatherWeightsIdeal.nD Cert.GatherWeightsIdeal.τ).loc Cert.GatherWeightsIdeal.main_arg0) = m ((c.tc : Thread Cert.GatherWeightsIdeal.nD Cert.GatherWeightsIdeal.τ).loc Cert.GatherWeightsIdeal.main_arg0)
          ∧ r.2.mem ((c.tc : Thread Cert.GatherWeightsIdeal.nD Cert.GatherWeightsIdeal.τ).loc Cert.GatherWeightsIdeal.main_arg1) = m ((c.tc : Thread Cert.GatherWeightsIdeal.nD Cert.GatherWeightsIdeal.τ).loc Cert.GatherWeightsIdeal.main_arg1)
          ∧ r.2.mem ((c.tc : Thread Cert.GatherWeightsIdeal.nD Cert.GatherWeightsIdeal.τ).loc Cert.GatherWeightsIdeal.main_arg2) = m ((c.tc : Thread Cert.GatherWeightsIdeal.nD Cert.GatherWeightsIdeal.τ).loc Cert.GatherWeightsIdeal.main_arg2)
          ∧ r.2.mem ((c.tc : Thread Cert.GatherWeightsIdeal.nD Cert.GatherWeightsIdeal.τ).loc Cert.GatherWeightsIdeal.main_arg3) = m ((c.tc : Thread Cert.GatherWeightsIdeal.nD Cert.GatherWeightsIdeal.τ).loc Cert.GatherWeightsIdeal.main_arg3)
          ∧ r.2.mem ((c.tc : Thread Cert.GatherWeightsIdeal.nD Cert.GatherWeightsIdeal.τ).loc Cert.GatherWeightsIdeal.main_arg4) = m ((c.tc : Thread Cert.GatherWeightsIdeal.nD Cert.GatherWeightsIdeal.τ).loc Cert.GatherWeightsIdeal.main_arg4))
      ∧ θ_run (Cert.GatherWeightsRefIdeal.defs (F := Ideal)) (onTc (τ := Cert.GatherWeightsRefIdeal.τ) (Cert.GatherWeightsRefIdeal.main (F := Ideal))) ⟨m', fun _ => 0, g'⟩ (fun r =>
          r.2.mem (((0 : Dev Cert.GatherWeightsRefIdeal.nD).tc : Thread Cert.GatherWeightsRefIdeal.nD Cert.GatherWeightsRefIdeal.τ).loc Cert.GatherWeightsRefIdeal.main_v1) = v0
          ∧ r.2.mem (((0 : Dev Cert.GatherWeightsRefIdeal.nD).tc : Thread Cert.GatherWeightsRefIdeal.nD Cert.GatherWeightsRefIdeal.τ).loc Cert.GatherWeightsRefIdeal.main_v2) = v1
          ∧ r.2.mem (((0 : Dev Cert.GatherWeightsRefIdeal.nD).tc : Thread Cert.GatherWeightsRefIdeal.nD Cert.GatherWeightsRefIdeal.τ).loc Cert.GatherWeightsRefIdeal.main_v4) = v2
          ∧ r.2.mem (((0 : Dev Cert.GatherWeightsRefIdeal.nD).tc : Thread Cert.GatherWeightsRefIdeal.nD Cert.GatherWeightsRefIdeal.τ).loc Cert.GatherWeightsRefIdeal.main_v5) = v3
          ∧ r.2.mem (((0 : Dev Cert.GatherWeightsRefIdeal.nD).tc : Thread Cert.GatherWeightsRefIdeal.nD Cert.GatherWeightsRefIdeal.τ).loc Cert.GatherWeightsRefIdeal.main_v7) = v4
          ∧ r.2.mem (((0 : Dev Cert.GatherWeightsRefIdeal.nD).tc : Thread Cert.GatherWeightsRefIdeal.nD Cert.GatherWeightsRefIdeal.τ).loc Cert.GatherWeightsRefIdeal.main_arg0) = m' (((0 : Dev Cert.GatherWeightsRefIdeal.nD).tc : Thread Cert.GatherWeightsRefIdeal.nD Cert.GatherWeightsRefIdeal.τ).loc Cert.GatherWeightsRefIdeal.main_arg0)
          ∧ r.2.mem (((0 : Dev Cert.GatherWeightsRefIdeal.nD).tc : Thread Cert.GatherWeightsRefIdeal.nD Cert.GatherWeightsRefIdeal.τ).loc Cert.GatherWeightsRefIdeal.main_arg1) = m' (((0 : Dev Cert.GatherWeightsRefIdeal.nD).tc : Thread Cert.GatherWeightsRefIdeal.nD Cert.GatherWeightsRefIdeal.τ).loc Cert.GatherWeightsRefIdeal.main_arg1)
          ∧ r.2.mem (((0 : Dev Cert.GatherWeightsRefIdeal.nD).tc : Thread Cert.GatherWeightsRefIdeal.nD Cert.GatherWeightsRefIdeal.τ).loc Cert.GatherWeightsRefIdeal.main_arg2) = m' (((0 : Dev Cert.GatherWeightsRefIdeal.nD).tc : Thread Cert.GatherWeightsRefIdeal.nD Cert.GatherWeightsRefIdeal.τ).loc Cert.GatherWeightsRefIdeal.main_arg2)
          ∧ r.2.mem (((0 : Dev Cert.GatherWeightsRefIdeal.nD).tc : Thread Cert.GatherWeightsRefIdeal.nD Cert.GatherWeightsRefIdeal.τ).loc Cert.GatherWeightsRefIdeal.main_arg3) = m' (((0 : Dev Cert.GatherWeightsRefIdeal.nD).tc : Thread Cert.GatherWeightsRefIdeal.nD Cert.GatherWeightsRefIdeal.τ).loc Cert.GatherWeightsRefIdeal.main_arg3)
          ∧ r.2.mem (((0 : Dev Cert.GatherWeightsRefIdeal.nD).tc : Thread Cert.GatherWeightsRefIdeal.nD Cert.GatherWeightsRefIdeal.τ).loc Cert.GatherWeightsRefIdeal.main_arg4) = m' (((0 : Dev Cert.GatherWeightsRefIdeal.nD).tc : Thread Cert.GatherWeightsRefIdeal.nD Cert.GatherWeightsRefIdeal.τ).loc Cert.GatherWeightsRefIdeal.main_arg4))

def preserves_AdamwAttnNormG_AdamwAttnNormGIdeal : Prop :=
  True

def algebraic_AdamwAttnNormGIdeal_AdamwAttnNormGRefIdeal [hAdamwAttnNormGIdeal : Cert.AdamwAttnNormGIdeal.Facts] [hAdamwAttnNormGRefIdeal : Cert.AdamwAttnNormGRefIdeal.Facts] : Prop :=
  ∀ (m : (ℓ : Loc Cert.AdamwAttnNormGIdeal.nD Cert.AdamwAttnNormGIdeal.τ Cert.AdamwAttnNormGIdeal.sig) → Buf (Elt Ideal) ℓ) (g : Dev Cert.AdamwAttnNormGIdeal.nD → PrngReg)
    (m' : (ℓ : Loc Cert.AdamwAttnNormGRefIdeal.nD Cert.AdamwAttnNormGRefIdeal.τ Cert.AdamwAttnNormGRefIdeal.sig) → Buf (Elt Ideal) ℓ) (g' : Dev Cert.AdamwAttnNormGRefIdeal.nD → PrngReg), Pre_AdamwAttnNormGIdeal m →
    (∀ c : Dev Cert.AdamwAttnNormGIdeal.nD,
      m' ((c.tc : Thread Cert.AdamwAttnNormGRefIdeal.nD Cert.AdamwAttnNormGRefIdeal.τ).loc Cert.AdamwAttnNormGRefIdeal.main_arg0) = m ((c.tc : Thread Cert.AdamwAttnNormGIdeal.nD Cert.AdamwAttnNormGIdeal.τ).loc Cert.AdamwAttnNormGIdeal.main_arg0)
      ∧ m' ((c.tc : Thread Cert.AdamwAttnNormGRefIdeal.nD Cert.AdamwAttnNormGRefIdeal.τ).loc Cert.AdamwAttnNormGRefIdeal.main_arg1) = m ((c.tc : Thread Cert.AdamwAttnNormGIdeal.nD Cert.AdamwAttnNormGIdeal.τ).loc Cert.AdamwAttnNormGIdeal.main_arg1)
      ∧ m' ((c.tc : Thread Cert.AdamwAttnNormGRefIdeal.nD Cert.AdamwAttnNormGRefIdeal.τ).loc Cert.AdamwAttnNormGRefIdeal.main_arg2) = m ((c.tc : Thread Cert.AdamwAttnNormGIdeal.nD Cert.AdamwAttnNormGIdeal.τ).loc Cert.AdamwAttnNormGIdeal.main_arg2)
      ∧ m' ((c.tc : Thread Cert.AdamwAttnNormGRefIdeal.nD Cert.AdamwAttnNormGRefIdeal.τ).loc Cert.AdamwAttnNormGRefIdeal.main_arg3) = m ((c.tc : Thread Cert.AdamwAttnNormGIdeal.nD Cert.AdamwAttnNormGIdeal.τ).loc Cert.AdamwAttnNormGIdeal.main_arg3)) →
    ∃ (v0 : (c : Dev Cert.AdamwAttnNormGIdeal.nD) → Buf (Elt Ideal) ((c.tc : Thread Cert.AdamwAttnNormGIdeal.nD Cert.AdamwAttnNormGIdeal.τ).loc Cert.AdamwAttnNormGIdeal.main_v0_0)) (v1 : (c : Dev Cert.AdamwAttnNormGIdeal.nD) → Buf (Elt Ideal) ((c.tc : Thread Cert.AdamwAttnNormGIdeal.nD Cert.AdamwAttnNormGIdeal.τ).loc Cert.AdamwAttnNormGIdeal.main_v0_1)) (v2 : (c : Dev Cert.AdamwAttnNormGIdeal.nD) → Buf (Elt Ideal) ((c.tc : Thread Cert.AdamwAttnNormGIdeal.nD Cert.AdamwAttnNormGIdeal.τ).loc Cert.AdamwAttnNormGIdeal.main_v0_2)),
      θ_run (Cert.AdamwAttnNormGIdeal.defs (F := Ideal)) (onTc (τ := Cert.AdamwAttnNormGIdeal.τ) (Cert.AdamwAttnNormGIdeal.main (F := Ideal))) ⟨m, fun _ => 0, g⟩ (fun r => ∀ c : Dev Cert.AdamwAttnNormGIdeal.nD,
          r.2.mem ((c.tc : Thread Cert.AdamwAttnNormGIdeal.nD Cert.AdamwAttnNormGIdeal.τ).loc Cert.AdamwAttnNormGIdeal.main_v0_0) = v0 c
          ∧ r.2.mem ((c.tc : Thread Cert.AdamwAttnNormGIdeal.nD Cert.AdamwAttnNormGIdeal.τ).loc Cert.AdamwAttnNormGIdeal.main_v0_1) = v1 c
          ∧ r.2.mem ((c.tc : Thread Cert.AdamwAttnNormGIdeal.nD Cert.AdamwAttnNormGIdeal.τ).loc Cert.AdamwAttnNormGIdeal.main_v0_2) = v2 c
          ∧ r.2.mem ((c.tc : Thread Cert.AdamwAttnNormGIdeal.nD Cert.AdamwAttnNormGIdeal.τ).loc Cert.AdamwAttnNormGIdeal.main_arg0) = m ((c.tc : Thread Cert.AdamwAttnNormGIdeal.nD Cert.AdamwAttnNormGIdeal.τ).loc Cert.AdamwAttnNormGIdeal.main_arg0)
          ∧ r.2.mem ((c.tc : Thread Cert.AdamwAttnNormGIdeal.nD Cert.AdamwAttnNormGIdeal.τ).loc Cert.AdamwAttnNormGIdeal.main_arg1) = m ((c.tc : Thread Cert.AdamwAttnNormGIdeal.nD Cert.AdamwAttnNormGIdeal.τ).loc Cert.AdamwAttnNormGIdeal.main_arg1)
          ∧ r.2.mem ((c.tc : Thread Cert.AdamwAttnNormGIdeal.nD Cert.AdamwAttnNormGIdeal.τ).loc Cert.AdamwAttnNormGIdeal.main_arg2) = m ((c.tc : Thread Cert.AdamwAttnNormGIdeal.nD Cert.AdamwAttnNormGIdeal.τ).loc Cert.AdamwAttnNormGIdeal.main_arg2)
          ∧ r.2.mem ((c.tc : Thread Cert.AdamwAttnNormGIdeal.nD Cert.AdamwAttnNormGIdeal.τ).loc Cert.AdamwAttnNormGIdeal.main_arg3) = m ((c.tc : Thread Cert.AdamwAttnNormGIdeal.nD Cert.AdamwAttnNormGIdeal.τ).loc Cert.AdamwAttnNormGIdeal.main_arg3))
      ∧ θ_run (Cert.AdamwAttnNormGRefIdeal.defs (F := Ideal)) (onTc (τ := Cert.AdamwAttnNormGRefIdeal.τ) (Cert.AdamwAttnNormGRefIdeal.main (F := Ideal))) ⟨m', fun _ => 0, g'⟩ (fun r => ∀ c : Dev Cert.AdamwAttnNormGRefIdeal.nD,
          r.2.mem ((c.tc : Thread Cert.AdamwAttnNormGRefIdeal.nD Cert.AdamwAttnNormGRefIdeal.τ).loc Cert.AdamwAttnNormGRefIdeal.main_v23) = v0 c
          ∧ r.2.mem ((c.tc : Thread Cert.AdamwAttnNormGRefIdeal.nD Cert.AdamwAttnNormGRefIdeal.τ).loc Cert.AdamwAttnNormGRefIdeal.main_v4) = v1 c
          ∧ r.2.mem ((c.tc : Thread Cert.AdamwAttnNormGRefIdeal.nD Cert.AdamwAttnNormGRefIdeal.τ).loc Cert.AdamwAttnNormGRefIdeal.main_v10) = v2 c
          ∧ r.2.mem ((c.tc : Thread Cert.AdamwAttnNormGRefIdeal.nD Cert.AdamwAttnNormGRefIdeal.τ).loc Cert.AdamwAttnNormGRefIdeal.main_arg0) = m' ((c.tc : Thread Cert.AdamwAttnNormGRefIdeal.nD Cert.AdamwAttnNormGRefIdeal.τ).loc Cert.AdamwAttnNormGRefIdeal.main_arg0)
          ∧ r.2.mem ((c.tc : Thread Cert.AdamwAttnNormGRefIdeal.nD Cert.AdamwAttnNormGRefIdeal.τ).loc Cert.AdamwAttnNormGRefIdeal.main_arg1) = m' ((c.tc : Thread Cert.AdamwAttnNormGRefIdeal.nD Cert.AdamwAttnNormGRefIdeal.τ).loc Cert.AdamwAttnNormGRefIdeal.main_arg1)
          ∧ r.2.mem ((c.tc : Thread Cert.AdamwAttnNormGRefIdeal.nD Cert.AdamwAttnNormGRefIdeal.τ).loc Cert.AdamwAttnNormGRefIdeal.main_arg2) = m' ((c.tc : Thread Cert.AdamwAttnNormGRefIdeal.nD Cert.AdamwAttnNormGRefIdeal.τ).loc Cert.AdamwAttnNormGRefIdeal.main_arg2)
          ∧ r.2.mem ((c.tc : Thread Cert.AdamwAttnNormGRefIdeal.nD Cert.AdamwAttnNormGRefIdeal.τ).loc Cert.AdamwAttnNormGRefIdeal.main_arg3) = m' ((c.tc : Thread Cert.AdamwAttnNormGRefIdeal.nD Cert.AdamwAttnNormGRefIdeal.τ).loc Cert.AdamwAttnNormGRefIdeal.main_arg3))

def preserves_AdamwWIn_AdamwWInIdeal : Prop :=
  True

def algebraic_AdamwWInIdeal_AdamwWInRefIdeal [hAdamwWInIdeal : Cert.AdamwWInIdeal.Facts] [hAdamwWInRefIdeal : Cert.AdamwWInRefIdeal.Facts] : Prop :=
  ∀ (m : (ℓ : Loc Cert.AdamwWInIdeal.nD Cert.AdamwWInIdeal.τ Cert.AdamwWInIdeal.sig) → Buf (Elt Ideal) ℓ) (g : Dev Cert.AdamwWInIdeal.nD → PrngReg)
    (m' : (ℓ : Loc Cert.AdamwWInRefIdeal.nD Cert.AdamwWInRefIdeal.τ Cert.AdamwWInRefIdeal.sig) → Buf (Elt Ideal) ℓ) (g' : Dev Cert.AdamwWInRefIdeal.nD → PrngReg), Pre_AdamwWInIdeal m →
    (∀ c : Dev Cert.AdamwWInIdeal.nD,
      m' ((c.tc : Thread Cert.AdamwWInRefIdeal.nD Cert.AdamwWInRefIdeal.τ).loc Cert.AdamwWInRefIdeal.main_arg0) = m ((c.tc : Thread Cert.AdamwWInIdeal.nD Cert.AdamwWInIdeal.τ).loc Cert.AdamwWInIdeal.main_arg0)
      ∧ m' ((c.tc : Thread Cert.AdamwWInRefIdeal.nD Cert.AdamwWInRefIdeal.τ).loc Cert.AdamwWInRefIdeal.main_arg1) = m ((c.tc : Thread Cert.AdamwWInIdeal.nD Cert.AdamwWInIdeal.τ).loc Cert.AdamwWInIdeal.main_arg1)
      ∧ m' ((c.tc : Thread Cert.AdamwWInRefIdeal.nD Cert.AdamwWInRefIdeal.τ).loc Cert.AdamwWInRefIdeal.main_arg2) = m ((c.tc : Thread Cert.AdamwWInIdeal.nD Cert.AdamwWInIdeal.τ).loc Cert.AdamwWInIdeal.main_arg2)
      ∧ m' ((c.tc : Thread Cert.AdamwWInRefIdeal.nD Cert.AdamwWInRefIdeal.τ).loc Cert.AdamwWInRefIdeal.main_arg3) = m ((c.tc : Thread Cert.AdamwWInIdeal.nD Cert.AdamwWInIdeal.τ).loc Cert.AdamwWInIdeal.main_arg3)) →
    ∃ (v0 : (c : Dev Cert.AdamwWInIdeal.nD) → Buf (Elt Ideal) ((c.tc : Thread Cert.AdamwWInIdeal.nD Cert.AdamwWInIdeal.τ).loc Cert.AdamwWInIdeal.main_v0_0)) (v1 : (c : Dev Cert.AdamwWInIdeal.nD) → Buf (Elt Ideal) ((c.tc : Thread Cert.AdamwWInIdeal.nD Cert.AdamwWInIdeal.τ).loc Cert.AdamwWInIdeal.main_v0_1)) (v2 : (c : Dev Cert.AdamwWInIdeal.nD) → Buf (Elt Ideal) ((c.tc : Thread Cert.AdamwWInIdeal.nD Cert.AdamwWInIdeal.τ).loc Cert.AdamwWInIdeal.main_v0_2)),
      θ_run (Cert.AdamwWInIdeal.defs (F := Ideal)) (onTc (τ := Cert.AdamwWInIdeal.τ) (Cert.AdamwWInIdeal.main (F := Ideal))) ⟨m, fun _ => 0, g⟩ (fun r => ∀ c : Dev Cert.AdamwWInIdeal.nD,
          r.2.mem ((c.tc : Thread Cert.AdamwWInIdeal.nD Cert.AdamwWInIdeal.τ).loc Cert.AdamwWInIdeal.main_v0_0) = v0 c
          ∧ r.2.mem ((c.tc : Thread Cert.AdamwWInIdeal.nD Cert.AdamwWInIdeal.τ).loc Cert.AdamwWInIdeal.main_v0_1) = v1 c
          ∧ r.2.mem ((c.tc : Thread Cert.AdamwWInIdeal.nD Cert.AdamwWInIdeal.τ).loc Cert.AdamwWInIdeal.main_v0_2) = v2 c
          ∧ r.2.mem ((c.tc : Thread Cert.AdamwWInIdeal.nD Cert.AdamwWInIdeal.τ).loc Cert.AdamwWInIdeal.main_arg0) = m ((c.tc : Thread Cert.AdamwWInIdeal.nD Cert.AdamwWInIdeal.τ).loc Cert.AdamwWInIdeal.main_arg0)
          ∧ r.2.mem ((c.tc : Thread Cert.AdamwWInIdeal.nD Cert.AdamwWInIdeal.τ).loc Cert.AdamwWInIdeal.main_arg1) = m ((c.tc : Thread Cert.AdamwWInIdeal.nD Cert.AdamwWInIdeal.τ).loc Cert.AdamwWInIdeal.main_arg1)
          ∧ r.2.mem ((c.tc : Thread Cert.AdamwWInIdeal.nD Cert.AdamwWInIdeal.τ).loc Cert.AdamwWInIdeal.main_arg2) = m ((c.tc : Thread Cert.AdamwWInIdeal.nD Cert.AdamwWInIdeal.τ).loc Cert.AdamwWInIdeal.main_arg2)
          ∧ r.2.mem ((c.tc : Thread Cert.AdamwWInIdeal.nD Cert.AdamwWInIdeal.τ).loc Cert.AdamwWInIdeal.main_arg3) = m ((c.tc : Thread Cert.AdamwWInIdeal.nD Cert.AdamwWInIdeal.τ).loc Cert.AdamwWInIdeal.main_arg3))
      ∧ θ_run (Cert.AdamwWInRefIdeal.defs (F := Ideal)) (onTc (τ := Cert.AdamwWInRefIdeal.τ) (Cert.AdamwWInRefIdeal.main (F := Ideal))) ⟨m', fun _ => 0, g'⟩ (fun r => ∀ c : Dev Cert.AdamwWInRefIdeal.nD,
          r.2.mem ((c.tc : Thread Cert.AdamwWInRefIdeal.nD Cert.AdamwWInRefIdeal.τ).loc Cert.AdamwWInRefIdeal.main_v23) = v0 c
          ∧ r.2.mem ((c.tc : Thread Cert.AdamwWInRefIdeal.nD Cert.AdamwWInRefIdeal.τ).loc Cert.AdamwWInRefIdeal.main_v4) = v1 c
          ∧ r.2.mem ((c.tc : Thread Cert.AdamwWInRefIdeal.nD Cert.AdamwWInRefIdeal.τ).loc Cert.AdamwWInRefIdeal.main_v10) = v2 c
          ∧ r.2.mem ((c.tc : Thread Cert.AdamwWInRefIdeal.nD Cert.AdamwWInRefIdeal.τ).loc Cert.AdamwWInRefIdeal.main_arg0) = m' ((c.tc : Thread Cert.AdamwWInRefIdeal.nD Cert.AdamwWInRefIdeal.τ).loc Cert.AdamwWInRefIdeal.main_arg0)
          ∧ r.2.mem ((c.tc : Thread Cert.AdamwWInRefIdeal.nD Cert.AdamwWInRefIdeal.τ).loc Cert.AdamwWInRefIdeal.main_arg1) = m' ((c.tc : Thread Cert.AdamwWInRefIdeal.nD Cert.AdamwWInRefIdeal.τ).loc Cert.AdamwWInRefIdeal.main_arg1)
          ∧ r.2.mem ((c.tc : Thread Cert.AdamwWInRefIdeal.nD Cert.AdamwWInRefIdeal.τ).loc Cert.AdamwWInRefIdeal.main_arg2) = m' ((c.tc : Thread Cert.AdamwWInRefIdeal.nD Cert.AdamwWInRefIdeal.τ).loc Cert.AdamwWInRefIdeal.main_arg2)
          ∧ r.2.mem ((c.tc : Thread Cert.AdamwWInRefIdeal.nD Cert.AdamwWInRefIdeal.τ).loc Cert.AdamwWInRefIdeal.main_arg3) = m' ((c.tc : Thread Cert.AdamwWInRefIdeal.nD Cert.AdamwWInRefIdeal.τ).loc Cert.AdamwWInRefIdeal.main_arg3))

def preserves_AdamwGlaGateW2_AdamwGlaGateW2Ideal : Prop :=
  True

def algebraic_AdamwGlaGateW2Ideal_AdamwGlaGateW2RefIdeal [hAdamwGlaGateW2Ideal : Cert.AdamwGlaGateW2Ideal.Facts] [hAdamwGlaGateW2RefIdeal : Cert.AdamwGlaGateW2RefIdeal.Facts] : Prop :=
  ∀ (m : (ℓ : Loc Cert.AdamwGlaGateW2Ideal.nD Cert.AdamwGlaGateW2Ideal.τ Cert.AdamwGlaGateW2Ideal.sig) → Buf (Elt Ideal) ℓ) (g : Dev Cert.AdamwGlaGateW2Ideal.nD → PrngReg)
    (m' : (ℓ : Loc Cert.AdamwGlaGateW2RefIdeal.nD Cert.AdamwGlaGateW2RefIdeal.τ Cert.AdamwGlaGateW2RefIdeal.sig) → Buf (Elt Ideal) ℓ) (g' : Dev Cert.AdamwGlaGateW2RefIdeal.nD → PrngReg), Pre_AdamwGlaGateW2Ideal m →
    (∀ c : Dev Cert.AdamwGlaGateW2Ideal.nD,
      m' ((c.tc : Thread Cert.AdamwGlaGateW2RefIdeal.nD Cert.AdamwGlaGateW2RefIdeal.τ).loc Cert.AdamwGlaGateW2RefIdeal.main_arg0) = m ((c.tc : Thread Cert.AdamwGlaGateW2Ideal.nD Cert.AdamwGlaGateW2Ideal.τ).loc Cert.AdamwGlaGateW2Ideal.main_arg0)
      ∧ m' ((c.tc : Thread Cert.AdamwGlaGateW2RefIdeal.nD Cert.AdamwGlaGateW2RefIdeal.τ).loc Cert.AdamwGlaGateW2RefIdeal.main_arg1) = m ((c.tc : Thread Cert.AdamwGlaGateW2Ideal.nD Cert.AdamwGlaGateW2Ideal.τ).loc Cert.AdamwGlaGateW2Ideal.main_arg1)
      ∧ m' ((c.tc : Thread Cert.AdamwGlaGateW2RefIdeal.nD Cert.AdamwGlaGateW2RefIdeal.τ).loc Cert.AdamwGlaGateW2RefIdeal.main_arg2) = m ((c.tc : Thread Cert.AdamwGlaGateW2Ideal.nD Cert.AdamwGlaGateW2Ideal.τ).loc Cert.AdamwGlaGateW2Ideal.main_arg2)
      ∧ m' ((c.tc : Thread Cert.AdamwGlaGateW2RefIdeal.nD Cert.AdamwGlaGateW2RefIdeal.τ).loc Cert.AdamwGlaGateW2RefIdeal.main_arg3) = m ((c.tc : Thread Cert.AdamwGlaGateW2Ideal.nD Cert.AdamwGlaGateW2Ideal.τ).loc Cert.AdamwGlaGateW2Ideal.main_arg3)) →
    ∃ (v0 : (c : Dev Cert.AdamwGlaGateW2Ideal.nD) → Buf (Elt Ideal) ((c.tc : Thread Cert.AdamwGlaGateW2Ideal.nD Cert.AdamwGlaGateW2Ideal.τ).loc Cert.AdamwGlaGateW2Ideal.main_v0_0)) (v1 : (c : Dev Cert.AdamwGlaGateW2Ideal.nD) → Buf (Elt Ideal) ((c.tc : Thread Cert.AdamwGlaGateW2Ideal.nD Cert.AdamwGlaGateW2Ideal.τ).loc Cert.AdamwGlaGateW2Ideal.main_v0_1)) (v2 : (c : Dev Cert.AdamwGlaGateW2Ideal.nD) → Buf (Elt Ideal) ((c.tc : Thread Cert.AdamwGlaGateW2Ideal.nD Cert.AdamwGlaGateW2Ideal.τ).loc Cert.AdamwGlaGateW2Ideal.main_v0_2)),
      θ_run (Cert.AdamwGlaGateW2Ideal.defs (F := Ideal)) (onTc (τ := Cert.AdamwGlaGateW2Ideal.τ) (Cert.AdamwGlaGateW2Ideal.main (F := Ideal))) ⟨m, fun _ => 0, g⟩ (fun r => ∀ c : Dev Cert.AdamwGlaGateW2Ideal.nD,
          r.2.mem ((c.tc : Thread Cert.AdamwGlaGateW2Ideal.nD Cert.AdamwGlaGateW2Ideal.τ).loc Cert.AdamwGlaGateW2Ideal.main_v0_0) = v0 c
          ∧ r.2.mem ((c.tc : Thread Cert.AdamwGlaGateW2Ideal.nD Cert.AdamwGlaGateW2Ideal.τ).loc Cert.AdamwGlaGateW2Ideal.main_v0_1) = v1 c
          ∧ r.2.mem ((c.tc : Thread Cert.AdamwGlaGateW2Ideal.nD Cert.AdamwGlaGateW2Ideal.τ).loc Cert.AdamwGlaGateW2Ideal.main_v0_2) = v2 c
          ∧ r.2.mem ((c.tc : Thread Cert.AdamwGlaGateW2Ideal.nD Cert.AdamwGlaGateW2Ideal.τ).loc Cert.AdamwGlaGateW2Ideal.main_arg0) = m ((c.tc : Thread Cert.AdamwGlaGateW2Ideal.nD Cert.AdamwGlaGateW2Ideal.τ).loc Cert.AdamwGlaGateW2Ideal.main_arg0)
          ∧ r.2.mem ((c.tc : Thread Cert.AdamwGlaGateW2Ideal.nD Cert.AdamwGlaGateW2Ideal.τ).loc Cert.AdamwGlaGateW2Ideal.main_arg1) = m ((c.tc : Thread Cert.AdamwGlaGateW2Ideal.nD Cert.AdamwGlaGateW2Ideal.τ).loc Cert.AdamwGlaGateW2Ideal.main_arg1)
          ∧ r.2.mem ((c.tc : Thread Cert.AdamwGlaGateW2Ideal.nD Cert.AdamwGlaGateW2Ideal.τ).loc Cert.AdamwGlaGateW2Ideal.main_arg2) = m ((c.tc : Thread Cert.AdamwGlaGateW2Ideal.nD Cert.AdamwGlaGateW2Ideal.τ).loc Cert.AdamwGlaGateW2Ideal.main_arg2)
          ∧ r.2.mem ((c.tc : Thread Cert.AdamwGlaGateW2Ideal.nD Cert.AdamwGlaGateW2Ideal.τ).loc Cert.AdamwGlaGateW2Ideal.main_arg3) = m ((c.tc : Thread Cert.AdamwGlaGateW2Ideal.nD Cert.AdamwGlaGateW2Ideal.τ).loc Cert.AdamwGlaGateW2Ideal.main_arg3))
      ∧ θ_run (Cert.AdamwGlaGateW2RefIdeal.defs (F := Ideal)) (onTc (τ := Cert.AdamwGlaGateW2RefIdeal.τ) (Cert.AdamwGlaGateW2RefIdeal.main (F := Ideal))) ⟨m', fun _ => 0, g'⟩ (fun r => ∀ c : Dev Cert.AdamwGlaGateW2RefIdeal.nD,
          r.2.mem ((c.tc : Thread Cert.AdamwGlaGateW2RefIdeal.nD Cert.AdamwGlaGateW2RefIdeal.τ).loc Cert.AdamwGlaGateW2RefIdeal.main_v23) = v0 c
          ∧ r.2.mem ((c.tc : Thread Cert.AdamwGlaGateW2RefIdeal.nD Cert.AdamwGlaGateW2RefIdeal.τ).loc Cert.AdamwGlaGateW2RefIdeal.main_v4) = v1 c
          ∧ r.2.mem ((c.tc : Thread Cert.AdamwGlaGateW2RefIdeal.nD Cert.AdamwGlaGateW2RefIdeal.τ).loc Cert.AdamwGlaGateW2RefIdeal.main_v10) = v2 c
          ∧ r.2.mem ((c.tc : Thread Cert.AdamwGlaGateW2RefIdeal.nD Cert.AdamwGlaGateW2RefIdeal.τ).loc Cert.AdamwGlaGateW2RefIdeal.main_arg0) = m' ((c.tc : Thread Cert.AdamwGlaGateW2RefIdeal.nD Cert.AdamwGlaGateW2RefIdeal.τ).loc Cert.AdamwGlaGateW2RefIdeal.main_arg0)
          ∧ r.2.mem ((c.tc : Thread Cert.AdamwGlaGateW2RefIdeal.nD Cert.AdamwGlaGateW2RefIdeal.τ).loc Cert.AdamwGlaGateW2RefIdeal.main_arg1) = m' ((c.tc : Thread Cert.AdamwGlaGateW2RefIdeal.nD Cert.AdamwGlaGateW2RefIdeal.τ).loc Cert.AdamwGlaGateW2RefIdeal.main_arg1)
          ∧ r.2.mem ((c.tc : Thread Cert.AdamwGlaGateW2RefIdeal.nD Cert.AdamwGlaGateW2RefIdeal.τ).loc Cert.AdamwGlaGateW2RefIdeal.main_arg2) = m' ((c.tc : Thread Cert.AdamwGlaGateW2RefIdeal.nD Cert.AdamwGlaGateW2RefIdeal.τ).loc Cert.AdamwGlaGateW2RefIdeal.main_arg2)
          ∧ r.2.mem ((c.tc : Thread Cert.AdamwGlaGateW2RefIdeal.nD Cert.AdamwGlaGateW2RefIdeal.τ).loc Cert.AdamwGlaGateW2RefIdeal.main_arg3) = m' ((c.tc : Thread Cert.AdamwGlaGateW2RefIdeal.nD Cert.AdamwGlaGateW2RefIdeal.τ).loc Cert.AdamwGlaGateW2RefIdeal.main_arg3))

def preserves_AdamwGlaGateB_AdamwGlaGateBIdeal : Prop :=
  True

def algebraic_AdamwGlaGateBIdeal_AdamwGlaGateBRefIdeal [hAdamwGlaGateBIdeal : Cert.AdamwGlaGateBIdeal.Facts] [hAdamwGlaGateBRefIdeal : Cert.AdamwGlaGateBRefIdeal.Facts] : Prop :=
  ∀ (m : (ℓ : Loc Cert.AdamwGlaGateBIdeal.nD Cert.AdamwGlaGateBIdeal.τ Cert.AdamwGlaGateBIdeal.sig) → Buf (Elt Ideal) ℓ) (g : Dev Cert.AdamwGlaGateBIdeal.nD → PrngReg)
    (m' : (ℓ : Loc Cert.AdamwGlaGateBRefIdeal.nD Cert.AdamwGlaGateBRefIdeal.τ Cert.AdamwGlaGateBRefIdeal.sig) → Buf (Elt Ideal) ℓ) (g' : Dev Cert.AdamwGlaGateBRefIdeal.nD → PrngReg), Pre_AdamwGlaGateBIdeal m →
    (∀ c : Dev Cert.AdamwGlaGateBIdeal.nD,
      m' ((c.tc : Thread Cert.AdamwGlaGateBRefIdeal.nD Cert.AdamwGlaGateBRefIdeal.τ).loc Cert.AdamwGlaGateBRefIdeal.main_arg0) = m ((c.tc : Thread Cert.AdamwGlaGateBIdeal.nD Cert.AdamwGlaGateBIdeal.τ).loc Cert.AdamwGlaGateBIdeal.main_arg0)
      ∧ m' ((c.tc : Thread Cert.AdamwGlaGateBRefIdeal.nD Cert.AdamwGlaGateBRefIdeal.τ).loc Cert.AdamwGlaGateBRefIdeal.main_arg1) = m ((c.tc : Thread Cert.AdamwGlaGateBIdeal.nD Cert.AdamwGlaGateBIdeal.τ).loc Cert.AdamwGlaGateBIdeal.main_arg1)
      ∧ m' ((c.tc : Thread Cert.AdamwGlaGateBRefIdeal.nD Cert.AdamwGlaGateBRefIdeal.τ).loc Cert.AdamwGlaGateBRefIdeal.main_arg2) = m ((c.tc : Thread Cert.AdamwGlaGateBIdeal.nD Cert.AdamwGlaGateBIdeal.τ).loc Cert.AdamwGlaGateBIdeal.main_arg2)
      ∧ m' ((c.tc : Thread Cert.AdamwGlaGateBRefIdeal.nD Cert.AdamwGlaGateBRefIdeal.τ).loc Cert.AdamwGlaGateBRefIdeal.main_arg3) = m ((c.tc : Thread Cert.AdamwGlaGateBIdeal.nD Cert.AdamwGlaGateBIdeal.τ).loc Cert.AdamwGlaGateBIdeal.main_arg3)) →
    ∃ (v0 : (c : Dev Cert.AdamwGlaGateBIdeal.nD) → Buf (Elt Ideal) ((c.tc : Thread Cert.AdamwGlaGateBIdeal.nD Cert.AdamwGlaGateBIdeal.τ).loc Cert.AdamwGlaGateBIdeal.main_v0_0)) (v1 : (c : Dev Cert.AdamwGlaGateBIdeal.nD) → Buf (Elt Ideal) ((c.tc : Thread Cert.AdamwGlaGateBIdeal.nD Cert.AdamwGlaGateBIdeal.τ).loc Cert.AdamwGlaGateBIdeal.main_v0_1)) (v2 : (c : Dev Cert.AdamwGlaGateBIdeal.nD) → Buf (Elt Ideal) ((c.tc : Thread Cert.AdamwGlaGateBIdeal.nD Cert.AdamwGlaGateBIdeal.τ).loc Cert.AdamwGlaGateBIdeal.main_v0_2)),
      θ_run (Cert.AdamwGlaGateBIdeal.defs (F := Ideal)) (onTc (τ := Cert.AdamwGlaGateBIdeal.τ) (Cert.AdamwGlaGateBIdeal.main (F := Ideal))) ⟨m, fun _ => 0, g⟩ (fun r => ∀ c : Dev Cert.AdamwGlaGateBIdeal.nD,
          r.2.mem ((c.tc : Thread Cert.AdamwGlaGateBIdeal.nD Cert.AdamwGlaGateBIdeal.τ).loc Cert.AdamwGlaGateBIdeal.main_v0_0) = v0 c
          ∧ r.2.mem ((c.tc : Thread Cert.AdamwGlaGateBIdeal.nD Cert.AdamwGlaGateBIdeal.τ).loc Cert.AdamwGlaGateBIdeal.main_v0_1) = v1 c
          ∧ r.2.mem ((c.tc : Thread Cert.AdamwGlaGateBIdeal.nD Cert.AdamwGlaGateBIdeal.τ).loc Cert.AdamwGlaGateBIdeal.main_v0_2) = v2 c
          ∧ r.2.mem ((c.tc : Thread Cert.AdamwGlaGateBIdeal.nD Cert.AdamwGlaGateBIdeal.τ).loc Cert.AdamwGlaGateBIdeal.main_arg0) = m ((c.tc : Thread Cert.AdamwGlaGateBIdeal.nD Cert.AdamwGlaGateBIdeal.τ).loc Cert.AdamwGlaGateBIdeal.main_arg0)
          ∧ r.2.mem ((c.tc : Thread Cert.AdamwGlaGateBIdeal.nD Cert.AdamwGlaGateBIdeal.τ).loc Cert.AdamwGlaGateBIdeal.main_arg1) = m ((c.tc : Thread Cert.AdamwGlaGateBIdeal.nD Cert.AdamwGlaGateBIdeal.τ).loc Cert.AdamwGlaGateBIdeal.main_arg1)
          ∧ r.2.mem ((c.tc : Thread Cert.AdamwGlaGateBIdeal.nD Cert.AdamwGlaGateBIdeal.τ).loc Cert.AdamwGlaGateBIdeal.main_arg2) = m ((c.tc : Thread Cert.AdamwGlaGateBIdeal.nD Cert.AdamwGlaGateBIdeal.τ).loc Cert.AdamwGlaGateBIdeal.main_arg2)
          ∧ r.2.mem ((c.tc : Thread Cert.AdamwGlaGateBIdeal.nD Cert.AdamwGlaGateBIdeal.τ).loc Cert.AdamwGlaGateBIdeal.main_arg3) = m ((c.tc : Thread Cert.AdamwGlaGateBIdeal.nD Cert.AdamwGlaGateBIdeal.τ).loc Cert.AdamwGlaGateBIdeal.main_arg3))
      ∧ θ_run (Cert.AdamwGlaGateBRefIdeal.defs (F := Ideal)) (onTc (τ := Cert.AdamwGlaGateBRefIdeal.τ) (Cert.AdamwGlaGateBRefIdeal.main (F := Ideal))) ⟨m', fun _ => 0, g'⟩ (fun r => ∀ c : Dev Cert.AdamwGlaGateBRefIdeal.nD,
          r.2.mem ((c.tc : Thread Cert.AdamwGlaGateBRefIdeal.nD Cert.AdamwGlaGateBRefIdeal.τ).loc Cert.AdamwGlaGateBRefIdeal.main_v23) = v0 c
          ∧ r.2.mem ((c.tc : Thread Cert.AdamwGlaGateBRefIdeal.nD Cert.AdamwGlaGateBRefIdeal.τ).loc Cert.AdamwGlaGateBRefIdeal.main_v4) = v1 c
          ∧ r.2.mem ((c.tc : Thread Cert.AdamwGlaGateBRefIdeal.nD Cert.AdamwGlaGateBRefIdeal.τ).loc Cert.AdamwGlaGateBRefIdeal.main_v10) = v2 c
          ∧ r.2.mem ((c.tc : Thread Cert.AdamwGlaGateBRefIdeal.nD Cert.AdamwGlaGateBRefIdeal.τ).loc Cert.AdamwGlaGateBRefIdeal.main_arg0) = m' ((c.tc : Thread Cert.AdamwGlaGateBRefIdeal.nD Cert.AdamwGlaGateBRefIdeal.τ).loc Cert.AdamwGlaGateBRefIdeal.main_arg0)
          ∧ r.2.mem ((c.tc : Thread Cert.AdamwGlaGateBRefIdeal.nD Cert.AdamwGlaGateBRefIdeal.τ).loc Cert.AdamwGlaGateBRefIdeal.main_arg1) = m' ((c.tc : Thread Cert.AdamwGlaGateBRefIdeal.nD Cert.AdamwGlaGateBRefIdeal.τ).loc Cert.AdamwGlaGateBRefIdeal.main_arg1)
          ∧ r.2.mem ((c.tc : Thread Cert.AdamwGlaGateBRefIdeal.nD Cert.AdamwGlaGateBRefIdeal.τ).loc Cert.AdamwGlaGateBRefIdeal.main_arg2) = m' ((c.tc : Thread Cert.AdamwGlaGateBRefIdeal.nD Cert.AdamwGlaGateBRefIdeal.τ).loc Cert.AdamwGlaGateBRefIdeal.main_arg2)
          ∧ r.2.mem ((c.tc : Thread Cert.AdamwGlaGateBRefIdeal.nD Cert.AdamwGlaGateBRefIdeal.τ).loc Cert.AdamwGlaGateBRefIdeal.main_arg3) = m' ((c.tc : Thread Cert.AdamwGlaGateBRefIdeal.nD Cert.AdamwGlaGateBRefIdeal.τ).loc Cert.AdamwGlaGateBRefIdeal.main_arg3))

def preserves_AdamwGlaNormG_AdamwGlaNormGIdeal : Prop :=
  True

def algebraic_AdamwGlaNormGIdeal_AdamwGlaNormGRefIdeal [hAdamwGlaNormGIdeal : Cert.AdamwGlaNormGIdeal.Facts] [hAdamwGlaNormGRefIdeal : Cert.AdamwGlaNormGRefIdeal.Facts] : Prop :=
  ∀ (m : (ℓ : Loc Cert.AdamwGlaNormGIdeal.nD Cert.AdamwGlaNormGIdeal.τ Cert.AdamwGlaNormGIdeal.sig) → Buf (Elt Ideal) ℓ) (g : Dev Cert.AdamwGlaNormGIdeal.nD → PrngReg)
    (m' : (ℓ : Loc Cert.AdamwGlaNormGRefIdeal.nD Cert.AdamwGlaNormGRefIdeal.τ Cert.AdamwGlaNormGRefIdeal.sig) → Buf (Elt Ideal) ℓ) (g' : Dev Cert.AdamwGlaNormGRefIdeal.nD → PrngReg), Pre_AdamwGlaNormGIdeal m →
    (∀ c : Dev Cert.AdamwGlaNormGIdeal.nD,
      m' ((c.tc : Thread Cert.AdamwGlaNormGRefIdeal.nD Cert.AdamwGlaNormGRefIdeal.τ).loc Cert.AdamwGlaNormGRefIdeal.main_arg0) = m ((c.tc : Thread Cert.AdamwGlaNormGIdeal.nD Cert.AdamwGlaNormGIdeal.τ).loc Cert.AdamwGlaNormGIdeal.main_arg0)
      ∧ m' ((c.tc : Thread Cert.AdamwGlaNormGRefIdeal.nD Cert.AdamwGlaNormGRefIdeal.τ).loc Cert.AdamwGlaNormGRefIdeal.main_arg1) = m ((c.tc : Thread Cert.AdamwGlaNormGIdeal.nD Cert.AdamwGlaNormGIdeal.τ).loc Cert.AdamwGlaNormGIdeal.main_arg1)
      ∧ m' ((c.tc : Thread Cert.AdamwGlaNormGRefIdeal.nD Cert.AdamwGlaNormGRefIdeal.τ).loc Cert.AdamwGlaNormGRefIdeal.main_arg2) = m ((c.tc : Thread Cert.AdamwGlaNormGIdeal.nD Cert.AdamwGlaNormGIdeal.τ).loc Cert.AdamwGlaNormGIdeal.main_arg2)
      ∧ m' ((c.tc : Thread Cert.AdamwGlaNormGRefIdeal.nD Cert.AdamwGlaNormGRefIdeal.τ).loc Cert.AdamwGlaNormGRefIdeal.main_arg3) = m ((c.tc : Thread Cert.AdamwGlaNormGIdeal.nD Cert.AdamwGlaNormGIdeal.τ).loc Cert.AdamwGlaNormGIdeal.main_arg3)) →
    ∃ (v0 : (c : Dev Cert.AdamwGlaNormGIdeal.nD) → Buf (Elt Ideal) ((c.tc : Thread Cert.AdamwGlaNormGIdeal.nD Cert.AdamwGlaNormGIdeal.τ).loc Cert.AdamwGlaNormGIdeal.main_v0_0)) (v1 : (c : Dev Cert.AdamwGlaNormGIdeal.nD) → Buf (Elt Ideal) ((c.tc : Thread Cert.AdamwGlaNormGIdeal.nD Cert.AdamwGlaNormGIdeal.τ).loc Cert.AdamwGlaNormGIdeal.main_v0_1)) (v2 : (c : Dev Cert.AdamwGlaNormGIdeal.nD) → Buf (Elt Ideal) ((c.tc : Thread Cert.AdamwGlaNormGIdeal.nD Cert.AdamwGlaNormGIdeal.τ).loc Cert.AdamwGlaNormGIdeal.main_v0_2)),
      θ_run (Cert.AdamwGlaNormGIdeal.defs (F := Ideal)) (onTc (τ := Cert.AdamwGlaNormGIdeal.τ) (Cert.AdamwGlaNormGIdeal.main (F := Ideal))) ⟨m, fun _ => 0, g⟩ (fun r => ∀ c : Dev Cert.AdamwGlaNormGIdeal.nD,
          r.2.mem ((c.tc : Thread Cert.AdamwGlaNormGIdeal.nD Cert.AdamwGlaNormGIdeal.τ).loc Cert.AdamwGlaNormGIdeal.main_v0_0) = v0 c
          ∧ r.2.mem ((c.tc : Thread Cert.AdamwGlaNormGIdeal.nD Cert.AdamwGlaNormGIdeal.τ).loc Cert.AdamwGlaNormGIdeal.main_v0_1) = v1 c
          ∧ r.2.mem ((c.tc : Thread Cert.AdamwGlaNormGIdeal.nD Cert.AdamwGlaNormGIdeal.τ).loc Cert.AdamwGlaNormGIdeal.main_v0_2) = v2 c
          ∧ r.2.mem ((c.tc : Thread Cert.AdamwGlaNormGIdeal.nD Cert.AdamwGlaNormGIdeal.τ).loc Cert.AdamwGlaNormGIdeal.main_arg0) = m ((c.tc : Thread Cert.AdamwGlaNormGIdeal.nD Cert.AdamwGlaNormGIdeal.τ).loc Cert.AdamwGlaNormGIdeal.main_arg0)
          ∧ r.2.mem ((c.tc : Thread Cert.AdamwGlaNormGIdeal.nD Cert.AdamwGlaNormGIdeal.τ).loc Cert.AdamwGlaNormGIdeal.main_arg1) = m ((c.tc : Thread Cert.AdamwGlaNormGIdeal.nD Cert.AdamwGlaNormGIdeal.τ).loc Cert.AdamwGlaNormGIdeal.main_arg1)
          ∧ r.2.mem ((c.tc : Thread Cert.AdamwGlaNormGIdeal.nD Cert.AdamwGlaNormGIdeal.τ).loc Cert.AdamwGlaNormGIdeal.main_arg2) = m ((c.tc : Thread Cert.AdamwGlaNormGIdeal.nD Cert.AdamwGlaNormGIdeal.τ).loc Cert.AdamwGlaNormGIdeal.main_arg2)
          ∧ r.2.mem ((c.tc : Thread Cert.AdamwGlaNormGIdeal.nD Cert.AdamwGlaNormGIdeal.τ).loc Cert.AdamwGlaNormGIdeal.main_arg3) = m ((c.tc : Thread Cert.AdamwGlaNormGIdeal.nD Cert.AdamwGlaNormGIdeal.τ).loc Cert.AdamwGlaNormGIdeal.main_arg3))
      ∧ θ_run (Cert.AdamwGlaNormGRefIdeal.defs (F := Ideal)) (onTc (τ := Cert.AdamwGlaNormGRefIdeal.τ) (Cert.AdamwGlaNormGRefIdeal.main (F := Ideal))) ⟨m', fun _ => 0, g'⟩ (fun r => ∀ c : Dev Cert.AdamwGlaNormGRefIdeal.nD,
          r.2.mem ((c.tc : Thread Cert.AdamwGlaNormGRefIdeal.nD Cert.AdamwGlaNormGRefIdeal.τ).loc Cert.AdamwGlaNormGRefIdeal.main_v23) = v0 c
          ∧ r.2.mem ((c.tc : Thread Cert.AdamwGlaNormGRefIdeal.nD Cert.AdamwGlaNormGRefIdeal.τ).loc Cert.AdamwGlaNormGRefIdeal.main_v4) = v1 c
          ∧ r.2.mem ((c.tc : Thread Cert.AdamwGlaNormGRefIdeal.nD Cert.AdamwGlaNormGRefIdeal.τ).loc Cert.AdamwGlaNormGRefIdeal.main_v10) = v2 c
          ∧ r.2.mem ((c.tc : Thread Cert.AdamwGlaNormGRefIdeal.nD Cert.AdamwGlaNormGRefIdeal.τ).loc Cert.AdamwGlaNormGRefIdeal.main_arg0) = m' ((c.tc : Thread Cert.AdamwGlaNormGRefIdeal.nD Cert.AdamwGlaNormGRefIdeal.τ).loc Cert.AdamwGlaNormGRefIdeal.main_arg0)
          ∧ r.2.mem ((c.tc : Thread Cert.AdamwGlaNormGRefIdeal.nD Cert.AdamwGlaNormGRefIdeal.τ).loc Cert.AdamwGlaNormGRefIdeal.main_arg1) = m' ((c.tc : Thread Cert.AdamwGlaNormGRefIdeal.nD Cert.AdamwGlaNormGRefIdeal.τ).loc Cert.AdamwGlaNormGRefIdeal.main_arg1)
          ∧ r.2.mem ((c.tc : Thread Cert.AdamwGlaNormGRefIdeal.nD Cert.AdamwGlaNormGRefIdeal.τ).loc Cert.AdamwGlaNormGRefIdeal.main_arg2) = m' ((c.tc : Thread Cert.AdamwGlaNormGRefIdeal.nD Cert.AdamwGlaNormGRefIdeal.τ).loc Cert.AdamwGlaNormGRefIdeal.main_arg2)
          ∧ r.2.mem ((c.tc : Thread Cert.AdamwGlaNormGRefIdeal.nD Cert.AdamwGlaNormGRefIdeal.τ).loc Cert.AdamwGlaNormGRefIdeal.main_arg3) = m' ((c.tc : Thread Cert.AdamwGlaNormGRefIdeal.nD Cert.AdamwGlaNormGRefIdeal.τ).loc Cert.AdamwGlaNormGRefIdeal.main_arg3))

def preserves_AdamwRelBias_AdamwRelBiasIdeal : Prop :=
  True

def algebraic_AdamwRelBiasIdeal_AdamwRelBiasRefIdeal [hAdamwRelBiasIdeal : Cert.AdamwRelBiasIdeal.Facts] [hAdamwRelBiasRefIdeal : Cert.AdamwRelBiasRefIdeal.Facts] : Prop :=
  ∀ (m : (ℓ : Loc Cert.AdamwRelBiasIdeal.nD Cert.AdamwRelBiasIdeal.τ Cert.AdamwRelBiasIdeal.sig) → Buf (Elt Ideal) ℓ) (g : Dev Cert.AdamwRelBiasIdeal.nD → PrngReg)
    (m' : (ℓ : Loc Cert.AdamwRelBiasRefIdeal.nD Cert.AdamwRelBiasRefIdeal.τ Cert.AdamwRelBiasRefIdeal.sig) → Buf (Elt Ideal) ℓ) (g' : Dev Cert.AdamwRelBiasRefIdeal.nD → PrngReg), Pre_AdamwRelBiasIdeal m →
    (∀ c : Dev Cert.AdamwRelBiasIdeal.nD,
      m' ((c.tc : Thread Cert.AdamwRelBiasRefIdeal.nD Cert.AdamwRelBiasRefIdeal.τ).loc Cert.AdamwRelBiasRefIdeal.main_arg0) = m ((c.tc : Thread Cert.AdamwRelBiasIdeal.nD Cert.AdamwRelBiasIdeal.τ).loc Cert.AdamwRelBiasIdeal.main_arg0)
      ∧ m' ((c.tc : Thread Cert.AdamwRelBiasRefIdeal.nD Cert.AdamwRelBiasRefIdeal.τ).loc Cert.AdamwRelBiasRefIdeal.main_arg1) = m ((c.tc : Thread Cert.AdamwRelBiasIdeal.nD Cert.AdamwRelBiasIdeal.τ).loc Cert.AdamwRelBiasIdeal.main_arg1)
      ∧ m' ((c.tc : Thread Cert.AdamwRelBiasRefIdeal.nD Cert.AdamwRelBiasRefIdeal.τ).loc Cert.AdamwRelBiasRefIdeal.main_arg2) = m ((c.tc : Thread Cert.AdamwRelBiasIdeal.nD Cert.AdamwRelBiasIdeal.τ).loc Cert.AdamwRelBiasIdeal.main_arg2)
      ∧ m' ((c.tc : Thread Cert.AdamwRelBiasRefIdeal.nD Cert.AdamwRelBiasRefIdeal.τ).loc Cert.AdamwRelBiasRefIdeal.main_arg3) = m ((c.tc : Thread Cert.AdamwRelBiasIdeal.nD Cert.AdamwRelBiasIdeal.τ).loc Cert.AdamwRelBiasIdeal.main_arg3)) →
    ∃ (v0 : (c : Dev Cert.AdamwRelBiasIdeal.nD) → Buf (Elt Ideal) ((c.tc : Thread Cert.AdamwRelBiasIdeal.nD Cert.AdamwRelBiasIdeal.τ).loc Cert.AdamwRelBiasIdeal.main_v0_0)) (v1 : (c : Dev Cert.AdamwRelBiasIdeal.nD) → Buf (Elt Ideal) ((c.tc : Thread Cert.AdamwRelBiasIdeal.nD Cert.AdamwRelBiasIdeal.τ).loc Cert.AdamwRelBiasIdeal.main_v0_1)) (v2 : (c : Dev Cert.AdamwRelBiasIdeal.nD) → Buf (Elt Ideal) ((c.tc : Thread Cert.AdamwRelBiasIdeal.nD Cert.AdamwRelBiasIdeal.τ).loc Cert.AdamwRelBiasIdeal.main_v0_2)),
      θ_run (Cert.AdamwRelBiasIdeal.defs (F := Ideal)) (onTc (τ := Cert.AdamwRelBiasIdeal.τ) (Cert.AdamwRelBiasIdeal.main (F := Ideal))) ⟨m, fun _ => 0, g⟩ (fun r => ∀ c : Dev Cert.AdamwRelBiasIdeal.nD,
          r.2.mem ((c.tc : Thread Cert.AdamwRelBiasIdeal.nD Cert.AdamwRelBiasIdeal.τ).loc Cert.AdamwRelBiasIdeal.main_v0_0) = v0 c
          ∧ r.2.mem ((c.tc : Thread Cert.AdamwRelBiasIdeal.nD Cert.AdamwRelBiasIdeal.τ).loc Cert.AdamwRelBiasIdeal.main_v0_1) = v1 c
          ∧ r.2.mem ((c.tc : Thread Cert.AdamwRelBiasIdeal.nD Cert.AdamwRelBiasIdeal.τ).loc Cert.AdamwRelBiasIdeal.main_v0_2) = v2 c
          ∧ r.2.mem ((c.tc : Thread Cert.AdamwRelBiasIdeal.nD Cert.AdamwRelBiasIdeal.τ).loc Cert.AdamwRelBiasIdeal.main_arg0) = m ((c.tc : Thread Cert.AdamwRelBiasIdeal.nD Cert.AdamwRelBiasIdeal.τ).loc Cert.AdamwRelBiasIdeal.main_arg0)
          ∧ r.2.mem ((c.tc : Thread Cert.AdamwRelBiasIdeal.nD Cert.AdamwRelBiasIdeal.τ).loc Cert.AdamwRelBiasIdeal.main_arg1) = m ((c.tc : Thread Cert.AdamwRelBiasIdeal.nD Cert.AdamwRelBiasIdeal.τ).loc Cert.AdamwRelBiasIdeal.main_arg1)
          ∧ r.2.mem ((c.tc : Thread Cert.AdamwRelBiasIdeal.nD Cert.AdamwRelBiasIdeal.τ).loc Cert.AdamwRelBiasIdeal.main_arg2) = m ((c.tc : Thread Cert.AdamwRelBiasIdeal.nD Cert.AdamwRelBiasIdeal.τ).loc Cert.AdamwRelBiasIdeal.main_arg2)
          ∧ r.2.mem ((c.tc : Thread Cert.AdamwRelBiasIdeal.nD Cert.AdamwRelBiasIdeal.τ).loc Cert.AdamwRelBiasIdeal.main_arg3) = m ((c.tc : Thread Cert.AdamwRelBiasIdeal.nD Cert.AdamwRelBiasIdeal.τ).loc Cert.AdamwRelBiasIdeal.main_arg3))
      ∧ θ_run (Cert.AdamwRelBiasRefIdeal.defs (F := Ideal)) (onTc (τ := Cert.AdamwRelBiasRefIdeal.τ) (Cert.AdamwRelBiasRefIdeal.main (F := Ideal))) ⟨m', fun _ => 0, g'⟩ (fun r => ∀ c : Dev Cert.AdamwRelBiasRefIdeal.nD,
          r.2.mem ((c.tc : Thread Cert.AdamwRelBiasRefIdeal.nD Cert.AdamwRelBiasRefIdeal.τ).loc Cert.AdamwRelBiasRefIdeal.main_v23) = v0 c
          ∧ r.2.mem ((c.tc : Thread Cert.AdamwRelBiasRefIdeal.nD Cert.AdamwRelBiasRefIdeal.τ).loc Cert.AdamwRelBiasRefIdeal.main_v4) = v1 c
          ∧ r.2.mem ((c.tc : Thread Cert.AdamwRelBiasRefIdeal.nD Cert.AdamwRelBiasRefIdeal.τ).loc Cert.AdamwRelBiasRefIdeal.main_v10) = v2 c
          ∧ r.2.mem ((c.tc : Thread Cert.AdamwRelBiasRefIdeal.nD Cert.AdamwRelBiasRefIdeal.τ).loc Cert.AdamwRelBiasRefIdeal.main_arg0) = m' ((c.tc : Thread Cert.AdamwRelBiasRefIdeal.nD Cert.AdamwRelBiasRefIdeal.τ).loc Cert.AdamwRelBiasRefIdeal.main_arg0)
          ∧ r.2.mem ((c.tc : Thread Cert.AdamwRelBiasRefIdeal.nD Cert.AdamwRelBiasRefIdeal.τ).loc Cert.AdamwRelBiasRefIdeal.main_arg1) = m' ((c.tc : Thread Cert.AdamwRelBiasRefIdeal.nD Cert.AdamwRelBiasRefIdeal.τ).loc Cert.AdamwRelBiasRefIdeal.main_arg1)
          ∧ r.2.mem ((c.tc : Thread Cert.AdamwRelBiasRefIdeal.nD Cert.AdamwRelBiasRefIdeal.τ).loc Cert.AdamwRelBiasRefIdeal.main_arg2) = m' ((c.tc : Thread Cert.AdamwRelBiasRefIdeal.nD Cert.AdamwRelBiasRefIdeal.τ).loc Cert.AdamwRelBiasRefIdeal.main_arg2)
          ∧ r.2.mem ((c.tc : Thread Cert.AdamwRelBiasRefIdeal.nD Cert.AdamwRelBiasRefIdeal.τ).loc Cert.AdamwRelBiasRefIdeal.main_arg3) = m' ((c.tc : Thread Cert.AdamwRelBiasRefIdeal.nD Cert.AdamwRelBiasRefIdeal.τ).loc Cert.AdamwRelBiasRefIdeal.main_arg3))

def preserves_AdamwWOut_AdamwWOutIdeal : Prop :=
  True

def algebraic_AdamwWOutIdeal_AdamwWOutRefIdeal [hAdamwWOutIdeal : Cert.AdamwWOutIdeal.Facts] [hAdamwWOutRefIdeal : Cert.AdamwWOutRefIdeal.Facts] : Prop :=
  ∀ (m : (ℓ : Loc Cert.AdamwWOutIdeal.nD Cert.AdamwWOutIdeal.τ Cert.AdamwWOutIdeal.sig) → Buf (Elt Ideal) ℓ) (g : Dev Cert.AdamwWOutIdeal.nD → PrngReg)
    (m' : (ℓ : Loc Cert.AdamwWOutRefIdeal.nD Cert.AdamwWOutRefIdeal.τ Cert.AdamwWOutRefIdeal.sig) → Buf (Elt Ideal) ℓ) (g' : Dev Cert.AdamwWOutRefIdeal.nD → PrngReg), Pre_AdamwWOutIdeal m →
    (∀ c : Dev Cert.AdamwWOutIdeal.nD,
      m' ((c.tc : Thread Cert.AdamwWOutRefIdeal.nD Cert.AdamwWOutRefIdeal.τ).loc Cert.AdamwWOutRefIdeal.main_arg0) = m ((c.tc : Thread Cert.AdamwWOutIdeal.nD Cert.AdamwWOutIdeal.τ).loc Cert.AdamwWOutIdeal.main_arg0)
      ∧ m' ((c.tc : Thread Cert.AdamwWOutRefIdeal.nD Cert.AdamwWOutRefIdeal.τ).loc Cert.AdamwWOutRefIdeal.main_arg1) = m ((c.tc : Thread Cert.AdamwWOutIdeal.nD Cert.AdamwWOutIdeal.τ).loc Cert.AdamwWOutIdeal.main_arg1)
      ∧ m' ((c.tc : Thread Cert.AdamwWOutRefIdeal.nD Cert.AdamwWOutRefIdeal.τ).loc Cert.AdamwWOutRefIdeal.main_arg2) = m ((c.tc : Thread Cert.AdamwWOutIdeal.nD Cert.AdamwWOutIdeal.τ).loc Cert.AdamwWOutIdeal.main_arg2)
      ∧ m' ((c.tc : Thread Cert.AdamwWOutRefIdeal.nD Cert.AdamwWOutRefIdeal.τ).loc Cert.AdamwWOutRefIdeal.main_arg3) = m ((c.tc : Thread Cert.AdamwWOutIdeal.nD Cert.AdamwWOutIdeal.τ).loc Cert.AdamwWOutIdeal.main_arg3)) →
    ∃ (v0 : (c : Dev Cert.AdamwWOutIdeal.nD) → Buf (Elt Ideal) ((c.tc : Thread Cert.AdamwWOutIdeal.nD Cert.AdamwWOutIdeal.τ).loc Cert.AdamwWOutIdeal.main_v0_0)) (v1 : (c : Dev Cert.AdamwWOutIdeal.nD) → Buf (Elt Ideal) ((c.tc : Thread Cert.AdamwWOutIdeal.nD Cert.AdamwWOutIdeal.τ).loc Cert.AdamwWOutIdeal.main_v0_1)) (v2 : (c : Dev Cert.AdamwWOutIdeal.nD) → Buf (Elt Ideal) ((c.tc : Thread Cert.AdamwWOutIdeal.nD Cert.AdamwWOutIdeal.τ).loc Cert.AdamwWOutIdeal.main_v0_2)),
      θ_run (Cert.AdamwWOutIdeal.defs (F := Ideal)) (onTc (τ := Cert.AdamwWOutIdeal.τ) (Cert.AdamwWOutIdeal.main (F := Ideal))) ⟨m, fun _ => 0, g⟩ (fun r => ∀ c : Dev Cert.AdamwWOutIdeal.nD,
          r.2.mem ((c.tc : Thread Cert.AdamwWOutIdeal.nD Cert.AdamwWOutIdeal.τ).loc Cert.AdamwWOutIdeal.main_v0_0) = v0 c
          ∧ r.2.mem ((c.tc : Thread Cert.AdamwWOutIdeal.nD Cert.AdamwWOutIdeal.τ).loc Cert.AdamwWOutIdeal.main_v0_1) = v1 c
          ∧ r.2.mem ((c.tc : Thread Cert.AdamwWOutIdeal.nD Cert.AdamwWOutIdeal.τ).loc Cert.AdamwWOutIdeal.main_v0_2) = v2 c
          ∧ r.2.mem ((c.tc : Thread Cert.AdamwWOutIdeal.nD Cert.AdamwWOutIdeal.τ).loc Cert.AdamwWOutIdeal.main_arg0) = m ((c.tc : Thread Cert.AdamwWOutIdeal.nD Cert.AdamwWOutIdeal.τ).loc Cert.AdamwWOutIdeal.main_arg0)
          ∧ r.2.mem ((c.tc : Thread Cert.AdamwWOutIdeal.nD Cert.AdamwWOutIdeal.τ).loc Cert.AdamwWOutIdeal.main_arg1) = m ((c.tc : Thread Cert.AdamwWOutIdeal.nD Cert.AdamwWOutIdeal.τ).loc Cert.AdamwWOutIdeal.main_arg1)
          ∧ r.2.mem ((c.tc : Thread Cert.AdamwWOutIdeal.nD Cert.AdamwWOutIdeal.τ).loc Cert.AdamwWOutIdeal.main_arg2) = m ((c.tc : Thread Cert.AdamwWOutIdeal.nD Cert.AdamwWOutIdeal.τ).loc Cert.AdamwWOutIdeal.main_arg2)
          ∧ r.2.mem ((c.tc : Thread Cert.AdamwWOutIdeal.nD Cert.AdamwWOutIdeal.τ).loc Cert.AdamwWOutIdeal.main_arg3) = m ((c.tc : Thread Cert.AdamwWOutIdeal.nD Cert.AdamwWOutIdeal.τ).loc Cert.AdamwWOutIdeal.main_arg3))
      ∧ θ_run (Cert.AdamwWOutRefIdeal.defs (F := Ideal)) (onTc (τ := Cert.AdamwWOutRefIdeal.τ) (Cert.AdamwWOutRefIdeal.main (F := Ideal))) ⟨m', fun _ => 0, g'⟩ (fun r => ∀ c : Dev Cert.AdamwWOutRefIdeal.nD,
          r.2.mem ((c.tc : Thread Cert.AdamwWOutRefIdeal.nD Cert.AdamwWOutRefIdeal.τ).loc Cert.AdamwWOutRefIdeal.main_v23) = v0 c
          ∧ r.2.mem ((c.tc : Thread Cert.AdamwWOutRefIdeal.nD Cert.AdamwWOutRefIdeal.τ).loc Cert.AdamwWOutRefIdeal.main_v4) = v1 c
          ∧ r.2.mem ((c.tc : Thread Cert.AdamwWOutRefIdeal.nD Cert.AdamwWOutRefIdeal.τ).loc Cert.AdamwWOutRefIdeal.main_v10) = v2 c
          ∧ r.2.mem ((c.tc : Thread Cert.AdamwWOutRefIdeal.nD Cert.AdamwWOutRefIdeal.τ).loc Cert.AdamwWOutRefIdeal.main_arg0) = m' ((c.tc : Thread Cert.AdamwWOutRefIdeal.nD Cert.AdamwWOutRefIdeal.τ).loc Cert.AdamwWOutRefIdeal.main_arg0)
          ∧ r.2.mem ((c.tc : Thread Cert.AdamwWOutRefIdeal.nD Cert.AdamwWOutRefIdeal.τ).loc Cert.AdamwWOutRefIdeal.main_arg1) = m' ((c.tc : Thread Cert.AdamwWOutRefIdeal.nD Cert.AdamwWOutRefIdeal.τ).loc Cert.AdamwWOutRefIdeal.main_arg1)
          ∧ r.2.mem ((c.tc : Thread Cert.AdamwWOutRefIdeal.nD Cert.AdamwWOutRefIdeal.τ).loc Cert.AdamwWOutRefIdeal.main_arg2) = m' ((c.tc : Thread Cert.AdamwWOutRefIdeal.nD Cert.AdamwWOutRefIdeal.τ).loc Cert.AdamwWOutRefIdeal.main_arg2)
          ∧ r.2.mem ((c.tc : Thread Cert.AdamwWOutRefIdeal.nD Cert.AdamwWOutRefIdeal.τ).loc Cert.AdamwWOutRefIdeal.main_arg3) = m' ((c.tc : Thread Cert.AdamwWOutRefIdeal.nD Cert.AdamwWOutRefIdeal.τ).loc Cert.AdamwWOutRefIdeal.main_arg3))

def preserves_AdamwWFf1_AdamwWFf1Ideal : Prop :=
  True

def algebraic_AdamwWFf1Ideal_AdamwWFf1RefIdeal [hAdamwWFf1Ideal : Cert.AdamwWFf1Ideal.Facts] [hAdamwWFf1RefIdeal : Cert.AdamwWFf1RefIdeal.Facts] : Prop :=
  ∀ (m : (ℓ : Loc Cert.AdamwWFf1Ideal.nD Cert.AdamwWFf1Ideal.τ Cert.AdamwWFf1Ideal.sig) → Buf (Elt Ideal) ℓ) (g : Dev Cert.AdamwWFf1Ideal.nD → PrngReg)
    (m' : (ℓ : Loc Cert.AdamwWFf1RefIdeal.nD Cert.AdamwWFf1RefIdeal.τ Cert.AdamwWFf1RefIdeal.sig) → Buf (Elt Ideal) ℓ) (g' : Dev Cert.AdamwWFf1RefIdeal.nD → PrngReg), Pre_AdamwWFf1Ideal m →
    (∀ c : Dev Cert.AdamwWFf1Ideal.nD,
      m' ((c.tc : Thread Cert.AdamwWFf1RefIdeal.nD Cert.AdamwWFf1RefIdeal.τ).loc Cert.AdamwWFf1RefIdeal.main_arg0) = m ((c.tc : Thread Cert.AdamwWFf1Ideal.nD Cert.AdamwWFf1Ideal.τ).loc Cert.AdamwWFf1Ideal.main_arg0)
      ∧ m' ((c.tc : Thread Cert.AdamwWFf1RefIdeal.nD Cert.AdamwWFf1RefIdeal.τ).loc Cert.AdamwWFf1RefIdeal.main_arg1) = m ((c.tc : Thread Cert.AdamwWFf1Ideal.nD Cert.AdamwWFf1Ideal.τ).loc Cert.AdamwWFf1Ideal.main_arg1)
      ∧ m' ((c.tc : Thread Cert.AdamwWFf1RefIdeal.nD Cert.AdamwWFf1RefIdeal.τ).loc Cert.AdamwWFf1RefIdeal.main_arg2) = m ((c.tc : Thread Cert.AdamwWFf1Ideal.nD Cert.AdamwWFf1Ideal.τ).loc Cert.AdamwWFf1Ideal.main_arg2)
      ∧ m' ((c.tc : Thread Cert.AdamwWFf1RefIdeal.nD Cert.AdamwWFf1RefIdeal.τ).loc Cert.AdamwWFf1RefIdeal.main_arg3) = m ((c.tc : Thread Cert.AdamwWFf1Ideal.nD Cert.AdamwWFf1Ideal.τ).loc Cert.AdamwWFf1Ideal.main_arg3)) →
    ∃ (v0 : (c : Dev Cert.AdamwWFf1Ideal.nD) → Buf (Elt Ideal) ((c.tc : Thread Cert.AdamwWFf1Ideal.nD Cert.AdamwWFf1Ideal.τ).loc Cert.AdamwWFf1Ideal.main_v0_0)) (v1 : (c : Dev Cert.AdamwWFf1Ideal.nD) → Buf (Elt Ideal) ((c.tc : Thread Cert.AdamwWFf1Ideal.nD Cert.AdamwWFf1Ideal.τ).loc Cert.AdamwWFf1Ideal.main_v0_1)) (v2 : (c : Dev Cert.AdamwWFf1Ideal.nD) → Buf (Elt Ideal) ((c.tc : Thread Cert.AdamwWFf1Ideal.nD Cert.AdamwWFf1Ideal.τ).loc Cert.AdamwWFf1Ideal.main_v0_2)),
      θ_run (Cert.AdamwWFf1Ideal.defs (F := Ideal)) (onTc (τ := Cert.AdamwWFf1Ideal.τ) (Cert.AdamwWFf1Ideal.main (F := Ideal))) ⟨m, fun _ => 0, g⟩ (fun r => ∀ c : Dev Cert.AdamwWFf1Ideal.nD,
          r.2.mem ((c.tc : Thread Cert.AdamwWFf1Ideal.nD Cert.AdamwWFf1Ideal.τ).loc Cert.AdamwWFf1Ideal.main_v0_0) = v0 c
          ∧ r.2.mem ((c.tc : Thread Cert.AdamwWFf1Ideal.nD Cert.AdamwWFf1Ideal.τ).loc Cert.AdamwWFf1Ideal.main_v0_1) = v1 c
          ∧ r.2.mem ((c.tc : Thread Cert.AdamwWFf1Ideal.nD Cert.AdamwWFf1Ideal.τ).loc Cert.AdamwWFf1Ideal.main_v0_2) = v2 c
          ∧ r.2.mem ((c.tc : Thread Cert.AdamwWFf1Ideal.nD Cert.AdamwWFf1Ideal.τ).loc Cert.AdamwWFf1Ideal.main_arg0) = m ((c.tc : Thread Cert.AdamwWFf1Ideal.nD Cert.AdamwWFf1Ideal.τ).loc Cert.AdamwWFf1Ideal.main_arg0)
          ∧ r.2.mem ((c.tc : Thread Cert.AdamwWFf1Ideal.nD Cert.AdamwWFf1Ideal.τ).loc Cert.AdamwWFf1Ideal.main_arg1) = m ((c.tc : Thread Cert.AdamwWFf1Ideal.nD Cert.AdamwWFf1Ideal.τ).loc Cert.AdamwWFf1Ideal.main_arg1)
          ∧ r.2.mem ((c.tc : Thread Cert.AdamwWFf1Ideal.nD Cert.AdamwWFf1Ideal.τ).loc Cert.AdamwWFf1Ideal.main_arg2) = m ((c.tc : Thread Cert.AdamwWFf1Ideal.nD Cert.AdamwWFf1Ideal.τ).loc Cert.AdamwWFf1Ideal.main_arg2)
          ∧ r.2.mem ((c.tc : Thread Cert.AdamwWFf1Ideal.nD Cert.AdamwWFf1Ideal.τ).loc Cert.AdamwWFf1Ideal.main_arg3) = m ((c.tc : Thread Cert.AdamwWFf1Ideal.nD Cert.AdamwWFf1Ideal.τ).loc Cert.AdamwWFf1Ideal.main_arg3))
      ∧ θ_run (Cert.AdamwWFf1RefIdeal.defs (F := Ideal)) (onTc (τ := Cert.AdamwWFf1RefIdeal.τ) (Cert.AdamwWFf1RefIdeal.main (F := Ideal))) ⟨m', fun _ => 0, g'⟩ (fun r => ∀ c : Dev Cert.AdamwWFf1RefIdeal.nD,
          r.2.mem ((c.tc : Thread Cert.AdamwWFf1RefIdeal.nD Cert.AdamwWFf1RefIdeal.τ).loc Cert.AdamwWFf1RefIdeal.main_v23) = v0 c
          ∧ r.2.mem ((c.tc : Thread Cert.AdamwWFf1RefIdeal.nD Cert.AdamwWFf1RefIdeal.τ).loc Cert.AdamwWFf1RefIdeal.main_v4) = v1 c
          ∧ r.2.mem ((c.tc : Thread Cert.AdamwWFf1RefIdeal.nD Cert.AdamwWFf1RefIdeal.τ).loc Cert.AdamwWFf1RefIdeal.main_v10) = v2 c
          ∧ r.2.mem ((c.tc : Thread Cert.AdamwWFf1RefIdeal.nD Cert.AdamwWFf1RefIdeal.τ).loc Cert.AdamwWFf1RefIdeal.main_arg0) = m' ((c.tc : Thread Cert.AdamwWFf1RefIdeal.nD Cert.AdamwWFf1RefIdeal.τ).loc Cert.AdamwWFf1RefIdeal.main_arg0)
          ∧ r.2.mem ((c.tc : Thread Cert.AdamwWFf1RefIdeal.nD Cert.AdamwWFf1RefIdeal.τ).loc Cert.AdamwWFf1RefIdeal.main_arg1) = m' ((c.tc : Thread Cert.AdamwWFf1RefIdeal.nD Cert.AdamwWFf1RefIdeal.τ).loc Cert.AdamwWFf1RefIdeal.main_arg1)
          ∧ r.2.mem ((c.tc : Thread Cert.AdamwWFf1RefIdeal.nD Cert.AdamwWFf1RefIdeal.τ).loc Cert.AdamwWFf1RefIdeal.main_arg2) = m' ((c.tc : Thread Cert.AdamwWFf1RefIdeal.nD Cert.AdamwWFf1RefIdeal.τ).loc Cert.AdamwWFf1RefIdeal.main_arg2)
          ∧ r.2.mem ((c.tc : Thread Cert.AdamwWFf1RefIdeal.nD Cert.AdamwWFf1RefIdeal.τ).loc Cert.AdamwWFf1RefIdeal.main_arg3) = m' ((c.tc : Thread Cert.AdamwWFf1RefIdeal.nD Cert.AdamwWFf1RefIdeal.τ).loc Cert.AdamwWFf1RefIdeal.main_arg3))

def preserves_SumIn_SumInIdeal : Prop :=
  True

def algebraic_SumInIdeal_SumInRefIdeal [hSumInIdeal : Cert.SumInIdeal.Facts] [hSumInRefIdeal : Cert.SumInRefIdeal.Facts] : Prop :=
  ∀ (m : (ℓ : Loc Cert.SumInIdeal.nD Cert.SumInIdeal.τ Cert.SumInIdeal.sig) → Buf (Elt Ideal) ℓ) (g : Dev Cert.SumInIdeal.nD → PrngReg)
    (m' : (ℓ : Loc Cert.SumInRefIdeal.nD Cert.SumInRefIdeal.τ Cert.SumInRefIdeal.sig) → Buf (Elt Ideal) ℓ) (g' : Dev Cert.SumInRefIdeal.nD → PrngReg), Pre_SumInIdeal m →
    (∀ c : Dev Cert.SumInIdeal.nD,
      m' ((c.tc : Thread Cert.SumInRefIdeal.nD Cert.SumInRefIdeal.τ).loc Cert.SumInRefIdeal.main_arg0) = m ((c.tc : Thread Cert.SumInIdeal.nD Cert.SumInIdeal.τ).loc Cert.SumInIdeal.main_arg0)) →
    ∃ (v0 : (c : Dev Cert.SumInIdeal.nD) → Buf (Elt Ideal) ((c.tc : Thread Cert.SumInIdeal.nD Cert.SumInIdeal.τ).loc Cert.SumInIdeal.main_v0)),
      θ_run (Cert.SumInIdeal.defs (F := Ideal)) (onTc (τ := Cert.SumInIdeal.τ) (Cert.SumInIdeal.main (F := Ideal))) ⟨m, fun _ => 0, g⟩ (fun r => ∀ c : Dev Cert.SumInIdeal.nD,
          r.2.mem ((c.tc : Thread Cert.SumInIdeal.nD Cert.SumInIdeal.τ).loc Cert.SumInIdeal.main_v0) = v0 c
          ∧ r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0))
      ∧ θ_run (Cert.SumInRefIdeal.defs (F := Ideal)) (onTc (τ := Cert.SumInRefIdeal.τ) (Cert.SumInRefIdeal.main (F := Ideal))) ⟨m', fun _ => 0, g'⟩ (fun r => ∀ c : Dev Cert.SumInRefIdeal.nD,
          r.2.mem ((c.tc : Thread Cert.SumInRefIdeal.nD Cert.SumInRefIdeal.τ).loc Cert.SumInRefIdeal.main_v1) = v0 c
          ∧ r.2.mem ((c.tc : Thread Cert.SumInRefIdeal.nD Cert.SumInRefIdeal.τ).loc Cert.SumInRefIdeal.main_arg0) = m' ((c.tc : Thread Cert.SumInRefIdeal.nD Cert.SumInRefIdeal.τ).loc Cert.SumInRefIdeal.main_arg0))

def preserves_SumOut_SumOutIdeal : Prop :=
  True

def algebraic_SumOutIdeal_SumOutRefIdeal [hSumOutIdeal : Cert.SumOutIdeal.Facts] [hSumOutRefIdeal : Cert.SumOutRefIdeal.Facts] : Prop :=
  ∀ (m : (ℓ : Loc Cert.SumOutIdeal.nD Cert.SumOutIdeal.τ Cert.SumOutIdeal.sig) → Buf (Elt Ideal) ℓ) (g : Dev Cert.SumOutIdeal.nD → PrngReg)
    (m' : (ℓ : Loc Cert.SumOutRefIdeal.nD Cert.SumOutRefIdeal.τ Cert.SumOutRefIdeal.sig) → Buf (Elt Ideal) ℓ) (g' : Dev Cert.SumOutRefIdeal.nD → PrngReg), Pre_SumOutIdeal m →
    (∀ c : Dev Cert.SumOutIdeal.nD,
      m' ((c.tc : Thread Cert.SumOutRefIdeal.nD Cert.SumOutRefIdeal.τ).loc Cert.SumOutRefIdeal.main_arg0) = m ((c.tc : Thread Cert.SumOutIdeal.nD Cert.SumOutIdeal.τ).loc Cert.SumOutIdeal.main_arg0)) →
    ∃ (v0 : (c : Dev Cert.SumOutIdeal.nD) → Buf (Elt Ideal) ((c.tc : Thread Cert.SumOutIdeal.nD Cert.SumOutIdeal.τ).loc Cert.SumOutIdeal.main_v0)),
      θ_run (Cert.SumOutIdeal.defs (F := Ideal)) (onTc (τ := Cert.SumOutIdeal.τ) (Cert.SumOutIdeal.main (F := Ideal))) ⟨m, fun _ => 0, g⟩ (fun r => ∀ c : Dev Cert.SumOutIdeal.nD,
          r.2.mem ((c.tc : Thread Cert.SumOutIdeal.nD Cert.SumOutIdeal.τ).loc Cert.SumOutIdeal.main_v0) = v0 c
          ∧ r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0))
      ∧ θ_run (Cert.SumOutRefIdeal.defs (F := Ideal)) (onTc (τ := Cert.SumOutRefIdeal.τ) (Cert.SumOutRefIdeal.main (F := Ideal))) ⟨m', fun _ => 0, g'⟩ (fun r => ∀ c : Dev Cert.SumOutRefIdeal.nD,
          r.2.mem ((c.tc : Thread Cert.SumOutRefIdeal.nD Cert.SumOutRefIdeal.τ).loc Cert.SumOutRefIdeal.main_v1) = v0 c
          ∧ r.2.mem ((c.tc : Thread Cert.SumOutRefIdeal.nD Cert.SumOutRefIdeal.τ).loc Cert.SumOutRefIdeal.main_arg0) = m' ((c.tc : Thread Cert.SumOutRefIdeal.nD Cert.SumOutRefIdeal.τ).loc Cert.SumOutRefIdeal.main_arg0))

def preserves_SumFf_SumFfIdeal : Prop :=
  True

def algebraic_SumFfIdeal_SumFfRefIdeal [hSumFfIdeal : Cert.SumFfIdeal.Facts] [hSumFfRefIdeal : Cert.SumFfRefIdeal.Facts] : Prop :=
  ∀ (m : (ℓ : Loc Cert.SumFfIdeal.nD Cert.SumFfIdeal.τ Cert.SumFfIdeal.sig) → Buf (Elt Ideal) ℓ) (g : Dev Cert.SumFfIdeal.nD → PrngReg)
    (m' : (ℓ : Loc Cert.SumFfRefIdeal.nD Cert.SumFfRefIdeal.τ Cert.SumFfRefIdeal.sig) → Buf (Elt Ideal) ℓ) (g' : Dev Cert.SumFfRefIdeal.nD → PrngReg), Pre_SumFfIdeal m →
    (∀ c : Dev Cert.SumFfIdeal.nD,
      m' ((c.tc : Thread Cert.SumFfRefIdeal.nD Cert.SumFfRefIdeal.τ).loc Cert.SumFfRefIdeal.main_arg0) = m ((c.tc : Thread Cert.SumFfIdeal.nD Cert.SumFfIdeal.τ).loc Cert.SumFfIdeal.main_arg0)) →
    ∃ (v0 : (c : Dev Cert.SumFfIdeal.nD) → Buf (Elt Ideal) ((c.tc : Thread Cert.SumFfIdeal.nD Cert.SumFfIdeal.τ).loc Cert.SumFfIdeal.main_v0)),
      θ_run (Cert.SumFfIdeal.defs (F := Ideal)) (onTc (τ := Cert.SumFfIdeal.τ) (Cert.SumFfIdeal.main (F := Ideal))) ⟨m, fun _ => 0, g⟩ (fun r => ∀ c : Dev Cert.SumFfIdeal.nD,
          r.2.mem ((c.tc : Thread Cert.SumFfIdeal.nD Cert.SumFfIdeal.τ).loc Cert.SumFfIdeal.main_v0) = v0 c
          ∧ r.2.mem ((c.tc : Thread Cert.SumFfIdeal.nD Cert.SumFfIdeal.τ).loc Cert.SumFfIdeal.main_arg0) = m ((c.tc : Thread Cert.SumFfIdeal.nD Cert.SumFfIdeal.τ).loc Cert.SumFfIdeal.main_arg0))
      ∧ θ_run (Cert.SumFfRefIdeal.defs (F := Ideal)) (onTc (τ := Cert.SumFfRefIdeal.τ) (Cert.SumFfRefIdeal.main (F := Ideal))) ⟨m', fun _ => 0, g'⟩ (fun r => ∀ c : Dev Cert.SumFfRefIdeal.nD,
          r.2.mem ((c.tc : Thread Cert.SumFfRefIdeal.nD Cert.SumFfRefIdeal.τ).loc Cert.SumFfRefIdeal.main_v1) = v0 c
          ∧ r.2.mem ((c.tc : Thread Cert.SumFfRefIdeal.nD Cert.SumFfRefIdeal.τ).loc Cert.SumFfRefIdeal.main_arg0) = m' ((c.tc : Thread Cert.SumFfRefIdeal.nD Cert.SumFfRefIdeal.τ).loc Cert.SumFfRefIdeal.main_arg0))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_AddIn_AddInIdeal : Prop :=
  True

def algebraic_AddInIdeal_AddInRefIdeal [hAddInIdeal : Cert.AddInIdeal.Facts] [hAddInRefIdeal : Cert.AddInRefIdeal.Facts] [hPre_core_named_in : Cert.Pre_core_named_in.Facts] : Prop :=
  ∀ (m : (ℓ : Loc Cert.AddInIdeal.nD Cert.AddInIdeal.τ Cert.AddInIdeal.sig) → Buf (Elt Ideal) ℓ) (g : Dev Cert.AddInIdeal.nD → PrngReg)
    (m' : (ℓ : Loc Cert.AddInRefIdeal.nD Cert.AddInRefIdeal.τ Cert.AddInRefIdeal.sig) → Buf (Elt Ideal) ℓ) (g' : Dev Cert.AddInRefIdeal.nD → PrngReg), Pre_AddInIdeal m →
    (∀ c : Dev Cert.AddInIdeal.nD,
      m' ((c.tc : Thread Cert.AddInRefIdeal.nD Cert.AddInRefIdeal.τ).loc Cert.AddInRefIdeal.main_arg0) = m ((c.tc : Thread Cert.AddInIdeal.nD Cert.AddInIdeal.τ).loc Cert.AddInIdeal.main_arg0)
      ∧ m' ((c.tc : Thread Cert.AddInRefIdeal.nD Cert.AddInRefIdeal.τ).loc Cert.AddInRefIdeal.main_arg1) = m ((c.tc : Thread Cert.AddInIdeal.nD Cert.AddInIdeal.τ).loc Cert.AddInIdeal.main_arg1)
      ∧ m' ((c.tc : Thread Cert.AddInRefIdeal.nD Cert.AddInRefIdeal.τ).loc Cert.AddInRefIdeal.main_arg2) = m ((c.tc : Thread Cert.AddInIdeal.nD Cert.AddInIdeal.τ).loc Cert.AddInIdeal.main_arg2)) →
    ∃ (v0 : (c : Dev Cert.AddInIdeal.nD) → Buf (Elt Ideal) ((c.tc : Thread Cert.AddInIdeal.nD Cert.AddInIdeal.τ).loc Cert.AddInIdeal.main_v0)),
      θ_run (Cert.AddInIdeal.defs (F := Ideal)) (onTc (τ := Cert.AddInIdeal.τ) (Cert.AddInIdeal.main (F := Ideal))) ⟨m, fun _ => 0, g⟩ (fun r => ∀ c : Dev Cert.AddInIdeal.nD,
          r.2.mem ((c.tc : Thread Cert.AddInIdeal.nD Cert.AddInIdeal.τ).loc Cert.AddInIdeal.main_v0) = v0 c
          ∧ r.2.mem ((c.tc : Thread Cert.AddInIdeal.nD Cert.AddInIdeal.τ).loc Cert.AddInIdeal.main_arg0) = m ((c.tc : Thread Cert.AddInIdeal.nD Cert.AddInIdeal.τ).loc Cert.AddInIdeal.main_arg0)
          ∧ r.2.mem ((c.tc : Thread Cert.AddInIdeal.nD Cert.AddInIdeal.τ).loc Cert.AddInIdeal.main_arg1) = m ((c.tc : Thread Cert.AddInIdeal.nD Cert.AddInIdeal.τ).loc Cert.AddInIdeal.main_arg1)
          ∧ r.2.mem ((c.tc : Thread Cert.AddInIdeal.nD Cert.AddInIdeal.τ).loc Cert.AddInIdeal.main_arg2) = m ((c.tc : Thread Cert.AddInIdeal.nD Cert.AddInIdeal.τ).loc Cert.AddInIdeal.main_arg2))
      ∧ θ_run (Cert.AddInRefIdeal.defs (F := Ideal)) (onTc (τ := Cert.AddInRefIdeal.τ) (Cert.AddInRefIdeal.main (F := Ideal))) ⟨m', fun _ => 0, g'⟩ (fun r => ∀ c : Dev Cert.AddInRefIdeal.nD,
          r.2.mem ((c.tc : Thread Cert.AddInRefIdeal.nD Cert.AddInRefIdeal.τ).loc Cert.AddInRefIdeal.main_v6) = v0 c
          ∧ r.2.mem ((c.tc : Thread Cert.AddInRefIdeal.nD Cert.AddInRefIdeal.τ).loc Cert.AddInRefIdeal.main_arg0) = m' ((c.tc : Thread Cert.AddInRefIdeal.nD Cert.AddInRefIdeal.τ).loc Cert.AddInRefIdeal.main_arg0)
          ∧ r.2.mem ((c.tc : Thread Cert.AddInRefIdeal.nD Cert.AddInRefIdeal.τ).loc Cert.AddInRefIdeal.main_arg1) = m' ((c.tc : Thread Cert.AddInRefIdeal.nD Cert.AddInRefIdeal.τ).loc Cert.AddInRefIdeal.main_arg1)
          ∧ r.2.mem ((c.tc : Thread Cert.AddInRefIdeal.nD Cert.AddInRefIdeal.τ).loc Cert.AddInRefIdeal.main_arg2) = m' ((c.tc : Thread Cert.AddInRefIdeal.nD Cert.AddInRefIdeal.τ).loc Cert.AddInRefIdeal.main_arg2))

def preserves_AddOut_AddOutIdeal : Prop :=
  True

def algebraic_AddOutIdeal_AddOutRefIdeal [hAddOutIdeal : Cert.AddOutIdeal.Facts] [hAddOutRefIdeal : Cert.AddOutRefIdeal.Facts] [hPre_core_named_out : Cert.Pre_core_named_out.Facts] : Prop :=
  ∀ (m : (ℓ : Loc Cert.AddOutIdeal.nD Cert.AddOutIdeal.τ Cert.AddOutIdeal.sig) → Buf (Elt Ideal) ℓ) (g : Dev Cert.AddOutIdeal.nD → PrngReg)
    (m' : (ℓ : Loc Cert.AddOutRefIdeal.nD Cert.AddOutRefIdeal.τ Cert.AddOutRefIdeal.sig) → Buf (Elt Ideal) ℓ) (g' : Dev Cert.AddOutRefIdeal.nD → PrngReg), Pre_AddOutIdeal m →
    (∀ c : Dev Cert.AddOutIdeal.nD,
      m' ((c.tc : Thread Cert.AddOutRefIdeal.nD Cert.AddOutRefIdeal.τ).loc Cert.AddOutRefIdeal.main_arg0) = m ((c.tc : Thread Cert.AddOutIdeal.nD Cert.AddOutIdeal.τ).loc Cert.AddOutIdeal.main_arg0)
      ∧ m' ((c.tc : Thread Cert.AddOutRefIdeal.nD Cert.AddOutRefIdeal.τ).loc Cert.AddOutRefIdeal.main_arg1) = m ((c.tc : Thread Cert.AddOutIdeal.nD Cert.AddOutIdeal.τ).loc Cert.AddOutIdeal.main_arg1)
      ∧ m' ((c.tc : Thread Cert.AddOutRefIdeal.nD Cert.AddOutRefIdeal.τ).loc Cert.AddOutRefIdeal.main_arg2) = m ((c.tc : Thread Cert.AddOutIdeal.nD Cert.AddOutIdeal.τ).loc Cert.AddOutIdeal.main_arg2)) →
    ∃ (v0 : (c : Dev Cert.AddOutIdeal.nD) → Buf (Elt Ideal) ((c.tc : Thread Cert.AddOutIdeal.nD Cert.AddOutIdeal.τ).loc Cert.AddOutIdeal.main_v0)),
      θ_run (Cert.AddOutIdeal.defs (F := Ideal)) (onTc (τ := Cert.AddOutIdeal.τ) (Cert.AddOutIdeal.main (F := Ideal))) ⟨m, fun _ => 0, g⟩ (fun r => ∀ c : Dev Cert.AddOutIdeal.nD,
          r.2.mem ((c.tc : Thread Cert.AddOutIdeal.nD Cert.AddOutIdeal.τ).loc Cert.AddOutIdeal.main_v0) = v0 c
          ∧ r.2.mem ((c.tc : Thread Cert.AddOutIdeal.nD Cert.AddOutIdeal.τ).loc Cert.AddOutIdeal.main_arg0) = m ((c.tc : Thread Cert.AddOutIdeal.nD Cert.AddOutIdeal.τ).loc Cert.AddOutIdeal.main_arg0)
          ∧ r.2.mem ((c.tc : Thread Cert.AddOutIdeal.nD Cert.AddOutIdeal.τ).loc Cert.AddOutIdeal.main_arg1) = m ((c.tc : Thread Cert.AddOutIdeal.nD Cert.AddOutIdeal.τ).loc Cert.AddOutIdeal.main_arg1)
          ∧ r.2.mem ((c.tc : Thread Cert.AddOutIdeal.nD Cert.AddOutIdeal.τ).loc Cert.AddOutIdeal.main_arg2) = m ((c.tc : Thread Cert.AddOutIdeal.nD Cert.AddOutIdeal.τ).loc Cert.AddOutIdeal.main_arg2))
      ∧ θ_run (Cert.AddOutRefIdeal.defs (F := Ideal)) (onTc (τ := Cert.AddOutRefIdeal.τ) (Cert.AddOutRefIdeal.main (F := Ideal))) ⟨m', fun _ => 0, g'⟩ (fun r => ∀ c : Dev Cert.AddOutRefIdeal.nD,
          r.2.mem ((c.tc : Thread Cert.AddOutRefIdeal.nD Cert.AddOutRefIdeal.τ).loc Cert.AddOutRefIdeal.main_v6) = v0 c
          ∧ r.2.mem ((c.tc : Thread Cert.AddOutRefIdeal.nD Cert.AddOutRefIdeal.τ).loc Cert.AddOutRefIdeal.main_arg0) = m' ((c.tc : Thread Cert.AddOutRefIdeal.nD Cert.AddOutRefIdeal.τ).loc Cert.AddOutRefIdeal.main_arg0)
          ∧ r.2.mem ((c.tc : Thread Cert.AddOutRefIdeal.nD Cert.AddOutRefIdeal.τ).loc Cert.AddOutRefIdeal.main_arg1) = m' ((c.tc : Thread Cert.AddOutRefIdeal.nD Cert.AddOutRefIdeal.τ).loc Cert.AddOutRefIdeal.main_arg1)
          ∧ r.2.mem ((c.tc : Thread Cert.AddOutRefIdeal.nD Cert.AddOutRefIdeal.τ).loc Cert.AddOutRefIdeal.main_arg2) = m' ((c.tc : Thread Cert.AddOutRefIdeal.nD Cert.AddOutRefIdeal.τ).loc Cert.AddOutRefIdeal.main_arg2))

def preserves_AddFf_AddFfIdeal : Prop :=
  True

def algebraic_AddFfIdeal_AddFfRefIdeal [hAddFfIdeal : Cert.AddFfIdeal.Facts] [hAddFfRefIdeal : Cert.AddFfRefIdeal.Facts] [hPre_core_named_ff : Cert.Pre_core_named_ff.Facts] : Prop :=
  ∀ (m : (ℓ : Loc Cert.AddFfIdeal.nD Cert.AddFfIdeal.τ Cert.AddFfIdeal.sig) → Buf (Elt Ideal) ℓ) (g : Dev Cert.AddFfIdeal.nD → PrngReg)
    (m' : (ℓ : Loc Cert.AddFfRefIdeal.nD Cert.AddFfRefIdeal.τ Cert.AddFfRefIdeal.sig) → Buf (Elt Ideal) ℓ) (g' : Dev Cert.AddFfRefIdeal.nD → PrngReg), Pre_AddFfIdeal m →
    (∀ c : Dev Cert.AddFfIdeal.nD,
      m' ((c.tc : Thread Cert.AddFfRefIdeal.nD Cert.AddFfRefIdeal.τ).loc Cert.AddFfRefIdeal.main_arg0) = m ((c.tc : Thread Cert.AddFfIdeal.nD Cert.AddFfIdeal.τ).loc Cert.AddFfIdeal.main_arg0)
      ∧ m' ((c.tc : Thread Cert.AddFfRefIdeal.nD Cert.AddFfRefIdeal.τ).loc Cert.AddFfRefIdeal.main_arg1) = m ((c.tc : Thread Cert.AddFfIdeal.nD Cert.AddFfIdeal.τ).loc Cert.AddFfIdeal.main_arg1)
      ∧ m' ((c.tc : Thread Cert.AddFfRefIdeal.nD Cert.AddFfRefIdeal.τ).loc Cert.AddFfRefIdeal.main_arg2) = m ((c.tc : Thread Cert.AddFfIdeal.nD Cert.AddFfIdeal.τ).loc Cert.AddFfIdeal.main_arg2)) →
    ∃ (v0 : (c : Dev Cert.AddFfIdeal.nD) → Buf (Elt Ideal) ((c.tc : Thread Cert.AddFfIdeal.nD Cert.AddFfIdeal.τ).loc Cert.AddFfIdeal.main_v0)),
      θ_run (Cert.AddFfIdeal.defs (F := Ideal)) (onTc (τ := Cert.AddFfIdeal.τ) (Cert.AddFfIdeal.main (F := Ideal))) ⟨m, fun _ => 0, g⟩ (fun r => ∀ c : Dev Cert.AddFfIdeal.nD,
          r.2.mem ((c.tc : Thread Cert.AddFfIdeal.nD Cert.AddFfIdeal.τ).loc Cert.AddFfIdeal.main_v0) = v0 c
          ∧ r.2.mem ((c.tc : Thread Cert.AddFfIdeal.nD Cert.AddFfIdeal.τ).loc Cert.AddFfIdeal.main_arg0) = m ((c.tc : Thread Cert.AddFfIdeal.nD Cert.AddFfIdeal.τ).loc Cert.AddFfIdeal.main_arg0)
          ∧ r.2.mem ((c.tc : Thread Cert.AddFfIdeal.nD Cert.AddFfIdeal.τ).loc Cert.AddFfIdeal.main_arg1) = m ((c.tc : Thread Cert.AddFfIdeal.nD Cert.AddFfIdeal.τ).loc Cert.AddFfIdeal.main_arg1)
          ∧ r.2.mem ((c.tc : Thread Cert.AddFfIdeal.nD Cert.AddFfIdeal.τ).loc Cert.AddFfIdeal.main_arg2) = m ((c.tc : Thread Cert.AddFfIdeal.nD Cert.AddFfIdeal.τ).loc Cert.AddFfIdeal.main_arg2))
      ∧ θ_run (Cert.AddFfRefIdeal.defs (F := Ideal)) (onTc (τ := Cert.AddFfRefIdeal.τ) (Cert.AddFfRefIdeal.main (F := Ideal))) ⟨m', fun _ => 0, g'⟩ (fun r => ∀ c : Dev Cert.AddFfRefIdeal.nD,
          r.2.mem ((c.tc : Thread Cert.AddFfRefIdeal.nD Cert.AddFfRefIdeal.τ).loc Cert.AddFfRefIdeal.main_v6) = v0 c
          ∧ r.2.mem ((c.tc : Thread Cert.AddFfRefIdeal.nD Cert.AddFfRefIdeal.τ).loc Cert.AddFfRefIdeal.main_arg0) = m' ((c.tc : Thread Cert.AddFfRefIdeal.nD Cert.AddFfRefIdeal.τ).loc Cert.AddFfRefIdeal.main_arg0)
          ∧ r.2.mem ((c.tc : Thread Cert.AddFfRefIdeal.nD Cert.AddFfRefIdeal.τ).loc Cert.AddFfRefIdeal.main_arg1) = m' ((c.tc : Thread Cert.AddFfRefIdeal.nD Cert.AddFfRefIdeal.τ).loc Cert.AddFfRefIdeal.main_arg1)
          ∧ r.2.mem ((c.tc : Thread Cert.AddFfRefIdeal.nD Cert.AddFfRefIdeal.τ).loc Cert.AddFfRefIdeal.main_arg2) = m' ((c.tc : Thread Cert.AddFfRefIdeal.nD Cert.AddFfRefIdeal.τ).loc Cert.AddFfRefIdeal.main_arg2))

def preserves_WgradGla_WgradGlaIdeal : Prop :=
  True

def algebraic_WgradGlaIdeal_WgradGlaRefIdeal [hWgradGlaIdeal : Cert.WgradGlaIdeal.Facts] [hWgradGlaRefIdeal : Cert.WgradGlaRefIdeal.Facts] : Prop :=
  ∀ (m : (ℓ : Loc Cert.WgradGlaIdeal.nD Cert.WgradGlaIdeal.τ Cert.WgradGlaIdeal.sig) → Buf (Elt Ideal) ℓ) (g : Dev Cert.WgradGlaIdeal.nD → PrngReg)
    (m' : (ℓ : Loc Cert.WgradGlaRefIdeal.nD Cert.WgradGlaRefIdeal.τ Cert.WgradGlaRefIdeal.sig) → Buf (Elt Ideal) ℓ) (g' : Dev Cert.WgradGlaRefIdeal.nD → PrngReg), Pre_WgradGlaIdeal m →
    (∀ c : Dev Cert.WgradGlaIdeal.nD,
      m' ((c.tc : Thread Cert.WgradGlaRefIdeal.nD Cert.WgradGlaRefIdeal.τ).loc Cert.WgradGlaRefIdeal.main_arg0) = m ((c.tc : Thread Cert.WgradGlaIdeal.nD Cert.WgradGlaIdeal.τ).loc Cert.WgradGlaIdeal.main_arg0)
      ∧ m' ((c.tc : Thread Cert.WgradGlaRefIdeal.nD Cert.WgradGlaRefIdeal.τ).loc Cert.WgradGlaRefIdeal.main_arg1) = m ((c.tc : Thread Cert.WgradGlaIdeal.nD Cert.WgradGlaIdeal.τ).loc Cert.WgradGlaIdeal.main_arg1)) →
    ∃ (v0 : (c : Dev Cert.WgradGlaIdeal.nD) → Buf (Elt Ideal) ((c.tc : Thread Cert.WgradGlaIdeal.nD Cert.WgradGlaIdeal.τ).loc Cert.WgradGlaIdeal.main_v0)),
      θ_run (Cert.WgradGlaIdeal.defs (F := Ideal)) (onTc (τ := Cert.WgradGlaIdeal.τ) (Cert.WgradGlaIdeal.main (F := Ideal))) ⟨m, fun _ => 0, g⟩ (fun r => ∀ c : Dev Cert.WgradGlaIdeal.nD,
          r.2.mem ((c.tc : Thread Cert.WgradGlaIdeal.nD Cert.WgradGlaIdeal.τ).loc Cert.WgradGlaIdeal.main_v0) = v0 c
          ∧ r.2.mem ((c.tc : Thread Cert.WgradGlaIdeal.nD Cert.WgradGlaIdeal.τ).loc Cert.WgradGlaIdeal.main_arg0) = m ((c.tc : Thread Cert.WgradGlaIdeal.nD Cert.WgradGlaIdeal.τ).loc Cert.WgradGlaIdeal.main_arg0)
          ∧ r.2.mem ((c.tc : Thread Cert.WgradGlaIdeal.nD Cert.WgradGlaIdeal.τ).loc Cert.WgradGlaIdeal.main_arg1) = m ((c.tc : Thread Cert.WgradGlaIdeal.nD Cert.WgradGlaIdeal.τ).loc Cert.WgradGlaIdeal.main_arg1))
      ∧ θ_run (Cert.WgradGlaRefIdeal.defs (F := Ideal)) (onTc (τ := Cert.WgradGlaRefIdeal.τ) (Cert.WgradGlaRefIdeal.main (F := Ideal))) ⟨m', fun _ => 0, g'⟩ (fun r => ∀ c : Dev Cert.WgradGlaRefIdeal.nD,
          r.2.mem ((c.tc : Thread Cert.WgradGlaRefIdeal.nD Cert.WgradGlaRefIdeal.τ).loc Cert.WgradGlaRefIdeal.main_v0) = v0 c
          ∧ r.2.mem ((c.tc : Thread Cert.WgradGlaRefIdeal.nD Cert.WgradGlaRefIdeal.τ).loc Cert.WgradGlaRefIdeal.main_arg0) = m' ((c.tc : Thread Cert.WgradGlaRefIdeal.nD Cert.WgradGlaRefIdeal.τ).loc Cert.WgradGlaRefIdeal.main_arg0)
          ∧ r.2.mem ((c.tc : Thread Cert.WgradGlaRefIdeal.nD Cert.WgradGlaRefIdeal.τ).loc Cert.WgradGlaRefIdeal.main_arg1) = m' ((c.tc : Thread Cert.WgradGlaRefIdeal.nD Cert.WgradGlaRefIdeal.τ).loc Cert.WgradGlaRefIdeal.main_arg1))

def preserves_WgradHeads_WgradHeadsIdeal : Prop :=
  True

def algebraic_WgradHeadsIdeal_WgradHeadsRefIdeal [hWgradHeadsIdeal : Cert.WgradHeadsIdeal.Facts] [hWgradHeadsRefIdeal : Cert.WgradHeadsRefIdeal.Facts] : Prop :=
  ∀ (m : (ℓ : Loc Cert.WgradHeadsIdeal.nD Cert.WgradHeadsIdeal.τ Cert.WgradHeadsIdeal.sig) → Buf (Elt Ideal) ℓ) (g : Dev Cert.WgradHeadsIdeal.nD → PrngReg)
    (m' : (ℓ : Loc Cert.WgradHeadsRefIdeal.nD Cert.WgradHeadsRefIdeal.τ Cert.WgradHeadsRefIdeal.sig) → Buf (Elt Ideal) ℓ) (g' : Dev Cert.WgradHeadsRefIdeal.nD → PrngReg), Pre_WgradHeadsIdeal m →
    (∀ c : Dev Cert.WgradHeadsIdeal.nD,
      m' ((c.tc : Thread Cert.WgradHeadsRefIdeal.nD Cert.WgradHeadsRefIdeal.τ).loc Cert.WgradHeadsRefIdeal.main_arg0) = m ((c.tc : Thread Cert.WgradHeadsIdeal.nD Cert.WgradHeadsIdeal.τ).loc Cert.WgradHeadsIdeal.main_arg0)
      ∧ m' ((c.tc : Thread Cert.WgradHeadsRefIdeal.nD Cert.WgradHeadsRefIdeal.τ).loc Cert.WgradHeadsRefIdeal.main_arg1) = m ((c.tc : Thread Cert.WgradHeadsIdeal.nD Cert.WgradHeadsIdeal.τ).loc Cert.WgradHeadsIdeal.main_arg1)) →
    ∃ (v0 : (c : Dev Cert.WgradHeadsIdeal.nD) → Buf (Elt Ideal) ((c.tc : Thread Cert.WgradHeadsIdeal.nD Cert.WgradHeadsIdeal.τ).loc Cert.WgradHeadsIdeal.main_v0)),
      θ_run (Cert.WgradHeadsIdeal.defs (F := Ideal)) (onTc (τ := Cert.WgradHeadsIdeal.τ) (Cert.WgradHeadsIdeal.main (F := Ideal))) ⟨m, fun _ => 0, g⟩ (fun r => ∀ c : Dev Cert.WgradHeadsIdeal.nD,
          r.2.mem ((c.tc : Thread Cert.WgradHeadsIdeal.nD Cert.WgradHeadsIdeal.τ).loc Cert.WgradHeadsIdeal.main_v0) = v0 c
          ∧ r.2.mem ((c.tc : Thread Cert.WgradHeadsIdeal.nD Cert.WgradHeadsIdeal.τ).loc Cert.WgradHeadsIdeal.main_arg0) = m ((c.tc : Thread Cert.WgradHeadsIdeal.nD Cert.WgradHeadsIdeal.τ).loc Cert.WgradHeadsIdeal.main_arg0)
          ∧ r.2.mem ((c.tc : Thread Cert.WgradHeadsIdeal.nD Cert.WgradHeadsIdeal.τ).loc Cert.WgradHeadsIdeal.main_arg1) = m ((c.tc : Thread Cert.WgradHeadsIdeal.nD Cert.WgradHeadsIdeal.τ).loc Cert.WgradHeadsIdeal.main_arg1))
      ∧ θ_run (Cert.WgradHeadsRefIdeal.defs (F := Ideal)) (onTc (τ := Cert.WgradHeadsRefIdeal.τ) (Cert.WgradHeadsRefIdeal.main (F := Ideal))) ⟨m', fun _ => 0, g'⟩ (fun r => ∀ c : Dev Cert.WgradHeadsRefIdeal.nD,
          r.2.mem ((c.tc : Thread Cert.WgradHeadsRefIdeal.nD Cert.WgradHeadsRefIdeal.τ).loc Cert.WgradHeadsRefIdeal.main_v0) = v0 c
          ∧ r.2.mem ((c.tc : Thread Cert.WgradHeadsRefIdeal.nD Cert.WgradHeadsRefIdeal.τ).loc Cert.WgradHeadsRefIdeal.main_arg0) = m' ((c.tc : Thread Cert.WgradHeadsRefIdeal.nD Cert.WgradHeadsRefIdeal.τ).loc Cert.WgradHeadsRefIdeal.main_arg0)
          ∧ r.2.mem ((c.tc : Thread Cert.WgradHeadsRefIdeal.nD Cert.WgradHeadsRefIdeal.τ).loc Cert.WgradHeadsRefIdeal.main_arg1) = m' ((c.tc : Thread Cert.WgradHeadsRefIdeal.nD Cert.WgradHeadsRefIdeal.τ).loc Cert.WgradHeadsRefIdeal.main_arg1))

def preserves_WgradOut_WgradOutIdeal : Prop :=
  True

def algebraic_WgradOutIdeal_WgradOutRefIdeal [hWgradOutIdeal : Cert.WgradOutIdeal.Facts] [hWgradOutRefIdeal : Cert.WgradOutRefIdeal.Facts] : Prop :=
  ∀ (m : (ℓ : Loc Cert.WgradOutIdeal.nD Cert.WgradOutIdeal.τ Cert.WgradOutIdeal.sig) → Buf (Elt Ideal) ℓ) (g : Dev Cert.WgradOutIdeal.nD → PrngReg)
    (m' : (ℓ : Loc Cert.WgradOutRefIdeal.nD Cert.WgradOutRefIdeal.τ Cert.WgradOutRefIdeal.sig) → Buf (Elt Ideal) ℓ) (g' : Dev Cert.WgradOutRefIdeal.nD → PrngReg), Pre_WgradOutIdeal m →
    (∀ c : Dev Cert.WgradOutIdeal.nD,
      m' ((c.tc : Thread Cert.WgradOutRefIdeal.nD Cert.WgradOutRefIdeal.τ).loc Cert.WgradOutRefIdeal.main_arg0) = m ((c.tc : Thread Cert.WgradOutIdeal.nD Cert.WgradOutIdeal.τ).loc Cert.WgradOutIdeal.main_arg0)
      ∧ m' ((c.tc : Thread Cert.WgradOutRefIdeal.nD Cert.WgradOutRefIdeal.τ).loc Cert.WgradOutRefIdeal.main_arg1) = m ((c.tc : Thread Cert.WgradOutIdeal.nD Cert.WgradOutIdeal.τ).loc Cert.WgradOutIdeal.main_arg1)) →
    ∃ (v0 : (c : Dev Cert.WgradOutIdeal.nD) → Buf (Elt Ideal) ((c.tc : Thread Cert.WgradOutIdeal.nD Cert.WgradOutIdeal.τ).loc Cert.WgradOutIdeal.main_v0)),
      θ_run (Cert.WgradOutIdeal.defs (F := Ideal)) (onTc (τ := Cert.WgradOutIdeal.τ) (Cert.WgradOutIdeal.main (F := Ideal))) ⟨m, fun _ => 0, g⟩ (fun r => ∀ c : Dev Cert.WgradOutIdeal.nD,
          r.2.mem ((c.tc : Thread Cert.WgradOutIdeal.nD Cert.WgradOutIdeal.τ).loc Cert.WgradOutIdeal.main_v0) = v0 c
          ∧ r.2.mem ((c.tc : Thread Cert.WgradOutIdeal.nD Cert.WgradOutIdeal.τ).loc Cert.WgradOutIdeal.main_arg0) = m ((c.tc : Thread Cert.WgradOutIdeal.nD Cert.WgradOutIdeal.τ).loc Cert.WgradOutIdeal.main_arg0)
          ∧ r.2.mem ((c.tc : Thread Cert.WgradOutIdeal.nD Cert.WgradOutIdeal.τ).loc Cert.WgradOutIdeal.main_arg1) = m ((c.tc : Thread Cert.WgradOutIdeal.nD Cert.WgradOutIdeal.τ).loc Cert.WgradOutIdeal.main_arg1))
      ∧ θ_run (Cert.WgradOutRefIdeal.defs (F := Ideal)) (onTc (τ := Cert.WgradOutRefIdeal.τ) (Cert.WgradOutRefIdeal.main (F := Ideal))) ⟨m', fun _ => 0, g'⟩ (fun r => ∀ c : Dev Cert.WgradOutRefIdeal.nD,
          r.2.mem ((c.tc : Thread Cert.WgradOutRefIdeal.nD Cert.WgradOutRefIdeal.τ).loc Cert.WgradOutRefIdeal.main_v1) = v0 c
          ∧ r.2.mem ((c.tc : Thread Cert.WgradOutRefIdeal.nD Cert.WgradOutRefIdeal.τ).loc Cert.WgradOutRefIdeal.main_arg0) = m' ((c.tc : Thread Cert.WgradOutRefIdeal.nD Cert.WgradOutRefIdeal.τ).loc Cert.WgradOutRefIdeal.main_arg0)
          ∧ r.2.mem ((c.tc : Thread Cert.WgradOutRefIdeal.nD Cert.WgradOutRefIdeal.τ).loc Cert.WgradOutRefIdeal.main_arg1) = m' ((c.tc : Thread Cert.WgradOutRefIdeal.nD Cert.WgradOutRefIdeal.τ).loc Cert.WgradOutRefIdeal.main_arg1))

def preserves_WgradFf1_WgradFf1Ideal : Prop :=
  True

def algebraic_WgradFf1Ideal_WgradFf1RefIdeal [hWgradFf1Ideal : Cert.WgradFf1Ideal.Facts] [hWgradFf1RefIdeal : Cert.WgradFf1RefIdeal.Facts] : Prop :=
  ∀ (m : (ℓ : Loc Cert.WgradFf1Ideal.nD Cert.WgradFf1Ideal.τ Cert.WgradFf1Ideal.sig) → Buf (Elt Ideal) ℓ) (g : Dev Cert.WgradFf1Ideal.nD → PrngReg)
    (m' : (ℓ : Loc Cert.WgradFf1RefIdeal.nD Cert.WgradFf1RefIdeal.τ Cert.WgradFf1RefIdeal.sig) → Buf (Elt Ideal) ℓ) (g' : Dev Cert.WgradFf1RefIdeal.nD → PrngReg), Pre_WgradFf1Ideal m →
    (∀ c : Dev Cert.WgradFf1Ideal.nD,
      m' ((c.tc : Thread Cert.WgradFf1RefIdeal.nD Cert.WgradFf1RefIdeal.τ).loc Cert.WgradFf1RefIdeal.main_arg0) = m ((c.tc : Thread Cert.WgradFf1Ideal.nD Cert.WgradFf1Ideal.τ).loc Cert.WgradFf1Ideal.main_arg0)
      ∧ m' ((c.tc : Thread Cert.WgradFf1RefIdeal.nD Cert.WgradFf1RefIdeal.τ).loc Cert.WgradFf1RefIdeal.main_arg1) = m ((c.tc : Thread Cert.WgradFf1Ideal.nD Cert.WgradFf1Ideal.τ).loc Cert.WgradFf1Ideal.main_arg1)) →
    ∃ (v0 : (c : Dev Cert.WgradFf1Ideal.nD) → Buf (Elt Ideal) ((c.tc : Thread Cert.WgradFf1Ideal.nD Cert.WgradFf1Ideal.τ).loc Cert.WgradFf1Ideal.main_v0)),
      θ_run (Cert.WgradFf1Ideal.defs (F := Ideal)) (onTc (τ := Cert.WgradFf1Ideal.τ) (Cert.WgradFf1Ideal.main (F := Ideal))) ⟨m, fun _ => 0, g⟩ (fun r => ∀ c : Dev Cert.WgradFf1Ideal.nD,
          r.2.mem ((c.tc : Thread Cert.WgradFf1Ideal.nD Cert.WgradFf1Ideal.τ).loc Cert.WgradFf1Ideal.main_v0) = v0 c
          ∧ r.2.mem ((c.tc : Thread Cert.WgradFf1Ideal.nD Cert.WgradFf1Ideal.τ).loc Cert.WgradFf1Ideal.main_arg0) = m ((c.tc : Thread Cert.WgradFf1Ideal.nD Cert.WgradFf1Ideal.τ).loc Cert.WgradFf1Ideal.main_arg0)
          ∧ r.2.mem ((c.tc : Thread Cert.WgradFf1Ideal.nD Cert.WgradFf1Ideal.τ).loc Cert.WgradFf1Ideal.main_arg1) = m ((c.tc : Thread Cert.WgradFf1Ideal.nD Cert.WgradFf1Ideal.τ).loc Cert.WgradFf1Ideal.main_arg1))
      ∧ θ_run (Cert.WgradFf1RefIdeal.defs (F := Ideal)) (onTc (τ := Cert.WgradFf1RefIdeal.τ) (Cert.WgradFf1RefIdeal.main (F := Ideal))) ⟨m', fun _ => 0, g'⟩ (fun r => ∀ c : Dev Cert.WgradFf1RefIdeal.nD,
          r.2.mem ((c.tc : Thread Cert.WgradFf1RefIdeal.nD Cert.WgradFf1RefIdeal.τ).loc Cert.WgradFf1RefIdeal.main_v2) = v0 c
          ∧ r.2.mem ((c.tc : Thread Cert.WgradFf1RefIdeal.nD Cert.WgradFf1RefIdeal.τ).loc Cert.WgradFf1RefIdeal.main_arg0) = m' ((c.tc : Thread Cert.WgradFf1RefIdeal.nD Cert.WgradFf1RefIdeal.τ).loc Cert.WgradFf1RefIdeal.main_arg0)
          ∧ r.2.mem ((c.tc : Thread Cert.WgradFf1RefIdeal.nD Cert.WgradFf1RefIdeal.τ).loc Cert.WgradFf1RefIdeal.main_arg1) = m' ((c.tc : Thread Cert.WgradFf1RefIdeal.nD Cert.WgradFf1RefIdeal.τ).loc Cert.WgradFf1RefIdeal.main_arg1))

def preserves_WgradFf2_WgradFf2Ideal : Prop :=
  True

def algebraic_WgradFf2Ideal_WgradFf2RefIdeal [hWgradFf2Ideal : Cert.WgradFf2Ideal.Facts] [hWgradFf2RefIdeal : Cert.WgradFf2RefIdeal.Facts] : Prop :=
  ∀ (m : (ℓ : Loc Cert.WgradFf2Ideal.nD Cert.WgradFf2Ideal.τ Cert.WgradFf2Ideal.sig) → Buf (Elt Ideal) ℓ) (g : Dev Cert.WgradFf2Ideal.nD → PrngReg)
    (m' : (ℓ : Loc Cert.WgradFf2RefIdeal.nD Cert.WgradFf2RefIdeal.τ Cert.WgradFf2RefIdeal.sig) → Buf (Elt Ideal) ℓ) (g' : Dev Cert.WgradFf2RefIdeal.nD → PrngReg), Pre_WgradFf2Ideal m →
    (∀ c : Dev Cert.WgradFf2Ideal.nD,
      m' ((c.tc : Thread Cert.WgradFf2RefIdeal.nD Cert.WgradFf2RefIdeal.τ).loc Cert.WgradFf2RefIdeal.main_arg0) = m ((c.tc : Thread Cert.WgradFf2Ideal.nD Cert.WgradFf2Ideal.τ).loc Cert.WgradFf2Ideal.main_arg0)
      ∧ m' ((c.tc : Thread Cert.WgradFf2RefIdeal.nD Cert.WgradFf2RefIdeal.τ).loc Cert.WgradFf2RefIdeal.main_arg1) = m ((c.tc : Thread Cert.WgradFf2Ideal.nD Cert.WgradFf2Ideal.τ).loc Cert.WgradFf2Ideal.main_arg1)) →
    ∃ (v0 : (c : Dev Cert.WgradFf2Ideal.nD) → Buf (Elt Ideal) ((c.tc : Thread Cert.WgradFf2Ideal.nD Cert.WgradFf2Ideal.τ).loc Cert.WgradFf2Ideal.main_v0)),
      θ_run (Cert.WgradFf2Ideal.defs (F := Ideal)) (onTc (τ := Cert.WgradFf2Ideal.τ) (Cert.WgradFf2Ideal.main (F := Ideal))) ⟨m, fun _ => 0, g⟩ (fun r => ∀ c : Dev Cert.WgradFf2Ideal.nD,
          r.2.mem ((c.tc : Thread Cert.WgradFf2Ideal.nD Cert.WgradFf2Ideal.τ).loc Cert.WgradFf2Ideal.main_v0) = v0 c
          ∧ r.2.mem ((c.tc : Thread Cert.WgradFf2Ideal.nD Cert.WgradFf2Ideal.τ).loc Cert.WgradFf2Ideal.main_arg0) = m ((c.tc : Thread Cert.WgradFf2Ideal.nD Cert.WgradFf2Ideal.τ).loc Cert.WgradFf2Ideal.main_arg0)
          ∧ r.2.mem ((c.tc : Thread Cert.WgradFf2Ideal.nD Cert.WgradFf2Ideal.τ).loc Cert.WgradFf2Ideal.main_arg1) = m ((c.tc : Thread Cert.WgradFf2Ideal.nD Cert.WgradFf2Ideal.τ).loc Cert.WgradFf2Ideal.main_arg1))
      ∧ θ_run (Cert.WgradFf2RefIdeal.defs (F := Ideal)) (onTc (τ := Cert.WgradFf2RefIdeal.τ) (Cert.WgradFf2RefIdeal.main (F := Ideal))) ⟨m', fun _ => 0, g'⟩ (fun r => ∀ c : Dev Cert.WgradFf2RefIdeal.nD,
          r.2.mem ((c.tc : Thread Cert.WgradFf2RefIdeal.nD Cert.WgradFf2RefIdeal.τ).loc Cert.WgradFf2RefIdeal.main_v0) = v0 c
          ∧ r.2.mem ((c.tc : Thread Cert.WgradFf2RefIdeal.nD Cert.WgradFf2RefIdeal.τ).loc Cert.WgradFf2RefIdeal.main_arg0) = m' ((c.tc : Thread Cert.WgradFf2RefIdeal.nD Cert.WgradFf2RefIdeal.τ).loc Cert.WgradFf2RefIdeal.main_arg0)
          ∧ r.2.mem ((c.tc : Thread Cert.WgradFf2RefIdeal.nD Cert.WgradFf2RefIdeal.τ).loc Cert.WgradFf2RefIdeal.main_arg1) = m' ((c.tc : Thread Cert.WgradFf2RefIdeal.nD Cert.WgradFf2RefIdeal.τ).loc Cert.WgradFf2RefIdeal.main_arg1))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v0_0)) (v1 : (c : Dev Cert.InprojIdeal.nD) → Buf (Elt Ideal) ((c.tc : Thread Cert.InprojIdeal.nD Cert.InprojIdeal.τ).loc Cert.InprojIdeal.main_v0_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v0_0) = v0 c
          ∧ r.2.mem ((c.tc : Thread Cert.InprojIdeal.nD Cert.InprojIdeal.τ).loc Cert.InprojIdeal.main_v0_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v13) = v0 c
          ∧ r.2.mem ((c.tc : Thread Cert.InprojRefIdeal.nD Cert.InprojRefIdeal.τ).loc Cert.InprojRefIdeal.main_v12) = v1 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2))

def preserves_DxFinal_DxFinalIdeal : Prop :=
  True

def algebraic_DxFinalIdeal_DxFinalRefIdeal [hDxFinalIdeal : Cert.DxFinalIdeal.Facts] [hDxFinalRefIdeal : Cert.DxFinalRefIdeal.Facts] : Prop :=
  ∀ (m : (ℓ : Loc Cert.DxFinalIdeal.nD Cert.DxFinalIdeal.τ Cert.DxFinalIdeal.sig) → Buf (Elt Ideal) ℓ) (g : Dev Cert.DxFinalIdeal.nD → PrngReg)
    (m' : (ℓ : Loc Cert.DxFinalRefIdeal.nD Cert.DxFinalRefIdeal.τ Cert.DxFinalRefIdeal.sig) → Buf (Elt Ideal) ℓ) (g' : Dev Cert.DxFinalRefIdeal.nD → PrngReg), Pre_DxFinalIdeal m →
    (∀ c : Dev Cert.DxFinalIdeal.nD,
      m' ((c.tc : Thread Cert.DxFinalRefIdeal.nD Cert.DxFinalRefIdeal.τ).loc Cert.DxFinalRefIdeal.main_arg0) = m ((c.tc : Thread Cert.DxFinalIdeal.nD Cert.DxFinalIdeal.τ).loc Cert.DxFinalIdeal.main_arg0)
      ∧ m' ((c.tc : Thread Cert.DxFinalRefIdeal.nD Cert.DxFinalRefIdeal.τ).loc Cert.DxFinalRefIdeal.main_arg1) = m ((c.tc : Thread Cert.DxFinalIdeal.nD Cert.DxFinalIdeal.τ).loc Cert.DxFinalIdeal.main_arg1)
      ∧ m' ((c.tc : Thread Cert.DxFinalRefIdeal.nD Cert.DxFinalRefIdeal.τ).loc Cert.DxFinalRefIdeal.main_arg2) = m ((c.tc : Thread Cert.DxFinalIdeal.nD Cert.DxFinalIdeal.τ).loc Cert.DxFinalIdeal.main_arg2)
      ∧ m' ((c.tc : Thread Cert.DxFinalRefIdeal.nD Cert.DxFinalRefIdeal.τ).loc Cert.DxFinalRefIdeal.main_arg3) = m ((c.tc : Thread Cert.DxFinalIdeal.nD Cert.DxFinalIdeal.τ).loc Cert.DxFinalIdeal.main_arg3)
      ∧ m' ((c.tc : Thread Cert.DxFinalRefIdeal.nD Cert.DxFinalRefIdeal.τ).loc Cert.DxFinalRefIdeal.main_arg4) = m ((c.tc : Thread Cert.DxFinalIdeal.nD Cert.DxFinalIdeal.τ).loc Cert.DxFinalIdeal.main_arg4)
      ∧ m' ((c.tc : Thread Cert.DxFinalRefIdeal.nD Cert.DxFinalRefIdeal.τ).loc Cert.DxFinalRefIdeal.main_arg5) = m ((c.tc : Thread Cert.DxFinalIdeal.nD Cert.DxFinalIdeal.τ).loc Cert.DxFinalIdeal.main_arg5)
      ∧ m' ((c.tc : Thread Cert.DxFinalRefIdeal.nD Cert.DxFinalRefIdeal.τ).loc Cert.DxFinalRefIdeal.main_arg6) = m ((c.tc : Thread Cert.DxFinalIdeal.nD Cert.DxFinalIdeal.τ).loc Cert.DxFinalIdeal.main_arg6)
      ∧ m' ((c.tc : Thread Cert.DxFinalRefIdeal.nD Cert.DxFinalRefIdeal.τ).loc Cert.DxFinalRefIdeal.main_arg7) = m ((c.tc : Thread Cert.DxFinalIdeal.nD Cert.DxFinalIdeal.τ).loc Cert.DxFinalIdeal.main_arg7)) →
    ∃ (v0 : (c : Dev Cert.DxFinalIdeal.nD) → Buf (Elt Ideal) ((c.tc : Thread Cert.DxFinalIdeal.nD Cert.DxFinalIdeal.τ).loc Cert.DxFinalIdeal.main_v0_0)) (v1 : (c : Dev Cert.DxFinalIdeal.nD) → Buf (Elt Ideal) ((c.tc : Thread Cert.DxFinalIdeal.nD Cert.DxFinalIdeal.τ).loc Cert.DxFinalIdeal.main_v0_1)),
      θ_run (Cert.DxFinalIdeal.defs (F := Ideal)) (onTc (τ := Cert.DxFinalIdeal.τ) (Cert.DxFinalIdeal.main (F := Ideal))) ⟨m, fun _ => 0, g⟩ (fun r => ∀ c : Dev Cert.DxFinalIdeal.nD,
          r.2.mem ((c.tc : Thread Cert.DxFinalIdeal.nD Cert.DxFinalIdeal.τ).loc Cert.DxFinalIdeal.main_v0_0) = v0 c
          ∧ r.2.mem ((c.tc : Thread Cert.DxFinalIdeal.nD Cert.DxFinalIdeal.τ).loc Cert.DxFinalIdeal.main_v0_1) = v1 c
          ∧ r.2.mem ((c.tc : Thread Cert.DxFinalIdeal.nD Cert.DxFinalIdeal.τ).loc Cert.DxFinalIdeal.main_arg0) = m ((c.tc : Thread Cert.DxFinalIdeal.nD Cert.DxFinalIdeal.τ).loc Cert.DxFinalIdeal.main_arg0)
          ∧ r.2.mem ((c.tc : Thread Cert.DxFinalIdeal.nD Cert.DxFinalIdeal.τ).loc Cert.DxFinalIdeal.main_arg1) = m ((c.tc : Thread Cert.DxFinalIdeal.nD Cert.DxFinalIdeal.τ).loc Cert.DxFinalIdeal.main_arg1)
          ∧ r.2.mem ((c.tc : Thread Cert.DxFinalIdeal.nD Cert.DxFinalIdeal.τ).loc Cert.DxFinalIdeal.main_arg2) = m ((c.tc : Thread Cert.DxFinalIdeal.nD Cert.DxFinalIdeal.τ).loc Cert.DxFinalIdeal.main_arg2)
          ∧ r.2.mem ((c.tc : Thread Cert.DxFinalIdeal.nD Cert.DxFinalIdeal.τ).loc Cert.DxFinalIdeal.main_arg3) = m ((c.tc : Thread Cert.DxFinalIdeal.nD Cert.DxFinalIdeal.τ).loc Cert.DxFinalIdeal.main_arg3)
          ∧ r.2.mem ((c.tc : Thread Cert.DxFinalIdeal.nD Cert.DxFinalIdeal.τ).loc Cert.DxFinalIdeal.main_arg4) = m ((c.tc : Thread Cert.DxFinalIdeal.nD Cert.DxFinalIdeal.τ).loc Cert.DxFinalIdeal.main_arg4)
          ∧ r.2.mem ((c.tc : Thread Cert.DxFinalIdeal.nD Cert.DxFinalIdeal.τ).loc Cert.DxFinalIdeal.main_arg5) = m ((c.tc : Thread Cert.DxFinalIdeal.nD Cert.DxFinalIdeal.τ).loc Cert.DxFinalIdeal.main_arg5)
          ∧ r.2.mem ((c.tc : Thread Cert.DxFinalIdeal.nD Cert.DxFinalIdeal.τ).loc Cert.DxFinalIdeal.main_arg6) = m ((c.tc : Thread Cert.DxFinalIdeal.nD Cert.DxFinalIdeal.τ).loc Cert.DxFinalIdeal.main_arg6)
          ∧ r.2.mem ((c.tc : Thread Cert.DxFinalIdeal.nD Cert.DxFinalIdeal.τ).loc Cert.DxFinalIdeal.main_arg7) = m ((c.tc : Thread Cert.DxFinalIdeal.nD Cert.DxFinalIdeal.τ).loc Cert.DxFinalIdeal.main_arg7))
      ∧ θ_run (Cert.DxFinalRefIdeal.defs (F := Ideal)) (onTc (τ := Cert.DxFinalRefIdeal.τ) (Cert.DxFinalRefIdeal.main (F := Ideal))) ⟨m', fun _ => 0, g'⟩ (fun r => ∀ c : Dev Cert.DxFinalRefIdeal.nD,
          r.2.mem ((c.tc : Thread Cert.DxFinalRefIdeal.nD Cert.DxFinalRefIdeal.τ).loc Cert.DxFinalRefIdeal.main_v24) = v0 c
          ∧ r.2.mem ((c.tc : Thread Cert.DxFinalRefIdeal.nD Cert.DxFinalRefIdeal.τ).loc Cert.DxFinalRefIdeal.main_v27) = v1 c
          ∧ r.2.mem ((c.tc : Thread Cert.DxFinalRefIdeal.nD Cert.DxFinalRefIdeal.τ).loc Cert.DxFinalRefIdeal.main_arg0) = m' ((c.tc : Thread Cert.DxFinalRefIdeal.nD Cert.DxFinalRefIdeal.τ).loc Cert.DxFinalRefIdeal.main_arg0)
          ∧ r.2.mem ((c.tc : Thread Cert.DxFinalRefIdeal.nD Cert.DxFinalRefIdeal.τ).loc Cert.DxFinalRefIdeal.main_arg1) = m' ((c.tc : Thread Cert.DxFinalRefIdeal.nD Cert.DxFinalRefIdeal.τ).loc Cert.DxFinalRefIdeal.main_arg1)
          ∧ r.2.mem ((c.tc : Thread Cert.DxFinalRefIdeal.nD Cert.DxFinalRefIdeal.τ).loc Cert.DxFinalRefIdeal.main_arg2) = m' ((c.tc : Thread Cert.DxFinalRefIdeal.nD Cert.DxFinalRefIdeal.τ).loc Cert.DxFinalRefIdeal.main_arg2)
          ∧ r.2.mem ((c.tc : Thread Cert.DxFinalRefIdeal.nD Cert.DxFinalRefIdeal.τ).loc Cert.DxFinalRefIdeal.main_arg3) = m' ((c.tc : Thread Cert.DxFinalRefIdeal.nD Cert.DxFinalRefIdeal.τ).loc Cert.DxFinalRefIdeal.main_arg3)
          ∧ r.2.mem ((c.tc : Thread Cert.DxFinalRefIdeal.nD Cert.DxFinalRefIdeal.τ).loc Cert.DxFinalRefIdeal.main_arg4) = m' ((c.tc : Thread Cert.DxFinalRefIdeal.nD Cert.DxFinalRefIdeal.τ).loc Cert.DxFinalRefIdeal.main_arg4)
          ∧ r.2.mem ((c.tc : Thread Cert.DxFinalRefIdeal.nD Cert.DxFinalRefIdeal.τ).loc Cert.DxFinalRefIdeal.main_arg5) = m' ((c.tc : Thread Cert.DxFinalRefIdeal.nD Cert.DxFinalRefIdeal.τ).loc Cert.DxFinalRefIdeal.main_arg5)
          ∧ r.2.mem ((c.tc : Thread Cert.DxFinalRefIdeal.nD Cert.DxFinalRefIdeal.τ).loc Cert.DxFinalRefIdeal.main_arg6) = m' ((c.tc : Thread Cert.DxFinalRefIdeal.nD Cert.DxFinalRefIdeal.τ).loc Cert.DxFinalRefIdeal.main_arg6)
          ∧ r.2.mem ((c.tc : Thread Cert.DxFinalRefIdeal.nD Cert.DxFinalRefIdeal.τ).loc Cert.DxFinalRefIdeal.main_arg7) = m' ((c.tc : Thread Cert.DxFinalRefIdeal.nD Cert.DxFinalRefIdeal.τ).loc Cert.DxFinalRefIdeal.main_arg7))

def preserves_PostFused_PostFusedIdeal : Prop :=
  True

def algebraic_PostFusedIdeal_PostFusedRefIdeal [hPostFusedIdeal : Cert.PostFusedIdeal.Facts] [hPostFusedRefIdeal : Cert.PostFusedRefIdeal.Facts] : Prop :=
  ∀ (m : (ℓ : Loc Cert.PostFusedIdeal.nD Cert.PostFusedIdeal.τ Cert.PostFusedIdeal.sig) → Buf (Elt Ideal) ℓ) (g : Dev Cert.PostFusedIdeal.nD → PrngReg)
    (m' : (ℓ : Loc Cert.PostFusedRefIdeal.nD Cert.PostFusedRefIdeal.τ Cert.PostFusedRefIdeal.sig) → Buf (Elt Ideal) ℓ) (g' : Dev Cert.PostFusedRefIdeal.nD → PrngReg), Pre_PostFusedIdeal m →
    (∀ c : Dev Cert.PostFusedIdeal.nD,
      m' ((c.tc : Thread Cert.PostFusedRefIdeal.nD Cert.PostFusedRefIdeal.τ).loc Cert.PostFusedRefIdeal.main_arg0) = m ((c.tc : Thread Cert.PostFusedIdeal.nD Cert.PostFusedIdeal.τ).loc Cert.PostFusedIdeal.main_arg0)
      ∧ m' ((c.tc : Thread Cert.PostFusedRefIdeal.nD Cert.PostFusedRefIdeal.τ).loc Cert.PostFusedRefIdeal.main_arg1) = m ((c.tc : Thread Cert.PostFusedIdeal.nD Cert.PostFusedIdeal.τ).loc Cert.PostFusedIdeal.main_arg1)
      ∧ m' ((c.tc : Thread Cert.PostFusedRefIdeal.nD Cert.PostFusedRefIdeal.τ).loc Cert.PostFusedRefIdeal.main_arg2) = m ((c.tc : Thread Cert.PostFusedIdeal.nD Cert.PostFusedIdeal.τ).loc Cert.PostFusedIdeal.main_arg2)
      ∧ m' ((c.tc : Thread Cert.PostFusedRefIdeal.nD Cert.PostFusedRefIdeal.τ).loc Cert.PostFusedRefIdeal.main_arg3) = m ((c.tc : Thread Cert.PostFusedIdeal.nD Cert.PostFusedIdeal.τ).loc Cert.PostFusedIdeal.main_arg3)
      ∧ m' ((c.tc : Thread Cert.PostFusedRefIdeal.nD Cert.PostFusedRefIdeal.τ).loc Cert.PostFusedRefIdeal.main_arg4) = m ((c.tc : Thread Cert.PostFusedIdeal.nD Cert.PostFusedIdeal.τ).loc Cert.PostFusedIdeal.main_arg4)
      ∧ m' ((c.tc : Thread Cert.PostFusedRefIdeal.nD Cert.PostFusedRefIdeal.τ).loc Cert.PostFusedRefIdeal.main_arg5) = m ((c.tc : Thread Cert.PostFusedIdeal.nD Cert.PostFusedIdeal.τ).loc Cert.PostFusedIdeal.main_arg5)
      ∧ m' ((c.tc : Thread Cert.PostFusedRefIdeal.nD Cert.PostFusedRefIdeal.τ).loc Cert.PostFusedRefIdeal.main_arg6) = m ((c.tc : Thread Cert.PostFusedIdeal.nD Cert.PostFusedIdeal.τ).loc Cert.PostFusedIdeal.main_arg6)
      ∧ m' ((c.tc : Thread Cert.PostFusedRefIdeal.nD Cert.PostFusedRefIdeal.τ).loc Cert.PostFusedRefIdeal.main_arg7) = m ((c.tc : Thread Cert.PostFusedIdeal.nD Cert.PostFusedIdeal.τ).loc Cert.PostFusedIdeal.main_arg7)
      ∧ m' ((c.tc : Thread Cert.PostFusedRefIdeal.nD Cert.PostFusedRefIdeal.τ).loc Cert.PostFusedRefIdeal.main_arg8) = m ((c.tc : Thread Cert.PostFusedIdeal.nD Cert.PostFusedIdeal.τ).loc Cert.PostFusedIdeal.main_arg8)) →
    ∃ (v0 : (c : Dev Cert.PostFusedIdeal.nD) → Buf (Elt Ideal) ((c.tc : Thread Cert.PostFusedIdeal.nD Cert.PostFusedIdeal.τ).loc Cert.PostFusedIdeal.main_v0_0)) (v1 : (c : Dev Cert.PostFusedIdeal.nD) → Buf (Elt Ideal) ((c.tc : Thread Cert.PostFusedIdeal.nD Cert.PostFusedIdeal.τ).loc Cert.PostFusedIdeal.main_v0_1)) (v2 : (c : Dev Cert.PostFusedIdeal.nD) → Buf (Elt Ideal) ((c.tc : Thread Cert.PostFusedIdeal.nD Cert.PostFusedIdeal.τ).loc Cert.PostFusedIdeal.main_v0_2)) (v3 : (c : Dev Cert.PostFusedIdeal.nD) → Buf (Elt Ideal) ((c.tc : Thread Cert.PostFusedIdeal.nD Cert.PostFusedIdeal.τ).loc Cert.PostFusedIdeal.main_v0_3)) (v4 : (c : Dev Cert.PostFusedIdeal.nD) → Buf (Elt Ideal) ((c.tc : Thread Cert.PostFusedIdeal.nD Cert.PostFusedIdeal.τ).loc Cert.PostFusedIdeal.main_v0_4)) (v5 : (c : Dev Cert.PostFusedIdeal.nD) → Buf (Elt Ideal) ((c.tc : Thread Cert.PostFusedIdeal.nD Cert.PostFusedIdeal.τ).loc Cert.PostFusedIdeal.main_v0_5)) (v6 : (c : Dev Cert.PostFusedIdeal.nD) → Buf (Elt Ideal) ((c.tc : Thread Cert.PostFusedIdeal.nD Cert.PostFusedIdeal.τ).loc Cert.PostFusedIdeal.main_v0_6)) (v7 : (c : Dev Cert.PostFusedIdeal.nD) → Buf (Elt Ideal) ((c.tc : Thread Cert.PostFusedIdeal.nD Cert.PostFusedIdeal.τ).loc Cert.PostFusedIdeal.main_v0_7)) (v8 : (c : Dev Cert.PostFusedIdeal.nD) → Buf (Elt Ideal) ((c.tc : Thread Cert.PostFusedIdeal.nD Cert.PostFusedIdeal.τ).loc Cert.PostFusedIdeal.main_v0_8)) (v9 : (c : Dev Cert.PostFusedIdeal.nD) → Buf (Elt Ideal) ((c.tc : Thread Cert.PostFusedIdeal.nD Cert.PostFusedIdeal.τ).loc Cert.PostFusedIdeal.main_v0_9)),
      θ_run (Cert.PostFusedIdeal.defs (F := Ideal)) (onTc (τ := Cert.PostFusedIdeal.τ) (Cert.PostFusedIdeal.main (F := Ideal))) ⟨m, fun _ => 0, g⟩ (fun r => ∀ c : Dev Cert.PostFusedIdeal.nD,
          r.2.mem ((c.tc : Thread Cert.PostFusedIdeal.nD Cert.PostFusedIdeal.τ).loc Cert.PostFusedIdeal.main_v0_0) = v0 c
          ∧ r.2.mem ((c.tc : Thread Cert.PostFusedIdeal.nD Cert.PostFusedIdeal.τ).loc Cert.PostFusedIdeal.main_v0_1) = v1 c
          ∧ r.2.mem ((c.tc : Thread Cert.PostFusedIdeal.nD Cert.PostFusedIdeal.τ).loc Cert.PostFusedIdeal.main_v0_2) = v2 c
          ∧ r.2.mem ((c.tc : Thread Cert.PostFusedIdeal.nD Cert.PostFusedIdeal.τ).loc Cert.PostFusedIdeal.main_v0_3) = v3 c
          ∧ r.2.mem ((c.tc : Thread Cert.PostFusedIdeal.nD Cert.PostFusedIdeal.τ).loc Cert.PostFusedIdeal.main_v0_4) = v4 c
          ∧ r.2.mem ((c.tc : Thread Cert.PostFusedIdeal.nD Cert.PostFusedIdeal.τ).loc Cert.PostFusedIdeal.main_v0_5) = v5 c
          ∧ r.2.mem ((c.tc : Thread Cert.PostFusedIdeal.nD Cert.PostFusedIdeal.τ).loc Cert.PostFusedIdeal.main_v0_6) = v6 c
          ∧ r.2.mem ((c.tc : Thread Cert.PostFusedIdeal.nD Cert.PostFusedIdeal.τ).loc Cert.PostFusedIdeal.main_v0_7) = v7 c
          ∧ r.2.mem ((c.tc : Thread Cert.PostFusedIdeal.nD Cert.PostFusedIdeal.τ).loc Cert.PostFusedIdeal.main_v0_8) = v8 c
          ∧ r.2.mem ((c.tc : Thread Cert.PostFusedIdeal.nD Cert.PostFusedIdeal.τ).loc Cert.PostFusedIdeal.main_v0_9) = v9 c
          ∧ r.2.mem ((c.tc : Thread Cert.PostFusedIdeal.nD Cert.PostFusedIdeal.τ).loc Cert.PostFusedIdeal.main_arg0) = m ((c.tc : Thread Cert.PostFusedIdeal.nD Cert.PostFusedIdeal.τ).loc Cert.PostFusedIdeal.main_arg0)
          ∧ r.2.mem ((c.tc : Thread Cert.PostFusedIdeal.nD Cert.PostFusedIdeal.τ).loc Cert.PostFusedIdeal.main_arg1) = m ((c.tc : Thread Cert.PostFusedIdeal.nD Cert.PostFusedIdeal.τ).loc Cert.PostFusedIdeal.main_arg1)
          ∧ r.2.mem ((c.tc : Thread Cert.PostFusedIdeal.nD Cert.PostFusedIdeal.τ).loc Cert.PostFusedIdeal.main_arg2) = m ((c.tc : Thread Cert.PostFusedIdeal.nD Cert.PostFusedIdeal.τ).loc Cert.PostFusedIdeal.main_arg2)
          ∧ r.2.mem ((c.tc : Thread Cert.PostFusedIdeal.nD Cert.PostFusedIdeal.τ).loc Cert.PostFusedIdeal.main_arg3) = m ((c.tc : Thread Cert.PostFusedIdeal.nD Cert.PostFusedIdeal.τ).loc Cert.PostFusedIdeal.main_arg3)
          ∧ r.2.mem ((c.tc : Thread Cert.PostFusedIdeal.nD Cert.PostFusedIdeal.τ).loc Cert.PostFusedIdeal.main_arg4) = m ((c.tc : Thread Cert.PostFusedIdeal.nD Cert.PostFusedIdeal.τ).loc Cert.PostFusedIdeal.main_arg4)
          ∧ r.2.mem ((c.tc : Thread Cert.PostFusedIdeal.nD Cert.PostFusedIdeal.τ).loc Cert.PostFusedIdeal.main_arg5) = m ((c.tc : Thread Cert.PostFusedIdeal.nD Cert.PostFusedIdeal.τ).loc Cert.PostFusedIdeal.main_arg5)
          ∧ r.2.mem ((c.tc : Thread Cert.PostFusedIdeal.nD Cert.PostFusedIdeal.τ).loc Cert.PostFusedIdeal.main_arg6) = m ((c.tc : Thread Cert.PostFusedIdeal.nD Cert.PostFusedIdeal.τ).loc Cert.PostFusedIdeal.main_arg6)
          ∧ r.2.mem ((c.tc : Thread Cert.PostFusedIdeal.nD Cert.PostFusedIdeal.τ).loc Cert.PostFusedIdeal.main_arg7) = m ((c.tc : Thread Cert.PostFusedIdeal.nD Cert.PostFusedIdeal.τ).loc Cert.PostFusedIdeal.main_arg7)
          ∧ r.2.mem ((c.tc : Thread Cert.PostFusedIdeal.nD Cert.PostFusedIdeal.τ).loc Cert.PostFusedIdeal.main_arg8) = m ((c.tc : Thread Cert.PostFusedIdeal.nD Cert.PostFusedIdeal.τ).loc Cert.PostFusedIdeal.main_arg8))
      ∧ θ_run (Cert.PostFusedRefIdeal.defs (F := Ideal)) (onTc (τ := Cert.PostFusedRefIdeal.τ) (Cert.PostFusedRefIdeal.main (F := Ideal))) ⟨m', fun _ => 0, g'⟩ (fun r => ∀ c : Dev Cert.PostFusedRefIdeal.nD,
          r.2.mem ((c.tc : Thread Cert.PostFusedRefIdeal.nD Cert.PostFusedRefIdeal.τ).loc Cert.PostFusedRefIdeal.main_v3) = v0 c
          ∧ r.2.mem ((c.tc : Thread Cert.PostFusedRefIdeal.nD Cert.PostFusedRefIdeal.τ).loc Cert.PostFusedRefIdeal.main_v18) = v1 c
          ∧ r.2.mem ((c.tc : Thread Cert.PostFusedRefIdeal.nD Cert.PostFusedRefIdeal.τ).loc Cert.PostFusedRefIdeal.main_v22) = v2 c
          ∧ r.2.mem ((c.tc : Thread Cert.PostFusedRefIdeal.nD Cert.PostFusedRefIdeal.τ).loc Cert.PostFusedRefIdeal.main_v68) = v3 c
          ∧ r.2.mem ((c.tc : Thread Cert.PostFusedRefIdeal.nD Cert.PostFusedRefIdeal.τ).loc Cert.PostFusedRefIdeal.main_v63) = v4 c
          ∧ r.2.mem ((c.tc : Thread Cert.PostFusedRefIdeal.nD Cert.PostFusedRefIdeal.τ).loc Cert.PostFusedRefIdeal.main_v85) = v5 c
          ∧ r.2.mem ((c.tc : Thread Cert.PostFusedRefIdeal.nD Cert.PostFusedRefIdeal.τ).loc Cert.PostFusedRefIdeal.main_v87) = v6 c
          ∧ r.2.mem ((c.tc : Thread Cert.PostFusedRefIdeal.nD Cert.PostFusedRefIdeal.τ).loc Cert.PostFusedRefIdeal.main_v45) = v7 c
          ∧ r.2.mem ((c.tc : Thread Cert.PostFusedRefIdeal.nD Cert.PostFusedRefIdeal.τ).loc Cert.PostFusedRefIdeal.main_v50) = v8 c
          ∧ r.2.mem ((c.tc : Thread Cert.PostFusedRefIdeal.nD Cert.PostFusedRefIdeal.τ).loc Cert.PostFusedRefIdeal.main_v72) = v9 c
          ∧ r.2.mem ((c.tc : Thread Cert.PostFusedRefIdeal.nD Cert.PostFusedRefIdeal.τ).loc Cert.PostFusedRefIdeal.main_arg0) = m' ((c.tc : Thread Cert.PostFusedRefIdeal.nD Cert.PostFusedRefIdeal.τ).loc Cert.PostFusedRefIdeal.main_arg0)
          ∧ r.2.mem ((c.tc : Thread Cert.PostFusedRefIdeal.nD Cert.PostFusedRefIdeal.τ).loc Cert.PostFusedRefIdeal.main_arg1) = m' ((c.tc : Thread Cert.PostFusedRefIdeal.nD Cert.PostFusedRefIdeal.τ).loc Cert.PostFusedRefIdeal.main_arg1)
          ∧ r.2.mem ((c.tc : Thread Cert.PostFusedRefIdeal.nD Cert.PostFusedRefIdeal.τ).loc Cert.PostFusedRefIdeal.main_arg2) = m' ((c.tc : Thread Cert.PostFusedRefIdeal.nD Cert.PostFusedRefIdeal.τ).loc Cert.PostFusedRefIdeal.main_arg2)
          ∧ r.2.mem ((c.tc : Thread Cert.PostFusedRefIdeal.nD Cert.PostFusedRefIdeal.τ).loc Cert.PostFusedRefIdeal.main_arg3) = m' ((c.tc : Thread Cert.PostFusedRefIdeal.nD Cert.PostFusedRefIdeal.τ).loc Cert.PostFusedRefIdeal.main_arg3)
          ∧ r.2.mem ((c.tc : Thread Cert.PostFusedRefIdeal.nD Cert.PostFusedRefIdeal.τ).loc Cert.PostFusedRefIdeal.main_arg4) = m' ((c.tc : Thread Cert.PostFusedRefIdeal.nD Cert.PostFusedRefIdeal.τ).loc Cert.PostFusedRefIdeal.main_arg4)
          ∧ r.2.mem ((c.tc : Thread Cert.PostFusedRefIdeal.nD Cert.PostFusedRefIdeal.τ).loc Cert.PostFusedRefIdeal.main_arg5) = m' ((c.tc : Thread Cert.PostFusedRefIdeal.nD Cert.PostFusedRefIdeal.τ).loc Cert.PostFusedRefIdeal.main_arg5)
          ∧ r.2.mem ((c.tc : Thread Cert.PostFusedRefIdeal.nD Cert.PostFusedRefIdeal.τ).loc Cert.PostFusedRefIdeal.main_arg6) = m' ((c.tc : Thread Cert.PostFusedRefIdeal.nD Cert.PostFusedRefIdeal.τ).loc Cert.PostFusedRefIdeal.main_arg6)
          ∧ r.2.mem ((c.tc : Thread Cert.PostFusedRefIdeal.nD Cert.PostFusedRefIdeal.τ).loc Cert.PostFusedRefIdeal.main_arg7) = m' ((c.tc : Thread Cert.PostFusedRefIdeal.nD Cert.PostFusedRefIdeal.τ).loc Cert.PostFusedRefIdeal.main_arg7)
          ∧ r.2.mem ((c.tc : Thread Cert.PostFusedRefIdeal.nD Cert.PostFusedRefIdeal.τ).loc Cert.PostFusedRefIdeal.main_arg8) = m' ((c.tc : Thread Cert.PostFusedRefIdeal.nD Cert.PostFusedRefIdeal.τ).loc Cert.PostFusedRefIdeal.main_arg8))

def preserves_BiasTables_BiasTablesIdeal : Prop :=
  True

def algebraic_BiasTablesIdeal_BiasTablesRefIdeal [hBiasTablesIdeal : Cert.BiasTablesIdeal.Facts] [hBiasTablesRefIdeal : Cert.BiasTablesRefIdeal.Facts] : Prop :=
  ∀ (m : (ℓ : Loc Cert.BiasTablesIdeal.nD Cert.BiasTablesIdeal.τ Cert.BiasTablesIdeal.sig) → Buf (Elt Ideal) ℓ) (g : Dev Cert.BiasTablesIdeal.nD → PrngReg)
    (m' : (ℓ : Loc Cert.BiasTablesRefIdeal.nD Cert.BiasTablesRefIdeal.τ Cert.BiasTablesRefIdeal.sig) → Buf (Elt Ideal) ℓ) (g' : Dev Cert.BiasTablesRefIdeal.nD → PrngReg), Pre_BiasTablesIdeal m →
    (∀ c : Dev Cert.BiasTablesIdeal.nD,
      m' ((c.tc : Thread Cert.BiasTablesRefIdeal.nD Cert.BiasTablesRefIdeal.τ).loc Cert.BiasTablesRefIdeal.main_arg0) = m ((c.tc : Thread Cert.BiasTablesIdeal.nD Cert.BiasTablesIdeal.τ).loc Cert.BiasTablesIdeal.main_arg0)
      ∧ m' ((c.tc : Thread Cert.BiasTablesRefIdeal.nD Cert.BiasTablesRefIdeal.τ).loc Cert.BiasTablesRefIdeal.main_arg1) = m ((c.tc : Thread Cert.BiasTablesIdeal.nD Cert.BiasTablesIdeal.τ).loc Cert.BiasTablesIdeal.main_arg1)) →
    ∃ (v0 : (c : Dev Cert.BiasTablesIdeal.nD) → Buf (Elt Ideal) ((c.tc : Thread Cert.BiasTablesIdeal.nD Cert.BiasTablesIdeal.τ).loc Cert.BiasTablesIdeal.main_v0)),
      θ_run (Cert.BiasTablesIdeal.defs (F := Ideal)) (onTc (τ := Cert.BiasTablesIdeal.τ) (Cert.BiasTablesIdeal.main (F := Ideal))) ⟨m, fun _ => 0, g⟩ (fun r => ∀ c : Dev Cert.BiasTablesIdeal.nD,
          r.2.mem ((c.tc : Thread Cert.BiasTablesIdeal.nD Cert.BiasTablesIdeal.τ).loc Cert.BiasTablesIdeal.main_v0) = v0 c
          ∧ r.2.mem ((c.tc : Thread Cert.BiasTablesIdeal.nD Cert.BiasTablesIdeal.τ).loc Cert.BiasTablesIdeal.main_arg0) = m ((c.tc : Thread Cert.BiasTablesIdeal.nD Cert.BiasTablesIdeal.τ).loc Cert.BiasTablesIdeal.main_arg0)
          ∧ r.2.mem ((c.tc : Thread Cert.BiasTablesIdeal.nD Cert.BiasTablesIdeal.τ).loc Cert.BiasTablesIdeal.main_arg1) = m ((c.tc : Thread Cert.BiasTablesIdeal.nD Cert.BiasTablesIdeal.τ).loc Cert.BiasTablesIdeal.main_arg1))
      ∧ θ_run (Cert.BiasTablesRefIdeal.defs (F := Ideal)) (onTc (τ := Cert.BiasTablesRefIdeal.τ) (Cert.BiasTablesRefIdeal.main (F := Ideal))) ⟨m', fun _ => 0, g'⟩ (fun r => ∀ c : Dev Cert.BiasTablesRefIdeal.nD,
          r.2.mem ((c.tc : Thread Cert.BiasTablesRefIdeal.nD Cert.BiasTablesRefIdeal.τ).loc Cert.BiasTablesRefIdeal.main_v13) = v0 c
          ∧ r.2.mem ((c.tc : Thread Cert.BiasTablesRefIdeal.nD Cert.BiasTablesRefIdeal.τ).loc Cert.BiasTablesRefIdeal.main_arg0) = m' ((c.tc : Thread Cert.BiasTablesRefIdeal.nD Cert.BiasTablesRefIdeal.τ).loc Cert.BiasTablesRefIdeal.main_arg0)
          ∧ r.2.mem ((c.tc : Thread Cert.BiasTablesRefIdeal.nD Cert.BiasTablesRefIdeal.τ).loc Cert.BiasTablesRefIdeal.main_arg1) = m' ((c.tc : Thread Cert.BiasTablesRefIdeal.nD Cert.BiasTablesRefIdeal.τ).loc Cert.BiasTablesRefIdeal.main_arg1))

def Claim : Prop :=
  ∃ (hSwapHalves : Cert.SwapHalves.Facts) (hSwapHalvesIdeal : Cert.SwapHalvesIdeal.Facts) (hSwapHalvesRefIdeal : Cert.SwapHalvesRefIdeal.Facts) (hJoinHalves : Cert.JoinHalves.Facts) (hJoinHalvesIdeal : Cert.JoinHalvesIdeal.Facts) (hJoinHalvesRefIdeal : Cert.JoinHalvesRefIdeal.Facts) (hScatterChips : Cert.ScatterChips.Facts) (hScatterChipsIdeal : Cert.ScatterChipsIdeal.Facts) (hScatterChipsRefIdeal : Cert.ScatterChipsRefIdeal.Facts) (hGatherSmall : Cert.GatherSmall.Facts) (hGatherSmallIdeal : Cert.GatherSmallIdeal.Facts) (hGatherSmallRefIdeal : Cert.GatherSmallRefIdeal.Facts) (hGatherWeights : Cert.GatherWeights.Facts) (hGatherWeightsIdeal : Cert.GatherWeightsIdeal.Facts) (hGatherWeightsRefIdeal : Cert.GatherWeightsRefIdeal.Facts) (hAdamwAttnNormG : Cert.AdamwAttnNormG.Facts) (hAdamwAttnNormGIdeal : Cert.AdamwAttnNormGIdeal.Facts) (hAdamwAttnNormGRefIdeal : Cert.AdamwAttnNormGRefIdeal.Facts) (hAdamwWIn : Cert.AdamwWIn.Facts) (hAdamwWInIdeal : Cert.AdamwWInIdeal.Facts) (hAdamwWInRefIdeal : Cert.AdamwWInRefIdeal.Facts) (hAdamwGlaGateW2 : Cert.AdamwGlaGateW2.Facts) (hAdamwGlaGateW2Ideal : Cert.AdamwGlaGateW2Ideal.Facts) (hAdamwGlaGateW2RefIdeal : Cert.AdamwGlaGateW2RefIdeal.Facts) (hAdamwGlaGateB : Cert.AdamwGlaGateB.Facts) (hAdamwGlaGateBIdeal : Cert.AdamwGlaGateBIdeal.Facts) (hAdamwGlaGateBRefIdeal : Cert.AdamwGlaGateBRefIdeal.Facts) (hAdamwGlaNormG : Cert.AdamwGlaNormG.Facts) (hAdamwGlaNormGIdeal : Cert.AdamwGlaNormGIdeal.Facts) (hAdamwGlaNormGRefIdeal : Cert.AdamwGlaNormGRefIdeal.Facts) (hAdamwRelBias : Cert.AdamwRelBias.Facts) (hAdamwRelBiasIdeal : Cert.AdamwRelBiasIdeal.Facts) (hAdamwRelBiasRefIdeal : Cert.AdamwRelBiasRefIdeal.Facts) (hAdamwWOut : Cert.AdamwWOut.Facts) (hAdamwWOutIdeal : Cert.AdamwWOutIdeal.Facts) (hAdamwWOutRefIdeal : Cert.AdamwWOutRefIdeal.Facts) (hAdamwWFf1 : Cert.AdamwWFf1.Facts) (hAdamwWFf1Ideal : Cert.AdamwWFf1Ideal.Facts) (hAdamwWFf1RefIdeal : Cert.AdamwWFf1RefIdeal.Facts) (hSumIn : Cert.SumIn.Facts) (hSumInIdeal : Cert.SumInIdeal.Facts) (hSumInRefIdeal : Cert.SumInRefIdeal.Facts) (hSumOut : Cert.SumOut.Facts) (hSumOutIdeal : Cert.SumOutIdeal.Facts) (hSumOutRefIdeal : Cert.SumOutRefIdeal.Facts) (hSumFf : Cert.SumFf.Facts) (hSumFfIdeal : Cert.SumFfIdeal.Facts) (hSumFfRefIdeal : Cert.SumFfRefIdeal.Facts) (hSumSmall : Cert.SumSmall.Facts) (hSumSmallIdeal : Cert.SumSmallIdeal.Facts) (hSumSmallRefIdeal : Cert.SumSmallRefIdeal.Facts) (hAddIn : Cert.AddIn.Facts) (hAddInIdeal : Cert.AddInIdeal.Facts) (hAddInRefIdeal : Cert.AddInRefIdeal.Facts) (hAddOut : Cert.AddOut.Facts) (hAddOutIdeal : Cert.AddOutIdeal.Facts) (hAddOutRefIdeal : Cert.AddOutRefIdeal.Facts) (hAddFf : Cert.AddFf.Facts) (hAddFfIdeal : Cert.AddFfIdeal.Facts) (hAddFfRefIdeal : Cert.AddFfRefIdeal.Facts) (hWgradGla : Cert.WgradGla.Facts) (hWgradGlaIdeal : Cert.WgradGlaIdeal.Facts) (hWgradGlaRefIdeal : Cert.WgradGlaRefIdeal.Facts) (hWgradHeads : Cert.WgradHeads.Facts) (hWgradHeadsIdeal : Cert.WgradHeadsIdeal.Facts) (hWgradHeadsRefIdeal : Cert.WgradHeadsRefIdeal.Facts) (hWgradOut : Cert.WgradOut.Facts) (hWgradOutIdeal : Cert.WgradOutIdeal.Facts) (hWgradOutRefIdeal : Cert.WgradOutRefIdeal.Facts) (hWgradFf1 : Cert.WgradFf1.Facts) (hWgradFf1Ideal : Cert.WgradFf1Ideal.Facts) (hWgradFf1RefIdeal : Cert.WgradFf1RefIdeal.Facts) (hWgradFf2 : Cert.WgradFf2.Facts) (hWgradFf2Ideal : Cert.WgradFf2Ideal.Facts) (hWgradFf2RefIdeal : Cert.WgradFf2RefIdeal.Facts) (hInproj : Cert.Inproj.Facts) (hInprojIdeal : Cert.InprojIdeal.Facts) (hInprojRefIdeal : Cert.InprojRefIdeal.Facts) (hDxFinal : Cert.DxFinal.Facts) (hDxFinalIdeal : Cert.DxFinalIdeal.Facts) (hDxFinalRefIdeal : Cert.DxFinalRefIdeal.Facts) (hPostFused : Cert.PostFused.Facts) (hPostFusedIdeal : Cert.PostFusedIdeal.Facts) (hPostFusedRefIdeal : Cert.PostFusedRefIdeal.Facts) (hBiasTables : Cert.BiasTables.Facts) (hBiasTablesIdeal : Cert.BiasTablesIdeal.Facts) (hBiasTablesRefIdeal : Cert.BiasTablesRefIdeal.Facts) (hPre_core_named_in : Cert.Pre_core_named_in.Facts) (hPre_core_named_out : Cert.Pre_core_named_out.Facts) (hPre_core_named_ff : Cert.Pre_core_named_ff.Facts),
    quiescent_SwapHalves (hSwapHalves := hSwapHalves)
    ∧ quiescent_SwapHalvesIdeal (hSwapHalvesIdeal := hSwapHalvesIdeal)
    ∧ quiescent_SwapHalvesRefIdeal (hSwapHalvesRefIdeal := hSwapHalvesRefIdeal)
    ∧ quiescent_JoinHalves (hJoinHalves := hJoinHalves)
    ∧ quiescent_JoinHalvesIdeal (hJoinHalvesIdeal := hJoinHalvesIdeal)
    ∧ quiescent_JoinHalvesRefIdeal (hJoinHalvesRefIdeal := hJoinHalvesRefIdeal)
    ∧ quiescent_ScatterChips (hScatterChips := hScatterChips)
    ∧ quiescent_ScatterChipsIdeal (hScatterChipsIdeal := hScatterChipsIdeal)
    ∧ quiescent_ScatterChipsRefIdeal (hScatterChipsRefIdeal := hScatterChipsRefIdeal)
    ∧ quiescent_GatherSmall (hGatherSmall := hGatherSmall)
    ∧ quiescent_GatherSmallIdeal (hGatherSmallIdeal := hGatherSmallIdeal)
    ∧ quiescent_GatherSmallRefIdeal (hGatherSmallRefIdeal := hGatherSmallRefIdeal)
    ∧ quiescent_GatherWeights (hGatherWeights := hGatherWeights)
    ∧ quiescent_GatherWeightsIdeal (hGatherWeightsIdeal := hGatherWeightsIdeal)
    ∧ quiescent_GatherWeightsRefIdeal (hGatherWeightsRefIdeal := hGatherWeightsRefIdeal)
    ∧ quiescent_AdamwAttnNormG (hAdamwAttnNormG := hAdamwAttnNormG)
    ∧ quiescent_AdamwAttnNormGIdeal (hAdamwAttnNormGIdeal := hAdamwAttnNormGIdeal)
    ∧ quiescent_AdamwAttnNormGRefIdeal (hAdamwAttnNormGRefIdeal := hAdamwAttnNormGRefIdeal)
    ∧ quiescent_AdamwWIn (hAdamwWIn := hAdamwWIn)
    ∧ quiescent_AdamwWInIdeal (hAdamwWInIdeal := hAdamwWInIdeal)
    ∧ quiescent_AdamwWInRefIdeal (hAdamwWInRefIdeal := hAdamwWInRefIdeal)
    ∧ quiescent_AdamwGlaGateW2 (hAdamwGlaGateW2 := hAdamwGlaGateW2)
    ∧ quiescent_AdamwGlaGateW2Ideal (hAdamwGlaGateW2Ideal := hAdamwGlaGateW2Ideal)
    ∧ quiescent_AdamwGlaGateW2RefIdeal (hAdamwGlaGateW2RefIdeal := hAdamwGlaGateW2RefIdeal)
    ∧ quiescent_AdamwGlaGateB (hAdamwGlaGateB := hAdamwGlaGateB)
    ∧ quiescent_AdamwGlaGateBIdeal (hAdamwGlaGateBIdeal := hAdamwGlaGateBIdeal)
    ∧ quiescent_AdamwGlaGateBRefIdeal (hAdamwGlaGateBRefIdeal := hAdamwGlaGateBRefIdeal)
    ∧ quiescent_AdamwGlaNormG (hAdamwGlaNormG := hAdamwGlaNormG)
    ∧ quiescent_AdamwGlaNormGIdeal (hAdamwGlaNormGIdeal := hAdamwGlaNormGIdeal)
    ∧ quiescent_AdamwGlaNormGRefIdeal (hAdamwGlaNormGRefIdeal := hAdamwGlaNormGRefIdeal)
    ∧ quiescent_AdamwRelBias (hAdamwRelBias := hAdamwRelBias)
    ∧ quiescent_AdamwRelBiasIdeal (hAdamwRelBiasIdeal := hAdamwRelBiasIdeal)
    ∧ quiescent_AdamwRelBiasRefIdeal (hAdamwRelBiasRefIdeal := hAdamwRelBiasRefIdeal)
    ∧ quiescent_AdamwWOut (hAdamwWOut := hAdamwWOut)
    ∧ quiescent_AdamwWOutIdeal (hAdamwWOutIdeal := hAdamwWOutIdeal)
    ∧ quiescent_AdamwWOutRefIdeal (hAdamwWOutRefIdeal := hAdamwWOutRefIdeal)
    ∧ quiescent_AdamwWFf1 (hAdamwWFf1 := hAdamwWFf1)
    ∧ quiescent_AdamwWFf1Ideal (hAdamwWFf1Ideal := hAdamwWFf1Ideal)
    ∧ quiescent_AdamwWFf1RefIdeal (hAdamwWFf1RefIdeal := hAdamwWFf1RefIdeal)
    ∧ quiescent_SumIn (hSumIn := hSumIn)
    ∧ quiescent_SumInIdeal (hSumInIdeal := hSumInIdeal)
    ∧ quiescent_SumInRefIdeal (hSumInRefIdeal := hSumInRefIdeal)
    ∧ quiescent_SumOut (hSumOut := hSumOut)
    ∧ quiescent_SumOutIdeal (hSumOutIdeal := hSumOutIdeal)
    ∧ quiescent_SumOutRefIdeal (hSumOutRefIdeal := hSumOutRefIdeal)
    ∧ quiescent_SumFf (hSumFf := hSumFf)
    ∧ quiescent_SumFfIdeal (hSumFfIdeal := hSumFfIdeal)
    ∧ quiescent_SumFfRefIdeal (hSumFfRefIdeal := hSumFfRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_AddIn (hAddIn := hAddIn) (hPre_core_named_in := hPre_core_named_in)
    ∧ quiescent_AddInIdeal (hAddInIdeal := hAddInIdeal) (hPre_core_named_in := hPre_core_named_in)
    ∧ quiescent_AddInRefIdeal (hAddInRefIdeal := hAddInRefIdeal)
    ∧ quiescent_AddInRefIdeal_pre_core_named_in (hAddInRefIdeal := hAddInRefIdeal) (hPre_core_named_in := hPre_core_named_in)
    ∧ quiescent_AddOut (hAddOut := hAddOut) (hPre_core_named_out := hPre_core_named_out)
    ∧ quiescent_AddOutIdeal (hAddOutIdeal := hAddOutIdeal) (hPre_core_named_out := hPre_core_named_out)
    ∧ quiescent_AddOutRefIdeal (hAddOutRefIdeal := hAddOutRefIdeal)
    ∧ quiescent_AddOutRefIdeal_pre_core_named_out (hAddOutRefIdeal := hAddOutRefIdeal) (hPre_core_named_out := hPre_core_named_out)
    ∧ quiescent_AddFf (hAddFf := hAddFf) (hPre_core_named_ff := hPre_core_named_ff)
    ∧ quiescent_AddFfIdeal (hAddFfIdeal := hAddFfIdeal) (hPre_core_named_ff := hPre_core_named_ff)
    ∧ quiescent_AddFfRefIdeal (hAddFfRefIdeal := hAddFfRefIdeal)
    ∧ quiescent_AddFfRefIdeal_pre_core_named_ff (hAddFfRefIdeal := hAddFfRefIdeal) (hPre_core_named_ff := hPre_core_named_ff)
    ∧ quiescent_WgradGla (hWgradGla := hWgradGla)
    ∧ quiescent_WgradGlaIdeal (hWgradGlaIdeal := hWgradGlaIdeal)
    ∧ quiescent_WgradGlaRefIdeal (hWgradGlaRefIdeal := hWgradGlaRefIdeal)
    ∧ quiescent_WgradHeads (hWgradHeads := hWgradHeads)
    ∧ quiescent_WgradHeadsIdeal (hWgradHeadsIdeal := hWgradHeadsIdeal)
    ∧ quiescent_WgradHeadsRefIdeal (hWgradHeadsRefIdeal := hWgradHeadsRefIdeal)
    ∧ quiescent_WgradOut (hWgradOut := hWgradOut)
    ∧ quiescent_WgradOutIdeal (hWgradOutIdeal := hWgradOutIdeal)
    ∧ quiescent_WgradOutRefIdeal (hWgradOutRefIdeal := hWgradOutRefIdeal)
    ∧ quiescent_WgradFf1 (hWgradFf1 := hWgradFf1)
    ∧ quiescent_WgradFf1Ideal (hWgradFf1Ideal := hWgradFf1Ideal)
    ∧ quiescent_WgradFf1RefIdeal (hWgradFf1RefIdeal := hWgradFf1RefIdeal)
    ∧ quiescent_WgradFf2 (hWgradFf2 := hWgradFf2)
    ∧ quiescent_WgradFf2Ideal (hWgradFf2Ideal := hWgradFf2Ideal)
    ∧ quiescent_WgradFf2RefIdeal (hWgradFf2RefIdeal := hWgradFf2RefIdeal)
    ∧ quiescent_Inproj (hInproj := hInproj)
    ∧ quiescent_InprojIdeal (hInprojIdeal := hInprojIdeal)
    ∧ quiescent_InprojRefIdeal (hInprojRefIdeal := hInprojRefIdeal)
    ∧ quiescent_DxFinal (hDxFinal := hDxFinal)
    ∧ quiescent_DxFinalIdeal (hDxFinalIdeal := hDxFinalIdeal)
    ∧ quiescent_DxFinalRefIdeal (hDxFinalRefIdeal := hDxFinalRefIdeal)
    ∧ quiescent_PostFused (hPostFused := hPostFused)
    ∧ quiescent_PostFusedIdeal (hPostFusedIdeal := hPostFusedIdeal)
    ∧ quiescent_PostFusedRefIdeal (hPostFusedRefIdeal := hPostFusedRefIdeal)
    ∧ quiescent_BiasTables (hBiasTables := hBiasTables)
    ∧ quiescent_BiasTablesIdeal (hBiasTablesIdeal := hBiasTablesIdeal)
    ∧ quiescent_BiasTablesRefIdeal (hBiasTablesRefIdeal := hBiasTablesRefIdeal)
    ∧ preserves_SwapHalves_SwapHalvesIdeal
    ∧ algebraic_SwapHalvesIdeal_SwapHalvesRefIdeal (hSwapHalvesIdeal := hSwapHalvesIdeal) (hSwapHalvesRefIdeal := hSwapHalvesRefIdeal)
    ∧ preserves_JoinHalves_JoinHalvesIdeal
    ∧ algebraic_JoinHalvesIdeal_JoinHalvesRefIdeal (hJoinHalvesIdeal := hJoinHalvesIdeal) (hJoinHalvesRefIdeal := hJoinHalvesRefIdeal)
    ∧ preserves_ScatterChips_ScatterChipsIdeal
    ∧ algebraic_ScatterChipsIdeal_ScatterChipsRefIdeal (hScatterChipsIdeal := hScatterChipsIdeal) (hScatterChipsRefIdeal := hScatterChipsRefIdeal)
    ∧ preserves_GatherSmall_GatherSmallIdeal
    ∧ algebraic_GatherSmallIdeal_GatherSmallRefIdeal (hGatherSmallIdeal := hGatherSmallIdeal) (hGatherSmallRefIdeal := hGatherSmallRefIdeal)
    ∧ preserves_GatherWeights_GatherWeightsIdeal
    ∧ algebraic_GatherWeightsIdeal_GatherWeightsRefIdeal (hGatherWeightsIdeal := hGatherWeightsIdeal) (hGatherWeightsRefIdeal := hGatherWeightsRefIdeal)
    ∧ preserves_AdamwAttnNormG_AdamwAttnNormGIdeal
    ∧ algebraic_AdamwAttnNormGIdeal_AdamwAttnNormGRefIdeal (hAdamwAttnNormGIdeal := hAdamwAttnNormGIdeal) (hAdamwAttnNormGRefIdeal := hAdamwAttnNormGRefIdeal)
    ∧ preserves_AdamwWIn_AdamwWInIdeal
    ∧ algebraic_AdamwWInIdeal_AdamwWInRefIdeal (hAdamwWInIdeal := hAdamwWInIdeal) (hAdamwWInRefIdeal := hAdamwWInRefIdeal)
    ∧ preserves_AdamwGlaGateW2_AdamwGlaGateW2Ideal
    ∧ algebraic_AdamwGlaGateW2Ideal_AdamwGlaGateW2RefIdeal (hAdamwGlaGateW2Ideal := hAdamwGlaGateW2Ideal) (hAdamwGlaGateW2RefIdeal := hAdamwGlaGateW2RefIdeal)
    ∧ preserves_AdamwGlaGateB_AdamwGlaGateBIdeal
    ∧ algebraic_AdamwGlaGateBIdeal_AdamwGlaGateBRefIdeal (hAdamwGlaGateBIdeal := hAdamwGlaGateBIdeal) (hAdamwGlaGateBRefIdeal := hAdamwGlaGateBRefIdeal)
    ∧ preserves_AdamwGlaNormG_AdamwGlaNormGIdeal
    ∧ algebraic_AdamwGlaNormGIdeal_AdamwGlaNormGRefIdeal (hAdamwGlaNormGIdeal := hAdamwGlaNormGIdeal) (hAdamwGlaNormGRefIdeal := hAdamwGlaNormGRefIdeal)
    ∧ preserves_AdamwRelBias_AdamwRelBiasIdeal
    ∧ algebraic_AdamwRelBiasIdeal_AdamwRelBiasRefIdeal (hAdamwRelBiasIdeal := hAdamwRelBiasIdeal) (hAdamwRelBiasRefIdeal := hAdamwRelBiasRefIdeal)
    ∧ preserves_AdamwWOut_AdamwWOutIdeal
    ∧ algebraic_AdamwWOutIdeal_AdamwWOutRefIdeal (hAdamwWOutIdeal := hAdamwWOutIdeal) (hAdamwWOutRefIdeal := hAdamwWOutRefIdeal)
    ∧ preserves_AdamwWFf1_AdamwWFf1Ideal
    ∧ algebraic_AdamwWFf1Ideal_AdamwWFf1RefIdeal (hAdamwWFf1Ideal := hAdamwWFf1Ideal) (hAdamwWFf1RefIdeal := hAdamwWFf1RefIdeal)
    ∧ preserves_SumIn_SumInIdeal
    ∧ algebraic_SumInIdeal_SumInRefIdeal (hSumInIdeal := hSumInIdeal) (hSumInRefIdeal := hSumInRefIdeal)
    ∧ preserves_SumOut_SumOutIdeal
    ∧ algebraic_SumOutIdeal_SumOutRefIdeal (hSumOutIdeal := hSumOutIdeal) (hSumOutRefIdeal := hSumOutRefIdeal)
    ∧ preserves_SumFf_SumFfIdeal
    ∧ algebraic_SumFfIdeal_SumFfRefIdeal (hSumFfIdeal := hSumFfIdeal) (hSumFfRefIdeal := hSumFfRefIdeal)
    ∧ preserves_SumSmall_SumSmallIdeal
    ∧ algebraic_SumSmallIdeal_SumSmallRefIdeal (hSumSmallIdeal := hSumSmallIdeal) (hSumSmallRefIdeal := hSumSmallRefIdeal)
    ∧ preserves_AddIn_AddInIdeal
    ∧ algebraic_AddInIdeal_AddInRefIdeal (hAddInIdeal := hAddInIdeal) (hAddInRefIdeal := hAddInRefIdeal) (hPre_core_named_in := hPre_core_named_in)
    ∧ preserves_AddOut_AddOutIdeal
    ∧ algebraic_AddOutIdeal_AddOutRefIdeal (hAddOutIdeal := hAddOutIdeal) (hAddOutRefIdeal := hAddOutRefIdeal) (hPre_core_named_out := hPre_core_named_out)
    ∧ preserves_AddFf_AddFfIdeal
    ∧ algebraic_AddFfIdeal_AddFfRefIdeal (hAddFfIdeal := hAddFfIdeal) (hAddFfRefIdeal := hAddFfRefIdeal) (hPre_core_named_ff := hPre_core_named_ff)
    ∧ preserves_WgradGla_WgradGlaIdeal
    ∧ algebraic_WgradGlaIdeal_WgradGlaRefIdeal (hWgradGlaIdeal := hWgradGlaIdeal) (hWgradGlaRefIdeal := hWgradGlaRefIdeal)
    ∧ preserves_WgradHeads_WgradHeadsIdeal
    ∧ algebraic_WgradHeadsIdeal_WgradHeadsRefIdeal (hWgradHeadsIdeal := hWgradHeadsIdeal) (hWgradHeadsRefIdeal := hWgradHeadsRefIdeal)
    ∧ preserves_WgradOut_WgradOutIdeal
    ∧ algebraic_WgradOutIdeal_WgradOutRefIdeal (hWgradOutIdeal := hWgradOutIdeal) (hWgradOutRefIdeal := hWgradOutRefIdeal)
    ∧ preserves_WgradFf1_WgradFf1Ideal
    ∧ algebraic_WgradFf1Ideal_WgradFf1RefIdeal (hWgradFf1Ideal := hWgradFf1Ideal) (hWgradFf1RefIdeal := hWgradFf1RefIdeal)
    ∧ preserves_WgradFf2_WgradFf2Ideal
    ∧ algebraic_WgradFf2Ideal_WgradFf2RefIdeal (hWgradFf2Ideal := hWgradFf2Ideal) (hWgradFf2RefIdeal := hWgradFf2RefIdeal)
    ∧ preserves_Inproj_InprojIdeal
    ∧ algebraic_InprojIdeal_InprojRefIdeal (hInprojIdeal := hInprojIdeal) (hInprojRefIdeal := hInprojRefIdeal)
    ∧ preserves_DxFinal_DxFinalIdeal
    ∧ algebraic_DxFinalIdeal_DxFinalRefIdeal (hDxFinalIdeal := hDxFinalIdeal) (hDxFinalRefIdeal := hDxFinalRefIdeal)
    ∧ preserves_PostFused_PostFusedIdeal
    ∧ algebraic_PostFusedIdeal_PostFusedRefIdeal (hPostFusedIdeal := hPostFusedIdeal) (hPostFusedRefIdeal := hPostFusedRefIdeal)
    ∧ preserves_BiasTables_BiasTablesIdeal
    ∧ algebraic_BiasTablesIdeal_BiasTablesRefIdeal (hBiasTablesIdeal := hBiasTablesIdeal) (hBiasTablesRefIdeal := hBiasTablesRefIdeal)
-- ==== Pre_core_named_ff.lean ====
abbrev S4x1024x1024 : Shape := ⟨3, ![4, 1024, 1024]⟩
abbrev S4x512x1024 : Shape := ⟨3, ![4, 512, 1024]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4x1024x1024 .f32) (main_arg1 : FVec F S4x512x1024 .f32) (main_arg2 : IVec S1 32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 1#32
  let main_v2 : IVec S1 32 := broadcastInDim S1 ![] bcast_S_S1 main_c_0
  let main_v3 : IVec S1 1 := cmpi .sle main_arg2 main_v2
  let main_v4 : IVec S1 1 := andi main_v1 main_v3
  main_v4
-- ==== Pre_core_named_in.lean ====
abbrev S4x1024x772 : Shape := ⟨3, ![4, 1024, 772]⟩
abbrev S4x512x772 : Shape := ⟨3, ![4, 512, 772]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4x1024x772 .f32) (main_arg1 : FVec F S4x512x772 .f32) (main_arg2 : IVec S1 32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 1#32
  let main_v2 : IVec S1 32 := broadcastInDim S1 ![] bcast_S_S1 main_c_0
  let main_v3 : IVec S1 1 := cmpi .sle main_arg2 main_v2
  let main_v4 : IVec S1 1 := andi main_v1 main_v3
  main_v4
-- ==== Pre_core_named_out.lean ====
abbrev S4x256x1024 : Shape := ⟨3, ![4, 256, 1024]⟩
abbrev S4x128x1024 : Shape := ⟨3, ![4, 128, 1024]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4x256x1024 .f32) (main_arg1 : FVec F S4x128x1024 .f32) (main_arg2 : IVec S1 32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 1#32
  let main_v2 : IVec S1 32 := broadcastInDim S1 ![] bcast_S_S1 main_c_0
  let main_v3 : IVec S1 1 := cmpi .sle main_arg2 main_v2
  let main_v4 : IVec S1 1 := andi main_v1 main_v3
  main_v4
-- ==== SwapHalves.lean ====
abbrev S4x1024x772 : Shape := ⟨3, ![4, 1024, 772]⟩
abbrev S4x256x1024 : Shape := ⟨3, ![4, 256, 1024]⟩
abbrev S4x1024x1024 : Shape := ⟨3, ![4, 1024, 1024]⟩
abbrev S4x512x772 : Shape := ⟨3, ![4, 512, 772]⟩
abbrev S4x128x1024 : Shape := ⟨3, ![4, 128, 1024]⟩
abbrev S4x512x1024 : Shape := ⟨3, ![4, 512, 1024]⟩
abbrev S4 : Shape := ⟨1, ![4]⟩
abbrev S1 : Shape := ⟨1, ![1]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4x1024x772, .f32⟩
  | .hbm, ⟨1, _⟩ => ⟨S4x256x1024, .f32⟩
  | .hbm, ⟨2, _⟩ => ⟨S4x1024x1024, .f32⟩
  | .hbm, ⟨3, _⟩ => ⟨S4x1024x1024, .f32⟩
  | .hbm, ⟨4, _⟩ => ⟨S4x512x772, .f32⟩
  | .hbm, ⟨5, _⟩ => ⟨S4x128x1024, .f32⟩
  | .hbm, ⟨6, _⟩ => ⟨S4x512x1024, .f32⟩
  | .hbm, ⟨7, _⟩ => ⟨S4x512x1024, .f32⟩
  | _, _ => ⟨S4x1024x772, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩

abbrev nD : Nat := 8
abbrev τ : Topo := Topo.v7x

variable {F : FTy → Type} [FloatOps F]

abbrev grid0 : Pipeline.Grid := .none

def k0_off1 (d0 : Dev nD) : Fin 3 → Nat :=
  let c0_i32_18 : BitVec 32 := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c512_i32 : BitVec 32 := 512#32
  let v10 : BitVec 32 := Scalar.muli v9 c512_i32
  let c0_i32_19 : BitVec 32 := 0#32
  ![0, v10.toNat, 0]
def k0_dev1 (d0 : Dev nD) : Nat :=
  let c0_i32_15 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_14 : BitVec 32 := 4#32
  let v21 : BitVec 32 := Scalar.muli v2 c4_i32_14
  let v22 : BitVec 32 := Scalar.addi c0_i32_15 v21
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v23 : BitVec 32 := Scalar.muli v5 c2_i32_16
  let v24 : BitVec 32 := Scalar.addi v22 v23
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_17 : BitVec 32 := 1#32
  let v25 : BitVec 32 := Scalar.muli v11 c1_i32_17
  let v26 : BitVec 32 := Scalar.addi v24 v25
  v26.toNat
def k0_off2 (d0 : Dev nD) : Fin 3 → Nat :=
  let c0_i32_26 : BitVec 32 := 0#32
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_5 v8
  let c128_i32 : BitVec 32 := 128#32
  let v13 : BitVec 32 := Scalar.muli v12 c128_i32
  let c0_i32_27 : BitVec 32 := 0#32
  ![0, v13.toNat, 0]
def k0_dev2 (d0 : Dev nD) : Nat :=
  let c0_i32_23 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_22 : BitVec 32 := 4#32
  let v32 : BitVec 32 := Scalar.muli v2 c4_i32_22
  let v33 : BitVec 32 := Scalar.addi c0_i32_23 v32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_24 : BitVec 32 := 2#32
  let v34 : BitVec 32 := Scalar.muli v5 c2_i32_24
  let v35 : BitVec 32 := Scalar.addi v33 v34
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_6 v8
  let c1_i32_25 : BitVec 32 := 1#32
  let v36 : BitVec 32 := Scalar.muli v14 c1_i32_25
  let v37 : BitVec 32 := Scalar.addi v35 v36
  v37.toNat
def k0_off3 (d0 : Dev nD) : Fin 3 → Nat :=
  let c0_i32_34 : BitVec 32 := 0#32
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let c512_i32_8 : BitVec 32 := 512#32
  let v16 : BitVec 32 := Scalar.muli v15 c512_i32_8
  let c0_i32_35 : BitVec 32 := 0#32
  ![0, v16.toNat, 0]
def k0_dev3 (d0 : Dev nD) : Nat :=
  let c0_i32_31 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_30 : BitVec 32 := 4#32
  let v43 : BitVec 32 := Scalar.muli v2 c4_i32_30
  let v44 : BitVec 32 := Scalar.addi c0_i32_31 v43
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_32 : BitVec 32 := 2#32
  let v45 : BitVec 32 := Scalar.muli v5 c2_i32_32
  let v46 : BitVec 32 := Scalar.addi v44 v45
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_9 v8
  let c1_i32_33 : BitVec 32 := 1#32
  let v47 : BitVec 32 := Scalar.muli v17 c1_i32_33
  let v48 : BitVec 32 := Scalar.addi v46 v47
  v48.toNat
def k0_dev4 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v54 : BitVec 32 := Scalar.muli v2 c4_i32_37
  let v55 : BitVec 32 := Scalar.addi c0_i32_38 v54
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_39 : BitVec 32 := 2#32
  let v56 : BitVec 32 := Scalar.muli v5 c2_i32_39
  let v57 : BitVec 32 := Scalar.addi v55 v56
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_12 v8
  let c1_i32_40 : BitVec 32 := 1#32
  let v58 : BitVec 32 := Scalar.muli v20 c1_i32_40
  let v59 : BitVec 32 := Scalar.addi v57 v58
  v59.toNat
-- ==== SwapHalvesRefIdeal.lean ====
abbrev S32x1024x772 : Shape := ⟨3, ![32, 1024, 772]⟩
abbrev S32x256x1024 : Shape := ⟨3, ![32, 256, 1024]⟩
abbrev S32x1024x1024 : Shape := ⟨3, ![32, 1024, 1024]⟩
abbrev S4x2x4x1024x772 : Shape := ⟨5, ![4, 2, 4, 1024, 772]⟩
abbrev S4x1x4x512x772 : Shape := ⟨5, ![4, 1, 4, 512, 772]⟩
abbrev S4x4x512x772 : Shape := ⟨4, ![4, 4, 512, 772]⟩
abbrev S4x4x1024x772 : Shape := ⟨4, ![4, 4, 1024, 772]⟩
abbrev S16x1024x772 : Shape := ⟨3, ![16, 1024, 772]⟩
abbrev S4x2x4x256x1024 : Shape := ⟨5, ![4, 2, 4, 256, 1024]⟩
abbrev S4x1x4x128x1024 : Shape := ⟨5, ![4, 1, 4, 128, 1024]⟩
abbrev S4x4x128x1024 : Shape := ⟨4, ![4, 4, 128, 1024]⟩
abbrev S4x4x256x1024 : Shape := ⟨4, ![4, 4, 256, 1024]⟩
abbrev S16x256x1024 : Shape := ⟨3, ![16, 256, 1024]⟩
abbrev S4x2x4x1024x1024 : Shape := ⟨5, ![4, 2, 4, 1024, 1024]⟩
abbrev S4x1x4x512x1024 : Shape := ⟨5, ![4, 1, 4, 512, 1024]⟩
abbrev S4x4x512x1024 : Shape := ⟨4, ![4, 4, 512, 1024]⟩
abbrev S4x4x1024x1024 : Shape := ⟨4, ![4, 4, 1024, 1024]⟩
abbrev S16x1024x1024 : Shape := ⟨3, ![16, 1024, 1024]⟩

abbrev nBuf : Space → Nat
  | .hbm => 32
  | .vmem => 0
  | .smem => 0
  | _ => 0

abbrev bufTy : (tb : Table) → Fin (tcTables nBuf tb) → BufTy
  | .hbm, ⟨0, _⟩ => ⟨S32x1024x772, .f32⟩
  | .hbm, ⟨1, _⟩ => ⟨S32x256x1024, .f32⟩
  | .hbm, ⟨2, _⟩ => ⟨S32x1024x1024, .f32⟩
  | .hbm, ⟨3, _⟩ => ⟨S32x1024x1024, .f32⟩
  | .hbm, ⟨4, _⟩ => ⟨S4x2x4x1024x772, .f32⟩
  | .hbm, ⟨5, _⟩ => ⟨S4x1x4x512x772, .f32⟩
  | .hbm, ⟨6, _⟩ => ⟨S4x4x512x772, .f32⟩
  | .hbm, ⟨7, _⟩ => ⟨S4x1x4x512x772, .f32⟩
  | .hbm, ⟨8, _⟩ => ⟨S4x4x512x772, .f32⟩
  | .hbm, ⟨9, _⟩ => ⟨S4x4x1024x772, .f32⟩
  | .hbm, ⟨10, _⟩ => ⟨S16x1024x772, .f32⟩
  | .hbm, ⟨11, _⟩ => ⟨S4x2x4x256x1024, .f32⟩
  | .hbm, ⟨12, _⟩ => ⟨S4x1x4x128x1024, .f32⟩
  | .hbm, ⟨13, _⟩ => ⟨S4x4x128x1024, .f32⟩
  | .hbm, ⟨14, _⟩ => ⟨S4x1x4x128x1024, .f32⟩
  | .hbm, ⟨15, _⟩ => ⟨S4x4x128x1024, .f32⟩
  | .hbm, ⟨16, _⟩ => ⟨S4x4x256x1024, .f32⟩
  | .hbm, ⟨17, _⟩ => ⟨S16x256x1024, .f32⟩
  | .hbm, ⟨18, _⟩ => ⟨S4x2x4x1024x1024, .f32⟩
  | .hbm, ⟨19, _⟩ => ⟨S4x1x4x512x1024, .f32⟩
  | .hbm, ⟨20, _⟩ => ⟨S4x4x512x1024, .f32⟩
  | .hbm, ⟨21, _⟩ => ⟨S4x1x4x512x1024, .f32⟩
  | .hbm, ⟨22, _⟩ => ⟨S4x4x512x1024, .f32⟩
  | .hbm, ⟨23, _⟩ => ⟨S4x4x1024x1024, .f32⟩
  | .hbm, ⟨24, _⟩ => ⟨S16x1024x1024, .f32⟩
  | .hbm, ⟨25, _⟩ => ⟨S4x2x4x1024x1024, .f32⟩
  | .hbm, ⟨26, _⟩ => ⟨S4x1x4x512x1024, .f32⟩
  | .hbm, ⟨27, _⟩ => ⟨S4x4x512x1024, .f32⟩
  | .hbm, ⟨28, _⟩ => ⟨S4x1x4x512x1024, .f32⟩
  | .hbm, ⟨29, _⟩ => ⟨S4x4x512x1024, .f32⟩
  | .hbm, ⟨30, _⟩ => ⟨S4x4x1024x1024, .f32⟩
  | .hbm, ⟨31, _⟩ => ⟨S16x1024x1024, .f32⟩
  | _, _ => ⟨S32x1024x772, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩

abbrev nD : Nat := 1
abbrev τ : Topo := Topo.v7x

variable {F : FTy → Type} [FloatOps F]
-- ==== JoinHalves.lean ====
abbrev S512x772 : Shape := ⟨2, ![512, 772]⟩
abbrev S128x1024 : Shape := ⟨2, ![128, 1024]⟩
abbrev S512x1024 : Shape := ⟨2, ![512, 1024]⟩
abbrev S1024x772 : Shape := ⟨2, ![1024, 772]⟩
abbrev S256x1024 : Shape := ⟨2, ![256, 1024]⟩
abbrev S1024x1024 : Shape := ⟨2, ![1024, 1024]⟩
abbrev S4 : Shape := ⟨1, ![4]⟩
abbrev S1 : Shape := ⟨1, ![1]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S512x772, .f32⟩
  | .hbm, ⟨1, _⟩ => ⟨S128x1024, .f32⟩
  | .hbm, ⟨2, _⟩ => ⟨S512x1024, .f32⟩
  | .hbm, ⟨3, _⟩ => ⟨S512x1024, .f32⟩
  | .hbm, ⟨4, _⟩ => ⟨S1024x772, .f32⟩
  | .hbm, ⟨5, _⟩ => ⟨S256x1024, .f32⟩
  | .hbm, ⟨6, _⟩ => ⟨S1024x1024, .f32⟩
  | .hbm, ⟨7, _⟩ => ⟨S1024x1024, .f32⟩
  | _, _ => ⟨S512x772, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩

abbrev nD : Nat := 8
abbrev τ : Topo := Topo.v7x

variable {F : FTy → Type} [FloatOps F]

abbrev grid0 : Pipeline.Grid := .none

def k0_off1 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32 : BitVec 32 := 512#32
  let v9 : BitVec 32 := Scalar.muli v8 c512_i32
  let c0_i32_9 : BitVec 32 := 0#32
  ![v9.toNat, 0]
def k0_off2 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32 : BitVec 32 := 128#32
  let v11 : BitVec 32 := Scalar.muli v8 c128_i32
  let c0_i32_11 : BitVec 32 := 0#32
  ![v11.toNat, 0]
def k0_off3 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_5 : BitVec 32 := 512#32
  let v13 : BitVec 32 := Scalar.muli v8 c512_i32_5
  let c0_i32_13 : BitVec 32 := 0#32
  ![v13.toNat, 0]
def k0_dev1 (d0 : Dev nD) : Nat :=
  let c0_i32_18 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_17 : BitVec 32 := 4#32
  let v29 : BitVec 32 := Scalar.muli v2 c4_i32_17
  let v30 : BitVec 32 := Scalar.addi c0_i32_18 v29
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_19 : BitVec 32 := 2#32
  let v31 : BitVec 32 := Scalar.muli v5 c2_i32_19
  let v32 : BitVec 32 := Scalar.addi v30 v31
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_3 v8
  let c1_i32_20 : BitVec 32 := 1#32
  let v33 : BitVec 32 := Scalar.muli v10 c1_i32_20
  let v34 : BitVec 32 := Scalar.addi v32 v33
  v34.toNat
def k0_dev2 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v40 : BitVec 32 := Scalar.muli v2 c4_i32_24
  let v41 : BitVec 32 := Scalar.addi c0_i32_25 v40
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_26 : BitVec 32 := 2#32
  let v42 : BitVec 32 := Scalar.muli v5 c2_i32_26
  let v43 : BitVec 32 := Scalar.addi v41 v42
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_27 : BitVec 32 := 1#32
  let v44 : BitVec 32 := Scalar.muli v12 c1_i32_27
  let v45 : BitVec 32 := Scalar.addi v43 v44
  v45.toNat
def k0_dev3 (d0 : Dev nD) : Nat :=
  let c0_i32_32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_31 : BitVec 32 := 4#32
  let v51 : BitVec 32 := Scalar.muli v2 c4_i32_31
  let v52 : BitVec 32 := Scalar.addi c0_i32_32 v51
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_33 : BitVec 32 := 2#32
  let v53 : BitVec 32 := Scalar.muli v5 c2_i32_33
  let v54 : BitVec 32 := Scalar.addi v52 v53
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_6 v8
  let c1_i32_34 : BitVec 32 := 1#32
  let v55 : BitVec 32 := Scalar.muli v14 c1_i32_34
  let v56 : BitVec 32 := Scalar.addi v54 v55
  v56.toNat
def k0_dev4 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_38 : BitVec 32 := 4#32
  let v62 : BitVec 32 := Scalar.muli v2 c4_i32_38
  let v63 : BitVec 32 := Scalar.addi c0_i32_39 v62
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_40 : BitVec 32 := 2#32
  let v64 : BitVec 32 := Scalar.muli v5 c2_i32_40
  let v65 : BitVec 32 := Scalar.addi v63 v64
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_8 v8
  let c1_i32_41 : BitVec 32 := 1#32
  let v66 : BitVec 32 := Scalar.muli v16 c1_i32_41
  let v67 : BitVec 32 := Scalar.addi v65 v66
  v67.toNat
def k0_off4 (d0 : Dev nD) : Fin 2 → Nat :=
  let c1_i32_43 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v73 : BitVec 32 := Scalar.subi c1_i32_43 v8
  let c512_i32_44 : BitVec 32 := 512#32
  let v74 : BitVec 32 := Scalar.muli v73 c512_i32_44
  let c0_i32_51 : BitVec 32 := 0#32
  ![v74.toNat, 0]
def k0_off5 (d0 : Dev nD) : Fin 2 → Nat :=
  let c1_i32_52 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v84 : BitVec 32 := Scalar.subi c1_i32_52 v8
  let c128_i32_53 : BitVec 32 := 128#32
  let v85 : BitVec 32 := Scalar.muli v84 c128_i32_53
  let c0_i32_60 : BitVec 32 := 0#32
  ![v85.toNat, 0]
def k0_off6 (d0 : Dev nD) : Fin 2 → Nat :=
  let c1_i32_61 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v95 : BitVec 32 := Scalar.subi c1_i32_61 v8
  let c512_i32_62 : BitVec 32 := 512#32
  let v96 : BitVec 32 := Scalar.muli v95 c512_i32_62
  let c0_i32_69 : BitVec 32 := 0#32
  ![v96.toNat, 0]
-- ==== JoinHalvesRefIdeal.lean ====
abbrev S1024x3088 : Shape := ⟨2, ![1024, 3088]⟩
abbrev S1024x1024 : Shape := ⟨2, ![1024, 1024]⟩
abbrev S1024x4096 : Shape := ⟨2, ![1024, 4096]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S1024x3088, .f32⟩
  | .hbm, ⟨1, _⟩ => ⟨S1024x1024, .f32⟩
  | .hbm, ⟨2, _⟩ => ⟨S1024x4096, .f32⟩
  | .hbm, ⟨3, _⟩ => ⟨S4096x1024, .f32⟩
  | _, _ => ⟨S1024x3088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩

abbrev nD : Nat := 1
abbrev τ : Topo := Topo.v7x

variable {F : FTy → Type} [FloatOps F]
-- ==== ScatterChips.lean ====
abbrev S4x512x772 : Shape := ⟨3, ![4, 512, 772]⟩
abbrev S4x128x1024 : Shape := ⟨3, ![4, 128, 1024]⟩
abbrev S4x512x1024 : Shape := ⟨3, ![4, 512, 1024]⟩
abbrev S4x3 : Shape := ⟨2, ![4, 3]⟩
abbrev S4 : Shape := ⟨1, ![4]⟩
abbrev S1 : Shape := ⟨1, ![1]⟩
abbrev S_ : Shape := ⟨0, ![]⟩
abbrev S1x512x772 : Shape := ⟨3, ![1, 512, 772]⟩
abbrev S512x772 : Shape := ⟨2, ![512, 772]⟩
abbrev S1x128x1024 : Shape := ⟨3, ![1, 128, 1024]⟩
abbrev S128x1024 : Shape := ⟨2, ![128, 1024]⟩
abbrev S1x512x1024 : Shape := ⟨3, ![1, 512, 1024]⟩
abbrev S512x1024 : Shape := ⟨2, ![512, 1024]⟩
abbrev S1x1 : Shape := ⟨2, ![1, 1]⟩

abbrev nBuf : Space → Nat
  | .hbm => 8
  | .vmem => 0
  | .smem => 0
  | _ => 0

abbrev bufTy : (tb : Table) → Fin (tcTables nBuf tb) → BufTy
  | .hbm, ⟨0, _⟩ => ⟨S4x512x772, .bf16⟩
  | .hbm, ⟨1, _⟩ => ⟨S4x128x1024, .bf16⟩
  | .hbm, ⟨2, _⟩ => ⟨S4x512x1024, .bf16⟩
  | .hbm, ⟨3, _⟩ => ⟨S4x512x1024, .bf16⟩
  | .hbm, ⟨4, _⟩ => ⟨S4x512x772, .bf16⟩
  | .hbm, ⟨5, _⟩ => ⟨S4x128x1024, .bf16⟩
  | .hbm, ⟨6, _⟩ => ⟨S4x512x1024, .bf16⟩
  | .hbm, ⟨7, _⟩ => ⟨S4x512x1024, .bf16⟩
  | _, _ => ⟨S4x512x772, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩

abbrev nD : Nat := 8
abbrev τ : Topo := Topo.v7x

variable {F : FTy → Type} [FloatOps F]

abbrev grid0 : Pipeline.Grid := .none

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_8 : BitVec 32 := 0#32
  let c0_i32_9 : BitVec 32 := 0#32
  ![v10.toNat, 0, 0]
def k0_off2 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_13 : BitVec 32 := 0#32
  let c0_i32_14 : BitVec 32 := 0#32
  ![v10.toNat, 0, 0]
def k0_off3 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_18 : BitVec 32 := 0#32
  let c0_i32_19 : BitVec 32 := 0#32
  ![v10.toNat, 0, 0]
def k0_off4 (d0 : Dev nD) : Fin 3 → Nat :=
  let c2_i32_26 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v39 : BitVec 32 := Scalar.muli c2_i32_26 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v40 : BitVec 32 := Scalar.addi v39 v5
  let c0_i32_48 : BitVec 32 := 0#32
  let c0_i32_49 : BitVec 32 := 0#32
  ![v40.toNat, 0, 0]
def k0_dev1 (d0 : Dev nD) : Nat :=
  let c0_i32_43 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_42 : BitVec 32 := 4#32
  let v63 : BitVec 32 := Scalar.muli v11 c4_i32_42
  let v64 : BitVec 32 := Scalar.addi c0_i32_43 v63
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_44 : BitVec 32 := 2#32
  let v65 : BitVec 32 := Scalar.muli v5 c2_i32_44
  let v66 : BitVec 32 := Scalar.addi v64 v65
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_45 : BitVec 32 := 1#32
  let v67 : BitVec 32 := Scalar.muli v8 c1_i32_45
  let v68 : BitVec 32 := Scalar.addi v66 v67
  v68.toNat
def k0_off5 (d0 : Dev nD) : Fin 3 → Nat :=
  let c2_i32_27 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v41 : BitVec 32 := Scalar.muli c2_i32_27 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v42 : BitVec 32 := Scalar.addi v41 v12
  let c0_i32_60 : BitVec 32 := 0#32
  let c0_i32_61 : BitVec 32 := 0#32
  ![v42.toNat, 0, 0]
def k0_dev2 (d0 : Dev nD) : Nat :=
  let c0_i32_55 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_54 : BitVec 32 := 4#32
  let v77 : BitVec 32 := Scalar.muli v2 c4_i32_54
  let v78 : BitVec 32 := Scalar.addi c0_i32_55 v77
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_56 : BitVec 32 := 2#32
  let v79 : BitVec 32 := Scalar.muli v12 c2_i32_56
  let v80 : BitVec 32 := Scalar.addi v78 v79
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_57 : BitVec 32 := 1#32
  let v81 : BitVec 32 := Scalar.muli v8 c1_i32_57
  let v82 : BitVec 32 := Scalar.addi v80 v81
  v82.toNat
def k0_off6 (d0 : Dev nD) : Fin 3 → Nat :=
  let c2_i32_28 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v43 : BitVec 32 := Scalar.muli c2_i32_28 v13
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v44 : BitVec 32 := Scalar.addi v43 v14
  let c0_i32_72 : BitVec 32 := 0#32
  let c0_i32_73 : BitVec 32 := 0#32
  ![v44.toNat, 0, 0]
def k0_dev3 (d0 : Dev nD) : Nat :=
  let c0_i32_67 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_66 : BitVec 32 := 4#32
  let v91 : BitVec 32 := Scalar.muli v13 c4_i32_66
  let v92 : BitVec 32 := Scalar.addi c0_i32_67 v91
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_68 : BitVec 32 := 2#32
  let v93 : BitVec 32 := Scalar.muli v14 c2_i32_68
  let v94 : BitVec 32 := Scalar.addi v92 v93
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_69 : BitVec 32 := 1#32
  let v95 : BitVec 32 := Scalar.muli v8 c1_i32_69
  let v96 : BitVec 32 := Scalar.addi v94 v95
  v96.toNat
def k0_off7 (d0 : Dev nD) : Fin 3 → Nat :=
  let c2_i32_29 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v45 : BitVec 32 := Scalar.muli c2_i32_29 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v46 : BitVec 32 := Scalar.addi v45 v5
  let c0_i32_84 : BitVec 32 := 0#32
  let c0_i32_85 : BitVec 32 := 0#32
  ![v46.toNat, 0, 0]
def k0_dev4 (d0 : Dev nD) : Nat :=
  let c0_i32_79 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_78 : BitVec 32 := 4#32
  let v105 : BitVec 32 := Scalar.muli v11 c4_i32_78
  let v106 : BitVec 32 := Scalar.addi c0_i32_79 v105
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v107 : BitVec 32 := Scalar.muli v5 c2_i32_80
  let v108 : BitVec 32 := Scalar.addi v106 v107
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_81 : BitVec 32 := 1#32
  let v109 : BitVec 32 := Scalar.muli v8 c1_i32_81
  let v110 : BitVec 32 := Scalar.addi v108 v109
  v110.toNat
def k0_off8 (d0 : Dev nD) : Fin 3 → Nat :=
  let c2_i32_30 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v47 : BitVec 32 := Scalar.muli c2_i32_30 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v48 : BitVec 32 := Scalar.addi v47 v12
  let c0_i32_96 : BitVec 32 := 0#32
  let c0_i32_97 : BitVec 32 := 0#32
  ![v48.toNat, 0, 0]
def k0_dev5 (d0 : Dev nD) : Nat :=
  let c0_i32_91 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_90 : BitVec 32 := 4#32
  let v119 : BitVec 32 := Scalar.muli v2 c4_i32_90
  let v120 : BitVec 32 := Scalar.addi c0_i32_91 v119
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_92 : BitVec 32 := 2#32
  let v121 : BitVec 32 := Scalar.muli v12 c2_i32_92
  let v122 : BitVec 32 := Scalar.addi v120 v121
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_93 : BitVec 32 := 1#32
  let v123 : BitVec 32 := Scalar.muli v8 c1_i32_93
  let v124 : BitVec 32 := Scalar.addi v122 v123
  v124.toNat
def k0_off9 (d0 : Dev nD) : Fin 3 → Nat :=
  let c2_i32_31 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v49 : BitVec 32 := Scalar.muli c2_i32_31 v13
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v50 : BitVec 32 := Scalar.addi v49 v14
  let c0_i32_108 : BitVec 32 := 0#32
  let c0_i32_109 : BitVec 32 := 0#32
  ![v50.toNat, 0, 0]
def k0_dev6 (d0 : Dev nD) : Nat :=
  let c0_i32_103 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_102 : BitVec 32 := 4#32
  let v133 : BitVec 32 := Scalar.muli v13 c4_i32_102
  let v134 : BitVec 32 := Scalar.addi c0_i32_103 v133
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_104 : BitVec 32 := 2#32
  let v135 : BitVec 32 := Scalar.muli v14 c2_i32_104
  let v136 : BitVec 32 := Scalar.addi v134 v135
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_105 : BitVec 32 := 1#32
  let v137 : BitVec 32 := Scalar.muli v8 c1_i32_105
  let v138 : BitVec 32 := Scalar.addi v136 v137
  v138.toNat
def k0_off10 (d0 : Dev nD) : Fin 3 → Nat :=
  let c2_i32_32 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v51 : BitVec 32 := Scalar.muli c2_i32_32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v52 : BitVec 32 := Scalar.addi v51 v5
  let c0_i32_120 : BitVec 32 := 0#32
  let c0_i32_121 : BitVec 32 := 0#32
  ![v52.toNat, 0, 0]
def k0_dev7 (d0 : Dev nD) : Nat :=
  let c0_i32_115 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_114 : BitVec 32 := 4#32
  let v147 : BitVec 32 := Scalar.muli v11 c4_i32_114
  let v148 : BitVec 32 := Scalar.addi c0_i32_115 v147
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_116 : BitVec 32 := 2#32
  let v149 : BitVec 32 := Scalar.muli v5 c2_i32_116
  let v150 : BitVec 32 := Scalar.addi v148 v149
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_117 : BitVec 32 := 1#32
  let v151 : BitVec 32 := Scalar.muli v8 c1_i32_117
  let v152 : BitVec 32 := Scalar.addi v150 v151
  v152.toNat
def k0_off11 (d0 : Dev nD) : Fin 3 → Nat :=
  let c2_i32_33 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v53 : BitVec 32 := Scalar.muli c2_i32_33 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v54 : BitVec 32 := Scalar.addi v53 v12
  let c0_i32_132 : BitVec 32 := 0#32
  let c0_i32_133 : BitVec 32 := 0#32
  ![v54.toNat, 0, 0]
def k0_dev8 (d0 : Dev nD) : Nat :=
  let c0_i32_127 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_126 : BitVec 32 := 4#32
  let v161 : BitVec 32 := Scalar.muli v2 c4_i32_126
  let v162 : BitVec 32 := Scalar.addi c0_i32_127 v161
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_128 : BitVec 32 := 2#32
  let v163 : BitVec 32 := Scalar.muli v12 c2_i32_128
  let v164 : BitVec 32 := Scalar.addi v162 v163
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_129 : BitVec 32 := 1#32
  let v165 : BitVec 32 := Scalar.muli v8 c1_i32_129
  let v166 : BitVec 32 := Scalar.addi v164 v165
  v166.toNat
def k0_off12 (d0 : Dev nD) : Fin 3 → Nat :=
  let c2_i32_34 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v55 : BitVec 32 := Scalar.muli c2_i32_34 v13
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v56 : BitVec 32 := Scalar.addi v55 v14
  let c0_i32_144 : BitVec 32 := 0#32
  let c0_i32_145 : BitVec 32 := 0#32
  ![v56.toNat, 0, 0]
def k0_dev9 (d0 : Dev nD) : Nat :=
  let c0_i32_139 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_138 : BitVec 32 := 4#32
  let v175 : BitVec 32 := Scalar.muli v13 c4_i32_138
  let v176 : BitVec 32 := Scalar.addi c0_i32_139 v175
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_140 : BitVec 32 := 2#32
  let v177 : BitVec 32 := Scalar.muli v14 c2_i32_140
  let v178 : BitVec 32 := Scalar.addi v176 v177
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_141 : BitVec 32 := 1#32
  let v179 : BitVec 32 := Scalar.muli v8 c1_i32_141
  let v180 : BitVec 32 := Scalar.addi v178 v179
  v180.toNat
def k0_dev10 (d0 : Dev nD) : Nat :=
  let c0_i32_151 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_150 : BitVec 32 := 4#32
  let v189 : BitVec 32 := Scalar.muli v11 c4_i32_150
  let v190 : BitVec 32 := Scalar.addi c0_i32_151 v189
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_152 : BitVec 32 := 2#32
  let v191 : BitVec 32 := Scalar.muli v5 c2_i32_152
  let v192 : BitVec 32 := Scalar.addi v190 v191
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_153 : BitVec 32 := 1#32
  let v193 : BitVec 32 := Scalar.muli v8 c1_i32_153
  let v194 : BitVec 32 := Scalar.addi v192 v193
  v194.toNat
def k0_dev11 (d0 : Dev nD) : Nat :=
  let c0_i32_163 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_162 : BitVec 32 := 4#32
  let v203 : BitVec 32 := Scalar.muli v2 c4_i32_162
  let v204 : BitVec 32 := Scalar.addi c0_i32_163 v203
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_164 : BitVec 32 := 2#32
  let v205 : BitVec 32 := Scalar.muli v12 c2_i32_164
  let v206 : BitVec 32 := Scalar.addi v204 v205
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_165 : BitVec 32 := 1#32
  let v207 : BitVec 32 := Scalar.muli v8 c1_i32_165
  let v208 : BitVec 32 := Scalar.addi v206 v207
  v208.toNat
def k0_dev12 (d0 : Dev nD) : Nat :=
  let c0_i32_175 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_174 : BitVec 32 := 4#32
  let v217 : BitVec 32 := Scalar.muli v13 c4_i32_174
  let v218 : BitVec 32 := Scalar.addi c0_i32_175 v217
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_176 : BitVec 32 := 2#32
  let v219 : BitVec 32 := Scalar.muli v14 c2_i32_176
  let v220 : BitVec 32 := Scalar.addi v218 v219
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_177 : BitVec 32 := 1#32
  let v221 : BitVec 32 := Scalar.muli v8 c1_i32_177
  let v222 : BitVec 32 := Scalar.addi v220 v221
  v222.toNat
-- ==== ScatterChipsRefIdeal.lean ====
abbrev S16x1024x772 : Shape := ⟨3, ![16, 1024, 772]⟩
abbrev S16x256x1024 : Shape := ⟨3, ![16, 256, 1024]⟩
abbrev S16x1024x1024 : Shape := ⟨3, ![16, 1024, 1024]⟩
abbrev S4x4x1024x772 : Shape := ⟨4, ![4, 4, 1024, 772]⟩
abbrev S4x4x256x1024 : Shape := ⟨4, ![4, 4, 256, 1024]⟩
abbrev S4x4x1024x1024 : Shape := ⟨4, ![4, 4, 1024, 1024]⟩

abbrev nBuf : Space → Nat
  | .hbm => 16
  | .vmem => 0
  | .smem => 0
  | _ => 0

abbrev bufTy : (tb : Table) → Fin (tcTables nBuf tb) → BufTy
  | .hbm, ⟨0, _⟩ => ⟨S16x1024x772, .bf16⟩
  | .hbm, ⟨1, _⟩ => ⟨S16x256x1024, .bf16⟩
  | .hbm, ⟨2, _⟩ => ⟨S16x1024x1024, .bf16⟩
  | .hbm, ⟨3, _⟩ => ⟨S16x1024x1024, .bf16⟩
  | .hbm, ⟨4, _⟩ => ⟨S4x4x1024x772, .bf16⟩
  | .hbm, ⟨5, _⟩ => ⟨S4x4x1024x772, .bf16⟩
  | .hbm, ⟨6, _⟩ => ⟨S16x1024x772, .bf16⟩
  | .hbm, ⟨7, _⟩ => ⟨S4x4x256x1024, .bf16⟩
  | .hbm, ⟨8, _⟩ => ⟨S4x4x256x1024, .bf16⟩
  | .hbm, ⟨9, _⟩ => ⟨S16x256x1024, .bf16⟩
  | .hbm, ⟨10, _⟩ => ⟨S4x4x1024x1024, .bf16⟩
  | .hbm, ⟨11, _⟩ => ⟨S4x4x1024x1024, .bf16⟩
  | .hbm, ⟨12, _⟩ => ⟨S16x1024x1024, .bf16⟩
  | .hbm, ⟨13, _⟩ => ⟨S4x4x1024x1024, .bf16⟩
  | .hbm, ⟨14, _⟩ => ⟨S4x4x1024x1024, .bf16⟩
  | .hbm, ⟨15, _⟩ => ⟨S16x1024x1024, .bf16⟩
  | _, _ => ⟨S16x1024x772, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== GatherSmall.lean ====
abbrev S64x128 : Shape := ⟨2, ![64, 128]⟩
abbrev S8x64x128 : Shape := ⟨3, ![8, 64, 128]⟩
abbrev S7 : Shape := ⟨1, ![7]⟩
abbrev S_ : Shape := ⟨0, ![]⟩
abbrev S1x64x128 : Shape := ⟨3, ![1, 64, 128]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S64x128, .f32⟩
  | .hbm, ⟨1, _⟩ => ⟨S8x64x128, .f32⟩
  | _, _ => ⟨S64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_5 : BitVec 32 := 0#32
  ![v12.toNat, 0, 0]
def k0_dev1 (d0 : Dev nD) : Nat :=
  let c0_i32_35 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_34 : BitVec 32 := 4#32
  let v55 : BitVec 32 := Scalar.muli v2 c4_i32_34
  let v56 : BitVec 32 := Scalar.addi c0_i32_35 v55
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_36 : BitVec 32 := 2#32
  let v57 : BitVec 32 := Scalar.muli v5 c2_i32_36
  let v58 : BitVec 32 := Scalar.addi v56 v57
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_8 v8
  let c1_i32_37 : BitVec 32 := 1#32
  let v59 : BitVec 32 := Scalar.muli v19 c1_i32_37
  let v60 : BitVec 32 := Scalar.addi v58 v59
  v60.toNat
def k0_dev2 (d0 : Dev nD) : Nat :=
  let c0_i32_43 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_42 : BitVec 32 := 4#32
  let v67 : BitVec 32 := Scalar.muli v2 c4_i32_42
  let v68 : BitVec 32 := Scalar.addi c0_i32_43 v67
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v24 : BitVec 32 := Scalar.subi c1_i32_11 v5
  let c2_i32_44 : BitVec 32 := 2#32
  let v69 : BitVec 32 := Scalar.muli v24 c2_i32_44
  let v70 : BitVec 32 := Scalar.addi v68 v69
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_45 : BitVec 32 := 1#32
  let v71 : BitVec 32 := Scalar.muli v8 c1_i32_45
  let v72 : BitVec 32 := Scalar.addi v70 v71
  v72.toNat
def k0_dev3 (d0 : Dev nD) : Nat :=
  let c0_i32_51 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_50 : BitVec 32 := 4#32
  let v79 : BitVec 32 := Scalar.muli v2 c4_i32_50
  let v80 : BitVec 32 := Scalar.addi c0_i32_51 v79
  let c1_i32_14 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v29 : BitVec 32 := Scalar.subi c1_i32_14 v5
  let c2_i32_52 : BitVec 32 := 2#32
  let v81 : BitVec 32 := Scalar.muli v29 c2_i32_52
  let v82 : BitVec 32 := Scalar.addi v80 v81
  let c1_i32_15 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v30 : BitVec 32 := Scalar.subi c1_i32_15 v8
  let c1_i32_53 : BitVec 32 := 1#32
  let v83 : BitVec 32 := Scalar.muli v30 c1_i32_53
  let v84 : BitVec 32 := Scalar.addi v82 v83
  v84.toNat
def k0_dev4 (d0 : Dev nD) : Nat :=
  let c0_i32_58 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v35 : BitVec 32 := Scalar.subi c1_i32_18 v2
  let c4_i32_57 : BitVec 32 := 4#32
  let v91 : BitVec 32 := Scalar.muli v35 c4_i32_57
  let v92 : BitVec 32 := Scalar.addi c0_i32_58 v91
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_59 : BitVec 32 := 2#32
  let v93 : BitVec 32 := Scalar.muli v5 c2_i32_59
  let v94 : BitVec 32 := Scalar.addi v92 v93
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_60 : BitVec 32 := 1#32
  let v95 : BitVec 32 := Scalar.muli v8 c1_i32_60
  let v96 : BitVec 32 := Scalar.addi v94 v95
  v96.toNat
def k0_dev5 (d0 : Dev nD) : Nat :=
  let c0_i32_66 : BitVec 32 := 0#32
  let c1_i32_21 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v40 : BitVec 32 := Scalar.subi c1_i32_21 v2
  let c4_i32_65 : BitVec 32 := 4#32
  let v103 : BitVec 32 := Scalar.muli v40 c4_i32_65
  let v104 : BitVec 32 := Scalar.addi c0_i32_66 v103
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_67 : BitVec 32 := 2#32
  let v105 : BitVec 32 := Scalar.muli v5 c2_i32_67
  let v106 : BitVec 32 := Scalar.addi v104 v105
  let c1_i32_22 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v41 : BitVec 32 := Scalar.subi c1_i32_22 v8
  let c1_i32_68 : BitVec 32 := 1#32
  let v107 : BitVec 32 := Scalar.muli v41 c1_i32_68
  let v108 : BitVec 32 := Scalar.addi v106 v107
  v108.toNat
def k0_dev6 (d0 : Dev nD) : Nat :=
  let c0_i32_73 : BitVec 32 := 0#32
  let c1_i32_25 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v46 : BitVec 32 := Scalar.subi c1_i32_25 v2
  let c4_i32_72 : BitVec 32 := 4#32
  let v115 : BitVec 32 := Scalar.muli v46 c4_i32_72
  let v116 : BitVec 32 := Scalar.addi c0_i32_73 v115
  let c1_i32_26 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v47 : BitVec 32 := Scalar.subi c1_i32_26 v5
  let c2_i32_74 : BitVec 32 := 2#32
  let v117 : BitVec 32 := Scalar.muli v47 c2_i32_74
  let v118 : BitVec 32 := Scalar.addi v116 v117
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_75 : BitVec 32 := 1#32
  let v119 : BitVec 32 := Scalar.muli v8 c1_i32_75
  let v120 : BitVec 32 := Scalar.addi v118 v119
  v120.toNat
def k0_dev7 (d0 : Dev nD) : Nat :=
  let c0_i32_80 : BitVec 32 := 0#32
  let c1_i32_29 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v52 : BitVec 32 := Scalar.subi c1_i32_29 v2
  let c4_i32_79 : BitVec 32 := 4#32
  let v127 : BitVec 32 := Scalar.muli v52 c4_i32_79
  let v128 : BitVec 32 := Scalar.addi c0_i32_80 v127
  let c1_i32_30 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v53 : BitVec 32 := Scalar.subi c1_i32_30 v5
  let c2_i32_81 : BitVec 32 := 2#32
  let v129 : BitVec 32 := Scalar.muli v53 c2_i32_81
  let v130 : BitVec 32 := Scalar.addi v128 v129
  let c1_i32_31 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v54 : BitVec 32 := Scalar.subi c1_i32_31 v8
  let c1_i32_82 : BitVec 32 := 1#32
  let v131 : BitVec 32 := Scalar.muli v54 c1_i32_82
  let v132 : BitVec 32 := Scalar.addi v130 v131
  v132.toNat
def k0_off2 (d0 : Dev nD) : Fin 3 → Nat :=
  let c4_i32_86 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v140 : BitVec 32 := Scalar.muli c4_i32_86 v2
  let c2_i32_87 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v141 : BitVec 32 := Scalar.muli c2_i32_87 v5
  let v142 : BitVec 32 := Scalar.addi v140 v141
  let c1_i32_85 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v139 : BitVec 32 := Scalar.subi c1_i32_85 v8
  let v143 : BitVec 32 := Scalar.addi v142 v139
  let c0_i32_94 : BitVec 32 := 0#32
  let c0_i32_95 : BitVec 32 := 0#32
  ![v143.toNat, 0, 0]
def k0_off3 (d0 : Dev nD) : Fin 3 → Nat :=
  let c4_i32_97 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v155 : BitVec 32 := Scalar.muli c4_i32_97 v2
  let c2_i32_98 : BitVec 32 := 2#32
  let c1_i32_96 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v154 : BitVec 32 := Scalar.subi c1_i32_96 v5
  let v156 : BitVec 32 := Scalar.muli c2_i32_98 v154
  let v157 : BitVec 32 := Scalar.addi v155 v156
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v158 : BitVec 32 := Scalar.addi v157 v8
  let c0_i32_105 : BitVec 32 := 0#32
  let c0_i32_106 : BitVec 32 := 0#32
  ![v158.toNat, 0, 0]
def k0_off4 (d0 : Dev nD) : Fin 3 → Nat :=
  let c4_i32_109 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v171 : BitVec 32 := Scalar.muli c4_i32_109 v2
  let c2_i32_110 : BitVec 32 := 2#32
  let c1_i32_107 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v169 : BitVec 32 := Scalar.subi c1_i32_107 v5
  let v172 : BitVec 32 := Scalar.muli c2_i32_110 v169
  let v173 : BitVec 32 := Scalar.addi v171 v172
  let c1_i32_108 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v170 : BitVec 32 := Scalar.subi c1_i32_108 v8
  let v174 : BitVec 32 := Scalar.addi v173 v170
  let c0_i32_117 : BitVec 32 := 0#32
  let c0_i32_118 : BitVec 32 := 0#32
  ![v174.toNat, 0, 0]
def k0_off5 (d0 : Dev nD) : Fin 3 → Nat :=
  let c4_i32_120 : BitVec 32 := 4#32
  let c1_i32_119 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v185 : BitVec 32 := Scalar.subi c1_i32_119 v2
  let v186 : BitVec 32 := Scalar.muli c4_i32_120 v185
  let c2_i32_121 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v187 : BitVec 32 := Scalar.muli c2_i32_121 v5
  let v188 : BitVec 32 := Scalar.addi v186 v187
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v189 : BitVec 32 := Scalar.addi v188 v8
  let c0_i32_128 : BitVec 32 := 0#32
  let c0_i32_129 : BitVec 32 := 0#32
  ![v189.toNat, 0, 0]
def k0_off6 (d0 : Dev nD) : Fin 3 → Nat :=
  let c4_i32_132 : BitVec 32 := 4#32
  let c1_i32_130 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v200 : BitVec 32 := Scalar.subi c1_i32_130 v2
  let v202 : BitVec 32 := Scalar.muli c4_i32_132 v200
  let c2_i32_133 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v203 : BitVec 32 := Scalar.muli c2_i32_133 v5
  let v204 : BitVec 32 := Scalar.addi v202 v203
  let c1_i32_131 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v201 : BitVec 32 := Scalar.subi c1_i32_131 v8
  let v205 : BitVec 32 := Scalar.addi v204 v201
  let c0_i32_140 : BitVec 32 := 0#32
  let c0_i32_141 : BitVec 32 := 0#32
  ![v205.toNat, 0, 0]
def k0_off7 (d0 : Dev nD) : Fin 3 → Nat :=
  let c4_i32_144 : BitVec 32 := 4#32
  let c1_i32_142 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v216 : BitVec 32 := Scalar.subi c1_i32_142 v2
  let v218 : BitVec 32 := Scalar.muli c4_i32_144 v216
  let c2_i32_145 : BitVec 32 := 2#32
  let c1_i32_143 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v217 : BitVec 32 := Scalar.subi c1_i32_143 v5
  let v219 : BitVec 32 := Scalar.muli c2_i32_145 v217
  let v220 : BitVec 32 := Scalar.addi v218 v219
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v221 : BitVec 32 := Scalar.addi v220 v8
  let c0_i32_152 : BitVec 32 := 0#32
  let c0_i32_153 : BitVec 32 := 0#32
  ![v221.toNat, 0, 0]
def k0_off8 (d0 : Dev nD) : Fin 3 → Nat :=
  let c4_i32_157 : BitVec 32 := 4#32
  let c1_i32_154 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v232 : BitVec 32 := Scalar.subi c1_i32_154 v2
  let v235 : BitVec 32 := Scalar.muli c4_i32_157 v232
  let c2_i32_158 : BitVec 32 := 2#32
  let c1_i32_155 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v233 : BitVec 32 := Scalar.subi c1_i32_155 v5
  let v236 : BitVec 32 := Scalar.muli c2_i32_158 v233
  let v237 : BitVec 32 := Scalar.addi v235 v236
  let c1_i32_156 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v234 : BitVec 32 := Scalar.subi c1_i32_156 v8
  let v238 : BitVec 32 := Scalar.addi v237 v234
  let c0_i32_165 : BitVec 32 := 0#32
  let c0_i32_166 : BitVec 32 := 0#32
  ![v238.toNat, 0, 0]
-- ==== GatherSmallRefIdeal.lean ====
abbrev S512x128 : Shape := ⟨2, ![512, 128]⟩
abbrev S8x64x128 : Shape := ⟨3, ![8, 64, 128]⟩

abbrev nBuf : Space → Nat
  | .hbm => 2
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S8x64x128, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== GatherWeights.lean ====
abbrev S1024x772 : Shape := ⟨2, ![1024, 772]⟩
abbrev S256x1024 : Shape := ⟨2, ![256, 1024]⟩
abbrev S1024x1024 : Shape := ⟨2, ![1024, 1024]⟩
abbrev S16x64 : Shape := ⟨2, ![16, 64]⟩
abbrev S4x1024x772 : Shape := ⟨3, ![4, 1024, 772]⟩
abbrev S4x256x1024 : Shape := ⟨3, ![4, 256, 1024]⟩
abbrev S4x1024x1024 : Shape := ⟨3, ![4, 1024, 1024]⟩
abbrev S4x16x64 : Shape := ⟨3, ![4, 16, 64]⟩
abbrev S5x6 : Shape := ⟨2, ![5, 6]⟩
abbrev S5 : Shape := ⟨1, ![5]⟩
abbrev S1 : Shape := ⟨1, ![1]⟩
abbrev S_ : Shape := ⟨0, ![]⟩
abbrev S1x1024x772 : Shape := ⟨3, ![1, 1024, 772]⟩
abbrev S1x256x1024 : Shape := ⟨3, ![1, 256, 1024]⟩
abbrev S1x1024x1024 : Shape := ⟨3, ![1, 1024, 1024]⟩
abbrev S1x16x64 : Shape := ⟨3, ![1, 16, 64]⟩
abbrev S1x1 : Shape := ⟨2, ![1, 1]⟩
abbrev S1x512x772 : Shape := ⟨3, ![1, 512, 772]⟩
abbrev S512x772 : Shape := ⟨2, ![512, 772]⟩
abbrev S1x128x1024 : Shape := ⟨3, ![1, 128, 1024]⟩
abbrev S128x1024 : Shape := ⟨2, ![128, 1024]⟩
abbrev S1x512x1024 : Shape := ⟨3, ![1, 512, 1024]⟩
abbrev S512x1024 : Shape := ⟨2, ![512, 1024]⟩
abbrev S1x8x64 : Shape := ⟨3, ![1, 8, 64]⟩
abbrev S8x64 : Shape := ⟨2, ![8, 64]⟩

abbrev nBuf : Space → Nat
  | .hbm => 10
  | .vmem => 0
  | .smem => 0
  | _ => 0

abbrev bufTy : (tb : Table) → Fin (tcTables nBuf tb) → BufTy
  | .hbm, ⟨0, _⟩ => ⟨S1024x772, .bf16⟩
  | .hbm, ⟨1, _⟩ => ⟨S256x1024, .bf16⟩
  | .hbm, ⟨2, _⟩ => ⟨S1024x1024, .bf16⟩
  | .hbm, ⟨3, _⟩ => ⟨S1024x1024, .bf16⟩
  | .hbm, ⟨4, _⟩ => ⟨S16x64, .f32⟩
  | .hbm, ⟨5, _⟩ => ⟨S4x1024x772, .bf16⟩
  | .hbm, ⟨6, _⟩ => ⟨S4x256x1024, .bf16⟩
  | .hbm, ⟨7, _⟩ => ⟨S4x1024x1024, .bf16⟩
  | .hbm, ⟨8, _⟩ => ⟨S4x1024x1024, .bf16⟩
  | .hbm, ⟨9, _⟩ => ⟨S4x16x64, .f32⟩
  | _, _ => ⟨S1024x772, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩

abbrev nD : Nat := 8
abbrev τ : Topo := Topo.v7x

variable {F : FTy → Type} [FloatOps F]

abbrev grid0 : Pipeline.Grid := .none

def k0_off1 (d0 : Dev nD) : Fin 3 → Nat :=
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.addi v10 v5
  let c0_i32_9 : BitVec 32 := 0#32
  let c0_i32_10 : BitVec 32 := 0#32
  ![v11.toNat, 0, 0]
def k0_off2 (d0 : Dev nD) : Fin 3 → Nat :=
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.addi v10 v5
  let c0_i32_12 : BitVec 32 := 0#32
  let c0_i32_13 : BitVec 32 := 0#32
  ![v11.toNat, 0, 0]
def k0_off3 (d0 : Dev nD) : Fin 3 → Nat :=
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.addi v10 v5
  let c0_i32_15 : BitVec 32 := 0#32
  let c0_i32_16 : BitVec 32 := 0#32
  ![v11.toNat, 0, 0]
def k0_off4 (d0 : Dev nD) : Fin 3 → Nat :=
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.addi v10 v5
  let c0_i32_20 : BitVec 32 := 0#32
  let c0_i32_21 : BitVec 32 := 0#32
  ![v11.toNat, 0, 0]
def k0_off5 (d0 : Dev nD) : Fin 3 → Nat :=
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.addi v10 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_22 : BitVec 32 := 512#32
  let v37 : BitVec 32 := Scalar.muli v8 c512_i32_22
  let c0_i32_57 : BitVec 32 := 0#32
  ![v11.toNat, v37.toNat, 0]
def k0_off6 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32 : BitVec 32 := 512#32
  let v36 : BitVec 32 := Scalar.muli v8 c512_i32
  let c0_i32_58 : BitVec 32 := 0#32
  ![v36.toNat, 0]
def k0_dev1 (d0 : Dev nD) : Nat :=
  let c0_i32_54 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_53 : BitVec 32 := 4#32
  let v66 : BitVec 32 := Scalar.muli v12 c4_i32_53
  let v67 : BitVec 32 := Scalar.addi c0_i32_54 v66
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_55 : BitVec 32 := 2#32
  let v68 : BitVec 32 := Scalar.muli v5 c2_i32_55
  let v69 : BitVec 32 := Scalar.addi v67 v68
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_56 : BitVec 32 := 1#32
  let v70 : BitVec 32 := Scalar.muli v8 c1_i32_56
  let v71 : BitVec 32 := Scalar.addi v69 v70
  v71.toNat
def k0_dev2 (d0 : Dev nD) : Nat :=
  let c0_i32_64 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_63 : BitVec 32 := 4#32
  let v79 : BitVec 32 := Scalar.muli v2 c4_i32_63
  let v80 : BitVec 32 := Scalar.addi c0_i32_64 v79
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_65 : BitVec 32 := 2#32
  let v81 : BitVec 32 := Scalar.muli v13 c2_i32_65
  let v82 : BitVec 32 := Scalar.addi v80 v81
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_66 : BitVec 32 := 1#32
  let v83 : BitVec 32 := Scalar.muli v8 c1_i32_66
  let v84 : BitVec 32 := Scalar.addi v82 v83
  v84.toNat
def k0_dev3 (d0 : Dev nD) : Nat :=
  let c0_i32_74 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let c4_i32_73 : BitVec 32 := 4#32
  let v92 : BitVec 32 := Scalar.muli v14 c4_i32_73
  let v93 : BitVec 32 := Scalar.addi c0_i32_74 v92
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let c2_i32_75 : BitVec 32 := 2#32
  let v94 : BitVec 32 := Scalar.muli v15 c2_i32_75
  let v95 : BitVec 32 := Scalar.addi v93 v94
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_76 : BitVec 32 := 1#32
  let v96 : BitVec 32 := Scalar.muli v8 c1_i32_76
  let v97 : BitVec 32 := Scalar.addi v95 v96
  v97.toNat
def k0_off7 (d0 : Dev nD) : Fin 3 → Nat :=
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.addi v10 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_27 : BitVec 32 := 128#32
  let v43 : BitVec 32 := Scalar.muli v8 c128_i32_27
  let c0_i32_87 : BitVec 32 := 0#32
  ![v11.toNat, v43.toNat, 0]
def k0_off8 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32 : BitVec 32 := 128#32
  let v42 : BitVec 32 := Scalar.muli v8 c128_i32
  let c0_i32_88 : BitVec 32 := 0#32
  ![v42.toNat, 0]
def k0_dev4 (d0 : Dev nD) : Nat :=
  let c0_i32_84 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_83 : BitVec 32 := 4#32
  let v105 : BitVec 32 := Scalar.muli v12 c4_i32_83
  let v106 : BitVec 32 := Scalar.addi c0_i32_84 v105
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_85 : BitVec 32 := 2#32
  let v107 : BitVec 32 := Scalar.muli v5 c2_i32_85
  let v108 : BitVec 32 := Scalar.addi v106 v107
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_86 : BitVec 32 := 1#32
  let v109 : BitVec 32 := Scalar.muli v8 c1_i32_86
  let v110 : BitVec 32 := Scalar.addi v108 v109
  v110.toNat
def k0_dev5 (d0 : Dev nD) : Nat :=
  let c0_i32_94 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_93 : BitVec 32 := 4#32
  let v118 : BitVec 32 := Scalar.muli v2 c4_i32_93
  let v119 : BitVec 32 := Scalar.addi c0_i32_94 v118
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_95 : BitVec 32 := 2#32
  let v120 : BitVec 32 := Scalar.muli v13 c2_i32_95
  let v121 : BitVec 32 := Scalar.addi v119 v120
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_96 : BitVec 32 := 1#32
  let v122 : BitVec 32 := Scalar.muli v8 c1_i32_96
  let v123 : BitVec 32 := Scalar.addi v121 v122
  v123.toNat
def k0_dev6 (d0 : Dev nD) : Nat :=
  let c0_i32_104 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let c4_i32_103 : BitVec 32 := 4#32
  let v131 : BitVec 32 := Scalar.muli v14 c4_i32_103
  let v132 : BitVec 32 := Scalar.addi c0_i32_104 v131
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let c2_i32_105 : BitVec 32 := 2#32
  let v133 : BitVec 32 := Scalar.muli v15 c2_i32_105
  let v134 : BitVec 32 := Scalar.addi v132 v133
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_106 : BitVec 32 := 1#32
  let v135 : BitVec 32 := Scalar.muli v8 c1_i32_106
  let v136 : BitVec 32 := Scalar.addi v134 v135
  v136.toNat
def k0_off9 (d0 : Dev nD) : Fin 3 → Nat :=
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.addi v10 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_33 : BitVec 32 := 512#32
  let v49 : BitVec 32 := Scalar.muli v8 c512_i32_33
  let c0_i32_117 : BitVec 32 := 0#32
  ![v11.toNat, v49.toNat, 0]
def k0_off10 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_32 : BitVec 32 := 512#32
  let v48 : BitVec 32 := Scalar.muli v8 c512_i32_32
  let c0_i32_118 : BitVec 32 := 0#32
  ![v48.toNat, 0]
def k0_dev7 (d0 : Dev nD) : Nat :=
  let c0_i32_114 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_113 : BitVec 32 := 4#32
  let v144 : BitVec 32 := Scalar.muli v12 c4_i32_113
  let v145 : BitVec 32 := Scalar.addi c0_i32_114 v144
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_115 : BitVec 32 := 2#32
  let v146 : BitVec 32 := Scalar.muli v5 c2_i32_115
  let v147 : BitVec 32 := Scalar.addi v145 v146
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_116 : BitVec 32 := 1#32
  let v148 : BitVec 32 := Scalar.muli v8 c1_i32_116
  let v149 : BitVec 32 := Scalar.addi v147 v148
  v149.toNat
def k0_dev8 (d0 : Dev nD) : Nat :=
  let c0_i32_124 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_123 : BitVec 32 := 4#32
  let v157 : BitVec 32 := Scalar.muli v2 c4_i32_123
  let v158 : BitVec 32 := Scalar.addi c0_i32_124 v157
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_125 : BitVec 32 := 2#32
  let v159 : BitVec 32 := Scalar.muli v13 c2_i32_125
  let v160 : BitVec 32 := Scalar.addi v158 v159
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_126 : BitVec 32 := 1#32
  let v161 : BitVec 32 := Scalar.muli v8 c1_i32_126
  let v162 : BitVec 32 := Scalar.addi v160 v161
  v162.toNat
def k0_dev9 (d0 : Dev nD) : Nat :=
  let c0_i32_134 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let c4_i32_133 : BitVec 32 := 4#32
  let v170 : BitVec 32 := Scalar.muli v14 c4_i32_133
  let v171 : BitVec 32 := Scalar.addi c0_i32_134 v170
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let c2_i32_135 : BitVec 32 := 2#32
  let v172 : BitVec 32 := Scalar.muli v15 c2_i32_135
  let v173 : BitVec 32 := Scalar.addi v171 v172
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_136 : BitVec 32 := 1#32
  let v174 : BitVec 32 := Scalar.muli v8 c1_i32_136
  let v175 : BitVec 32 := Scalar.addi v173 v174
  v175.toNat
def k0_dev10 (d0 : Dev nD) : Nat :=
  let c0_i32_144 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_143 : BitVec 32 := 4#32
  let v183 : BitVec 32 := Scalar.muli v12 c4_i32_143
  let v184 : BitVec 32 := Scalar.addi c0_i32_144 v183
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_145 : BitVec 32 := 2#32
  let v185 : BitVec 32 := Scalar.muli v5 c2_i32_145
  let v186 : BitVec 32 := Scalar.addi v184 v185
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_146 : BitVec 32 := 1#32
  let v187 : BitVec 32 := Scalar.muli v8 c1_i32_146
  let v188 : BitVec 32 := Scalar.addi v186 v187
  v188.toNat
def k0_dev11 (d0 : Dev nD) : Nat :=
  let c0_i32_154 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_153 : BitVec 32 := 4#32
  let v196 : BitVec 32 := Scalar.muli v2 c4_i32_153
  let v197 : BitVec 32 := Scalar.addi c0_i32_154 v196
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_155 : BitVec 32 := 2#32
  let v198 : BitVec 32 := Scalar.muli v13 c2_i32_155
  let v199 : BitVec 32 := Scalar.addi v197 v198
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_156 : BitVec 32 := 1#32
  let v200 : BitVec 32 := Scalar.muli v8 c1_i32_156
  let v201 : BitVec 32 := Scalar.addi v199 v200
  v201.toNat
def k0_dev12 (d0 : Dev nD) : Nat :=
  let c0_i32_164 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let c4_i32_163 : BitVec 32 := 4#32
  let v209 : BitVec 32 := Scalar.muli v14 c4_i32_163
  let v210 : BitVec 32 := Scalar.addi c0_i32_164 v209
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let c2_i32_165 : BitVec 32 := 2#32
  let v211 : BitVec 32 := Scalar.muli v15 c2_i32_165
  let v212 : BitVec 32 := Scalar.addi v210 v211
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_166 : BitVec 32 := 1#32
  let v213 : BitVec 32 := Scalar.muli v8 c1_i32_166
  let v214 : BitVec 32 := Scalar.addi v212 v213
  v214.toNat
def k0_off11 (d0 : Dev nD) : Fin 3 → Nat :=
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.muli c2_i32_4 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.addi v10 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c8_i32_44 : BitVec 32 := 8#32
  let v61 : BitVec 32 := Scalar.muli v8 c8_i32_44
  let c0_i32_177 : BitVec 32 := 0#32
  ![v11.toNat, v61.toNat, 0]
def k0_off12 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c8_i32 : BitVec 32 := 8#32
  let v60 : BitVec 32 := Scalar.muli v8 c8_i32
  let c0_i32_178 : BitVec 32 := 0#32
  ![v60.toNat, 0]
def k0_dev13 (d0 : Dev nD) : Nat :=
  let c0_i32_174 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_173 : BitVec 32 := 4#32
  let v222 : BitVec 32 := Scalar.muli v12 c4_i32_173
  let v223 : BitVec 32 := Scalar.addi c0_i32_174 v222
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_175 : BitVec 32 := 2#32
  let v224 : BitVec 32 := Scalar.muli v5 c2_i32_175
  let v225 : BitVec 32 := Scalar.addi v223 v224
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_176 : BitVec 32 := 1#32
  let v226 : BitVec 32 := Scalar.muli v8 c1_i32_176
  let v227 : BitVec 32 := Scalar.addi v225 v226
  v227.toNat
def k0_dev14 (d0 : Dev nD) : Nat :=
  let c0_i32_184 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_183 : BitVec 32 := 4#32
  let v235 : BitVec 32 := Scalar.muli v2 c4_i32_183
  let v236 : BitVec 32 := Scalar.addi c0_i32_184 v235
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_185 : BitVec 32 := 2#32
  let v237 : BitVec 32 := Scalar.muli v13 c2_i32_185
  let v238 : BitVec 32 := Scalar.addi v236 v237
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_186 : BitVec 32 := 1#32
  let v239 : BitVec 32 := Scalar.muli v8 c1_i32_186
  let v240 : BitVec 32 := Scalar.addi v238 v239
  v240.toNat
def k0_dev15 (d0 : Dev nD) : Nat :=
  let c0_i32_194 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let c4_i32_193 : BitVec 32 := 4#32
  let v248 : BitVec 32 := Scalar.muli v14 c4_i32_193
  let v249 : BitVec 32 := Scalar.addi c0_i32_194 v248
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let c2_i32_195 : BitVec 32 := 2#32
  let v250 : BitVec 32 := Scalar.muli v15 c2_i32_195
  let v251 : BitVec 32 := Scalar.addi v249 v250
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_196 : BitVec 32 := 1#32
  let v252 : BitVec 32 := Scalar.muli v8 c1_i32_196
  let v253 : BitVec 32 := Scalar.addi v251 v252
  v253.toNat
def k0_off13 (d0 : Dev nD) : Fin 3 → Nat :=
  let c2_i32_199 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v261 : BitVec 32 := Scalar.muli c2_i32_199 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v262 : BitVec 32 := Scalar.addi v261 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_201 : BitVec 32 := 512#32
  let v264 : BitVec 32 := Scalar.muli v8 c512_i32_201
  let c0_i32_210 : BitVec 32 := 0#32
  ![v262.toNat, v264.toNat, 0]
def k0_dev16 (d0 : Dev nD) : Nat :=
  let c0_i32_220 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_219 : BitVec 32 := 4#32
  let v281 : BitVec 32 := Scalar.muli v2 c4_i32_219
  let v282 : BitVec 32 := Scalar.addi c0_i32_220 v281
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_221 : BitVec 32 := 2#32
  let v283 : BitVec 32 := Scalar.muli v5 c2_i32_221
  let v284 : BitVec 32 := Scalar.addi v282 v283
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_222 : BitVec 32 := 1#32
  let v285 : BitVec 32 := Scalar.muli v9 c1_i32_222
  let v286 : BitVec 32 := Scalar.addi v284 v285
  v286.toNat
def k0_off14 (d0 : Dev nD) : Fin 3 → Nat :=
  let c2_i32_225 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v295 : BitVec 32 := Scalar.muli c2_i32_225 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v296 : BitVec 32 := Scalar.addi v295 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_227 : BitVec 32 := 512#32
  let v298 : BitVec 32 := Scalar.muli v8 c512_i32_227
  let c0_i32_236 : BitVec 32 := 0#32
  ![v296.toNat, v298.toNat, 0]
def k0_dev17 (d0 : Dev nD) : Nat :=
  let c0_i32_246 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_245 : BitVec 32 := 4#32
  let v315 : BitVec 32 := Scalar.muli v2 c4_i32_245
  let v316 : BitVec 32 := Scalar.addi c0_i32_246 v315
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_247 : BitVec 32 := 2#32
  let v317 : BitVec 32 := Scalar.muli v5 c2_i32_247
  let v318 : BitVec 32 := Scalar.addi v316 v317
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_248 : BitVec 32 := 1#32
  let v319 : BitVec 32 := Scalar.muli v9 c1_i32_248
  let v320 : BitVec 32 := Scalar.addi v318 v319
  v320.toNat
def k0_off15 (d0 : Dev nD) : Fin 3 → Nat :=
  let c2_i32_251 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v329 : BitVec 32 := Scalar.muli c2_i32_251 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v330 : BitVec 32 := Scalar.addi v329 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_253 : BitVec 32 := 512#32
  let v332 : BitVec 32 := Scalar.muli v8 c512_i32_253
  let c0_i32_262 : BitVec 32 := 0#32
  ![v330.toNat, v332.toNat, 0]
def k0_dev18 (d0 : Dev nD) : Nat :=
  let c0_i32_271 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_270 : BitVec 32 := 4#32
  let v349 : BitVec 32 := Scalar.muli v2 c4_i32_270
  let v350 : BitVec 32 := Scalar.addi c0_i32_271 v349
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_272 : BitVec 32 := 2#32
  let v351 : BitVec 32 := Scalar.muli v5 c2_i32_272
  let v352 : BitVec 32 := Scalar.addi v350 v351
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_273 : BitVec 32 := 1#32
  let v353 : BitVec 32 := Scalar.muli v9 c1_i32_273
  let v354 : BitVec 32 := Scalar.addi v352 v353
  v354.toNat
def k0_off16 (d0 : Dev nD) : Fin 3 → Nat :=
  let c2_i32_276 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v363 : BitVec 32 := Scalar.muli c2_i32_276 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v364 : BitVec 32 := Scalar.addi v363 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_278 : BitVec 32 := 128#32
  let v366 : BitVec 32 := Scalar.muli v8 c128_i32_278
  let c0_i32_287 : BitVec 32 := 0#32
  ![v364.toNat, v366.toNat, 0]
def k0_dev19 (d0 : Dev nD) : Nat :=
  let c0_i32_297 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_296 : BitVec 32 := 4#32
  let v383 : BitVec 32 := Scalar.muli v2 c4_i32_296
  let v384 : BitVec 32 := Scalar.addi c0_i32_297 v383
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_298 : BitVec 32 := 2#32
  let v385 : BitVec 32 := Scalar.muli v5 c2_i32_298
  let v386 : BitVec 32 := Scalar.addi v384 v385
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_299 : BitVec 32 := 1#32
  let v387 : BitVec 32 := Scalar.muli v9 c1_i32_299
  let v388 : BitVec 32 := Scalar.addi v386 v387
  v388.toNat
def k0_off17 (d0 : Dev nD) : Fin 3 → Nat :=
  let c2_i32_302 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v397 : BitVec 32 := Scalar.muli c2_i32_302 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v398 : BitVec 32 := Scalar.addi v397 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_304 : BitVec 32 := 128#32
  let v400 : BitVec 32 := Scalar.muli v8 c128_i32_304
  let c0_i32_313 : BitVec 32 := 0#32
  ![v398.toNat, v400.toNat, 0]
def k0_dev20 (d0 : Dev nD) : Nat :=
  let c0_i32_323 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_322 : BitVec 32 := 4#32
  let v417 : BitVec 32 := Scalar.muli v2 c4_i32_322
  let v418 : BitVec 32 := Scalar.addi c0_i32_323 v417
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_324 : BitVec 32 := 2#32
  let v419 : BitVec 32 := Scalar.muli v5 c2_i32_324
  let v420 : BitVec 32 := Scalar.addi v418 v419
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_325 : BitVec 32 := 1#32
  let v421 : BitVec 32 := Scalar.muli v9 c1_i32_325
  let v422 : BitVec 32 := Scalar.addi v420 v421
  v422.toNat
def k0_off18 (d0 : Dev nD) : Fin 3 → Nat :=
  let c2_i32_328 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v431 : BitVec 32 := Scalar.muli c2_i32_328 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v432 : BitVec 32 := Scalar.addi v431 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_330 : BitVec 32 := 128#32
  let v434 : BitVec 32 := Scalar.muli v8 c128_i32_330
  let c0_i32_339 : BitVec 32 := 0#32
  ![v432.toNat, v434.toNat, 0]
def k0_dev21 (d0 : Dev nD) : Nat :=
  let c0_i32_349 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_348 : BitVec 32 := 4#32
  let v451 : BitVec 32 := Scalar.muli v2 c4_i32_348
  let v452 : BitVec 32 := Scalar.addi c0_i32_349 v451
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_350 : BitVec 32 := 2#32
  let v453 : BitVec 32 := Scalar.muli v5 c2_i32_350
  let v454 : BitVec 32 := Scalar.addi v452 v453
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_351 : BitVec 32 := 1#32
  let v455 : BitVec 32 := Scalar.muli v9 c1_i32_351
  let v456 : BitVec 32 := Scalar.addi v454 v455
  v456.toNat
def k0_off19 (d0 : Dev nD) : Fin 3 → Nat :=
  let c2_i32_354 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v465 : BitVec 32 := Scalar.muli c2_i32_354 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v466 : BitVec 32 := Scalar.addi v465 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_356 : BitVec 32 := 512#32
  let v468 : BitVec 32 := Scalar.muli v8 c512_i32_356
  let c0_i32_365 : BitVec 32 := 0#32
  ![v466.toNat, v468.toNat, 0]
def k0_dev22 (d0 : Dev nD) : Nat :=
  let c0_i32_375 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_374 : BitVec 32 := 4#32
  let v485 : BitVec 32 := Scalar.muli v2 c4_i32_374
  let v486 : BitVec 32 := Scalar.addi c0_i32_375 v485
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_376 : BitVec 32 := 2#32
  let v487 : BitVec 32 := Scalar.muli v5 c2_i32_376
  let v488 : BitVec 32 := Scalar.addi v486 v487
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_377 : BitVec 32 := 1#32
  let v489 : BitVec 32 := Scalar.muli v9 c1_i32_377
  let v490 : BitVec 32 := Scalar.addi v488 v489
  v490.toNat
def k0_off20 (d0 : Dev nD) : Fin 3 → Nat :=
  let c2_i32_380 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v499 : BitVec 32 := Scalar.muli c2_i32_380 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v500 : BitVec 32 := Scalar.addi v499 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_382 : BitVec 32 := 512#32
  let v502 : BitVec 32 := Scalar.muli v8 c512_i32_382
  let c0_i32_391 : BitVec 32 := 0#32
  ![v500.toNat, v502.toNat, 0]
def k0_dev23 (d0 : Dev nD) : Nat :=
  let c0_i32_401 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_400 : BitVec 32 := 4#32
  let v519 : BitVec 32 := Scalar.muli v2 c4_i32_400
  let v520 : BitVec 32 := Scalar.addi c0_i32_401 v519
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_402 : BitVec 32 := 2#32
  let v521 : BitVec 32 := Scalar.muli v5 c2_i32_402
  let v522 : BitVec 32 := Scalar.addi v520 v521
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_403 : BitVec 32 := 1#32
  let v523 : BitVec 32 := Scalar.muli v9 c1_i32_403
  let v524 : BitVec 32 := Scalar.addi v522 v523
  v524.toNat
def k0_off21 (d0 : Dev nD) : Fin 3 → Nat :=
  let c2_i32_406 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v533 : BitVec 32 := Scalar.muli c2_i32_406 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v534 : BitVec 32 := Scalar.addi v533 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_408 : BitVec 32 := 512#32
  let v536 : BitVec 32 := Scalar.muli v8 c512_i32_408
  let c0_i32_417 : BitVec 32 := 0#32
  ![v534.toNat, v536.toNat, 0]
def k0_dev24 (d0 : Dev nD) : Nat :=
  let c0_i32_427 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_426 : BitVec 32 := 4#32
  let v553 : BitVec 32 := Scalar.muli v2 c4_i32_426
  let v554 : BitVec 32 := Scalar.addi c0_i32_427 v553
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_428 : BitVec 32 := 2#32
  let v555 : BitVec 32 := Scalar.muli v5 c2_i32_428
  let v556 : BitVec 32 := Scalar.addi v554 v555
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_429 : BitVec 32 := 1#32
  let v557 : BitVec 32 := Scalar.muli v9 c1_i32_429
  let v558 : BitVec 32 := Scalar.addi v556 v557
  v558.toNat
def k0_dev25 (d0 : Dev nD) : Nat :=
  let c0_i32_453 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_452 : BitVec 32 := 4#32
  let v587 : BitVec 32 := Scalar.muli v2 c4_i32_452
  let v588 : BitVec 32 := Scalar.addi c0_i32_453 v587
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_454 : BitVec 32 := 2#32
  let v589 : BitVec 32 := Scalar.muli v5 c2_i32_454
  let v590 : BitVec 32 := Scalar.addi v588 v589
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_455 : BitVec 32 := 1#32
  let v591 : BitVec 32 := Scalar.muli v9 c1_i32_455
  let v592 : BitVec 32 := Scalar.addi v590 v591
  v592.toNat
def k0_dev26 (d0 : Dev nD) : Nat :=
  let c0_i32_479 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_478 : BitVec 32 := 4#32
  let v621 : BitVec 32 := Scalar.muli v2 c4_i32_478
  let v622 : BitVec 32 := Scalar.addi c0_i32_479 v621
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_480 : BitVec 32 := 2#32
  let v623 : BitVec 32 := Scalar.muli v5 c2_i32_480
  let v624 : BitVec 32 := Scalar.addi v622 v623
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_481 : BitVec 32 := 1#32
  let v625 : BitVec 32 := Scalar.muli v9 c1_i32_481
  let v626 : BitVec 32 := Scalar.addi v624 v625
  v626.toNat
def k0_dev27 (d0 : Dev nD) : Nat :=
  let c0_i32_505 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_504 : BitVec 32 := 4#32
  let v655 : BitVec 32 := Scalar.muli v2 c4_i32_504
  let v656 : BitVec 32 := Scalar.addi c0_i32_505 v655
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_506 : BitVec 32 := 2#32
  let v657 : BitVec 32 := Scalar.muli v5 c2_i32_506
  let v658 : BitVec 32 := Scalar.addi v656 v657
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_507 : BitVec 32 := 1#32
  let v659 : BitVec 32 := Scalar.muli v9 c1_i32_507
  let v660 : BitVec 32 := Scalar.addi v658 v659
  v660.toNat
def k0_off22 (d0 : Dev nD) : Fin 3 → Nat :=
  let c2_i32_510 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v669 : BitVec 32 := Scalar.muli c2_i32_510 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v670 : BitVec 32 := Scalar.addi v669 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c8_i32_512 : BitVec 32 := 8#32
  let v672 : BitVec 32 := Scalar.muli v8 c8_i32_512
  let c0_i32_521 : BitVec 32 := 0#32
  ![v670.toNat, v672.toNat, 0]
def k0_dev28 (d0 : Dev nD) : Nat :=
  let c0_i32_531 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_530 : BitVec 32 := 4#32
  let v689 : BitVec 32 := Scalar.muli v2 c4_i32_530
  let v690 : BitVec 32 := Scalar.addi c0_i32_531 v689
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_532 : BitVec 32 := 2#32
  let v691 : BitVec 32 := Scalar.muli v5 c2_i32_532
  let v692 : BitVec 32 := Scalar.addi v690 v691
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_533 : BitVec 32 := 1#32
  let v693 : BitVec 32 := Scalar.muli v9 c1_i32_533
  let v694 : BitVec 32 := Scalar.addi v692 v693
  v694.toNat
def k0_off23 (d0 : Dev nD) : Fin 3 → Nat :=
  let c2_i32_536 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v703 : BitVec 32 := Scalar.muli c2_i32_536 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v704 : BitVec 32 := Scalar.addi v703 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c8_i32_538 : BitVec 32 := 8#32
  let v706 : BitVec 32 := Scalar.muli v8 c8_i32_538
  let c0_i32_547 : BitVec 32 := 0#32
  ![v704.toNat, v706.toNat, 0]
def k0_dev29 (d0 : Dev nD) : Nat :=
  let c0_i32_557 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_556 : BitVec 32 := 4#32
  let v723 : BitVec 32 := Scalar.muli v2 c4_i32_556
  let v724 : BitVec 32 := Scalar.addi c0_i32_557 v723
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_558 : BitVec 32 := 2#32
  let v725 : BitVec 32 := Scalar.muli v5 c2_i32_558
  let v726 : BitVec 32 := Scalar.addi v724 v725
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_559 : BitVec 32 := 1#32
  let v727 : BitVec 32 := Scalar.muli v9 c1_i32_559
  let v728 : BitVec 32 := Scalar.addi v726 v727
  v728.toNat
def k0_off24 (d0 : Dev nD) : Fin 3 → Nat :=
  let c2_i32_562 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v737 : BitVec 32 := Scalar.muli c2_i32_562 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v738 : BitVec 32 := Scalar.addi v737 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c8_i32_564 : BitVec 32 := 8#32
  let v740 : BitVec 32 := Scalar.muli v8 c8_i32_564
  let c0_i32_573 : BitVec 32 := 0#32
  ![v738.toNat, v740.toNat, 0]
def k0_dev30 (d0 : Dev nD) : Nat :=
  let c0_i32_583 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_582 : BitVec 32 := 4#32
  let v757 : BitVec 32 := Scalar.muli v2 c4_i32_582
  let v758 : BitVec 32 := Scalar.addi c0_i32_583 v757
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_584 : BitVec 32 := 2#32
  let v759 : BitVec 32 := Scalar.muli v5 c2_i32_584
  let v760 : BitVec 32 := Scalar.addi v758 v759
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_585 : BitVec 32 := 1#32
  let v761 : BitVec 32 := Scalar.muli v9 c1_i32_585
  let v762 : BitVec 32 := Scalar.addi v760 v761
  v762.toNat
def k0_off25 (d0 : Dev nD) : Fin 3 → Nat :=
  let c2_i32_588 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v771 : BitVec 32 := Scalar.muli c2_i32_588 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v772 : BitVec 32 := Scalar.addi v771 v5
  let c1_i32_589 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v773 : BitVec 32 := Scalar.subi c1_i32_589 v8
  let c512_i32_591 : BitVec 32 := 512#32
  let v775 : BitVec 32 := Scalar.muli v773 c512_i32_591
  let c0_i32_600 : BitVec 32 := 0#32
  ![v772.toNat, v775.toNat, 0]
def k0_off26 (d0 : Dev nD) : Fin 3 → Nat :=
  let c2_i32_602 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v788 : BitVec 32 := Scalar.muli c2_i32_602 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v789 : BitVec 32 := Scalar.addi v788 v13
  let c1_i32_603 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v790 : BitVec 32 := Scalar.subi c1_i32_603 v8
  let c512_i32_605 : BitVec 32 := 512#32
  let v792 : BitVec 32 := Scalar.muli v790 c512_i32_605
  let c0_i32_614 : BitVec 32 := 0#32
  ![v789.toNat, v792.toNat, 0]
def k0_off27 (d0 : Dev nD) : Fin 3 → Nat :=
  let c2_i32_616 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v805 : BitVec 32 := Scalar.muli c2_i32_616 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v806 : BitVec 32 := Scalar.addi v805 v15
  let c1_i32_617 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v807 : BitVec 32 := Scalar.subi c1_i32_617 v8
  let c512_i32_619 : BitVec 32 := 512#32
  let v809 : BitVec 32 := Scalar.muli v807 c512_i32_619
  let c0_i32_628 : BitVec 32 := 0#32
  ![v806.toNat, v809.toNat, 0]
def k0_off28 (d0 : Dev nD) : Fin 3 → Nat :=
  let c2_i32_630 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v822 : BitVec 32 := Scalar.muli c2_i32_630 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v823 : BitVec 32 := Scalar.addi v822 v5
  let c1_i32_631 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v824 : BitVec 32 := Scalar.subi c1_i32_631 v8
  let c128_i32_633 : BitVec 32 := 128#32
  let v826 : BitVec 32 := Scalar.muli v824 c128_i32_633
  let c0_i32_642 : BitVec 32 := 0#32
  ![v823.toNat, v826.toNat, 0]
def k0_off29 (d0 : Dev nD) : Fin 3 → Nat :=
  let c2_i32_644 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v839 : BitVec 32 := Scalar.muli c2_i32_644 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v840 : BitVec 32 := Scalar.addi v839 v13
  let c1_i32_645 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v841 : BitVec 32 := Scalar.subi c1_i32_645 v8
  let c128_i32_647 : BitVec 32 := 128#32
  let v843 : BitVec 32 := Scalar.muli v841 c128_i32_647
  let c0_i32_656 : BitVec 32 := 0#32
  ![v840.toNat, v843.toNat, 0]
def k0_off30 (d0 : Dev nD) : Fin 3 → Nat :=
  let c2_i32_658 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v856 : BitVec 32 := Scalar.muli c2_i32_658 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v857 : BitVec 32 := Scalar.addi v856 v15
  let c1_i32_659 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v858 : BitVec 32 := Scalar.subi c1_i32_659 v8
  let c128_i32_661 : BitVec 32 := 128#32
  let v860 : BitVec 32 := Scalar.muli v858 c128_i32_661
  let c0_i32_670 : BitVec 32 := 0#32
  ![v857.toNat, v860.toNat, 0]
def k0_off31 (d0 : Dev nD) : Fin 3 → Nat :=
  let c2_i32_672 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v873 : BitVec 32 := Scalar.muli c2_i32_672 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v874 : BitVec 32 := Scalar.addi v873 v5
  let c1_i32_673 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v875 : BitVec 32 := Scalar.subi c1_i32_673 v8
  let c512_i32_675 : BitVec 32 := 512#32
  let v877 : BitVec 32 := Scalar.muli v875 c512_i32_675
  let c0_i32_684 : BitVec 32 := 0#32
  ![v874.toNat, v877.toNat, 0]
def k0_off32 (d0 : Dev nD) : Fin 3 → Nat :=
  let c2_i32_686 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v890 : BitVec 32 := Scalar.muli c2_i32_686 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v891 : BitVec 32 := Scalar.addi v890 v13
  let c1_i32_687 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v892 : BitVec 32 := Scalar.subi c1_i32_687 v8
  let c512_i32_689 : BitVec 32 := 512#32
  let v894 : BitVec 32 := Scalar.muli v892 c512_i32_689
  let c0_i32_698 : BitVec 32 := 0#32
  ![v891.toNat, v894.toNat, 0]
def k0_off33 (d0 : Dev nD) : Fin 3 → Nat :=
  let c2_i32_700 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v907 : BitVec 32 := Scalar.muli c2_i32_700 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v908 : BitVec 32 := Scalar.addi v907 v15
  let c1_i32_701 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v909 : BitVec 32 := Scalar.subi c1_i32_701 v8
  let c512_i32_703 : BitVec 32 := 512#32
  let v911 : BitVec 32 := Scalar.muli v909 c512_i32_703
  let c0_i32_712 : BitVec 32 := 0#32
  ![v908.toNat, v911.toNat, 0]
def k0_off34 (d0 : Dev nD) : Fin 3 → Nat :=
  let c2_i32_756 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v975 : BitVec 32 := Scalar.muli c2_i32_756 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v976 : BitVec 32 := Scalar.addi v975 v5
  let c1_i32_757 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v977 : BitVec 32 := Scalar.subi c1_i32_757 v8
  let c8_i32_759 : BitVec 32 := 8#32
  let v979 : BitVec 32 := Scalar.muli v977 c8_i32_759
  let c0_i32_768 : BitVec 32 := 0#32
  ![v976.toNat, v979.toNat, 0]
def k0_off35 (d0 : Dev nD) : Fin 3 → Nat :=
  let c2_i32_770 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v992 : BitVec 32 := Scalar.muli c2_i32_770 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v993 : BitVec 32 := Scalar.addi v992 v13
  let c1_i32_771 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v994 : BitVec 32 := Scalar.subi c1_i32_771 v8
  let c8_i32_773 : BitVec 32 := 8#32
  let v996 : BitVec 32 := Scalar.muli v994 c8_i32_773
  let c0_i32_782 : BitVec 32 := 0#32
  ![v993.toNat, v996.toNat, 0]
def k0_off36 (d0 : Dev nD) : Fin 3 → Nat :=
  let c2_i32_784 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v1009 : BitVec 32 := Scalar.muli c2_i32_784 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v1010 : BitVec 32 := Scalar.addi v1009 v15
  let c1_i32_785 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1011 : BitVec 32 := Scalar.subi c1_i32_785 v8
  let c8_i32_787 : BitVec 32 := 8#32
  let v1013 : BitVec 32 := Scalar.muli v1011 c8_i32_787
  let c0_i32_796 : BitVec 32 := 0#32
  ![v1010.toNat, v1013.toNat, 0]
-- ==== GatherWeightsRefIdeal.lean ====
abbrev S1024x3088 : Shape := ⟨2, ![1024, 3088]⟩
abbrev S1024x1024 : Shape := ⟨2, ![1024, 1024]⟩
abbrev S1024x4096 : Shape := ⟨2, ![1024, 4096]⟩
abbrev S4096x1024 : Shape := ⟨2, ![4096, 1024]⟩
abbrev S16x256 : Shape := ⟨2, ![16, 256]⟩
abbrev S1024x4x772 : Shape := ⟨3, ![1024, 4, 772]⟩
abbrev S4x1024x772 : Shape := ⟨3, ![4, 1024, 772]⟩
abbrev S4x256x1024 : Shape := ⟨3, ![4, 256, 1024]⟩
abbrev S1024x4x1024 : Shape := ⟨3, ![1024, 4, 1024]⟩
abbrev S4x1024x1024 : Shape := ⟨3, ![4, 1024, 1024]⟩
abbrev S16x4x64 : Shape := ⟨3, ![16, 4, 64]⟩
abbrev S4x16x64 : Shape := ⟨3, ![4, 16, 64]⟩

abbrev nBuf : Space → Nat
  | .hbm => 13
  | .vmem => 0
  | .smem => 0
  | _ => 0

abbrev bufTy : (tb : Table) → Fin (tcTables nBuf tb) → BufTy
  | .hbm, ⟨0, _⟩ => ⟨S1024x3088, .bf16⟩
  | .hbm, ⟨1, _⟩ => ⟨S1024x1024, .bf16⟩
  | .hbm, ⟨2, _⟩ => ⟨S1024x4096, .bf16⟩
  | .hbm, ⟨3, _⟩ => ⟨S4096x1024, .bf16⟩
  | .hbm, ⟨4, _⟩ => ⟨S16x256, .f32⟩
  | .hbm, ⟨5, _⟩ => ⟨S1024x4x772, .bf16⟩
  | .hbm, ⟨6, _⟩ => ⟨S4x1024x772, .bf16⟩
  | .hbm, ⟨7, _⟩ => ⟨S4x256x1024, .bf16⟩
  | .hbm, ⟨8, _⟩ => ⟨S1024x4x1024, .bf16⟩
  | .hbm, ⟨9, _⟩ => ⟨S4x1024x1024, .bf16⟩
  | .hbm, ⟨10, _⟩ => ⟨S4x1024x1024, .bf16⟩
  | .hbm, ⟨11, _⟩ => ⟨S16x4x64, .f32⟩
  | .hbm, ⟨12, _⟩ => ⟨S4x16x64, .f32⟩
  | _, _ => ⟨S1024x3088, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== AdamwAttnNormG.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwAttnNormGIdeal.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwAttnNormGRefIdeal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwWIn.lean ====
abbrev S1024x772 : Shape := ⟨2, ![1024, 772]⟩
abbrev S256x772 : Shape := ⟨2, ![256, 772]⟩

abbrev nBuf : Space → Nat
  | .hbm => 7
  | .vmem => 14
  | .smem => 0
  | _ => 0

abbrev bufTy : (tb : Table) → Fin (tcTables nBuf tb) → BufTy
  | .hbm, ⟨0, _⟩ => ⟨S1024x772, .f32⟩
  | .hbm, ⟨1, _⟩ => ⟨S1024x772, .f32⟩
  | .hbm, ⟨2, _⟩ => ⟨S1024x772, .f32⟩
  | .hbm, ⟨3, _⟩ => ⟨S1024x772, .f32⟩
  | .hbm, ⟨4, _⟩ => ⟨S1024x772, .f32⟩
  | .hbm, ⟨5, _⟩ => ⟨S1024x772, .f32⟩
  | .hbm, ⟨6, _⟩ => ⟨S1024x772, .f32⟩
  | .local _ .vmem, ⟨0, _⟩ => ⟨S256x772, .f32⟩
  | .local _ .vmem, ⟨1, _⟩ => ⟨S256x772, .f32⟩
  | .local _ .vmem, ⟨2, _⟩ => ⟨S256x772, .f32⟩
  | .local _ .vmem, ⟨3, _⟩ => ⟨S256x772, .f32⟩
  | .local _ .vmem, ⟨4, _⟩ => ⟨S256x772, .f32⟩
  | .local _ .vmem, ⟨5, _⟩ => ⟨S256x772, .f32⟩
  | .local _ .vmem, ⟨6, _⟩ => ⟨S256x772, .f32⟩
  | .local _ .vmem, ⟨7, _⟩ => ⟨S256x772, .f32⟩
  | .local _ .vmem, ⟨8, _⟩ => ⟨S256x772, .f32⟩
  | .local _ .vmem, ⟨9, _⟩ => ⟨S256x772, .f32⟩
  | .local _ .vmem, ⟨10, _⟩ => ⟨S256x772, .f32⟩
  | .local _ .vmem, ⟨11, _⟩ => ⟨S256x772, .f32⟩
  | .local _ .vmem, ⟨12, _⟩ => ⟨S256x772, .f32⟩
  | .local _ .vmem, ⟨13, _⟩ => ⟨S256x772, .f32⟩
  | _, _ => ⟨S1024x772, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x772 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x772 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x772 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x772 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x772 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x772 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x772 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwWInIdeal.lean ====
abbrev S1024x772 : Shape := ⟨2, ![1024, 772]⟩
abbrev S256x772 : Shape := ⟨2, ![256, 772]⟩

abbrev nBuf : Space → Nat
  | .hbm => 7
  | .vmem => 14
  | .smem => 0
  | _ => 0

abbrev bufTy : (tb : Table) → Fin (tcTables nBuf tb) → BufTy
  | .hbm, ⟨0, _⟩ => ⟨S1024x772, .f32⟩
  | .hbm, ⟨1, _⟩ => ⟨S1024x772, .f32⟩
  | .hbm, ⟨2, _⟩ => ⟨S1024x772, .f32⟩
  | .hbm, ⟨3, _⟩ => ⟨S1024x772, .f32⟩
  | .hbm, ⟨4, _⟩ => ⟨S1024x772, .f32⟩
  | .hbm, ⟨5, _⟩ => ⟨S1024x772, .f32⟩
  | .hbm, ⟨6, _⟩ => ⟨S1024x772, .f32⟩
  | .local _ .vmem, ⟨0, _⟩ => ⟨S256x772, .f32⟩
  | .local _ .vmem, ⟨1, _⟩ => ⟨S256x772, .f32⟩
  | .local _ .vmem, ⟨2, _⟩ => ⟨S256x772, .f32⟩
  | .local _ .vmem, ⟨3, _⟩ => ⟨S256x772, .f32⟩
  | .local _ .vmem, ⟨4, _⟩ => ⟨S256x772, .f32⟩
  | .local _ .vmem, ⟨5, _⟩ => ⟨S256x772, .f32⟩
  | .local _ .vmem, ⟨6, _⟩ => ⟨S256x772, .f32⟩
  | .local _ .vmem, ⟨7, _⟩ => ⟨S256x772, .f32⟩
  | .local _ .vmem, ⟨8, _⟩ => ⟨S256x772, .f32⟩
  | .local _ .vmem, ⟨9, _⟩ => ⟨S256x772, .f32⟩
  | .local _ .vmem, ⟨10, _⟩ => ⟨S256x772, .f32⟩
  | .local _ .vmem, ⟨11, _⟩ => ⟨S256x772, .f32⟩
  | .local _ .vmem, ⟨12, _⟩ => ⟨S256x772, .f32⟩
  | .local _ .vmem, ⟨13, _⟩ => ⟨S256x772, .f32⟩
  | _, _ => ⟨S1024x772, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x772 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x772 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x772 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x772 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x772 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x772 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x772 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwWInRefIdeal.lean ====
abbrev S1024x772 : Shape := ⟨2, ![1024, 772]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x772, .f32⟩
  | .hbm, ⟨1, _⟩ => ⟨S1024x772, .f32⟩
  | .hbm, ⟨2, _⟩ => ⟨S1024x772, .f32⟩
  | .hbm, ⟨3, _⟩ => ⟨S1024x772, .f32⟩
  | .hbm, ⟨4, _⟩ => ⟨S_, .f32⟩
  | .hbm, ⟨5, _⟩ => ⟨S1024x772, .f32⟩
  | .hbm, ⟨6, _⟩ => ⟨S1024x772, .f32⟩
  | .hbm, ⟨7, _⟩ => ⟨S_, .f32⟩
  | .hbm, ⟨8, _⟩ => ⟨S1024x772, .f32⟩
  | .hbm, ⟨9, _⟩ => ⟨S1024x772, .f32⟩
  | .hbm, ⟨10, _⟩ => ⟨S1024x772, .f32⟩
  | .hbm, ⟨11, _⟩ => ⟨S_, .f32⟩
  | .hbm, ⟨12, _⟩ => ⟨S1024x772, .f32⟩
  | .hbm, ⟨13, _⟩ => ⟨S1024x772, .f32⟩
  | .hbm, ⟨14, _⟩ => ⟨S1024x772, .f32⟩
  | .hbm, ⟨15, _⟩ => ⟨S_, .f32⟩
  | .hbm, ⟨16, _⟩ => ⟨S1024x772, .f32⟩
  | .hbm, ⟨17, _⟩ => ⟨S1024x772, .f32⟩
  | .hbm, ⟨18, _⟩ => ⟨S1024x772, .f32⟩
  | .hbm, ⟨19, _⟩ => ⟨S_, .f32⟩
  | .hbm, ⟨20, _⟩ => ⟨S1024x772, .f32⟩
  | .hbm, ⟨21, _⟩ => ⟨S1024x772, .f32⟩
  | .hbm, ⟨22, _⟩ => ⟨S_, .f32⟩
  | .hbm, ⟨23, _⟩ => ⟨S1024x772, .f32⟩
  | .hbm, ⟨24, _⟩ => ⟨S1024x772, .f32⟩
  | .hbm, ⟨25, _⟩ => ⟨S1024x772, .f32⟩
  | .hbm, ⟨26, _⟩ => ⟨S_, .f32⟩
  | .hbm, ⟨27, _⟩ => ⟨S1024x772, .f32⟩
  | .hbm, ⟨28, _⟩ => ⟨S1024x772, .f32⟩
  | .hbm, ⟨29, _⟩ => ⟨S1024x772, .f32⟩
  | .hbm, ⟨30, _⟩ => ⟨S_, .f32⟩
  | .hbm, ⟨31, _⟩ => ⟨S1024x772, .f32⟩
  | .hbm, ⟨32, _⟩ => ⟨S1024x772, .f32⟩
  | .hbm, ⟨33, _⟩ => ⟨S1024x772, .f32⟩
  | .hbm, ⟨34, _⟩ => ⟨S_, .f32⟩
  | .hbm, ⟨35, _⟩ => ⟨S1024x772, .f32⟩
  | .hbm, ⟨36, _⟩ => ⟨S1024x772, .f32⟩
  | _, _ => ⟨S1024x772, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwGlaGateW2.lean ====
abbrev S16x64 : Shape := ⟨2, ![16, 64]⟩

abbrev nBuf : Space → Nat
  | .hbm => 7
  | .vmem => 7
  | .smem => 0
  | _ => 0

abbrev bufTy : (tb : Table) → Fin (tcTables nBuf tb) → BufTy
  | .hbm, ⟨0, _⟩ => ⟨S16x64, .f32⟩
  | .hbm, ⟨1, _⟩ => ⟨S16x64, .f32⟩
  | .hbm, ⟨2, _⟩ => ⟨S16x64, .f32⟩
  | .hbm, ⟨3, _⟩ => ⟨S16x64, .f32⟩
  | .hbm, ⟨4, _⟩ => ⟨S16x64, .f32⟩
  | .hbm, ⟨5, _⟩ => ⟨S16x64, .f32⟩
  | .hbm, ⟨6, _⟩ => ⟨S16x64, .f32⟩
  | .local _ .vmem, ⟨0, _⟩ => ⟨S16x64, .f32⟩
  | .local _ .vmem, ⟨1, _⟩ => ⟨S16x64, .f32⟩
  | .local _ .vmem, ⟨2, _⟩ => ⟨S16x64, .f32⟩
  | .local _ .vmem, ⟨3, _⟩ => ⟨S16x64, .f32⟩
  | .local _ .vmem, ⟨4, _⟩ => ⟨S16x64, .f32⟩
  | .local _ .vmem, ⟨5, _⟩ => ⟨S16x64, .f32⟩
  | .local _ .vmem, ⟨6, _⟩ => ⟨S16x64, .f32⟩
  | _, _ => ⟨S16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwGlaGateW2Ideal.lean ====
abbrev S16x64 : Shape := ⟨2, ![16, 64]⟩

abbrev nBuf : Space → Nat
  | .hbm => 7
  | .vmem => 7
  | .smem => 0
  | _ => 0

abbrev bufTy : (tb : Table) → Fin (tcTables nBuf tb) → BufTy
  | .hbm, ⟨0, _⟩ => ⟨S16x64, .f32⟩
  | .hbm, ⟨1, _⟩ => ⟨S16x64, .f32⟩
  | .hbm, ⟨2, _⟩ => ⟨S16x64, .f32⟩
  | .hbm, ⟨3, _⟩ => ⟨S16x64, .f32⟩
  | .hbm, ⟨4, _⟩ => ⟨S16x64, .f32⟩
  | .hbm, ⟨5, _⟩ => ⟨S16x64, .f32⟩
  | .hbm, ⟨6, _⟩ => ⟨S16x64, .f32⟩
  | .local _ .vmem, ⟨0, _⟩ => ⟨S16x64, .f32⟩
  | .local _ .vmem, ⟨1, _⟩ => ⟨S16x64, .f32⟩
  | .local _ .vmem, ⟨2, _⟩ => ⟨S16x64, .f32⟩
  | .local _ .vmem, ⟨3, _⟩ => ⟨S16x64, .f32⟩
  | .local _ .vmem, ⟨4, _⟩ => ⟨S16x64, .f32⟩
  | .local _ .vmem, ⟨5, _⟩ => ⟨S16x64, .f32⟩
  | .local _ .vmem, ⟨6, _⟩ => ⟨S16x64, .f32⟩
  | _, _ => ⟨S16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwGlaGateW2RefIdeal.lean ====
abbrev S16x64 : Shape := ⟨2, ![16, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x64, .f32⟩
  | .hbm, ⟨1, _⟩ => ⟨S16x64, .f32⟩
  | .hbm, ⟨2, _⟩ => ⟨S16x64, .f32⟩
  | .hbm, ⟨3, _⟩ => ⟨S16x64, .f32⟩
  | .hbm, ⟨4, _⟩ => ⟨S_, .f32⟩
  | .hbm, ⟨5, _⟩ => ⟨S16x64, .f32⟩
  | .hbm, ⟨6, _⟩ => ⟨S16x64, .f32⟩
  | .hbm, ⟨7, _⟩ => ⟨S_, .f32⟩
  | .hbm, ⟨8, _⟩ => ⟨S16x64, .f32⟩
  | .hbm, ⟨9, _⟩ => ⟨S16x64, .f32⟩
  | .hbm, ⟨10, _⟩ => ⟨S16x64, .f32⟩
  | .hbm, ⟨11, _⟩ => ⟨S_, .f32⟩
  | .hbm, ⟨12, _⟩ => ⟨S16x64, .f32⟩
  | .hbm, ⟨13, _⟩ => ⟨S16x64, .f32⟩
  | .hbm, ⟨14, _⟩ => ⟨S16x64, .f32⟩
  | .hbm, ⟨15, _⟩ => ⟨S_, .f32⟩
  | .hbm, ⟨16, _⟩ => ⟨S16x64, .f32⟩
  | .hbm, ⟨17, _⟩ => ⟨S16x64, .f32⟩
  | .hbm, ⟨18, _⟩ => ⟨S16x64, .f32⟩
  | .hbm, ⟨19, _⟩ => ⟨S_, .f32⟩
  | .hbm, ⟨20, _⟩ => ⟨S16x64, .f32⟩
  | .hbm, ⟨21, _⟩ => ⟨S16x64, .f32⟩
  | .hbm, ⟨22, _⟩ => ⟨S_, .f32⟩
  | .hbm, ⟨23, _⟩ => ⟨S16x64, .f32⟩
  | .hbm, ⟨24, _⟩ => ⟨S16x64, .f32⟩
  | .hbm, ⟨25, _⟩ => ⟨S16x64, .f32⟩
  | .hbm, ⟨26, _⟩ => ⟨S_, .f32⟩
  | .hbm, ⟨27, _⟩ => ⟨S16x64, .f32⟩
  | .hbm, ⟨28, _⟩ => ⟨S16x64, .f32⟩
  | .hbm, ⟨29, _⟩ => ⟨S16x64, .f32⟩
  | .hbm, ⟨30, _⟩ => ⟨S_, .f32⟩
  | .hbm, ⟨31, _⟩ => ⟨S16x64, .f32⟩
  | .hbm, ⟨32, _⟩ => ⟨S16x64, .f32⟩
  | .hbm, ⟨33, _⟩ => ⟨S16x64, .f32⟩
  | .hbm, ⟨34, _⟩ => ⟨S_, .f32⟩
  | .hbm, ⟨35, _⟩ => ⟨S16x64, .f32⟩
  | .hbm, ⟨36, _⟩ => ⟨S16x64, .f32⟩
  | _, _ => ⟨S16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwGlaGateB.lean ====
abbrev S1x256 : Shape := ⟨2, ![1, 256]⟩

abbrev nBuf : Space → Nat
  | .hbm => 7
  | .vmem => 7
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S1x256, .f32⟩
  | .hbm, ⟨6, _⟩ => ⟨S1x256, .f32⟩
  | .local _ .vmem, ⟨0, _⟩ => ⟨S1x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwGlaGateBIdeal.lean ====
abbrev S1x256 : Shape := ⟨2, ![1, 256]⟩

abbrev nBuf : Space → Nat
  | .hbm => 7
  | .vmem => 7
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S1x256, .f32⟩
  | .hbm, ⟨6, _⟩ => ⟨S1x256, .f32⟩
  | .local _ .vmem, ⟨0, _⟩ => ⟨S1x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwGlaGateBRefIdeal.lean ====
abbrev S1x256 : Shape := ⟨2, ![1, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S_, .f32⟩
  | .hbm, ⟨5, _⟩ => ⟨S1x256, .f32⟩
  | .hbm, ⟨6, _⟩ => ⟨S1x256, .f32⟩
  | .hbm, ⟨7, _⟩ => ⟨S_, .f32⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S_, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S_, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S_, .f32⟩
  | .hbm, ⟨20, _⟩ => ⟨S1x256, .f32⟩
  | .hbm, ⟨21, _⟩ => ⟨S1x256, .f32⟩
  | .hbm, ⟨22, _⟩ => ⟨S_, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S_, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S_, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S_, .f32⟩
  | .hbm, ⟨35, _⟩ => ⟨S1x256, .f32⟩
  | .hbm, ⟨36, _⟩ => ⟨S1x256, .f32⟩
  | _, _ => ⟨S1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwGlaNormG.lean ====
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwGlaNormGIdeal.lean ====
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwGlaNormGRefIdeal.lean ====
abbrev S1x512 : Shape := ⟨2, ![1, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S1x512, .f32⟩
  | .hbm, ⟨7, _⟩ => ⟨S_, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S_, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S_, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S_, .f32⟩
  | .hbm, ⟨20, _⟩ => ⟨S1x512, .f32⟩
  | .hbm, ⟨21, _⟩ => ⟨S1x512, .f32⟩
  | .hbm, ⟨22, _⟩ => ⟨S_, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S_, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S_, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S_, .f32⟩
  | .hbm, ⟨35, _⟩ => ⟨S1x512, .f32⟩
  | .hbm, ⟨36, _⟩ => ⟨S1x512, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwRelBias.lean ====
abbrev S32x8 : Shape := ⟨2, ![32, 8]⟩

abbrev nBuf : Space → Nat
  | .hbm => 7
  | .vmem => 7
  | .smem => 0
  | _ => 0

abbrev bufTy : (tb : Table) → Fin (tcTables nBuf tb) → BufTy
  | .hbm, ⟨0, _⟩ => ⟨S32x8, .f32⟩
  | .hbm, ⟨1, _⟩ => ⟨S32x8, .f32⟩
  | .hbm, ⟨2, _⟩ => ⟨S32x8, .f32⟩
  | .hbm, ⟨3, _⟩ => ⟨S32x8, .f32⟩
  | .hbm, ⟨4, _⟩ => ⟨S32x8, .f32⟩
  | .hbm, ⟨5, _⟩ => ⟨S32x8, .f32⟩
  | .hbm, ⟨6, _⟩ => ⟨S32x8, .f32⟩
  | .local _ .vmem, ⟨0, _⟩ => ⟨S32x8, .f32⟩
  | .local _ .vmem, ⟨1, _⟩ => ⟨S32x8, .f32⟩
  | .local _ .vmem, ⟨2, _⟩ => ⟨S32x8, .f32⟩
  | .local _ .vmem, ⟨3, _⟩ => ⟨S32x8, .f32⟩
  | .local _ .vmem, ⟨4, _⟩ => ⟨S32x8, .f32⟩
  | .local _ .vmem, ⟨5, _⟩ => ⟨S32x8, .f32⟩
  | .local _ .vmem, ⟨6, _⟩ => ⟨S32x8, .f32⟩
  | _, _ => ⟨S32x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwRelBiasIdeal.lean ====
abbrev S32x8 : Shape := ⟨2, ![32, 8]⟩

abbrev nBuf : Space → Nat
  | .hbm => 7
  | .vmem => 7
  | .smem => 0
  | _ => 0

abbrev bufTy : (tb : Table) → Fin (tcTables nBuf tb) → BufTy
  | .hbm, ⟨0, _⟩ => ⟨S32x8, .f32⟩
  | .hbm, ⟨1, _⟩ => ⟨S32x8, .f32⟩
  | .hbm, ⟨2, _⟩ => ⟨S32x8, .f32⟩
  | .hbm, ⟨3, _⟩ => ⟨S32x8, .f32⟩
  | .hbm, ⟨4, _⟩ => ⟨S32x8, .f32⟩
  | .hbm, ⟨5, _⟩ => ⟨S32x8, .f32⟩
  | .hbm, ⟨6, _⟩ => ⟨S32x8, .f32⟩
  | .local _ .vmem, ⟨0, _⟩ => ⟨S32x8, .f32⟩
  | .local _ .vmem, ⟨1, _⟩ => ⟨S32x8, .f32⟩
  | .local _ .vmem, ⟨2, _⟩ => ⟨S32x8, .f32⟩
  | .local _ .vmem, ⟨3, _⟩ => ⟨S32x8, .f32⟩
  | .local _ .vmem, ⟨4, _⟩ => ⟨S32x8, .f32⟩
  | .local _ .vmem, ⟨5, _⟩ => ⟨S32x8, .f32⟩
  | .local _ .vmem, ⟨6, _⟩ => ⟨S32x8, .f32⟩
  | _, _ => ⟨S32x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwRelBiasRefIdeal.lean ====
abbrev S32x8 : Shape := ⟨2, ![32, 8]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S32x8, .f32⟩
  | .hbm, ⟨2, _⟩ => ⟨S32x8, .f32⟩
  | .hbm, ⟨3, _⟩ => ⟨S32x8, .f32⟩
  | .hbm, ⟨4, _⟩ => ⟨S_, .f32⟩
  | .hbm, ⟨5, _⟩ => ⟨S32x8, .f32⟩
  | .hbm, ⟨6, _⟩ => ⟨S32x8, .f32⟩
  | .hbm, ⟨7, _⟩ => ⟨S_, .f32⟩
  | .hbm, ⟨8, _⟩ => ⟨S32x8, .f32⟩
  | .hbm, ⟨9, _⟩ => ⟨S32x8, .f32⟩
  | .hbm, ⟨10, _⟩ => ⟨S32x8, .f32⟩
  | .hbm, ⟨11, _⟩ => ⟨S_, .f32⟩
  | .hbm, ⟨12, _⟩ => ⟨S32x8, .f32⟩
  | .hbm, ⟨13, _⟩ => ⟨S32x8, .f32⟩
  | .hbm, ⟨14, _⟩ => ⟨S32x8, .f32⟩
  | .hbm, ⟨15, _⟩ => ⟨S_, .f32⟩
  | .hbm, ⟨16, _⟩ => ⟨S32x8, .f32⟩
  | .hbm, ⟨17, _⟩ => ⟨S32x8, .f32⟩
  | .hbm, ⟨18, _⟩ => ⟨S32x8, .f32⟩
  | .hbm, ⟨19, _⟩ => ⟨S_, .f32⟩
  | .hbm, ⟨20, _⟩ => ⟨S32x8, .f32⟩
  | .hbm, ⟨21, _⟩ => ⟨S32x8, .f32⟩
  | .hbm, ⟨22, _⟩ => ⟨S_, .f32⟩
  | .hbm, ⟨23, _⟩ => ⟨S32x8, .f32⟩
  | .hbm, ⟨24, _⟩ => ⟨S32x8, .f32⟩
  | .hbm, ⟨25, _⟩ => ⟨S32x8, .f32⟩
  | .hbm, ⟨26, _⟩ => ⟨S_, .f32⟩
  | .hbm, ⟨27, _⟩ => ⟨S32x8, .f32⟩
  | .hbm, ⟨28, _⟩ => ⟨S32x8, .f32⟩
  | .hbm, ⟨29, _⟩ => ⟨S32x8, .f32⟩
  | .hbm, ⟨30, _⟩ => ⟨S_, .f32⟩
  | .hbm, ⟨31, _⟩ => ⟨S32x8, .f32⟩
  | .hbm, ⟨32, _⟩ => ⟨S32x8, .f32⟩
  | .hbm, ⟨33, _⟩ => ⟨S32x8, .f32⟩
  | .hbm, ⟨34, _⟩ => ⟨S_, .f32⟩
  | .hbm, ⟨35, _⟩ => ⟨S32x8, .f32⟩
  | .hbm, ⟨36, _⟩ => ⟨S32x8, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwWOut.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwWOutIdeal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwWOutRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwWFf1.lean ====
abbrev S1024x1024 : Shape := ⟨2, ![1024, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwWFf1RefIdeal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumIn.lean ====
abbrev S4x512x772 : Shape := ⟨3, ![4, 512, 772]⟩
abbrev S512x772 : Shape := ⟨2, ![512, 772]⟩
abbrev S4x128x772 : Shape := ⟨3, ![4, 128, 772]⟩
abbrev S128x772 : Shape := ⟨2, ![128, 772]⟩
abbrev S1x128x772 : Shape := ⟨3, ![1, 128, 772]⟩

abbrev nBuf : Space → Nat
  | .hbm => 2
  | .vmem => 4
  | .smem => 0
  | _ => 0

abbrev bufTy : (tb : Table) → Fin (tcTables nBuf tb) → BufTy
  | .hbm, ⟨0, _⟩ => ⟨S4x512x772, .bf16⟩
  | .hbm, ⟨1, _⟩ => ⟨S512x772, .f32⟩
  | .local _ .vmem, ⟨0, _⟩ => ⟨S4x128x772, .bf16⟩
  | .local _ .vmem, ⟨1, _⟩ => ⟨S4x128x772, .bf16⟩
  | .local _ .vmem, ⟨2, _⟩ => ⟨S128x772, .f32⟩
  | .local _ .vmem, ⟨3, _⟩ => ⟨S128x772, .f32⟩
  | _, _ => ⟨S4x512x772, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x772 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x772 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumInIdeal.lean ====
abbrev S4x512x772 : Shape := ⟨3, ![4, 512, 772]⟩
abbrev S512x772 : Shape := ⟨2, ![512, 772]⟩
abbrev S4x128x772 : Shape := ⟨3, ![4, 128, 772]⟩
abbrev S128x772 : Shape := ⟨2, ![128, 772]⟩
abbrev S1x128x772 : Shape := ⟨3, ![1, 128, 772]⟩

abbrev nBuf : Space → Nat
  | .hbm => 2
  | .vmem => 4
  | .smem => 0
  | _ => 0

abbrev bufTy : (tb : Table) → Fin (tcTables nBuf tb) → BufTy
  | .hbm, ⟨0, _⟩ => ⟨S4x512x772, .bf16⟩
  | .hbm, ⟨1, _⟩ => ⟨S512x772, .f32⟩
  | .local _ .vmem, ⟨0, _⟩ => ⟨S4x128x772, .bf16⟩
  | .local _ .vmem, ⟨1, _⟩ => ⟨S4x128x772, .bf16⟩
  | .local _ .vmem, ⟨2, _⟩ => ⟨S128x772, .f32⟩
  | .local _ .vmem, ⟨3, _⟩ => ⟨S128x772, .f32⟩
  | _, _ => ⟨S4x512x772, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x772 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x772 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumInRefIdeal.lean ====
abbrev S4x512x772 : Shape := ⟨3, ![4, 512, 772]⟩
abbrev S_ : Shape := ⟨0, ![]⟩
abbrev S512x772 : Shape := ⟨2, ![512, 772]⟩

abbrev nBuf : Space → Nat
  | .hbm => 4
  | .vmem => 0
  | .smem => 0
  | _ => 0

abbrev bufTy : (tb : Table) → Fin (tcTables nBuf tb) → BufTy
  | .hbm, ⟨0, _⟩ => ⟨S4x512x772, .bf16⟩
  | .hbm, ⟨1, _⟩ => ⟨S4x512x772, .f32⟩
  | .hbm, ⟨2, _⟩ => ⟨S_, .f32⟩
  | .hbm, ⟨3, _⟩ => ⟨S512x772, .f32⟩
  | _, _ => ⟨S4x512x772, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumOut.lean ====
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4x128x1024, .bf16⟩
  | .hbm, ⟨1, _⟩ => ⟨S128x1024, .f32⟩
  | .local _ .vmem, ⟨0, _⟩ => ⟨S4x128x1024, .bf16⟩
  | .local _ .vmem, ⟨1, _⟩ => ⟨S128x1024, .f32⟩
  | _, _ => ⟨S4x128x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumOutIdeal.lean ====
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4x128x1024, .bf16⟩
  | .hbm, ⟨1, _⟩ => ⟨S128x1024, .f32⟩
  | .local _ .vmem, ⟨0, _⟩ => ⟨S4x128x1024, .bf16⟩
  | .local _ .vmem, ⟨1, _⟩ => ⟨S128x1024, .f32⟩
  | _, _ => ⟨S4x128x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumOutRefIdeal.lean ====
abbrev S4x128x1024 : Shape := ⟨3, ![4, 128, 1024]⟩
abbrev S_ : Shape := ⟨0, ![]⟩
abbrev S128x1024 : Shape := ⟨2, ![128, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x128x1024, .bf16⟩
  | .hbm, ⟨1, _⟩ => ⟨S4x128x1024, .f32⟩
  | .hbm, ⟨2, _⟩ => ⟨S_, .f32⟩
  | .hbm, ⟨3, _⟩ => ⟨S128x1024, .f32⟩
  | _, _ => ⟨S4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumFf.lean ====
abbrev S4x512x1024 : Shape := ⟨3, ![4, 512, 1024]⟩
abbrev S512x1024 : Shape := ⟨2, ![512, 1024]⟩
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4x512x1024, .bf16⟩
  | .hbm, ⟨1, _⟩ => ⟨S512x1024, .f32⟩
  | .local _ .vmem, ⟨0, _⟩ => ⟨S4x128x1024, .bf16⟩
  | .local _ .vmem, ⟨1, _⟩ => ⟨S4x128x1024, .bf16⟩
  | .local _ .vmem, ⟨2, _⟩ => ⟨S128x1024, .f32⟩
  | .local _ .vmem, ⟨3, _⟩ => ⟨S128x1024, .f32⟩
  | _, _ => ⟨S4x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumFfIdeal.lean ====
abbrev S4x512x1024 : Shape := ⟨3, ![4, 512, 1024]⟩
abbrev S512x1024 : Shape := ⟨2, ![512, 1024]⟩
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4x512x1024, .bf16⟩
  | .hbm, ⟨1, _⟩ => ⟨S512x1024, .f32⟩
  | .local _ .vmem, ⟨0, _⟩ => ⟨S4x128x1024, .bf16⟩
  | .local _ .vmem, ⟨1, _⟩ => ⟨S4x128x1024, .bf16⟩
  | .local _ .vmem, ⟨2, _⟩ => ⟨S128x1024, .f32⟩
  | .local _ .vmem, ⟨3, _⟩ => ⟨S128x1024, .f32⟩
  | _, _ => ⟨S4x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumFfRefIdeal.lean ====
abbrev S4x512x1024 : Shape := ⟨3, ![4, 512, 1024]⟩
abbrev S_ : Shape := ⟨0, ![]⟩
abbrev S512x1024 : Shape := ⟨2, ![512, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x512x1024, .bf16⟩
  | .hbm, ⟨1, _⟩ => ⟨S4x512x1024, .f32⟩
  | .hbm, ⟨2, _⟩ => ⟨S_, .f32⟩
  | .hbm, ⟨3, _⟩ => ⟨S512x1024, .f32⟩
  | _, _ => ⟨S4x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumSmall.lean ====
abbrev S8x64x128 : Shape := ⟨3, ![8, 64, 128]⟩
abbrev S64x128 : Shape := ⟨2, ![64, 128]⟩
abbrev S1x64x128 : Shape := ⟨3, ![1, 64, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x64x128, .f32⟩
  | .hbm, ⟨1, _⟩ => ⟨S64x128, .f32⟩
  | .local _ .vmem, ⟨0, _⟩ => ⟨S8x64x128, .f32⟩
  | .local _ .vmem, ⟨1, _⟩ => ⟨S64x128, .f32⟩
  | _, _ => ⟨S8x64x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSmallRefIdeal.lean ====
abbrev S8x64x128 : Shape := ⟨3, ![8, 64, 128]⟩
abbrev S_ : Shape := ⟨0, ![]⟩
abbrev S64x128 : Shape := ⟨2, ![64, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x64x128, .f32⟩
  | .hbm, ⟨1, _⟩ => ⟨S_, .f32⟩
  | .hbm, ⟨2, _⟩ => ⟨S64x128, .f32⟩
  | _, _ => ⟨S8x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AddIn.lean ====
abbrev S4x1024x772 : Shape := ⟨3, ![4, 1024, 772]⟩
abbrev S4x512x772 : Shape := ⟨3, ![4, 512, 772]⟩
abbrev S1 : Shape := ⟨1, ![1]⟩
abbrev S1x128x772 : Shape := ⟨3, ![1, 128, 772]⟩

abbrev nBuf : Space → Nat
  | .hbm => 3
  | .vmem => 6
  | .smem => 1
  | _ => 0

abbrev bufTy : (tb : Table) → Fin (tcTables nBuf tb) → BufTy
  | .hbm, ⟨0, _⟩ => ⟨S4x1024x772, .f32⟩
  | .hbm, ⟨1, _⟩ => ⟨S4x512x772, .f32⟩
  | .hbm, ⟨2, _⟩ => ⟨S4x512x772, .bf16⟩
  | .local _ .vmem, ⟨0, _⟩ => ⟨S1x128x772, .f32⟩
  | .local _ .vmem, ⟨1, _⟩ => ⟨S1x128x772, .f32⟩
  | .local _ .vmem, ⟨2, _⟩ => ⟨S1x128x772, .f32⟩
  | .local _ .vmem, ⟨3, _⟩ => ⟨S1x128x772, .f32⟩
  | .local _ .vmem, ⟨4, _⟩ => ⟨S1x128x772, .bf16⟩
  | .local _ .vmem, ⟨5, _⟩ => ⟨S1x128x772, .bf16⟩
  | .local _ .smem, ⟨0, _⟩ => ⟨S1, .i32⟩
  | _, _ => ⟨S4x1024x772, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c4_i32 : BitVec 32 := 4#32
  let v1 : BitVec 32 := Scalar.muli v0 c4_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x772 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x772 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x772 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AddInIdeal.lean ====
abbrev S4x1024x772 : Shape := ⟨3, ![4, 1024, 772]⟩
abbrev S4x512x772 : Shape := ⟨3, ![4, 512, 772]⟩
abbrev S1 : Shape := ⟨1, ![1]⟩
abbrev S1x128x772 : Shape := ⟨3, ![1, 128, 772]⟩

abbrev nBuf : Space → Nat
  | .hbm => 3
  | .vmem => 6
  | .smem => 1
  | _ => 0

abbrev bufTy : (tb : Table) → Fin (tcTables nBuf tb) → BufTy
  | .hbm, ⟨0, _⟩ => ⟨S4x1024x772, .f32⟩
  | .hbm, ⟨1, _⟩ => ⟨S4x512x772, .f32⟩
  | .hbm, ⟨2, _⟩ => ⟨S4x512x772, .bf16⟩
  | .local _ .vmem, ⟨0, _⟩ => ⟨S1x128x772, .f32⟩
  | .local _ .vmem, ⟨1, _⟩ => ⟨S1x128x772, .f32⟩
  | .local _ .vmem, ⟨2, _⟩ => ⟨S1x128x772, .f32⟩
  | .local _ .vmem, ⟨3, _⟩ => ⟨S1x128x772, .f32⟩
  | .local _ .vmem, ⟨4, _⟩ => ⟨S1x128x772, .bf16⟩
  | .local _ .vmem, ⟨5, _⟩ => ⟨S1x128x772, .bf16⟩
  | .local _ .smem, ⟨0, _⟩ => ⟨S1, .i32⟩
  | _, _ => ⟨S4x1024x772, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c4_i32 : BitVec 32 := 4#32
  let v1 : BitVec 32 := Scalar.muli v0 c4_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x772 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x772 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x772 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AddInRefIdeal.lean ====
abbrev S4x1024x772 : Shape := ⟨3, ![4, 1024, 772]⟩
abbrev S4x512x772 : Shape := ⟨3, ![4, 512, 772]⟩
abbrev S1 : Shape := ⟨1, ![1]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4x1024x772, .f32⟩
  | .hbm, ⟨1, _⟩ => ⟨S4x512x772, .f32⟩
  | .hbm, ⟨2, _⟩ => ⟨S1, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x512x772, .f32⟩
  | .hbm, ⟨7, _⟩ => ⟨S4x512x772, .f32⟩
  | .hbm, ⟨8, _⟩ => ⟨S4x512x772, .f32⟩
  | .hbm, ⟨9, _⟩ => ⟨S4x512x772, .f32⟩
  | .hbm, ⟨10, _⟩ => ⟨S4x512x772, .bf16⟩
  | _, _ => ⟨S4x1024x772, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== AddOut.lean ====
abbrev S4x256x1024 : Shape := ⟨3, ![4, 256, 1024]⟩
abbrev S4x128x1024 : Shape := ⟨3, ![4, 128, 1024]⟩
abbrev S1 : Shape := ⟨1, ![1]⟩
abbrev S1x128x1024 : Shape := ⟨3, ![1, 128, 1024]⟩

abbrev nBuf : Space → Nat
  | .hbm => 3
  | .vmem => 6
  | .smem => 1
  | _ => 0

abbrev bufTy : (tb : Table) → Fin (tcTables nBuf tb) → BufTy
  | .hbm, ⟨0, _⟩ => ⟨S4x256x1024, .f32⟩
  | .hbm, ⟨1, _⟩ => ⟨S4x128x1024, .f32⟩
  | .hbm, ⟨2, _⟩ => ⟨S4x128x1024, .bf16⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .bf16⟩
  | .local _ .vmem, ⟨5, _⟩ => ⟨S1x128x1024, .bf16⟩
  | .local _ .smem, ⟨0, _⟩ => ⟨S1, .i32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AddOutIdeal.lean ====
abbrev S4x256x1024 : Shape := ⟨3, ![4, 256, 1024]⟩
abbrev S4x128x1024 : Shape := ⟨3, ![4, 128, 1024]⟩
abbrev S1 : Shape := ⟨1, ![1]⟩
abbrev S1x128x1024 : Shape := ⟨3, ![1, 128, 1024]⟩

abbrev nBuf : Space → Nat
  | .hbm => 3
  | .vmem => 6
  | .smem => 1
  | _ => 0

abbrev bufTy : (tb : Table) → Fin (tcTables nBuf tb) → BufTy
  | .hbm, ⟨0, _⟩ => ⟨S4x256x1024, .f32⟩
  | .hbm, ⟨1, _⟩ => ⟨S4x128x1024, .f32⟩
  | .hbm, ⟨2, _⟩ => ⟨S4x128x1024, .bf16⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .bf16⟩
  | .local _ .vmem, ⟨5, _⟩ => ⟨S1x128x1024, .bf16⟩
  | .local _ .smem, ⟨0, _⟩ => ⟨S1, .i32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AddOutRefIdeal.lean ====
abbrev S4x256x1024 : Shape := ⟨3, ![4, 256, 1024]⟩
abbrev S4x128x1024 : Shape := ⟨3, ![4, 128, 1024]⟩
abbrev S1 : Shape := ⟨1, ![1]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x128x1024, .f32⟩
  | .hbm, ⟨2, _⟩ => ⟨S1, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x128x1024, .f32⟩
  | .hbm, ⟨7, _⟩ => ⟨S4x128x1024, .f32⟩
  | .hbm, ⟨8, _⟩ => ⟨S4x128x1024, .f32⟩
  | .hbm, ⟨9, _⟩ => ⟨S4x128x1024, .f32⟩
  | .hbm, ⟨10, _⟩ => ⟨S4x128x1024, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== AddFf.lean ====
abbrev S4x1024x1024 : Shape := ⟨3, ![4, 1024, 1024]⟩
abbrev S4x512x1024 : Shape := ⟨3, ![4, 512, 1024]⟩
abbrev S1 : Shape := ⟨1, ![1]⟩
abbrev S1x128x1024 : Shape := ⟨3, ![1, 128, 1024]⟩

abbrev nBuf : Space → Nat
  | .hbm => 3
  | .vmem => 6
  | .smem => 1
  | _ => 0

abbrev bufTy : (tb : Table) → Fin (tcTables nBuf tb) → BufTy
  | .hbm, ⟨0, _⟩ => ⟨S4x1024x1024, .f32⟩
  | .hbm, ⟨1, _⟩ => ⟨S4x512x1024, .f32⟩
  | .hbm, ⟨2, _⟩ => ⟨S4x512x1024, .bf16⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .bf16⟩
  | .local _ .vmem, ⟨5, _⟩ => ⟨S1x128x1024, .bf16⟩
  | .local _ .smem, ⟨0, _⟩ => ⟨S1, .i32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c4_i32 : BitVec 32 := 4#32
  let v1 : BitVec 32 := Scalar.muli v0 c4_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AddFfRefIdeal.lean ====
abbrev S4x1024x1024 : Shape := ⟨3, ![4, 1024, 1024]⟩
abbrev S4x512x1024 : Shape := ⟨3, ![4, 512, 1024]⟩
abbrev S1 : Shape := ⟨1, ![1]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4x512x1024, .f32⟩
  | .hbm, ⟨2, _⟩ => ⟨S1, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x512x1024, .f32⟩
  | .hbm, ⟨7, _⟩ => ⟨S4x512x1024, .f32⟩
  | .hbm, ⟨8, _⟩ => ⟨S4x512x1024, .f32⟩
  | .hbm, ⟨9, _⟩ => ⟨S4x512x1024, .f32⟩
  | .hbm, ⟨10, _⟩ => ⟨S4x512x1024, .bf16⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== WgradGla.lean ====
abbrev S8192x1024 : Shape := ⟨2, ![8192, 1024]⟩
abbrev S8192x1664 : Shape := ⟨2, ![8192, 1664]⟩
abbrev S1024x1664 : Shape := ⟨2, ![1024, 1664]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1664, .bf16⟩
  | .hbm, ⟨2, _⟩ => ⟨S1024x1664, .f32⟩
  | .local _ .vmem, ⟨0, _⟩ => ⟨S1024x1024, .bf16⟩
  | .local _ .vmem, ⟨1, _⟩ => ⟨S1024x1024, .bf16⟩
  | .local _ .vmem, ⟨2, _⟩ => ⟨S1024x1664, .bf16⟩
  | .local _ .vmem, ⟨3, _⟩ => ⟨S1024x1664, .bf16⟩
  | .local _ .vmem, ⟨4, _⟩ => ⟨S1024x1664, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1664 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WgradGlaIdeal.lean ====
abbrev S8192x1024 : Shape := ⟨2, ![8192, 1024]⟩
abbrev S8192x1664 : Shape := ⟨2, ![8192, 1664]⟩
abbrev S1024x1664 : Shape := ⟨2, ![1024, 1664]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1664, .bf16⟩
  | .hbm, ⟨2, _⟩ => ⟨S1024x1664, .f32⟩
  | .local _ .vmem, ⟨0, _⟩ => ⟨S1024x1024, .bf16⟩
  | .local _ .vmem, ⟨1, _⟩ => ⟨S1024x1024, .bf16⟩
  | .local _ .vmem, ⟨2, _⟩ => ⟨S1024x1664, .bf16⟩
  | .local _ .vmem, ⟨3, _⟩ => ⟨S1024x1664, .bf16⟩
  | .local _ .vmem, ⟨4, _⟩ => ⟨S1024x1664, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1664 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WgradGlaRefIdeal.lean ====
abbrev S8192x1024 : Shape := ⟨2, ![8192, 1024]⟩
abbrev S8192x1664 : Shape := ⟨2, ![8192, 1664]⟩
abbrev S1024x1664 : Shape := ⟨2, ![1024, 1664]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1664, .bf16⟩
  | .hbm, ⟨2, _⟩ => ⟨S1024x1664, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== WgradHeads.lean ====
abbrev S8192x1024 : Shape := ⟨2, ![8192, 1024]⟩
abbrev S8192x512 : Shape := ⟨2, ![8192, 512]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S1024x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WgradHeadsIdeal.lean ====
abbrev S8192x1024 : Shape := ⟨2, ![8192, 1024]⟩
abbrev S8192x512 : Shape := ⟨2, ![8192, 512]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S1024x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WgradHeadsRefIdeal.lean ====
abbrev S8192x1024 : Shape := ⟨2, ![8192, 1024]⟩
abbrev S8192x512 : Shape := ⟨2, ![8192, 512]⟩
abbrev S1024x512 : Shape := ⟨2, ![1024, 512]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S1024x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== WgradOut.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WgradOutRefIdeal.lean ====
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .bf16⟩
  | .hbm, ⟨3, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== WgradFf1.lean ====
abbrev S8192x1024 : Shape := ⟨2, ![8192, 1024]⟩
abbrev S8192x4096 : Shape := ⟨2, ![8192, 4096]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S4x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_4 : BitVec 32 := 0#32
  let v5 : BitVec 1 := Scalar.cmpi .ne v4 c0_i32_4
  v5

def k0_cond2 (i : grid0.Coords) : BitVec 1 :=
  let arg2 : BitVec 32 := BitVec.ofNat 32 (i 2).val
  let c0_i32_5 : BitVec 32 := 0#32
  let v6 : BitVec 1 := Scalar.cmpi .sgt arg2 c0_i32_5
  let v7 : BitVec 32 := Scalar.extui v6
  let c0_i32_7 : BitVec 32 := 0#32
  let v8 : BitVec 1 := Scalar.cmpi .ne v7 c0_i32_7
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== WgradFf1RefIdeal.lean ====
abbrev S8192x1024 : Shape := ⟨2, ![8192, 1024]⟩
abbrev S8192x4096 : Shape := ⟨2, ![8192, 4096]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x4096, .f32⟩
  | .hbm, ⟨3, _⟩ => ⟨S1024x4x1024, .f32⟩
  | .hbm, ⟨4, _⟩ => ⟨S4x1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== WgradFf2.lean ====
abbrev S8192x4096 : Shape := ⟨2, ![8192, 4096]⟩
abbrev S8192x1024 : Shape := ⟨2, ![8192, 1024]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WgradFf2RefIdeal.lean ====
abbrev S8192x4096 : Shape := ⟨2, ![8192, 4096]⟩
abbrev S8192x1024 : Shape := ⟨2, ![8192, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Inproj.lean ====
abbrev S8192x1024 : Shape := ⟨2, ![8192, 1024]⟩
abbrev S1x1024 : Shape := ⟨2, ![1, 1024]⟩
abbrev S1024x3200 : Shape := ⟨2, ![1024, 3200]⟩
abbrev S8192x3200 : Shape := ⟨2, ![8192, 3200]⟩
abbrev S256x1024 : Shape := ⟨2, ![256, 1024]⟩
abbrev S256x3200 : Shape := ⟨2, ![256, 3200]⟩
abbrev S_ : Shape := ⟨0, ![]⟩
abbrev S256 : Shape := ⟨1, ![256]⟩
abbrev S256x1 : Shape := ⟨2, ![256, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3200, .bf16⟩
  | .hbm, ⟨3, _⟩ => ⟨S8192x3200, .f32⟩
  | .hbm, ⟨4, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x3200, .f32⟩
  | .local _ .vmem, ⟨4, _⟩ => ⟨S256x3200, .f32⟩
  | .local _ .vmem, ⟨5, _⟩ => ⟨S256x1024, .bf16⟩
  | .local _ .vmem, ⟨6, _⟩ => ⟨S256x1024, .bf16⟩
  | .local _ .vmem, ⟨7, _⟩ => ⟨S1024x3200, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InprojRefIdeal.lean ====
abbrev S8192x1024 : Shape := ⟨2, ![8192, 1024]⟩
abbrev S1x1024 : Shape := ⟨2, ![1, 1024]⟩
abbrev S1024x3200 : Shape := ⟨2, ![1024, 3200]⟩
abbrev S_ : Shape := ⟨0, ![]⟩
abbrev S8192 : Shape := ⟨1, ![8192]⟩
abbrev S8192x1 : Shape := ⟨2, ![8192, 1]⟩
abbrev S8192x3200 : Shape := ⟨2, ![8192, 3200]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3200, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S8192x3200, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== DxFinal.lean ====
abbrev S8192x1024 : Shape := ⟨2, ![8192, 1024]⟩
abbrev S1x1024 : Shape := ⟨2, ![1, 1024]⟩
abbrev S8192x1664 : Shape := ⟨2, ![8192, 1664]⟩
abbrev S8192x512 : Shape := ⟨2, ![8192, 512]⟩
abbrev S1024x3200 : Shape := ⟨2, ![1024, 3200]⟩
abbrev S256x1024 : Shape := ⟨2, ![256, 1024]⟩
abbrev S256x1664 : Shape := ⟨2, ![256, 1664]⟩
abbrev S256x512 : Shape := ⟨2, ![256, 512]⟩
abbrev S_ : Shape := ⟨0, ![]⟩
abbrev S1024x1664 : Shape := ⟨2, ![1024, 1664]⟩
abbrev S1024x512 : Shape := ⟨2, ![1024, 512]⟩
abbrev S256 : Shape := ⟨1, ![256]⟩
abbrev S256x1 : Shape := ⟨2, ![256, 1]⟩
abbrev S1024 : Shape := ⟨1, ![1024]⟩

abbrev nBuf : Space → Nat
  | .hbm => 10
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1664, .bf16⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S1024x3200, .bf16⟩
  | .hbm, ⟨8, _⟩ => ⟨S8192x1024, .f32⟩
  | .hbm, ⟨9, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1664, .bf16⟩
  | .local _ .vmem, ⟨6, _⟩ => ⟨S256x1664, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x1024, .f32⟩
  | .local _ .vmem, ⟨14, _⟩ => ⟨S256x1024, .f32⟩
  | .local _ .vmem, ⟨15, _⟩ => ⟨S1x1024, .f32⟩
  | .local _ .vmem, ⟨16, _⟩ => ⟨S1024x3200, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1664 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== DxFinalRefIdeal.lean ====
abbrev S8192x1024 : Shape := ⟨2, ![8192, 1024]⟩
abbrev S1x1024 : Shape := ⟨2, ![1, 1024]⟩
abbrev S8192x1664 : Shape := ⟨2, ![8192, 1664]⟩
abbrev S8192x512 : Shape := ⟨2, ![8192, 512]⟩
abbrev S1024x3200 : Shape := ⟨2, ![1024, 3200]⟩
abbrev S8192x3200 : Shape := ⟨2, ![8192, 3200]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 42
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1664, .bf16⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S1024x3200, .bf16⟩
  | .hbm, ⟨8, _⟩ => ⟨S8192x3200, .bf16⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== PostFused.lean ====
abbrev S8192x1024 : Shape := ⟨2, ![8192, 1024]⟩
abbrev S8192x512 : Shape := ⟨2, ![8192, 512]⟩
abbrev S1x1024 : Shape := ⟨2, ![1, 1024]⟩
abbrev S1024x1024 : Shape := ⟨2, ![1024, 1024]⟩
abbrev S4x1024x1024 : Shape := ⟨3, ![4, 1024, 1024]⟩
abbrev S4096x1024 : Shape := ⟨2, ![4096, 1024]⟩
abbrev S8192x4096 : Shape := ⟨2, ![8192, 4096]⟩
abbrev S1x1 : Shape := ⟨2, ![1, 1]⟩
abbrev S256x1024 : Shape := ⟨2, ![256, 1024]⟩
abbrev S256x512 : Shape := ⟨2, ![256, 512]⟩
abbrev S256x4096 : Shape := ⟨2, ![256, 4096]⟩
abbrev S3 : Shape := ⟨1, ![3]⟩
abbrev S1 : Shape := ⟨1, ![1]⟩
abbrev S_ : Shape := ⟨0, ![]⟩
abbrev S256 : Shape := ⟨1, ![256]⟩
abbrev S256x1 : Shape := ⟨2, ![256, 1]⟩
abbrev S1x1024x1024 : Shape := ⟨3, ![1, 1024, 1024]⟩
abbrev S1024 : Shape := ⟨1, ![1024]⟩

abbrev nBuf : Space → Nat
  | .hbm => 19
  | .vmem => 30
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S1024x1024, .bf16⟩
  | .hbm, ⟨7, _⟩ => ⟨S4x1024x1024, .bf16⟩
  | .hbm, ⟨8, _⟩ => ⟨S4096x1024, .bf16⟩
  | .hbm, ⟨9, _⟩ => ⟨S8192x1024, .bf16⟩
  | .hbm, ⟨10, _⟩ => ⟨S8192x1024, .bf16⟩
  | .hbm, ⟨11, _⟩ => ⟨S8192x4096, .bf16⟩
  | .hbm, ⟨12, _⟩ => ⟨S8192x4096, .bf16⟩
  | .hbm, ⟨13, _⟩ => ⟨S8192x1024, .bf16⟩
  | .hbm, ⟨14, _⟩ => ⟨S8192x1024, .f32⟩
  | .hbm, ⟨15, _⟩ => ⟨S8192x1024, .f32⟩
  | .hbm, ⟨16, _⟩ => ⟨S1x1, .f32⟩
  | .hbm, ⟨17, _⟩ => ⟨S1x1024, .f32⟩
  | .hbm, ⟨18, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .f32⟩
  | .local _ .vmem, ⟨5, _⟩ => ⟨S256x512, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x4096, .bf16⟩
  | .local _ .vmem, ⟨15, _⟩ => ⟨S256x4096, .bf16⟩
  | .local _ .vmem, ⟨16, _⟩ => ⟨S256x4096, .bf16⟩
  | .local _ .vmem, ⟨17, _⟩ => ⟨S256x4096, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S1x1, .f32⟩
  | .local _ .vmem, ⟨25, _⟩ => ⟨S1x1024, .f32⟩
  | .local _ .vmem, ⟨26, _⟩ => ⟨S1x1024, .f32⟩
  | .local _ .vmem, ⟨27, _⟩ => ⟨S1024x1024, .bf16⟩
  | .local _ .vmem, ⟨28, _⟩ => ⟨S4x1024x1024, .bf16⟩
  | .local _ .vmem, ⟨29, _⟩ => ⟨S4096x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_v0_7 : Ref sig .tc := ⟨.hbm, 16, rfl⟩
abbrev main_v0_8 : Ref sig .tc := ⟨.hbm, 17, rfl⟩
abbrev main_v0_9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25
abbrev cc0_sem15_0 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== PostFusedRefIdeal.lean ====
abbrev S8192x1024 : Shape := ⟨2, ![8192, 1024]⟩
abbrev S8192x512 : Shape := ⟨2, ![8192, 512]⟩
abbrev S1x1024 : Shape := ⟨2, ![1, 1024]⟩
abbrev S1024x1024 : Shape := ⟨2, ![1024, 1024]⟩
abbrev S4x1024x1024 : Shape := ⟨3, ![4, 1024, 1024]⟩
abbrev S4096x1024 : Shape := ⟨2, ![4096, 1024]⟩
abbrev S1024x4x1024 : Shape := ⟨3, ![1024, 4, 1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S1x1 : Shape := ⟨2, ![1, 1]⟩
abbrev S1024 : Shape := ⟨1, ![1024]⟩

abbrev nBuf : Space → Nat
  | .hbm => 117
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S1024x1024, .bf16⟩
  | .hbm, ⟨7, _⟩ => ⟨S4x1024x1024, .bf16⟩
  | .hbm, ⟨8, _⟩ => ⟨S4096x1024, .bf16⟩
  | .hbm, ⟨9, _⟩ => ⟨S1024x4x1024, .bf16⟩
  | .hbm, ⟨10, _⟩ => ⟨S1024x4096, .bf16⟩
  | .hbm, ⟨11, _⟩ => ⟨S8192x512, .bf16⟩
  | .hbm, ⟨12, _⟩ => ⟨S8192x1024, .bf16⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .bf16⟩
  | .hbm, ⟨31, _⟩ => ⟨S8192x4096, .f32⟩
  | .hbm, ⟨32, _⟩ => ⟨S_, .f32⟩
  | .hbm, ⟨33, _⟩ => ⟨S8192x4096, .f32⟩
  | .hbm, ⟨34, _⟩ => ⟨S8192x4096, .f32⟩
  | .hbm, ⟨35, _⟩ => ⟨S8192x4096, .f32⟩
  | .hbm, ⟨36, _⟩ => ⟨S8192x4096, .bf16⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x1, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S_, .f32⟩
  | .hbm, ⟨59, _⟩ => ⟨S8192, .f32⟩
  | .hbm, ⟨60, _⟩ => ⟨S8192, .f32⟩
  | .hbm, ⟨61, _⟩ => ⟨S_, .f32⟩
  | .hbm, ⟨62, _⟩ => ⟨S_, .f32⟩
  | .hbm, ⟨63, _⟩ => ⟨S1x1, .f32⟩
  | .hbm, ⟨64, _⟩ => ⟨S_, .f32⟩
  | .hbm, ⟨65, _⟩ => ⟨S1x1, .f32⟩
  | .hbm, ⟨66, _⟩ => ⟨S1x1, .f32⟩
  | .hbm, ⟨67, _⟩ => ⟨S_, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S8192, .f32⟩
  | .hbm, ⟨79, _⟩ => ⟨S8192x1, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .bf16⟩
  | .hbm, ⟨89, _⟩ => ⟨S8192x4096, .f32⟩
  | .hbm, ⟨90, _⟩ => ⟨S_, .f32⟩
  | .hbm, ⟨91, _⟩ => ⟨S8192x4096, .f32⟩
  | .hbm, ⟨92, _⟩ => ⟨S8192x4096, .f32⟩
  | .hbm, ⟨93, _⟩ => ⟨S8192x4096, .f32⟩
  | .hbm, ⟨94, _⟩ => ⟨S8192x4096, .bf16⟩
  | .hbm, ⟨95, _⟩ => ⟨S8192x1024, .f32⟩
  | .hbm, ⟨96, _⟩ => ⟨S8192x1024, .f32⟩
  | .hbm, ⟨97, _⟩ => ⟨S_, .f32⟩
  | .hbm, ⟨98, _⟩ => ⟨S1024, .f32⟩
  | .hbm, ⟨99, _⟩ => ⟨S1x1024, .f32⟩
  | .hbm, ⟨100, _⟩ => ⟨S8192x1024, .f32⟩
  | .hbm, ⟨101, _⟩ => ⟨S8192x1024, .f32⟩
  | .hbm, ⟨102, _⟩ => ⟨S8192x1024, .f32⟩
  | .hbm, ⟨103, _⟩ => ⟨S_, .f32⟩
  | .hbm, ⟨104, _⟩ => ⟨S8192, .f32⟩
  | .hbm, ⟨105, _⟩ => ⟨S8192x1, .f32⟩
  | .hbm, ⟨106, _⟩ => ⟨S_, .f32⟩
  | .hbm, ⟨107, _⟩ => ⟨S8192x1, .f32⟩
  | .hbm, ⟨108, _⟩ => ⟨S8192x1, .f32⟩
  | .hbm, ⟨109, _⟩ => ⟨S8192x1024, .f32⟩
  | .hbm, ⟨110, _⟩ => ⟨S8192x1024, .f32⟩
  | .hbm, ⟨111, _⟩ => ⟨S8192x1024, .f32⟩
  | .hbm, ⟨112, _⟩ => ⟨S8192x1024, .f32⟩
  | .hbm, ⟨113, _⟩ => ⟨S8192x1024, .f32⟩
  | .hbm, ⟨114, _⟩ => ⟨S8192x1024, .f32⟩
  | .hbm, ⟨115, _⟩ => ⟨S8192x1024, .bf16⟩
  | .hbm, ⟨116, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_cst : Ref sig .tc := ⟨.hbm, 32, rfl⟩
abbrev main_call0_v0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_15 : Ref sig .tc := ⟨.hbm, 103, rfl⟩
abbrev main_v76 : Ref sig .tc := ⟨.hbm, 104, rfl⟩
abbrev main_v77 : Ref sig .tc := ⟨.hbm, 105, rfl⟩
abbrev main_cst_16 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩

abbrev nD : Nat := 1
abbrev τ : Topo := Topo.v7x

variable {F : FTy → Type} [FloatOps F]
-- ==== BiasTables.lean ====
abbrev S32x8 : Shape := ⟨2, ![32, 8]⟩
abbrev S3x128x256 : Shape := ⟨3, ![3, 128, 256]⟩
abbrev S3x8x128x256 : Shape := ⟨4, ![3, 8, 128, 256]⟩
abbrev S1x128x256 : Shape := ⟨3, ![1, 128, 256]⟩
abbrev S1x1x128x256 : Shape := ⟨4, ![1, 1, 128, 256]⟩
abbrev S128x256 : Shape := ⟨2, ![128, 256]⟩
abbrev S1x1 : Shape := ⟨2, ![1, 1]⟩

abbrev nBuf : Space → Nat
  | .hbm => 3
  | .vmem => 4
  | .smem => 1
  | _ => 0

abbrev bufTy : (tb : Table) → Fin (tcTables nBuf tb) → BufTy
  | .hbm, ⟨0, _⟩ => ⟨S32x8, .f32⟩
  | .hbm, ⟨1, _⟩ => ⟨S3x128x256, .i32⟩
  | .hbm, ⟨2, _⟩ => ⟨S3x8x128x256, .f32⟩
  | .local _ .vmem, ⟨0, _⟩ => ⟨S1x128x256, .i32⟩
  | .local _ .vmem, ⟨1, _⟩ => ⟨S1x128x256, .i32⟩
  | .local _ .vmem, ⟨2, _⟩ => ⟨S1x1x128x256, .f32⟩
  | .local _ .vmem, ⟨3, _⟩ => ⟨S1x1x128x256, .f32⟩
  | .local _ .smem, ⟨0, _⟩ => ⟨S32x8, .f32⟩
  | _, _ => ⟨S32x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![3, 8], ![false, false]⟩

def k0_off1 (i : grid0.Coords) : Fin 2 → Nat :=
  let c0_4 : Index := 0#32
  let arg1 : BitVec 32 := BitVec.ofNat 32 (i 1).val
  let v9 : Index := Scalar.indexCast arg1
  ![0, v9.toNat]
def k0_off2 (i : grid0.Coords) : Fin 2 → Nat :=
  let c1 : Index := 1#32
  let arg1 : BitVec 32 := BitVec.ofNat 32 (i 1).val
  let v15 : Index := Scalar.indexCast arg1
  ![1, v15.toNat]
def k0_off3 (i : grid0.Coords) : Fin 2 → Nat :=
  let c2 : Index := 2#32
  let arg1 : BitVec 32 := BitVec.ofNat 32 (i 1).val
  let v21 : Index := Scalar.indexCast arg1
  ![2, v21.toNat]
def k0_off4 (i : grid0.Coords) : Fin 2 → Nat :=
  let c3 : Index := 3#32
  let arg1 : BitVec 32 := BitVec.ofNat 32 (i 1).val
  let v27 : Index := Scalar.indexCast arg1
  ![3, v27.toNat]
def k0_off5 (i : grid0.Coords) : Fin 2 → Nat :=
  let c4 : Index := 4#32
  let arg1 : BitVec 32 := BitVec.ofNat 32 (i 1).val
  let v33 : Index := Scalar.indexCast arg1
  ![4, v33.toNat]
def k0_off6 (i : grid0.Coords) : Fin 2 → Nat :=
  let c5 : Index := 5#32
  let arg1 : BitVec 32 := BitVec.ofNat 32 (i 1).val
  let v39 : Index := Scalar.indexCast arg1
  ![5, v39.toNat]
def k0_off7 (i : grid0.Coords) : Fin 2 → Nat :=
  let c6 : Index := 6#32
  let arg1 : BitVec 32 := BitVec.ofNat 32 (i 1).val
  let v45 : Index := Scalar.indexCast arg1
  ![6, v45.toNat]
def k0_off8 (i : grid0.Coords) : Fin 2 → Nat :=
  let c7 : Index := 7#32
  let arg1 : BitVec 32 := BitVec.ofNat 32 (i 1).val
  let v51 : Index := Scalar.indexCast arg1
  ![7, v51.toNat]
def k0_off9 (i : grid0.Coords) : Fin 2 → Nat :=
  let c8 : Index := 8#32
  let arg1 : BitVec 32 := BitVec.ofNat 32 (i 1).val
  let v57 : Index := Scalar.indexCast arg1
  ![8, v57.toNat]
def k0_off10 (i : grid0.Coords) : Fin 2 → Nat :=
  let c9 : Index := 9#32
  let arg1 : BitVec 32 := BitVec.ofNat 32 (i 1).val
  let v63 : Index := Scalar.indexCast arg1
  ![9, v63.toNat]
def k0_off11 (i : grid0.Coords) : Fin 2 → Nat :=
  let c10 : Index := 10#32
  let arg1 : BitVec 32 := BitVec.ofNat 32 (i 1).val
  let v69 : Index := Scalar.indexCast arg1
  ![10, v69.toNat]
def k0_off12 (i : grid0.Coords) : Fin 2 → Nat :=
  let c11 : Index := 11#32
  let arg1 : BitVec 32 := BitVec.ofNat 32 (i 1).val
  let v75 : Index := Scalar.indexCast arg1
  ![11, v75.toNat]
def k0_off13 (i : grid0.Coords) : Fin 2 → Nat :=
  let c12 : Index := 12#32
  let arg1 : BitVec 32 := BitVec.ofNat 32 (i 1).val
  let v81 : Index := Scalar.indexCast arg1
  ![12, v81.toNat]
def k0_off14 (i : grid0.Coords) : Fin 2 → Nat :=
  let c13 : Index := 13#32
  let arg1 : BitVec 32 := BitVec.ofNat 32 (i 1).val
  let v87 : Index := Scalar.indexCast arg1
  ![13, v87.toNat]
def k0_off15 (i : grid0.Coords) : Fin 2 → Nat :=
  let c14 : Index := 14#32
  let arg1 : BitVec 32 := BitVec.ofNat 32 (i 1).val
  let v93 : Index := Scalar.indexCast arg1
  ![14, v93.toNat]
def k0_off16 (i : grid0.Coords) : Fin 2 → Nat :=
  let c15 : Index := 15#32
  let arg1 : BitVec 32 := BitVec.ofNat 32 (i 1).val
  let v99 : Index := Scalar.indexCast arg1
  ![15, v99.toNat]
def k0_off17 (i : grid0.Coords) : Fin 2 → Nat :=
  let c16 : Index := 16#32
  let arg1 : BitVec 32 := BitVec.ofNat 32 (i 1).val
  let v105 : Index := Scalar.indexCast arg1
  ![16, v105.toNat]
def k0_off18 (i : grid0.Coords) : Fin 2 → Nat :=
  let c17 : Index := 17#32
  let arg1 : BitVec 32 := BitVec.ofNat 32 (i 1).val
  let v111 : Index := Scalar.indexCast arg1
  ![17, v111.toNat]
def k0_off19 (i : grid0.Coords) : Fin 2 → Nat :=
  let c18 : Index := 18#32
  let arg1 : BitVec 32 := BitVec.ofNat 32 (i 1).val
  let v117 : Index := Scalar.indexCast arg1
  ![18, v117.toNat]
def k0_off20 (i : grid0.Coords) : Fin 2 → Nat :=
  let c19 : Index := 19#32
  let arg1 : BitVec 32 := BitVec.ofNat 32 (i 1).val
  let v123 : Index := Scalar.indexCast arg1
  ![19, v123.toNat]
def k0_off21 (i : grid0.Coords) : Fin 2 → Nat :=
  let c20 : Index := 20#32
  let arg1 : BitVec 32 := BitVec.ofNat 32 (i 1).val
  let v129 : Index := Scalar.indexCast arg1
  ![20, v129.toNat]
def k0_off22 (i : grid0.Coords) : Fin 2 → Nat :=
  let c21 : Index := 21#32
  let arg1 : BitVec 32 := BitVec.ofNat 32 (i 1).val
  let v135 : Index := Scalar.indexCast arg1
  ![21, v135.toNat]
def k0_off23 (i : grid0.Coords) : Fin 2 → Nat :=
  let c22 : Index := 22#32
  let arg1 : BitVec 32 := BitVec.ofNat 32 (i 1).val
  let v141 : Index := Scalar.indexCast arg1
  ![22, v141.toNat]
def k0_off24 (i : grid0.Coords) : Fin 2 → Nat :=
  let c23 : Index := 23#32
  let arg1 : BitVec 32 := BitVec.ofNat 32 (i 1).val
  let v147 : Index := Scalar.indexCast arg1
  ![23, v147.toNat]
def k0_off25 (i : grid0.Coords) : Fin 2 → Nat :=
  let c24 : Index := 24#32
  let arg1 : BitVec 32 := BitVec.ofNat 32 (i 1).val
  let v153 : Index := Scalar.indexCast arg1
  ![24, v153.toNat]
def k0_off26 (i : grid0.Coords) : Fin 2 → Nat :=
  let c25 : Index := 25#32
  let arg1 : BitVec 32 := BitVec.ofNat 32 (i 1).val
  let v159 : Index := Scalar.indexCast arg1
  ![25, v159.toNat]
def k0_off27 (i : grid0.Coords) : Fin 2 → Nat :=
  let c26 : Index := 26#32
  let arg1 : BitVec 32 := BitVec.ofNat 32 (i 1).val
  let v165 : Index := Scalar.indexCast arg1
  ![26, v165.toNat]
def k0_off28 (i : grid0.Coords) : Fin 2 → Nat :=
  let c27 : Index := 27#32
  let arg1 : BitVec 32 := BitVec.ofNat 32 (i 1).val
  let v171 : Index := Scalar.indexCast arg1
  ![27, v171.toNat]
def k0_off29 (i : grid0.Coords) : Fin 2 → Nat :=
  let c28 : Index := 28#32
  let arg1 : BitVec 32 := BitVec.ofNat 32 (i 1).val
  let v177 : Index := Scalar.indexCast arg1
  ![28, v177.toNat]
def k0_off30 (i : grid0.Coords) : Fin 2 → Nat :=
  let c29 : Index := 29#32
  let arg1 : BitVec 32 := BitVec.ofNat 32 (i 1).val
  let v183 : Index := Scalar.indexCast arg1
  ![29, v183.toNat]
def k0_off31 (i : grid0.Coords) : Fin 2 → Nat :=
  let c30 : Index := 30#32
  let arg1 : BitVec 32 := BitVec.ofNat 32 (i 1).val
  let v189 : Index := Scalar.indexCast arg1
  ![30, v189.toNat]
def k0_off32 (i : grid0.Coords) : Fin 2 → Nat :=
  let c31 : Index := 31#32
  let arg1 : BitVec 32 := BitVec.ofNat 32 (i 1).val
  let v195 : Index := Scalar.indexCast arg1
  ![31, v195.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== BiasTablesRefIdeal.lean ====
abbrev S32x8 : Shape := ⟨2, ![32, 8]⟩
abbrev S3x128x256 : Shape := ⟨3, ![3, 128, 256]⟩
abbrev S3x1x128x256x1 : Shape := ⟨5, ![3, 1, 128, 256, 1]⟩
abbrev S32 : Shape := ⟨1, ![32]⟩
abbrev S1x1x1x1x32 : Shape := ⟨5, ![1, 1, 1, 1, 32]⟩
abbrev S3x1x128x256x32 : Shape := ⟨5, ![3, 1, 128, 256, 32]⟩
abbrev S8x32 : Shape := ⟨2, ![8, 32]⟩
abbrev S1x8x1x1x32 : Shape := ⟨5, ![1, 8, 1, 1, 32]⟩
abbrev S_ : Shape := ⟨0, ![]⟩
abbrev S3x8x128x256x32 : Shape := ⟨5, ![3, 8, 128, 256, 32]⟩
abbrev S3x8x128x256 : Shape := ⟨4, ![3, 8, 128, 256]⟩
abbrev S3x1x128x256 : Shape := ⟨4, ![3, 1, 128, 256]⟩

abbrev nBuf : Space → Nat
  | .hbm => 27
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S3x128x256, .i32⟩
  | .hbm, ⟨2, _⟩ => ⟨S3x1x128x256x1, .i32⟩
  | .hbm, ⟨3, _⟩ => ⟨S32, .i32⟩
  | .hbm, ⟨4, _⟩ => ⟨S1x1x1x1x32, .i32⟩
  | .hbm, ⟨5, _⟩ => ⟨S3x1x128x256x32, .i32⟩
  | .hbm, ⟨6, _⟩ => ⟨S3x1x128x256x32, .i32⟩
  | .hbm, ⟨7, _⟩ => ⟨S3x1x128x256x32, .i1⟩
  | .hbm, ⟨8, _⟩ => ⟨S8x32, .f32⟩
  | .hbm, ⟨9, _⟩ => ⟨S1x8x1x1x32, .f32⟩
  | .hbm, ⟨10, _⟩ => ⟨S_, .f32⟩
  | .hbm, ⟨11, _⟩ => ⟨S_, .f32⟩
  | .hbm, ⟨12, _⟩ => ⟨S3x8x128x256x32, .i1⟩
  | .hbm, ⟨13, _⟩ => ⟨S3x8x128x256x32, .f32⟩
  | .hbm, ⟨14, _⟩ => ⟨S3x8x128x256x32, .f32⟩
  | .hbm, ⟨15, _⟩ => ⟨S3x8x128x256x32, .f32⟩
  | .hbm, ⟨16, _⟩ => ⟨S_, .f32⟩
  | .hbm, ⟨17, _⟩ => ⟨S3x8x128x256, .f32⟩
  | .hbm, ⟨18, _⟩ => ⟨S3x1x128x256, .i32⟩
  | .hbm, ⟨19, _⟩ => ⟨S_, .i32⟩
  | .hbm, ⟨20, _⟩ => ⟨S3x1x128x256, .i32⟩
  | .hbm, ⟨21, _⟩ => ⟨S3x1x128x256, .i1⟩
  | .hbm, ⟨22, _⟩ => ⟨S_, .f32⟩
  | .hbm, ⟨23, _⟩ => ⟨S_, .f32⟩
  | .hbm, ⟨24, _⟩ => ⟨S3x8x128x256, .i1⟩
  | .hbm, ⟨25, _⟩ => ⟨S3x8x128x256, .f32⟩
  | .hbm, ⟨26, _⟩ => ⟨S3x8x128x256, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v13 : Ref sig .tc := ⟨.hbm, 26, rfl⟩

abbrev nD : Nat := 1
abbrev τ : Topo := Topo.v7x

variable {F : FTy → Type} [FloatOps F]
-- ==== Proof.Together.lean ====
/-
# A region entered by all cores, whose memory is dealt between them at launch

The kernels of this directory write into each other's result arrays without asking first: a device's copy may
land in its peer's array before the peer has entered the region. So the elements of every device's arrays have to
be in the hands of the devices that write them when @main begins. `run_together` is a launch theorem for that
shape — one region without windows, alone in @main — whose global step is given the counters AND the unscoped
memory of every core at once, and deals both anew.
-/
module

public import Idealize.ShloMosaic.Lib.Pipeline.Launch
public import Idealize.ShloMosaic.Lib.Pipeline.Kit

@[expose] public section

noncomputable section

namespace Cert.Together

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : ℕ} {τ : Topo} {sig : RefSig} {Val : EltTy → Type}
variable {U : Type} [URA U]
variable {Λ₀ : Idealize.SL.Sem.Labels} {P : Type} [Fintype P] [DecidableEq P]

local notation "𝕄" => MT nD τ sig Unit Val ℕ U ℕ

variable (pcs : P → PCfg sig Λ₀ Val) (a : (p : P) → (pcs p).Adm)
  (pdats : (p : P) → (c : Dev nD) → Dat τ Val Unit ℕ U ℕ (pin pcs a p) c)
  (phinj : Function.Injective (cellOf (nD := nD) (pin pcs a))) (p : P)
  {K : Type} [Fintype K] {osem : K → SemLoc sig} (ho : OwnSemFacts (pcs p).spec osem) (hw : WinFacts₀ (pcs p).spec)
  (EP : Emb (URounds (GSem nD τ sig) Unit) (MT nD τ sig Unit Val ℕ U ℕ))
  (defs₀ : Defs nD τ sig Val Λ₀) (𝒱₀ : Variants)

local notation "pcfg" => pin pcs a p

/-- A separating product over no index is nothing. -/
theorem prod_none {I : Type} [Fintype I] [IsEmpty I] (Φ : I → sProp 𝕄) : bigSep Finset.univ Φ = (iprop(emp) : sProp 𝕄) := by
  rw [Finset.univ_eq_empty, BI.bigSep_empty]; rfl

/-- The levels of all cells of the machine, assigned at once. -/
theorem assign_levels (L : GSem nD τ sig → Finset Unit) (lv : GSem nD τ sig → Unit → ℕ) (hL : ∀ g : GSem nD τ sig, g.1.2 ≠ .tc → L g = ∅) :
    (bigSep Finset.univ fun c : Dev nD => (levels0 c : sProp 𝕄)) ⊢ (|==> levAts L lv : sProp 𝕄) := by
  have hnone (t : Thread nD τ) (ht : t.2 ≠ .tc) : (coreLevAts t L lv : sProp 𝕄) = iprop(emp) := by
    unfold coreLevAts
    refine (bigSep_congr (Ψ := fun _ : SemLoc sig => (BI.emp : sProp 𝕄)) fun sm _ => ?_).trans (BI.bigSep_emp_const _)
    rw [hL (t, sm) ht, BI.bigSep_empty]
  have hall : (levAts L lv : sProp 𝕄) = iprop((bigSep Finset.univ fun d : Dev nD => coreLevAts (d.tc : Thread nD τ) L lv)
      ∗ bigSep Finset.univ fun d : Dev nD => bigSep (Finset.univ.erase Proc.tc) fun q => coreLevAts ((d, q) : Thread nD τ) L lv) :=
    (bigSep_univ_prod fun g : GSem nD τ sig => bigSep (L g) fun i => levAt g i (lv g i)).trans
      (bigSep_threads fun t : Thread nD τ => coreLevAts t L lv)
  have hothers : (bigSep Finset.univ fun d : Dev nD => bigSep (Finset.univ.erase Proc.tc) fun q => (coreLevAts ((d, q) : Thread nD τ) L lv : sProp 𝕄)) = iprop(emp) := by
    refine (bigSep_congr (Ψ := fun _ : Dev nD => (BI.emp : sProp 𝕄)) fun d _ => ?_).trans (BI.bigSep_emp_const _)
    exact (bigSep_congr (Ψ := fun _ : Proc τ => (BI.emp : sProp 𝕄)) fun q hq => hnone _ (Finset.ne_of_mem_erase hq)).trans (BI.bigSep_emp_const _)
  refine (bigSep_mono fun c _ => lev_assign_cells (c.tc : Thread nD τ) L lv).trans ((BI.bigSep_bupd _ _).trans (BI.bupd_mono ?_))
  have hsnd (A B : sProp 𝕄) : iprop(A ∗ B) ⊢ iprop(B ∗ emp) := by
    iintro ⟨-, H⟩
    isplitl [H]; · iexact H
    iempintro
  rw [hall, hothers, bigSep_sep']
  exact hsnd _ _

/-- A core's unscoped buffers, at the launch of a region without windows: none of them is a window's array. -/
theorem rest_all (hW : IsEmpty (Fin (pcfg).W)) (c : Dev nD) (V : (b : Ref sig .tc) → Buf Val ((c.tc : Thread nD τ).loc b)) :
    (unscopedBufs c V : sProp 𝕄) = unscopedRest (pcfg).spec c V := by
  have h := unscopedBufs_split (pin pcs a) p (fun w => (hW.false w).elim) (fun w => (hW.false w).elim) c
    (Ix := Unit) (Name := ℕ) (U := U) (Lvl := ℕ) V
  rw [h, prod_none]
  exact Idealize.SL.BI.equiv_iff.mp BI.emp_sep

include phinj ho hw in
set_option maxHeartbeats 1000000 in
/-- Every weakly fair run of @main — one region, no windows, no prefetched tables — from memory `m` and zero
    counters ends in a state of which `Q` holds: the cores owe `O₀` at launch and nothing at the region's end, the
    kernel's own counters, the launch credit and the WHOLE unscoped memory of all cores are dealt by the one global step `hglob` into what
    each core takes into the region (`X`), and what it brings out (`Y`) is read at the final state (`hY`). -/
theorem run_together [∀ e, Nonempty (Val e)] [EP.LandsIn (upEmb : UEmb _ 𝕄)]
    (hW : IsEmpty (Fin (pcfg).W)) (hK : IsEmpty (Fin (pcs p).pre.K))
    (m : (ℓ : Loc nD τ sig) → Buf Val ℓ) (g : Dev nD → PrngReg)
    (main : Dev nD → Prog (TpuEff nD τ sig Val (Sig Λ₀ P fun p => (pcs p).Adm) .tc) PUnit)
    (hmain : ∀ c, main c = .op (.customCall (entry p) ()) fun _ => .ret ⟨⟩)
    (hbody : ∀ c, BodyObligationLoose (pdats p c) defs₀ 𝒱₀ () Set.univ)
    (O₀ : Dev nD → CellTallies nD τ sig Unit) (howed₀ : ∀ c, (pdats p c).owed 0 = O₀ c) (howedN : ∀ c, (pdats p c).owed (Fin.last _) = 0)
    (L : GSem nD τ sig → Finset Unit) (lv : GSem nD τ sig → Unit → ℕ) (hL : ∀ g : GSem nD τ sig, g.1.2 ≠ .tc → L g = ∅)
    (G : Dev nD → sProp 𝕄) (u₀ : U)
    (hu₀ : (ownU u₀ : sProp 𝕄)
      ⊢ |={Set.univ}=> iprop(BI.own (EP (initOf (cells (pin pcs a) phinj) (launchToks (pin pcs a) phinj))) ∗ bigSep Finset.univ G))
    (X Y : Dev nD → sProp 𝕄)
    (hglob : (bigSep Finset.univ fun c => iprop(ownSems0 osem c ∗ unscopedRest (pcfg).spec c (fun b => m ((c.tc : Thread nD τ).loc b))
        ∗ launchCred O₀ c ∗ G c) : sProp 𝕄) ⊢ |={Set.univ}=> bigSep Finset.univ X)
    (hin : ∀ c, iprop(X c ∗ levAts L lv ∗ scopedRest (pcfg).spec c) ⊢ (pdats p c).Φ 0)
    (hout : ∀ c, (pdats p c).Φ (Fin.last (pcfg).N) ⊢ iprop(Y c ∗ ownSems0 osem c ∗ scopedRest (pcfg).spec c))
    (QY : Dev nD → MemSt nD τ sig Val → Prop)
    (hY : ∀ c (s' : Phys nD τ sig Val), iprop(Y c ∗ SI s') ⊢ |={Set.univ}=> iprop(⌜QY c s'.mem⌝ ∗ SI s'))
    {Q : PUnit × MemSt nD τ sig Val → Prop}
    (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run (Pipeline.defs pcs defs₀) (onTc main) ⟨m, fun _ => 0, g⟩ Q := by
  classical
  have hsems := fun c : Dev nD => scopedSems0_split (pin pcs a) phinj p hw ho (Ix := Unit) (Val := Val) (Name := ℕ) (U := U) (Lvl := ℕ) c
  have hstore := fun c : Dev nD => scopedBufs_split (pin pcs a) p (fun k => (hW.false k.1).elim) (fun k => (hW.false k.1).elim)
    (fun w => (hW.false w).elim) c (nD := nD) (τ := τ) (Ix := Unit) (Val := Val) (Name := ℕ) (U := U) (Lvl := ℕ)
  -- a core before @main, and after it
  let start : Dev nD → sProp 𝕄 := fun c => iprop(scopedBufs (c.tc : Thread nD τ) ∗ cellsSems0 (pin pcs a) p c ∗ idleSems0 (pin pcs a) phinj p ho c
    ∗ owes (c.tc : Thread nD τ) (O₀ c) ∅ ∗ levAts L lv ∗ cellsGhost (pin pcs a) EP p c ∗ toksInit (pin pcs a) EP p c ∗ X c)
  let fin : Dev nD → sProp 𝕄 := fun c => iprop(Y c ∗ scopedSems0 (c.tc : Thread nD τ))
  refine (θ_run (Pipeline.defs pcs defs₀) _ _).mono (Q := fun r => (∀ c : Dev nD, QY c r.2
      ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu (Pipeline.defs pcs defs₀) _ _ _
    (reflect_intro_fupd_tc_sems (X := Unit) (Variants.lift 𝒱₀) (owing O₀) 0 (noBookings fun _ => le_rfl) (owing_of_ne O₀) u₀ (fun _ => start) (fun _ => fin)
      (fun _ => iprop(emp)) Set.univ ?_ (fun _ c => ?_) fun _ => ?_))
  · -- the launch
    have hone (c : Dev nD) :
        coreInit (Ix := Unit) (Name := ℕ) (U := U) (Lvl := ℕ) (owing O₀) 0 (⟨m, fun _ => 0, g⟩ : MemSt nD τ sig Val) (c.tc : Thread nD τ)
          ⊢ iprop((scopedBufs (c.tc : Thread nD τ) ∗ cellsSems0 (pin pcs a) p c ∗ idleSems0 (pin pcs a) phinj p ho c ∗ owes (c.tc : Thread nD τ) (O₀ c) ∅)
              ∗ levels0 c
              ∗ ownSems0 osem c ∗ unscopedRest (pcfg).spec c (fun b => m ((c.tc : Thread nD τ).loc b)) ∗ launchCred O₀ c) := by
      refine (coreInit_boundary_owing O₀ m g c).trans ?_
      unfold boundary
      rw [hsems c, rest_all pcs a p hW c]
      iintro ⟨⟨Hb, ⟨⟨Hcells, Hown⟩, Hidle⟩, -⟩, Hmem, -, HO, Hlv, -, Hcr⟩
      isplitl [Hb Hcells Hidle HO]
      · isplitl [Hb]; · iexact Hb
        isplitl [Hcells]; · iexact Hcells
        isplitl [Hidle] <;> iassumption
      isplitl [Hlv]; · iexact Hlv
      isplitl [Hown]; · iexact Hown
      isplitl [Hmem] <;> iassumption
    have hall : (bigSep Finset.univ fun d : Dev nD =>
          coreInit (Ix := Unit) (Name := ℕ) (U := U) (Lvl := ℕ) (owing O₀) 0 (⟨m, fun _ => 0, g⟩ : MemSt nD τ sig Val) (d.tc : Thread nD τ))
        ⊢ iprop((bigSep Finset.univ fun c : Dev nD => iprop(scopedBufs (c.tc : Thread nD τ) ∗ cellsSems0 (pin pcs a) p c
              ∗ idleSems0 (pin pcs a) phinj p ho c ∗ owes (c.tc : Thread nD τ) (O₀ c) ∅))
            ∗ (bigSep Finset.univ fun c : Dev nD => levels0 c)
            ∗ (bigSep Finset.univ fun c : Dev nD => iprop(ownSems0 osem c ∗ unscopedRest (pcfg).spec c (fun b => m ((c.tc : Thread nD τ).loc b)) ∗ launchCred O₀ c)) : sProp 𝕄) := by
      refine (bigSep_mono fun c _ => hone c).trans ?_
      simp only [bigSep_sep']
      exact BI.Entails.refl _
    have hthis (Φ : P → Dev nD → sProp 𝕄) :
        (bigSep Finset.univ fun c : Dev nD => bigSep Finset.univ fun p' => Φ p' c) ⊢ bigSep Finset.univ fun c : Dev nD => Φ p c :=
      bigSep_mono fun c _ => BI.bigSep_elim (Finset.mem_univ p)
    iintro ⟨Hcores, Hu⟩
    ihave Hc := hall $$ Hcores
    icases Hc with ⟨Hkeep, Hlv, Hdeal⟩
    imod (assign_levels L lv hL) $$ Hlv with Hla
    imod hu₀ $$ Hu with ⟨HP, HG⟩
    imod (fund_ghost (pin pcs a) EP phinj) $$ HP with ⟨Hg, Ht⟩
    imod hglob $$ [Hdeal HG] with HX
    · simp only [bigSep_sep']
      icases Hdeal with ⟨H1, H2, H3⟩
      isplitl [H1]; · iexact H1
      isplitl [H2]; · iexact H2
      isplitl [H3] <;> iassumption
    imodintro
    iexists ()
    isplitr []
    · simp only [start, bigSep_sep']
      icases Hkeep with ⟨H1, H2, H3, H4⟩
      isplitl [H1]; · iexact H1
      isplitl [H2]; · iexact H2
      isplitl [H3]; · iexact H3
      isplitl [H4]; · iexact H4
      isplitl [Hla]; · iapply (BI.bigSep_intro_persistent (S := Finset.univ) fun (c : Dev nD) _ => (BI.Entails.refl (levAts L lv : sProp 𝕄))); iexact Hla
      isplitl [Hg]; · iapply (hthis fun p' c => cellsGhost (pin pcs a) EP p' c); iexact Hg
      isplitl [Ht]; · iapply (hthis fun p' c => toksInit (pin pcs a) EP p' c); iexact Ht
      iexact HX
    · iempintro
  · -- one core's run of @main
    have hleave : iprop((pdats p c).Φ (Fin.last (pcfg).N) ∗ cellsSems0 (pin pcs a) p c ∗ Dat.staging (pcfg) c ∗ idleSems0 (pin pcs a) phinj p ho c)
        ⊢ iprop(Y c ∗ scopedSems0 (c.tc : Thread nD τ) ∗ scopedBufs (c.tc : Thread nD τ)) := by
      rw [hsems c, hstore c]
      iintro ⟨HΦ, Hcells, Hst, Hidle⟩
      ihave H := (hout c) $$ HΦ
      icases H with ⟨HY, Hown, Hrest⟩
      isplitl [HY]; · iexact HY
      isplitl [Hcells Hown Hidle]
      · isplitl [Hcells Hown]; · isplitl [Hcells] <;> iassumption
        iexact Hidle
      isplitl [Hst] <;> iassumption
    have hentry (κ : GSem nD τ sig → ℕ) :
        iprop(owes (c.tc : Thread nD τ) (O₀ c) ∅ ∗ cellsInit (pin pcs a) pdats EP κ p c ∗ toksInit (pin pcs a) EP p c)
          ⊢ PerCore.EntryPre (fun _ => pin pcs a) pdats () EP κ p c := by
      unfold PerCore.EntryPre Dat.owesAt owesWithin Dat.arrays PerCore.cellsWaits PerCore.RDat.cellsWaits
      rw [howed₀ c, @prod_none nD τ sig Val U _ _ _ hW, @prod_none nD τ sig Val U _ _ _ hW]
      iintro ⟨HO, Hinit, Ht⟩
      isplitr; · iempintro
      isplitl [HO]
      · iexists ∅; isplitr; · ipureintro; rw [Finset.coe_empty]; exact Set.empty_subset _
        iexact HO
      isplitr; · iempintro
      isplitl [Hinit] <;> iassumption
    simp only [start]
    rw [hmain c]
    iintro ⟨Hsc, Hcells, Hidle, HO, #Hla, Hg, Ht, HX⟩
    iapply (fupd_wp frame (wpE (Pipeline.defs pcs defs₀) (Variants.lift 𝒱₀) (c.tc : Thread nD τ) none) Set.univ _ _)
    imod (cellsInit_alloc (pin pcs a) pdats EP phinj p c) $$ [Hcells Hg] with ⟨%κ, -, Hinit⟩
    · isplitl [Hcells] <;> iassumption
    imodintro
    iapply (wp_customCall_entry_frame pcs a pdats () EP κ phinj p defs₀ 𝒱₀ (fun k => (hK.false k).elim) c Set.univ (fun _ _ => Set.mem_univ _)
        (hbody c) (fun w => (hW.false w).elim) none (fun u h => nomatch h) (X := iprop(X c ∗ levAts L lv)) (Y := Y c) (R := scopedRest (pcfg).spec c)
        (I := idleSems0 (pin pcs a) phinj p ho c)
        (Entails.of_eq (hstore c))
        (by
          iintro ⟨⟨HX, Hl⟩, -, Hr⟩
          iapply (hin c)
          isplitl [HX]; · iexact HX
          isplitl [Hl] <;> iassumption) hleave
        (k := fun _ => .ret ⟨⟩) (Q := fun _ => post (liftTc fin iprop(emp)) (c.tc : Thread nD τ))) $$ [HO Hinit Ht HX Hidle Hsc]
    · isplitl [HO Hinit Ht]
      · iapply (hentry κ)
        isplitl [HO]; · iexact HO
        isplitl [Hinit] <;> iassumption
      isplitr
      · unfold prefHeld; rw [@prod_none nD τ sig Val U _ _ _ hK]; iempintro
      isplitl [HX]
      · isplitl [HX]; · iexact HX
        iexact Hla
      isplitl [Hidle]; · iexact Hidle
      iexact Hsc
    iintro ⟨Hpost, HY, Hss, -⟩
    rw [wp_ret]; imodintro
    unfold post; simp only [liftTc_tc, fin]
    isplitr [Hpost]
    · isplitl [HY] <;> iassumption
    · ihave Hpost := (show EntryPost (pin pcs a) pdats () p c ⊢ PerCore.EntryPost (fun _ => pin pcs a) pdats () p c from BI.Entails.refl _) $$ Hpost
      unfold PerCore.EntryPost Dat.owesAt owesWithin
      rw [howedN c]
      icases Hpost with ⟨-, ⟨%W, -, HO⟩⟩
      iexists W; iexact HO
  · -- the final state
    have hread (c : Dev nD) (s' : Phys nD τ sig Val) : iprop(fin c ∗ SI s') ⊢ |={Set.univ}=>
        iprop(⌜QY c s'.mem ∧ ∀ sm : SemLoc sig, sm.isScoped .tc = true → s'.mem.sem ((c.tc : Thread nD τ), sm) = 0⌝ ∗ SI s') := by
      simp only [fin]
      iintro ⟨⟨HY, Hss⟩, HSI⟩
      ihave %hz := (tcScoped_read_pers c s') $$ [Hss HSI]
      · isplitl [Hss] <;> iassumption
      imod (hY c s') $$ [HY HSI] with ⟨%hy, HSI⟩
      · isplitl [HY] <;> iassumption
      imodintro
      isplitr
      · ipureintro; exact ⟨hy, hz⟩
      · iexact HSI
    iintro ⟨H, -, Hsc⟩ %s' HSI
    ihave %hsc := (scSems_read_zero m g s') $$ [Hsc HSI]
    · isplitl [Hsc] <;> iassumption
    imod (posts_fupd Finset.univ hread s') $$ [H HSI] with %h
    · isplitl [H] <;> iassumption
    imodintro
    ipureintro
    exact ⟨fun c => h c (Finset.mem_univ c), hsc⟩

end Cert.Together

end
-- ==== Proof.Exchange.lean ====
/-
# Exchanges in which every DMA semaphore is used once

An exchange kernel of this directory starts a number of copies, local and to other devices, and waits for them;
each of its DMA semaphores counts exactly one transfer. So each semaphore of each device is one cell of the rounds
library with one round and one duty, and a kernel is described by a `Plan`: who pays which cell, how much, at which
level, what landing there delivers, and what the payer has to hold to be able to pay.

`Plan.Core c p w` is what device `c` holds when it has started the copies paying the cells `p` and waited for the
cells `w`; `copy_step`, `send_step` and `wait_step` move it along the program one operation at a time, and
`Plan.run` is the launch: the memory of all devices is dealt to the payers before any device starts.
-/
module

public import proofs.«01_k».proof.Proof.Together
public import Idealize.ShloMosaic.Lib.Tactic

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

/-- Two copies of the rounds library's algebra: one for the pipelines' staging cells (there are none), one for the exchange. -/
abbrev UU (nD : ℕ) (τ : Topo) (sig : RefSig) : Type := UR sig nD τ × UR sig nD τ

variable {nD : ℕ} {τ : Topo} {sig : RefSig} {Val : EltTy → Type}

local notation "𝕄" => MT nD τ sig Unit Val ℕ (UU nD τ sig) ℕ

abbrev EP : Emb (UR sig nD τ) (MT nD τ sig Unit Val ℕ (UU nD τ sig) ℕ) := embL
abbrev ER : Emb (UR sig nD τ) (MT nD τ sig Unit Val ℕ (UU nD τ sig) ℕ) := embR

/-- Device `c`'s cell `q`. -/
abbrev cell (c : Dev nD) (q : DmaSem sig) : GSem nD τ sig := ((c.tc : Thread nD τ), .dma q)

/-- What an exchange does with each of its DMA semaphores `q`: `amt q` units land there in one transfer, started by
    the device itself or (`remote`) by another; `peer q c` is the device whose cell `q` device `c` pays; the owner gets `pay c q` by its
    wait, of which it keeps `keep c q`, while `extra c q` serves its next copy; to pay cell `q` device `c` uses up
    `src c q` and what `dst (peer q c) q` says of the owner's memory. -/
structure Plan (nD : ℕ) (τ : Topo) (sig : RefSig) (Val : EltTy → Type) where
  amt : DmaSem sig → ℕ
  amt_pos : ∀ q, 0 < amt q
  lev : DmaSem sig → ℕ
  peer : DmaSem sig → Equiv.Perm (Dev nD)
  remote : DmaSem sig → Bool
  pay : Dev nD → DmaSem sig → sProp (MT nD τ sig Unit Val ℕ (UU nD τ sig) ℕ)
  stor : ∀ c q, BI.Storable (upEmb : UEmb _ (MT nD τ sig Unit Val ℕ (UU nD τ sig) ℕ)) (pay c q)
  keep : Dev nD → DmaSem sig → sProp (MT nD τ sig Unit Val ℕ (UU nD τ sig) ℕ)
  extra : Dev nD → DmaSem sig → sProp (MT nD τ sig Unit Val ℕ (UU nD τ sig) ℕ)
  split : ∀ c q, pay c q ⊢ iprop(keep c q ∗ extra c q)
  src : Dev nD → DmaSem sig → sProp (MT nD τ sig Unit Val ℕ (UU nD τ sig) ℕ)
  dst : Dev nD → DmaSem sig → sProp (MT nD τ sig Unit Val ℕ (UU nD τ sig) ℕ)

namespace Plan

variable (P : Plan nD τ sig Val)

/-! ## The schedule -/

def rd : Rounds.Schedule (GSem nD τ sig) Unit 𝕄 where
  duties g r := match r, g.1.2, g.2 with
    | 0, .tc, .dma _ => {()}
    | _, _, _ => ∅
  amount g _ _ := match g.2 with
    | .dma q => P.amt q
    | .reg _ => 1
  payload g _ _ := match g.2 with
    | .dma q => P.pay g.1.1 q
    | .reg _ => iprop(emp)
  amount_pos g r d hd := by
    obtain ⟨t, s⟩ := g
    cases s
    · exact Nat.one_pos
    · exact P.amt_pos _

instance rd_storable (g : GSem nD τ sig) (r : ℕ) (d : Unit) : BI.Storable (upEmb : UEmb _ 𝕄) (P.rd.payload g r d) := by
  obtain ⟨t, s⟩ := g
  cases s with
  | reg s => show BI.Storable _ iprop(emp); infer_instance
  | dma q => exact P.stor t.1 q

theorem duties_zero (c : Dev nD) (q : DmaSem sig) : P.rd.duties (cell c q) 0 = {()} := rfl
theorem duty_mem (c : Dev nD) (q : DmaSem sig) : () ∈ P.rd.duties (cell c q) 0 := Finset.mem_singleton_self _
theorem duties_later (g : GSem nD τ sig) : ∀ r, 0 + 1 ≤ r → P.rd.duties g r = ∅ := fun r hr => by
  cases r with
  | zero => omega
  | succ n => rfl

theorem expect_zero (c : Dev nD) (q : DmaSem sig) : P.rd.expect (cell c q) 0 = P.amt q := by
  unfold Schedule.expect Schedule.amountOf
  rw [duties_zero, Finset.sum_singleton]; rfl

theorem rest_zero (c : Dev nD) (q : DmaSem sig) :
    bigSep (P.rd.duties (cell c q) 0 \ ∅) (fun u => P.rd.payload (cell c q) 0 u) = P.pay c q := by
  rw [Finset.sdiff_empty, duties_zero, bigSep_singleton]; rfl

/-! ## What is owed, and the levels -/

/-- What device `c` still owes the other devices when it has paid the cells `p`. -/
def owed (c : Dev nD) (p : List (DmaSem sig)) : CellTallies nD τ sig Unit :=
  ∑ q : DmaSem sig, if P.remote q = true ∧ q ∉ p then tallyAt (cell (P.peer q c) q) () (P.amt q) else 0

theorem owed_local (c : Dev nD) (p : List (DmaSem sig)) {q : DmaSem sig} (hq : P.remote q = false) : P.owed c p = P.owed c (q :: p) := by
  unfold owed
  refine Finset.sum_congr rfl fun q' _ => ?_
  by_cases h : q' = q
  · subst h; rw [if_neg (fun h => by rw [hq] at h; cases h.1), if_neg (fun h => by rw [hq] at h; cases h.1)]
  · simp only [List.mem_cons, h, false_or]

theorem owed_remote (c : Dev nD) (p : List (DmaSem sig)) {q : DmaSem sig} (hr : P.remote q = true) (hq : q ∉ p) :
    P.owed c p = P.owed c (q :: p) + tallyAt (cell (P.peer q c) q) () (P.amt q) := by
  have h1 : (tallyAt (cell (P.peer q c) q) () (P.amt q) : CellTallies nD τ sig Unit)
      = ∑ q' : DmaSem sig, if q' = q then tallyAt (cell (P.peer q c) q) () (P.amt q) else 0 := by
    rw [Finset.sum_ite_eq' Finset.univ q fun _ => (tallyAt (cell (P.peer q c) q) () (P.amt q) : CellTallies nD τ sig Unit), if_pos (Finset.mem_univ _)]
  rw [h1]
  unfold owed
  rw [← Finset.sum_add_distrib]
  refine Finset.sum_congr rfl fun q' _ => ?_
  by_cases h : q' = q
  · subst h
    rw [if_pos ⟨hr, hq⟩, if_neg (fun h => h.2 (List.mem_cons_self ..)), if_pos rfl, zero_add]
  · simp only [List.mem_cons, h, false_or, if_false, add_zero]

theorem owed_none (c : Dev nD) (p : List (DmaSem sig)) (h : ∀ q, P.remote q = true → q ∈ p) : P.owed c p = 0 := by
  unfold owed
  exact Finset.sum_eq_zero fun q _ => if_neg fun hq => hq.2 (h q hq.1)

theorem owed_pos {c : Dev nD} {p : List (DmaSem sig)} {g : GSem nD τ sig} {u : Unit} (h : 0 < P.owed c p g u) :
    ∃ q, P.remote q = true ∧ q ∉ p ∧ g = cell (P.peer q c) q := by
  unfold owed at h
  rw [Finset.sum_apply, Finsupp.finsetSum_apply] at h
  obtain ⟨q, -, hq⟩ := Finset.exists_ne_zero_of_sum_ne_zero (Nat.pos_iff_ne_zero.mp h)
  by_cases hc : P.remote q = true ∧ q ∉ p
  · rw [if_pos hc, tallyAt_apply] at hq
    refine ⟨q, hc.1, hc.2, ?_⟩
    by_contra hg
    exact hq (if_neg fun h => hg h.1)
  · rw [if_neg hc] at hq; exact absurd rfl hq

def L (g : GSem nD τ sig) : Finset Unit := if g.1.2 = .tc then {()} else ∅
def lv (g : GSem nD τ sig) (_ : Unit) : ℕ := match g.2 with
  | .dma q => P.lev q
  | .reg _ => 0

theorem L_tc (c : Dev nD) (sm : SemLoc sig) : L (((c.tc : Thread nD τ), sm) : GSem nD τ sig) = {()} := if_pos rfl

/-- A wait on `q` is below everything owed: its level is below those of the cells not yet paid. -/
theorem mayWait (c : Dev nD) (p : List (DmaSem sig)) (q : DmaSem sig) (h : ∀ q', P.remote q' = true → q' ∉ p → P.lev q < P.lev q') :
    (levAts L P.lv : sProp 𝕄) ⊢ MayWait (c.tc : Thread nD τ) (.dma q) () (P.owed c p) :=
  MayOwe.of_cut (L := L) (lev := P.lv) (P.lev q)
    (fun x hx => by rw [Finset.mem_singleton.mp hx, L_tc]; exact Finset.mem_singleton_self _)
    (fun g u hg => by obtain ⟨q', -, -, rfl⟩ := P.owed_pos hg; exact Finset.mem_singleton_self _)
    (fun x hx => by rw [Finset.mem_singleton.mp hx]; exact le_rfl)
    (fun g u hg => by obtain ⟨q', h1, h2, rfl⟩ := P.owed_pos hg; exact h q' h1 h2)

/-! ## What a device holds along its run -/

/-- The cells' invariants (at names `K`), that every cell has begun its round, and the levels. -/
def Rec (K : Dev nD × DmaSem sig → ℕ) : sProp 𝕄 :=
  iprop((bigSep Finset.univ fun x : Dev nD × DmaSem sig => cellInv ER P.rd (K x) (cell x.1 x.2))
    ∗ (bigSep Finset.univ fun x : Dev nD × DmaSem sig => reached ER (cell x.1 x.2) 0) ∗ levAts L P.lv)

instance rec_persistent (K : Dev nD × DmaSem sig → ℕ) : BI.Persistent (P.Rec K) := by unfold Rec; infer_instance

theorem rec_inv (K : Dev nD × DmaSem sig → ℕ) (c : Dev nD) (q : DmaSem sig) : P.Rec K ⊢ cellInv ER P.rd (K (c, q)) (cell c q) := by
  have h : (bigSep Finset.univ fun x : Dev nD × DmaSem sig => cellInv ER P.rd (K x) (cell x.1 x.2) : sProp 𝕄) ⊢ cellInv ER P.rd (K (c, q)) (cell c q) :=
    bigSep_elim (Finset.mem_univ (c, q))
  unfold Rec; iintro ⟨H, -⟩; iapply h; iexact H
theorem rec_reached (K : Dev nD × DmaSem sig → ℕ) (c : Dev nD) (q : DmaSem sig) : P.Rec K ⊢ reached ER (cell c q) 0 := by
  have h : (bigSep Finset.univ fun x : Dev nD × DmaSem sig => reached ER (cell x.1 x.2) 0 : sProp 𝕄) ⊢ reached ER (cell c q) 0 :=
    bigSep_elim (Finset.mem_univ (c, q))
  unfold Rec; iintro ⟨-, H, -⟩; iapply h; iexact H
theorem rec_levels (K : Dev nD × DmaSem sig → ℕ) : P.Rec K ⊢ levAts L P.lv := by unfold Rec; iintro ⟨-, -, H⟩; iexact H

/-- The right to pay each cell not yet paid, and what that takes. -/
def toks (c : Dev nD) (p : List (DmaSem sig)) (q : DmaSem sig) : sProp 𝕄 :=
  if q ∈ p then iprop(emp) else iprop(dutyTok ER (cell (P.peer q c) q) 0 () ∗ P.src c q ∗ P.dst (P.peer q c) q)
/-- The position at each cell not yet waited for; the cells waited for read zero, and have delivered. -/
def poss (c : Dev nD) (w : List (DmaSem sig)) (q : DmaSem sig) : sProp 𝕄 :=
  if q ∈ w then iprop(semVal (cell c q) 0 ∗ P.keep c q) else atPos ER (cell c q) 0 ∅ 0
/-- The right to wait for each cell paid by others or paid already. -/
def crds (c : Dev nD) (p w : List (DmaSem sig)) (q : DmaSem sig) : sProp 𝕄 :=
  if (P.remote q = true ∨ q ∈ p) ∧ q ∉ w then cred (tallyAt (cell c q) () (P.amt q)) else iprop(emp)

def Core (c : Dev nD) (p w : List (DmaSem sig)) : sProp 𝕄 :=
  iprop(bigSep Finset.univ (P.toks c p) ∗ bigSep Finset.univ (P.poss c w) ∗ bigSep Finset.univ (P.crds c p w))
def State (c : Dev nD) (p w : List (DmaSem sig)) : sProp 𝕄 :=
  iprop(P.Core c p w ∗ ∃ W, owes (c.tc : Thread nD τ) (P.owed c p) W)

theorem swap_one {I : Type} [Fintype I] [DecidableEq I] {Φ Ψ : I → sProp 𝕄} (i : I) (h : ∀ j, j ≠ i → Φ j = Ψ j) :
    bigSep Finset.univ Φ = iprop(Φ i ∗ bigSep (Finset.univ.erase i) Ψ) := by
  rw [bigSep_univ_at Φ i, bigSep_congr fun j hj => h j (Finset.ne_of_mem_erase hj)]

theorem toks_take (c : Dev nD) (p : List (DmaSem sig)) {q : DmaSem sig} (hq : q ∉ p) :
    bigSep Finset.univ (P.toks c p) ⊢ iprop((dutyTok ER (cell (P.peer q c) q) 0 () ∗ P.src c q ∗ P.dst (P.peer q c) q) ∗ bigSep Finset.univ (P.toks c (q :: p))) := by
  rw [swap_one (Φ := P.toks c p) (Ψ := P.toks c (q :: p)) q (fun j hj => by unfold toks; simp only [List.mem_cons, hj, false_or]), bigSep_univ_at (P.toks c (q :: p)) q,
    show P.toks c p q = _ from if_neg hq, show P.toks c (q :: p) q = _ from if_pos (List.mem_cons_self ..)]
  iintro ⟨H, HR⟩
  isplitl [H]; · iexact H
  isplitr; · iempintro
  iexact HR

theorem poss_take (c : Dev nD) (w : List (DmaSem sig)) {q : DmaSem sig} (hq : q ∉ w) :
    bigSep Finset.univ (P.poss c w) ⊢ iprop(atPos ER (cell c q) 0 ∅ 0 ∗ ((semVal (cell c q) 0 ∗ P.keep c q) -∗ bigSep Finset.univ (P.poss c (q :: w)))) := by
  rw [swap_one (Φ := P.poss c w) (Ψ := P.poss c (q :: w)) q (fun j hj => by unfold poss; simp only [List.mem_cons, hj, false_or]), bigSep_univ_at (P.poss c (q :: w)) q,
    show P.poss c w q = _ from if_neg hq, show P.poss c (q :: w) q = _ from if_pos (List.mem_cons_self ..)]
  iintro ⟨H, HR⟩
  isplitl [H]; · iexact H
  iintro Hq
  isplitl [Hq] <;> iassumption

theorem crds_take (c : Dev nD) (p w : List (DmaSem sig)) {q : DmaSem sig} (hr : P.remote q = true ∨ q ∈ p) (hq : q ∉ w) :
    bigSep Finset.univ (P.crds c p w) ⊢ iprop(cred (tallyAt (cell c q) () (P.amt q)) ∗ bigSep Finset.univ (P.crds c p (q :: w))) := by
  rw [swap_one (Φ := P.crds c p w) (Ψ := P.crds c p (q :: w)) q (fun j hj => by unfold crds; simp only [List.mem_cons, hj, false_or]), bigSep_univ_at (P.crds c p (q :: w)) q,
    show P.crds c p w q = _ from if_pos ⟨hr, hq⟩, show P.crds c p (q :: w) q = _ from if_neg fun h => h.2 (List.mem_cons_self ..)]
  iintro ⟨H, HR⟩
  isplitl [H]; · iexact H
  isplitr; · iempintro
  iexact HR

/-- A cell paid by its own device: the right to wait for it. -/
theorem crds_put (c : Dev nD) (p w : List (DmaSem sig)) {q : DmaSem sig} (hr : P.remote q = false) (hp : q ∉ p) (hq : q ∉ w) :
    iprop(cred (tallyAt (cell c q) () (P.amt q)) ∗ bigSep Finset.univ (P.crds c p w)) ⊢ bigSep Finset.univ (P.crds c (q :: p) w) := by
  rw [swap_one (Φ := P.crds c p w) (Ψ := P.crds c (q :: p) w) q (fun j hj => by unfold crds; simp only [List.mem_cons, hj, false_or]), bigSep_univ_at (P.crds c (q :: p) w) q,
    show P.crds c p w q = _ from if_neg fun h => h.1.elim (fun h => by rw [hr] at h; cases h) hp,
    show P.crds c (q :: p) w q = _ from if_pos ⟨.inr (List.mem_cons_self ..), hq⟩]
  iintro ⟨H, -, HR⟩
  isplitl [H] <;> iassumption

/-- Another device's cell paid: nothing changes here. -/
theorem crds_paid (c : Dev nD) (p w : List (DmaSem sig)) {q : DmaSem sig} (hr : P.remote q = true) :
    P.crds c (q :: p) w = P.crds c p w := funext fun j => by
  unfold crds
  by_cases h : j = q
  · subst h; simp only [hr, true_or, true_and]
  · simp only [List.mem_cons, h, false_or]

/-! ## The steps -/

section Steps

variable {Λ : Idealize.SL.Sem.Labels} (defs : Defs nD τ sig Val Λ) (𝒱 : Variants) (K : Dev nD × DmaSem sig → ℕ) (c : Dev nD)
variable {α : Type} {Q : α → sProp (MT nD τ sig Unit Val ℕ (UU nD τ sig) ℕ)} {sp sp' : Space} {s : Shape} {e : EltTy}

/-- A local copy paying the device's own cell `q`. -/
theorem copy_step {p w : List (DmaSem sig)} {H : sProp 𝕄} (q : DmaSem sig)
    {src : Memref sig (c.tc : Thread nD τ).2.kind sp s e} {dst : Memref sig (c.tc : Thread nD τ).2.kind sp' s e}
    {hsrc : src.view.WordExact} {hdst : dst.view.WordExact} {hsem : DmaTarget.Typed (nD := nD) sp (.dma q) (.here dst)}
    {k : PUnit → Prog (TpuEff nD τ sig Val Λ (c.tc : Thread nD τ).2) α}
    (hto : P.peer q c = c) (hr : P.remote q = false) (hp : q ∉ p) (hw : q ∉ w) (hN : dst.view.amount (.dma q) = P.amt q)
    (π : PosShare TreeShare) (fs : Buf Val (src.view.loc (c.tc : Thread nD τ))) (fd : Buf Val (dst.view.loc (c.tc : Thread nD τ)))
    (hres : iprop(P.src c q ∗ P.dst c q) ⊢ iprop((src.view.loc (c.tc : Thread nD τ) ↦[src.view.set]{π} fs) ∗ (dst.view.loc (c.tc : Thread nD τ) ↦[dst.view.set]{fullShare} fd)))
    (hpay : iprop((dst.view.loc (c.tc : Thread nD τ) ↦[dst.view.set]{fullShare} (dst.view.write Val fd (src.view.read Val fs) Finset.univ))
      ∗ (src.view.loc (c.tc : Thread nD τ) ↦[src.view.set]{π} fs)) ⊢ P.pay c q)
    (hk : iprop(P.Rec K ∗ P.State c (q :: p) w ∗ H) ⊢ wp frame (wpE defs 𝒱 (c.tc : Thread nD τ) none) Set.univ (k ⟨⟩) Q) :
    iprop(P.Rec K ∗ P.State c p w ∗ H)
      ⊢ wp frame (wpE defs 𝒱 (c.tc : Thread nD τ) none) Set.univ (.op (.enqueueDma src (.here dst) (.dma q) hsrc hdst hsem) k) Q := by
  unfold State Core at hk ⊢
  iintro ⟨#HR, ⟨⟨Ht, Hp, Hc⟩, HO⟩, HH⟩
  ihave H1 := (P.toks_take c p hp) $$ Ht
  rw [hto]
  icases H1 with ⟨⟨Htok, Hsd⟩, Ht⟩
  ihave H2 := hres $$ Hsd
  icases H2 with ⟨Hs, Hd⟩
  iapply (Rounds.wp_copy_pointsTo 𝒱 ER P.rd (c.tc : Thread nD τ) none (κ := K (c, q)) (r := 0) (d := ()) (fd := fd) (fs := fs) (q := π)
    (P.duty_mem c q) () (P.amt q) hN rfl hpay) $$ [Hs Hd Htok]
  · isplitr; · iapply (P.rec_inv K c q); iexact HR
    isplitl [Hs]; · iexact Hs
    isplitl [Hd]; · iexact Hd
    isplitl [Htok]; · iexact Htok
    iapply (P.rec_reached K c q); iexact HR
  iintro Hcr
  iapply hk
  isplitr; · iexact HR
  isplitr [HH]
  · isplitr [HO]
    · isplitl [Ht]; · iexact Ht
      isplitl [Hp]; · iexact Hp
      iapply (P.crds_put c p w hr hp hw)
      isplitl [Hcr] <;> iassumption
    · rw [← P.owed_local c p hr]; iexact HO
  · iexact HH

/-- A copy to device `n`, paying the device's own cell `qs` on departure and `n`'s cell `qr` on landing, from what the
    plan gives for `qr` and what is at hand besides (`F`). -/
theorem send_step {p w : List (DmaSem sig)} {H F : sProp 𝕄} (qs qr : DmaSem sig) (n : Dev nD)
    {src : Memref sig (c.tc : Thread nD τ).2.kind sp s e} {dst : Memref sig (Dev.tc n : Thread nD τ).2.kind sp' s e} {hsc : dst.view.ref.isScScratch = false}
    {hsrc : src.view.WordExact} {hdst : dst.view.WordExact}
    {hsem : DmaTarget.Typed sp (.dma qr) (.remote (Dev.tc n : Thread nD τ) dst (.dma qs) hsc)}
    {k : PUnit → Prog (TpuEff nD τ sig Val Λ (c.tc : Thread nD τ).2) α}
    (hn : n = P.peer qr c) (htos : P.peer qs c = c) (hrs : P.remote qs = false) (hrr : P.remote qr = true)
    (hps : qs ∉ p) (hpr : qr ∉ p) (hws : qs ∉ w) (hN : dst.view.amount (.dma qr) = P.amt qr) (hNs : P.amt qs = P.amt qr)
    (π : PosShare TreeShare) (fs : Buf Val (src.view.loc (c.tc : Thread nD τ))) (fd : Buf Val (dst.view.loc (Dev.tc n : Thread nD τ)))
    (hres : iprop(F ∗ P.src c qr ∗ P.dst n qr) ⊢ iprop((src.view.loc (c.tc : Thread nD τ) ↦[src.view.set]{π} fs) ∗ (dst.view.loc (Dev.tc n : Thread nD τ) ↦[dst.view.set]{fullShare} fd)))
    (hpays : P.pay c qs = iprop(emp))
    (hpay : (dst.view.loc (Dev.tc n : Thread nD τ) ↦[dst.view.set]{fullShare} (dst.view.write Val fd (src.view.read Val fs) Finset.univ)) ⊢ P.pay n qr)
    (hroute : τ.routes (c.tc : Thread nD τ) (Dev.tc n : Thread nD τ) = true)
    (hk : iprop(P.Rec K ∗ P.State c (qs :: qr :: p) w ∗ H) ⊢ wp frame (wpE defs 𝒱 (c.tc : Thread nD τ) none) Set.univ (k ⟨⟩) Q) :
    iprop(P.Rec K ∗ P.State c p w ∗ F ∗ H)
      ⊢ wp frame (wpE defs 𝒱 (c.tc : Thread nD τ) none) Set.univ
          (.op (.enqueueDma src (.remote (Dev.tc n : Thread nD τ) dst (.dma qs) hsc) (.dma qr) hsrc hdst hsem) k) Q := by
  subst hn
  have hne : qs ≠ qr := fun h => by rw [h, hrr] at hrs; cases hrs
  have hps' : qs ∉ qr :: p := by rw [List.mem_cons]; exact fun h => h.elim hne hps
  have hpays' : (src.view.loc (c.tc : Thread nD τ) ↦[src.view.set]{π} fs : sProp 𝕄) ⊢ P.pay c qs := by
    rw [hpays]; iintro -; iempintro
  unfold State Core at hk ⊢
  iintro ⟨#HR, ⟨⟨Ht, Hp, Hc⟩, ⟨%W, HO⟩⟩, HF, HH⟩
  ihave H1 := (P.toks_take c p hpr) $$ Ht
  icases H1 with ⟨⟨Htokr, Hsd⟩, Ht⟩
  ihave H2 := (P.toks_take c (qr :: p) hps') $$ Ht
  rw [htos]
  icases H2 with ⟨⟨Htoks, -⟩, Ht⟩
  ihave H3 := hres $$ [HF Hsd]
  · isplitl [HF] <;> iassumption
  icases H3 with ⟨Hs, Hd⟩
  iapply (Rounds.wp_send_pointsTo 𝒱 ER P.rd (c.tc : Thread nD τ) none (κ₁ := K (c, qs)) (κ₂ := K (P.peer qr c, qr)) (r₁ := 0) (r₂ := 0) (d₁ := ()) (d₂ := ())
    (fd := fd) (fs := fs) (q := π)
    (P.duty_mem c qs) (P.duty_mem (P.peer qr c) qr) () () (P.amt qr) hN hNs rfl (P.owed c (qr :: p)) (P.owed_remote c p hrr hpr) (W := W) hpays' hpay
    (hr := hroute)) $$ [Hs Hd HO Htoks Htokr]
  · isplitr; · iapply (P.rec_inv K c qs); iexact HR
    isplitr; · iapply (P.rec_inv K (P.peer qr c) qr); iexact HR
    isplitl [Hs]; · iexact Hs
    isplitl [Hd]; · iexact Hd
    isplitl [HO]; · iexact HO
    isplitl [Htoks]; · iexact Htoks
    isplitr; · iapply (P.rec_reached K c qs); iexact HR
    isplitl [Htokr]; · iexact Htokr
    iapply (P.rec_reached K (P.peer qr c) qr); iexact HR
  iintro ⟨Hcr, HO⟩
  iapply hk
  isplitr; · iexact HR
  isplitr [HH]
  · isplitr [HO]
    · isplitl [Ht]; · iexact Ht
      isplitl [Hp]; · iexact Hp
      iapply (P.crds_put c (qr :: p) w hrs hps' hws)
      rw [P.crds_paid c p w hrr, hNs]
      isplitl [Hcr] <;> iassumption
    · iexists W; rw [← P.owed_local c (qr :: p) hrs]; iexact HO
  · iexact HH

/-- A wait for cell `q`: it hands over what landed there, and the cell is closed, its counter at zero. -/
theorem wait_step {p w : List (DmaSem sig)} {H : sProp 𝕄} (q : DmaSem sig)
    {src : Memref sig (c.tc : Thread nD τ).2.kind sp s e} {dst : Memref sig (c.tc : Thread nD τ).2.kind sp' s e} {hsrc : src.view.WordExact} {hdst : dst.view.WordExact}
    {k : PUnit → Prog (TpuEff nD τ sig Val Λ (c.tc : Thread nD τ).2) α}
    (hr : P.remote q = true ∨ q ∈ p) (hw : q ∉ w) (hlev : ∀ q', P.remote q' = true → q' ∉ p → P.lev q < P.lev q')
    (hN : dst.view.dmaCredit = P.amt q)
    (hk : iprop(P.Rec K ∗ P.State c p (q :: w) ∗ P.extra c q ∗ H) ⊢ wp frame (wpE defs 𝒱 (c.tc : Thread nD τ) none) Set.univ (k ⟨⟩) Q) :
    iprop(P.Rec K ∗ P.State c p w ∗ H)
      ⊢ wp frame (wpE defs 𝒱 (c.tc : Thread nD τ) none) Set.univ (.op (.waitDma2 q src dst hsrc hdst) k) Q := by
  unfold State Core at hk ⊢
  iintro ⟨#HR, ⟨⟨Ht, Hp, Hc⟩, ⟨%W, HO⟩⟩, HH⟩
  ihave H1 := (P.poss_take c w hw) $$ Hp
  icases H1 with ⟨Hat, Hback⟩
  ihave H2 := (P.crds_take c p w hr hw) $$ Hc
  icases H2 with ⟨Hcr, Hc⟩
  iapply (Rounds.wp_wait_rest_token 𝒱 ER P.rd (c.tc : Thread nD τ) none (κ := K (c, q))
      (wpE_waitDma2_eq 𝒱 (c.tc : Thread nD τ) none Set.univ) (Set.mem_univ _) () (O := P.owed c p) (W := W) (R := 0) (m := 0) (T := ∅)
      (by rw [Nat.zero_add, P.expect_zero]; exact hN)) $$ [Hcr HO Hat]
  · isplitr; · iapply (P.rec_inv K c q); iexact HR
    isplitl [Hcr]; · rw [hN]; iexact Hcr
    isplitl [HO]; · iexact HO
    isplitr; · iapply (P.mayWait c p q hlev); iapply (P.rec_levels K); iexact HR
    iexact Hat
  iintro ⟨HO, Hat, -, Hpay⟩
  ihave Hpay := (Entails.of_eq (P.rest_zero c q)) $$ Hpay
  ihave Hpay := (P.split c q) $$ Hpay
  icases Hpay with ⟨Hkeep, Hextra⟩
  imod (Rounds.cell_close ER P.rd (Set.mem_univ (K (c, q))) (fun h => h) (R := 0 + 1) (P.duties_later (cell c q))) $$ [Hat] with Hz
  · isplitr; · iapply (P.rec_inv K c q); iexact HR
    iexact Hat
  iapply hk
  isplitr; · iexact HR
  isplitr [HH Hextra]
  · isplitr [HO]
    · isplitl [Ht]; · iexact Ht
      isplitl [Hz Hkeep Hback]
      · iapply Hback; isplitl [Hz] <;> iassumption
      iexact Hc
    · iexists _; iexact HO
  · isplitl [Hextra] <;> iassumption

/-- A wait whose delivery is kept whole. -/
theorem wait_step' {p w : List (DmaSem sig)} {H : sProp 𝕄} (q : DmaSem sig)
    {src : Memref sig (c.tc : Thread nD τ).2.kind sp s e} {dst : Memref sig (c.tc : Thread nD τ).2.kind sp' s e} {hsrc : src.view.WordExact} {hdst : dst.view.WordExact}
    {k : PUnit → Prog (TpuEff nD τ sig Val Λ (c.tc : Thread nD τ).2) α}
    (hr : P.remote q = true ∨ q ∈ p) (hw : q ∉ w) (hlev : ∀ q', P.remote q' = true → q' ∉ p → P.lev q < P.lev q')
    (hN : dst.view.dmaCredit = P.amt q)
    (hk : iprop(P.Rec K ∗ P.State c p (q :: w) ∗ H) ⊢ wp frame (wpE defs 𝒱 (c.tc : Thread nD τ) none) Set.univ (k ⟨⟩) Q) :
    iprop(P.Rec K ∗ P.State c p w ∗ H)
      ⊢ wp frame (wpE defs 𝒱 (c.tc : Thread nD τ) none) Set.univ (.op (.waitDma2 q src dst hsrc hdst) k) Q :=
  P.wait_step defs 𝒱 K c q hr hw hlev hN ((sep_mono_right (sep_mono_right (show iprop(P.extra c q ∗ H) ⊢ H from by iintro ⟨-, HH⟩; iexact HH))).trans hk)

end Steps

end Plan

end Cert.Exchange

end
-- ==== Proof.ExchangeRun.lean ====
/-
# The launch of an exchange

`Plan.run`: from the body of an exchange kernel, shown at one symbolic device from the plan's opening state to its
closing one, to the run of the whole program on all devices.
-/
module

public import proofs.«01_k».proof.Proof.Exchange

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : ℕ} {τ : Topo} {sig : RefSig} {Val : EltTy → Type}

local notation "𝕄" => MT nD τ sig Unit Val ℕ (UU nD τ sig) ℕ

namespace Plan

variable (P : Plan nD τ sig Val)

/-! ## The cells, and their tokens dealt to the payers -/

theorem cell_injective : Function.Injective fun x : Dev nD × DmaSem sig => (cell x.1 x.2 : GSem nD τ sig) := fun x y h => by
  have h1 : x.1 = y.1 := congrArg (fun g : GSem nD τ sig => g.1.1) h
  have h2 : x.2 = y.2 := SemLoc.dma.inj (congrArg (fun g : GSem nD τ sig => g.2) h)
  exact Prod.ext h1 h2

def allCells : Finset (GSem nD τ sig) := Finset.univ.map ⟨_, cell_injective⟩
def allToks : Finset (GSem nD τ sig × ℕ × Unit) :=
  Finset.univ.map ⟨fun x : Dev nD × DmaSem sig => (cell x.1 x.2, 0, ()), fun _ _ h => cell_injective (congrArg Prod.fst h)⟩

/-- What the cells' owner holds of them at launch. -/
def Gst (c : Dev nD) : sProp 𝕄 :=
  iprop((bigSep Finset.univ fun q : DmaSem sig => roundState ER P.rd (cell c q) 0)
    ∗ (bigSep Finset.univ fun q : DmaSem sig => atPos ER (cell c q) 0 ∅ 0)
    ∗ (bigSep Finset.univ fun q : DmaSem sig => reached ER (cell c q) 0)
    ∗ bigSep Finset.univ fun q : DmaSem sig => dutyTok ER (cell c q) 0 ())

theorem fund_cells : BI.own (ER (nD := nD) (τ := τ) (sig := sig) (Val := Val) (initOf allCells allToks)) ⊢ (|==> bigSep Finset.univ P.Gst : sProp 𝕄) := by
  have hX (Φ : GSem nD τ sig → sProp 𝕄) : bigSep allCells Φ = bigSep Finset.univ fun c : Dev nD => bigSep Finset.univ fun q : DmaSem sig => Φ (cell c q) := by
    unfold allCells; rw [bigSep_map, bigSep_univ_prod]; rfl
  have hT : bigSep allToks (fun x => (dutyTok ER x.1 x.2.1 x.2.2 : sProp 𝕄))
      = bigSep Finset.univ fun c : Dev nD => bigSep Finset.univ fun q : DmaSem sig => dutyTok ER (cell c q) 0 () := by
    unfold allToks; rw [bigSep_map, bigSep_univ_prod]; rfl
  iintro HX
  imod (Rounds.fund ER P.rd allCells allToks) $$ HX with ⟨Hst, Hr, Hat, Htok⟩
  imodintro
  ihave Hst' := (Entails.of_eq (hX fun g => roundState ER P.rd g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold Gst; simp only [bigSep_sep']
  isplitl [Hst']; · iexact Hst'
  isplitl [Hat']; · iexact Hat'
  isplitl [Hr']; · iexact Hr'
  iexact Htok'

/-- The semaphores an exchange uses, all of them. -/
abbrev osem : DmaSem sig → SemLoc sig := .dma

theorem inv_make (c : Dev nD) :
    iprop(ownSems0 (Ix := Unit) (Name := ℕ) (U := UU nD τ sig) (Lvl := ℕ) (Val := Val) (τ := τ) osem c ∗ bigSep Finset.univ fun q : DmaSem sig => roundState ER P.rd (cell c q) 0)
      ⊢ (|={Set.univ}=> bigSep Finset.univ fun q : DmaSem sig => iprop(∃ κ : ℕ, cellInv ER P.rd κ (cell c q)) : sProp 𝕄) := by
  show iprop((bigSep Finset.univ fun q : DmaSem sig => semVal (cell c q) 0) ∗ bigSep Finset.univ fun q : DmaSem sig => roundState ER P.rd (cell c q) 0) ⊢ _
  rw [← bigSep_sep']
  exact (bigSep_mono fun q _ => (Rounds.body_intro ER P.rd (cell c q)).trans inv_alloc).trans (bigSep_fupd _ _)

/-- What every device has of its cell `q`, seen from the payers. -/
theorem around (Ψ : Dev nD → DmaSem sig → sProp 𝕄) :
    (bigSep Finset.univ fun c : Dev nD => bigSep Finset.univ fun q : DmaSem sig => Ψ c q)
      = bigSep Finset.univ fun c : Dev nD => bigSep Finset.univ fun q : DmaSem sig => Ψ (P.peer q c) q := by
  rw [BI.bigSep_univ_comm Ψ, BI.bigSep_univ_comm fun c q => Ψ (P.peer q c) q]
  exact bigSep_congr fun q _ => bigSep_univ_equiv (P.peer q) fun c => Ψ c q

/-! ## The launch credit -/

theorem owed_at (d c : Dev nD) (q : DmaSem sig) : P.owed d [] (cell c q) () = if P.remote q = true ∧ P.peer q d = c then P.amt q else 0 := by
  unfold owed
  rw [Finset.sum_apply, Finsupp.finsetSum_apply, Finset.sum_eq_single q]
  · by_cases hr : P.remote q = true
    · rw [if_pos ⟨hr, List.not_mem_nil⟩, tallyAt_apply]
      by_cases hc : P.peer q d = c
      · rw [if_pos ⟨by rw [hc], rfl⟩, if_pos ⟨hr, hc⟩]
      · rw [if_neg (fun h => hc (congrArg (fun g : GSem nD τ sig => g.1.1) h.1).symm), if_neg fun h => hc h.2]
    · rw [if_neg fun h => hr h.1, if_neg fun h => hr h.1]; rfl
  · intro q' _ hq
    by_cases hr : P.remote q' = true
    · rw [if_pos ⟨hr, List.not_mem_nil⟩, tallyAt_apply, if_neg]
      exact fun h => hq (SemLoc.dma.inj (congrArg (fun g : GSem nD τ sig => g.2) h.1)).symm
    · rw [if_neg fun h => hr h.1]; rfl
  · exact fun h => absurd (Finset.mem_univ _) h

theorem launch_at (c : Dev nD) (q : DmaSem sig) (hr : P.remote q = true) :
    tallyOn (cell c q) (launchCredit (owing fun d => P.owed d []) 0 (cell c q)) = (tallyAt (cell c q) () (P.amt q) : CellTallies nD τ sig Unit) := by
  unfold tallyAt; refine congrArg _ (Finsupp.ext fun u => ?_); cases u
  rw [launchCredit_owing, Finsupp.single_eq_same, Finset.sum_congr rfl fun d _ => P.owed_at d c q,
    Finset.sum_eq_single ((P.peer q).symm c), if_pos ⟨hr, Equiv.apply_symm_apply _ _⟩]
  · exact fun d _ hd => if_neg fun h => hd (by rw [← h.2, Equiv.symm_apply_apply])
  · exact fun h => absurd (Finset.mem_univ _) h

theorem drop_it (A : sProp 𝕄) : A ⊢ iprop(emp) := by iintro -; iempintro

theorem credits (c : Dev nD) : (launchCred (fun d => P.owed d []) c : sProp 𝕄) ⊢ bigSep Finset.univ (P.crds c [] []) := by
  classical
  have h1 : (launchCred (fun d => P.owed d []) c : sProp 𝕄)
      ⊢ bigSep (Finset.univ.map ⟨fun q : DmaSem sig => (SemLoc.dma q : SemLoc sig), fun _ _ h => SemLoc.dma.inj h⟩)
          fun sm : SemLoc sig => cred (tallyOn ((c.tc : Thread nD τ), sm) (launchCredit (owing fun d => P.owed d []) 0 ((c.tc : Thread nD τ), sm))) :=
    bigSep_subset (Finset.subset_univ _)
  refine h1.trans ?_
  rw [bigSep_map]
  refine bigSep_mono fun q _ => ?_
  unfold crds
  by_cases hr : P.remote q = true
  · rw [if_pos ⟨.inl hr, List.not_mem_nil⟩, ← P.launch_at c q hr]; exact BI.Entails.refl _
  · rw [if_neg fun h => h.1.elim hr List.not_mem_nil]
    exact drop_it _

/-! ## The launch -/

theorem gather_up {R : sProp 𝕄} [BI.Persistent R] {Φ Ψ : Dev nD → sProp 𝕄}
    (h : ∀ c, iprop(R ∗ Φ c) ⊢ Ψ c) : iprop(R ∗ bigSep Finset.univ Φ) ⊢ bigSep Finset.univ Ψ :=
  (sep_mono_left (BI.bigSep_of_persistent Finset.univ R)).trans (by rw [← bigSep_sep']; exact bigSep_mono fun c _ => h c)

/-- What each device starts with, the levels apart. -/
def Start (Hold : Dev nD → sProp 𝕄) (c : Dev nD) : sProp 𝕄 :=
  iprop((∃ K : Dev nD × DmaSem sig → ℕ, (bigSep Finset.univ fun x : Dev nD × DmaSem sig => cellInv ER P.rd (K x) (cell x.1 x.2))
      ∗ (bigSep Finset.univ fun x : Dev nD × DmaSem sig => reached ER (cell x.1 x.2) 0))
    ∗ P.Core c [] [] ∗ Hold c)

theorem regroup (Hold : Dev nD → sProp 𝕄) : (bigSep Finset.univ fun c => iprop((bigSep Finset.univ fun q : DmaSem sig => iprop(∃ κ : ℕ, cellInv ER P.rd κ (cell c q)))
          ∗ (bigSep Finset.univ fun q : DmaSem sig => reached ER (cell c q) 0)
          ∗ (bigSep Finset.univ fun q : DmaSem sig => dutyTok ER (cell c q) 0 ())
          ∗ bigSep Finset.univ (P.dst c)
          ∗ (bigSep Finset.univ (P.src c)
            ∗ (bigSep Finset.univ fun q : DmaSem sig => atPos ER (cell c q) 0 ∅ 0) ∗ bigSep Finset.univ (P.crds c [] []) ∗ Hold c)) : sProp 𝕄)
      ⊢ bigSep Finset.univ (P.Start Hold) := by
  rw [bigSep_sep', bigSep_sep', bigSep_sep', bigSep_sep',
    ← bigSep_univ_prod (fun x : Dev nD × DmaSem sig => iprop(∃ κ : ℕ, cellInv ER P.rd κ (cell x.1 x.2))),
    ← bigSep_univ_prod (fun x : Dev nD × DmaSem sig => (reached ER (cell x.1 x.2) 0 : sProp 𝕄)),
    P.around (fun c q => dutyTok ER (cell c q) 0 ()), P.around P.dst]
  iintro ⟨HI, #HR, Htok, Hdst, Hrest⟩
  ihave HK := (BI.bigSep_exists_pi Finset.univ (fun (x : Dev nD × DmaSem sig) (κ : ℕ) => (cellInv ER P.rd κ (cell x.1 x.2) : sProp 𝕄))) $$ HI
  icases HK with ⟨%K, #HI⟩
  iapply (gather_up (R := iprop((bigSep Finset.univ fun x : Dev nD × DmaSem sig => cellInv ER P.rd (K x) (cell x.1 x.2))
      ∗ (bigSep Finset.univ fun x : Dev nD × DmaSem sig => reached ER (cell x.1 x.2) 0)))
    (Φ := fun c => iprop((bigSep Finset.univ fun q : DmaSem sig => dutyTok ER (cell (P.peer q c) q) 0 ()) ∗ (bigSep Finset.univ fun q : DmaSem sig => P.dst (P.peer q c) q)
      ∗ bigSep Finset.univ (P.src c)
            ∗ (bigSep Finset.univ fun q : DmaSem sig => atPos ER (cell c q) 0 ∅ 0) ∗ bigSep Finset.univ (P.crds c [] []) ∗ Hold c)) (Ψ := P.Start Hold) fun c => by
      unfold Start Core
      rw [show P.toks c [] = fun q => iprop(dutyTok ER (cell (P.peer q c) q) 0 () ∗ P.src c q ∗ P.dst (P.peer q c) q) from
          funext fun q => by unfold toks; rw [if_neg List.not_mem_nil],
        show P.poss c [] = fun q => atPos ER (cell c q) 0 ∅ 0 from funext fun q => by unfold poss; rw [if_neg List.not_mem_nil]]
      simp only [bigSep_sep']
      iintro ⟨⟨HI, HR⟩, Ht, Hd, Hs, Hat, Hcr, Hh⟩
      isplitl [HI HR]
      · iexists K; isplitl [HI] <;> iassumption
      isplitr [Hh]
      · isplitl [Ht Hs Hd]
        · isplitl [Ht]; · iexact Ht
          isplitl [Hs] <;> iassumption
        isplitl [Hat] <;> iassumption
      · iexact Hh)
  isplitr
  · isplitl; · iexact HI
    iexact HR
  · have hm (A B C : Dev nD → sProp 𝕄) : iprop(bigSep Finset.univ A ∗ bigSep Finset.univ B ∗ bigSep Finset.univ C)
        ⊢ bigSep Finset.univ fun c => iprop(A c ∗ B c ∗ C c) := by
      rw [bigSep_sep', bigSep_sep']
    iapply (hm _ _ _)
    isplitl [Htok]; · iexact Htok
    isplitl [Hdst] <;> iassumption

theorem deal (Hold Mem : Dev nD → sProp 𝕄)
    (hmem : ∀ c, Mem c ⊢ iprop(bigSep Finset.univ (P.src c) ∗ bigSep Finset.univ (P.dst c) ∗ Hold c)) :
    (bigSep Finset.univ fun c => iprop(ownSems0 (Ix := Unit) (Name := ℕ) (U := UU nD τ sig) (Lvl := ℕ) (Val := Val) (τ := τ) osem c ∗ Mem c
        ∗ launchCred (fun d => P.owed d []) c ∗ P.Gst c) : sProp 𝕄)
      ⊢ |={Set.univ}=> bigSep Finset.univ (P.Start Hold) := by
  have hone (c : Dev nD) : iprop(ownSems0 (Ix := Unit) (Name := ℕ) (U := UU nD τ sig) (Lvl := ℕ) (Val := Val) (τ := τ) osem c ∗ Mem c
        ∗ launchCred (fun d => P.owed d []) c ∗ P.Gst c)
      ⊢ |={Set.univ}=> iprop((bigSep Finset.univ fun q : DmaSem sig => iprop(∃ κ : ℕ, cellInv ER P.rd κ (cell c q)))
          ∗ (bigSep Finset.univ fun q : DmaSem sig => reached ER (cell c q) 0)
          ∗ (bigSep Finset.univ fun q : DmaSem sig => dutyTok ER (cell c q) 0 ())
          ∗ bigSep Finset.univ (P.dst c)
          ∗ (bigSep Finset.univ (P.src c)
            ∗ (bigSep Finset.univ fun q : DmaSem sig => atPos ER (cell c q) 0 ∅ 0) ∗ bigSep Finset.univ (P.crds c [] []) ∗ Hold c)) := by
    unfold Gst
    iintro ⟨Hz, Hm, Hcr, Hst, Hat, Hre, Htk⟩
    ihave Hm := (hmem c) $$ Hm
    icases Hm with ⟨Hs, Hd, Hh⟩
    ihave Hcr := (P.credits c) $$ Hcr
    imod (P.inv_make c) $$ [Hz Hst] with Hi
    · isplitl [Hz] <;> iassumption
    imodintro
    isplitl [Hi]; · iexact Hi
    isplitl [Hre]; · iexact Hre
    isplitl [Htk]; · iexact Htk
    isplitl [Hd]; · iexact Hd
    isplitl [Hs]; · iexact Hs
    isplitl [Hat]; · iexact Hat
    isplitl [Hcr] <;> iassumption
  exact ((bigSep_mono fun c _ => hone c).trans (bigSep_fupd _ _)).trans (BI.fupd_mono (P.regroup Hold))

section Run

variable {Λ₀ : Idealize.SL.Sem.Labels} {J : Type} [Fintype J] [DecidableEq J]
variable (pcs : J → PCfg sig Λ₀ Val) (a : (j : J) → (pcs j).Adm) (j : J)

/-- After the run: every cell closed, and what each delivered. -/
def Done (Hold : Dev nD → sProp 𝕄) (c : Dev nD) : sProp 𝕄 :=
  iprop((bigSep Finset.univ fun q : DmaSem sig => semVal (cell c q) 0) ∗ (bigSep Finset.univ fun q : DmaSem sig => P.keep c q) ∗ Hold c)

theorem state_done (Hold : Dev nD → sProp 𝕄) {c : Dev nD} {p w : List (DmaSem sig)} (hp : ∀ q, P.remote q = true → q ∈ p) (hw : ∀ q, q ∈ w) :
    iprop(P.State c p w ∗ Hold c) ⊢ iprop(P.Done Hold c ∗ ∃ W, owes (c.tc : Thread nD τ) 0 W) := by
  unfold State Core Done
  rw [P.owed_none c p hp, show P.poss c w = fun q => iprop(semVal (cell c q) 0 ∗ P.keep c q) from funext fun q => by unfold poss; rw [if_pos (hw q)], bigSep_sep']
  iintro ⟨⟨⟨-, ⟨Hz, Hk⟩, -⟩, HO⟩, Hh⟩
  isplitr [HO]
  · isplitl [Hz]; · iexact Hz
    isplitl [Hk] <;> iassumption
  · iexact HO

theorem finish (Hold : Dev nD → sProp 𝕄) (c : Dev nD) (X : Set (SemLoc sig × Unit)) (hX : ∀ x, x ∈ (Set.univ : Set (SemLoc sig × Unit)) → x ∈ X) {K : Dev nD × DmaSem sig → ℕ}
    {p w : List (DmaSem sig)} (hp : ∀ q, P.remote q = true → q ∈ p) (hw : ∀ q, q ∈ w) :
    iprop(P.Rec K ∗ P.State c p w ∗ Hold c) ⊢ iprop(P.Done Hold c ∗ (∃ W : Waits sig Unit, ⌜(↑W : Set (SemLoc sig × Unit)) ⊆ X⌝ ∗ owes (c.tc : Thread nD τ) 0 W) ∗ emp) := by
  iintro ⟨-, HS, HH⟩
  ihave H := (P.state_done Hold hp hw) $$ [HS HH]
  · isplitl [HS] <;> iassumption
  icases H with ⟨HD, ⟨%W, HO⟩⟩
  isplitl [HD]; · iexact HD
  isplitl [HO]
  · iexists W; isplitr
    · ipureintro; exact fun x _ => hX x trivial
    · iexact HO
  · iempintro

theorem around_body (Hold : Dev nD → sProp 𝕄) (c : Dev nD) (X : Set (SemLoc sig × Unit)) {T : sProp 𝕄}
    (h : ∀ K, iprop(P.Rec K ∗ P.State c [] [] ∗ Hold c) ⊢ T) :
    iprop((∃ K, P.Rec K ∗ P.Core c [] [] ∗ Hold c) ∗ (∃ W : Waits sig Unit, ⌜(↑W : Set (SemLoc sig × Unit)) ⊆ X⌝ ∗ owes (c.tc : Thread nD τ) (P.owed c []) W) ∗ emp) ⊢ T := by
  iintro ⟨⟨%K, HR, HC, HH⟩, ⟨%W, -, HO⟩, -⟩
  iapply (h K)
  isplitl [HR]; · iexact HR
  isplitr [HH]
  · unfold State; isplitl [HC]; · iexact HC
    iexists W; iexact HO
  · iexact HH

theorem enter (Hold : Dev nD → sProp 𝕄) (R : sProp 𝕄) (c : Dev nD) :
    iprop(P.Start Hold c ∗ levAts L P.lv ∗ R) ⊢ iprop(∃ K, P.Rec K ∗ P.Core c [] [] ∗ Hold c) := by
  unfold Start Rec
  iintro ⟨⟨⟨%K, HI, HR⟩, HC, HH⟩, HL, -⟩
  iexists K
  isplitr [HC HH]
  · isplitl [HI]; · iexact HI
    isplitl [HR] <;> iassumption
  · isplitl [HC] <;> iassumption

theorem leave (Hold : Dev nD → sProp 𝕄) (c : Dev nD) (R : sProp 𝕄) (hR : R = iprop(emp)) :
    P.Done Hold c ⊢ iprop(((bigSep Finset.univ fun q : DmaSem sig => P.keep c q) ∗ Hold c)
      ∗ ownSems0 (Ix := Unit) (Name := ℕ) (U := UU nD τ sig) (Lvl := ℕ) (Val := Val) (τ := τ) osem c ∗ R) := by
  subst hR
  unfold Done ownSems0
  iintro ⟨Hz, Hk, Hh⟩
  isplitr [Hz]
  · isplitl [Hk] <;> iassumption
  isplitl [Hz]; · iexact Hz
  iempintro

theorem fund_launch (v : UR sig nD τ) :
    (ownU ((v, initOf allCells allToks) : UU nD τ sig) : sProp 𝕄) ⊢ |={Set.univ}=> iprop(BI.own (EP v) ∗ bigSep Finset.univ P.Gst) := by
  iintro Hu
  ihave H := (ownU_pair _ _) $$ Hu
  icases H with ⟨HP, HX⟩
  imod (P.fund_cells) $$ HX with HG
  imodintro
  isplitl [HP] <;> iassumption

def dats (Hold : Dev nD → sProp 𝕄) (hW : ∀ j, IsEmpty (Fin (pin pcs a j).W)) (j' : J) (c : Dev nD) : Dat τ Val Unit ℕ (UU nD τ sig) ℕ (pin pcs a j') c where
  A w := ((hW j').false w).elim
  after w := ((hW j').false w).elim
  Φ t := if t.val = 0 then iprop(∃ K, P.Rec K ∗ P.Core c [] [] ∗ Hold c) else P.Done Hold c
  q w := ((hW j').false w).elim
  owed t := if t.val = 0 then P.owed c [] else 0

theorem owed_first (Hold : Dev nD → sProp 𝕄) (hW : ∀ j, IsEmpty (Fin (pin pcs a j).W)) (j : J) (c : Dev nD) :
    (P.dats pcs a Hold hW j c).owed 0 = P.owed c [] := by
  unfold dats
  exact if_pos (e := (0 : CellTallies nD τ sig Unit)) (rfl : (0 : Fin ((pin pcs a j).N + 1)).val = 0)
theorem phi_first (Hold : Dev nD → sProp 𝕄) (hW : ∀ j, IsEmpty (Fin (pin pcs a j).W)) (j : J) (c : Dev nD) :
    (P.dats pcs a Hold hW j c).Φ 0 = iprop(∃ K, P.Rec K ∗ P.Core c [] [] ∗ Hold c) := by
  unfold dats
  exact if_pos (e := P.Done Hold c) (rfl : (0 : Fin ((pin pcs a j).N + 1)).val = 0)

theorem phi_later (Hold : Dev nD → sProp 𝕄) (hW : ∀ j, IsEmpty (Fin (pin pcs a j).W)) (j : J) (c : Dev nD) (t : Fin ((pin pcs a j).N + 1)) (ht : t.val ≠ 0) :
    (P.dats pcs a Hold hW j c).Φ t = P.Done Hold c := by
  unfold dats
  exact if_neg ht
theorem owed_later (Hold : Dev nD → sProp 𝕄) (hW : ∀ j, IsEmpty (Fin (pin pcs a j).W)) (j : J) (c : Dev nD) (t : Fin ((pin pcs a j).N + 1)) (ht : t.val ≠ 0) :
    (P.dats pcs a Hold hW j c).owed t = 0 := by
  unfold dats
  exact if_neg ht

theorem run (Hold : Dev nD → sProp 𝕄) (phinj : Function.Injective (cellOf (nD := nD) (τ := τ) (pin pcs a)))
    (ho : OwnSemFacts (pcs j).spec (osem (sig := sig))) (hw : WinFacts₀ (pcs j).spec)
    (defs₀ : Defs nD τ sig Val Λ₀) (𝒱₀ : Variants) [∀ e, Nonempty (Val e)]
    (hW : ∀ j, IsEmpty (Fin (pin pcs a j).W)) (hK : IsEmpty (Fin (pcs j).pre.K)) (hN : (pin pcs a j).N = 1)
    (hscoped : ∀ c, (scopedRest (pcs j).spec c : sProp 𝕄) = iprop(emp))
    (m : (ℓ : Loc nD τ sig) → Buf Val ℓ) (g : Dev nD → PrngReg)
    (main : Dev nD → Prog (TpuEff nD τ sig Val (Sig Λ₀ J fun p => (pcs p).Adm) .tc) PUnit)
    (hmain : ∀ c, main c = .op (.customCall (entry j) ()) fun _ => .ret ⟨⟩)
    (pf wf : List (DmaSem sig)) (hpf : ∀ q, P.remote q = true → q ∈ pf) (hwf : ∀ q, q ∈ wf)
    (hbody : ∀ (t : Fin (pin pcs a j).N) (c : Dev nD) (K : Dev nD × DmaSem sig → ℕ) (H R : sProp 𝕄),
      (iprop(P.Rec K ∗ P.State c pf wf ∗ H) ⊢ R) →
      iprop(P.Rec K ∗ P.State c [] [] ∗ H)
        ⊢ wp frame (wpE defs₀ 𝒱₀ (c.tc : Thread nD τ) none) Set.univ
            (defs₀ .tc (pin pcs a j).body ((pin pcs a j).bodyArgs t ((pin pcs a j).slots t))) fun _ => R)
    (hmem : ∀ c, (unscopedRest (pin pcs a j).spec c (fun b => m ((c.tc : Thread nD τ).loc b)) : sProp 𝕄)
      ⊢ iprop(bigSep Finset.univ (P.src c) ∗ bigSep Finset.univ (P.dst c) ∗ Hold c))
    (QY : Dev nD → MemSt nD τ sig Val → Prop)
    (hY : ∀ c (s' : Phys nD τ sig Val), iprop(((bigSep Finset.univ fun q : DmaSem sig => P.keep c q) ∗ Hold c) ∗ SI s')
      ⊢ |={Set.univ}=> iprop(⌜QY c s'.mem⌝ ∗ SI s'))
    {Q : PUnit × MemSt nD τ sig Val → Prop}
    (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run (Pipeline.defs pcs defs₀) (onTc main) ⟨m, fun _ => 0, g⟩ Q := by
  refine Cert.Together.run_together pcs a (P.dats pcs a Hold hW) phinj j ho hw EP defs₀ 𝒱₀ (hW j) hK m g main hmain ?_
    (fun c => P.owed c []) (fun c => P.owed_first pcs a Hold hW j c) (fun c => P.owed_later pcs a Hold hW j c _ (by rw [Fin.val_last, hN]; exact Nat.one_ne_zero))
    L P.lv (fun g hg => if_neg hg) P.Gst
    (initOf (cells (pin pcs a) phinj) (launchToks (pin pcs a) phinj), initOf allCells allToks) ?_
    (P.Start Hold) (fun c => iprop((bigSep Finset.univ fun q : DmaSem sig => P.keep c q) ∗ Hold c)) (P.deal Hold _ hmem) ?_ ?_ QY hY hQ
  · -- the body
    intro c t
    have ht : t.val = 0 := by have := t.isLt; omega
    have h0 : (P.dats pcs a Hold hW j c).Φ t.castSucc = iprop(∃ K, P.Rec K ∗ P.Core c [] [] ∗ Hold c) := if_pos ht
    have h1 : (P.dats pcs a Hold hW j c).Φ t.succ = P.Done Hold c := P.phi_later pcs a Hold hW j c t.succ (Nat.succ_ne_zero t.val)
    have h2 : (P.dats pcs a Hold hW j c).owed t.castSucc = P.owed c [] := if_pos ht
    have h3 : (P.dats pcs a Hold hW j c).owed t.succ = 0 := P.owed_later pcs a Hold hW j c t.succ (Nat.succ_ne_zero t.val)
    rw [@Cert.Together.prod_none nD τ sig Val _ _ _ _ (hW j), @Cert.Together.prod_none nD τ sig Val _ _ _ _ (hW j)]
    unfold Dat.owesAt owesWithin
    rw [h0, h1, h2, h3]
    exact P.around_body Hold c _ (fun K => hbody t c K (Hold c) _ (P.finish Hold c _ (fun x _ => Or.inl trivial) hpf hwf))
  · -- the cells' tokens
    exact P.fund_launch _
  · -- into the call
    intro c
    have h0 : (P.dats pcs a Hold hW j c).Φ 0 = iprop(∃ K, P.Rec K ∗ P.Core c [] [] ∗ Hold c) := P.phi_first pcs a Hold hW j c
    rw [h0]
    exact P.enter Hold _ c
  · -- out of the call
    intro c
    have h1 : (P.dats pcs a Hold hW j c).Φ (Fin.last _) = P.Done Hold c := P.phi_later pcs a Hold hW j c _ (by rw [Fin.val_last, hN]; exact Nat.one_ne_zero)
    rw [h1]
    exact P.leave Hold c _ (hscoped c)

end Run

end Plan

end Cert.Exchange

end
-- ==== Proof.Moves.lean ====
/-
# Exchanges that only move data

A `Moves` is the plan of an exchange kernel that computes nothing: each of its cells is either the departure of a
copy to another device, and carries nothing, or the landing of one transfer `xf q`, whose source and destination are
given as the copying device sees them. What lands is `val c q`, for the copying device `c`: a piece of one of its
arguments, or of what another copy brought it. The arguments are read at shares, so that one argument can serve
several copies at once.
-/
module

public import proofs.«01_k».proof.Proof.ExchangeRun
public import Idealize.ShloMosaic.Lib.Pipeline.BigSepL
public import Idealize.ShloMosaic.Lib.ShareLeaves

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

/-- One transfer: its source and its destination, for each device that makes it. -/
structure Xfer (nD : ℕ) (sig : RefSig) where
  {sp sp' : Space}
  {s : Shape}
  {e : EltTy}
  src : Dev nD → Memref sig .tc sp s e
  dst : Dev nD → Memref sig .tc sp' s e

structure Moves (nD : ℕ) (τ : Topo) (sig : RefSig) (Val : EltTy → Type) where
  xf : DmaSem sig → Xfer nD sig
  /-- A transfer lands on the cell. -/
  real : DmaSem sig → Bool
  /-- The transfer comes from another device. -/
  remote : DmaSem sig → Bool
  /-- What landed is the source of a later copy. -/
  fwd : DmaSem sig → Bool
  /-- The share of the argument the transfer reads at; none, if it reads what an earlier copy brought. -/
  share : DmaSem sig → Option (PosShare TreeShare)
  peer : DmaSem sig → Equiv.Perm (Dev nD)
  amt : DmaSem sig → ℕ
  amt_pos : ∀ q, 0 < amt q
  lev : DmaSem sig → ℕ
  val : (c : Dev nD) → (q : DmaSem sig) → (xf q).s.Idx → Val (xf q).e
  mem : (ℓ : Loc nD τ sig) → Buf Val ℓ

namespace Moves

variable {nD : ℕ} {τ : Topo} {sig : RefSig} {Val : EltTy → Type}

local notation "𝕄" => MT nD τ sig Unit Val ℕ (UU nD τ sig) ℕ

variable (M : Moves nD τ sig Val)

/-- The device whose transfer lands on device `n`'s cell `q`. -/
abbrev payer (n : Dev nD) (q : DmaSem sig) : Dev nD := (M.peer q).symm n

abbrev srcv (c : Dev nD) (q : DmaSem sig) := ((M.xf q).src c).view
abbrev dstv (c : Dev nD) (q : DmaSem sig) := ((M.xf q).dst c).view

/-- What device `c`'s transfer leaves on device `n`. -/
def landed (c n : Dev nD) (q : DmaSem sig) : Buf Val ((M.dstv c q).loc (n.tc : Thread nD τ)) :=
  (M.dstv c q).write Val (M.mem ((M.dstv c q).loc (n.tc : Thread nD τ))) (M.val c q) Finset.univ

/-- Device `n`'s piece where device `c`'s transfer lands, filled. -/
def got (c n : Dev nD) (q : DmaSem sig) (π : PosShare TreeShare) : sProp (MT nD τ sig Unit Val ℕ (UU nD τ sig) ℕ) :=
  ((M.dstv c q).loc (n.tc : Thread nD τ) ↦[(M.dstv c q).set]{π} M.landed c n q)
/-- The same piece as the launch finds it. -/
def room (c n : Dev nD) (q : DmaSem sig) : sProp (MT nD τ sig Unit Val ℕ (UU nD τ sig) ℕ) :=
  ((M.dstv c q).loc (n.tc : Thread nD τ) ↦[(M.dstv c q).set]{fullShare} M.mem ((M.dstv c q).loc (n.tc : Thread nD τ)))
/-- The argument device `c`'s transfer reads, at a share. -/
def arg (c : Dev nD) (q : DmaSem sig) (π : PosShare TreeShare) : sProp (MT nD τ sig Unit Val ℕ (UU nD τ sig) ℕ) :=
  ((M.srcv c q).loc (c.tc : Thread nD τ) ↦{π} M.mem ((M.srcv c q).loc (c.tc : Thread nD τ)))

def kept (n : Dev nD) (q : DmaSem sig) : sProp (MT nD τ sig Unit Val ℕ (UU nD τ sig) ℕ) :=
  match M.real q, M.fwd q with
  | true, true => M.got (M.payer n q) n q fullShare.left
  | true, false => M.got (M.payer n q) n q fullShare
  | false, _ => iprop(emp)
def over (n : Dev nD) (q : DmaSem sig) : sProp (MT nD τ sig Unit Val ℕ (UU nD τ sig) ℕ) :=
  match M.real q, M.fwd q with
  | true, true => M.got (M.payer n q) n q fullShare.right
  | _, _ => iprop(emp)
def paid (n : Dev nD) (q : DmaSem sig) : sProp (MT nD τ sig Unit Val ℕ (UU nD τ sig) ℕ) :=
  match M.real q with
  | true => M.got (M.payer n q) n q fullShare
  | false => iprop(emp)
def reads (c : Dev nD) (q : DmaSem sig) : sProp (MT nD τ sig Unit Val ℕ (UU nD τ sig) ℕ) :=
  match M.real q, M.share q with
  | true, some π => M.arg c q π
  | _, _ => iprop(emp)
def rooms (n : Dev nD) (q : DmaSem sig) : sProp (MT nD τ sig Unit Val ℕ (UU nD τ sig) ℕ) :=
  match M.real q with
  | true => M.room (M.payer n q) n q
  | false => iprop(emp)

theorem paid_storable (n : Dev nD) (q : DmaSem sig) : BI.Storable (upEmb : UEmb _ (MT nD τ sig Unit Val ℕ (UU nD τ sig) ℕ)) (M.paid n q) := by
  unfold paid
  cases M.real q
  · show BI.Storable _ iprop(emp); infer_instance
  · show BI.Storable _ (M.got (M.payer n q) n q fullShare); unfold got; infer_instance

theorem add_emp (X : sProp 𝕄) : X ⊢ iprop(X ∗ emp) := by iintro H; isplitl [H]; · iexact H
                                                         iempintro

theorem paid_split (n : Dev nD) (q : DmaSem sig) : M.paid n q ⊢ iprop(M.kept n q ∗ M.over n q) := by
  unfold paid kept over
  cases M.real q <;> cases M.fwd q
  · exact add_emp _
  · exact add_emp _
  · exact add_emp _
  · exact (pointsTo_share (PosShare.mem_left_op_right fullShare)).1

def plan : Plan nD τ sig Val where
  amt := M.amt
  amt_pos := M.amt_pos
  lev := M.lev
  peer := M.peer
  remote := M.remote
  pay := M.paid
  stor := M.paid_storable
  keep := M.kept
  extra := M.over
  split := M.paid_split
  src := M.reads
  dst := M.rooms

theorem part_of_arg (c : Dev nD) (q : DmaSem sig) (π : PosShare TreeShare) :
    M.arg c q π ⊢ ((M.srcv c q).loc (c.tc : Thread nD τ) ↦[(M.srcv c q).set]{π} M.mem ((M.srcv c q).loc (c.tc : Thread nD τ))) :=
  (pointsTo_split_subset (Finset.subset_univ _)).1.trans (by iintro ⟨H, -⟩; iexact H)

section Steps

variable {Λ : Idealize.SL.Sem.Labels} (defs : Defs nD τ sig Val Λ) (𝒱 : Variants) (K : Dev nD × DmaSem sig → ℕ) (c : Dev nD)
variable {α : Type} {Q : α → sProp (MT nD τ sig Unit Val ℕ (UU nD τ sig) ℕ)}

theorem paid_real (n : Dev nD) {q : DmaSem sig} (h : M.real q = true) : M.plan.pay n q = M.got (M.payer n q) n q fullShare := by
  show M.paid n q = _; unfold paid; rw [h]
theorem paid_bare (n : Dev nD) {q : DmaSem sig} (h : M.real q = false) : M.plan.pay n q = iprop(emp) := by
  show M.paid n q = _; unfold paid; rw [h]
theorem rooms_real (n : Dev nD) {q : DmaSem sig} (h : M.real q = true) : M.plan.dst n q = M.room (M.payer n q) n q := by
  show M.rooms n q = _; unfold rooms; rw [h]
theorem reads_real (c : Dev nD) {q : DmaSem sig} {π : PosShare TreeShare} (h : M.real q = true) (hs : M.share q = some π) : M.plan.src c q = M.arg c q π := by
  show M.reads c q = _; unfold reads; rw [h, hs]
theorem payer_peer (c : Dev nD) (q : DmaSem sig) : M.payer (M.peer q c) q = c := Equiv.symm_apply_apply _ _

theorem drop_left (A B : sProp 𝕄) : iprop(A ∗ B) ⊢ B := by iintro ⟨-, H⟩; iexact H
theorem drop_mid (A B C : sProp 𝕄) : iprop(A ∗ B ∗ C) ⊢ iprop(A ∗ C) := by iintro ⟨H, -, H'⟩; isplitl [H] <;> iassumption
theorem put_emp (A B C : sProp 𝕄) : iprop(A ∗ B ∗ C) ⊢ iprop(A ∗ B ∗ emp ∗ C) := by
  iintro ⟨H, H', H''⟩
  isplitl [H]; · iexact H
  isplitl [H']; · iexact H'
  isplitr; · iempintro
  iexact H''

/-- A local copy of a piece of an argument. -/
theorem copy {p w : List (DmaSem sig)} {H : sProp 𝕄} (q : DmaSem sig) (π : PosShare TreeShare)
    {hsrc : (M.srcv c q).WordExact} {hdst : (M.dstv c q).WordExact} {hsem : DmaTarget.Typed (nD := nD) (M.xf q).sp (.dma q) (DmaTarget.here (p := (c.tc : Thread nD τ).2) ((M.xf q).dst c))}
    {k : PUnit → Prog (TpuEff nD τ sig Val Λ (c.tc : Thread nD τ).2) α}
    (hreal : M.real q = true) (hshare : M.share q = some π) (hto : M.peer q c = c) (hr : M.remote q = false) (hp : q ∉ p) (hw : q ∉ w)
    (hN : (M.dstv c q).dmaCredit = M.amt q)
    (hval : M.val c q = (M.srcv c q).read Val (M.mem ((M.srcv c q).loc (c.tc : Thread nD τ))))
    (hk : iprop(M.plan.Rec K ∗ M.plan.State c (q :: p) w ∗ H) ⊢ wp frame (wpE defs 𝒱 (c.tc : Thread nD τ) none) Set.univ (k ⟨⟩) Q) :
    iprop(M.plan.Rec K ∗ M.plan.State c p w ∗ H)
      ⊢ wp frame (wpE defs 𝒱 (c.tc : Thread nD τ) none) Set.univ (.op (.enqueueDma ((M.xf q).src c) (DmaTarget.here (p := (c.tc : Thread nD τ).2) ((M.xf q).dst c)) (.dma q) hsrc hdst hsem) k) Q := by
  have hpay : M.payer c q = c := by rw [payer, Equiv.symm_apply_eq]; exact hto.symm
  refine M.plan.copy_step defs 𝒱 K c q hto hr hp hw hN π (M.mem _) (M.mem _) ?_ ?_ hk
  · rw [M.reads_real c hreal hshare, M.rooms_real c hreal, hpay]
    exact sep_mono_left (M.part_of_arg c q π)
  · rw [M.paid_real c hreal, hpay]
    unfold got landed
    rw [hval]
    iintro ⟨H, -⟩; iexact H

/-- A copy of a piece of an argument to device `n`. -/
theorem send {p w : List (DmaSem sig)} {H : sProp 𝕄} (qs qr : DmaSem sig) (n : Dev nD) (π : PosShare TreeShare)
    {hsc : (M.dstv c qr).ref.isScScratch = false}
    {hsrc : (M.srcv c qr).WordExact} {hdst : (M.dstv c qr).WordExact}
    {hsem : DmaTarget.Typed (M.xf qr).sp (.dma qr) (.remote (Dev.tc n : Thread nD τ) ((M.xf qr).dst c) (.dma qs) hsc)}
    {k : PUnit → Prog (TpuEff nD τ sig Val Λ (c.tc : Thread nD τ).2) α}
    (hn : n = M.peer qr c)
    (hreal : M.real qr = true) (hbare : M.real qs = false) (hshare : M.share qr = some π)
    (htos : M.peer qs c = c) (hrs : M.remote qs = false) (hrr : M.remote qr = true)
    (hps : qs ∉ p) (hpr : qr ∉ p) (hws : qs ∉ w) (hN : (M.dstv c qr).dmaCredit = M.amt qr) (hNs : M.amt qs = M.amt qr)
    (hval : M.val c qr = (M.srcv c qr).read Val (M.mem ((M.srcv c qr).loc (c.tc : Thread nD τ))))
    (hroute : τ.routes (c.tc : Thread nD τ) (Dev.tc n : Thread nD τ) = true)
    (hk : iprop(M.plan.Rec K ∗ M.plan.State c (qs :: qr :: p) w ∗ H) ⊢ wp frame (wpE defs 𝒱 (c.tc : Thread nD τ) none) Set.univ (k ⟨⟩) Q) :
    iprop(M.plan.Rec K ∗ M.plan.State c p w ∗ H)
      ⊢ wp frame (wpE defs 𝒱 (c.tc : Thread nD τ) none) Set.univ
          (.op (.enqueueDma ((M.xf qr).src c) (.remote (Dev.tc n : Thread nD τ) ((M.xf qr).dst c) (.dma qs) hsc) (.dma qr) hsrc hdst hsem) k) Q := by
  have hpay : M.payer n qr = c := by rw [hn]; exact M.payer_peer c qr
  refine (put_emp _ _ _).trans (M.plan.send_step defs 𝒱 K c qs qr n hn htos hrs hrr hps hpr hws hN hNs π (M.mem _) (M.mem _) ?_ (M.paid_bare c hbare) ?_ hroute hk)
  · rw [M.reads_real c hreal hshare, M.rooms_real n hreal, hpay]
    exact (drop_left _ _).trans (sep_mono_left (M.part_of_arg c qr π))
  · rw [M.paid_real n hreal, hpay]
    unfold got landed
    rw [hval]

/-- A copy to device `n` of what another copy brought. -/
theorem forward {p w : List (DmaSem sig)} {H F : sProp 𝕄} (qs qr : DmaSem sig) (n : Dev nD) (π : PosShare TreeShare)
    {hsc : (M.dstv c qr).ref.isScScratch = false}
    {hsrc : (M.srcv c qr).WordExact} {hdst : (M.dstv c qr).WordExact}
    {hsem : DmaTarget.Typed (M.xf qr).sp (.dma qr) (.remote (Dev.tc n : Thread nD τ) ((M.xf qr).dst c) (.dma qs) hsc)}
    {k : PUnit → Prog (TpuEff nD τ sig Val Λ (c.tc : Thread nD τ).2) α}
    (fs : Buf Val ((M.srcv c qr).loc (c.tc : Thread nD τ)))
    (hF : F ⊢ ((M.srcv c qr).loc (c.tc : Thread nD τ) ↦[(M.srcv c qr).set]{π} fs))
    (hn : n = M.peer qr c)
    (hreal : M.real qr = true) (hbare : M.real qs = false)
    (htos : M.peer qs c = c) (hrs : M.remote qs = false) (hrr : M.remote qr = true)
    (hps : qs ∉ p) (hpr : qr ∉ p) (hws : qs ∉ w) (hN : (M.dstv c qr).dmaCredit = M.amt qr) (hNs : M.amt qs = M.amt qr)
    (hval : M.val c qr = (M.srcv c qr).read Val fs)
    (hroute : τ.routes (c.tc : Thread nD τ) (Dev.tc n : Thread nD τ) = true)
    (hk : iprop(M.plan.Rec K ∗ M.plan.State c (qs :: qr :: p) w ∗ H) ⊢ wp frame (wpE defs 𝒱 (c.tc : Thread nD τ) none) Set.univ (k ⟨⟩) Q) :
    iprop(M.plan.Rec K ∗ M.plan.State c p w ∗ F ∗ H)
      ⊢ wp frame (wpE defs 𝒱 (c.tc : Thread nD τ) none) Set.univ
          (.op (.enqueueDma ((M.xf qr).src c) (.remote (Dev.tc n : Thread nD τ) ((M.xf qr).dst c) (.dma qs) hsc) (.dma qr) hsrc hdst hsem) k) Q := by
  have hpay : M.payer n qr = c := by rw [hn]; exact M.payer_peer c qr
  refine M.plan.send_step defs 𝒱 K c qs qr n hn htos hrs hrr hps hpr hws hN hNs π fs (M.mem _) ?_ (M.paid_bare c hbare) ?_ hroute hk
  · rw [M.rooms_real n hreal, hpay]
    exact (drop_mid _ _ _).trans (sep_mono_left hF)
  · rw [M.paid_real n hreal, hpay]
    unfold got landed
    rw [hval]

end Steps

/-! ## The memory after the run -/

theorem got_reads (c n : Dev nD) (q : DmaSem sig) (π : PosShare TreeShare) (s' : Phys nD τ sig Val) :
    iprop(M.got c n q π ∗ SI s') ⊢ (⌜(M.dstv c q).read Val (s'.mem.mem ((M.dstv c q).loc (n.tc : Thread nD τ))) = M.val c q⌝ : sProp 𝕄) := by
  unfold got
  iintro ⟨H, HS⟩
  icombine HS H gives %h
  ipureintro
  rw [← View.read_write_univ (v := M.dstv c q) (M.mem ((M.dstv c q).loc (n.tc : Thread nD τ))) (M.val c q)]
  funext x
  rw [View.read_apply, View.read_apply, h _ (View.emb_mem_set _ x)]
  rfl

theorem kept_reads (n : Dev nD) {q : DmaSem sig} (hreal : M.real q = true) (s' : Phys nD τ sig Val) :
    iprop(M.kept n q ∗ SI s') ⊢ (⌜(M.dstv (M.payer n q) q).read Val (s'.mem.mem ((M.dstv (M.payer n q) q).loc (n.tc : Thread nD τ))) = M.val (M.payer n q) q⌝ : sProp 𝕄) := by
  unfold kept
  rw [hreal]
  cases M.fwd q <;> exact M.got_reads _ _ _ _ _

/-- What a pure consequence costs: nothing. -/
theorem keep_pure {X : sProp 𝕄} {φ : Prop} (h : X ⊢ ⌜φ⌝) : X ⊢ iprop(⌜φ⌝ ∗ X) := by
  iintro H
  ihave %hφ := h $$ H
  isplitr
  · ipureintro; exact hφ
  · iexact H

/-- What the arguments' shares kept aside say. -/
theorem hold_reads {I : Type} [DecidableEq I] (S : List I) (ℓ : I → Loc nD τ sig) (π : PosShare TreeShare) (s' : Phys nD τ sig Val) :
    iprop((bigSepL S fun i => (ℓ i ↦{π} M.mem (ℓ i) : sProp 𝕄)) ∗ SI s') ⊢ (⌜∀ i ∈ S, s'.mem.mem (ℓ i) = M.mem (ℓ i)⌝ : sProp 𝕄) := by
  induction S with
  | nil => iintro -; ipureintro; intro i hi; cases hi
  | cons i S ih =>
    rw [bigSepL_cons']
    have h : iprop((ℓ i ↦{π} M.mem (ℓ i)) ∗ SI s') ⊢ (⌜s'.mem.mem (ℓ i) = M.mem (ℓ i)⌝ : sProp 𝕄) := by
      iintro ⟨H, HS⟩
      icombine HS H gives %h
      ipureintro
      exact Buf.eq_of_forall_mem_univ h
    iintro ⟨⟨Hi, HS⟩, HSI⟩
    ihave H := (keep_pure h) $$ [Hi HSI]
    · isplitl [Hi] <;> iassumption
    icases H with ⟨%h1, ⟨-, HSI⟩⟩
    ihave %h2 := ih $$ [HS HSI]
    · isplitl [HS] <;> iassumption
    ipureintro
    intro k hk
    rcases List.mem_cons.mp hk with rfl | hk
    exacts [h1, h2 k hk]

/-- The memory a run ends with: every transfer has landed, the arguments are as they were. -/
def After (Is : List (Ref sig .tc)) (n : Dev nD) (mem : (ℓ : Loc nD τ sig) → Buf Val ℓ) : Prop :=
  (∀ q, M.real q = true → (M.dstv (M.payer n q) q).read Val (mem ((M.dstv (M.payer n q) q).loc (n.tc : Thread nD τ))) = M.val (M.payer n q) q)
    ∧ ∀ b ∈ Is, mem ((n.tc : Thread nD τ).loc b) = M.mem ((n.tc : Thread nD τ).loc b)

/-- The left half of each argument, kept aside. -/
def aside (Is : List (Ref sig .tc)) (n : Dev nD) : sProp (MT nD τ sig Unit Val ℕ (UU nD τ sig) ℕ) :=
  bigSepL Is fun b => ((n.tc : Thread nD τ).loc b) ↦{fullShare.left} M.mem ((n.tc : Thread nD τ).loc b)

theorem sep_left_pure {A B C : sProp 𝕄} {φ : Prop} (h : iprop(A ∗ C) ⊢ ⌜φ⌝) : iprop((A ∗ B) ∗ C) ⊢ (⌜φ⌝ : sProp 𝕄) := by
  iintro ⟨⟨HA, -⟩, HC⟩
  iapply h
  isplitl [HA] <;> iassumption
theorem sep_right_pure {A B C : sProp 𝕄} {φ : Prop} (h : iprop(B ∗ C) ⊢ ⌜φ⌝) : iprop((A ∗ B) ∗ C) ⊢ (⌜φ⌝ : sProp 𝕄) := by
  iintro ⟨⟨-, HA⟩, HC⟩
  iapply h
  isplitl [HA] <;> iassumption
theorem and_pure {X : sProp 𝕄} {φ ψ : Prop} (h : X ⊢ ⌜φ⌝) (h' : X ⊢ ⌜ψ⌝) : X ⊢ (⌜φ ∧ ψ⌝ : sProp 𝕄) := by
  iintro H
  ihave H := (keep_pure h) $$ H
  icases H with ⟨%h1, H⟩
  ihave %h2 := h' $$ H
  ipureintro; exact ⟨h1, h2⟩

theorem after (Is : List (Ref sig .tc)) (n : Dev nD) (s' : Phys nD τ sig Val) :
    iprop(((bigSep Finset.univ fun q => M.plan.keep n q) ∗ M.aside Is n) ∗ SI s') ⊢ |={Set.univ}=> iprop(⌜M.After Is n s'.mem.mem⌝ ∗ SI s') := by
  have h1 : iprop((bigSep Finset.univ fun q => M.plan.keep n q) ∗ SI s')
      ⊢ (⌜∀ q, M.real q = true → (M.dstv (M.payer n q) q).read Val (s'.mem.mem ((M.dstv (M.payer n q) q).loc (n.tc : Thread nD τ))) = M.val (M.payer n q) q⌝ : sProp 𝕄) := by
    refine Entails.trans (Q := iprop(∀ q, ⌜M.real q = true → (M.dstv (M.payer n q) q).read Val (s'.mem.mem ((M.dstv (M.payer n q) q).loc (n.tc : Thread nD τ))) = M.val (M.payer n q) q⌝)) ?_ pure_forall.2
    refine forall_intro fun q => ?_
    by_cases hq : M.real q = true
    · have he : (bigSep Finset.univ fun q => M.plan.keep n q : sProp 𝕄) ⊢ M.kept n q := bigSep_elim (Finset.mem_univ q)
      refine (sep_mono_left he).trans ((M.kept_reads n hq s').trans ?_)
      iintro %h
      ipureintro; exact fun _ => h
    · exact BI.pure_intro fun h => absurd h hq
  have h2 : iprop(M.aside Is n ∗ SI s') ⊢ (⌜∀ b ∈ Is, s'.mem.mem ((n.tc : Thread nD τ).loc b) = M.mem ((n.tc : Thread nD τ).loc b)⌝ : sProp 𝕄) :=
    M.hold_reads Is (fun b => (n.tc : Thread nD τ).loc b) fullShare.left s'
  have h3 : iprop(((bigSep Finset.univ fun q => M.plan.keep n q) ∗ M.aside Is n) ∗ SI s') ⊢ (⌜M.After Is n s'.mem.mem⌝ : sProp 𝕄) :=
    and_pure (sep_left_pure h1) (sep_right_pure h2)
  have h4 : ∀ A B C : sProp 𝕄, ∀ φ : Prop, iprop(⌜φ⌝ ∗ ((A ∗ B) ∗ C)) ⊢ iprop(⌜φ⌝ ∗ C) := fun A B C φ => by
    iintro ⟨%h, ⟨-, HC⟩⟩
    isplitr
    · ipureintro; exact h
    · iexact HC
  exact ((keep_pure h3).trans (h4 _ _ _ _)).trans fupd_intro

/-! ## Dealing the memory -/

/-- Pieces of one buffer, pairwise disjoint. -/
theorem pieces {ℓ : Loc nD τ sig} {π : PosShare TreeShare} {f : Buf Val ℓ} (l : List (Finset (Idx ℓ))) (hd : l.Pairwise Disjoint) :
    ∀ T : Finset (Idx ℓ), (∀ S ∈ l, S ⊆ T) → (ℓ ↦[T]{π} f : sProp 𝕄) ⊢ bigSepL l fun S => (ℓ ↦[S]{π} f : sProp 𝕄) := by
  classical
  induction l with
  | nil => intro T _; iintro -; iempintro
  | cons S l ih =>
    intro T hT
    rw [bigSepL_cons']
    refine (pointsTo_split_subset (hT S (List.mem_cons_self ..))).1.trans (sep_mono_right (ih (List.pairwise_cons.mp hd).2 _ fun S' hS' => ?_))
    exact Finset.subset_sdiff.mpr ⟨hT S' (List.mem_cons_of_mem _ hS'), ((List.pairwise_cons.mp hd).1 S' hS').symm⟩

theorem pieces_univ {ℓ : Loc nD τ sig} {π : PosShare TreeShare} {f : Buf Val ℓ} (l : List (Finset (Idx ℓ))) (hd : l.Pairwise Disjoint) :
    (ℓ ↦{π} f : sProp 𝕄) ⊢ bigSepL l fun S => (ℓ ↦[S]{π} f : sProp 𝕄) := pieces l hd _ fun S _ => Finset.subset_univ S

/-- An argument: its left half aside, its right half cut once, twice, in four, in eight. -/
theorem halves {ℓ : Loc nD τ sig} (π : PosShare TreeShare) (f : Buf Val ℓ) :
    (ℓ ↦{π} f : sProp 𝕄) ⊢ iprop((ℓ ↦{π.left} f) ∗ (ℓ ↦{π.right} f)) := (pointsTo_share (PosShare.mem_left_op_right π)).1
theorem quarters {ℓ : Loc nD τ sig} (π : PosShare TreeShare) (f : Buf Val ℓ) :
    (ℓ ↦{π} f : sProp 𝕄) ⊢ iprop((ℓ ↦{π.left.left} f) ∗ (ℓ ↦{π.left.right} f) ∗ (ℓ ↦{π.right.left} f) ∗ (ℓ ↦{π.right.right} f)) := by
  iintro H
  ihave H := (halves π f) $$ H
  icases H with ⟨H1, H2⟩
  ihave H1 := (halves π.left f) $$ H1
  icases H1 with ⟨H11, H12⟩
  ihave H2 := (halves π.right f) $$ H2
  icases H2 with ⟨H21, H22⟩
  isplitl [H11]; · iexact H11
  isplitl [H12]; · iexact H12
  isplitl [H21] <;> iassumption

end Moves

end Cert.Exchange

end
-- ==== Proof.SwapRun.lean ====
/-
# The exchange of halves between siblings: its run

Every device sends half of each of its four arguments to its sibling, the device that differs from it in the third
coordinate of the mesh, straight into the sibling's result. Cells 0 to 3 are the departures, 4 to 7 the landings.
-/
module

public import proofs.«01_k».proof.Proof.Moves
public import proofs.«01_k».proof.Proof.Gen.SwapHalvesIdeal.Launch
public import proofs.«01_k».proof.Proof.Gen.SwapHalvesIdeal.Points

@[expose] public section

noncomputable section

namespace Cert.SwapHalvesIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.Exchange Cert.SwapHalvesIdeal.Gen

variable {F : FTy → Type} [FloatOps F]

abbrev s0 : DmaSem sig := ⟨0, by decide⟩
abbrev s1 : DmaSem sig := ⟨1, by decide⟩
abbrev s2 : DmaSem sig := ⟨2, by decide⟩
abbrev s3 : DmaSem sig := ⟨3, by decide⟩
abbrev s4 : DmaSem sig := ⟨4, by decide⟩
abbrev s5 : DmaSem sig := ⟨5, by decide⟩
abbrev s6 : DmaSem sig := ⟨6, by decide⟩
abbrev s7 : DmaSem sig := ⟨7, by decide⟩

/-- The device differing in the third coordinate. -/
def sibling (c : Dev nD) : Dev nD := ⟨(4 * (c.val / 4) + 2 * ((c.val / 2) % 2) + 1) - (c.val % 2), by have : c.val < 8 := c.isLt; show _ < 8; omega⟩
def siblings : Equiv.Perm (Dev nD) := ⟨sibling, sibling, by decide, by decide⟩

def xf (q : DmaSem sig) : Xfer nD sig := match q.val with
  | 4 => ⟨fun c => (Memref.whole main_arg0).slice (Rect.unit (s := S4x1024x772) (k0_off1 c) S4x512x772.size (Facts₀.k0_off1_inb c)) (fun _ => rfl), fun _ => Memref.whole main_v1_0⟩
  | 5 => ⟨fun c => (Memref.whole main_arg1).slice (Rect.unit (s := S4x256x1024) (k0_off2 c) S4x128x1024.size (Facts₀.k0_off2_inb c)) (fun _ => rfl), fun _ => Memref.whole main_v1_1⟩
  | 6 => ⟨fun c => (Memref.whole main_arg2).slice (Rect.unit (s := S4x1024x1024) (k0_off3 c) S4x512x1024.size (Facts₀.k0_off3_inb c)) (fun _ => rfl), fun _ => Memref.whole main_v1_2⟩
  | _ => ⟨fun c => (Memref.whole main_arg3).slice (Rect.unit (s := S4x1024x1024) (k0_off3 c) S4x512x1024.size (Facts₀.k0_off3_inb c)) (fun _ => rfl), fun _ => Memref.whole main_v1_3⟩

/-- The landing a cell belongs to. -/
def land (q : DmaSem sig) : DmaSem sig := ⟨4 + q.val % 4, by show _ < 8; omega⟩

def moves (m : (ℓ : Loc nD τ sig) → Buf (Elt F) ℓ) : Moves nD τ sig (Elt F) where
  xf := xf
  real q := decide (4 ≤ q.val)
  remote q := decide (4 ≤ q.val)
  fwd _ := false
  share _ := some fullShare.right
  peer q := if 4 ≤ q.val then siblings else Equiv.refl _
  amt q := ((xf (land q)).dst 0).view.dmaCredit
  amt_pos := by
    have h : ∀ q, 0 < (xf (land q)).s.numel := by decide
    exact fun q => View.dmaCredit_pos _ (h q)
  lev _ := 0
  val c q := ((xf q).src c).view.read (Elt F) (m (((xf q).src c).view.loc (c.tc : Thread nD τ)))
  mem := m

variable (m : (ℓ : Loc nD τ sig) → Buf (Elt F) ℓ)

theorem dev1 (c : Dev nD) (h : k0_dev1 c < nD) : (⟨k0_dev1 c, h⟩ : Dev nD) = siblings c := Fin.ext (k0_dev1_eq c)
theorem dev2 (c : Dev nD) (h : k0_dev2 c < nD) : (⟨k0_dev2 c, h⟩ : Dev nD) = siblings c := Fin.ext (k0_dev2_eq c)
theorem dev3 (c : Dev nD) (h : k0_dev3 c < nD) : (⟨k0_dev3 c, h⟩ : Dev nD) = siblings c := Fin.ext (k0_dev3_eq c)
theorem dev4 (c : Dev nD) (h : k0_dev4 c < nD) : (⟨k0_dev4 c, h⟩ : Dev nD) = siblings c := Fin.ext (k0_dev4_eq c)

abbrev all : List (DmaSem sig) := [s3, s7, s2, s6, s1, s5, s0, s4]
abbrev waited : List (DmaSem sig) := [s7, s3, s6, s2, s5, s1, s4, s0]

theorem route (c n : Dev nD) : τ.routes (c.tc : Thread nD τ) (Dev.tc n : Thread nD τ) = true := by decide +revert

set_option maxHeartbeats 400000 in
theorem body (t : Fin cfg0.N) (c : Dev nD) (K : Dev nD × DmaSem sig → ℕ) (H R : sProp (MT nD τ sig Unit (Elt F) ℕ (UU nD τ sig) ℕ))
    (hR : iprop((moves m).plan.Rec K ∗ (moves m).plan.State c all waited ∗ H) ⊢ R) :
    iprop((moves m).plan.Rec K ∗ (moves m).plan.State c [] [] ∗ H)
      ⊢ wp frame (wpE (defs₀ (F := F)) Variants.none (c.tc : Thread nD τ) none) Set.univ (bodyAt0 t) fun _ => R := by
  have hall : ∀ q : DmaSem sig, q ∈ all := by decide
  unfold bodyAt0 cc0_swap_halves k0_part1 k0_part2 k0_part3
  simp only [Prog.lift, Prog.bind_op, Prog.bind_ret, Prog.pure_eq_ret, wp_deviceId]
  refine (moves m).send defs₀ _ K c s0 s4 _ fullShare.right (dev1 c _) rfl rfl rfl rfl rfl rfl (by decide) (by decide) (by decide) rfl rfl rfl (route c _) ?_
  refine (moves m).send defs₀ _ K c s1 s5 _ fullShare.right (dev2 c _) rfl rfl rfl rfl rfl rfl (by decide) (by decide) (by decide) rfl rfl rfl (route c _) ?_
  refine (moves m).send defs₀ _ K c s2 s6 _ fullShare.right (dev3 c _) rfl rfl rfl rfl rfl rfl (by decide) (by decide) (by decide) rfl rfl rfl (route c _) ?_
  refine (moves m).send defs₀ _ K c s3 s7 _ fullShare.right (dev4 c _) rfl rfl rfl rfl rfl rfl (by decide) (by decide) (by decide) rfl rfl rfl (route c _) ?_
  refine (moves m).plan.wait_step' defs₀ _ K c s0 (.inr (hall _)) (by decide) (fun q _ h => absurd (hall q) h) rfl ?_
  refine (moves m).plan.wait_step' defs₀ _ K c s4 (.inr (hall _)) (by decide) (fun q _ h => absurd (hall q) h) rfl ?_
  refine (moves m).plan.wait_step' defs₀ _ K c s1 (.inr (hall _)) (by decide) (fun q _ h => absurd (hall q) h) rfl ?_
  refine (moves m).plan.wait_step' defs₀ _ K c s5 (.inr (hall _)) (by decide) (fun q _ h => absurd (hall q) h) rfl ?_
  refine (moves m).plan.wait_step' defs₀ _ K c s2 (.inr (hall _)) (by decide) (fun q _ h => absurd (hall q) h) rfl ?_
  refine (moves m).plan.wait_step' defs₀ _ K c s6 (.inr (hall _)) (by decide) (fun q _ h => absurd (hall q) h) rfl ?_
  refine (moves m).plan.wait_step' defs₀ _ K c s3 (.inr (hall _)) (by decide) (fun q _ h => absurd (hall q) h) rfl ?_
  refine (moves m).plan.wait_step' defs₀ _ K c s7 (.inr (hall _)) (by decide) (fun q _ h => absurd (hall q) h) rfl ?_
  rw [wp_ret]
  exact hR.trans fupd_intro

/-! ## Dealing the launch's memory -/

abbrev args : List (Ref sig .tc) := [main_arg0, main_arg1, main_arg2, main_arg3]

abbrev cells : List (DmaSem sig) := [s4, s5, s6, s7, s0, s1, s2, s3]

theorem univ_cells : (Finset.univ : Finset (DmaSem sig)) = cells.toFinset := by decide

theorem deal (c : Dev nD) :
    (unscopedRest (cfg0.spec) c (fun b => m ((c.tc : Thread nD τ).loc b)) : sProp (MT nD τ sig Unit (Elt F) ℕ (UU nD τ sig) ℕ))
      ⊢ iprop(bigSep Finset.univ ((moves m).plan.src c) ∗ bigSep Finset.univ ((moves m).plan.dst c) ∗ (moves m).aside args c) := by
  rw [unscopedRest0_eq, bigSep_univ_eq_bigSepL cells univ_cells (by decide), bigSep_univ_eq_bigSepL cells univ_cells (by decide)]
  have hs : bigSepL cells ((moves m).plan.src c) = iprop((moves m).arg c s4 fullShare.right ∗ (moves m).arg c s5 fullShare.right
      ∗ (moves m).arg c s6 fullShare.right ∗ (moves m).arg c s7 fullShare.right ∗ emp ∗ emp ∗ emp ∗ emp) := rfl
  have hd : bigSepL cells ((moves m).plan.dst c) = iprop((moves m).room ((moves m).payer c s4) c s4 ∗ (moves m).room ((moves m).payer c s5) c s5
      ∗ (moves m).room ((moves m).payer c s6) c s6 ∗ (moves m).room ((moves m).payer c s7) c s7 ∗ emp ∗ emp ∗ emp ∗ emp) := rfl
  have room0 (b : Dev nD) : ((c.tc : Thread nD τ).loc main_v1_0 ↦{fullShare} m ((c.tc : Thread nD τ).loc main_v1_0)) ⊢ (moves m).room b c s4 := by
    unfold Moves.room; rw [show ((moves m).dstv b s4).set = Finset.univ from View.set_whole _]; exact .rfl
  have room1 (b : Dev nD) : ((c.tc : Thread nD τ).loc main_v1_1 ↦{fullShare} m ((c.tc : Thread nD τ).loc main_v1_1)) ⊢ (moves m).room b c s5 := by
    unfold Moves.room; rw [show ((moves m).dstv b s5).set = Finset.univ from View.set_whole _]; exact .rfl
  have room2 (b : Dev nD) : ((c.tc : Thread nD τ).loc main_v1_2 ↦{fullShare} m ((c.tc : Thread nD τ).loc main_v1_2)) ⊢ (moves m).room b c s6 := by
    unfold Moves.room; rw [show ((moves m).dstv b s6).set = Finset.univ from View.set_whole _]; exact .rfl
  have room3 (b : Dev nD) : ((c.tc : Thread nD τ).loc main_v1_3 ↦{fullShare} m ((c.tc : Thread nD τ).loc main_v1_3)) ⊢ (moves m).room b c s7 := by
    unfold Moves.room; rw [show ((moves m).dstv b s7).set = Finset.univ from View.set_whole _]; exact .rfl
  have ha : (moves m).aside args c = iprop(((c.tc : Thread nD τ).loc main_arg0 ↦{fullShare.left} m ((c.tc : Thread nD τ).loc main_arg0))
      ∗ ((c.tc : Thread nD τ).loc main_arg1 ↦{fullShare.left} m ((c.tc : Thread nD τ).loc main_arg1))
      ∗ ((c.tc : Thread nD τ).loc main_arg2 ↦{fullShare.left} m ((c.tc : Thread nD τ).loc main_arg2))
      ∗ ((c.tc : Thread nD τ).loc main_arg3 ↦{fullShare.left} m ((c.tc : Thread nD τ).loc main_arg3))) := rfl
  rw [hs, hd, ha]
  unfold Moves.arg
  iintro ⟨A0, A1, A2, A3, R0, R1, R2, R3⟩
  ihave A0 := (Moves.halves _ _) $$ A0
  icases A0 with ⟨L0, A0⟩
  ihave A1 := (Moves.halves _ _) $$ A1
  icases A1 with ⟨L1, A1⟩
  ihave A2 := (Moves.halves _ _) $$ A2
  icases A2 with ⟨L2, A2⟩
  ihave A3 := (Moves.halves _ _) $$ A3
  icases A3 with ⟨L3, A3⟩
  isplitl [A0 A1 A2 A3]
  · isplitl [A0]; · iexact A0
    isplitl [A1]; · iexact A1
    isplitl [A2]; · iexact A2
    isplitl [A3]; · iexact A3
    isplitr; · iempintro
    isplitr; · iempintro
    isplitr; · iempintro
    iempintro
  isplitl [R0 R1 R2 R3]
  · isplitl [R0]; · iapply (room0 _); iexact R0
    isplitl [R1]; · iapply (room1 _); iexact R1
    isplitl [R2]; · iapply (room2 _); iexact R2
    isplitl [R3]; · iapply (room3 _); iexact R3
    isplitr; · iempintro
    isplitr; · iempintro
    isplitr; · iempintro
    iempintro
  isplitl [L0]; · iexact L0
  isplitl [L1]; · iexact L1
  isplitl [L2]; · iexact L2
  iexact L3

/-! ## The run -/

theorem own : OwnSemFacts (cfg0.spec) (Plan.osem (sig := sig)) := by decide
theorem all_remote (q : DmaSem sig) (_ : (moves m).plan.remote q = true) : q ∈ all := by clear * -; revert q; decide
theorem all_waited : ∀ q : DmaSem sig, q ∈ waited := by decide

theorem run (g : Dev nD → PrngReg) :
    θ_run (defs (F := F)) (onTc (τ := τ) (main (F := F))) ⟨m, fun _ => 0, g⟩ fun r =>
      (∀ c, (moves m).After args c r.2.mem) ∧ r.2.sem = fun _ => 0 :=
  (moves m).plan.run (pcfgs (F := F)) (fun p => (cfgs p).toPCfg_adm) 0 ((moves m).aside args) cellOf_inj own winFacts0.to₀
    defs₀ Variants.none (fun _ => inferInstanceAs (IsEmpty (Fin 0))) (inferInstanceAs (IsEmpty (Fin 0))) N_0 scopedRest0_eq m g main (fun _ => rfl) all waited
    (all_remote m) all_waited (fun t c K H R hR => body m t c K H R hR) (deal m) (fun c s => (moves m).After args c s.mem)
    ((moves m).after args) fun s hY hz => ⟨hY, sem_eq_zero_of_scoped (by decide) hz⟩

end Cert.SwapHalvesIdeal

end
-- ==== Proof.SwapValue.lean ====
/-
# The exchange of halves between siblings: its claims

What the run leaves in each result, element by element, next to the slices and the join the reference makes of the whole
arrays.
-/
module

public import proofs.«01_k».proof.Defs
public import proofs.«01_k».proof.Proof.SwapRun
public import proofs.«01_k».proof.Proof.Gen.SwapHalves
public import proofs.«01_k».proof.Proof.Gen.SwapHalvesRefIdeal.Run
public import Idealize.ShloMosaic.Lib.Pipeline.Value

@[expose] public section

noncomputable section

open Idealize.ShloMosaic
open Idealize.ShloMosaic.TcCoe
open Idealize.SL.Sem

namespace Cert.SwapHalvesIdeal

/-- The reference's result at an index: the upper rows come from the second core's array, the lower from the first's. -/
theorem joined {α : Type} (R H W : Nat) (hR : R = H + H) (x : (⟨3, ![32, R, W]⟩ : Shape).Idx → α)
    (h1 : (⟨3, ![32, R, W]⟩ : Shape).ShapeCasts ⟨5, ![4, 2, 4, R, W]⟩)
    (h2 : (⟨5, ![4, 2, 4, R, W]⟩ : Shape).Slices ![0, 1, 0, 0, 0] ⟨5, ![4, 1, 4, H, W]⟩)
    (h3 : (⟨5, ![4, 1, 4, H, W]⟩ : Shape).ShapeCasts ⟨4, ![4, 4, H, W]⟩)
    (h4 : (⟨5, ![4, 2, 4, R, W]⟩ : Shape).Slices ![0, 0, 0, H, 0] ⟨5, ![4, 1, 4, H, W]⟩)
    (h5 : Shape.Concatenates [(⟨4, ![4, 4, H, W]⟩ : Shape), ⟨4, ![4, 4, H, W]⟩] ⟨4, ![4, 4, R, W]⟩ 2)
    (h6 : (⟨4, ![4, 4, R, W]⟩ : Shape).ShapeCasts ⟨3, ![16, R, W]⟩)
    (j : (⟨3, ![16, R, W]⟩ : Shape).Idx) (k : (⟨3, ![32, R, W]⟩ : Shape).Idx)
    (hk0 : (k 0).val = (j 0).val / 4 * 8 + (if (j 1).val < H then 1 else 0) * 4 + (j 0).val % 4)
    (hk1 : (k 1).val = (j 1).val) (hk2 : (k 2).val = (j 2).val) :
    shapeCast (⟨3, ![16, R, W]⟩ : Shape) (concatenate (⟨4, ![4, 4, R, W]⟩ : Shape) 2
      [⟨⟨4, ![4, 4, H, W]⟩, shapeCast (⟨4, ![4, 4, H, W]⟩ : Shape) (extractStridedSlice (⟨5, ![4, 1, 4, H, W]⟩ : Shape) ![0, 1, 0, 0, 0] (shapeCast (⟨5, ![4, 2, 4, R, W]⟩ : Shape) x h1) h2) h3⟩,
       ⟨⟨4, ![4, 4, H, W]⟩, shapeCast (⟨4, ![4, 4, H, W]⟩ : Shape) (extractStridedSlice (⟨5, ![4, 1, 4, H, W]⟩ : Shape) ![0, 0, 0, H, 0] (shapeCast (⟨5, ![4, 2, 4, R, W]⟩ : Shape) x h1) h4) h3⟩]
      h5) h6 j = x k := by
  have hj0 : (j 0).val < 16 := (j 0).isLt
  have hj1 : (j 1).val < R := (j 1).isLt
  have hj2 : (j 2).val < W := (j 2).isLt
  have b0 : (j 0).val / 4 < 4 := by omega
  have b1 : (j 0).val % 4 < 4 := by omega
  let j4 : (⟨4, ![4, 4, R, W]⟩ : Shape).Idx := fun a => match a with
    | ⟨0, _⟩ => ⟨(j 0).val / 4, b0⟩ | ⟨1, _⟩ => ⟨(j 0).val % 4, b1⟩ | ⟨2, _⟩ => ⟨(j 1).val, hj1⟩ | ⟨3, _⟩ => ⟨(j 2).val, hj2⟩
  refine (shapeCast_apply _ h6 j j4 ?_).trans ?_
  · rw [Shape.rowMajor_val_four, Shape.rowMajor_val_three]
    show (((j 0).val / 4 * 4 + (j 0).val % 4) * R + (j 1).val) * W + (j 2).val = ((j 0).val * R + (j 1).val) * W + (j 2).val
    rw [show (j 0).val / 4 * 4 + (j 0).val % 4 = (j 0).val by omega]
  by_cases hlt : (j 1).val < H
  · let i4 : (⟨4, ![4, 4, H, W]⟩ : Shape).Idx := fun a => match a with
      | ⟨0, _⟩ => ⟨(j 0).val / 4, b0⟩ | ⟨1, _⟩ => ⟨(j 0).val % 4, b1⟩ | ⟨2, _⟩ => ⟨(j 1).val, hlt⟩ | ⟨3, _⟩ => ⟨(j 2).val, hj2⟩
    let i5 : (⟨5, ![4, 1, 4, H, W]⟩ : Shape).Idx := fun a => match a with
      | ⟨0, _⟩ => ⟨(j 0).val / 4, b0⟩ | ⟨1, _⟩ => ⟨0, Nat.one_pos⟩ | ⟨2, _⟩ => ⟨(j 0).val % 4, b1⟩ | ⟨3, _⟩ => ⟨(j 1).val, hlt⟩ | ⟨4, _⟩ => ⟨(j 2).val, hj2⟩
    let k5 : (⟨5, ![4, 2, 4, R, W]⟩ : Shape).Idx := fun a => match a with
      | ⟨0, _⟩ => ⟨(j 0).val / 4, b0⟩ | ⟨1, _⟩ => ⟨1, Nat.one_lt_two⟩ | ⟨2, _⟩ => ⟨(j 0).val % 4, b1⟩ | ⟨3, _⟩ => ⟨(j 1).val, hj1⟩ | ⟨4, _⟩ => ⟨(j 2).val, hj2⟩
    rw [if_pos hlt] at hk0
    refine (concatenate_pair_apply_left _ _ _ h5 j4 rfl i4 (fun b => ?_)).trans ?_
    · match b with | ⟨0, _⟩ => rfl | ⟨1, _⟩ => rfl | ⟨2, _⟩ => rfl | ⟨3, _⟩ => rfl
    refine (shapeCast_apply _ h3 i4 i5 ?_).trans ?_
    · rw [Shape.rowMajor_val_five, Shape.rowMajor_val_four]
      show ((((j 0).val / 4 * 1 + 0) * 4 + (j 0).val % 4) * H + (j 1).val) * W + (j 2).val = (((j 0).val / 4 * 4 + (j 0).val % 4) * H + (j 1).val) * W + (j 2).val
      rw [Nat.mul_one, Nat.add_zero]
    refine (extractStridedSlice_apply _ _ h2 i5 k5 (fun b => ?_)).trans ?_
    · match b with
      | ⟨0, _⟩ => exact (Nat.zero_add _).symm | ⟨1, _⟩ => rfl | ⟨2, _⟩ => exact (Nat.zero_add _).symm | ⟨3, _⟩ => exact (Nat.zero_add _).symm | ⟨4, _⟩ => exact (Nat.zero_add _).symm
    refine shapeCast_apply _ h1 k5 k ?_
    rw [Shape.rowMajor_val_five, Shape.rowMajor_val_three]
    show ((k 0).val * R + (k 1).val) * W + (k 2).val = ((((j 0).val / 4 * 2 + 1) * 4 + (j 0).val % 4) * R + (j 1).val) * W + (j 2).val
    rw [hk0, hk1, hk2, show ((j 0).val / 4 * 2 + 1) * 4 + (j 0).val % 4 = (j 0).val / 4 * 8 + 1 * 4 + (j 0).val % 4 by omega]
  · have hsub : (j 1).val - H < H := by omega
    let i4 : (⟨4, ![4, 4, H, W]⟩ : Shape).Idx := fun a => match a with
      | ⟨0, _⟩ => ⟨(j 0).val / 4, b0⟩ | ⟨1, _⟩ => ⟨(j 0).val % 4, b1⟩ | ⟨2, _⟩ => ⟨(j 1).val - H, hsub⟩ | ⟨3, _⟩ => ⟨(j 2).val, hj2⟩
    let i5 : (⟨5, ![4, 1, 4, H, W]⟩ : Shape).Idx := fun a => match a with
      | ⟨0, _⟩ => ⟨(j 0).val / 4, b0⟩ | ⟨1, _⟩ => ⟨0, Nat.one_pos⟩ | ⟨2, _⟩ => ⟨(j 0).val % 4, b1⟩ | ⟨3, _⟩ => ⟨(j 1).val - H, hsub⟩ | ⟨4, _⟩ => ⟨(j 2).val, hj2⟩
    let k5 : (⟨5, ![4, 2, 4, R, W]⟩ : Shape).Idx := fun a => match a with
      | ⟨0, _⟩ => ⟨(j 0).val / 4, b0⟩ | ⟨1, _⟩ => ⟨0, Nat.two_pos⟩ | ⟨2, _⟩ => ⟨(j 0).val % 4, b1⟩ | ⟨3, _⟩ => ⟨(j 1).val, hj1⟩ | ⟨4, _⟩ => ⟨(j 2).val, hj2⟩
    rw [if_neg hlt] at hk0
    refine (concatenate_pair_apply_right _ _ _ h5 j4 rfl rfl i4 (fun b hb => ?_) ?_).trans ?_
    · match b with
      | ⟨0, _⟩ => rfl | ⟨1, _⟩ => rfl | ⟨2, _⟩ => exact absurd rfl hb | ⟨3, _⟩ => rfl
    · show (j 1).val - H + H = (j 1).val
      omega
    refine (shapeCast_apply _ h3 i4 i5 ?_).trans ?_
    · rw [Shape.rowMajor_val_five, Shape.rowMajor_val_four]
      show ((((j 0).val / 4 * 1 + 0) * 4 + (j 0).val % 4) * H + ((j 1).val - H)) * W + (j 2).val = (((j 0).val / 4 * 4 + (j 0).val % 4) * H + ((j 1).val - H)) * W + (j 2).val
      rw [Nat.mul_one, Nat.add_zero]
    refine (extractStridedSlice_apply _ _ h4 i5 k5 (fun b => ?_)).trans ?_
    · match b with
      | ⟨0, _⟩ => exact (Nat.zero_add _).symm | ⟨1, _⟩ => rfl | ⟨2, _⟩ => exact (Nat.zero_add _).symm
      | ⟨3, _⟩ => show (j 1).val = H + ((j 1).val - H); omega
      | ⟨4, _⟩ => exact (Nat.zero_add _).symm
    refine shapeCast_apply _ h1 k5 k ?_
    rw [Shape.rowMajor_val_five, Shape.rowMajor_val_three]
    show ((k 0).val * R + (k 1).val) * W + (k 2).val = ((((j 0).val / 4 * 2 + 0) * 4 + (j 0).val % 4) * R + (j 1).val) * W + (j 2).val
    rw [hk0, hk1, hk2, show ((j 0).val / 4 * 2 + 0) * 4 + (j 0).val % 4 = (j 0).val / 4 * 8 + 0 * 4 + (j 0).val % 4 by omega]

/-- The block of the joined array a device owns is the half its sibling's block holds for it. -/
theorem joined_block {α : Type} (R H W : Nat) (hR : R = H + H) (x : (⟨3, ![32, R, W]⟩ : Shape).Idx → α)
    (h1 : (⟨3, ![32, R, W]⟩ : Shape).ShapeCasts ⟨5, ![4, 2, 4, R, W]⟩)
    (h2 : (⟨5, ![4, 2, 4, R, W]⟩ : Shape).Slices ![0, 1, 0, 0, 0] ⟨5, ![4, 1, 4, H, W]⟩)
    (h3 : (⟨5, ![4, 1, 4, H, W]⟩ : Shape).ShapeCasts ⟨4, ![4, 4, H, W]⟩)
    (h4 : (⟨5, ![4, 2, 4, R, W]⟩ : Shape).Slices ![0, 0, 0, H, 0] ⟨5, ![4, 1, 4, H, W]⟩)
    (h5 : Shape.Concatenates [(⟨4, ![4, 4, H, W]⟩ : Shape), ⟨4, ![4, 4, H, W]⟩] ⟨4, ![4, 4, R, W]⟩ 2)
    (h6 : (⟨4, ![4, 4, R, W]⟩ : Shape).ShapeCasts ⟨3, ![16, R, W]⟩)
    (hT : Layout.Tiles ⟨3, ![4, R, W]⟩ ⟨3, ![32, R, W]⟩ 0 8)
    (hN : Layout.TilesN ⟨3, ![4, H, W]⟩ ⟨3, ![16, R, W]⟩ fun b => Layout.cutSize [2, 2, 2] ((![[0, 1], [2], []] : Fin 3 → List Nat) b))
    (c : Fin 8) (i : (⟨3, ![4, H, W]⟩ : Shape).Idx) (p : (⟨3, ![4, R, W]⟩ : Shape).Idx)
    (hp0 : (p 0).val = (i 0).val) (hp1 : (p 1).val = H * (c.val % 2) + (i 1).val) (hp2 : (p 2).val = (i 2).val) :
    Layout.block ⟨3, ![4, R, W]⟩ ⟨3, ![32, R, W]⟩ 0 8 (sibling c) x hT p =
    Layout.blockN ⟨3, ![4, H, W]⟩ ⟨3, ![16, R, W]⟩ (Layout.meshBlock [2, 2, 2] ![[0, 1], [2], []] c)
      (shapeCast (⟨3, ![16, R, W]⟩ : Shape) (concatenate (⟨4, ![4, 4, R, W]⟩ : Shape) 2
      [⟨⟨4, ![4, 4, H, W]⟩, shapeCast (⟨4, ![4, 4, H, W]⟩ : Shape) (extractStridedSlice (⟨5, ![4, 1, 4, H, W]⟩ : Shape) ![0, 1, 0, 0, 0] (shapeCast (⟨5, ![4, 2, 4, R, W]⟩ : Shape) x h1) h2) h3⟩,
       ⟨⟨4, ![4, 4, H, W]⟩, shapeCast (⟨4, ![4, 4, H, W]⟩ : Shape) (extractStridedSlice (⟨5, ![4, 1, 4, H, W]⟩ : Shape) ![0, 0, 0, H, 0] (shapeCast (⟨5, ![4, 2, 4, R, W]⟩ : Shape) x h1) h4) h3⟩]
      h5) h6) hN i := by
  rw [Layout.block_apply, Layout.blockN_apply]
  have hc := c.isLt
  have hi0 : (i 0).val < 4 := (i 0).isLt
  have hi1 : (i 1).val < H := (i 1).isLt
  have e0 : ((hN.idx (Layout.meshBlock [2, 2, 2] ![[0, 1], [2], []] c) i) 0).val = (c.val / 2) * 4 + (i 0).val := by
    refine (Layout.TilesN.idx_val hN _ i 0).trans ?_
    show Layout.meshLin [2, 2, 2] c.val [0, 1] * 4 + (i 0).val = _
    congr 2
    show c.val / 4 % 2 * 2 + (c.val / 2 % 2 * 1 + 0) = _
    omega
  have e1 : ((hN.idx (Layout.meshBlock [2, 2, 2] ![[0, 1], [2], []] c) i) 1).val = H * (c.val % 2) + (i 1).val := by
    refine (Layout.TilesN.idx_val hN _ i 1).trans ?_
    show Layout.meshLin [2, 2, 2] c.val [2] * H + (i 1).val = _
    rw [Nat.mul_comm]
    congr 2
    show c.val / 1 % 2 * 1 + 0 = _
    omega
  have e2 : ((hN.idx (Layout.meshBlock [2, 2, 2] ![[0, 1], [2], []] c) i) 2).val = (i 2).val := by
    refine (Layout.TilesN.idx_val hN _ i 2).trans ?_
    show 0 * W + (i 2).val = _
    omega
  refine (joined R H W hR x h1 h2 h3 h4 h5 h6 _ _ ?_ ?_ ?_).symm
  · rw [e0, e1]
    refine (Layout.Tiles.idx_val hT (sibling c) p 0).trans ?_
    show (sibling c).val * 4 + (p 0).val = _
    rw [hp0]
    show ((4 * (c.val / 4) + 2 * ((c.val / 2) % 2) + 1) - (c.val % 2)) * 4 + (i 0).val = _
    rcases Nat.mod_two_eq_zero_or_one c.val with h | h
    · rw [h, Nat.mul_zero, Nat.zero_add, if_pos hi1]; omega
    · rw [h, Nat.mul_one, if_neg (by omega)]; omega
  · rw [e1]
    refine (Layout.Tiles.idx_val hT (sibling c) p 1).trans ?_
    exact hp1
  · rw [e2]
    refine (Layout.Tiles.idx_val hT (sibling c) p 2).trans ?_
    exact hp2

variable {F : FTy → Type} [FloatOps F]

/-- What a result holds in the end, element by element: the sibling's argument at the rows this device owns. -/
theorem result0 (m : (ℓ : Loc nD τ sig) → Buf (Elt F) ℓ) (c : Dev nD) (mem : (ℓ : Loc nD τ sig) → Buf (Elt F) ℓ) (h : (moves m).After args c mem)
    (i : S4x512x772.Idx) :
    mem ((c.tc : Thread nD τ).loc main_v1_0) i
      = m (((sibling c).tc : Thread nD τ).loc main_arg0) ((Rect.unit (s := S4x1024x772) (k0_off1 (sibling c)) S4x512x772.size (Facts₀.k0_off1_inb (sibling c))).emb i) :=
  congrFun (h.1 s4 rfl) i

theorem result1 (m : (ℓ : Loc nD τ sig) → Buf (Elt F) ℓ) (c : Dev nD) (mem : (ℓ : Loc nD τ sig) → Buf (Elt F) ℓ) (h : (moves m).After args c mem)
    (i : S4x128x1024.Idx) :
    mem ((c.tc : Thread nD τ).loc main_v1_1) i
      = m (((sibling c).tc : Thread nD τ).loc main_arg1) ((Rect.unit (s := S4x256x1024) (k0_off2 (sibling c)) S4x128x1024.size (Facts₀.k0_off2_inb (sibling c))).emb i) :=
  congrFun (h.1 s5 rfl) i

theorem result2 (m : (ℓ : Loc nD τ sig) → Buf (Elt F) ℓ) (c : Dev nD) (mem : (ℓ : Loc nD τ sig) → Buf (Elt F) ℓ) (h : (moves m).After args c mem)
    (i : S4x512x1024.Idx) :
    mem ((c.tc : Thread nD τ).loc main_v1_2) i
      = m (((sibling c).tc : Thread nD τ).loc main_arg2) ((Rect.unit (s := S4x1024x1024) (k0_off3 (sibling c)) S4x512x1024.size (Facts₀.k0_off3_inb (sibling c))).emb i) :=
  congrFun (h.1 s6 rfl) i

theorem result3 (m : (ℓ : Loc nD τ sig) → Buf (Elt F) ℓ) (c : Dev nD) (mem : (ℓ : Loc nD τ sig) → Buf (Elt F) ℓ) (h : (moves m).After args c mem)
    (i : S4x512x1024.Idx) :
    mem ((c.tc : Thread nD τ).loc main_v1_3) i
      = m (((sibling c).tc : Thread nD τ).loc main_arg3) ((Rect.unit (s := S4x1024x1024) (k0_off3 (sibling c)) S4x512x1024.size (Facts₀.k0_off3_inb (sibling c))).emb i) :=
  congrFun (h.1 s7 rfl) i

theorem sibling_mod (c : Dev nD) : 1 - (sibling c).val % 2 = c.val % 2 := by
  show 1 - ((4 * (c.val / 4) + 2 * ((c.val / 2) % 2) + 1) - (c.val % 2)) % 2 = c.val % 2
  omega

end Cert.SwapHalvesIdeal

namespace Cert

open Cert.SwapHalvesIdeal

theorem quiescent_swapIdeal (F : FTy → Type) [FloatOps F] (m : (ℓ : Loc nD τ sig) → Buf (Elt F) ℓ) (g : Dev nD → PrngReg) :
    θ_run (defs (F := F)) (onTc (τ := τ) (main (F := F))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run _ _ _).mono (fun r h => ⟨fun c => ⟨(h.1 c).2 _ (by decide), (h.1 c).2 _ (by decide), (h.1 c).2 _ (by decide), (h.1 c).2 _ (by decide)⟩, h.2⟩)
    (SwapHalvesIdeal.run m g)

theorem swap_P : @quiescent_SwapHalves SwapHalves.Gen.facts := fun m g _ => quiescent_swapIdeal Bits m g
theorem swap_PI : @quiescent_SwapHalvesIdeal SwapHalvesIdeal.Gen.facts := fun m g _ => quiescent_swapIdeal Ideal m g
theorem swap_RI : @quiescent_SwapHalvesRefIdeal SwapHalvesRefIdeal.Gen.facts := fun m g _ =>
  (θ_run _ _ _).mono (fun r h => ⟨fun c => (h c).2.2.2.2, sem_eq_zero_of_no_sems rfl r.2⟩) (SwapHalvesRefIdeal.Value.run m g)

theorem swap_algebraic : @algebraic_SwapHalvesIdeal_SwapHalvesRefIdeal SwapHalvesIdeal.Gen.facts SwapHalvesRefIdeal.Gen.facts := by
  intro m g m' g' _ hin
  refine ⟨_, _, _, _, (θ_run _ _ _).mono (fun r h c => ?_) (SwapHalvesIdeal.run m g),
    (θ_run _ _ _).mono (fun r h => h 0) (SwapHalvesRefIdeal.Value.run m' g')⟩
  have hc := h.1 c
  have hs := hin (sibling c)
  refine ⟨?_, ?_, ?_, ?_, hc.2 _ (by decide), hc.2 _ (by decide), hc.2 _ (by decide), hc.2 _ (by decide)⟩
  · funext i
    refine (result0 m c r.2.mem hc i).trans ?_
    rw [hs.1]
    refine joined_block 1024 512 772 rfl _ _ _ _ _ _ _ _ _ c i _ ?_ ?_ ?_
    · show k0_off1 (sibling c) 0 + 1 * (i 0).val = (i 0).val
      rw [Gen.k0_off1_eq]; show 0 + 1 * (i 0).val = _; omega
    · show k0_off1 (sibling c) 1 + 1 * (i 1).val = 512 * (c.val % 2) + (i 1).val
      rw [Gen.k0_off1_eq]; show (512 - 512 * ((sibling c).val % 2)) + 1 * (i 1).val = _
      have := sibling_mod c; omega
    · show k0_off1 (sibling c) 2 + 1 * (i 2).val = (i 2).val
      rw [Gen.k0_off1_eq]; show 0 + 1 * (i 2).val = _; omega
  · funext i
    refine (result1 m c r.2.mem hc i).trans ?_
    rw [hs.2.1]
    refine joined_block 256 128 1024 rfl _ _ _ _ _ _ _ _ _ c i _ ?_ ?_ ?_
    · show k0_off2 (sibling c) 0 + 1 * (i 0).val = (i 0).val
      rw [Gen.k0_off2_eq]; show 0 + 1 * (i 0).val = _; omega
    · show k0_off2 (sibling c) 1 + 1 * (i 1).val = 128 * (c.val % 2) + (i 1).val
      rw [Gen.k0_off2_eq]; show (128 - 128 * ((sibling c).val % 2)) + 1 * (i 1).val = _
      have := sibling_mod c; omega
    · show k0_off2 (sibling c) 2 + 1 * (i 2).val = (i 2).val
      rw [Gen.k0_off2_eq]; show 0 + 1 * (i 2).val = _; omega
  · funext i
    refine (result2 m c r.2.mem hc i).trans ?_
    rw [hs.2.2.1]
    refine joined_block 1024 512 1024 rfl _ _ _ _ _ _ _ _ _ c i _ ?_ ?_ ?_
    · show k0_off3 (sibling c) 0 + 1 * (i 0).val = (i 0).val
      rw [Gen.k0_off3_eq]; show 0 + 1 * (i 0).val = _; omega
    · show k0_off3 (sibling c) 1 + 1 * (i 1).val = 512 * (c.val % 2) + (i 1).val
      rw [Gen.k0_off3_eq]; show (512 - 512 * ((sibling c).val % 2)) + 1 * (i 1).val = _
      have := sibling_mod c; omega
    · show k0_off3 (sibling c) 2 + 1 * (i 2).val = (i 2).val
      rw [Gen.k0_off3_eq]; show 0 + 1 * (i 2).val = _; omega
  · funext i
    refine (result3 m c r.2.mem hc i).trans ?_
    rw [hs.2.2.2]
    refine joined_block 1024 512 1024 rfl _ _ _ _ _ _ _ _ _ c i _ ?_ ?_ ?_
    · show k0_off3 (sibling c) 0 + 1 * (i 0).val = (i 0).val
      rw [Gen.k0_off3_eq]; show 0 + 1 * (i 0).val = _; omega
    · show k0_off3 (sibling c) 1 + 1 * (i 1).val = 512 * (c.val % 2) + (i 1).val
      rw [Gen.k0_off3_eq]; show (512 - 512 * ((sibling c).val % 2)) + 1 * (i 1).val = _
      have := sibling_mod c; omega
    · show k0_off3 (sibling c) 2 + 1 * (i 2).val = (i 2).val
      rw [Gen.k0_off3_eq]; show 0 + 1 * (i 2).val = _; omega

end Cert

end
-- ==== Proof.Deal.lean ====
/-
# Dealing the memory a launch finds to the transfers

An array's argument goes to the transfers that read it, in shares, its left half kept aside; its result goes to the
transfers that land on it, cut into the pieces they fill.
-/
module

public import proofs.«01_k».proof.Proof.Moves

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline

/-- Sets that lie in intervals apart from each other are disjoint. -/
theorem apart {X : Type} [DecidableEq X] (pos : X → ℕ) (l : List (Finset X × ℕ × ℕ))
    (hS : l.Forall fun t => ∀ i ∈ t.1, t.2.1 ≤ pos i ∧ pos i < t.2.1 + t.2.2)
    (ho : (l.map fun t => t.2).Pairwise fun a b => a.1 + a.2 ≤ b.1 ∨ b.1 + b.2 ≤ a.1) : (l.map fun t => t.1).Pairwise Disjoint := by
  rw [List.forall_iff_forall_mem] at hS
  rw [List.pairwise_map] at ho ⊢
  refine ho.imp_of_mem fun {a b} ha hb h => ?_
  rw [Finset.disjoint_left]
  intro i hia hib
  have h1 := hS a ha i hia
  have h2 := hS b hb i hib
  omega

variable {nD : ℕ} {τ : Topo} {sig : RefSig} {Val : EltTy → Type}

/-- The elements of a piece of a buffer, by coordinates. -/
theorem mem_piece {b : Ref sig .tc} {off size : Fin b.ty.shape.rank → ℕ} {inb : ∀ a, off a + size a ≤ b.ty.shape.size a} {h}
    {i : b.ty.Idx} (hi : i ∈ ((Memref.whole b).slice (Rect.unit (s := b.ty.shape) off size inb) h).view.set) (a : Fin b.ty.shape.rank) :
    off a ≤ (i a).val ∧ (i a).val < off a + size a := by
  have h' : i ∈ (Rect.unit (s := b.ty.shape) off size inb).set := by rw [← View.set_slice_whole]; exact hi
  exact Rect.mem_set_unit.mp h' a

/-- The same of a piece read with its leading axis dropped. -/
theorem mem_slab {b : Ref sig .tc} {off size : Fin b.ty.shape.rank → ℕ} {inb : ∀ a, off a + size a ≤ b.ty.shape.size a} {h} {s' : Shape} {hq}
    {i : b.ty.Idx} (hi : i ∈ (((Memref.whole b).slice (Rect.unit (s := b.ty.shape) off size inb) h).squeeze s' hq).view.set) (a : Fin b.ty.shape.rank) :
    off a ≤ (i a).val ∧ (i a).val < off a + size a :=
  mem_piece (h := h) (by rw [← View.set_reshape (h := hq.numel_eq)]; exact hi) a

local notation "𝕄" => MT nD τ sig Unit Val ℕ (UU nD τ sig) ℕ

/-- An argument cut in eight. -/
theorem eighths {ℓ : Loc nD τ sig} (π : PosShare TreeShare) (f : Buf Val ℓ) :
    (ℓ ↦{π} f : sProp 𝕄) ⊢ iprop((ℓ ↦{π.left.left.left} f) ∗ (ℓ ↦{π.left.left.right} f) ∗ (ℓ ↦{π.left.right.left} f) ∗ (ℓ ↦{π.left.right.right} f)
      ∗ (ℓ ↦{π.right.left.left} f) ∗ (ℓ ↦{π.right.left.right} f) ∗ (ℓ ↦{π.right.right.left} f) ∗ (ℓ ↦{π.right.right.right} f)) := by
  iintro H
  ihave H := (Moves.halves π f) $$ H
  icases H with ⟨H1, H2⟩
  ihave H1 := (Moves.quarters π.left f) $$ H1
  icases H1 with ⟨A, B, C, D⟩
  ihave H2 := (Moves.quarters π.right f) $$ H2
  icases H2 with ⟨A', B', C', D'⟩
  isplitl [A]; · iexact A
  isplitl [B]; · iexact B
  isplitl [C]; · iexact C
  isplitl [D]; · iexact D
  isplitl [A']; · iexact A'
  isplitl [B']; · iexact B'
  isplitl [C'] <;> iassumption

theorem bigSepL_map' {I J : Type} (g : I → J) (l : List I) (Φ : J → sProp (MT nD τ sig Unit Val ℕ (UU nD τ sig) ℕ)) :
    bigSepL (l.map g) Φ = bigSepL l fun i => Φ (g i) := by
  induction l with
  | nil => rfl
  | cons i l ih => rw [List.map_cons, bigSepL_cons', bigSepL_cons', ih]

theorem bigSepL_append' {I : Type} (l l' : List I) (Φ : I → sProp (MT nD τ sig Unit Val ℕ (UU nD τ sig) ℕ)) :
    iprop(bigSepL l Φ ∗ bigSepL l' Φ) ⊢ bigSepL (l ++ l') Φ := by
  induction l with
  | nil => iintro ⟨-, H⟩; iexact H
  | cons i l ih =>
    rw [List.cons_append, bigSepL_cons', bigSepL_cons']
    iintro ⟨⟨Hi, H⟩, H'⟩
    isplitl [Hi]; · iexact Hi
    iapply ih
    isplitl [H] <;> iassumption

theorem bigSepL_append_split {I : Type} (l l' : List I) (Φ : I → sProp (MT nD τ sig Unit Val ℕ (UU nD τ sig) ℕ)) :
    bigSepL (l ++ l') Φ ⊢ iprop(bigSepL l Φ ∗ bigSepL l' Φ) := by
  induction l with
  | nil => iintro H; isplitr; · iempintro
           iexact H
  | cons i l ih =>
    rw [List.cons_append, bigSepL_cons', bigSepL_cons']
    iintro ⟨Hi, H⟩
    ihave H := ih $$ H
    icases H with ⟨H, H'⟩
    isplitl [Hi H]
    · isplitl [Hi] <;> iassumption
    · iexact H'

namespace Moves

variable (M : Moves nD τ sig Val)

theorem nothing {I : Type} (l : List I) (Φ : I → sProp (MT nD τ sig Unit Val ℕ (UU nD τ sig) ℕ)) (h : ∀ i ∈ l, Φ i = iprop(emp)) : iprop(emp) ⊢ bigSepL l Φ := by
  induction l with
  | nil => exact .rfl
  | cons i l ih =>
    rw [bigSepL_cons', h i (List.mem_cons_self ..)]
    refine .trans ?_ (sep_mono_right (ih fun j hj => h j (List.mem_cons_of_mem _ hj)))
    iintro -
    isplitr <;> iempintro

theorem reads_none (c : Dev nD) {q : DmaSem sig} (h : M.real q = false) : M.plan.src c q = iprop(emp) := by
  show M.reads c q = _; unfold reads; rw [h]
theorem reads_late (c : Dev nD) {q : DmaSem sig} (h : M.share q = none) : M.plan.src c q = iprop(emp) := by
  show M.reads c q = _; unfold reads; rw [h]; cases M.real q <;> rfl
theorem rooms_none (c : Dev nD) {q : DmaSem sig} (h : M.real q = false) : M.plan.dst c q = iprop(emp) := by
  show M.rooms c q = _; unfold rooms; rw [h]

/-- A result cut into the pieces that the transfers of a list of cells fill. -/
theorem rooms_of (c : Dev nD) (b : Ref sig .tc) (G : List (DmaSem sig)) (l : List (Finset (Idx ((c.tc : Thread nD τ).loc b)) × ℕ × ℕ))
    (hd : (l.map fun t => t.1).Pairwise Disjoint)
    (he : (bigSepL (l.map fun t => t.1) fun S => (((c.tc : Thread nD τ).loc b) ↦[S]{fullShare} M.mem ((c.tc : Thread nD τ).loc b) : sProp 𝕄)) = bigSepL G (M.plan.dst c)) :
    (((c.tc : Thread nD τ).loc b) ↦{fullShare} M.mem ((c.tc : Thread nD τ).loc b) : sProp 𝕄) ⊢ bigSepL G (M.plan.dst c) :=
  he ▸ pieces_univ (l.map fun t => t.1) hd

/-- The arguments (first) and results (second) of a list of arrays, dealt to the cells (third) of each. -/
theorem deal_arrays (c : Dev nD) (Is : List (Ref sig .tc × Ref sig .tc × List (DmaSem sig)))
    (ha : Is.Forall fun x => (((c.tc : Thread nD τ).loc x.1) ↦{fullShare.right} M.mem ((c.tc : Thread nD τ).loc x.1) : sProp 𝕄) ⊢ bigSepL x.2.2 (M.plan.src c))
    (hr : Is.Forall fun x => (((c.tc : Thread nD τ).loc x.2.1) ↦{fullShare} M.mem ((c.tc : Thread nD τ).loc x.2.1) : sProp 𝕄) ⊢ bigSepL x.2.2 (M.plan.dst c)) :
    iprop((bigSepL (Is.map fun x => x.1) fun b => (((c.tc : Thread nD τ).loc b) ↦{fullShare} M.mem ((c.tc : Thread nD τ).loc b) : sProp 𝕄))
        ∗ (bigSepL (Is.map fun x => x.2.1) fun b => (((c.tc : Thread nD τ).loc b) ↦{fullShare} M.mem ((c.tc : Thread nD τ).loc b) : sProp 𝕄)))
      ⊢ iprop(bigSepL (Is.flatMap fun x => x.2.2) (M.plan.src c) ∗ bigSepL (Is.flatMap fun x => x.2.2) (M.plan.dst c) ∗ M.aside (Is.map fun x => x.1) c) := by
  induction Is with
  | nil =>
    iintro -
    isplitr; · iempintro
    isplitr <;> iempintro
  | cons x Is ih =>
    rw [List.forall_cons] at ha hr
    unfold aside at ih ⊢
    rw [List.map_cons, List.map_cons, List.flatMap_cons, bigSepL_cons', bigSepL_cons', bigSepL_cons']
    iintro ⟨⟨A, As⟩, R, Rs⟩
    ihave H := (ih ha.2 hr.2) $$ [As Rs]
    · isplitl [As] <;> iassumption
    icases H with ⟨HS, HD, HL⟩
    ihave A := (halves fullShare _) $$ A
    icases A with ⟨L, A⟩
    ihave A := ha.1 $$ A
    ihave R := hr.1 $$ R
    isplitl [A HS]
    · iapply (bigSepL_append' _ _ _)
      isplitl [A] <;> iassumption
    isplitl [R HD]
    · iapply (bigSepL_append' _ _ _)
      isplitl [R] <;> iassumption
    isplitl [L] <;> iassumption

/-- The same with the cells no transfer lands on. -/
theorem deal_all (c : Dev nD) (Is : List (Ref sig .tc × Ref sig .tc × List (DmaSem sig))) (rest cells : List (DmaSem sig))
    (hcells : cells = (Is.flatMap fun x => x.2.2) ++ rest) (hu : (Finset.univ : Finset (DmaSem sig)) = cells.toFinset) (hnd : cells.Nodup)
    (hrest : ∀ q ∈ rest, M.real q = false)
    (ha : Is.Forall fun x => (((c.tc : Thread nD τ).loc x.1) ↦{fullShare.right} M.mem ((c.tc : Thread nD τ).loc x.1) : sProp 𝕄) ⊢ bigSepL x.2.2 (M.plan.src c))
    (hr : Is.Forall fun x => (((c.tc : Thread nD τ).loc x.2.1) ↦{fullShare} M.mem ((c.tc : Thread nD τ).loc x.2.1) : sProp 𝕄) ⊢ bigSepL x.2.2 (M.plan.dst c)) :
    (bigSepL ((Is.map fun x => x.1) ++ Is.map fun x => x.2.1) fun b => (((c.tc : Thread nD τ).loc b) ↦{fullShare} M.mem ((c.tc : Thread nD τ).loc b) : sProp 𝕄))
      ⊢ iprop(bigSep Finset.univ (M.plan.src c) ∗ bigSep Finset.univ (M.plan.dst c) ∗ M.aside (Is.map fun x => x.1) c) := by
  rw [bigSep_univ_eq_bigSepL cells hu hnd, bigSep_univ_eq_bigSepL cells hu hnd, hcells]
  refine (bigSepL_append_split _ _ _).trans ((M.deal_arrays c Is ha hr).trans ?_)
  have h1 := nothing rest (M.plan.src c) fun q hq => M.reads_none c (hrest q hq)
  have h2 := nothing rest (M.plan.dst c) fun q hq => M.rooms_none c (hrest q hq)
  iintro ⟨HS, HD, HL⟩
  isplitl [HS]
  · iapply (bigSepL_append' _ _ _)
    isplitl [HS]; · iexact HS
    iapply h1; iempintro
  isplitl [HD]
  · iapply (bigSepL_append' _ _ _)
    isplitl [HD]; · iexact HD
    iapply h2; iempintro
  iexact HL

end Moves

end Cert.Exchange

end
-- ==== Proof.JoinRun.lean ====
/-
# The joining of halves: its run

Every device writes its half of each of the four arrays into its own result and into its sibling's, the device that
differs from it in the third coordinate of the mesh. Cells 0 to 3 are the departures, 4 to 7 the landings, 8 to 11
the copies that stay.
-/
module

public import proofs.«01_k».proof.Proof.Deal
public import proofs.«01_k».proof.Proof.Gen.JoinHalvesIdeal.Launch
public import proofs.«01_k».proof.Proof.Gen.JoinHalvesIdeal.Points

@[expose] public section

noncomputable section

namespace Cert.JoinHalvesIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.Exchange Cert.JoinHalvesIdeal.Gen

variable {F : FTy → Type} [FloatOps F]

abbrev s0 : DmaSem sig := ⟨0, by decide⟩
abbrev s1 : DmaSem sig := ⟨1, by decide⟩
abbrev s2 : DmaSem sig := ⟨2, by decide⟩
abbrev s3 : DmaSem sig := ⟨3, by decide⟩
abbrev s4 : DmaSem sig := ⟨4, by decide⟩
abbrev s5 : DmaSem sig := ⟨5, by decide⟩
abbrev s6 : DmaSem sig := ⟨6, by decide⟩
abbrev s7 : DmaSem sig := ⟨7, by decide⟩
abbrev s8 : DmaSem sig := ⟨8, by decide⟩
abbrev s9 : DmaSem sig := ⟨9, by decide⟩
abbrev s10 : DmaSem sig := ⟨10, by decide⟩
abbrev s11 : DmaSem sig := ⟨11, by decide⟩

/-- The device differing in the third coordinate. -/
def sibling (c : Dev nD) : Dev nD := ⟨(4 * (c.val / 4) + 2 * ((c.val / 2) % 2) + 1) - (c.val % 2), by have : c.val < 8 := c.isLt; show _ < 8; omega⟩
def siblings : Equiv.Perm (Dev nD) := ⟨sibling, sibling, by decide, by decide⟩

def xf (q : DmaSem sig) : Xfer nD sig := match q.val % 4 with
  | 0 => ⟨fun _ => Memref.whole main_arg0, fun c => (Memref.whole main_v1_0).slice (Rect.unit (s := S1024x772) (k0_off1 c) S512x772.size (Facts₀.k0_off1_inb c)) (fun _ => rfl)⟩
  | 1 => ⟨fun _ => Memref.whole main_arg1, fun c => (Memref.whole main_v1_1).slice (Rect.unit (s := S256x1024) (k0_off2 c) S128x1024.size (Facts₀.k0_off2_inb c)) (fun _ => rfl)⟩
  | 2 => ⟨fun _ => Memref.whole main_arg2, fun c => (Memref.whole main_v1_2).slice (Rect.unit (s := S1024x1024) (k0_off3 c) S512x1024.size (Facts₀.k0_off3_inb c)) (fun _ => rfl)⟩
  | _ => ⟨fun _ => Memref.whole main_arg3, fun c => (Memref.whole main_v1_3).slice (Rect.unit (s := S1024x1024) (k0_off3 c) S512x1024.size (Facts₀.k0_off3_inb c)) (fun _ => rfl)⟩

def moves (m : (ℓ : Loc nD τ sig) → Buf (Elt F) ℓ) : Moves nD τ sig (Elt F) where
  xf := xf
  real q := decide (4 ≤ q.val)
  remote q := decide (4 ≤ q.val ∧ q.val < 8)
  fwd _ := false
  share q := some (if q.val < 8 then fullShare.right.right else fullShare.right.left)
  peer q := if 4 ≤ q.val ∧ q.val < 8 then siblings else Equiv.refl _
  amt q := ((xf q).dst 0).view.dmaCredit
  amt_pos := by
    have h : ∀ q, 0 < (xf q).s.numel := by decide
    exact fun q => View.dmaCredit_pos _ (h q)
  lev _ := 0
  val c q := ((xf q).src c).view.read (Elt F) (m (((xf q).src c).view.loc (c.tc : Thread nD τ)))
  mem := m

variable (m : (ℓ : Loc nD τ sig) → Buf (Elt F) ℓ)

theorem dev1 (c : Dev nD) (h : k0_dev1 c < nD) : (⟨k0_dev1 c, h⟩ : Dev nD) = siblings c := Fin.ext (k0_dev1_eq c)
theorem dev2 (c : Dev nD) (h : k0_dev2 c < nD) : (⟨k0_dev2 c, h⟩ : Dev nD) = siblings c := Fin.ext (k0_dev2_eq c)
theorem dev3 (c : Dev nD) (h : k0_dev3 c < nD) : (⟨k0_dev3 c, h⟩ : Dev nD) = siblings c := Fin.ext (k0_dev3_eq c)
theorem dev4 (c : Dev nD) (h : k0_dev4 c < nD) : (⟨k0_dev4 c, h⟩ : Dev nD) = siblings c := Fin.ext (k0_dev4_eq c)

abbrev all : List (DmaSem sig) := [s3, s7, s2, s6, s1, s5, s0, s4, s11, s10, s9, s8]
abbrev waited : List (DmaSem sig) := [s11, s10, s9, s8, s3, s2, s1, s0, s7, s6, s5, s4]

theorem route (c n : Dev nD) : τ.routes (c.tc : Thread nD τ) (Dev.tc n : Thread nD τ) = true := by decide +revert

set_option maxHeartbeats 400000 in
theorem body (t : Fin cfg0.N) (c : Dev nD) (K : Dev nD × DmaSem sig → ℕ) (H R : sProp (MT nD τ sig Unit (Elt F) ℕ (UU nD τ sig) ℕ))
    (hR : iprop((moves m).plan.Rec K ∗ (moves m).plan.State c all waited ∗ H) ⊢ R) :
    iprop((moves m).plan.Rec K ∗ (moves m).plan.State c [] [] ∗ H)
      ⊢ wp frame (wpE (defs₀ (F := F)) Variants.none (c.tc : Thread nD τ) none) Set.univ (bodyAt0 t) fun _ => R := by
  have hall : ∀ q : DmaSem sig, q ∈ all := by decide
  unfold bodyAt0 cc0_join_halves k0_part1 k0_part2 k0_part3 k0_part4
  simp only [Prog.lift, Prog.bind_op, Prog.bind_ret, Prog.pure_eq_ret, wp_deviceId]
  refine (moves m).copy defs₀ _ K c s8 fullShare.right.left rfl rfl rfl rfl (by decide) (by decide) rfl rfl ?_
  refine (moves m).copy defs₀ _ K c s9 fullShare.right.left rfl rfl rfl rfl (by decide) (by decide) rfl rfl ?_
  refine (moves m).copy defs₀ _ K c s10 fullShare.right.left rfl rfl rfl rfl (by decide) (by decide) rfl rfl ?_
  refine (moves m).copy defs₀ _ K c s11 fullShare.right.left rfl rfl rfl rfl (by decide) (by decide) rfl rfl ?_
  refine (moves m).send defs₀ _ K c s0 s4 _ fullShare.right.right (dev1 c _) rfl rfl rfl rfl rfl rfl (by decide) (by decide) (by decide) rfl rfl rfl (route c _) ?_
  refine (moves m).send defs₀ _ K c s1 s5 _ fullShare.right.right (dev2 c _) rfl rfl rfl rfl rfl rfl (by decide) (by decide) (by decide) rfl rfl rfl (route c _) ?_
  refine (moves m).send defs₀ _ K c s2 s6 _ fullShare.right.right (dev3 c _) rfl rfl rfl rfl rfl rfl (by decide) (by decide) (by decide) rfl rfl rfl (route c _) ?_
  refine (moves m).send defs₀ _ K c s3 s7 _ fullShare.right.right (dev4 c _) rfl rfl rfl rfl rfl rfl (by decide) (by decide) (by decide) rfl rfl rfl (route c _) ?_
  refine (moves m).plan.wait_step' defs₀ _ K c s4 (.inr (hall _)) (by decide) (fun q _ h => absurd (hall q) h) rfl ?_
  refine (moves m).plan.wait_step' defs₀ _ K c s5 (.inr (hall _)) (by decide) (fun q _ h => absurd (hall q) h) rfl ?_
  refine (moves m).plan.wait_step' defs₀ _ K c s6 (.inr (hall _)) (by decide) (fun q _ h => absurd (hall q) h) rfl ?_
  refine (moves m).plan.wait_step' defs₀ _ K c s7 (.inr (hall _)) (by decide) (fun q _ h => absurd (hall q) h) rfl ?_
  refine (moves m).plan.wait_step' defs₀ _ K c s0 (.inr (hall _)) (by decide) (fun q _ h => absurd (hall q) h) rfl ?_
  refine (moves m).plan.wait_step' defs₀ _ K c s1 (.inr (hall _)) (by decide) (fun q _ h => absurd (hall q) h) rfl ?_
  refine (moves m).plan.wait_step' defs₀ _ K c s2 (.inr (hall _)) (by decide) (fun q _ h => absurd (hall q) h) rfl ?_
  refine (moves m).plan.wait_step' defs₀ _ K c s3 (.inr (hall _)) (by decide) (fun q _ h => absurd (hall q) h) rfl ?_
  refine (moves m).plan.wait_step' defs₀ _ K c s8 (.inr (hall _)) (by decide) (fun q _ h => absurd (hall q) h) rfl ?_
  refine (moves m).plan.wait_step' defs₀ _ K c s9 (.inr (hall _)) (by decide) (fun q _ h => absurd (hall q) h) rfl ?_
  refine (moves m).plan.wait_step' defs₀ _ K c s10 (.inr (hall _)) (by decide) (fun q _ h => absurd (hall q) h) rfl ?_
  refine (moves m).plan.wait_step' defs₀ _ K c s11 (.inr (hall _)) (by decide) (fun q _ h => absurd (hall q) h) rfl ?_
  rw [wp_ret]
  exact hR.trans fupd_intro

/-! ## Dealing the launch's memory -/

abbrev arrays : List (Ref sig .tc × Ref sig .tc × List (DmaSem sig)) :=
  [(main_arg0, main_v1_0, [s8, s4]), (main_arg1, main_v1_1, [s9, s5]), (main_arg2, main_v1_2, [s10, s6]), (main_arg3, main_v1_3, [s11, s7])]

abbrev args : List (Ref sig .tc) := [main_arg0, main_arg1, main_arg2, main_arg3]

abbrev cells : List (DmaSem sig) := [s8, s4, s9, s5, s10, s6, s11, s7, s0, s1, s2, s3]

theorem rows1 (c : Dev nD) : [(k0_off1 c 0, 512), (k0_off1 (siblings.symm c) 0, 512)].Pairwise fun a b : ℕ × ℕ => a.1 + a.2 ≤ b.1 ∨ b.1 + b.2 ≤ a.1 := by
  decide +revert

theorem rows2 (c : Dev nD) : [(k0_off2 c 0, 128), (k0_off2 (siblings.symm c) 0, 128)].Pairwise fun a b : ℕ × ℕ => a.1 + a.2 ≤ b.1 ∨ b.1 + b.2 ≤ a.1 := by
  decide +revert

theorem rows3 (c : Dev nD) : [(k0_off3 c 0, 512), (k0_off3 (siblings.symm c) 0, 512)].Pairwise fun a b : ℕ × ℕ => a.1 + a.2 ≤ b.1 ∨ b.1 + b.2 ≤ a.1 := by
  decide +revert

/-- The rows of result 0 that device `b` fills. -/
abbrev part0 (b : Dev nD) : Finset main_v1_0.ty.Idx :=
  ((Memref.whole main_v1_0).slice (Rect.unit (s := S1024x772) (k0_off1 b) S512x772.size (Facts₀.k0_off1_inb b)) (fun _ => rfl)).view.set

theorem apart0 (c : Dev nD) :
    ([(part0 c, k0_off1 c 0, 512), (part0 (siblings.symm c), k0_off1 (siblings.symm c) 0, 512)].map fun t => t.1).Pairwise Disjoint :=
  apart (X := main_v1_0.ty.Idx) (fun i => (i 0).val) _ ⟨fun i hi => mem_piece hi 0, fun i hi => mem_piece hi 0⟩ (rows1 c)

theorem dst0 (c : Dev nD) : bigSepL [s8, s4] ((moves m).plan.dst c)
    = iprop((((c.tc : Thread nD τ).loc main_v1_0) ↦[part0 c]{fullShare} m ((c.tc : Thread nD τ).loc main_v1_0))
      ∗ (((c.tc : Thread nD τ).loc main_v1_0) ↦[part0 (siblings.symm c)]{fullShare} m ((c.tc : Thread nD τ).loc main_v1_0))) := rfl

theorem rooms0 (c : Dev nD) : (((c.tc : Thread nD τ).loc main_v1_0) ↦{fullShare} m ((c.tc : Thread nD τ).loc main_v1_0))
    ⊢ bigSepL [s8, s4] ((moves m).plan.dst c) :=
  (moves m).rooms_of c main_v1_0 [s8, s4] _ (apart0 c) (dst0 m c).symm

/-- The rows of result 1 that device `b` fills. -/
abbrev part1 (b : Dev nD) : Finset main_v1_1.ty.Idx :=
  ((Memref.whole main_v1_1).slice (Rect.unit (s := S256x1024) (k0_off2 b) S128x1024.size (Facts₀.k0_off2_inb b)) (fun _ => rfl)).view.set

theorem apart1 (c : Dev nD) :
    ([(part1 c, k0_off2 c 0, 128), (part1 (siblings.symm c), k0_off2 (siblings.symm c) 0, 128)].map fun t => t.1).Pairwise Disjoint :=
  apart (X := main_v1_1.ty.Idx) (fun i => (i 0).val) _ ⟨fun i hi => mem_piece hi 0, fun i hi => mem_piece hi 0⟩ (rows2 c)

theorem dst1 (c : Dev nD) : bigSepL [s9, s5] ((moves m).plan.dst c)
    = iprop((((c.tc : Thread nD τ).loc main_v1_1) ↦[part1 c]{fullShare} m ((c.tc : Thread nD τ).loc main_v1_1))
      ∗ (((c.tc : Thread nD τ).loc main_v1_1) ↦[part1 (siblings.symm c)]{fullShare} m ((c.tc : Thread nD τ).loc main_v1_1))) := rfl

theorem rooms1 (c : Dev nD) : (((c.tc : Thread nD τ).loc main_v1_1) ↦{fullShare} m ((c.tc : Thread nD τ).loc main_v1_1))
    ⊢ bigSepL [s9, s5] ((moves m).plan.dst c) :=
  (moves m).rooms_of c main_v1_1 [s9, s5] _ (apart1 c) (dst1 m c).symm

/-- The rows of result 2 that device `b` fills. -/
abbrev part2 (b : Dev nD) : Finset main_v1_2.ty.Idx :=
  ((Memref.whole main_v1_2).slice (Rect.unit (s := S1024x1024) (k0_off3 b) S512x1024.size (Facts₀.k0_off3_inb b)) (fun _ => rfl)).view.set

theorem apart2 (c : Dev nD) :
    ([(part2 c, k0_off3 c 0, 512), (part2 (siblings.symm c), k0_off3 (siblings.symm c) 0, 512)].map fun t => t.1).Pairwise Disjoint :=
  apart (X := main_v1_2.ty.Idx) (fun i => (i 0).val) _ ⟨fun i hi => mem_piece hi 0, fun i hi => mem_piece hi 0⟩ (rows3 c)

theorem dst2 (c : Dev nD) : bigSepL [s10, s6] ((moves m).plan.dst c)
    = iprop((((c.tc : Thread nD τ).loc main_v1_2) ↦[part2 c]{fullShare} m ((c.tc : Thread nD τ).loc main_v1_2))
      ∗ (((c.tc : Thread nD τ).loc main_v1_2) ↦[part2 (siblings.symm c)]{fullShare} m ((c.tc : Thread nD τ).loc main_v1_2))) := rfl

theorem rooms2 (c : Dev nD) : (((c.tc : Thread nD τ).loc main_v1_2) ↦{fullShare} m ((c.tc : Thread nD τ).loc main_v1_2))
    ⊢ bigSepL [s10, s6] ((moves m).plan.dst c) :=
  (moves m).rooms_of c main_v1_2 [s10, s6] _ (apart2 c) (dst2 m c).symm

/-- The rows of result 3 that device `b` fills. -/
abbrev part3 (b : Dev nD) : Finset main_v1_3.ty.Idx :=
  ((Memref.whole main_v1_3).slice (Rect.unit (s := S1024x1024) (k0_off3 b) S512x1024.size (Facts₀.k0_off3_inb b)) (fun _ => rfl)).view.set

theorem apart3 (c : Dev nD) :
    ([(part3 c, k0_off3 c 0, 512), (part3 (siblings.symm c), k0_off3 (siblings.symm c) 0, 512)].map fun t => t.1).Pairwise Disjoint :=
  apart (X := main_v1_3.ty.Idx) (fun i => (i 0).val) _ ⟨fun i hi => mem_piece hi 0, fun i hi => mem_piece hi 0⟩ (rows3 c)

theorem dst3 (c : Dev nD) : bigSepL [s11, s7] ((moves m).plan.dst c)
    = iprop((((c.tc : Thread nD τ).loc main_v1_3) ↦[part3 c]{fullShare} m ((c.tc : Thread nD τ).loc main_v1_3))
      ∗ (((c.tc : Thread nD τ).loc main_v1_3) ↦[part3 (siblings.symm c)]{fullShare} m ((c.tc : Thread nD τ).loc main_v1_3))) := rfl

theorem rooms3 (c : Dev nD) : (((c.tc : Thread nD τ).loc main_v1_3) ↦{fullShare} m ((c.tc : Thread nD τ).loc main_v1_3))
    ⊢ bigSepL [s11, s7] ((moves m).plan.dst c) :=
  (moves m).rooms_of c main_v1_3 [s11, s7] _ (apart3 c) (dst3 m c).symm

theorem deal (c : Dev nD) :
    (unscopedRest (cfg0.spec) c (fun b => m ((c.tc : Thread nD τ).loc b)) : sProp (MT nD τ sig Unit (Elt F) ℕ (UU nD τ sig) ℕ))
      ⊢ iprop(bigSep Finset.univ ((moves m).plan.src c) ∗ bigSep Finset.univ ((moves m).plan.dst c) ∗ (moves m).aside args c) := by
  rw [unscopedRest0_eq]
  exact (moves m).deal_all c arrays [s0, s1, s2, s3] cells rfl (by decide) (by decide) (show ∀ q ∈ [s0, s1, s2, s3], decide (4 ≤ q.val) = false from by decide)
    ⟨Moves.halves _ _, Moves.halves _ _, Moves.halves _ _, Moves.halves _ _⟩ ⟨rooms0 m c, rooms1 m c, rooms2 m c, rooms3 m c⟩

/-! ## The run -/

theorem own : OwnSemFacts (cfg0.spec) (Plan.osem (sig := sig)) := by decide
theorem all_remote (q : DmaSem sig) (_ : (moves m).plan.remote q = true) : q ∈ all := by clear * -; revert q; decide
theorem all_waited : ∀ q : DmaSem sig, q ∈ waited := by decide

theorem run (g : Dev nD → PrngReg) :
    θ_run (defs (F := F)) (onTc (τ := τ) (main (F := F))) ⟨m, fun _ => 0, g⟩ fun r =>
      (∀ c, (moves m).After args c r.2.mem) ∧ r.2.sem = fun _ => 0 :=
  (moves m).plan.run (pcfgs (F := F)) (fun p => (cfgs p).toPCfg_adm) 0 ((moves m).aside args) cellOf_inj own winFacts0.to₀
    defs₀ Variants.none (fun _ => inferInstanceAs (IsEmpty (Fin 0))) (inferInstanceAs (IsEmpty (Fin 0))) N_0 scopedRest0_eq m g main (fun _ => rfl) all waited
    (all_remote m) all_waited (fun t c K H R hR => body m t c K H R hR) (deal m) (fun c s => (moves m).After args c s.mem)
    ((moves m).after args) fun s hY hz => ⟨hY, sem_eq_zero_of_scoped (by decide) hz⟩

end Cert.JoinHalvesIdeal

end
-- ==== Proof.JoinValue.lean ====
/-
# The joining of halves: its claims

What the run leaves in each result, element by element: the upper rows come from the device of the pair whose third
coordinate is 0, the lower rows from the other. The whole arrays stay as they are, only their blocks get larger.
-/
module

public import proofs.«01_k».proof.Defs
public import proofs.«01_k».proof.Proof.JoinRun
public import proofs.«01_k».proof.Proof.Gen.JoinHalves
public import proofs.«01_k».proof.Proof.Gen.JoinHalvesRefIdeal
public import Idealize.ShloMosaic.Lib.StableHlo.Run
public import Idealize.ShloMosaic.Lib.Pipeline.Value

@[expose] public section

noncomputable section

open Idealize.ShloMosaic
open Idealize.ShloMosaic.TcCoe
open Idealize.SL.Sem

namespace Cert.JoinHalvesIdeal

/-- A half block at a row is the full block at the row of that half: arrays cut by columns over the four pairs. -/
theorem columns {α : Type} (H R W G : Nat) (x : (⟨2, ![R, G]⟩ : Shape).Idx → α)
    (hN : Layout.TilesN ⟨2, ![H, W]⟩ ⟨2, ![R, G]⟩ fun b => Layout.cutSize [2, 2, 2] ((![[2], [0, 1]] : Fin 2 → List Nat) b))
    (hM : Layout.TilesN ⟨2, ![R, W]⟩ ⟨2, ![R, G]⟩ fun b => Layout.cutSize [2, 2, 2] ((![[], [0, 1]] : Fin 2 → List Nat) b))
    (b c : Fin 8) (hbc : b.val / 2 = c.val / 2) (k : (⟨2, ![H, W]⟩ : Shape).Idx) (i : (⟨2, ![R, W]⟩ : Shape).Idx)
    (h0 : (i 0).val = H * (b.val % 2) + (k 0).val) (h1 : (i 1).val = (k 1).val) :
    Layout.blockN ⟨2, ![H, W]⟩ ⟨2, ![R, G]⟩ (Layout.meshBlock [2, 2, 2] ![[2], [0, 1]] b) x hN k
      = Layout.blockN ⟨2, ![R, W]⟩ ⟨2, ![R, G]⟩ (Layout.meshBlock [2, 2, 2] ![[], [0, 1]] c) x hM i := by
  rw [Layout.blockN_apply, Layout.blockN_apply]
  congr 1
  funext a
  apply Fin.ext
  have hb := b.isLt
  have hc := c.isLt
  match a with
  | ⟨0, _⟩ =>
    refine (Layout.TilesN.idx_val hN _ k 0).trans (.trans ?_ (Layout.TilesN.idx_val hM _ i 0).symm)
    show (b.val / 1 % 2 * 1 + 0) * H + (k 0).val = 0 * R + (i 0).val
    rw [h0, show b.val / 1 % 2 * 1 + 0 = b.val % 2 by omega, Nat.mul_comm, Nat.zero_mul, Nat.zero_add]
  | ⟨1, _⟩ =>
    refine (Layout.TilesN.idx_val hN _ k 1).trans (.trans ?_ (Layout.TilesN.idx_val hM _ i 1).symm)
    show (b.val / 4 % 2 * 2 + (b.val / 2 % 2 * 1 + 0)) * W + (k 1).val = (c.val / 4 % 2 * 2 + (c.val / 2 % 2 * 1 + 0)) * W + (i 1).val
    rw [h1]
    congr 2
    omega

/-- The same of arrays cut by rows over the four pairs. -/
theorem bands {α : Type} (H R W G : Nat) (hR : R = 2 * H) (x : (⟨2, ![G, W]⟩ : Shape).Idx → α)
    (hT : Layout.Tiles ⟨2, ![H, W]⟩ ⟨2, ![G, W]⟩ 0 8)
    (hM : Layout.TilesN ⟨2, ![R, W]⟩ ⟨2, ![G, W]⟩ fun b => Layout.cutSize [2, 2, 2] ((![[0, 1], []] : Fin 2 → List Nat) b))
    (b c : Fin 8) (hbc : b.val / 2 = c.val / 2) (k : (⟨2, ![H, W]⟩ : Shape).Idx) (i : (⟨2, ![R, W]⟩ : Shape).Idx)
    (h0 : (i 0).val = H * (b.val % 2) + (k 0).val) (h1 : (i 1).val = (k 1).val) :
    Layout.block ⟨2, ![H, W]⟩ ⟨2, ![G, W]⟩ 0 8 b x hT k
      = Layout.blockN ⟨2, ![R, W]⟩ ⟨2, ![G, W]⟩ (Layout.meshBlock [2, 2, 2] ![[0, 1], []] c) x hM i := by
  rw [Layout.block_apply, Layout.blockN_apply]
  congr 1
  funext a
  apply Fin.ext
  have hb := b.isLt
  have hc := c.isLt
  match a with
  | ⟨0, _⟩ =>
    refine (Layout.Tiles.idx_val hT b k 0).trans (.trans ?_ (Layout.TilesN.idx_val hM _ i 0).symm)
    show b.val * H + (k 0).val = (c.val / 4 % 2 * 2 + (c.val / 2 % 2 * 1 + 0)) * R + (i 0).val
    rw [h0, hR, show c.val / 4 % 2 * 2 + (c.val / 2 % 2 * 1 + 0) = b.val / 2 by omega, ← Nat.add_assoc]
    congr 1
    rw [← Nat.mul_assoc, Nat.mul_comm H, ← Nat.add_mul]
    congr 1
    omega
  | ⟨1, _⟩ =>
    refine (Layout.Tiles.idx_val hT b k 1).trans (.trans ?_ (Layout.TilesN.idx_val hM _ i 1).symm)
    show (k 1).val = 0 * W + (i 1).val
    rw [h1, Nat.zero_mul, Nat.zero_add]

variable {F : FTy → Type} [FloatOps F]

theorem sibling_mod (c : Dev nD) : (sibling c).val % 2 = 1 - c.val % 2 := by
  have : c.val < 8 := c.isLt
  show ((4 * (c.val / 4) + 2 * ((c.val / 2) % 2) + 1) - (c.val % 2)) % 2 = _
  omega
theorem sibling_div (c : Dev nD) : (sibling c).val / 2 = c.val / 2 := by
  have : c.val < 8 := c.isLt
  show ((4 * (c.val / 4) + 2 * ((c.val / 2) % 2) + 1) - (c.val % 2)) / 2 = _
  omega

/-- What result 0 holds in the end: at each row, what the device of the pair that owns the row holds. -/
theorem result0 (m : (ℓ : Loc nD τ sig) → Buf (Elt F) ℓ) (c : Dev nD) (mem : (ℓ : Loc nD τ sig) → Buf (Elt F) ℓ) (h : (moves m).After args c mem)
    (i : S1024x772.Idx) :
    ∃ (b : Dev nD) (k : S512x772.Idx), b.val / 2 = c.val / 2 ∧ (i 0).val = 512 * (b.val % 2) + (k 0).val ∧ (i 1).val = (k 1).val
      ∧ mem ((c.tc : Thread nD τ).loc main_v1_0) i = m ((b.tc : Thread nD τ).loc main_arg0) k := by
  have own (k : S512x772.Idx) : mem ((c.tc : Thread nD τ).loc main_v1_0) ((Rect.unit (s := S1024x772) (k0_off1 c) S512x772.size (Facts₀.k0_off1_inb c)).emb k)
      = m ((c.tc : Thread nD τ).loc main_arg0) k := congrFun (h.1 s8 rfl) k
  have far (k : S512x772.Idx) : mem ((c.tc : Thread nD τ).loc main_v1_0) ((Rect.unit (s := S1024x772) (k0_off1 (sibling c)) S512x772.size (Facts₀.k0_off1_inb (sibling c))).emb k)
      = m (((sibling c).tc : Thread nD τ).loc main_arg0) k := congrFun (h.1 s4 rfl) k
  have hi0 : (i 0).val < 1024 := (i 0).isLt
  have hi1 : (i 1).val < 772 := (i 1).isLt
  have at_row (b : Dev nD) (hb : (i 0).val / 512 = b.val % 2) (k : S512x772.Idx) (hk0 : (i 0).val = 512 * (b.val % 2) + (k 0).val) (hk1 : (i 1).val = (k 1).val) :
      i = (Rect.unit (s := S1024x772) (k0_off1 b) S512x772.size (Facts₀.k0_off1_inb b)).emb k := by
    funext j
    apply Fin.ext
    match j with
    | ⟨0, _⟩ =>
      show (i 0).val = k0_off1 b 0 + 1 * (k 0).val
      rw [Gen.k0_off1_eq]; show (i 0).val = 512 * (b.val % 2) + 1 * (k 0).val; omega
    | ⟨1, _⟩ =>
      show (i 1).val = k0_off1 b 1 + 1 * (k 1).val
      rw [Gen.k0_off1_eq]; show (i 1).val = 0 + 1 * (k 1).val; omega
  let k : S512x772.Idx := fun j => match j with | ⟨0, _⟩ => ⟨(i 0).val % 512, Nat.mod_lt _ (by decide)⟩ | ⟨1, _⟩ => ⟨(i 1).val, hi1⟩
  have hk0 : (k 0).val = (i 0).val % 512 := rfl
  by_cases hc : (i 0).val / 512 = c.val % 2
  · have e0 : (i 0).val = 512 * (c.val % 2) + (k 0).val := by omega
    exact ⟨c, k, rfl, e0, rfl, (congrArg (mem ((c.tc : Thread nD τ).loc main_v1_0)) (at_row c hc k e0 rfl)).trans (own k)⟩
  · have hs : (i 0).val / 512 = (sibling c).val % 2 := by rw [sibling_mod]; omega
    have e0 : (i 0).val = 512 * ((sibling c).val % 2) + (k 0).val := by omega
    exact ⟨sibling c, k, sibling_div c, e0, rfl, (congrArg (mem ((c.tc : Thread nD τ).loc main_v1_0)) (at_row (sibling c) hs k e0 rfl)).trans (far k)⟩

/-- What result 1 holds in the end: at each row, what the device of the pair that owns the row holds. -/
theorem result1 (m : (ℓ : Loc nD τ sig) → Buf (Elt F) ℓ) (c : Dev nD) (mem : (ℓ : Loc nD τ sig) → Buf (Elt F) ℓ) (h : (moves m).After args c mem)
    (i : S256x1024.Idx) :
    ∃ (b : Dev nD) (k : S128x1024.Idx), b.val / 2 = c.val / 2 ∧ (i 0).val = 128 * (b.val % 2) + (k 0).val ∧ (i 1).val = (k 1).val
      ∧ mem ((c.tc : Thread nD τ).loc main_v1_1) i = m ((b.tc : Thread nD τ).loc main_arg1) k := by
  have own (k : S128x1024.Idx) : mem ((c.tc : Thread nD τ).loc main_v1_1) ((Rect.unit (s := S256x1024) (k0_off2 c) S128x1024.size (Facts₀.k0_off2_inb c)).emb k)
      = m ((c.tc : Thread nD τ).loc main_arg1) k := congrFun (h.1 s9 rfl) k
  have far (k : S128x1024.Idx) : mem ((c.tc : Thread nD τ).loc main_v1_1) ((Rect.unit (s := S256x1024) (k0_off2 (sibling c)) S128x1024.size (Facts₀.k0_off2_inb (sibling c))).emb k)
      = m (((sibling c).tc : Thread nD τ).loc main_arg1) k := congrFun (h.1 s5 rfl) k
  have hi0 : (i 0).val < 256 := (i 0).isLt
  have hi1 : (i 1).val < 1024 := (i 1).isLt
  have at_row (b : Dev nD) (hb : (i 0).val / 128 = b.val % 2) (k : S128x1024.Idx) (hk0 : (i 0).val = 128 * (b.val % 2) + (k 0).val) (hk1 : (i 1).val = (k 1).val) :
      i = (Rect.unit (s := S256x1024) (k0_off2 b) S128x1024.size (Facts₀.k0_off2_inb b)).emb k := by
    funext j
    apply Fin.ext
    match j with
    | ⟨0, _⟩ =>
      show (i 0).val = k0_off2 b 0 + 1 * (k 0).val
      rw [Gen.k0_off2_eq]; show (i 0).val = 128 * (b.val % 2) + 1 * (k 0).val; omega
    | ⟨1, _⟩ =>
      show (i 1).val = k0_off2 b 1 + 1 * (k 1).val
      rw [Gen.k0_off2_eq]; show (i 1).val = 0 + 1 * (k 1).val; omega
  let k : S128x1024.Idx := fun j => match j with | ⟨0, _⟩ => ⟨(i 0).val % 128, Nat.mod_lt _ (by decide)⟩ | ⟨1, _⟩ => ⟨(i 1).val, hi1⟩
  have hk0 : (k 0).val = (i 0).val % 128 := rfl
  by_cases hc : (i 0).val / 128 = c.val % 2
  · have e0 : (i 0).val = 128 * (c.val % 2) + (k 0).val := by omega
    exact ⟨c, k, rfl, e0, rfl, (congrArg (mem ((c.tc : Thread nD τ).loc main_v1_1)) (at_row c hc k e0 rfl)).trans (own k)⟩
  · have hs : (i 0).val / 128 = (sibling c).val % 2 := by rw [sibling_mod]; omega
    have e0 : (i 0).val = 128 * ((sibling c).val % 2) + (k 0).val := by omega
    exact ⟨sibling c, k, sibling_div c, e0, rfl, (congrArg (mem ((c.tc : Thread nD τ).loc main_v1_1)) (at_row (sibling c) hs k e0 rfl)).trans (far k)⟩

/-- What result 2 holds in the end: at each row, what the device of the pair that owns the row holds. -/
theorem result2 (m : (ℓ : Loc nD τ sig) → Buf (Elt F) ℓ) (c : Dev nD) (mem : (ℓ : Loc nD τ sig) → Buf (Elt F) ℓ) (h : (moves m).After args c mem)
    (i : S1024x1024.Idx) :
    ∃ (b : Dev nD) (k : S512x1024.Idx), b.val / 2 = c.val / 2 ∧ (i 0).val = 512 * (b.val % 2) + (k 0).val ∧ (i 1).val = (k 1).val
      ∧ mem ((c.tc : Thread nD τ).loc main_v1_2) i = m ((b.tc : Thread nD τ).loc main_arg2) k := by
  have own (k : S512x1024.Idx) : mem ((c.tc : Thread nD τ).loc main_v1_2) ((Rect.unit (s := S1024x1024) (k0_off3 c) S512x1024.size (Facts₀.k0_off3_inb c)).emb k)
      = m ((c.tc : Thread nD τ).loc main_arg2) k := congrFun (h.1 s10 rfl) k
  have far (k : S512x1024.Idx) : mem ((c.tc : Thread nD τ).loc main_v1_2) ((Rect.unit (s := S1024x1024) (k0_off3 (sibling c)) S512x1024.size (Facts₀.k0_off3_inb (sibling c))).emb k)
      = m (((sibling c).tc : Thread nD τ).loc main_arg2) k := congrFun (h.1 s6 rfl) k
  have hi0 : (i 0).val < 1024 := (i 0).isLt
  have hi1 : (i 1).val < 1024 := (i 1).isLt
  have at_row (b : Dev nD) (hb : (i 0).val / 512 = b.val % 2) (k : S512x1024.Idx) (hk0 : (i 0).val = 512 * (b.val % 2) + (k 0).val) (hk1 : (i 1).val = (k 1).val) :
      i = (Rect.unit (s := S1024x1024) (k0_off3 b) S512x1024.size (Facts₀.k0_off3_inb b)).emb k := by
    funext j
    apply Fin.ext
    match j with
    | ⟨0, _⟩ =>
      show (i 0).val = k0_off3 b 0 + 1 * (k 0).val
      rw [Gen.k0_off3_eq]; show (i 0).val = 512 * (b.val % 2) + 1 * (k 0).val; omega
    | ⟨1, _⟩ =>
      show (i 1).val = k0_off3 b 1 + 1 * (k 1).val
      rw [Gen.k0_off3_eq]; show (i 1).val = 0 + 1 * (k 1).val; omega
  let k : S512x1024.Idx := fun j => match j with | ⟨0, _⟩ => ⟨(i 0).val % 512, Nat.mod_lt _ (by decide)⟩ | ⟨1, _⟩ => ⟨(i 1).val, hi1⟩
  have hk0 : (k 0).val = (i 0).val % 512 := rfl
  by_cases hc : (i 0).val / 512 = c.val % 2
  · have e0 : (i 0).val = 512 * (c.val % 2) + (k 0).val := by omega
    exact ⟨c, k, rfl, e0, rfl, (congrArg (mem ((c.tc : Thread nD τ).loc main_v1_2)) (at_row c hc k e0 rfl)).trans (own k)⟩
  · have hs : (i 0).val / 512 = (sibling c).val % 2 := by rw [sibling_mod]; omega
    have e0 : (i 0).val = 512 * ((sibling c).val % 2) + (k 0).val := by omega
    exact ⟨sibling c, k, sibling_div c, e0, rfl, (congrArg (mem ((c.tc : Thread nD τ).loc main_v1_2)) (at_row (sibling c) hs k e0 rfl)).trans (far k)⟩

/-- What result 3 holds in the end: at each row, what the device of the pair that owns the row holds. -/
theorem result3 (m : (ℓ : Loc nD τ sig) → Buf (Elt F) ℓ) (c : Dev nD) (mem : (ℓ : Loc nD τ sig) → Buf (Elt F) ℓ) (h : (moves m).After args c mem)
    (i : S1024x1024.Idx) :
    ∃ (b : Dev nD) (k : S512x1024.Idx), b.val / 2 = c.val / 2 ∧ (i 0).val = 512 * (b.val % 2) + (k 0).val ∧ (i 1).val = (k 1).val
      ∧ mem ((c.tc : Thread nD τ).loc main_v1_3) i = m ((b.tc : Thread nD τ).loc main_arg3) k := by
  have own (k : S512x1024.Idx) : mem ((c.tc : Thread nD τ).loc main_v1_3) ((Rect.unit (s := S1024x1024) (k0_off3 c) S512x1024.size (Facts₀.k0_off3_inb c)).emb k)
      = m ((c.tc : Thread nD τ).loc main_arg3) k := congrFun (h.1 s11 rfl) k
  have far (k : S512x1024.Idx) : mem ((c.tc : Thread nD τ).loc main_v1_3) ((Rect.unit (s := S1024x1024) (k0_off3 (sibling c)) S512x1024.size (Facts₀.k0_off3_inb (sibling c))).emb k)
      = m (((sibling c).tc : Thread nD τ).loc main_arg3) k := congrFun (h.1 s7 rfl) k
  have hi0 : (i 0).val < 1024 := (i 0).isLt
  have hi1 : (i 1).val < 1024 := (i 1).isLt
  have at_row (b : Dev nD) (hb : (i 0).val / 512 = b.val % 2) (k : S512x1024.Idx) (hk0 : (i 0).val = 512 * (b.val % 2) + (k 0).val) (hk1 : (i 1).val = (k 1).val) :
      i = (Rect.unit (s := S1024x1024) (k0_off3 b) S512x1024.size (Facts₀.k0_off3_inb b)).emb k := by
    funext j
    apply Fin.ext
    match j with
    | ⟨0, _⟩ =>
      show (i 0).val = k0_off3 b 0 + 1 * (k 0).val
      rw [Gen.k0_off3_eq]; show (i 0).val = 512 * (b.val % 2) + 1 * (k 0).val; omega
    | ⟨1, _⟩ =>
      show (i 1).val = k0_off3 b 1 + 1 * (k 1).val
      rw [Gen.k0_off3_eq]; show (i 1).val = 0 + 1 * (k 1).val; omega
  let k : S512x1024.Idx := fun j => match j with | ⟨0, _⟩ => ⟨(i 0).val % 512, Nat.mod_lt _ (by decide)⟩ | ⟨1, _⟩ => ⟨(i 1).val, hi1⟩
  have hk0 : (k 0).val = (i 0).val % 512 := rfl
  by_cases hc : (i 0).val / 512 = c.val % 2
  · have e0 : (i 0).val = 512 * (c.val % 2) + (k 0).val := by omega
    exact ⟨c, k, rfl, e0, rfl, (congrArg (mem ((c.tc : Thread nD τ).loc main_v1_3)) (at_row c hc k e0 rfl)).trans (own k)⟩
  · have hs : (i 0).val / 512 = (sibling c).val % 2 := by rw [sibling_mod]; omega
    have e0 : (i 0).val = 512 * ((sibling c).val % 2) + (k 0).val := by omega
    exact ⟨sibling c, k, sibling_div c, e0, rfl, (congrArg (mem ((c.tc : Thread nD τ).loc main_v1_3)) (at_row (sibling c) hs k e0 rfl)).trans (far k)⟩

end Cert.JoinHalvesIdeal

namespace Cert

open Cert.JoinHalvesIdeal

theorem quiescent_joinIdeal (F : FTy → Type) [FloatOps F] (m : (ℓ : Loc nD τ sig) → Buf (Elt F) ℓ) (g : Dev nD → PrngReg) :
    θ_run (defs (F := F)) (onTc (τ := τ) (main (F := F))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run _ _ _).mono (fun r h => ⟨fun c => ⟨(h.1 c).2 _ (by decide), (h.1 c).2 _ (by decide), (h.1 c).2 _ (by decide), (h.1 c).2 _ (by decide)⟩, h.2⟩)
    (JoinHalvesIdeal.run m g)

/-- The reference does nothing: its results are its arguments. -/
theorem join_reference (m : (ℓ : Loc JoinHalvesRefIdeal.nD JoinHalvesRefIdeal.τ JoinHalvesRefIdeal.sig) → Buf (Elt Ideal) ℓ) (g : Dev JoinHalvesRefIdeal.nD → PrngReg) :
    θ_run (JoinHalvesRefIdeal.defs (F := Ideal)) (onTc (τ := JoinHalvesRefIdeal.τ) (JoinHalvesRefIdeal.main (F := Ideal))) ⟨m, fun _ => 0, g⟩ fun r =>
      ∀ (c : Dev JoinHalvesRefIdeal.nD) (b : Ref JoinHalvesRefIdeal.sig .tc), r.2.mem ((c.tc : Thread JoinHalvesRefIdeal.nD JoinHalvesRefIdeal.τ).loc b) = m ((c.tc : Thread JoinHalvesRefIdeal.nD JoinHalvesRefIdeal.τ).loc b) :=
  (θ_run _ _ _).mono (fun _ h c b => h c b)
    (StableHlo.run_seq (by decide) (by decide) JoinHalvesRefIdeal.defs (JoinHalvesRefIdeal.main (F := Ideal)) (fun _ => []) (fun _ => rfl) (fun _ => trivial) m g)

theorem join_P : @quiescent_JoinHalves JoinHalves.Gen.facts := fun m g _ => quiescent_joinIdeal Bits m g
theorem join_PI : @quiescent_JoinHalvesIdeal JoinHalvesIdeal.Gen.facts := fun m g _ => quiescent_joinIdeal Ideal m g
theorem join_RI : @quiescent_JoinHalvesRefIdeal JoinHalvesRefIdeal.Gen.facts := fun m g _ =>
  (θ_run _ _ _).mono (fun r h => ⟨fun c => ⟨h c _, h c _, h c _, h c _⟩, sem_eq_zero_of_no_sems rfl r.2⟩) (join_reference m g)

theorem join_algebraic : @algebraic_JoinHalvesIdeal_JoinHalvesRefIdeal JoinHalvesIdeal.Gen.facts JoinHalvesRefIdeal.Gen.facts := by
  intro m g m' g' _ hin
  refine ⟨_, _, _, _, (θ_run _ _ _).mono (fun r h c => ?_) (JoinHalvesIdeal.run m g),
    (θ_run _ _ _).mono (fun r h => ⟨h 0 _, h 0 _, h 0 _, h 0 _, h 0 _, h 0 _, h 0 _, h 0 _⟩) (join_reference m' g')⟩
  have hc := h.1 c
  refine ⟨?_, ?_, ?_, ?_, hc.2 _ (by decide), hc.2 _ (by decide), hc.2 _ (by decide), hc.2 _ (by decide)⟩
  · funext i
    obtain ⟨b, k, hb, h0, h1, e⟩ := result0 m c r.2.mem hc i
    rw [e, (hin b).1]
    exact columns 512 1024 772 3088 _ _ _ b c hb k i h0 h1
  · funext i
    obtain ⟨b, k, hb, h0, h1, e⟩ := result1 m c r.2.mem hc i
    rw [e, (hin b).2.1]
    exact bands 128 256 1024 1024 rfl _ _ _ b c hb k i h0 h1
  · funext i
    obtain ⟨b, k, hb, h0, h1, e⟩ := result2 m c r.2.mem hc i
    rw [e, (hin b).2.2.1]
    exact columns 512 1024 1024 4096 _ _ _ b c hb k i h0 h1
  · funext i
    obtain ⟨b, k, hb, h0, h1, e⟩ := result3 m c r.2.mem hc i
    rw [e, (hin b).2.2.2]
    exact bands 512 1024 1024 4096 rfl _ _ _ b c hb k i h0 h1

end Cert

end
-- ==== Proof.ScatterRun.lean ====
/-
# The exchange of blocks between the chips: its run

Every device keeps one of the four blocks of each array and writes the others to the devices that differ from it in the
first two coordinates of the mesh. Cells 0 to 11 are the departures, 12 to 23 the landings, three for each array, 24 to
27 the copies that stay.
-/
module

public import proofs.«01_k».proof.Proof.Deal
public import proofs.«01_k».proof.Proof.Gen.ScatterChipsIdeal.Launch
public import proofs.«01_k».proof.Proof.Gen.ScatterChipsIdeal.Points

@[expose] public section

noncomputable section

namespace Cert.ScatterChipsIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.Exchange Cert.ScatterChipsIdeal.Gen

variable {F : FTy → Type} [FloatOps F]

abbrev s0 : DmaSem sig := ⟨0, by decide⟩
abbrev s1 : DmaSem sig := ⟨1, by decide⟩
abbrev s2 : DmaSem sig := ⟨2, by decide⟩
abbrev s3 : DmaSem sig := ⟨3, by decide⟩
abbrev s4 : DmaSem sig := ⟨4, by decide⟩
abbrev s5 : DmaSem sig := ⟨5, by decide⟩
abbrev s6 : DmaSem sig := ⟨6, by decide⟩
abbrev s7 : DmaSem sig := ⟨7, by decide⟩
abbrev s8 : DmaSem sig := ⟨8, by decide⟩
abbrev s9 : DmaSem sig := ⟨9, by decide⟩
abbrev s10 : DmaSem sig := ⟨10, by decide⟩
abbrev s11 : DmaSem sig := ⟨11, by decide⟩
abbrev s12 : DmaSem sig := ⟨12, by decide⟩
abbrev s13 : DmaSem sig := ⟨13, by decide⟩
abbrev s14 : DmaSem sig := ⟨14, by decide⟩
abbrev s15 : DmaSem sig := ⟨15, by decide⟩
abbrev s16 : DmaSem sig := ⟨16, by decide⟩
abbrev s17 : DmaSem sig := ⟨17, by decide⟩
abbrev s18 : DmaSem sig := ⟨18, by decide⟩
abbrev s19 : DmaSem sig := ⟨19, by decide⟩
abbrev s20 : DmaSem sig := ⟨20, by decide⟩
abbrev s21 : DmaSem sig := ⟨21, by decide⟩
abbrev s22 : DmaSem sig := ⟨22, by decide⟩
abbrev s23 : DmaSem sig := ⟨23, by decide⟩
abbrev s24 : DmaSem sig := ⟨24, by decide⟩
abbrev s25 : DmaSem sig := ⟨25, by decide⟩
abbrev s26 : DmaSem sig := ⟨26, by decide⟩
abbrev s27 : DmaSem sig := ⟨27, by decide⟩

/-- The device differing in the first coordinate. -/
def flip1 (c : Dev nD) : Dev nD := ⟨(2 * ((c.val / 2) % 2) + (c.val % 2) + 4) - 4 * (c.val / 4), by have : c.val < 8 := c.isLt; show _ < 8; omega⟩
def flip1s : Equiv.Perm (Dev nD) := ⟨flip1, flip1, by decide, by decide⟩

/-- The device differing in the second coordinate. -/
def flip2 (c : Dev nD) : Dev nD := ⟨(4 * (c.val / 4) + (c.val % 2) + 2) - 2 * ((c.val / 2) % 2), by have : c.val < 8 := c.isLt; show _ < 8; omega⟩
def flip2s : Equiv.Perm (Dev nD) := ⟨flip2, flip2, by decide, by decide⟩

/-- The device differing in the first and second coordinates. -/
def flip3 (c : Dev nD) : Dev nD := ⟨((c.val % 2) + 6) - (4 * (c.val / 4) + 2 * ((c.val / 2) % 2)), by have : c.val < 8 := c.isLt; show _ < 8; omega⟩
def flip3s : Equiv.Perm (Dev nD) := ⟨flip3, flip3, by decide, by decide⟩

/-- The device that a landing goes to. -/
def across (q : DmaSem sig) : Equiv.Perm (Dev nD) := match q.val with
  | 12 => flip1s
  | 13 => flip2s
  | 14 => flip3s
  | 15 => flip1s
  | 16 => flip2s
  | 17 => flip3s
  | 18 => flip1s
  | 19 => flip2s
  | 20 => flip3s
  | 21 => flip1s
  | 22 => flip2s
  | 23 => flip3s
  | _ => Equiv.refl _

/-- A block of argument 0, and of result 0. -/
abbrev from0 (off : Fin 3 → ℕ) (inb : ∀ a, off a + S1x512x772.size a ≤ S4x512x772.size a) : Memref sig .tc .hbm S512x772 .bf16 :=
  ((Memref.whole main_arg0).slice (Rect.unit (s := S4x512x772) off S1x512x772.size inb) (fun _ => rfl)).squeeze S512x772 Facts₀.squeezes_S1x512x772_S512x772
abbrev slot0 (b : Dev nD) : Memref sig .tc .hbm S512x772 .bf16 :=
  ((Memref.whole main_v1_0).slice (Rect.unit (s := S4x512x772) (k0_off1 b) S1x512x772.size (Facts₀.k0_off1_inb b)) (fun _ => rfl)).squeeze S512x772 Facts₀.squeezes_S1x512x772_S512x772

/-- A block of argument 1, and of result 1. -/
abbrev from1 (off : Fin 3 → ℕ) (inb : ∀ a, off a + S1x128x1024.size a ≤ S4x128x1024.size a) : Memref sig .tc .hbm S128x1024 .bf16 :=
  ((Memref.whole main_arg1).slice (Rect.unit (s := S4x128x1024) off S1x128x1024.size inb) (fun _ => rfl)).squeeze S128x1024 Facts₀.squeezes_S1x128x1024_S128x1024
abbrev slot1 (b : Dev nD) : Memref sig .tc .hbm S128x1024 .bf16 :=
  ((Memref.whole main_v1_1).slice (Rect.unit (s := S4x128x1024) (k0_off2 b) S1x128x1024.size (Facts₀.k0_off2_inb b)) (fun _ => rfl)).squeeze S128x1024 Facts₀.squeezes_S1x128x1024_S128x1024

/-- A block of argument 2, and of result 2. -/
abbrev from2 (off : Fin 3 → ℕ) (inb : ∀ a, off a + S1x512x1024.size a ≤ S4x512x1024.size a) : Memref sig .tc .hbm S512x1024 .bf16 :=
  ((Memref.whole main_arg2).slice (Rect.unit (s := S4x512x1024) off S1x512x1024.size inb) (fun _ => rfl)).squeeze S512x1024 Facts₀.squeezes_S1x512x1024_S512x1024
abbrev slot2 (b : Dev nD) : Memref sig .tc .hbm S512x1024 .bf16 :=
  ((Memref.whole main_v1_2).slice (Rect.unit (s := S4x512x1024) (k0_off3 b) S1x512x1024.size (Facts₀.k0_off3_inb b)) (fun _ => rfl)).squeeze S512x1024 Facts₀.squeezes_S1x512x1024_S512x1024

/-- A block of argument 3, and of result 3. -/
abbrev from3 (off : Fin 3 → ℕ) (inb : ∀ a, off a + S1x512x1024.size a ≤ S4x512x1024.size a) : Memref sig .tc .hbm S512x1024 .bf16 :=
  ((Memref.whole main_arg3).slice (Rect.unit (s := S4x512x1024) off S1x512x1024.size inb) (fun _ => rfl)).squeeze S512x1024 Facts₀.squeezes_S1x512x1024_S512x1024
abbrev slot3 (b : Dev nD) : Memref sig .tc .hbm S512x1024 .bf16 :=
  ((Memref.whole main_v1_3).slice (Rect.unit (s := S4x512x1024) (k0_off3 b) S1x512x1024.size (Facts₀.k0_off3_inb b)) (fun _ => rfl)).squeeze S512x1024 Facts₀.squeezes_S1x512x1024_S512x1024

def xf (q : DmaSem sig) : Xfer nD sig := match q.val with
  | 12 => ⟨fun c => from0 (k0_off4 c) (Facts₀.k0_off4_inb c), fun c => slot0 c⟩
  | 13 => ⟨fun c => from0 (k0_off5 c) (Facts₀.k0_off5_inb c), fun c => slot0 c⟩
  | 14 => ⟨fun c => from0 (k0_off6 c) (Facts₀.k0_off6_inb c), fun c => slot0 c⟩
  | 15 => ⟨fun c => from1 (k0_off7 c) (Facts₀.k0_off7_inb c), fun c => slot1 c⟩
  | 16 => ⟨fun c => from1 (k0_off8 c) (Facts₀.k0_off8_inb c), fun c => slot1 c⟩
  | 17 => ⟨fun c => from1 (k0_off9 c) (Facts₀.k0_off9_inb c), fun c => slot1 c⟩
  | 18 => ⟨fun c => from2 (k0_off10 c) (Facts₀.k0_off10_inb c), fun c => slot2 c⟩
  | 19 => ⟨fun c => from2 (k0_off11 c) (Facts₀.k0_off11_inb c), fun c => slot2 c⟩
  | 20 => ⟨fun c => from2 (k0_off12 c) (Facts₀.k0_off12_inb c), fun c => slot2 c⟩
  | 21 => ⟨fun c => from3 (k0_off10 c) (Facts₀.k0_off10_inb c), fun c => slot3 c⟩
  | 22 => ⟨fun c => from3 (k0_off11 c) (Facts₀.k0_off11_inb c), fun c => slot3 c⟩
  | 23 => ⟨fun c => from3 (k0_off12 c) (Facts₀.k0_off12_inb c), fun c => slot3 c⟩
  | 24 => ⟨fun c => from0 (k0_off1 c) (Facts₀.k0_off1_inb c), fun c => slot0 c⟩
  | 25 => ⟨fun c => from1 (k0_off2 c) (Facts₀.k0_off2_inb c), fun c => slot1 c⟩
  | 26 => ⟨fun c => from2 (k0_off3 c) (Facts₀.k0_off3_inb c), fun c => slot2 c⟩
  | _ => ⟨fun c => from3 (k0_off3 c) (Facts₀.k0_off3_inb c), fun c => slot3 c⟩

/-- The landing a cell belongs to. -/
def land (q : DmaSem sig) : DmaSem sig := if h : q.val < 12 then ⟨12 + q.val, by show _ < 28; omega⟩ else q

def share (q : DmaSem sig) : PosShare TreeShare := match q.val with
  | 12 => fullShare.right.left.right
  | 13 => fullShare.right.right.left
  | 14 => fullShare.right.right.right
  | 15 => fullShare.right.left.right
  | 16 => fullShare.right.right.left
  | 17 => fullShare.right.right.right
  | 18 => fullShare.right.left.right
  | 19 => fullShare.right.right.left
  | 20 => fullShare.right.right.right
  | 21 => fullShare.right.left.right
  | 22 => fullShare.right.right.left
  | 23 => fullShare.right.right.right
  | _ => fullShare.right.left.left

def moves (m : (ℓ : Loc nD τ sig) → Buf (Elt F) ℓ) : Moves nD τ sig (Elt F) where
  xf := xf
  real q := decide (12 ≤ q.val)
  remote q := decide (12 ≤ q.val ∧ q.val < 24)
  fwd _ := false
  share q := some (share q)
  peer q := across q
  amt q := ((xf (land q)).dst 0).view.dmaCredit
  amt_pos := by
    have h : ∀ q, 0 < (xf (land q)).s.numel := by decide
    exact fun q => View.dmaCredit_pos _ (h q)
  lev _ := 0
  val c q := ((xf q).src c).view.read (Elt F) (m (((xf q).src c).view.loc (c.tc : Thread nD τ)))
  mem := m

variable (m : (ℓ : Loc nD τ sig) → Buf (Elt F) ℓ)

theorem dev1 (c : Dev nD) (h : k0_dev1 c < nD) : (⟨k0_dev1 c, h⟩ : Dev nD) = flip1s c := Fin.ext (k0_dev1_eq c)
theorem dev2 (c : Dev nD) (h : k0_dev2 c < nD) : (⟨k0_dev2 c, h⟩ : Dev nD) = flip2s c := Fin.ext (k0_dev2_eq c)
theorem dev3 (c : Dev nD) (h : k0_dev3 c < nD) : (⟨k0_dev3 c, h⟩ : Dev nD) = flip3s c := Fin.ext (k0_dev3_eq c)
theorem dev4 (c : Dev nD) (h : k0_dev4 c < nD) : (⟨k0_dev4 c, h⟩ : Dev nD) = flip1s c := Fin.ext (k0_dev4_eq c)
theorem dev5 (c : Dev nD) (h : k0_dev5 c < nD) : (⟨k0_dev5 c, h⟩ : Dev nD) = flip2s c := Fin.ext (k0_dev5_eq c)
theorem dev6 (c : Dev nD) (h : k0_dev6 c < nD) : (⟨k0_dev6 c, h⟩ : Dev nD) = flip3s c := Fin.ext (k0_dev6_eq c)
theorem dev7 (c : Dev nD) (h : k0_dev7 c < nD) : (⟨k0_dev7 c, h⟩ : Dev nD) = flip1s c := Fin.ext (k0_dev7_eq c)
theorem dev8 (c : Dev nD) (h : k0_dev8 c < nD) : (⟨k0_dev8 c, h⟩ : Dev nD) = flip2s c := Fin.ext (k0_dev8_eq c)
theorem dev9 (c : Dev nD) (h : k0_dev9 c < nD) : (⟨k0_dev9 c, h⟩ : Dev nD) = flip3s c := Fin.ext (k0_dev9_eq c)
theorem dev10 (c : Dev nD) (h : k0_dev10 c < nD) : (⟨k0_dev10 c, h⟩ : Dev nD) = flip1s c := Fin.ext (k0_dev10_eq c)
theorem dev11 (c : Dev nD) (h : k0_dev11 c < nD) : (⟨k0_dev11 c, h⟩ : Dev nD) = flip2s c := Fin.ext (k0_dev11_eq c)
theorem dev12 (c : Dev nD) (h : k0_dev12 c < nD) : (⟨k0_dev12 c, h⟩ : Dev nD) = flip3s c := Fin.ext (k0_dev12_eq c)

abbrev all : List (DmaSem sig) := [s11, s23, s10, s22, s9, s21, s8, s20, s7, s19, s6, s18, s5, s17, s4, s16, s3, s15, s2, s14, s1, s13, s0, s12, s27, s26, s25, s24]
abbrev waited : List (DmaSem sig) := [s27, s26, s25, s24, s11, s10, s9, s8, s7, s6, s5, s4, s3, s2, s1, s0, s23, s22, s21, s20, s19, s18, s17, s16, s15, s14, s13, s12]

theorem route (c n : Dev nD) : τ.routes (c.tc : Thread nD τ) (Dev.tc n : Thread nD τ) = true := by decide +revert

set_option maxHeartbeats 1000000 in
theorem body (t : Fin cfg0.N) (c : Dev nD) (K : Dev nD × DmaSem sig → ℕ) (H R : sProp (MT nD τ sig Unit (Elt F) ℕ (UU nD τ sig) ℕ))
    (hR : iprop((moves m).plan.Rec K ∗ (moves m).plan.State c all waited ∗ H) ⊢ R) :
    iprop((moves m).plan.Rec K ∗ (moves m).plan.State c [] [] ∗ H)
      ⊢ wp frame (wpE (defs₀ (F := F)) Variants.none (c.tc : Thread nD τ) none) Set.univ (bodyAt0 t) fun _ => R := by
  have hall : ∀ q : DmaSem sig, q ∈ all := by decide
  unfold bodyAt0 cc0_scatter_chips k0_part17 k0_part1 k0_part2 k0_part3 k0_part4 k0_part5 k0_part6 k0_part7 k0_part8 k0_part9 k0_part10 k0_part11 k0_part12 k0_part13 k0_part14 k0_part15 k0_part16
  simp only [Prog.lift, Prog.bind_op, Prog.bind_ret, Prog.pure_eq_ret, wp_deviceId]
  refine (moves m).copy defs₀ _ K c s24 fullShare.right.left.left rfl rfl rfl rfl (by decide) (by decide) rfl rfl ?_
  refine (moves m).copy defs₀ _ K c s25 fullShare.right.left.left rfl rfl rfl rfl (by decide) (by decide) rfl rfl ?_
  refine (moves m).copy defs₀ _ K c s26 fullShare.right.left.left rfl rfl rfl rfl (by decide) (by decide) rfl rfl ?_
  refine (moves m).copy defs₀ _ K c s27 fullShare.right.left.left rfl rfl rfl rfl (by decide) (by decide) rfl rfl ?_
  refine (moves m).send defs₀ _ K c s0 s12 _ fullShare.right.left.right (dev1 c _) rfl rfl rfl rfl rfl rfl (by decide) (by decide) (by decide) rfl rfl rfl (route c _) ?_
  refine (moves m).send defs₀ _ K c s1 s13 _ fullShare.right.right.left (dev2 c _) rfl rfl rfl rfl rfl rfl (by decide) (by decide) (by decide) rfl rfl rfl (route c _) ?_
  refine (moves m).send defs₀ _ K c s2 s14 _ fullShare.right.right.right (dev3 c _) rfl rfl rfl rfl rfl rfl (by decide) (by decide) (by decide) rfl rfl rfl (route c _) ?_
  refine (moves m).send defs₀ _ K c s3 s15 _ fullShare.right.left.right (dev4 c _) rfl rfl rfl rfl rfl rfl (by decide) (by decide) (by decide) rfl rfl rfl (route c _) ?_
  refine (moves m).send defs₀ _ K c s4 s16 _ fullShare.right.right.left (dev5 c _) rfl rfl rfl rfl rfl rfl (by decide) (by decide) (by decide) rfl rfl rfl (route c _) ?_
  refine (moves m).send defs₀ _ K c s5 s17 _ fullShare.right.right.right (dev6 c _) rfl rfl rfl rfl rfl rfl (by decide) (by decide) (by decide) rfl rfl rfl (route c _) ?_
  refine (moves m).send defs₀ _ K c s6 s18 _ fullShare.right.left.right (dev7 c _) rfl rfl rfl rfl rfl rfl (by decide) (by decide) (by decide) rfl rfl rfl (route c _) ?_
  refine (moves m).send defs₀ _ K c s7 s19 _ fullShare.right.right.left (dev8 c _) rfl rfl rfl rfl rfl rfl (by decide) (by decide) (by decide) rfl rfl rfl (route c _) ?_
  refine (moves m).send defs₀ _ K c s8 s20 _ fullShare.right.right.right (dev9 c _) rfl rfl rfl rfl rfl rfl (by decide) (by decide) (by decide) rfl rfl rfl (route c _) ?_
  refine (moves m).send defs₀ _ K c s9 s21 _ fullShare.right.left.right (dev10 c _) rfl rfl rfl rfl rfl rfl (by decide) (by decide) (by decide) rfl rfl rfl (route c _) ?_
  refine (moves m).send defs₀ _ K c s10 s22 _ fullShare.right.right.left (dev11 c _) rfl rfl rfl rfl rfl rfl (by decide) (by decide) (by decide) rfl rfl rfl (route c _) ?_
  refine (moves m).send defs₀ _ K c s11 s23 _ fullShare.right.right.right (dev12 c _) rfl rfl rfl rfl rfl rfl (by decide) (by decide) (by decide) rfl rfl rfl (route c _) ?_
  refine (moves m).plan.wait_step' defs₀ _ K c s12 (.inr (hall _)) (by decide) (fun q _ h => absurd (hall q) h) rfl ?_
  refine (moves m).plan.wait_step' defs₀ _ K c s13 (.inr (hall _)) (by decide) (fun q _ h => absurd (hall q) h) rfl ?_
  refine (moves m).plan.wait_step' defs₀ _ K c s14 (.inr (hall _)) (by decide) (fun q _ h => absurd (hall q) h) rfl ?_
  refine (moves m).plan.wait_step' defs₀ _ K c s15 (.inr (hall _)) (by decide) (fun q _ h => absurd (hall q) h) rfl ?_
  refine (moves m).plan.wait_step' defs₀ _ K c s16 (.inr (hall _)) (by decide) (fun q _ h => absurd (hall q) h) rfl ?_
  refine (moves m).plan.wait_step' defs₀ _ K c s17 (.inr (hall _)) (by decide) (fun q _ h => absurd (hall q) h) rfl ?_
  refine (moves m).plan.wait_step' defs₀ _ K c s18 (.inr (hall _)) (by decide) (fun q _ h => absurd (hall q) h) rfl ?_
  refine (moves m).plan.wait_step' defs₀ _ K c s19 (.inr (hall _)) (by decide) (fun q _ h => absurd (hall q) h) rfl ?_
  refine (moves m).plan.wait_step' defs₀ _ K c s20 (.inr (hall _)) (by decide) (fun q _ h => absurd (hall q) h) rfl ?_
  refine (moves m).plan.wait_step' defs₀ _ K c s21 (.inr (hall _)) (by decide) (fun q _ h => absurd (hall q) h) rfl ?_
  refine (moves m).plan.wait_step' defs₀ _ K c s22 (.inr (hall _)) (by decide) (fun q _ h => absurd (hall q) h) rfl ?_
  refine (moves m).plan.wait_step' defs₀ _ K c s23 (.inr (hall _)) (by decide) (fun q _ h => absurd (hall q) h) rfl ?_
  refine (moves m).plan.wait_step' defs₀ _ K c s0 (.inr (hall _)) (by decide) (fun q _ h => absurd (hall q) h) rfl ?_
  refine (moves m).plan.wait_step' defs₀ _ K c s1 (.inr (hall _)) (by decide) (fun q _ h => absurd (hall q) h) rfl ?_
  refine (moves m).plan.wait_step' defs₀ _ K c s2 (.inr (hall _)) (by decide) (fun q _ h => absurd (hall q) h) rfl ?_
  refine (moves m).plan.wait_step' defs₀ _ K c s3 (.inr (hall _)) (by decide) (fun q _ h => absurd (hall q) h) rfl ?_
  refine (moves m).plan.wait_step' defs₀ _ K c s4 (.inr (hall _)) (by decide) (fun q _ h => absurd (hall q) h) rfl ?_
  refine (moves m).plan.wait_step' defs₀ _ K c s5 (.inr (hall _)) (by decide) (fun q _ h => absurd (hall q) h) rfl ?_
  refine (moves m).plan.wait_step' defs₀ _ K c s6 (.inr (hall _)) (by decide) (fun q _ h => absurd (hall q) h) rfl ?_
  refine (moves m).plan.wait_step' defs₀ _ K c s7 (.inr (hall _)) (by decide) (fun q _ h => absurd (hall q) h) rfl ?_
  refine (moves m).plan.wait_step' defs₀ _ K c s8 (.inr (hall _)) (by decide) (fun q _ h => absurd (hall q) h) rfl ?_
  refine (moves m).plan.wait_step' defs₀ _ K c s9 (.inr (hall _)) (by decide) (fun q _ h => absurd (hall q) h) rfl ?_
  refine (moves m).plan.wait_step' defs₀ _ K c s10 (.inr (hall _)) (by decide) (fun q _ h => absurd (hall q) h) rfl ?_
  refine (moves m).plan.wait_step' defs₀ _ K c s11 (.inr (hall _)) (by decide) (fun q _ h => absurd (hall q) h) rfl ?_
  refine (moves m).plan.wait_step' defs₀ _ K c s24 (.inr (hall _)) (by decide) (fun q _ h => absurd (hall q) h) rfl ?_
  refine (moves m).plan.wait_step' defs₀ _ K c s25 (.inr (hall _)) (by decide) (fun q _ h => absurd (hall q) h) rfl ?_
  refine (moves m).plan.wait_step' defs₀ _ K c s26 (.inr (hall _)) (by decide) (fun q _ h => absurd (hall q) h) rfl ?_
  refine (moves m).plan.wait_step' defs₀ _ K c s27 (.inr (hall _)) (by decide) (fun q _ h => absurd (hall q) h) rfl ?_
  rw [wp_ret]
  exact hR.trans fupd_intro

/-! ## Dealing the launch's memory -/

abbrev arrays : List (Ref sig .tc × Ref sig .tc × List (DmaSem sig)) :=
  [(main_arg0, main_v1_0, [s24, s12, s13, s14]), (main_arg1, main_v1_1, [s25, s15, s16, s17]), (main_arg2, main_v1_2, [s26, s18, s19, s20]), (main_arg3, main_v1_3, [s27, s21, s22, s23])]

abbrev args : List (Ref sig .tc) := [main_arg0, main_arg1, main_arg2, main_arg3]

abbrev rest : List (DmaSem sig) := [s0, s1, s2, s3, s4, s5, s6, s7, s8, s9, s10, s11]

abbrev cells : List (DmaSem sig) := [s24, s12, s13, s14, s25, s15, s16, s17, s26, s18, s19, s20, s27, s21, s22, s23, s0, s1, s2, s3, s4, s5, s6, s7, s8, s9, s10, s11]

/-- The devices that write a device's results. -/
abbrev writers (c : Dev nD) : List (Dev nD) := [c, flip1s.symm c, flip2s.symm c, flip3s.symm c]

theorem rows1 (c : Dev nD) : ((writers c).map fun b => (k0_off1 b 0, 1)).Pairwise fun a b : ℕ × ℕ => a.1 + a.2 ≤ b.1 ∨ b.1 + b.2 ≤ a.1 := by
  decide +revert

theorem rows2 (c : Dev nD) : ((writers c).map fun b => (k0_off2 b 0, 1)).Pairwise fun a b : ℕ × ℕ => a.1 + a.2 ≤ b.1 ∨ b.1 + b.2 ≤ a.1 := by
  decide +revert

theorem rows3 (c : Dev nD) : ((writers c).map fun b => (k0_off3 b 0, 1)).Pairwise fun a b : ℕ × ℕ => a.1 + a.2 ≤ b.1 ∨ b.1 + b.2 ≤ a.1 := by
  decide +revert

abbrev part0 (b : Dev nD) : Finset main_v1_0.ty.Idx := (slot0 b).view.set

theorem apart0 (c : Dev nD) : (((writers c).map fun b => (part0 b, k0_off1 b 0, 1)).map fun t => t.1).Pairwise Disjoint :=
  apart (X := main_v1_0.ty.Idx) (fun i => (i 0).val) _
    ⟨fun i hi => mem_slab hi 0, fun i hi => mem_slab hi 0, fun i hi => mem_slab hi 0, fun i hi => mem_slab hi 0⟩ (rows1 c)

theorem rooms0 (c : Dev nD) : (((c.tc : Thread nD τ).loc main_v1_0) ↦{fullShare} m ((c.tc : Thread nD τ).loc main_v1_0))
    ⊢ bigSepL [s24, s12, s13, s14] ((moves m).plan.dst c) :=
  (moves m).rooms_of c main_v1_0 [s24, s12, s13, s14] _ (apart0 c) rfl

abbrev part1 (b : Dev nD) : Finset main_v1_1.ty.Idx := (slot1 b).view.set

theorem apart1 (c : Dev nD) : (((writers c).map fun b => (part1 b, k0_off2 b 0, 1)).map fun t => t.1).Pairwise Disjoint :=
  apart (X := main_v1_1.ty.Idx) (fun i => (i 0).val) _
    ⟨fun i hi => mem_slab hi 0, fun i hi => mem_slab hi 0, fun i hi => mem_slab hi 0, fun i hi => mem_slab hi 0⟩ (rows2 c)

theorem rooms1 (c : Dev nD) : (((c.tc : Thread nD τ).loc main_v1_1) ↦{fullShare} m ((c.tc : Thread nD τ).loc main_v1_1))
    ⊢ bigSepL [s25, s15, s16, s17] ((moves m).plan.dst c) :=
  (moves m).rooms_of c main_v1_1 [s25, s15, s16, s17] _ (apart1 c) rfl

abbrev part2 (b : Dev nD) : Finset main_v1_2.ty.Idx := (slot2 b).view.set

theorem apart2 (c : Dev nD) : (((writers c).map fun b => (part2 b, k0_off3 b 0, 1)).map fun t => t.1).Pairwise Disjoint :=
  apart (X := main_v1_2.ty.Idx) (fun i => (i 0).val) _
    ⟨fun i hi => mem_slab hi 0, fun i hi => mem_slab hi 0, fun i hi => mem_slab hi 0, fun i hi => mem_slab hi 0⟩ (rows3 c)

theorem rooms2 (c : Dev nD) : (((c.tc : Thread nD τ).loc main_v1_2) ↦{fullShare} m ((c.tc : Thread nD τ).loc main_v1_2))
    ⊢ bigSepL [s26, s18, s19, s20] ((moves m).plan.dst c) :=
  (moves m).rooms_of c main_v1_2 [s26, s18, s19, s20] _ (apart2 c) rfl

abbrev part3 (b : Dev nD) : Finset main_v1_3.ty.Idx := (slot3 b).view.set

theorem apart3 (c : Dev nD) : (((writers c).map fun b => (part3 b, k0_off3 b 0, 1)).map fun t => t.1).Pairwise Disjoint :=
  apart (X := main_v1_3.ty.Idx) (fun i => (i 0).val) _
    ⟨fun i hi => mem_slab hi 0, fun i hi => mem_slab hi 0, fun i hi => mem_slab hi 0, fun i hi => mem_slab hi 0⟩ (rows3 c)

theorem rooms3 (c : Dev nD) : (((c.tc : Thread nD τ).loc main_v1_3) ↦{fullShare} m ((c.tc : Thread nD τ).loc main_v1_3))
    ⊢ bigSepL [s27, s21, s22, s23] ((moves m).plan.dst c) :=
  (moves m).rooms_of c main_v1_3 [s27, s21, s22, s23] _ (apart3 c) rfl

theorem deal (c : Dev nD) :
    (unscopedRest (cfg0.spec) c (fun b => m ((c.tc : Thread nD τ).loc b)) : sProp (MT nD τ sig Unit (Elt F) ℕ (UU nD τ sig) ℕ))
      ⊢ iprop(bigSep Finset.univ ((moves m).plan.src c) ∗ bigSep Finset.univ ((moves m).plan.dst c) ∗ (moves m).aside args c) := by
  rw [unscopedRest0_eq]
  exact (moves m).deal_all c arrays rest cells rfl (by decide) (by decide) (show ∀ q ∈ rest, decide (12 ≤ q.val) = false from by decide)
    ⟨Moves.quarters _ _, Moves.quarters _ _, Moves.quarters _ _, Moves.quarters _ _⟩ ⟨rooms0 m c, rooms1 m c, rooms2 m c, rooms3 m c⟩

/-! ## The run -/

theorem own : OwnSemFacts (cfg0.spec) (Plan.osem (sig := sig)) := by decide
theorem all_remote (q : DmaSem sig) (_ : (moves m).plan.remote q = true) : q ∈ all := by clear * -; revert q; decide
theorem all_waited : ∀ q : DmaSem sig, q ∈ waited := by decide

theorem run (g : Dev nD → PrngReg) :
    θ_run (defs (F := F)) (onTc (τ := τ) (main (F := F))) ⟨m, fun _ => 0, g⟩ fun r =>
      (∀ c, (moves m).After args c r.2.mem) ∧ r.2.sem = fun _ => 0 :=
  (moves m).plan.run (pcfgs (F := F)) (fun p => (cfgs p).toPCfg_adm) 0 ((moves m).aside args) cellOf_inj own winFacts0.to₀
    defs₀ Variants.none (fun _ => inferInstanceAs (IsEmpty (Fin 0))) (inferInstanceAs (IsEmpty (Fin 0))) N_0 scopedRest0_eq m g main (fun _ => rfl) all waited
    (all_remote m) all_waited (fun t c K H R hR => body m t c K H R hR) (deal m) (fun c s => (moves m).After args c s.mem)
    ((moves m).after args) fun s hY hz => ⟨hY, sem_eq_zero_of_scoped (by decide) hz⟩

end Cert.ScatterChipsIdeal

end
-- ==== Proof.ScatterValue.lean ====
/-
# The exchange of blocks between the chips: its claims

What the run leaves in each result, block by block, next to the exchange of the two leading axes that the reference makes
of the whole arrays.
-/
module

public import proofs.«01_k».proof.Defs
public import proofs.«01_k».proof.Proof.ScatterRun
public import proofs.«01_k».proof.Proof.Gen.ScatterChips
public import proofs.«01_k».proof.Proof.Gen.ScatterChipsRefIdeal.Run
public import Idealize.ShloMosaic.Lib.Pipeline.Value

@[expose] public section

noncomputable section

open Idealize.ShloMosaic
open Idealize.ShloMosaic.TcCoe
open Idealize.SL.Sem

namespace Cert.ScatterChipsIdeal

variable {F : FTy → Type} [FloatOps F]

/-- The reference's result at an index: the two leading axes exchanged. -/
theorem swapped {α : Type} (R W : Nat) (x : (⟨3, ![16, R, W]⟩ : Shape).Idx → α)
    (h1 : (⟨3, ![16, R, W]⟩ : Shape).ShapeCasts ⟨4, ![4, 4, R, W]⟩)
    (h2 : (⟨4, ![4, 4, R, W]⟩ : Shape).Transposes [1, 0, 2, 3] ⟨4, ![4, 4, R, W]⟩)
    (h3 : (⟨4, ![4, 4, R, W]⟩ : Shape).ShapeCasts ⟨3, ![16, R, W]⟩)
    (j k : (⟨3, ![16, R, W]⟩ : Shape).Idx) (hk0 : (k 0).val = (j 0).val % 4 * 4 + (j 0).val / 4) (hk1 : (k 1).val = (j 1).val) (hk2 : (k 2).val = (j 2).val) :
    shapeCast (⟨3, ![16, R, W]⟩ : Shape) (transpose (⟨4, ![4, 4, R, W]⟩ : Shape) [1, 0, 2, 3] (shapeCast (⟨4, ![4, 4, R, W]⟩ : Shape) x h1) h2) h3 j = x k := by
  have hj0 : (j 0).val < 16 := (j 0).isLt
  have hj1 : (j 1).val < R := (j 1).isLt
  have hj2 : (j 2).val < W := (j 2).isLt
  have b0 : (j 0).val / 4 < 4 := by omega
  have b1 : (j 0).val % 4 < 4 := by omega
  let j4 : (⟨4, ![4, 4, R, W]⟩ : Shape).Idx := fun a => match a with
    | ⟨0, _⟩ => ⟨(j 0).val / 4, b0⟩ | ⟨1, _⟩ => ⟨(j 0).val % 4, b1⟩ | ⟨2, _⟩ => ⟨(j 1).val, hj1⟩ | ⟨3, _⟩ => ⟨(j 2).val, hj2⟩
  let k4 : (⟨4, ![4, 4, R, W]⟩ : Shape).Idx := fun a => match a with
    | ⟨0, _⟩ => ⟨(j 0).val % 4, b1⟩ | ⟨1, _⟩ => ⟨(j 0).val / 4, b0⟩ | ⟨2, _⟩ => ⟨(j 1).val, hj1⟩ | ⟨3, _⟩ => ⟨(j 2).val, hj2⟩
  refine (shapeCast_apply _ h3 j j4 ?_).trans ?_
  · rw [Shape.rowMajor_val_four, Shape.rowMajor_val_three]
    show (((j 0).val / 4 * 4 + (j 0).val % 4) * R + (j 1).val) * W + (j 2).val = ((j 0).val * R + (j 1).val) * W + (j 2).val
    rw [show (j 0).val / 4 * 4 + (j 0).val % 4 = (j 0).val by omega]
  refine (transpose_apply _ _ h2 j4 k4 (fun b => ?_)).trans ?_
  · match b with | ⟨0, _⟩ => rfl | ⟨1, _⟩ => rfl | ⟨2, _⟩ => rfl | ⟨3, _⟩ => rfl
  refine shapeCast_apply _ h1 k4 k ?_
  rw [Shape.rowMajor_val_four, Shape.rowMajor_val_three]
  show ((k 0).val * R + (k 1).val) * W + (k 2).val = (((j 0).val % 4 * 4 + (j 0).val / 4) * R + (j 1).val) * W + (j 2).val
  rw [hk0, hk1, hk2]

/-- A block that came from device `b` is the block of the exchanged array. -/
theorem swapped_block {α : Type} (R H W : Nat) (x : (⟨3, ![16, R, W]⟩ : Shape).Idx → α)
    (h1 : (⟨3, ![16, R, W]⟩ : Shape).ShapeCasts ⟨4, ![4, 4, R, W]⟩)
    (h2 : (⟨4, ![4, 4, R, W]⟩ : Shape).Transposes [1, 0, 2, 3] ⟨4, ![4, 4, R, W]⟩)
    (h3 : (⟨4, ![4, 4, R, W]⟩ : Shape).ShapeCasts ⟨3, ![16, R, W]⟩)
    (hN : Layout.TilesN ⟨3, ![4, H, W]⟩ ⟨3, ![16, R, W]⟩ fun b => Layout.cutSize [2, 2, 2] ((![[0, 1], [2], []] : Fin 3 → List Nat) b))
    (b c : Fin 8) (i p : (⟨3, ![4, H, W]⟩ : Shape).Idx) (hb : b.val = 2 * (i 0).val + c.val % 2)
    (hp0 : (p 0).val = c.val / 2) (hp1 : (p 1).val = (i 1).val) (hp2 : (p 2).val = (i 2).val) :
    Layout.blockN ⟨3, ![4, H, W]⟩ ⟨3, ![16, R, W]⟩ (Layout.meshBlock [2, 2, 2] ![[0, 1], [2], []] b) x hN p =
    Layout.blockN ⟨3, ![4, H, W]⟩ ⟨3, ![16, R, W]⟩ (Layout.meshBlock [2, 2, 2] ![[0, 1], [2], []] c)
      (shapeCast (⟨3, ![16, R, W]⟩ : Shape) (transpose (⟨4, ![4, 4, R, W]⟩ : Shape) [1, 0, 2, 3] (shapeCast (⟨4, ![4, 4, R, W]⟩ : Shape) x h1) h2) h3) hN i := by
  rw [Layout.blockN_apply, Layout.blockN_apply]
  have hc := c.isLt
  have hi0 : (i 0).val < 4 := (i 0).isLt
  have e0 (d : Fin 8) (q : (⟨3, ![4, H, W]⟩ : Shape).Idx) : ((hN.idx (Layout.meshBlock [2, 2, 2] ![[0, 1], [2], []] d) q) 0).val = (d.val / 2) * 4 + (q 0).val := by
    refine (Layout.TilesN.idx_val hN _ q 0).trans ?_
    have hd := d.isLt
    show (d.val / 4 % 2 * 2 + (d.val / 2 % 2 * 1 + 0)) * 4 + (q 0).val = _
    omega
  have e1 (d : Fin 8) (q : (⟨3, ![4, H, W]⟩ : Shape).Idx) : ((hN.idx (Layout.meshBlock [2, 2, 2] ![[0, 1], [2], []] d) q) 1).val = (d.val % 2) * H + (q 1).val := by
    refine (Layout.TilesN.idx_val hN _ q 1).trans ?_
    show (d.val / 1 % 2 * 1 + 0) * H + (q 1).val = _
    rw [show d.val / 1 % 2 * 1 + 0 = d.val % 2 by omega]
  have e2 (d : Fin 8) (q : (⟨3, ![4, H, W]⟩ : Shape).Idx) : ((hN.idx (Layout.meshBlock [2, 2, 2] ![[0, 1], [2], []] d) q) 2).val = (q 2).val := by
    refine (Layout.TilesN.idx_val hN _ q 2).trans ?_
    show 0 * W + (q 2).val = _
    omega
  refine (swapped R W x h1 h2 h3 _ _ ?_ ?_ ?_).symm
  · rw [e0, e0, hp0]; omega
  · rw [e1, e1, hp1, show b.val % 2 = c.val % 2 by omega]
  · rw [e2, e2, hp2]

/-- The four devices a device's results come from, and the block each of them sends. -/
theorem writer (c b : Dev nD) (h : b.val % 2 = c.val % 2) : b = c ∨ b = flip1s.symm c ∨ b = flip2s.symm c ∨ b = flip3s.symm c := by decide +revert
theorem sent0 (c : Dev nD) : k0_off1 c = ![c.val / 2, 0, 0] ∧ k0_off4 (flip1s.symm c) = ![c.val / 2, 0, 0] ∧ k0_off5 (flip2s.symm c) = ![c.val / 2, 0, 0] ∧ k0_off6 (flip3s.symm c) = ![c.val / 2, 0, 0] := by
  decide +revert
theorem sent1 (c : Dev nD) : k0_off2 c = ![c.val / 2, 0, 0] ∧ k0_off7 (flip1s.symm c) = ![c.val / 2, 0, 0] ∧ k0_off8 (flip2s.symm c) = ![c.val / 2, 0, 0] ∧ k0_off9 (flip3s.symm c) = ![c.val / 2, 0, 0] := by
  decide +revert
theorem sent2 (c : Dev nD) : k0_off3 c = ![c.val / 2, 0, 0] ∧ k0_off10 (flip1s.symm c) = ![c.val / 2, 0, 0] ∧ k0_off11 (flip2s.symm c) = ![c.val / 2, 0, 0] ∧ k0_off12 (flip3s.symm c) = ![c.val / 2, 0, 0] := by
  decide +revert

theorem from0_emb (off : Fin 3 → ℕ) (inb : ∀ a, off a + S1x512x772.size a ≤ S4x512x772.size a) (n : ℕ) (ho : off = ![n, 0, 0]) (k : S512x772.Idx) (i : S4x512x772.Idx)
    (h0 : (i 0).val = n) (h1 : (i 1).val = (k 0).val) (h2 : (i 2).val = (k 1).val) : (from0 off inb).view.emb k = i := by
  let k' : S1x512x772.Idx := fun a => match a with | ⟨0, _⟩ => ⟨0, Nat.one_pos⟩ | ⟨1, _⟩ => ⟨(k 0).val, (k 0).isLt⟩ | ⟨2, _⟩ => ⟨(k 1).val, (k 1).isLt⟩
  refine (congrArg (Rect.unit (s := S4x512x772) off S1x512x772.size inb).emb (Shape.reshapeEquiv_eq_of_rowMajor _ (y := k') ?_)).trans ?_
  · refine (Shape.rowMajor_val_three _).trans (.trans ?_ (Shape.rowMajor_val_two _).symm)
    show (0 * 512 + (k 0).val) * 772 + (k 1).val = (k 0).val * 772 + (k 1).val
    omega
  · funext a
    apply Fin.ext
    match a with
    | ⟨0, _⟩ => show off 0 + 1 * 0 = (i 0).val; rw [ho, h0]; rfl
    | ⟨1, _⟩ => show off 1 + 1 * (k 0).val = (i 1).val; rw [ho, h1]; show 0 + 1 * (k 0).val = _; omega
    | ⟨2, _⟩ => show off 2 + 1 * (k 1).val = (i 2).val; rw [ho, h2]; show 0 + 1 * (k 1).val = _; omega

theorem slot0_emb (b : Dev nD) (n : ℕ) (ho : k0_off1 b = ![n, 0, 0]) (k : S512x772.Idx) (i : S4x512x772.Idx)
    (h0 : (i 0).val = n) (h1 : (i 1).val = (k 0).val) (h2 : (i 2).val = (k 1).val) : (slot0 b).view.emb k = i := by
  let k' : S1x512x772.Idx := fun a => match a with | ⟨0, _⟩ => ⟨0, Nat.one_pos⟩ | ⟨1, _⟩ => ⟨(k 0).val, (k 0).isLt⟩ | ⟨2, _⟩ => ⟨(k 1).val, (k 1).isLt⟩
  refine (congrArg (Rect.unit (s := S4x512x772) (k0_off1 b) S1x512x772.size (Facts₀.k0_off1_inb b)).emb (Shape.reshapeEquiv_eq_of_rowMajor _ (y := k') ?_)).trans ?_
  · refine (Shape.rowMajor_val_three _).trans (.trans ?_ (Shape.rowMajor_val_two _).symm)
    show (0 * 512 + (k 0).val) * 772 + (k 1).val = (k 0).val * 772 + (k 1).val
    omega
  · funext a
    apply Fin.ext
    match a with
    | ⟨0, _⟩ => show (k0_off1 b) 0 + 1 * 0 = (i 0).val; rw [ho, h0]; rfl
    | ⟨1, _⟩ => show (k0_off1 b) 1 + 1 * (k 0).val = (i 1).val; rw [ho, h1]; show 0 + 1 * (k 0).val = _; omega
    | ⟨2, _⟩ => show (k0_off1 b) 2 + 1 * (k 1).val = (i 2).val; rw [ho, h2]; show 0 + 1 * (k 1).val = _; omega

/-- What result 0 holds in the end: at each block, what the device of that number has for this one. -/
theorem result0 (m : (ℓ : Loc nD τ sig) → Buf (Elt F) ℓ) (c : Dev nD) (mem : (ℓ : Loc nD τ sig) → Buf (Elt F) ℓ) (h : (moves m).After args c mem)
    (b : Dev nD) (i p : S4x512x772.Idx) (hb : b.val = 2 * (i 0).val + c.val % 2) (h0 : (p 0).val = c.val / 2) (h1 : (p 1).val = (i 1).val) (h2 : (p 2).val = (i 2).val) :
    mem ((c.tc : Thread nD τ).loc main_v1_0) i = m ((b.tc : Thread nD τ).loc main_arg0) p := by
  let k : S512x772.Idx := fun a => match a with | ⟨0, _⟩ => ⟨(i 1).val, (i 1).isLt⟩ | ⟨1, _⟩ => ⟨(i 2).val, (i 2).isLt⟩
  have hi0 : (i 0).val < 4 := (i 0).isLt
  have ho : k0_off1 b = ![(i 0).val, 0, 0] := by
    rw [Gen.k0_off1_eq, show 2 * (b.val / 4) + b.val / 2 % 2 = (i 0).val by omega]
  have el := (congrArg (mem ((c.tc : Thread nD τ).loc main_v1_0)) (slot0_emb b _ ho k i rfl rfl rfl)).symm
  rcases writer c b (by omega) with rfl | rfl | rfl | rfl
  · exact el.trans ((congrFun (h.1 s24 rfl) k).trans (congrArg (m (((b).tc : Thread nD τ).loc main_arg0)) (from0_emb (k0_off1 b) (Facts₀.k0_off1_inb b) _ (sent0 b).1 k p h0 h1 h2)))
  · exact el.trans ((congrFun (h.1 s12 rfl) k).trans (congrArg (m ((((flip1s.symm c)).tc : Thread nD τ).loc main_arg0)) (from0_emb (k0_off4 (flip1s.symm c)) (Facts₀.k0_off4_inb (flip1s.symm c)) _ (sent0 c).2.1 k p h0 h1 h2)))
  · exact el.trans ((congrFun (h.1 s13 rfl) k).trans (congrArg (m ((((flip2s.symm c)).tc : Thread nD τ).loc main_arg0)) (from0_emb (k0_off5 (flip2s.symm c)) (Facts₀.k0_off5_inb (flip2s.symm c)) _ (sent0 c).2.2.1 k p h0 h1 h2)))
  · exact el.trans ((congrFun (h.1 s14 rfl) k).trans (congrArg (m ((((flip3s.symm c)).tc : Thread nD τ).loc main_arg0)) (from0_emb (k0_off6 (flip3s.symm c)) (Facts₀.k0_off6_inb (flip3s.symm c)) _ (sent0 c).2.2.2 k p h0 h1 h2)))

theorem from1_emb (off : Fin 3 → ℕ) (inb : ∀ a, off a + S1x128x1024.size a ≤ S4x128x1024.size a) (n : ℕ) (ho : off = ![n, 0, 0]) (k : S128x1024.Idx) (i : S4x128x1024.Idx)
    (h0 : (i 0).val = n) (h1 : (i 1).val = (k 0).val) (h2 : (i 2).val = (k 1).val) : (from1 off inb).view.emb k = i := by
  let k' : S1x128x1024.Idx := fun a => match a with | ⟨0, _⟩ => ⟨0, Nat.one_pos⟩ | ⟨1, _⟩ => ⟨(k 0).val, (k 0).isLt⟩ | ⟨2, _⟩ => ⟨(k 1).val, (k 1).isLt⟩
  refine (congrArg (Rect.unit (s := S4x128x1024) off S1x128x1024.size inb).emb (Shape.reshapeEquiv_eq_of_rowMajor _ (y := k') ?_)).trans ?_
  · refine (Shape.rowMajor_val_three _).trans (.trans ?_ (Shape.rowMajor_val_two _).symm)
    show (0 * 128 + (k 0).val) * 1024 + (k 1).val = (k 0).val * 1024 + (k 1).val
    omega
  · funext a
    apply Fin.ext
    match a with
    | ⟨0, _⟩ => show off 0 + 1 * 0 = (i 0).val; rw [ho, h0]; rfl
    | ⟨1, _⟩ => show off 1 + 1 * (k 0).val = (i 1).val; rw [ho, h1]; show 0 + 1 * (k 0).val = _; omega
    | ⟨2, _⟩ => show off 2 + 1 * (k 1).val = (i 2).val; rw [ho, h2]; show 0 + 1 * (k 1).val = _; omega

theorem slot1_emb (b : Dev nD) (n : ℕ) (ho : k0_off2 b = ![n, 0, 0]) (k : S128x1024.Idx) (i : S4x128x1024.Idx)
    (h0 : (i 0).val = n) (h1 : (i 1).val = (k 0).val) (h2 : (i 2).val = (k 1).val) : (slot1 b).view.emb k = i := by
  let k' : S1x128x1024.Idx := fun a => match a with | ⟨0, _⟩ => ⟨0, Nat.one_pos⟩ | ⟨1, _⟩ => ⟨(k 0).val, (k 0).isLt⟩ | ⟨2, _⟩ => ⟨(k 1).val, (k 1).isLt⟩
  refine (congrArg (Rect.unit (s := S4x128x1024) (k0_off2 b) S1x128x1024.size (Facts₀.k0_off2_inb b)).emb (Shape.reshapeEquiv_eq_of_rowMajor _ (y := k') ?_)).trans ?_
  · refine (Shape.rowMajor_val_three _).trans (.trans ?_ (Shape.rowMajor_val_two _).symm)
    show (0 * 128 + (k 0).val) * 1024 + (k 1).val = (k 0).val * 1024 + (k 1).val
    omega
  · funext a
    apply Fin.ext
    match a with
    | ⟨0, _⟩ => show (k0_off2 b) 0 + 1 * 0 = (i 0).val; rw [ho, h0]; rfl
    | ⟨1, _⟩ => show (k0_off2 b) 1 + 1 * (k 0).val = (i 1).val; rw [ho, h1]; show 0 + 1 * (k 0).val = _; omega
    | ⟨2, _⟩ => show (k0_off2 b) 2 + 1 * (k 1).val = (i 2).val; rw [ho, h2]; show 0 + 1 * (k 1).val = _; omega

/-- What result 1 holds in the end: at each block, what the device of that number has for this one. -/
theorem result1 (m : (ℓ : Loc nD τ sig) → Buf (Elt F) ℓ) (c : Dev nD) (mem : (ℓ : Loc nD τ sig) → Buf (Elt F) ℓ) (h : (moves m).After args c mem)
    (b : Dev nD) (i p : S4x128x1024.Idx) (hb : b.val = 2 * (i 0).val + c.val % 2) (h0 : (p 0).val = c.val / 2) (h1 : (p 1).val = (i 1).val) (h2 : (p 2).val = (i 2).val) :
    mem ((c.tc : Thread nD τ).loc main_v1_1) i = m ((b.tc : Thread nD τ).loc main_arg1) p := by
  let k : S128x1024.Idx := fun a => match a with | ⟨0, _⟩ => ⟨(i 1).val, (i 1).isLt⟩ | ⟨1, _⟩ => ⟨(i 2).val, (i 2).isLt⟩
  have hi0 : (i 0).val < 4 := (i 0).isLt
  have ho : k0_off2 b = ![(i 0).val, 0, 0] := by
    rw [Gen.k0_off2_eq, show 2 * (b.val / 4) + b.val / 2 % 2 = (i 0).val by omega]
  have el := (congrArg (mem ((c.tc : Thread nD τ).loc main_v1_1)) (slot1_emb b _ ho k i rfl rfl rfl)).symm
  rcases writer c b (by omega) with rfl | rfl | rfl | rfl
  · exact el.trans ((congrFun (h.1 s25 rfl) k).trans (congrArg (m (((b).tc : Thread nD τ).loc main_arg1)) (from1_emb (k0_off2 b) (Facts₀.k0_off2_inb b) _ (sent1 b).1 k p h0 h1 h2)))
  · exact el.trans ((congrFun (h.1 s15 rfl) k).trans (congrArg (m ((((flip1s.symm c)).tc : Thread nD τ).loc main_arg1)) (from1_emb (k0_off7 (flip1s.symm c)) (Facts₀.k0_off7_inb (flip1s.symm c)) _ (sent1 c).2.1 k p h0 h1 h2)))
  · exact el.trans ((congrFun (h.1 s16 rfl) k).trans (congrArg (m ((((flip2s.symm c)).tc : Thread nD τ).loc main_arg1)) (from1_emb (k0_off8 (flip2s.symm c)) (Facts₀.k0_off8_inb (flip2s.symm c)) _ (sent1 c).2.2.1 k p h0 h1 h2)))
  · exact el.trans ((congrFun (h.1 s17 rfl) k).trans (congrArg (m ((((flip3s.symm c)).tc : Thread nD τ).loc main_arg1)) (from1_emb (k0_off9 (flip3s.symm c)) (Facts₀.k0_off9_inb (flip3s.symm c)) _ (sent1 c).2.2.2 k p h0 h1 h2)))

theorem from2_emb (off : Fin 3 → ℕ) (inb : ∀ a, off a + S1x512x1024.size a ≤ S4x512x1024.size a) (n : ℕ) (ho : off = ![n, 0, 0]) (k : S512x1024.Idx) (i : S4x512x1024.Idx)
    (h0 : (i 0).val = n) (h1 : (i 1).val = (k 0).val) (h2 : (i 2).val = (k 1).val) : (from2 off inb).view.emb k = i := by
  let k' : S1x512x1024.Idx := fun a => match a with | ⟨0, _⟩ => ⟨0, Nat.one_pos⟩ | ⟨1, _⟩ => ⟨(k 0).val, (k 0).isLt⟩ | ⟨2, _⟩ => ⟨(k 1).val, (k 1).isLt⟩
  refine (congrArg (Rect.unit (s := S4x512x1024) off S1x512x1024.size inb).emb (Shape.reshapeEquiv_eq_of_rowMajor _ (y := k') ?_)).trans ?_
  · refine (Shape.rowMajor_val_three _).trans (.trans ?_ (Shape.rowMajor_val_two _).symm)
    show (0 * 512 + (k 0).val) * 1024 + (k 1).val = (k 0).val * 1024 + (k 1).val
    omega
  · funext a
    apply Fin.ext
    match a with
    | ⟨0, _⟩ => show off 0 + 1 * 0 = (i 0).val; rw [ho, h0]; rfl
    | ⟨1, _⟩ => show off 1 + 1 * (k 0).val = (i 1).val; rw [ho, h1]; show 0 + 1 * (k 0).val = _; omega
    | ⟨2, _⟩ => show off 2 + 1 * (k 1).val = (i 2).val; rw [ho, h2]; show 0 + 1 * (k 1).val = _; omega

theorem slot2_emb (b : Dev nD) (n : ℕ) (ho : k0_off3 b = ![n, 0, 0]) (k : S512x1024.Idx) (i : S4x512x1024.Idx)
    (h0 : (i 0).val = n) (h1 : (i 1).val = (k 0).val) (h2 : (i 2).val = (k 1).val) : (slot2 b).view.emb k = i := by
  let k' : S1x512x1024.Idx := fun a => match a with | ⟨0, _⟩ => ⟨0, Nat.one_pos⟩ | ⟨1, _⟩ => ⟨(k 0).val, (k 0).isLt⟩ | ⟨2, _⟩ => ⟨(k 1).val, (k 1).isLt⟩
  refine (congrArg (Rect.unit (s := S4x512x1024) (k0_off3 b) S1x512x1024.size (Facts₀.k0_off3_inb b)).emb (Shape.reshapeEquiv_eq_of_rowMajor _ (y := k') ?_)).trans ?_
  · refine (Shape.rowMajor_val_three _).trans (.trans ?_ (Shape.rowMajor_val_two _).symm)
    show (0 * 512 + (k 0).val) * 1024 + (k 1).val = (k 0).val * 1024 + (k 1).val
    omega
  · funext a
    apply Fin.ext
    match a with
    | ⟨0, _⟩ => show (k0_off3 b) 0 + 1 * 0 = (i 0).val; rw [ho, h0]; rfl
    | ⟨1, _⟩ => show (k0_off3 b) 1 + 1 * (k 0).val = (i 1).val; rw [ho, h1]; show 0 + 1 * (k 0).val = _; omega
    | ⟨2, _⟩ => show (k0_off3 b) 2 + 1 * (k 1).val = (i 2).val; rw [ho, h2]; show 0 + 1 * (k 1).val = _; omega

/-- What result 2 holds in the end: at each block, what the device of that number has for this one. -/
theorem result2 (m : (ℓ : Loc nD τ sig) → Buf (Elt F) ℓ) (c : Dev nD) (mem : (ℓ : Loc nD τ sig) → Buf (Elt F) ℓ) (h : (moves m).After args c mem)
    (b : Dev nD) (i p : S4x512x1024.Idx) (hb : b.val = 2 * (i 0).val + c.val % 2) (h0 : (p 0).val = c.val / 2) (h1 : (p 1).val = (i 1).val) (h2 : (p 2).val = (i 2).val) :
    mem ((c.tc : Thread nD τ).loc main_v1_2) i = m ((b.tc : Thread nD τ).loc main_arg2) p := by
  let k : S512x1024.Idx := fun a => match a with | ⟨0, _⟩ => ⟨(i 1).val, (i 1).isLt⟩ | ⟨1, _⟩ => ⟨(i 2).val, (i 2).isLt⟩
  have hi0 : (i 0).val < 4 := (i 0).isLt
  have ho : k0_off3 b = ![(i 0).val, 0, 0] := by
    rw [Gen.k0_off3_eq, show 2 * (b.val / 4) + b.val / 2 % 2 = (i 0).val by omega]
  have el := (congrArg (mem ((c.tc : Thread nD τ).loc main_v1_2)) (slot2_emb b _ ho k i rfl rfl rfl)).symm
  rcases writer c b (by omega) with rfl | rfl | rfl | rfl
  · exact el.trans ((congrFun (h.1 s26 rfl) k).trans (congrArg (m (((b).tc : Thread nD τ).loc main_arg2)) (from2_emb (k0_off3 b) (Facts₀.k0_off3_inb b) _ (sent2 b).1 k p h0 h1 h2)))
  · exact el.trans ((congrFun (h.1 s18 rfl) k).trans (congrArg (m ((((flip1s.symm c)).tc : Thread nD τ).loc main_arg2)) (from2_emb (k0_off10 (flip1s.symm c)) (Facts₀.k0_off10_inb (flip1s.symm c)) _ (sent2 c).2.1 k p h0 h1 h2)))
  · exact el.trans ((congrFun (h.1 s19 rfl) k).trans (congrArg (m ((((flip2s.symm c)).tc : Thread nD τ).loc main_arg2)) (from2_emb (k0_off11 (flip2s.symm c)) (Facts₀.k0_off11_inb (flip2s.symm c)) _ (sent2 c).2.2.1 k p h0 h1 h2)))
  · exact el.trans ((congrFun (h.1 s20 rfl) k).trans (congrArg (m ((((flip3s.symm c)).tc : Thread nD τ).loc main_arg2)) (from2_emb (k0_off12 (flip3s.symm c)) (Facts₀.k0_off12_inb (flip3s.symm c)) _ (sent2 c).2.2.2 k p h0 h1 h2)))

theorem from3_emb (off : Fin 3 → ℕ) (inb : ∀ a, off a + S1x512x1024.size a ≤ S4x512x1024.size a) (n : ℕ) (ho : off = ![n, 0, 0]) (k : S512x1024.Idx) (i : S4x512x1024.Idx)
    (h0 : (i 0).val = n) (h1 : (i 1).val = (k 0).val) (h2 : (i 2).val = (k 1).val) : (from3 off inb).view.emb k = i := by
  let k' : S1x512x1024.Idx := fun a => match a with | ⟨0, _⟩ => ⟨0, Nat.one_pos⟩ | ⟨1, _⟩ => ⟨(k 0).val, (k 0).isLt⟩ | ⟨2, _⟩ => ⟨(k 1).val, (k 1).isLt⟩
  refine (congrArg (Rect.unit (s := S4x512x1024) off S1x512x1024.size inb).emb (Shape.reshapeEquiv_eq_of_rowMajor _ (y := k') ?_)).trans ?_
  · refine (Shape.rowMajor_val_three _).trans (.trans ?_ (Shape.rowMajor_val_two _).symm)
    show (0 * 512 + (k 0).val) * 1024 + (k 1).val = (k 0).val * 1024 + (k 1).val
    omega
  · funext a
    apply Fin.ext
    match a with
    | ⟨0, _⟩ => show off 0 + 1 * 0 = (i 0).val; rw [ho, h0]; rfl
    | ⟨1, _⟩ => show off 1 + 1 * (k 0).val = (i 1).val; rw [ho, h1]; show 0 + 1 * (k 0).val = _; omega
    | ⟨2, _⟩ => show off 2 + 1 * (k 1).val = (i 2).val; rw [ho, h2]; show 0 + 1 * (k 1).val = _; omega

theorem slot3_emb (b : Dev nD) (n : ℕ) (ho : k0_off3 b = ![n, 0, 0]) (k : S512x1024.Idx) (i : S4x512x1024.Idx)
    (h0 : (i 0).val = n) (h1 : (i 1).val = (k 0).val) (h2 : (i 2).val = (k 1).val) : (slot3 b).view.emb k = i := by
  let k' : S1x512x1024.Idx := fun a => match a with | ⟨0, _⟩ => ⟨0, Nat.one_pos⟩ | ⟨1, _⟩ => ⟨(k 0).val, (k 0).isLt⟩ | ⟨2, _⟩ => ⟨(k 1).val, (k 1).isLt⟩
  refine (congrArg (Rect.unit (s := S4x512x1024) (k0_off3 b) S1x512x1024.size (Facts₀.k0_off3_inb b)).emb (Shape.reshapeEquiv_eq_of_rowMajor _ (y := k') ?_)).trans ?_
  · refine (Shape.rowMajor_val_three _).trans (.trans ?_ (Shape.rowMajor_val_two _).symm)
    show (0 * 512 + (k 0).val) * 1024 + (k 1).val = (k 0).val * 1024 + (k 1).val
    omega
  · funext a
    apply Fin.ext
    match a with
    | ⟨0, _⟩ => show (k0_off3 b) 0 + 1 * 0 = (i 0).val; rw [ho, h0]; rfl
    | ⟨1, _⟩ => show (k0_off3 b) 1 + 1 * (k 0).val = (i 1).val; rw [ho, h1]; show 0 + 1 * (k 0).val = _; omega
    | ⟨2, _⟩ => show (k0_off3 b) 2 + 1 * (k 1).val = (i 2).val; rw [ho, h2]; show 0 + 1 * (k 1).val = _; omega

/-- What result 3 holds in the end: at each block, what the device of that number has for this one. -/
theorem result3 (m : (ℓ : Loc nD τ sig) → Buf (Elt F) ℓ) (c : Dev nD) (mem : (ℓ : Loc nD τ sig) → Buf (Elt F) ℓ) (h : (moves m).After args c mem)
    (b : Dev nD) (i p : S4x512x1024.Idx) (hb : b.val = 2 * (i 0).val + c.val % 2) (h0 : (p 0).val = c.val / 2) (h1 : (p 1).val = (i 1).val) (h2 : (p 2).val = (i 2).val) :
    mem ((c.tc : Thread nD τ).loc main_v1_3) i = m ((b.tc : Thread nD τ).loc main_arg3) p := by
  let k : S512x1024.Idx := fun a => match a with | ⟨0, _⟩ => ⟨(i 1).val, (i 1).isLt⟩ | ⟨1, _⟩ => ⟨(i 2).val, (i 2).isLt⟩
  have hi0 : (i 0).val < 4 := (i 0).isLt
  have ho : k0_off3 b = ![(i 0).val, 0, 0] := by
    rw [Gen.k0_off3_eq, show 2 * (b.val / 4) + b.val / 2 % 2 = (i 0).val by omega]
  have el := (congrArg (mem ((c.tc : Thread nD τ).loc main_v1_3)) (slot3_emb b _ ho k i rfl rfl rfl)).symm
  rcases writer c b (by omega) with rfl | rfl | rfl | rfl
  · exact el.trans ((congrFun (h.1 s27 rfl) k).trans (congrArg (m (((b).tc : Thread nD τ).loc main_arg3)) (from3_emb (k0_off3 b) (Facts₀.k0_off3_inb b) _ (sent2 b).1 k p h0 h1 h2)))
  · exact el.trans ((congrFun (h.1 s21 rfl) k).trans (congrArg (m ((((flip1s.symm c)).tc : Thread nD τ).loc main_arg3)) (from3_emb (k0_off10 (flip1s.symm c)) (Facts₀.k0_off10_inb (flip1s.symm c)) _ (sent2 c).2.1 k p h0 h1 h2)))
  · exact el.trans ((congrFun (h.1 s22 rfl) k).trans (congrArg (m ((((flip2s.symm c)).tc : Thread nD τ).loc main_arg3)) (from3_emb (k0_off11 (flip2s.symm c)) (Facts₀.k0_off11_inb (flip2s.symm c)) _ (sent2 c).2.2.1 k p h0 h1 h2)))
  · exact el.trans ((congrFun (h.1 s23 rfl) k).trans (congrArg (m ((((flip3s.symm c)).tc : Thread nD τ).loc main_arg3)) (from3_emb (k0_off12 (flip3s.symm c)) (Facts₀.k0_off12_inb (flip3s.symm c)) _ (sent2 c).2.2.2 k p h0 h1 h2)))

end Cert.ScatterChipsIdeal

namespace Cert

open Cert.ScatterChipsIdeal

theorem quiescent_scatterIdeal (F : FTy → Type) [FloatOps F] (m : (ℓ : Loc nD τ sig) → Buf (Elt F) ℓ) (g : Dev nD → PrngReg) :
    θ_run (defs (F := F)) (onTc (τ := τ) (main (F := F))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run _ _ _).mono (fun r h => ⟨fun c => ⟨(h.1 c).2 _ (by decide), (h.1 c).2 _ (by decide), (h.1 c).2 _ (by decide), (h.1 c).2 _ (by decide)⟩, h.2⟩)
    (ScatterChipsIdeal.run m g)

theorem scatter_P : @quiescent_ScatterChips ScatterChips.Gen.facts := fun m g _ => quiescent_scatterIdeal Bits m g
theorem scatter_PI : @quiescent_ScatterChipsIdeal ScatterChipsIdeal.Gen.facts := fun m g _ => quiescent_scatterIdeal Ideal m g
theorem scatter_RI : @quiescent_ScatterChipsRefIdeal ScatterChipsRefIdeal.Gen.facts := fun m g _ =>
  (θ_run _ _ _).mono (fun r h => ⟨fun c => (h c).2.2.2.2, sem_eq_zero_of_no_sems rfl r.2⟩) (ScatterChipsRefIdeal.Value.run m g)

theorem scatter_algebraic : @algebraic_ScatterChipsIdeal_ScatterChipsRefIdeal ScatterChipsIdeal.Gen.facts ScatterChipsRefIdeal.Gen.facts := by
  intro m g m' g' _ hin
  refine ⟨_, _, _, _, (θ_run _ _ _).mono (fun r h c => ?_) (ScatterChipsIdeal.run m g),
    (θ_run _ _ _).mono (fun r h => h 0) (ScatterChipsRefIdeal.Value.run m' g')⟩
  have hc := h.1 c
  have h8 : c.val < 8 := c.isLt
  refine ⟨?_, ?_, ?_, ?_, hc.2 _ (by decide), hc.2 _ (by decide), hc.2 _ (by decide), hc.2 _ (by decide)⟩
  · funext (i : S4x512x772.Idx)
    have b0 : (i 0).val < 4 := (i 0).isLt
    let b : Dev nD := ⟨2 * (i 0).val + c.val % 2, by show _ < 8; omega⟩
    let p : S4x512x772.Idx := fun a => match a with | ⟨0, _⟩ => ⟨c.val / 2, by show _ < 4; omega⟩ | ⟨1, _⟩ => ⟨(i 1).val, (i 1).isLt⟩ | ⟨2, _⟩ => ⟨(i 2).val, (i 2).isLt⟩
    refine (result0 m c r.2.mem hc b i p rfl rfl rfl rfl).trans ?_
    rw [(hin b).1]
    exact swapped_block 1024 512 772 _ _ _ _ _ b c i p rfl rfl rfl rfl
  · funext (i : S4x128x1024.Idx)
    have b0 : (i 0).val < 4 := (i 0).isLt
    let b : Dev nD := ⟨2 * (i 0).val + c.val % 2, by show _ < 8; omega⟩
    let p : S4x128x1024.Idx := fun a => match a with | ⟨0, _⟩ => ⟨c.val / 2, by show _ < 4; omega⟩ | ⟨1, _⟩ => ⟨(i 1).val, (i 1).isLt⟩ | ⟨2, _⟩ => ⟨(i 2).val, (i 2).isLt⟩
    refine (result1 m c r.2.mem hc b i p rfl rfl rfl rfl).trans ?_
    rw [(hin b).2.1]
    exact swapped_block 256 128 1024 _ _ _ _ _ b c i p rfl rfl rfl rfl
  · funext (i : S4x512x1024.Idx)
    have b0 : (i 0).val < 4 := (i 0).isLt
    let b : Dev nD := ⟨2 * (i 0).val + c.val % 2, by show _ < 8; omega⟩
    let p : S4x512x1024.Idx := fun a => match a with | ⟨0, _⟩ => ⟨c.val / 2, by show _ < 4; omega⟩ | ⟨1, _⟩ => ⟨(i 1).val, (i 1).isLt⟩ | ⟨2, _⟩ => ⟨(i 2).val, (i 2).isLt⟩
    refine (result2 m c r.2.mem hc b i p rfl rfl rfl rfl).trans ?_
    rw [(hin b).2.2.1]
    exact swapped_block 1024 512 1024 _ _ _ _ _ b c i p rfl rfl rfl rfl
  · funext (i : S4x512x1024.Idx)
    have b0 : (i 0).val < 4 := (i 0).isLt
    let b : Dev nD := ⟨2 * (i 0).val + c.val % 2, by show _ < 8; omega⟩
    let p : S4x512x1024.Idx := fun a => match a with | ⟨0, _⟩ => ⟨c.val / 2, by show _ < 4; omega⟩ | ⟨1, _⟩ => ⟨(i 1).val, (i 1).isLt⟩ | ⟨2, _⟩ => ⟨(i 2).val, (i 2).isLt⟩
    refine (result3 m c r.2.mem hc b i p rfl rfl rfl rfl).trans ?_
    rw [(hin b).2.2.2]
    exact swapped_block 1024 512 1024 _ _ _ _ _ b c i p rfl rfl rfl rfl

end Cert

end
-- ==== Proof.SmallRun.lean ====
/-
# The gathering of the small gradients: its run

Every device writes its slab into its slot of every device's result. Cells 0 to 6 are the departures, 7 to 13 the
landings, one for each way of differing from a device in the coordinates of the mesh, 14 the copy that stays.
-/
module

public import proofs.«01_k».proof.Proof.Deal
public import proofs.«01_k».proof.Proof.Gen.GatherSmallIdeal.Launch
public import proofs.«01_k».proof.Proof.Gen.GatherSmallIdeal.Points

@[expose] public section

noncomputable section

namespace Cert.GatherSmallIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.Exchange Cert.GatherSmallIdeal.Gen

variable {F : FTy → Type} [FloatOps F]

abbrev s0 : DmaSem sig := ⟨0, by decide⟩
abbrev s1 : DmaSem sig := ⟨1, by decide⟩
abbrev s2 : DmaSem sig := ⟨2, by decide⟩
abbrev s3 : DmaSem sig := ⟨3, by decide⟩
abbrev s4 : DmaSem sig := ⟨4, by decide⟩
abbrev s5 : DmaSem sig := ⟨5, by decide⟩
abbrev s6 : DmaSem sig := ⟨6, by decide⟩
abbrev s7 : DmaSem sig := ⟨7, by decide⟩
abbrev s8 : DmaSem sig := ⟨8, by decide⟩
abbrev s9 : DmaSem sig := ⟨9, by decide⟩
abbrev s10 : DmaSem sig := ⟨10, by decide⟩
abbrev s11 : DmaSem sig := ⟨11, by decide⟩
abbrev s12 : DmaSem sig := ⟨12, by decide⟩
abbrev s13 : DmaSem sig := ⟨13, by decide⟩
abbrev s14 : DmaSem sig := ⟨14, by decide⟩

/-- The device differing in the third coordinate. -/
def flip1 (c : Dev nD) : Dev nD := ⟨(4 * (c.val / 4) + 2 * ((c.val / 2) % 2) + 1) - (c.val % 2), by have : c.val < 8 := c.isLt; show _ < 8; omega⟩
def flip1s : Equiv.Perm (Dev nD) := ⟨flip1, flip1, by decide, by decide⟩

/-- The device differing in the second coordinate. -/
def flip2 (c : Dev nD) : Dev nD := ⟨(4 * (c.val / 4) + (c.val % 2) + 2) - 2 * ((c.val / 2) % 2), by have : c.val < 8 := c.isLt; show _ < 8; omega⟩
def flip2s : Equiv.Perm (Dev nD) := ⟨flip2, flip2, by decide, by decide⟩

/-- The device differing in the second and third coordinates. -/
def flip3 (c : Dev nD) : Dev nD := ⟨(4 * (c.val / 4) + 3) - (2 * ((c.val / 2) % 2) + (c.val % 2)), by have : c.val < 8 := c.isLt; show _ < 8; omega⟩
def flip3s : Equiv.Perm (Dev nD) := ⟨flip3, flip3, by decide, by decide⟩

/-- The device differing in the first coordinate. -/
def flip4 (c : Dev nD) : Dev nD := ⟨(2 * ((c.val / 2) % 2) + (c.val % 2) + 4) - 4 * (c.val / 4), by have : c.val < 8 := c.isLt; show _ < 8; omega⟩
def flip4s : Equiv.Perm (Dev nD) := ⟨flip4, flip4, by decide, by decide⟩

/-- The device differing in the first and third coordinates. -/
def flip5 (c : Dev nD) : Dev nD := ⟨(2 * ((c.val / 2) % 2) + 5) - (4 * (c.val / 4) + (c.val % 2)), by have : c.val < 8 := c.isLt; show _ < 8; omega⟩
def flip5s : Equiv.Perm (Dev nD) := ⟨flip5, flip5, by decide, by decide⟩

/-- The device differing in the first and second coordinates. -/
def flip6 (c : Dev nD) : Dev nD := ⟨((c.val % 2) + 6) - (4 * (c.val / 4) + 2 * ((c.val / 2) % 2)), by have : c.val < 8 := c.isLt; show _ < 8; omega⟩
def flip6s : Equiv.Perm (Dev nD) := ⟨flip6, flip6, by decide, by decide⟩

/-- The device differing in the three coordinates. -/
def flip7 (c : Dev nD) : Dev nD := ⟨7 - (4 * (c.val / 4) + 2 * ((c.val / 2) % 2) + (c.val % 2)), by have : c.val < 8 := c.isLt; show _ < 8; omega⟩
def flip7s : Equiv.Perm (Dev nD) := ⟨flip7, flip7, by decide, by decide⟩

/-- The device that a landing goes to. -/
def across (q : DmaSem sig) : Equiv.Perm (Dev nD) := match q.val with
  | 7 => flip1s
  | 8 => flip2s
  | 9 => flip3s
  | 10 => flip4s
  | 11 => flip5s
  | 12 => flip6s
  | 13 => flip7s
  | _ => Equiv.refl _

/-- Device `b`'s slot of the result. -/
abbrev slot (b : Dev nD) : Memref sig .tc .hbm S64x128 .f32 :=
  ((Memref.whole main_v1).slice (Rect.unit (s := S8x64x128) (k0_off1 b) S1x64x128.size (Facts₀.k0_off1_inb b)) (fun _ => rfl)).squeeze S64x128 Facts₀.squeezes_S1x64x128_S64x128

def share (q : DmaSem sig) : PosShare TreeShare := match q.val with
  | 7 => fullShare.right.left.left.right
  | 8 => fullShare.right.left.right.left
  | 9 => fullShare.right.left.right.right
  | 10 => fullShare.right.right.left.left
  | 11 => fullShare.right.right.left.right
  | 12 => fullShare.right.right.right.left
  | 13 => fullShare.right.right.right.right
  | _ => fullShare.right.left.left.left

def moves (m : (ℓ : Loc nD τ sig) → Buf (Elt F) ℓ) : Moves nD τ sig (Elt F) where
  xf _ := ⟨fun _ => Memref.whole main_arg0, fun c => slot c⟩
  real q := decide (7 ≤ q.val)
  remote q := decide (7 ≤ q.val ∧ q.val < 14)
  fwd _ := false
  share q := some (share q)
  peer q := across q
  amt _ := (slot 0).view.dmaCredit
  amt_pos _ := View.dmaCredit_pos _ (by decide)
  lev _ := 0
  val c _ := (Memref.whole main_arg0).view.read (Elt F) (m ((Memref.whole main_arg0).view.loc (c.tc : Thread nD τ)))
  mem := m

variable (m : (ℓ : Loc nD τ sig) → Buf (Elt F) ℓ)

theorem dev1 (c : Dev nD) (h : k0_dev1 c < nD) : (⟨k0_dev1 c, h⟩ : Dev nD) = flip1s c := Fin.ext (k0_dev1_eq c)
theorem dev2 (c : Dev nD) (h : k0_dev2 c < nD) : (⟨k0_dev2 c, h⟩ : Dev nD) = flip2s c := Fin.ext (k0_dev2_eq c)
theorem dev3 (c : Dev nD) (h : k0_dev3 c < nD) : (⟨k0_dev3 c, h⟩ : Dev nD) = flip3s c := Fin.ext (k0_dev3_eq c)
theorem dev4 (c : Dev nD) (h : k0_dev4 c < nD) : (⟨k0_dev4 c, h⟩ : Dev nD) = flip4s c := Fin.ext (k0_dev4_eq c)
theorem dev5 (c : Dev nD) (h : k0_dev5 c < nD) : (⟨k0_dev5 c, h⟩ : Dev nD) = flip5s c := Fin.ext (k0_dev5_eq c)
theorem dev6 (c : Dev nD) (h : k0_dev6 c < nD) : (⟨k0_dev6 c, h⟩ : Dev nD) = flip6s c := Fin.ext (k0_dev6_eq c)
theorem dev7 (c : Dev nD) (h : k0_dev7 c < nD) : (⟨k0_dev7 c, h⟩ : Dev nD) = flip7s c := Fin.ext (k0_dev7_eq c)

abbrev all : List (DmaSem sig) := [s6, s13, s5, s12, s4, s11, s3, s10, s2, s9, s1, s8, s0, s7, s14]
abbrev waited : List (DmaSem sig) := [s14, s6, s5, s4, s3, s2, s1, s0, s13, s12, s11, s10, s9, s8, s7]

theorem route (c n : Dev nD) : τ.routes (c.tc : Thread nD τ) (Dev.tc n : Thread nD τ) = true := by decide +revert

set_option maxHeartbeats 1000000 in
theorem body (t : Fin cfg0.N) (c : Dev nD) (K : Dev nD × DmaSem sig → ℕ) (H R : sProp (MT nD τ sig Unit (Elt F) ℕ (UU nD τ sig) ℕ))
    (hR : iprop((moves m).plan.Rec K ∗ (moves m).plan.State c all waited ∗ H) ⊢ R) :
    iprop((moves m).plan.Rec K ∗ (moves m).plan.State c [] [] ∗ H)
      ⊢ wp frame (wpE (defs₀ (F := F)) Variants.none (c.tc : Thread nD τ) none) Set.univ (bodyAt0 t) fun _ => R := by
  have hall : ∀ q : DmaSem sig, q ∈ all := by decide
  unfold bodyAt0 cc0_gather_small k0_part1 k0_part2 k0_part3 k0_part4 k0_part5 k0_part6 k0_part7 k0_part8
  simp only [Prog.lift, Prog.bind_op, Prog.bind_ret, Prog.pure_eq_ret, wp_deviceId]
  refine (moves m).copy defs₀ _ K c s14 fullShare.right.left.left.left rfl rfl rfl rfl (by decide) (by decide) rfl rfl ?_
  refine (moves m).send defs₀ _ K c s0 s7 _ fullShare.right.left.left.right (dev1 c _) rfl rfl rfl rfl rfl rfl (by decide) (by decide) (by decide) rfl rfl rfl (route c _) ?_
  refine (moves m).send defs₀ _ K c s1 s8 _ fullShare.right.left.right.left (dev2 c _) rfl rfl rfl rfl rfl rfl (by decide) (by decide) (by decide) rfl rfl rfl (route c _) ?_
  refine (moves m).send defs₀ _ K c s2 s9 _ fullShare.right.left.right.right (dev3 c _) rfl rfl rfl rfl rfl rfl (by decide) (by decide) (by decide) rfl rfl rfl (route c _) ?_
  refine (moves m).send defs₀ _ K c s3 s10 _ fullShare.right.right.left.left (dev4 c _) rfl rfl rfl rfl rfl rfl (by decide) (by decide) (by decide) rfl rfl rfl (route c _) ?_
  refine (moves m).send defs₀ _ K c s4 s11 _ fullShare.right.right.left.right (dev5 c _) rfl rfl rfl rfl rfl rfl (by decide) (by decide) (by decide) rfl rfl rfl (route c _) ?_
  refine (moves m).send defs₀ _ K c s5 s12 _ fullShare.right.right.right.left (dev6 c _) rfl rfl rfl rfl rfl rfl (by decide) (by decide) (by decide) rfl rfl rfl (route c _) ?_
  refine (moves m).send defs₀ _ K c s6 s13 _ fullShare.right.right.right.right (dev7 c _) rfl rfl rfl rfl rfl rfl (by decide) (by decide) (by decide) rfl rfl rfl (route c _) ?_
  refine (moves m).plan.wait_step' defs₀ _ K c s7 (.inr (hall _)) (by decide) (fun q _ h => absurd (hall q) h) rfl ?_
  refine (moves m).plan.wait_step' defs₀ _ K c s8 (.inr (hall _)) (by decide) (fun q _ h => absurd (hall q) h) rfl ?_
  refine (moves m).plan.wait_step' defs₀ _ K c s9 (.inr (hall _)) (by decide) (fun q _ h => absurd (hall q) h) rfl ?_
  refine (moves m).plan.wait_step' defs₀ _ K c s10 (.inr (hall _)) (by decide) (fun q _ h => absurd (hall q) h) rfl ?_
  refine (moves m).plan.wait_step' defs₀ _ K c s11 (.inr (hall _)) (by decide) (fun q _ h => absurd (hall q) h) rfl ?_
  refine (moves m).plan.wait_step' defs₀ _ K c s12 (.inr (hall _)) (by decide) (fun q _ h => absurd (hall q) h) rfl ?_
  refine (moves m).plan.wait_step' defs₀ _ K c s13 (.inr (hall _)) (by decide) (fun q _ h => absurd (hall q) h) rfl ?_
  refine (moves m).plan.wait_step' defs₀ _ K c s0 (.inr (hall _)) (by decide) (fun q _ h => absurd (hall q) h) rfl ?_
  refine (moves m).plan.wait_step' defs₀ _ K c s1 (.inr (hall _)) (by decide) (fun q _ h => absurd (hall q) h) rfl ?_
  refine (moves m).plan.wait_step' defs₀ _ K c s2 (.inr (hall _)) (by decide) (fun q _ h => absurd (hall q) h) rfl ?_
  refine (moves m).plan.wait_step' defs₀ _ K c s3 (.inr (hall _)) (by decide) (fun q _ h => absurd (hall q) h) rfl ?_
  refine (moves m).plan.wait_step' defs₀ _ K c s4 (.inr (hall _)) (by decide) (fun q _ h => absurd (hall q) h) rfl ?_
  refine (moves m).plan.wait_step' defs₀ _ K c s5 (.inr (hall _)) (by decide) (fun q _ h => absurd (hall q) h) rfl ?_
  refine (moves m).plan.wait_step' defs₀ _ K c s6 (.inr (hall _)) (by decide) (fun q _ h => absurd (hall q) h) rfl ?_
  refine (moves m).plan.wait_step' defs₀ _ K c s14 (.inr (hall _)) (by decide) (fun q _ h => absurd (hall q) h) rfl ?_
  rw [wp_ret]
  exact hR.trans fupd_intro

/-! ## Dealing the launch's memory -/

abbrev arrays : List (Ref sig .tc × Ref sig .tc × List (DmaSem sig)) := [(main_arg0, main_v1, [s14, s7, s8, s9, s10, s11, s12, s13])]

abbrev args : List (Ref sig .tc) := [main_arg0]

abbrev cells : List (DmaSem sig) := [s14, s7, s8, s9, s10, s11, s12, s13, s0, s1, s2, s3, s4, s5, s6]

abbrev part (b : Dev nD) : Finset main_v1.ty.Idx := (slot b).view.set

/-- The devices that write a device's result. -/
abbrev writers (c : Dev nD) : List (Dev nD) := [c, flip1s.symm c, flip2s.symm c, flip3s.symm c, flip4s.symm c, flip5s.symm c, flip6s.symm c, flip7s.symm c]

theorem rows (c : Dev nD) : ((writers c).map fun b => (k0_off1 b 0, 1)).Pairwise fun a b : ℕ × ℕ => a.1 + a.2 ≤ b.1 ∨ b.1 + b.2 ≤ a.1 := by
  decide +revert

theorem apart (c : Dev nD) : (((writers c).map fun b => (part b, k0_off1 b 0, 1)).map fun t => t.1).Pairwise Disjoint :=
  Exchange.apart (X := main_v1.ty.Idx) (fun i => (i 0).val) _
    ⟨fun i hi => mem_slab hi 0, fun i hi => mem_slab hi 0, fun i hi => mem_slab hi 0, fun i hi => mem_slab hi 0, fun i hi => mem_slab hi 0, fun i hi => mem_slab hi 0, fun i hi => mem_slab hi 0, fun i hi => mem_slab hi 0⟩ (rows c)

theorem rooms (c : Dev nD) : (((c.tc : Thread nD τ).loc main_v1) ↦{fullShare} m ((c.tc : Thread nD τ).loc main_v1))
    ⊢ bigSepL [s14, s7, s8, s9, s10, s11, s12, s13] ((moves m).plan.dst c) :=
  (moves m).rooms_of c main_v1 [s14, s7, s8, s9, s10, s11, s12, s13] _ (apart c) rfl

theorem deal (c : Dev nD) :
    (unscopedRest (cfg0.spec) c (fun b => m ((c.tc : Thread nD τ).loc b)) : sProp (MT nD τ sig Unit (Elt F) ℕ (UU nD τ sig) ℕ))
      ⊢ iprop(bigSep Finset.univ ((moves m).plan.src c) ∗ bigSep Finset.univ ((moves m).plan.dst c) ∗ (moves m).aside args c) := by
  rw [unscopedRest0_eq]
  exact (moves m).deal_all c arrays [s0, s1, s2, s3, s4, s5, s6] cells rfl (by decide) (by decide) (show ∀ q ∈ [s0, s1, s2, s3, s4, s5, s6], decide (7 ≤ q.val) = false from by decide)
    (eighths _ _) (rooms m c)

/-! ## The run -/

theorem own : OwnSemFacts (cfg0.spec) (Plan.osem (sig := sig)) := by decide
theorem all_remote (q : DmaSem sig) (_ : (moves m).plan.remote q = true) : q ∈ all := by clear * -; revert q; decide
theorem all_waited : ∀ q : DmaSem sig, q ∈ waited := by decide

theorem run (g : Dev nD → PrngReg) :
    θ_run (defs (F := F)) (onTc (τ := τ) (main (F := F))) ⟨m, fun _ => 0, g⟩ fun r =>
      (∀ c, (moves m).After args c r.2.mem) ∧ r.2.sem = fun _ => 0 :=
  (moves m).plan.run (pcfgs (F := F)) (fun p => (cfgs p).toPCfg_adm) 0 ((moves m).aside args) cellOf_inj own winFacts0.to₀
    defs₀ Variants.none (fun _ => inferInstanceAs (IsEmpty (Fin 0))) (inferInstanceAs (IsEmpty (Fin 0))) N_0 scopedRest0_eq m g main (fun _ => rfl) all waited
    (all_remote m) all_waited (fun t c K H R hR => body m t c K H R hR) (deal m) (fun c s => (moves m).After args c s.mem)
    ((moves m).after args) fun s hY hz => ⟨hY, sem_eq_zero_of_scoped (by decide) hz⟩

end Cert.GatherSmallIdeal

end
-- ==== Proof.SmallValue.lean ====
/-
# The gathering of the small gradients: its claims

Slot after slot, the result holds what the device of that number holds: the whole array, read as eight slabs.
-/
module

public import proofs.«01_k».proof.Defs
public import proofs.«01_k».proof.Proof.SmallRun
public import proofs.«01_k».proof.Proof.Gen.GatherSmall
public import proofs.«01_k».proof.Proof.Gen.GatherSmallRefIdeal.Run
public import Idealize.ShloMosaic.Lib.Pipeline.Value

@[expose] public section

noncomputable section

open Idealize.ShloMosaic
open Idealize.ShloMosaic.TcCoe
open Idealize.SL.Sem

namespace Cert.GatherSmallIdeal

variable {F : FTy → Type} [FloatOps F]

/-- Where an element of a slot lies in the result. -/
theorem slot_emb (b : Dev nD) (k : S64x128.Idx) (i : S8x64x128.Idx) (h0 : (i 0).val = b.val) (h1 : (i 1).val = (k 0).val) (h2 : (i 2).val = (k 1).val) :
    (slot b).view.emb k = i := by
  let k' : S1x64x128.Idx := fun a => match a with | ⟨0, _⟩ => ⟨0, Nat.one_pos⟩ | ⟨1, _⟩ => ⟨(k 0).val, (k 0).isLt⟩ | ⟨2, _⟩ => ⟨(k 1).val, (k 1).isLt⟩
  have hb : b.val < 8 := b.isLt
  refine (congrArg (Rect.unit (s := S8x64x128) (k0_off1 b) S1x64x128.size (Facts₀.k0_off1_inb b)).emb (Shape.reshapeEquiv_eq_of_rowMajor _ (y := k') ?_)).trans ?_
  · refine (Shape.rowMajor_val_three _).trans (.trans ?_ (Shape.rowMajor_val_two _).symm)
    show (0 * 64 + (k 0).val) * 128 + (k 1).val = (k 0).val * 128 + (k 1).val
    omega
  · funext a
    apply Fin.ext
    match a with
    | ⟨0, _⟩ =>
      show k0_off1 b 0 + 1 * 0 = (i 0).val
      rw [Gen.k0_off1_eq, h0]; show 4 * (b.val / 4) + 2 * ((b.val / 2) % 2) + (b.val % 2) + 1 * 0 = b.val; omega
    | ⟨1, _⟩ =>
      show k0_off1 b 1 + 1 * (k 0).val = (i 1).val
      rw [Gen.k0_off1_eq, h1]; show 0 + 1 * (k 0).val = _; omega
    | ⟨2, _⟩ =>
      show k0_off1 b 2 + 1 * (k 1).val = (i 2).val
      rw [Gen.k0_off1_eq, h2]; show 0 + 1 * (k 1).val = _; omega

/-- Every device writes every device's result. -/
theorem writer (c b : Dev nD) : ∃ q : DmaSem sig, decide (7 ≤ q.val) = true ∧ (across q).symm c = b := by decide +revert

/-- What the result holds in the end. -/
theorem result (m : (ℓ : Loc nD τ sig) → Buf (Elt F) ℓ) (c : Dev nD) (mem : (ℓ : Loc nD τ sig) → Buf (Elt F) ℓ) (h : (moves m).After args c mem)
    (b : Dev nD) (k : S64x128.Idx) (i : S8x64x128.Idx) (h0 : (i 0).val = b.val) (h1 : (i 1).val = (k 0).val) (h2 : (i 2).val = (k 1).val) :
    mem ((c.tc : Thread nD τ).loc main_v1) i = m ((b.tc : Thread nD τ).loc main_arg0) k := by
  obtain ⟨q, hq, hb⟩ := writer c b
  have e := congrFun (h.1 q hq) k
  have hp : (moves m).payer c q = b := hb
  rw [hp] at e
  exact (congrArg (mem ((c.tc : Thread nD τ).loc main_v1)) (slot_emb b k i h0 h1 h2).symm).trans e

end Cert.GatherSmallIdeal

namespace Cert

open Cert.GatherSmallIdeal

theorem quiescent_smallIdeal (F : FTy → Type) [FloatOps F] (m : (ℓ : Loc nD τ sig) → Buf (Elt F) ℓ) (g : Dev nD → PrngReg) :
    θ_run (defs (F := F)) (onTc (τ := τ) (main (F := F))) ⟨m, fun _ => 0, g⟩ fun r => (∀ c : Dev nD,
      r.2.mem ((c.tc : Thread nD τ).loc main_arg0) = m ((c.tc : Thread nD τ).loc main_arg0))
      ∧ r.2.sem = fun _ => 0 :=
  (θ_run _ _ _).mono (fun r h => ⟨fun c => (h.1 c).2 _ (by decide), h.2⟩)
    (GatherSmallIdeal.run m g)

theorem small_P : @quiescent_GatherSmall GatherSmall.Gen.facts := fun m g _ => quiescent_smallIdeal Bits m g
theorem small_PI : @quiescent_GatherSmallIdeal GatherSmallIdeal.Gen.facts := fun m g _ => quiescent_smallIdeal Ideal m g
theorem small_RI : @quiescent_GatherSmallRefIdeal GatherSmallRefIdeal.Gen.facts := fun m g _ =>
  (θ_run _ _ _).mono (fun r h => ⟨fun c => (h c).2, sem_eq_zero_of_no_sems rfl r.2⟩) (GatherSmallRefIdeal.Value.run m g)

theorem small_algebraic : @algebraic_GatherSmallIdeal_GatherSmallRefIdeal GatherSmallIdeal.Gen.facts GatherSmallRefIdeal.Gen.facts := by
  intro m g m' g' _ hin
  refine ⟨_, (θ_run _ _ _).mono (fun r h c => ?_) (GatherSmallIdeal.run m g),
    (θ_run _ _ _).mono (fun r h => h 0) (GatherSmallRefIdeal.Value.run m' g')⟩
  have hc := h.1 c
  refine ⟨?_, hc.2 _ (by decide)⟩
  funext (i : S8x64x128.Idx)
  have b0 : (i 0).val < 8 := (i 0).isLt
  have b1 : (i 1).val < 64 := (i 1).isLt
  have b2 : (i 2).val < 128 := (i 2).isLt
  let b : Dev nD := ⟨(i 0).val, b0⟩
  let k : S64x128.Idx := fun a => match a with | ⟨0, _⟩ => ⟨(i 1).val, b1⟩ | ⟨1, _⟩ => ⟨(i 2).val, b2⟩
  refine (result m c r.2.mem hc b k i rfl rfl rfl).trans ?_
  rw [hin b, Layout.block_apply]
  refine (shapeCast_apply _ _ i _ ?_).symm
  refine (Shape.rowMajor_val_two _).trans (.trans ?_ (Shape.rowMajor_val_three _).symm)
  rw [Layout.Tiles.idx_val _ b k 0, Layout.Tiles.idx_val _ b k 1]
  show ((i 0).val * 64 + (i 1).val) * 128 + (i 2).val = ((i 0).val * 64 + (i 1).val) * 128 + (i 2).val
  rfl

end Cert

end
-- ==== Proof.WeightsRun.lean ====
/-
# The gathering of the weights: its run

Every device copies its shard into its slot of its own result, and the half of the shard that its place among the
siblings gives it into the results of the three devices that differ from it in the first two coordinates of the mesh.
What arrives there is passed on to the sibling. Cell 6a+t is the departure of array a's copy t, 30+6a+t its landing,
where the copies 0, 1, 2 are the first ones and 3, 4, 5 those passed on; 60+a is the copy that stays.
-/
module

public import proofs.«01_k».proof.Proof.Deal
public import proofs.«01_k».proof.Proof.Gen.GatherWeightsIdeal.Launch
public import proofs.«01_k».proof.Proof.Gen.GatherWeightsIdeal.Points

@[expose] public section

noncomputable section

namespace Cert.GatherWeightsIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.Exchange Cert.GatherWeightsIdeal.Gen

variable {F : FTy → Type} [FloatOps F]

abbrev s0 : DmaSem sig := ⟨0, by decide⟩
abbrev s1 : DmaSem sig := ⟨1, by decide⟩
abbrev s2 : DmaSem sig := ⟨2, by decide⟩
abbrev s3 : DmaSem sig := ⟨3, by decide⟩
abbrev s4 : DmaSem sig := ⟨4, by decide⟩
abbrev s5 : DmaSem sig := ⟨5, by decide⟩
abbrev s6 : DmaSem sig := ⟨6, by decide⟩
abbrev s7 : DmaSem sig := ⟨7, by decide⟩
abbrev s8 : DmaSem sig := ⟨8, by decide⟩
abbrev s9 : DmaSem sig := ⟨9, by decide⟩
abbrev s10 : DmaSem sig := ⟨10, by decide⟩
abbrev s11 : DmaSem sig := ⟨11, by decide⟩
abbrev s12 : DmaSem sig := ⟨12, by decide⟩
abbrev s13 : DmaSem sig := ⟨13, by decide⟩
abbrev s14 : DmaSem sig := ⟨14, by decide⟩
abbrev s15 : DmaSem sig := ⟨15, by decide⟩
abbrev s16 : DmaSem sig := ⟨16, by decide⟩
abbrev s17 : DmaSem sig := ⟨17, by decide⟩
abbrev s18 : DmaSem sig := ⟨18, by decide⟩
abbrev s19 : DmaSem sig := ⟨19, by decide⟩
abbrev s20 : DmaSem sig := ⟨20, by decide⟩
abbrev s21 : DmaSem sig := ⟨21, by decide⟩
abbrev s22 : DmaSem sig := ⟨22, by decide⟩
abbrev s23 : DmaSem sig := ⟨23, by decide⟩
abbrev s24 : DmaSem sig := ⟨24, by decide⟩
abbrev s25 : DmaSem sig := ⟨25, by decide⟩
abbrev s26 : DmaSem sig := ⟨26, by decide⟩
abbrev s27 : DmaSem sig := ⟨27, by decide⟩
abbrev s28 : DmaSem sig := ⟨28, by decide⟩
abbrev s29 : DmaSem sig := ⟨29, by decide⟩
abbrev s30 : DmaSem sig := ⟨30, by decide⟩
abbrev s31 : DmaSem sig := ⟨31, by decide⟩
abbrev s32 : DmaSem sig := ⟨32, by decide⟩
abbrev s33 : DmaSem sig := ⟨33, by decide⟩
abbrev s34 : DmaSem sig := ⟨34, by decide⟩
abbrev s35 : DmaSem sig := ⟨35, by decide⟩
abbrev s36 : DmaSem sig := ⟨36, by decide⟩
abbrev s37 : DmaSem sig := ⟨37, by decide⟩
abbrev s38 : DmaSem sig := ⟨38, by decide⟩
abbrev s39 : DmaSem sig := ⟨39, by decide⟩
abbrev s40 : DmaSem sig := ⟨40, by decide⟩
abbrev s41 : DmaSem sig := ⟨41, by decide⟩
abbrev s42 : DmaSem sig := ⟨42, by decide⟩
abbrev s43 : DmaSem sig := ⟨43, by decide⟩
abbrev s44 : DmaSem sig := ⟨44, by decide⟩
abbrev s45 : DmaSem sig := ⟨45, by decide⟩
abbrev s46 : DmaSem sig := ⟨46, by decide⟩
abbrev s47 : DmaSem sig := ⟨47, by decide⟩
abbrev s48 : DmaSem sig := ⟨48, by decide⟩
abbrev s49 : DmaSem sig := ⟨49, by decide⟩
abbrev s50 : DmaSem sig := ⟨50, by decide⟩
abbrev s51 : DmaSem sig := ⟨51, by decide⟩
abbrev s52 : DmaSem sig := ⟨52, by decide⟩
abbrev s53 : DmaSem sig := ⟨53, by decide⟩
abbrev s54 : DmaSem sig := ⟨54, by decide⟩
abbrev s55 : DmaSem sig := ⟨55, by decide⟩
abbrev s56 : DmaSem sig := ⟨56, by decide⟩
abbrev s57 : DmaSem sig := ⟨57, by decide⟩
abbrev s58 : DmaSem sig := ⟨58, by decide⟩
abbrev s59 : DmaSem sig := ⟨59, by decide⟩
abbrev s60 : DmaSem sig := ⟨60, by decide⟩
abbrev s61 : DmaSem sig := ⟨61, by decide⟩
abbrev s62 : DmaSem sig := ⟨62, by decide⟩
abbrev s63 : DmaSem sig := ⟨63, by decide⟩
abbrev s64 : DmaSem sig := ⟨64, by decide⟩

/-- The device differing in the first coordinate. -/
def flip1 (c : Dev nD) : Dev nD := ⟨(2 * ((c.val / 2) % 2) + (c.val % 2) + 4) - 4 * (c.val / 4), by have : c.val < 8 := c.isLt; show _ < 8; omega⟩
def flip1s : Equiv.Perm (Dev nD) := ⟨flip1, flip1, by decide, by decide⟩

/-- The device differing in the second coordinate. -/
def flip2 (c : Dev nD) : Dev nD := ⟨(4 * (c.val / 4) + (c.val % 2) + 2) - 2 * ((c.val / 2) % 2), by have : c.val < 8 := c.isLt; show _ < 8; omega⟩
def flip2s : Equiv.Perm (Dev nD) := ⟨flip2, flip2, by decide, by decide⟩

/-- The device differing in the first and second coordinates. -/
def flip3 (c : Dev nD) : Dev nD := ⟨((c.val % 2) + 6) - (4 * (c.val / 4) + 2 * ((c.val / 2) % 2)), by have : c.val < 8 := c.isLt; show _ < 8; omega⟩
def flip3s : Equiv.Perm (Dev nD) := ⟨flip3, flip3, by decide, by decide⟩

/-- The device differing in the third coordinate. -/
def sib (c : Dev nD) : Dev nD := ⟨(4 * (c.val / 4) + 2 * ((c.val / 2) % 2) + 1) - (c.val % 2), by have : c.val < 8 := c.isLt; show _ < 8; omega⟩
def sibs : Equiv.Perm (Dev nD) := ⟨sib, sib, by decide, by decide⟩

/-- The device that a landing goes to. -/
def across (q : DmaSem sig) : Equiv.Perm (Dev nD) := match q.val with
  | 30 => flip1s
  | 31 => flip2s
  | 32 => flip3s
  | 33 => sibs
  | 34 => sibs
  | 35 => sibs
  | 36 => flip1s
  | 37 => flip2s
  | 38 => flip3s
  | 39 => sibs
  | 40 => sibs
  | 41 => sibs
  | 42 => flip1s
  | 43 => flip2s
  | 44 => flip3s
  | 45 => sibs
  | 46 => sibs
  | 47 => sibs
  | 48 => flip1s
  | 49 => flip2s
  | 50 => flip3s
  | 51 => sibs
  | 52 => sibs
  | 53 => sibs
  | 54 => flip1s
  | 55 => flip2s
  | 56 => flip3s
  | 57 => sibs
  | 58 => sibs
  | 59 => sibs
  | _ => Equiv.refl _

/-- The device whose argument a landing brings, where device `c` makes the copy. -/
def origin (q : DmaSem sig) (c : Dev nD) : Dev nD := match q.val with
  | 33 => flip1s.symm c
  | 34 => flip2s.symm c
  | 35 => flip3s.symm c
  | 39 => flip1s.symm c
  | 40 => flip2s.symm c
  | 41 => flip3s.symm c
  | 45 => flip1s.symm c
  | 46 => flip2s.symm c
  | 47 => flip3s.symm c
  | 51 => flip1s.symm c
  | 52 => flip2s.symm c
  | 53 => flip3s.symm c
  | 57 => flip1s.symm c
  | 58 => flip2s.symm c
  | 59 => flip3s.symm c
  | _ => c

/-- A half of argument 0, a half of a slot of result 0, and a slot of it. -/
abbrev piece0 (off : Fin 2 → ℕ) (inb : ∀ a, off a + S512x772.size a ≤ S1024x772.size a) : Memref sig .tc .hbm S512x772 .bf16 :=
  (Memref.whole main_arg0).slice (Rect.unit (s := S1024x772) off S512x772.size inb) (fun _ => rfl)
abbrev half0 (off : Fin 3 → ℕ) (inb : ∀ a, off a + S1x512x772.size a ≤ S4x1024x772.size a) : Memref sig .tc .hbm S512x772 .bf16 :=
  ((Memref.whole main_v1_0).slice (Rect.unit (s := S4x1024x772) off S1x512x772.size inb) (fun _ => rfl)).squeeze S512x772 Facts₀.squeezes_S1x512x772_S512x772
abbrev slot0 (off : Fin 3 → ℕ) (inb : ∀ a, off a + S1x1024x772.size a ≤ S4x1024x772.size a) : Memref sig .tc .hbm S1024x772 .bf16 :=
  ((Memref.whole main_v1_0).slice (Rect.unit (s := S4x1024x772) off S1x1024x772.size inb) (fun _ => rfl)).squeeze S1024x772 Facts₀.squeezes_S1x1024x772_S1024x772
theorem half0_eq {off off' : Fin 3 → ℕ} {inb inb'} (e : off = off') : half0 off inb = half0 off' inb' := by subst e; rfl

/-- A half of argument 1, a half of a slot of result 1, and a slot of it. -/
abbrev piece1 (off : Fin 2 → ℕ) (inb : ∀ a, off a + S128x1024.size a ≤ S256x1024.size a) : Memref sig .tc .hbm S128x1024 .bf16 :=
  (Memref.whole main_arg1).slice (Rect.unit (s := S256x1024) off S128x1024.size inb) (fun _ => rfl)
abbrev half1 (off : Fin 3 → ℕ) (inb : ∀ a, off a + S1x128x1024.size a ≤ S4x256x1024.size a) : Memref sig .tc .hbm S128x1024 .bf16 :=
  ((Memref.whole main_v1_1).slice (Rect.unit (s := S4x256x1024) off S1x128x1024.size inb) (fun _ => rfl)).squeeze S128x1024 Facts₀.squeezes_S1x128x1024_S128x1024
abbrev slot1 (off : Fin 3 → ℕ) (inb : ∀ a, off a + S1x256x1024.size a ≤ S4x256x1024.size a) : Memref sig .tc .hbm S256x1024 .bf16 :=
  ((Memref.whole main_v1_1).slice (Rect.unit (s := S4x256x1024) off S1x256x1024.size inb) (fun _ => rfl)).squeeze S256x1024 Facts₀.squeezes_S1x256x1024_S256x1024
theorem half1_eq {off off' : Fin 3 → ℕ} {inb inb'} (e : off = off') : half1 off inb = half1 off' inb' := by subst e; rfl

/-- A half of argument 2, a half of a slot of result 2, and a slot of it. -/
abbrev piece2 (off : Fin 2 → ℕ) (inb : ∀ a, off a + S512x1024.size a ≤ S1024x1024.size a) : Memref sig .tc .hbm S512x1024 .bf16 :=
  (Memref.whole main_arg2).slice (Rect.unit (s := S1024x1024) off S512x1024.size inb) (fun _ => rfl)
abbrev half2 (off : Fin 3 → ℕ) (inb : ∀ a, off a + S1x512x1024.size a ≤ S4x1024x1024.size a) : Memref sig .tc .hbm S512x1024 .bf16 :=
  ((Memref.whole main_v1_2).slice (Rect.unit (s := S4x1024x1024) off S1x512x1024.size inb) (fun _ => rfl)).squeeze S512x1024 Facts₀.squeezes_S1x512x1024_S512x1024
abbrev slot2 (off : Fin 3 → ℕ) (inb : ∀ a, off a + S1x1024x1024.size a ≤ S4x1024x1024.size a) : Memref sig .tc .hbm S1024x1024 .bf16 :=
  ((Memref.whole main_v1_2).slice (Rect.unit (s := S4x1024x1024) off S1x1024x1024.size inb) (fun _ => rfl)).squeeze S1024x1024 Facts₀.squeezes_S1x1024x1024_S1024x1024
theorem half2_eq {off off' : Fin 3 → ℕ} {inb inb'} (e : off = off') : half2 off inb = half2 off' inb' := by subst e; rfl

/-- A half of argument 3, a half of a slot of result 3, and a slot of it. -/
abbrev piece3 (off : Fin 2 → ℕ) (inb : ∀ a, off a + S512x1024.size a ≤ S1024x1024.size a) : Memref sig .tc .hbm S512x1024 .bf16 :=
  (Memref.whole main_arg3).slice (Rect.unit (s := S1024x1024) off S512x1024.size inb) (fun _ => rfl)
abbrev half3 (off : Fin 3 → ℕ) (inb : ∀ a, off a + S1x512x1024.size a ≤ S4x1024x1024.size a) : Memref sig .tc .hbm S512x1024 .bf16 :=
  ((Memref.whole main_v1_3).slice (Rect.unit (s := S4x1024x1024) off S1x512x1024.size inb) (fun _ => rfl)).squeeze S512x1024 Facts₀.squeezes_S1x512x1024_S512x1024
abbrev slot3 (off : Fin 3 → ℕ) (inb : ∀ a, off a + S1x1024x1024.size a ≤ S4x1024x1024.size a) : Memref sig .tc .hbm S1024x1024 .bf16 :=
  ((Memref.whole main_v1_3).slice (Rect.unit (s := S4x1024x1024) off S1x1024x1024.size inb) (fun _ => rfl)).squeeze S1024x1024 Facts₀.squeezes_S1x1024x1024_S1024x1024
theorem half3_eq {off off' : Fin 3 → ℕ} {inb inb'} (e : off = off') : half3 off inb = half3 off' inb' := by subst e; rfl

/-- A half of argument 4, a half of a slot of result 4, and a slot of it. -/
abbrev piece4 (off : Fin 2 → ℕ) (inb : ∀ a, off a + S8x64.size a ≤ S16x64.size a) : Memref sig .tc .hbm S8x64 .f32 :=
  (Memref.whole main_arg4).slice (Rect.unit (s := S16x64) off S8x64.size inb) (fun _ => rfl)
abbrev half4 (off : Fin 3 → ℕ) (inb : ∀ a, off a + S1x8x64.size a ≤ S4x16x64.size a) : Memref sig .tc .hbm S8x64 .f32 :=
  ((Memref.whole main_v1_4).slice (Rect.unit (s := S4x16x64) off S1x8x64.size inb) (fun _ => rfl)).squeeze S8x64 Facts₀.squeezes_S1x8x64_S8x64
abbrev slot4 (off : Fin 3 → ℕ) (inb : ∀ a, off a + S1x16x64.size a ≤ S4x16x64.size a) : Memref sig .tc .hbm S16x64 .f32 :=
  ((Memref.whole main_v1_4).slice (Rect.unit (s := S4x16x64) off S1x16x64.size inb) (fun _ => rfl)).squeeze S16x64 Facts₀.squeezes_S1x16x64_S16x64
theorem half4_eq {off off' : Fin 3 → ℕ} {inb inb'} (e : off = off') : half4 off inb = half4 off' inb' := by subst e; rfl

/-- One landing: the piece of an argument it brings, as the device of that argument sees it, and its source and
destination, as the copying device sees them. -/
structure Leg where
  {s : Shape}
  {e : EltTy}
  arg : Dev nD → Memref sig .tc .hbm s e
  src : Dev nD → Memref sig .tc .hbm s e
  dst : Dev nD → Memref sig .tc .hbm s e

def leg (q : DmaSem sig) : Leg := match q.val with
  | 30 => ⟨fun c => piece0 (k0_off6 c) (Facts₀.k0_off6_inb c), fun c => piece0 (k0_off6 c) (Facts₀.k0_off6_inb c), fun c => half0 (k0_off5 c) (Facts₀.k0_off5_inb c)⟩
  | 31 => ⟨fun c => piece0 (k0_off6 c) (Facts₀.k0_off6_inb c), fun c => piece0 (k0_off6 c) (Facts₀.k0_off6_inb c), fun c => half0 (k0_off5 c) (Facts₀.k0_off5_inb c)⟩
  | 32 => ⟨fun c => piece0 (k0_off6 c) (Facts₀.k0_off6_inb c), fun c => piece0 (k0_off6 c) (Facts₀.k0_off6_inb c), fun c => half0 (k0_off5 c) (Facts₀.k0_off5_inb c)⟩
  | 33 => ⟨fun c => piece0 (k0_off6 c) (Facts₀.k0_off6_inb c), fun c => half0 (k0_off13 c) (Facts₀.k0_off13_inb c), fun c => half0 (k0_off13 c) (Facts₀.k0_off13_inb c)⟩
  | 34 => ⟨fun c => piece0 (k0_off6 c) (Facts₀.k0_off6_inb c), fun c => half0 (k0_off14 c) (Facts₀.k0_off14_inb c), fun c => half0 (k0_off14 c) (Facts₀.k0_off14_inb c)⟩
  | 35 => ⟨fun c => piece0 (k0_off6 c) (Facts₀.k0_off6_inb c), fun c => half0 (k0_off15 c) (Facts₀.k0_off15_inb c), fun c => half0 (k0_off15 c) (Facts₀.k0_off15_inb c)⟩
  | 36 => ⟨fun c => piece1 (k0_off8 c) (Facts₀.k0_off8_inb c), fun c => piece1 (k0_off8 c) (Facts₀.k0_off8_inb c), fun c => half1 (k0_off7 c) (Facts₀.k0_off7_inb c)⟩
  | 37 => ⟨fun c => piece1 (k0_off8 c) (Facts₀.k0_off8_inb c), fun c => piece1 (k0_off8 c) (Facts₀.k0_off8_inb c), fun c => half1 (k0_off7 c) (Facts₀.k0_off7_inb c)⟩
  | 38 => ⟨fun c => piece1 (k0_off8 c) (Facts₀.k0_off8_inb c), fun c => piece1 (k0_off8 c) (Facts₀.k0_off8_inb c), fun c => half1 (k0_off7 c) (Facts₀.k0_off7_inb c)⟩
  | 39 => ⟨fun c => piece1 (k0_off8 c) (Facts₀.k0_off8_inb c), fun c => half1 (k0_off16 c) (Facts₀.k0_off16_inb c), fun c => half1 (k0_off16 c) (Facts₀.k0_off16_inb c)⟩
  | 40 => ⟨fun c => piece1 (k0_off8 c) (Facts₀.k0_off8_inb c), fun c => half1 (k0_off17 c) (Facts₀.k0_off17_inb c), fun c => half1 (k0_off17 c) (Facts₀.k0_off17_inb c)⟩
  | 41 => ⟨fun c => piece1 (k0_off8 c) (Facts₀.k0_off8_inb c), fun c => half1 (k0_off18 c) (Facts₀.k0_off18_inb c), fun c => half1 (k0_off18 c) (Facts₀.k0_off18_inb c)⟩
  | 42 => ⟨fun c => piece2 (k0_off10 c) (Facts₀.k0_off10_inb c), fun c => piece2 (k0_off10 c) (Facts₀.k0_off10_inb c), fun c => half2 (k0_off9 c) (Facts₀.k0_off9_inb c)⟩
  | 43 => ⟨fun c => piece2 (k0_off10 c) (Facts₀.k0_off10_inb c), fun c => piece2 (k0_off10 c) (Facts₀.k0_off10_inb c), fun c => half2 (k0_off9 c) (Facts₀.k0_off9_inb c)⟩
  | 44 => ⟨fun c => piece2 (k0_off10 c) (Facts₀.k0_off10_inb c), fun c => piece2 (k0_off10 c) (Facts₀.k0_off10_inb c), fun c => half2 (k0_off9 c) (Facts₀.k0_off9_inb c)⟩
  | 45 => ⟨fun c => piece2 (k0_off10 c) (Facts₀.k0_off10_inb c), fun c => half2 (k0_off19 c) (Facts₀.k0_off19_inb c), fun c => half2 (k0_off19 c) (Facts₀.k0_off19_inb c)⟩
  | 46 => ⟨fun c => piece2 (k0_off10 c) (Facts₀.k0_off10_inb c), fun c => half2 (k0_off20 c) (Facts₀.k0_off20_inb c), fun c => half2 (k0_off20 c) (Facts₀.k0_off20_inb c)⟩
  | 47 => ⟨fun c => piece2 (k0_off10 c) (Facts₀.k0_off10_inb c), fun c => half2 (k0_off21 c) (Facts₀.k0_off21_inb c), fun c => half2 (k0_off21 c) (Facts₀.k0_off21_inb c)⟩
  | 48 => ⟨fun c => piece3 (k0_off10 c) (Facts₀.k0_off10_inb c), fun c => piece3 (k0_off10 c) (Facts₀.k0_off10_inb c), fun c => half3 (k0_off9 c) (Facts₀.k0_off9_inb c)⟩
  | 49 => ⟨fun c => piece3 (k0_off10 c) (Facts₀.k0_off10_inb c), fun c => piece3 (k0_off10 c) (Facts₀.k0_off10_inb c), fun c => half3 (k0_off9 c) (Facts₀.k0_off9_inb c)⟩
  | 50 => ⟨fun c => piece3 (k0_off10 c) (Facts₀.k0_off10_inb c), fun c => piece3 (k0_off10 c) (Facts₀.k0_off10_inb c), fun c => half3 (k0_off9 c) (Facts₀.k0_off9_inb c)⟩
  | 51 => ⟨fun c => piece3 (k0_off10 c) (Facts₀.k0_off10_inb c), fun c => half3 (k0_off19 c) (Facts₀.k0_off19_inb c), fun c => half3 (k0_off19 c) (Facts₀.k0_off19_inb c)⟩
  | 52 => ⟨fun c => piece3 (k0_off10 c) (Facts₀.k0_off10_inb c), fun c => half3 (k0_off20 c) (Facts₀.k0_off20_inb c), fun c => half3 (k0_off20 c) (Facts₀.k0_off20_inb c)⟩
  | 53 => ⟨fun c => piece3 (k0_off10 c) (Facts₀.k0_off10_inb c), fun c => half3 (k0_off21 c) (Facts₀.k0_off21_inb c), fun c => half3 (k0_off21 c) (Facts₀.k0_off21_inb c)⟩
  | 54 => ⟨fun c => piece4 (k0_off12 c) (Facts₀.k0_off12_inb c), fun c => piece4 (k0_off12 c) (Facts₀.k0_off12_inb c), fun c => half4 (k0_off11 c) (Facts₀.k0_off11_inb c)⟩
  | 55 => ⟨fun c => piece4 (k0_off12 c) (Facts₀.k0_off12_inb c), fun c => piece4 (k0_off12 c) (Facts₀.k0_off12_inb c), fun c => half4 (k0_off11 c) (Facts₀.k0_off11_inb c)⟩
  | 56 => ⟨fun c => piece4 (k0_off12 c) (Facts₀.k0_off12_inb c), fun c => piece4 (k0_off12 c) (Facts₀.k0_off12_inb c), fun c => half4 (k0_off11 c) (Facts₀.k0_off11_inb c)⟩
  | 57 => ⟨fun c => piece4 (k0_off12 c) (Facts₀.k0_off12_inb c), fun c => half4 (k0_off22 c) (Facts₀.k0_off22_inb c), fun c => half4 (k0_off22 c) (Facts₀.k0_off22_inb c)⟩
  | 58 => ⟨fun c => piece4 (k0_off12 c) (Facts₀.k0_off12_inb c), fun c => half4 (k0_off23 c) (Facts₀.k0_off23_inb c), fun c => half4 (k0_off23 c) (Facts₀.k0_off23_inb c)⟩
  | 59 => ⟨fun c => piece4 (k0_off12 c) (Facts₀.k0_off12_inb c), fun c => half4 (k0_off24 c) (Facts₀.k0_off24_inb c), fun c => half4 (k0_off24 c) (Facts₀.k0_off24_inb c)⟩
  | 60 => ⟨fun _ => Memref.whole main_arg0, fun _ => Memref.whole main_arg0, fun c => slot0 (k0_off1 c) (Facts₀.k0_off1_inb c)⟩
  | 61 => ⟨fun _ => Memref.whole main_arg1, fun _ => Memref.whole main_arg1, fun c => slot1 (k0_off2 c) (Facts₀.k0_off2_inb c)⟩
  | 62 => ⟨fun _ => Memref.whole main_arg2, fun _ => Memref.whole main_arg2, fun c => slot2 (k0_off3 c) (Facts₀.k0_off3_inb c)⟩
  | 63 => ⟨fun _ => Memref.whole main_arg3, fun _ => Memref.whole main_arg3, fun c => slot3 (k0_off3 c) (Facts₀.k0_off3_inb c)⟩
  | _ => ⟨fun _ => Memref.whole main_arg4, fun _ => Memref.whole main_arg4, fun c => slot4 (k0_off4 c) (Facts₀.k0_off4_inb c)⟩

/-- The landing a cell belongs to. -/
def land (q : DmaSem sig) : DmaSem sig := if h : q.val < 30 then ⟨30 + q.val, by show _ < 65; omega⟩ else q

/-- The landings that are passed on. -/
def early (q : DmaSem sig) : Bool := decide (30 ≤ q.val ∧ q.val < 60 ∧ q.val % 6 < 3)

/-- Those that follow from these. -/
def late (q : DmaSem sig) : Bool := decide (30 ≤ q.val ∧ q.val < 60 ∧ 3 ≤ q.val % 6)

def share (q : DmaSem sig) : Option (PosShare TreeShare) := match q.val with
  | 30 => some fullShare.right.left.right
  | 31 => some fullShare.right.right.left
  | 32 => some fullShare.right.right.right
  | 33 => none
  | 34 => none
  | 35 => none
  | 36 => some fullShare.right.left.right
  | 37 => some fullShare.right.right.left
  | 38 => some fullShare.right.right.right
  | 39 => none
  | 40 => none
  | 41 => none
  | 42 => some fullShare.right.left.right
  | 43 => some fullShare.right.right.left
  | 44 => some fullShare.right.right.right
  | 45 => none
  | 46 => none
  | 47 => none
  | 48 => some fullShare.right.left.right
  | 49 => some fullShare.right.right.left
  | 50 => some fullShare.right.right.right
  | 51 => none
  | 52 => none
  | 53 => none
  | 54 => some fullShare.right.left.right
  | 55 => some fullShare.right.right.left
  | 56 => some fullShare.right.right.right
  | 57 => none
  | 58 => none
  | 59 => none
  | _ => some fullShare.right.left.left

def moves (m : (ℓ : Loc nD τ sig) → Buf (Elt F) ℓ) : Moves nD τ sig (Elt F) where
  xf q := ⟨(leg q).src, (leg q).dst⟩
  real q := decide (30 ≤ q.val)
  remote q := decide (30 ≤ q.val ∧ q.val < 60)
  fwd := early
  share := share
  peer := across
  amt q := ((leg (land q)).dst 0).view.dmaCredit
  amt_pos := by
    have h : ∀ q, 0 < (leg (land q)).s.numel := by decide
    exact fun q => View.dmaCredit_pos _ (h q)
  lev q := if late q then 1 else 0
  val c q := ((leg q).arg (origin q c)).view.read (Elt F) (m (((leg q).arg (origin q c)).view.loc ((origin q c).tc : Thread nD τ)))
  mem := m

variable (m : (ℓ : Loc nD τ sig) → Buf (Elt F) ℓ)

theorem dev1 (c : Dev nD) (h : k0_dev1 c < nD) : (⟨k0_dev1 c, h⟩ : Dev nD) = flip1s c := Fin.ext (k0_dev1_eq c)
theorem dev2 (c : Dev nD) (h : k0_dev2 c < nD) : (⟨k0_dev2 c, h⟩ : Dev nD) = flip2s c := Fin.ext (k0_dev2_eq c)
theorem dev3 (c : Dev nD) (h : k0_dev3 c < nD) : (⟨k0_dev3 c, h⟩ : Dev nD) = flip3s c := Fin.ext (k0_dev3_eq c)
theorem dev4 (c : Dev nD) (h : k0_dev4 c < nD) : (⟨k0_dev4 c, h⟩ : Dev nD) = flip1s c := Fin.ext (k0_dev4_eq c)
theorem dev5 (c : Dev nD) (h : k0_dev5 c < nD) : (⟨k0_dev5 c, h⟩ : Dev nD) = flip2s c := Fin.ext (k0_dev5_eq c)
theorem dev6 (c : Dev nD) (h : k0_dev6 c < nD) : (⟨k0_dev6 c, h⟩ : Dev nD) = flip3s c := Fin.ext (k0_dev6_eq c)
theorem dev7 (c : Dev nD) (h : k0_dev7 c < nD) : (⟨k0_dev7 c, h⟩ : Dev nD) = flip1s c := Fin.ext (k0_dev7_eq c)
theorem dev8 (c : Dev nD) (h : k0_dev8 c < nD) : (⟨k0_dev8 c, h⟩ : Dev nD) = flip2s c := Fin.ext (k0_dev8_eq c)
theorem dev9 (c : Dev nD) (h : k0_dev9 c < nD) : (⟨k0_dev9 c, h⟩ : Dev nD) = flip3s c := Fin.ext (k0_dev9_eq c)
theorem dev10 (c : Dev nD) (h : k0_dev10 c < nD) : (⟨k0_dev10 c, h⟩ : Dev nD) = flip1s c := Fin.ext (k0_dev10_eq c)
theorem dev11 (c : Dev nD) (h : k0_dev11 c < nD) : (⟨k0_dev11 c, h⟩ : Dev nD) = flip2s c := Fin.ext (k0_dev11_eq c)
theorem dev12 (c : Dev nD) (h : k0_dev12 c < nD) : (⟨k0_dev12 c, h⟩ : Dev nD) = flip3s c := Fin.ext (k0_dev12_eq c)
theorem dev13 (c : Dev nD) (h : k0_dev13 c < nD) : (⟨k0_dev13 c, h⟩ : Dev nD) = flip1s c := Fin.ext (k0_dev13_eq c)
theorem dev14 (c : Dev nD) (h : k0_dev14 c < nD) : (⟨k0_dev14 c, h⟩ : Dev nD) = flip2s c := Fin.ext (k0_dev14_eq c)
theorem dev15 (c : Dev nD) (h : k0_dev15 c < nD) : (⟨k0_dev15 c, h⟩ : Dev nD) = flip3s c := Fin.ext (k0_dev15_eq c)
theorem dev16 (c : Dev nD) (h : k0_dev16 c < nD) : (⟨k0_dev16 c, h⟩ : Dev nD) = sibs c := Fin.ext (k0_dev16_eq c)
theorem dev17 (c : Dev nD) (h : k0_dev17 c < nD) : (⟨k0_dev17 c, h⟩ : Dev nD) = sibs c := Fin.ext (k0_dev17_eq c)
theorem dev18 (c : Dev nD) (h : k0_dev18 c < nD) : (⟨k0_dev18 c, h⟩ : Dev nD) = sibs c := Fin.ext (k0_dev18_eq c)
theorem dev19 (c : Dev nD) (h : k0_dev19 c < nD) : (⟨k0_dev19 c, h⟩ : Dev nD) = sibs c := Fin.ext (k0_dev19_eq c)
theorem dev20 (c : Dev nD) (h : k0_dev20 c < nD) : (⟨k0_dev20 c, h⟩ : Dev nD) = sibs c := Fin.ext (k0_dev20_eq c)
theorem dev21 (c : Dev nD) (h : k0_dev21 c < nD) : (⟨k0_dev21 c, h⟩ : Dev nD) = sibs c := Fin.ext (k0_dev21_eq c)
theorem dev22 (c : Dev nD) (h : k0_dev22 c < nD) : (⟨k0_dev22 c, h⟩ : Dev nD) = sibs c := Fin.ext (k0_dev22_eq c)
theorem dev23 (c : Dev nD) (h : k0_dev23 c < nD) : (⟨k0_dev23 c, h⟩ : Dev nD) = sibs c := Fin.ext (k0_dev23_eq c)
theorem dev24 (c : Dev nD) (h : k0_dev24 c < nD) : (⟨k0_dev24 c, h⟩ : Dev nD) = sibs c := Fin.ext (k0_dev24_eq c)
theorem dev25 (c : Dev nD) (h : k0_dev25 c < nD) : (⟨k0_dev25 c, h⟩ : Dev nD) = sibs c := Fin.ext (k0_dev25_eq c)
theorem dev26 (c : Dev nD) (h : k0_dev26 c < nD) : (⟨k0_dev26 c, h⟩ : Dev nD) = sibs c := Fin.ext (k0_dev26_eq c)
theorem dev27 (c : Dev nD) (h : k0_dev27 c < nD) : (⟨k0_dev27 c, h⟩ : Dev nD) = sibs c := Fin.ext (k0_dev27_eq c)
theorem dev28 (c : Dev nD) (h : k0_dev28 c < nD) : (⟨k0_dev28 c, h⟩ : Dev nD) = sibs c := Fin.ext (k0_dev28_eq c)
theorem dev29 (c : Dev nD) (h : k0_dev29 c < nD) : (⟨k0_dev29 c, h⟩ : Dev nD) = sibs c := Fin.ext (k0_dev29_eq c)
theorem dev30 (c : Dev nD) (h : k0_dev30 c < nD) : (⟨k0_dev30 c, h⟩ : Dev nD) = sibs c := Fin.ext (k0_dev30_eq c)

/-! The region that a device passes on is the one that was written to it. -/

theorem same0_0 (c : Dev nD) : k0_off5 (flip1s.symm c) = k0_off13 c := by decide +revert
theorem same0_1 (c : Dev nD) : k0_off5 (flip2s.symm c) = k0_off14 c := by decide +revert
theorem same0_2 (c : Dev nD) : k0_off5 (flip3s.symm c) = k0_off15 c := by decide +revert
theorem same1_0 (c : Dev nD) : k0_off7 (flip1s.symm c) = k0_off16 c := by decide +revert
theorem same1_1 (c : Dev nD) : k0_off7 (flip2s.symm c) = k0_off17 c := by decide +revert
theorem same1_2 (c : Dev nD) : k0_off7 (flip3s.symm c) = k0_off18 c := by decide +revert
theorem same2_0 (c : Dev nD) : k0_off9 (flip1s.symm c) = k0_off19 c := by decide +revert
theorem same2_1 (c : Dev nD) : k0_off9 (flip2s.symm c) = k0_off20 c := by decide +revert
theorem same2_2 (c : Dev nD) : k0_off9 (flip3s.symm c) = k0_off21 c := by decide +revert
theorem same4_0 (c : Dev nD) : k0_off11 (flip1s.symm c) = k0_off22 c := by decide +revert
theorem same4_1 (c : Dev nD) : k0_off11 (flip2s.symm c) = k0_off23 c := by decide +revert
theorem same4_2 (c : Dev nD) : k0_off11 (flip3s.symm c) = k0_off24 c := by decide +revert

/-- What landed on a piece, told of the same piece written otherwise. -/
theorem handed {c : Dev nD} {π : PosShare TreeShare} {s : Shape} {e : EltTy} {v v' : Memref sig .tc .hbm s e} (hv : v = v') (x : s.Idx → Elt F e) :
    (v.view.loc (c.tc : Thread nD τ) ↦[v.view.set]{π} v.view.write (Elt F) (m (v.view.loc (c.tc : Thread nD τ))) x Finset.univ : sProp (MT nD τ sig Unit (Elt F) ℕ (UU nD τ sig) ℕ))
      ⊢ (v'.view.loc (c.tc : Thread nD τ) ↦[v'.view.set]{π} v'.view.write (Elt F) (m (v'.view.loc (c.tc : Thread nD τ))) x Finset.univ) := by
  subst hv; exact .rfl

theorem extra_early (n : Dev nD) {q : DmaSem sig} (h : (moves m).real q = true) (hf : early q = true) :
    (moves m).plan.extra n q = (moves m).got ((moves m).payer n q) n q fullShare.right := by
  show (moves m).over n q = _
  unfold Moves.over
  rw [h, show (moves m).fwd q = true from hf]

abbrev firsts : List (DmaSem sig) := [s30, s31, s32, s36, s37, s38, s42, s43, s44, s48, s49, s50, s54, s55, s56]

theorem late_of (p : List (DmaSem sig)) (hp : ∀ q ∈ firsts, q ∈ p) (q q' : DmaSem sig) (hq : late q = false) (hr : (moves m).plan.remote q' = true) (h : q' ∉ p) :
    (moves m).plan.lev q < (moves m).plan.lev q' := by
  have hl : late q' = true := by
    have hr' : decide (30 ≤ q'.val ∧ q'.val < 60) = true := hr
    have key : ∀ q : DmaSem sig, decide (30 ≤ q.val ∧ q.val < 60) = true → q ∉ firsts → late q = true := by decide
    exact key q' hr' fun hf => h (hp q' hf)
  show (if late q = true then 1 else 0) < (if late q' = true then 1 else 0)
  rw [hq, hl]; decide

abbrev all : List (DmaSem sig) := [s29, s59, s28, s58, s27, s57, s23, s53, s22, s52, s21, s51, s17, s47, s16, s46, s15, s45, s11, s41, s10, s40, s9, s39, s5, s35, s4, s34, s3, s33, s26, s56, s25, s55, s24, s54, s20, s50, s19, s49, s18, s48, s14, s44, s13, s43, s12, s42, s8, s38, s7, s37, s6, s36, s2, s32, s1, s31, s0, s30, s64, s63, s62, s61, s60]
abbrev waited : List (DmaSem sig) := [s64, s63, s62, s61, s60, s29, s28, s27, s23, s22, s21, s17, s16, s15, s11, s10, s9, s5, s4, s3, s26, s25, s24, s20, s19, s18, s14, s13, s12, s8, s7, s6, s2, s1, s0, s59, s58, s57, s53, s52, s51, s47, s46, s45, s41, s40, s39, s35, s34, s33, s56, s55, s54, s50, s49, s48, s44, s43, s42, s38, s37, s36, s32, s31, s30]

theorem route (c n : Dev nD) : τ.routes (c.tc : Thread nD τ) (Dev.tc n : Thread nD τ) = true := by decide +revert

set_option maxRecDepth 100000 in
set_option maxHeartbeats 4000000 in
theorem body (t : Fin cfg0.N) (c : Dev nD) (K : Dev nD × DmaSem sig → ℕ) (H R : sProp (MT nD τ sig Unit (Elt F) ℕ (UU nD τ sig) ℕ))
    (hR : iprop((moves m).plan.Rec K ∗ (moves m).plan.State c all waited ∗ H) ⊢ R) :
    iprop((moves m).plan.Rec K ∗ (moves m).plan.State c [] [] ∗ H)
      ⊢ wp frame (wpE (defs₀ (F := F)) Variants.none (c.tc : Thread nD τ) none) Set.univ (bodyAt0 t) fun _ => R := by
  have hall : ∀ q : DmaSem sig, q ∈ all := by decide
  unfold bodyAt0 cc0_gather_weights k0_part1 k0_part2 k0_part3 k0_part4 k0_part5 k0_part6 k0_part7 k0_part8 k0_part9 k0_part10 k0_part11 k0_part12 k0_part13 k0_part14 k0_part15 k0_part16 k0_part17 k0_part18 k0_part19 k0_part20 k0_part21 k0_part22 k0_part23 k0_part24 k0_part25 k0_part26 k0_part27 k0_part28 k0_part29 k0_part30 k0_part31 k0_part32 k0_part33 k0_part34 k0_part35 k0_part36 k0_part37 k0_part38 k0_part39
  simp only [Prog.lift, Prog.bind_op, Prog.bind_ret, Prog.pure_eq_ret, wp_deviceId]
  refine (moves m).copy defs₀ _ K c s60 fullShare.right.left.left rfl rfl rfl rfl (by decide) (by decide) rfl rfl ?_
  refine (moves m).copy defs₀ _ K c s61 fullShare.right.left.left rfl rfl rfl rfl (by decide) (by decide) rfl rfl ?_
  refine (moves m).copy defs₀ _ K c s62 fullShare.right.left.left rfl rfl rfl rfl (by decide) (by decide) rfl rfl ?_
  refine (moves m).copy defs₀ _ K c s63 fullShare.right.left.left rfl rfl rfl rfl (by decide) (by decide) rfl rfl ?_
  refine (moves m).copy defs₀ _ K c s64 fullShare.right.left.left rfl rfl rfl rfl (by decide) (by decide) rfl rfl ?_
  refine (moves m).send defs₀ _ K c s0 s30 _ fullShare.right.left.right (dev1 c _) rfl rfl rfl rfl rfl rfl (by decide) (by decide) (by decide) rfl rfl rfl (route c _) ?_
  refine (moves m).send defs₀ _ K c s1 s31 _ fullShare.right.right.left (dev2 c _) rfl rfl rfl rfl rfl rfl (by decide) (by decide) (by decide) rfl rfl rfl (route c _) ?_
  refine (moves m).send defs₀ _ K c s2 s32 _ fullShare.right.right.right (dev3 c _) rfl rfl rfl rfl rfl rfl (by decide) (by decide) (by decide) rfl rfl rfl (route c _) ?_
  refine (moves m).send defs₀ _ K c s6 s36 _ fullShare.right.left.right (dev4 c _) rfl rfl rfl rfl rfl rfl (by decide) (by decide) (by decide) rfl rfl rfl (route c _) ?_
  refine (moves m).send defs₀ _ K c s7 s37 _ fullShare.right.right.left (dev5 c _) rfl rfl rfl rfl rfl rfl (by decide) (by decide) (by decide) rfl rfl rfl (route c _) ?_
  refine (moves m).send defs₀ _ K c s8 s38 _ fullShare.right.right.right (dev6 c _) rfl rfl rfl rfl rfl rfl (by decide) (by decide) (by decide) rfl rfl rfl (route c _) ?_
  refine (moves m).send defs₀ _ K c s12 s42 _ fullShare.right.left.right (dev7 c _) rfl rfl rfl rfl rfl rfl (by decide) (by decide) (by decide) rfl rfl rfl (route c _) ?_
  refine (moves m).send defs₀ _ K c s13 s43 _ fullShare.right.right.left (dev8 c _) rfl rfl rfl rfl rfl rfl (by decide) (by decide) (by decide) rfl rfl rfl (route c _) ?_
  refine (moves m).send defs₀ _ K c s14 s44 _ fullShare.right.right.right (dev9 c _) rfl rfl rfl rfl rfl rfl (by decide) (by decide) (by decide) rfl rfl rfl (route c _) ?_
  refine (moves m).send defs₀ _ K c s18 s48 _ fullShare.right.left.right (dev10 c _) rfl rfl rfl rfl rfl rfl (by decide) (by decide) (by decide) rfl rfl rfl (route c _) ?_
  refine (moves m).send defs₀ _ K c s19 s49 _ fullShare.right.right.left (dev11 c _) rfl rfl rfl rfl rfl rfl (by decide) (by decide) (by decide) rfl rfl rfl (route c _) ?_
  refine (moves m).send defs₀ _ K c s20 s50 _ fullShare.right.right.right (dev12 c _) rfl rfl rfl rfl rfl rfl (by decide) (by decide) (by decide) rfl rfl rfl (route c _) ?_
  refine (moves m).send defs₀ _ K c s24 s54 _ fullShare.right.left.right (dev13 c _) rfl rfl rfl rfl rfl rfl (by decide) (by decide) (by decide) rfl rfl rfl (route c _) ?_
  refine (moves m).send defs₀ _ K c s25 s55 _ fullShare.right.right.left (dev14 c _) rfl rfl rfl rfl rfl rfl (by decide) (by decide) (by decide) rfl rfl rfl (route c _) ?_
  refine (moves m).send defs₀ _ K c s26 s56 _ fullShare.right.right.right (dev15 c _) rfl rfl rfl rfl rfl rfl (by decide) (by decide) (by decide) rfl rfl rfl (route c _) ?_
  refine (moves m).plan.wait_step defs₀ _ K c s30 (.inr (by decide)) (by decide) (late_of m _ (by decide) _ · rfl) rfl ?_
  refine (moves m).forward defs₀ _ K c s3 s33 _ fullShare.right _ ((Entails.of_eq (extra_early m c rfl rfl)).trans (handed m (half0_eq (same0_0 c)) _)) (dev16 c _) rfl rfl rfl rfl rfl (by decide) (by decide) (by decide) rfl rfl (View.read_write_univ _ _).symm (route c _) ?_
  refine (moves m).plan.wait_step defs₀ _ K c s31 (.inr (by decide)) (by decide) (late_of m _ (by decide) _ · rfl) rfl ?_
  refine (moves m).forward defs₀ _ K c s4 s34 _ fullShare.right _ ((Entails.of_eq (extra_early m c rfl rfl)).trans (handed m (half0_eq (same0_1 c)) _)) (dev17 c _) rfl rfl rfl rfl rfl (by decide) (by decide) (by decide) rfl rfl (View.read_write_univ _ _).symm (route c _) ?_
  refine (moves m).plan.wait_step defs₀ _ K c s32 (.inr (by decide)) (by decide) (late_of m _ (by decide) _ · rfl) rfl ?_
  refine (moves m).forward defs₀ _ K c s5 s35 _ fullShare.right _ ((Entails.of_eq (extra_early m c rfl rfl)).trans (handed m (half0_eq (same0_2 c)) _)) (dev18 c _) rfl rfl rfl rfl rfl (by decide) (by decide) (by decide) rfl rfl (View.read_write_univ _ _).symm (route c _) ?_
  refine (moves m).plan.wait_step defs₀ _ K c s36 (.inr (by decide)) (by decide) (late_of m _ (by decide) _ · rfl) rfl ?_
  refine (moves m).forward defs₀ _ K c s9 s39 _ fullShare.right _ ((Entails.of_eq (extra_early m c rfl rfl)).trans (handed m (half1_eq (same1_0 c)) _)) (dev19 c _) rfl rfl rfl rfl rfl (by decide) (by decide) (by decide) rfl rfl (View.read_write_univ _ _).symm (route c _) ?_
  refine (moves m).plan.wait_step defs₀ _ K c s37 (.inr (by decide)) (by decide) (late_of m _ (by decide) _ · rfl) rfl ?_
  refine (moves m).forward defs₀ _ K c s10 s40 _ fullShare.right _ ((Entails.of_eq (extra_early m c rfl rfl)).trans (handed m (half1_eq (same1_1 c)) _)) (dev20 c _) rfl rfl rfl rfl rfl (by decide) (by decide) (by decide) rfl rfl (View.read_write_univ _ _).symm (route c _) ?_
  refine (moves m).plan.wait_step defs₀ _ K c s38 (.inr (by decide)) (by decide) (late_of m _ (by decide) _ · rfl) rfl ?_
  refine (moves m).forward defs₀ _ K c s11 s41 _ fullShare.right _ ((Entails.of_eq (extra_early m c rfl rfl)).trans (handed m (half1_eq (same1_2 c)) _)) (dev21 c _) rfl rfl rfl rfl rfl (by decide) (by decide) (by decide) rfl rfl (View.read_write_univ _ _).symm (route c _) ?_
  refine (moves m).plan.wait_step defs₀ _ K c s42 (.inr (by decide)) (by decide) (late_of m _ (by decide) _ · rfl) rfl ?_
  refine (moves m).forward defs₀ _ K c s15 s45 _ fullShare.right _ ((Entails.of_eq (extra_early m c rfl rfl)).trans (handed m (half2_eq (same2_0 c)) _)) (dev22 c _) rfl rfl rfl rfl rfl (by decide) (by decide) (by decide) rfl rfl (View.read_write_univ _ _).symm (route c _) ?_
  refine (moves m).plan.wait_step defs₀ _ K c s43 (.inr (by decide)) (by decide) (late_of m _ (by decide) _ · rfl) rfl ?_
  refine (moves m).forward defs₀ _ K c s16 s46 _ fullShare.right _ ((Entails.of_eq (extra_early m c rfl rfl)).trans (handed m (half2_eq (same2_1 c)) _)) (dev23 c _) rfl rfl rfl rfl rfl (by decide) (by decide) (by decide) rfl rfl (View.read_write_univ _ _).symm (route c _) ?_
  refine (moves m).plan.wait_step defs₀ _ K c s44 (.inr (by decide)) (by decide) (late_of m _ (by decide) _ · rfl) rfl ?_
  refine (moves m).forward defs₀ _ K c s17 s47 _ fullShare.right _ ((Entails.of_eq (extra_early m c rfl rfl)).trans (handed m (half2_eq (same2_2 c)) _)) (dev24 c _) rfl rfl rfl rfl rfl (by decide) (by decide) (by decide) rfl rfl (View.read_write_univ _ _).symm (route c _) ?_
  refine (moves m).plan.wait_step defs₀ _ K c s48 (.inr (by decide)) (by decide) (late_of m _ (by decide) _ · rfl) rfl ?_
  refine (moves m).forward defs₀ _ K c s21 s51 _ fullShare.right _ ((Entails.of_eq (extra_early m c rfl rfl)).trans (handed m (half3_eq (same2_0 c)) _)) (dev25 c _) rfl rfl rfl rfl rfl (by decide) (by decide) (by decide) rfl rfl (View.read_write_univ _ _).symm (route c _) ?_
  refine (moves m).plan.wait_step defs₀ _ K c s49 (.inr (by decide)) (by decide) (late_of m _ (by decide) _ · rfl) rfl ?_
  refine (moves m).forward defs₀ _ K c s22 s52 _ fullShare.right _ ((Entails.of_eq (extra_early m c rfl rfl)).trans (handed m (half3_eq (same2_1 c)) _)) (dev26 c _) rfl rfl rfl rfl rfl (by decide) (by decide) (by decide) rfl rfl (View.read_write_univ _ _).symm (route c _) ?_
  refine (moves m).plan.wait_step defs₀ _ K c s50 (.inr (by decide)) (by decide) (late_of m _ (by decide) _ · rfl) rfl ?_
  refine (moves m).forward defs₀ _ K c s23 s53 _ fullShare.right _ ((Entails.of_eq (extra_early m c rfl rfl)).trans (handed m (half3_eq (same2_2 c)) _)) (dev27 c _) rfl rfl rfl rfl rfl (by decide) (by decide) (by decide) rfl rfl (View.read_write_univ _ _).symm (route c _) ?_
  refine (moves m).plan.wait_step defs₀ _ K c s54 (.inr (by decide)) (by decide) (late_of m _ (by decide) _ · rfl) rfl ?_
  refine (moves m).forward defs₀ _ K c s27 s57 _ fullShare.right _ ((Entails.of_eq (extra_early m c rfl rfl)).trans (handed m (half4_eq (same4_0 c)) _)) (dev28 c _) rfl rfl rfl rfl rfl (by decide) (by decide) (by decide) rfl rfl (View.read_write_univ _ _).symm (route c _) ?_
  refine (moves m).plan.wait_step defs₀ _ K c s55 (.inr (by decide)) (by decide) (late_of m _ (by decide) _ · rfl) rfl ?_
  refine (moves m).forward defs₀ _ K c s28 s58 _ fullShare.right _ ((Entails.of_eq (extra_early m c rfl rfl)).trans (handed m (half4_eq (same4_1 c)) _)) (dev29 c _) rfl rfl rfl rfl rfl (by decide) (by decide) (by decide) rfl rfl (View.read_write_univ _ _).symm (route c _) ?_
  refine (moves m).plan.wait_step defs₀ _ K c s56 (.inr (by decide)) (by decide) (late_of m _ (by decide) _ · rfl) rfl ?_
  refine (moves m).forward defs₀ _ K c s29 s59 _ fullShare.right _ ((Entails.of_eq (extra_early m c rfl rfl)).trans (handed m (half4_eq (same4_2 c)) _)) (dev30 c _) rfl rfl rfl rfl rfl (by decide) (by decide) (by decide) rfl rfl (View.read_write_univ _ _).symm (route c _) ?_
  refine (moves m).plan.wait_step' defs₀ _ K c s33 (.inr (hall _)) (by decide) (fun q _ h => absurd (hall q) h) rfl ?_
  refine (moves m).plan.wait_step' defs₀ _ K c s34 (.inr (hall _)) (by decide) (fun q _ h => absurd (hall q) h) rfl ?_
  refine (moves m).plan.wait_step' defs₀ _ K c s35 (.inr (hall _)) (by decide) (fun q _ h => absurd (hall q) h) rfl ?_
  refine (moves m).plan.wait_step' defs₀ _ K c s39 (.inr (hall _)) (by decide) (fun q _ h => absurd (hall q) h) rfl ?_
  refine (moves m).plan.wait_step' defs₀ _ K c s40 (.inr (hall _)) (by decide) (fun q _ h => absurd (hall q) h) rfl ?_
  refine (moves m).plan.wait_step' defs₀ _ K c s41 (.inr (hall _)) (by decide) (fun q _ h => absurd (hall q) h) rfl ?_
  refine (moves m).plan.wait_step' defs₀ _ K c s45 (.inr (hall _)) (by decide) (fun q _ h => absurd (hall q) h) rfl ?_
  refine (moves m).plan.wait_step' defs₀ _ K c s46 (.inr (hall _)) (by decide) (fun q _ h => absurd (hall q) h) rfl ?_
  refine (moves m).plan.wait_step' defs₀ _ K c s47 (.inr (hall _)) (by decide) (fun q _ h => absurd (hall q) h) rfl ?_
  refine (moves m).plan.wait_step' defs₀ _ K c s51 (.inr (hall _)) (by decide) (fun q _ h => absurd (hall q) h) rfl ?_
  refine (moves m).plan.wait_step' defs₀ _ K c s52 (.inr (hall _)) (by decide) (fun q _ h => absurd (hall q) h) rfl ?_
  refine (moves m).plan.wait_step' defs₀ _ K c s53 (.inr (hall _)) (by decide) (fun q _ h => absurd (hall q) h) rfl ?_
  refine (moves m).plan.wait_step' defs₀ _ K c s57 (.inr (hall _)) (by decide) (fun q _ h => absurd (hall q) h) rfl ?_
  refine (moves m).plan.wait_step' defs₀ _ K c s58 (.inr (hall _)) (by decide) (fun q _ h => absurd (hall q) h) rfl ?_
  refine (moves m).plan.wait_step' defs₀ _ K c s59 (.inr (hall _)) (by decide) (fun q _ h => absurd (hall q) h) rfl ?_
  refine (moves m).plan.wait_step' defs₀ _ K c s0 (.inr (hall _)) (by decide) (fun q _ h => absurd (hall q) h) rfl ?_
  refine (moves m).plan.wait_step' defs₀ _ K c s1 (.inr (hall _)) (by decide) (fun q _ h => absurd (hall q) h) rfl ?_
  refine (moves m).plan.wait_step' defs₀ _ K c s2 (.inr (hall _)) (by decide) (fun q _ h => absurd (hall q) h) rfl ?_
  refine (moves m).plan.wait_step' defs₀ _ K c s6 (.inr (hall _)) (by decide) (fun q _ h => absurd (hall q) h) rfl ?_
  refine (moves m).plan.wait_step' defs₀ _ K c s7 (.inr (hall _)) (by decide) (fun q _ h => absurd (hall q) h) rfl ?_
  refine (moves m).plan.wait_step' defs₀ _ K c s8 (.inr (hall _)) (by decide) (fun q _ h => absurd (hall q) h) rfl ?_
  refine (moves m).plan.wait_step' defs₀ _ K c s12 (.inr (hall _)) (by decide) (fun q _ h => absurd (hall q) h) rfl ?_
  refine (moves m).plan.wait_step' defs₀ _ K c s13 (.inr (hall _)) (by decide) (fun q _ h => absurd (hall q) h) rfl ?_
  refine (moves m).plan.wait_step' defs₀ _ K c s14 (.inr (hall _)) (by decide) (fun q _ h => absurd (hall q) h) rfl ?_
  refine (moves m).plan.wait_step' defs₀ _ K c s18 (.inr (hall _)) (by decide) (fun q _ h => absurd (hall q) h) rfl ?_
  refine (moves m).plan.wait_step' defs₀ _ K c s19 (.inr (hall _)) (by decide) (fun q _ h => absurd (hall q) h) rfl ?_
  refine (moves m).plan.wait_step' defs₀ _ K c s20 (.inr (hall _)) (by decide) (fun q _ h => absurd (hall q) h) rfl ?_
  refine (moves m).plan.wait_step' defs₀ _ K c s24 (.inr (hall _)) (by decide) (fun q _ h => absurd (hall q) h) rfl ?_
  refine (moves m).plan.wait_step' defs₀ _ K c s25 (.inr (hall _)) (by decide) (fun q _ h => absurd (hall q) h) rfl ?_
  refine (moves m).plan.wait_step' defs₀ _ K c s26 (.inr (hall _)) (by decide) (fun q _ h => absurd (hall q) h) rfl ?_
  refine (moves m).plan.wait_step' defs₀ _ K c s3 (.inr (hall _)) (by decide) (fun q _ h => absurd (hall q) h) rfl ?_
  refine (moves m).plan.wait_step' defs₀ _ K c s4 (.inr (hall _)) (by decide) (fun q _ h => absurd (hall q) h) rfl ?_
  refine (moves m).plan.wait_step' defs₀ _ K c s5 (.inr (hall _)) (by decide) (fun q _ h => absurd (hall q) h) rfl ?_
  refine (moves m).plan.wait_step' defs₀ _ K c s9 (.inr (hall _)) (by decide) (fun q _ h => absurd (hall q) h) rfl ?_
  refine (moves m).plan.wait_step' defs₀ _ K c s10 (.inr (hall _)) (by decide) (fun q _ h => absurd (hall q) h) rfl ?_
  refine (moves m).plan.wait_step' defs₀ _ K c s11 (.inr (hall _)) (by decide) (fun q _ h => absurd (hall q) h) rfl ?_
  refine (moves m).plan.wait_step' defs₀ _ K c s15 (.inr (hall _)) (by decide) (fun q _ h => absurd (hall q) h) rfl ?_
  refine (moves m).plan.wait_step' defs₀ _ K c s16 (.inr (hall _)) (by decide) (fun q _ h => absurd (hall q) h) rfl ?_
  refine (moves m).plan.wait_step' defs₀ _ K c s17 (.inr (hall _)) (by decide) (fun q _ h => absurd (hall q) h) rfl ?_
  refine (moves m).plan.wait_step' defs₀ _ K c s21 (.inr (hall _)) (by decide) (fun q _ h => absurd (hall q) h) rfl ?_
  refine (moves m).plan.wait_step' defs₀ _ K c s22 (.inr (hall _)) (by decide) (fun q _ h => absurd (hall q) h) rfl ?_
  refine (moves m).plan.wait_step' defs₀ _ K c s23 (.inr (hall _)) (by decide) (fun q _ h => absurd (hall q) h) rfl ?_
  refine (moves m).plan.wait_step' defs₀ _ K c s27 (.inr (hall _)) (by decide) (fun q _ h => absurd (hall q) h) rfl ?_
  refine (moves m).plan.wait_step' defs₀ _ K c s28 (.inr (hall _)) (by decide) (fun q _ h => absurd (hall q) h) rfl ?_
  refine (moves m).plan.wait_step' defs₀ _ K c s29 (.inr (hall _)) (by decide) (fun q _ h => absurd (hall q) h) rfl ?_
  refine (moves m).plan.wait_step' defs₀ _ K c s60 (.inr (hall _)) (by decide) (fun q _ h => absurd (hall q) h) rfl ?_
  refine (moves m).plan.wait_step' defs₀ _ K c s61 (.inr (hall _)) (by decide) (fun q _ h => absurd (hall q) h) rfl ?_
  refine (moves m).plan.wait_step' defs₀ _ K c s62 (.inr (hall _)) (by decide) (fun q _ h => absurd (hall q) h) rfl ?_
  refine (moves m).plan.wait_step' defs₀ _ K c s63 (.inr (hall _)) (by decide) (fun q _ h => absurd (hall q) h) rfl ?_
  refine (moves m).plan.wait_step' defs₀ _ K c s64 (.inr (hall _)) (by decide) (fun q _ h => absurd (hall q) h) rfl ?_
  rw [wp_ret]
  exact hR.trans fupd_intro

/-! ## Dealing the launch's memory -/

abbrev arrays : List (Ref sig .tc × Ref sig .tc × List (DmaSem sig)) :=
  [(main_arg0, main_v1_0, [s60, s30, s31, s32, s33, s34, s35]), (main_arg1, main_v1_1, [s61, s36, s37, s38, s39, s40, s41]), (main_arg2, main_v1_2, [s62, s42, s43, s44, s45, s46, s47]), (main_arg3, main_v1_3, [s63, s48, s49, s50, s51, s52, s53]), (main_arg4, main_v1_4, [s64, s54, s55, s56, s57, s58, s59])]

abbrev args : List (Ref sig .tc) := [main_arg0, main_arg1, main_arg2, main_arg3, main_arg4]

abbrev rest : List (DmaSem sig) := [s0, s1, s2, s3, s4, s5, s6, s7, s8, s9, s10, s11, s12, s13, s14, s15, s16, s17, s18, s19, s20, s21, s22, s23, s24, s25, s26, s27, s28, s29]

abbrev cells : List (DmaSem sig) := [s60, s30, s31, s32, s33, s34, s35, s61, s36, s37, s38, s39, s40, s41, s62, s42, s43, s44, s45, s46, s47, s63, s48, s49, s50, s51, s52, s53, s64, s54, s55, s56, s57, s58, s59, s0, s1, s2, s3, s4, s5, s6, s7, s8, s9, s10, s11, s12, s13, s14, s15, s16, s17, s18, s19, s20, s21, s22, s23, s24, s25, s26, s27, s28, s29]

/-- An argument dealt to the four copies that read it; those passed on read none. -/
theorem dealt {ℓ : Loc nD τ sig} (π : PosShare TreeShare) (f : Buf (Elt F) ℓ) :
    (ℓ ↦{π} f : sProp (MT nD τ sig Unit (Elt F) ℕ (UU nD τ sig) ℕ)) ⊢ iprop((ℓ ↦{π.left.left} f) ∗ (ℓ ↦{π.left.right} f) ∗ (ℓ ↦{π.right.left} f) ∗ (ℓ ↦{π.right.right} f) ∗ emp ∗ emp ∗ emp) := by
  iintro H
  ihave H := (Moves.quarters π f) $$ H
  icases H with ⟨A, B, C, D⟩
  isplitl [A]; · iexact A
  isplitl [B]; · iexact B
  isplitl [C]; · iexact C
  isplitl [D]; · iexact D
  isplitr; · iempintro
  isplitr <;> iempintro

/-- Rows of a slot, counted through all slots. -/
theorem lies {x0 x1 o0 o1 R h : ℕ} (h0 : o0 ≤ x0 ∧ x0 < o0 + 1) (h1 : o1 ≤ x1 ∧ x1 < o1 + h) : o0 * R + o1 ≤ x0 * R + x1 ∧ x0 * R + x1 < o0 * R + o1 + h := by
  obtain rfl : x0 = o0 := by omega
  omega

theorem rows0 (c : Dev nD) : [(k0_off1 c 0 * 1024 + k0_off1 c 1, 1024), (k0_off5 (flip1s.symm c) 0 * 1024 + k0_off5 (flip1s.symm c) 1, 512), (k0_off5 (flip2s.symm c) 0 * 1024 + k0_off5 (flip2s.symm c) 1, 512), (k0_off5 (flip3s.symm c) 0 * 1024 + k0_off5 (flip3s.symm c) 1, 512), (k0_off13 (sibs.symm c) 0 * 1024 + k0_off13 (sibs.symm c) 1, 512), (k0_off14 (sibs.symm c) 0 * 1024 + k0_off14 (sibs.symm c) 1, 512), (k0_off15 (sibs.symm c) 0 * 1024 + k0_off15 (sibs.symm c) 1, 512)].Pairwise fun a b : ℕ × ℕ => a.1 + a.2 ≤ b.1 ∨ b.1 + b.2 ≤ a.1 := by
  decide +revert

abbrev slotPart0 (b : Dev nD) : Finset main_v1_0.ty.Idx := (slot0 (k0_off1 b) (Facts₀.k0_off1_inb b)).view.set
abbrev part0 (off : Fin 3 → ℕ) (inb : ∀ a, off a + S1x512x772.size a ≤ S4x1024x772.size a) : Finset main_v1_0.ty.Idx := (half0 off inb).view.set

theorem apart0 (c : Dev nD) : (([(slotPart0 c, k0_off1 c 0 * 1024 + k0_off1 c 1, 1024), (part0 (k0_off5 (flip1s.symm c)) (Facts₀.k0_off5_inb (flip1s.symm c)), k0_off5 (flip1s.symm c) 0 * 1024 + k0_off5 (flip1s.symm c) 1, 512), (part0 (k0_off5 (flip2s.symm c)) (Facts₀.k0_off5_inb (flip2s.symm c)), k0_off5 (flip2s.symm c) 0 * 1024 + k0_off5 (flip2s.symm c) 1, 512), (part0 (k0_off5 (flip3s.symm c)) (Facts₀.k0_off5_inb (flip3s.symm c)), k0_off5 (flip3s.symm c) 0 * 1024 + k0_off5 (flip3s.symm c) 1, 512), (part0 (k0_off13 (sibs.symm c)) (Facts₀.k0_off13_inb (sibs.symm c)), k0_off13 (sibs.symm c) 0 * 1024 + k0_off13 (sibs.symm c) 1, 512), (part0 (k0_off14 (sibs.symm c)) (Facts₀.k0_off14_inb (sibs.symm c)), k0_off14 (sibs.symm c) 0 * 1024 + k0_off14 (sibs.symm c) 1, 512), (part0 (k0_off15 (sibs.symm c)) (Facts₀.k0_off15_inb (sibs.symm c)), k0_off15 (sibs.symm c) 0 * 1024 + k0_off15 (sibs.symm c) 1, 512)] : List (Finset main_v1_0.ty.Idx × ℕ × ℕ)).map fun t => t.1).Pairwise Disjoint :=
  apart (X := main_v1_0.ty.Idx) (fun i => (i 0).val * 1024 + (i 1).val) _
    ⟨fun i hi => lies (mem_slab hi 0) (mem_slab hi 1), fun i hi => lies (mem_slab hi 0) (mem_slab hi 1), fun i hi => lies (mem_slab hi 0) (mem_slab hi 1), fun i hi => lies (mem_slab hi 0) (mem_slab hi 1), fun i hi => lies (mem_slab hi 0) (mem_slab hi 1), fun i hi => lies (mem_slab hi 0) (mem_slab hi 1), fun i hi => lies (mem_slab hi 0) (mem_slab hi 1)⟩ (rows0 c)

theorem rooms0 (c : Dev nD) : (((c.tc : Thread nD τ).loc main_v1_0) ↦{fullShare} m ((c.tc : Thread nD τ).loc main_v1_0))
    ⊢ bigSepL [s60, s30, s31, s32, s33, s34, s35] ((moves m).plan.dst c) :=
  (moves m).rooms_of c main_v1_0 [s60, s30, s31, s32, s33, s34, s35] _ (apart0 c) rfl

theorem rows1 (c : Dev nD) : [(k0_off2 c 0 * 256 + k0_off2 c 1, 256), (k0_off7 (flip1s.symm c) 0 * 256 + k0_off7 (flip1s.symm c) 1, 128), (k0_off7 (flip2s.symm c) 0 * 256 + k0_off7 (flip2s.symm c) 1, 128), (k0_off7 (flip3s.symm c) 0 * 256 + k0_off7 (flip3s.symm c) 1, 128), (k0_off16 (sibs.symm c) 0 * 256 + k0_off16 (sibs.symm c) 1, 128), (k0_off17 (sibs.symm c) 0 * 256 + k0_off17 (sibs.symm c) 1, 128), (k0_off18 (sibs.symm c) 0 * 256 + k0_off18 (sibs.symm c) 1, 128)].Pairwise fun a b : ℕ × ℕ => a.1 + a.2 ≤ b.1 ∨ b.1 + b.2 ≤ a.1 := by
  decide +revert

abbrev slotPart1 (b : Dev nD) : Finset main_v1_1.ty.Idx := (slot1 (k0_off2 b) (Facts₀.k0_off2_inb b)).view.set
abbrev part1 (off : Fin 3 → ℕ) (inb : ∀ a, off a + S1x128x1024.size a ≤ S4x256x1024.size a) : Finset main_v1_1.ty.Idx := (half1 off inb).view.set

theorem apart1 (c : Dev nD) : (([(slotPart1 c, k0_off2 c 0 * 256 + k0_off2 c 1, 256), (part1 (k0_off7 (flip1s.symm c)) (Facts₀.k0_off7_inb (flip1s.symm c)), k0_off7 (flip1s.symm c) 0 * 256 + k0_off7 (flip1s.symm c) 1, 128), (part1 (k0_off7 (flip2s.symm c)) (Facts₀.k0_off7_inb (flip2s.symm c)), k0_off7 (flip2s.symm c) 0 * 256 + k0_off7 (flip2s.symm c) 1, 128), (part1 (k0_off7 (flip3s.symm c)) (Facts₀.k0_off7_inb (flip3s.symm c)), k0_off7 (flip3s.symm c) 0 * 256 + k0_off7 (flip3s.symm c) 1, 128), (part1 (k0_off16 (sibs.symm c)) (Facts₀.k0_off16_inb (sibs.symm c)), k0_off16 (sibs.symm c) 0 * 256 + k0_off16 (sibs.symm c) 1, 128), (part1 (k0_off17 (sibs.symm c)) (Facts₀.k0_off17_inb (sibs.symm c)), k0_off17 (sibs.symm c) 0 * 256 + k0_off17 (sibs.symm c) 1, 128), (part1 (k0_off18 (sibs.symm c)) (Facts₀.k0_off18_inb (sibs.symm c)), k0_off18 (sibs.symm c) 0 * 256 + k0_off18 (sibs.symm c) 1, 128)] : List (Finset main_v1_1.ty.Idx × ℕ × ℕ)).map fun t => t.1).Pairwise Disjoint :=
  apart (X := main_v1_1.ty.Idx) (fun i => (i 0).val * 256 + (i 1).val) _
    ⟨fun i hi => lies (mem_slab hi 0) (mem_slab hi 1), fun i hi => lies (mem_slab hi 0) (mem_slab hi 1), fun i hi => lies (mem_slab hi 0) (mem_slab hi 1), fun i hi => lies (mem_slab hi 0) (mem_slab hi 1), fun i hi => lies (mem_slab hi 0) (mem_slab hi 1), fun i hi => lies (mem_slab hi 0) (mem_slab hi 1), fun i hi => lies (mem_slab hi 0) (mem_slab hi 1)⟩ (rows1 c)

theorem rooms1 (c : Dev nD) : (((c.tc : Thread nD τ).loc main_v1_1) ↦{fullShare} m ((c.tc : Thread nD τ).loc main_v1_1))
    ⊢ bigSepL [s61, s36, s37, s38, s39, s40, s41] ((moves m).plan.dst c) :=
  (moves m).rooms_of c main_v1_1 [s61, s36, s37, s38, s39, s40, s41] _ (apart1 c) rfl

theorem rows2 (c : Dev nD) : [(k0_off3 c 0 * 1024 + k0_off3 c 1, 1024), (k0_off9 (flip1s.symm c) 0 * 1024 + k0_off9 (flip1s.symm c) 1, 512), (k0_off9 (flip2s.symm c) 0 * 1024 + k0_off9 (flip2s.symm c) 1, 512), (k0_off9 (flip3s.symm c) 0 * 1024 + k0_off9 (flip3s.symm c) 1, 512), (k0_off19 (sibs.symm c) 0 * 1024 + k0_off19 (sibs.symm c) 1, 512), (k0_off20 (sibs.symm c) 0 * 1024 + k0_off20 (sibs.symm c) 1, 512), (k0_off21 (sibs.symm c) 0 * 1024 + k0_off21 (sibs.symm c) 1, 512)].Pairwise fun a b : ℕ × ℕ => a.1 + a.2 ≤ b.1 ∨ b.1 + b.2 ≤ a.1 := by
  decide +revert

abbrev slotPart2 (b : Dev nD) : Finset main_v1_2.ty.Idx := (slot2 (k0_off3 b) (Facts₀.k0_off3_inb b)).view.set
abbrev part2 (off : Fin 3 → ℕ) (inb : ∀ a, off a + S1x512x1024.size a ≤ S4x1024x1024.size a) : Finset main_v1_2.ty.Idx := (half2 off inb).view.set

theorem apart2 (c : Dev nD) : (([(slotPart2 c, k0_off3 c 0 * 1024 + k0_off3 c 1, 1024), (part2 (k0_off9 (flip1s.symm c)) (Facts₀.k0_off9_inb (flip1s.symm c)), k0_off9 (flip1s.symm c) 0 * 1024 + k0_off9 (flip1s.symm c) 1, 512), (part2 (k0_off9 (flip2s.symm c)) (Facts₀.k0_off9_inb (flip2s.symm c)), k0_off9 (flip2s.symm c) 0 * 1024 + k0_off9 (flip2s.symm c) 1, 512), (part2 (k0_off9 (flip3s.symm c)) (Facts₀.k0_off9_inb (flip3s.symm c)), k0_off9 (flip3s.symm c) 0 * 1024 + k0_off9 (flip3s.symm c) 1, 512), (part2 (k0_off19 (sibs.symm c)) (Facts₀.k0_off19_inb (sibs.symm c)), k0_off19 (sibs.symm c) 0 * 1024 + k0_off19 (sibs.symm c) 1, 512), (part2 (k0_off20 (sibs.symm c)) (Facts₀.k0_off20_inb (sibs.symm c)), k0_off20 (sibs.symm c) 0 * 1024 + k0_off20 (sibs.symm c) 1, 512), (part2 (k0_off21 (sibs.symm c)) (Facts₀.k0_off21_inb (sibs.symm c)), k0_off21 (sibs.symm c) 0 * 1024 + k0_off21 (sibs.symm c) 1, 512)] : List (Finset main_v1_2.ty.Idx × ℕ × ℕ)).map fun t => t.1).Pairwise Disjoint :=
  apart (X := main_v1_2.ty.Idx) (fun i => (i 0).val * 1024 + (i 1).val) _
    ⟨fun i hi => lies (mem_slab hi 0) (mem_slab hi 1), fun i hi => lies (mem_slab hi 0) (mem_slab hi 1), fun i hi => lies (mem_slab hi 0) (mem_slab hi 1), fun i hi => lies (mem_slab hi 0) (mem_slab hi 1), fun i hi => lies (mem_slab hi 0) (mem_slab hi 1), fun i hi => lies (mem_slab hi 0) (mem_slab hi 1), fun i hi => lies (mem_slab hi 0) (mem_slab hi 1)⟩ (rows2 c)

theorem rooms2 (c : Dev nD) : (((c.tc : Thread nD τ).loc main_v1_2) ↦{fullShare} m ((c.tc : Thread nD τ).loc main_v1_2))
    ⊢ bigSepL [s62, s42, s43, s44, s45, s46, s47] ((moves m).plan.dst c) :=
  (moves m).rooms_of c main_v1_2 [s62, s42, s43, s44, s45, s46, s47] _ (apart2 c) rfl

abbrev slotPart3 (b : Dev nD) : Finset main_v1_3.ty.Idx := (slot3 (k0_off3 b) (Facts₀.k0_off3_inb b)).view.set
abbrev part3 (off : Fin 3 → ℕ) (inb : ∀ a, off a + S1x512x1024.size a ≤ S4x1024x1024.size a) : Finset main_v1_3.ty.Idx := (half3 off inb).view.set

theorem apart3 (c : Dev nD) : (([(slotPart3 c, k0_off3 c 0 * 1024 + k0_off3 c 1, 1024), (part3 (k0_off9 (flip1s.symm c)) (Facts₀.k0_off9_inb (flip1s.symm c)), k0_off9 (flip1s.symm c) 0 * 1024 + k0_off9 (flip1s.symm c) 1, 512), (part3 (k0_off9 (flip2s.symm c)) (Facts₀.k0_off9_inb (flip2s.symm c)), k0_off9 (flip2s.symm c) 0 * 1024 + k0_off9 (flip2s.symm c) 1, 512), (part3 (k0_off9 (flip3s.symm c)) (Facts₀.k0_off9_inb (flip3s.symm c)), k0_off9 (flip3s.symm c) 0 * 1024 + k0_off9 (flip3s.symm c) 1, 512), (part3 (k0_off19 (sibs.symm c)) (Facts₀.k0_off19_inb (sibs.symm c)), k0_off19 (sibs.symm c) 0 * 1024 + k0_off19 (sibs.symm c) 1, 512), (part3 (k0_off20 (sibs.symm c)) (Facts₀.k0_off20_inb (sibs.symm c)), k0_off20 (sibs.symm c) 0 * 1024 + k0_off20 (sibs.symm c) 1, 512), (part3 (k0_off21 (sibs.symm c)) (Facts₀.k0_off21_inb (sibs.symm c)), k0_off21 (sibs.symm c) 0 * 1024 + k0_off21 (sibs.symm c) 1, 512)] : List (Finset main_v1_3.ty.Idx × ℕ × ℕ)).map fun t => t.1).Pairwise Disjoint :=
  apart (X := main_v1_3.ty.Idx) (fun i => (i 0).val * 1024 + (i 1).val) _
    ⟨fun i hi => lies (mem_slab hi 0) (mem_slab hi 1), fun i hi => lies (mem_slab hi 0) (mem_slab hi 1), fun i hi => lies (mem_slab hi 0) (mem_slab hi 1), fun i hi => lies (mem_slab hi 0) (mem_slab hi 1), fun i hi => lies (mem_slab hi 0) (mem_slab hi 1), fun i hi => lies (mem_slab hi 0) (mem_slab hi 1), fun i hi => lies (mem_slab hi 0) (mem_slab hi 1)⟩ (rows2 c)

theorem rooms3 (c : Dev nD) : (((c.tc : Thread nD τ).loc main_v1_3) ↦{fullShare} m ((c.tc : Thread nD τ).loc main_v1_3))
    ⊢ bigSepL [s63, s48, s49, s50, s51, s52, s53] ((moves m).plan.dst c) :=
  (moves m).rooms_of c main_v1_3 [s63, s48, s49, s50, s51, s52, s53] _ (apart3 c) rfl

theorem rows4 (c : Dev nD) : [(k0_off4 c 0 * 16 + k0_off4 c 1, 16), (k0_off11 (flip1s.symm c) 0 * 16 + k0_off11 (flip1s.symm c) 1, 8), (k0_off11 (flip2s.symm c) 0 * 16 + k0_off11 (flip2s.symm c) 1, 8), (k0_off11 (flip3s.symm c) 0 * 16 + k0_off11 (flip3s.symm c) 1, 8), (k0_off22 (sibs.symm c) 0 * 16 + k0_off22 (sibs.symm c) 1, 8), (k0_off23 (sibs.symm c) 0 * 16 + k0_off23 (sibs.symm c) 1, 8), (k0_off24 (sibs.symm c) 0 * 16 + k0_off24 (sibs.symm c) 1, 8)].Pairwise fun a b : ℕ × ℕ => a.1 + a.2 ≤ b.1 ∨ b.1 + b.2 ≤ a.1 := by
  decide +revert

abbrev slotPart4 (b : Dev nD) : Finset main_v1_4.ty.Idx := (slot4 (k0_off4 b) (Facts₀.k0_off4_inb b)).view.set
abbrev part4 (off : Fin 3 → ℕ) (inb : ∀ a, off a + S1x8x64.size a ≤ S4x16x64.size a) : Finset main_v1_4.ty.Idx := (half4 off inb).view.set

theorem apart4 (c : Dev nD) : (([(slotPart4 c, k0_off4 c 0 * 16 + k0_off4 c 1, 16), (part4 (k0_off11 (flip1s.symm c)) (Facts₀.k0_off11_inb (flip1s.symm c)), k0_off11 (flip1s.symm c) 0 * 16 + k0_off11 (flip1s.symm c) 1, 8), (part4 (k0_off11 (flip2s.symm c)) (Facts₀.k0_off11_inb (flip2s.symm c)), k0_off11 (flip2s.symm c) 0 * 16 + k0_off11 (flip2s.symm c) 1, 8), (part4 (k0_off11 (flip3s.symm c)) (Facts₀.k0_off11_inb (flip3s.symm c)), k0_off11 (flip3s.symm c) 0 * 16 + k0_off11 (flip3s.symm c) 1, 8), (part4 (k0_off22 (sibs.symm c)) (Facts₀.k0_off22_inb (sibs.symm c)), k0_off22 (sibs.symm c) 0 * 16 + k0_off22 (sibs.symm c) 1, 8), (part4 (k0_off23 (sibs.symm c)) (Facts₀.k0_off23_inb (sibs.symm c)), k0_off23 (sibs.symm c) 0 * 16 + k0_off23 (sibs.symm c) 1, 8), (part4 (k0_off24 (sibs.symm c)) (Facts₀.k0_off24_inb (sibs.symm c)), k0_off24 (sibs.symm c) 0 * 16 + k0_off24 (sibs.symm c) 1, 8)] : List (Finset main_v1_4.ty.Idx × ℕ × ℕ)).map fun t => t.1).Pairwise Disjoint :=
  apart (X := main_v1_4.ty.Idx) (fun i => (i 0).val * 16 + (i 1).val) _
    ⟨fun i hi => lies (mem_slab hi 0) (mem_slab hi 1), fun i hi => lies (mem_slab hi 0) (mem_slab hi 1), fun i hi => lies (mem_slab hi 0) (mem_slab hi 1), fun i hi => lies (mem_slab hi 0) (mem_slab hi 1), fun i hi => lies (mem_slab hi 0) (mem_slab hi 1), fun i hi => lies (mem_slab hi 0) (mem_slab hi 1), fun i hi => lies (mem_slab hi 0) (mem_slab hi 1)⟩ (rows4 c)

theorem rooms4 (c : Dev nD) : (((c.tc : Thread nD τ).loc main_v1_4) ↦{fullShare} m ((c.tc : Thread nD τ).loc main_v1_4))
    ⊢ bigSepL [s64, s54, s55, s56, s57, s58, s59] ((moves m).plan.dst c) :=
  (moves m).rooms_of c main_v1_4 [s64, s54, s55, s56, s57, s58, s59] _ (apart4 c) rfl

set_option maxRecDepth 4000 in
theorem deal (c : Dev nD) :
    (unscopedRest (cfg0.spec) c (fun b => m ((c.tc : Thread nD τ).loc b)) : sProp (MT nD τ sig Unit (Elt F) ℕ (UU nD τ sig) ℕ))
      ⊢ iprop(bigSep Finset.univ ((moves m).plan.src c) ∗ bigSep Finset.univ ((moves m).plan.dst c) ∗ (moves m).aside args c) := by
  rw [unscopedRest0_eq]
  exact (moves m).deal_all c arrays rest cells rfl (by decide) (by decide) (show ∀ q ∈ rest, decide (30 ≤ q.val) = false from by decide)
    ⟨dealt _ _, dealt _ _, dealt _ _, dealt _ _, dealt _ _⟩ ⟨rooms0 m c, rooms1 m c, rooms2 m c, rooms3 m c, rooms4 m c⟩

/-! ## The run -/

theorem own : OwnSemFacts (cfg0.spec) (Plan.osem (sig := sig)) := by decide
theorem all_remote (q : DmaSem sig) (_ : (moves m).plan.remote q = true) : q ∈ all := by clear * -; revert q; decide
theorem all_waited : ∀ q : DmaSem sig, q ∈ waited := by decide

set_option maxRecDepth 20000 in
theorem run (g : Dev nD → PrngReg) :
    θ_run (defs (F := F)) (onTc (τ := τ) (main (F := F))) ⟨m, fun _ => 0, g⟩ fun r =>
      (∀ c, (moves m).After args c r.2.mem) ∧ r.2.sem = fun _ => 0 :=
  (moves m).plan.run (pcfgs (F := F)) (fun p => (cfgs p).toPCfg_adm) 0 ((moves m).aside args) cellOf_inj own winFacts0.to₀
    defs₀ Variants.none (fun _ => inferInstanceAs (IsEmpty (Fin 0))) (inferInstanceAs (IsEmpty (Fin 0))) N_0 scopedRest0_eq m g main (fun _ => rfl) all waited
    (all_remote m) all_waited (fun t c K H R hR => body m t c K H R hR) (deal m) (fun c s => (moves m).After args c s.mem)
    ((moves m).after args) fun s hY hz => ⟨hY, sem_eq_zero_of_scoped (by decide) hz⟩

end Cert.GatherWeightsIdeal

end
-- ==== Proof.Places.lean ====
/-
# Where the elements of a piece lie

A piece cut out of an array, and one read with its leading axis dropped: the index of each of its elements in the array.
-/
module

public import Idealize.ShloMosaic.Lib.Pipeline.Value
public import Idealize.ShloMosaic.Lib.Rounds

@[expose] public section

noncomputable section

namespace Cert.Exchange

open Idealize.ShloMosaic
open Idealize.ShloMosaic.TcCoe

variable {sig : RefSig} {sp : Space} {e : EltTy}

/-- In a piece of a matrix. -/
theorem emb_piece {R W h w : ℕ} (v : Memref sig .tc sp ⟨2, ![R, W]⟩ e) {off : Fin 2 → ℕ} {inb : ∀ a, off a + (⟨2, ![h, w]⟩ : Shape).size a ≤ (⟨2, ![R, W]⟩ : Shape).size a}
    {hs} (o o' : ℕ) (ho : off = ![o, o']) (k : (⟨2, ![h, w]⟩ : Shape).Idx) (i : (⟨2, ![R, W]⟩ : Shape).Idx) (h0 : (i 0).val = o + (k 0).val) (h1 : (i 1).val = o' + (k 1).val) :
    (v.slice (Rect.unit (s := ⟨2, ![R, W]⟩) off (⟨2, ![h, w]⟩ : Shape).size inb) hs).view.emb k = v.view.emb i := by
  refine congrArg v.view.emb ?_
  subst ho
  funext a
  apply Fin.ext
  match a with
  | ⟨0, _⟩ => show o + 1 * (k 0).val = (i 0).val; omega
  | ⟨1, _⟩ => show o' + 1 * (k 1).val = (i 1).val; omega

/-- In a piece of one slab of an array of matrices, read as a matrix. -/
theorem emb_slab {N R W h : ℕ} (v : Memref sig .tc sp ⟨3, ![N, R, W]⟩ e) {off : Fin 3 → ℕ} {inb : ∀ a, off a + (⟨3, ![1, h, W]⟩ : Shape).size a ≤ (⟨3, ![N, R, W]⟩ : Shape).size a}
    {hs} {hq} (n o : ℕ) (ho : off = ![n, o, 0]) (k : (⟨2, ![h, W]⟩ : Shape).Idx) (i : (⟨3, ![N, R, W]⟩ : Shape).Idx)
    (h0 : (i 0).val = n) (h1 : (i 1).val = o + (k 0).val) (h2 : (i 2).val = (k 1).val) :
    ((v.slice (Rect.unit (s := ⟨3, ![N, R, W]⟩) off (⟨3, ![1, h, W]⟩ : Shape).size inb) hs).squeeze ⟨2, ![h, W]⟩ hq).view.emb k = v.view.emb i := by
  let k' : (⟨3, ![1, h, W]⟩ : Shape).Idx := fun a => match a with | ⟨0, _⟩ => ⟨0, Nat.one_pos⟩ | ⟨1, _⟩ => ⟨(k 0).val, (k 0).isLt⟩ | ⟨2, _⟩ => ⟨(k 1).val, (k 1).isLt⟩
  refine (congrArg (fun x => v.view.emb ((Rect.unit (s := ⟨3, ![N, R, W]⟩) off (⟨3, ![1, h, W]⟩ : Shape).size inb).emb x)) (Shape.reshapeEquiv_eq_of_rowMajor _ (y := k') ?_)).trans (congrArg v.view.emb ?_)
  · refine (Shape.rowMajor_val_three _).trans (.trans ?_ (Shape.rowMajor_val_two _).symm)
    show (0 * h + (k 0).val) * W + (k 1).val = (k 0).val * W + (k 1).val
    rw [Nat.zero_mul, Nat.zero_add]
  · subst ho
    funext a
    apply Fin.ext
    match a with
    | ⟨0, _⟩ => show n + 1 * 0 = (i 0).val; omega
    | ⟨1, _⟩ => show o + 1 * (k 0).val = (i 1).val; omega
    | ⟨2, _⟩ => show 0 + 1 * (k 1).val = (i 2).val; omega

end Cert.Exchange

end
-- ==== Proof.WeightsValue.lean ====
/-
# The gathering of the weights: its claims

Slot after slot, each result holds the shard of the chip of that number: half of it came straight from the device of that
chip, the other half by way of the sibling.
-/
module

public import proofs.«01_k».proof.Defs
public import proofs.«01_k».proof.Proof.WeightsRun
public import proofs.«01_k».proof.Proof.Gen.GatherWeights
public import proofs.«01_k».proof.Proof.Gen.GatherWeightsRefIdeal.Run
public import proofs.«01_k».proof.Proof.Places

@[expose] public section

noncomputable section

open Idealize.ShloMosaic
open Idealize.ShloMosaic.TcCoe
open Idealize.SL.Sem
open Cert.Exchange

namespace Cert.GatherWeightsIdeal

variable {F : FTy → Type} [FloatOps F]

/-! ## The reference -/

/-- Blocks of columns, one below the other. -/
theorem columns {α : Type} (R W C : Nat) (x : (⟨2, ![R, C]⟩ : Shape).Idx → α)
    (h1 : (⟨2, ![R, C]⟩ : Shape).ShapeCasts ⟨3, ![R, 4, W]⟩) (h2 : (⟨3, ![R, 4, W]⟩ : Shape).Transposes [1, 0, 2] ⟨3, ![4, R, W]⟩)
    (hN : Layout.TilesN ⟨2, ![R, W]⟩ ⟨2, ![R, C]⟩ fun b => Layout.cutSize [2, 2, 2] ((![[], [0, 1]] : Fin 2 → List Nat) b)) (hC : C = 4 * W)
    (d : Fin 8) (i : (⟨3, ![4, R, W]⟩ : Shape).Idx) (k : (⟨2, ![R, W]⟩ : Shape).Idx) (hd : d.val / 2 = (i 0).val) (hk0 : (k 0).val = (i 1).val) (hk1 : (k 1).val = (i 2).val) :
    Layout.blockN ⟨2, ![R, W]⟩ ⟨2, ![R, C]⟩ (Layout.meshBlock [2, 2, 2] ![[], [0, 1]] d) x hN k =
    transpose (⟨3, ![4, R, W]⟩ : Shape) [1, 0, 2] (shapeCast (⟨3, ![R, 4, W]⟩ : Shape) x h1) h2 i := by
  rw [Layout.blockN_apply]
  let j : (⟨3, ![R, 4, W]⟩ : Shape).Idx := fun a => match a with | ⟨0, _⟩ => ⟨(i 1).val, (i 1).isLt⟩ | ⟨1, _⟩ => ⟨(i 0).val, (i 0).isLt⟩ | ⟨2, _⟩ => ⟨(i 2).val, (i 2).isLt⟩
  symm
  refine (transpose_apply _ _ h2 i j (fun b => ?_)).trans (shapeCast_apply _ h1 j _ ?_)
  · match b with | ⟨0, _⟩ => rfl | ⟨1, _⟩ => rfl | ⟨2, _⟩ => rfl
  have hd' := d.isLt
  have e0 : ((hN.idx (Layout.meshBlock [2, 2, 2] ![[], [0, 1]] d) k) 0).val = (i 1).val := by
    refine (Layout.TilesN.idx_val hN _ k 0).trans ?_
    show 0 * R + (k 0).val = _
    omega
  have e1 : ((hN.idx (Layout.meshBlock [2, 2, 2] ![[], [0, 1]] d) k) 1).val = (i 0).val * W + (i 2).val := by
    refine (Layout.TilesN.idx_val hN _ k 1).trans ?_
    show (d.val / 4 % 2 * 2 + (d.val / 2 % 2 * 1 + 0)) * W + (k 1).val = _
    rw [show d.val / 4 % 2 * 2 + (d.val / 2 % 2 * 1 + 0) = (i 0).val by omega, hk1]
  rw [Shape.rowMajor_val_three, Shape.rowMajor_val_two, e0, e1]
  show (i 1).val * C + ((i 0).val * W + (i 2).val) = ((i 1).val * 4 + (i 0).val) * W + (i 2).val
  rw [hC, Nat.add_mul, Nat.mul_assoc, Nat.add_assoc]

/-- Blocks of rows. -/
theorem bands {α : Type} (R W B : Nat) (x : (⟨2, ![B, W]⟩ : Shape).Idx → α) (h1 : (⟨2, ![B, W]⟩ : Shape).ShapeCasts ⟨3, ![4, R, W]⟩)
    (hN : Layout.TilesN ⟨2, ![R, W]⟩ ⟨2, ![B, W]⟩ fun b => Layout.cutSize [2, 2, 2] ((![[0, 1], []] : Fin 2 → List Nat) b))
    (d : Fin 8) (i : (⟨3, ![4, R, W]⟩ : Shape).Idx) (k : (⟨2, ![R, W]⟩ : Shape).Idx) (hd : d.val / 2 = (i 0).val) (hk0 : (k 0).val = (i 1).val) (hk1 : (k 1).val = (i 2).val) :
    Layout.blockN ⟨2, ![R, W]⟩ ⟨2, ![B, W]⟩ (Layout.meshBlock [2, 2, 2] ![[0, 1], []] d) x hN k = shapeCast (⟨3, ![4, R, W]⟩ : Shape) x h1 i := by
  rw [Layout.blockN_apply]
  refine (shapeCast_apply _ h1 i _ ?_).symm
  have hd' := d.isLt
  have e0 : ((hN.idx (Layout.meshBlock [2, 2, 2] ![[0, 1], []] d) k) 0).val = (i 0).val * R + (i 1).val := by
    refine (Layout.TilesN.idx_val hN _ k 0).trans ?_
    show (d.val / 4 % 2 * 2 + (d.val / 2 % 2 * 1 + 0)) * R + (k 0).val = _
    rw [show d.val / 4 % 2 * 2 + (d.val / 2 % 2 * 1 + 0) = (i 0).val by omega, hk0]
  have e1 : ((hN.idx (Layout.meshBlock [2, 2, 2] ![[0, 1], []] d) k) 1).val = (i 2).val := by
    refine (Layout.TilesN.idx_val hN _ k 1).trans ?_
    show 0 * W + (k 1).val = _
    omega
  rw [Shape.rowMajor_val_three, Shape.rowMajor_val_two, e0, e1]
  rfl

/-! ## The kernel -/

/-- The chips: a device's own, and those of the devices that differ from it in the first two coordinates. -/
theorem chip (c : Dev nD) (n : ℕ) (h : n < 4) : n = c.val / 2 ∨ n = (flip1s.symm c).val / 2 ∨ n = (flip2s.symm c).val / 2 ∨ n = (flip3s.symm c).val / 2 := by
  have key : ∀ (c : Dev nD) (n : Fin 4), n.val = c.val / 2 ∨ n.val = (flip1s.symm c).val / 2 ∨ n.val = (flip2s.symm c).val / 2 ∨ n.val = (flip3s.symm c).val / 2 := by decide
  exact key c ⟨n, h⟩

theorem beside0 (c : Dev nD) : (flip1s.symm (sibs.symm c)).val / 2 = (flip1s.symm c).val / 2 := by decide +revert
theorem beside1 (c : Dev nD) : (flip2s.symm (sibs.symm c)).val / 2 = (flip2s.symm c).val / 2 := by decide +revert
theorem beside2 (c : Dev nD) : (flip3s.symm (sibs.symm c)).val / 2 = (flip3s.symm c).val / 2 := by decide +revert

/-! Where the copies of each array are taken from and go. -/

theorem own0 (c : Dev nD) : k0_off1 c = ![c.val / 2, 0, 0] := by decide +revert
theorem near0_0 (c : Dev nD) : k0_off5 (flip1s.symm c) = ![(flip1s.symm c).val / 2, 512 * (c.val % 2), 0] ∧ k0_off6 (flip1s.symm c) = ![512 * (c.val % 2), 0] := by decide +revert
theorem far0_0 (c : Dev nD) : k0_off13 (sibs.symm c) = ![(flip1s.symm c).val / 2, 512 * (1 - c.val % 2), 0] ∧ k0_off6 (flip1s.symm (sibs.symm c)) = ![512 * (1 - c.val % 2), 0] := by decide +revert
theorem near0_1 (c : Dev nD) : k0_off5 (flip2s.symm c) = ![(flip2s.symm c).val / 2, 512 * (c.val % 2), 0] ∧ k0_off6 (flip2s.symm c) = ![512 * (c.val % 2), 0] := by decide +revert
theorem far0_1 (c : Dev nD) : k0_off14 (sibs.symm c) = ![(flip2s.symm c).val / 2, 512 * (1 - c.val % 2), 0] ∧ k0_off6 (flip2s.symm (sibs.symm c)) = ![512 * (1 - c.val % 2), 0] := by decide +revert
theorem near0_2 (c : Dev nD) : k0_off5 (flip3s.symm c) = ![(flip3s.symm c).val / 2, 512 * (c.val % 2), 0] ∧ k0_off6 (flip3s.symm c) = ![512 * (c.val % 2), 0] := by decide +revert
theorem far0_2 (c : Dev nD) : k0_off15 (sibs.symm c) = ![(flip3s.symm c).val / 2, 512 * (1 - c.val % 2), 0] ∧ k0_off6 (flip3s.symm (sibs.symm c)) = ![512 * (1 - c.val % 2), 0] := by decide +revert
theorem own1 (c : Dev nD) : k0_off2 c = ![c.val / 2, 0, 0] := by decide +revert
theorem near1_0 (c : Dev nD) : k0_off7 (flip1s.symm c) = ![(flip1s.symm c).val / 2, 128 * (c.val % 2), 0] ∧ k0_off8 (flip1s.symm c) = ![128 * (c.val % 2), 0] := by decide +revert
theorem far1_0 (c : Dev nD) : k0_off16 (sibs.symm c) = ![(flip1s.symm c).val / 2, 128 * (1 - c.val % 2), 0] ∧ k0_off8 (flip1s.symm (sibs.symm c)) = ![128 * (1 - c.val % 2), 0] := by decide +revert
theorem near1_1 (c : Dev nD) : k0_off7 (flip2s.symm c) = ![(flip2s.symm c).val / 2, 128 * (c.val % 2), 0] ∧ k0_off8 (flip2s.symm c) = ![128 * (c.val % 2), 0] := by decide +revert
theorem far1_1 (c : Dev nD) : k0_off17 (sibs.symm c) = ![(flip2s.symm c).val / 2, 128 * (1 - c.val % 2), 0] ∧ k0_off8 (flip2s.symm (sibs.symm c)) = ![128 * (1 - c.val % 2), 0] := by decide +revert
theorem near1_2 (c : Dev nD) : k0_off7 (flip3s.symm c) = ![(flip3s.symm c).val / 2, 128 * (c.val % 2), 0] ∧ k0_off8 (flip3s.symm c) = ![128 * (c.val % 2), 0] := by decide +revert
theorem far1_2 (c : Dev nD) : k0_off18 (sibs.symm c) = ![(flip3s.symm c).val / 2, 128 * (1 - c.val % 2), 0] ∧ k0_off8 (flip3s.symm (sibs.symm c)) = ![128 * (1 - c.val % 2), 0] := by decide +revert
theorem own2 (c : Dev nD) : k0_off3 c = ![c.val / 2, 0, 0] := by decide +revert
theorem near2_0 (c : Dev nD) : k0_off9 (flip1s.symm c) = ![(flip1s.symm c).val / 2, 512 * (c.val % 2), 0] ∧ k0_off10 (flip1s.symm c) = ![512 * (c.val % 2), 0] := by decide +revert
theorem far2_0 (c : Dev nD) : k0_off19 (sibs.symm c) = ![(flip1s.symm c).val / 2, 512 * (1 - c.val % 2), 0] ∧ k0_off10 (flip1s.symm (sibs.symm c)) = ![512 * (1 - c.val % 2), 0] := by decide +revert
theorem near2_1 (c : Dev nD) : k0_off9 (flip2s.symm c) = ![(flip2s.symm c).val / 2, 512 * (c.val % 2), 0] ∧ k0_off10 (flip2s.symm c) = ![512 * (c.val % 2), 0] := by decide +revert
theorem far2_1 (c : Dev nD) : k0_off20 (sibs.symm c) = ![(flip2s.symm c).val / 2, 512 * (1 - c.val % 2), 0] ∧ k0_off10 (flip2s.symm (sibs.symm c)) = ![512 * (1 - c.val % 2), 0] := by decide +revert
theorem near2_2 (c : Dev nD) : k0_off9 (flip3s.symm c) = ![(flip3s.symm c).val / 2, 512 * (c.val % 2), 0] ∧ k0_off10 (flip3s.symm c) = ![512 * (c.val % 2), 0] := by decide +revert
theorem far2_2 (c : Dev nD) : k0_off21 (sibs.symm c) = ![(flip3s.symm c).val / 2, 512 * (1 - c.val % 2), 0] ∧ k0_off10 (flip3s.symm (sibs.symm c)) = ![512 * (1 - c.val % 2), 0] := by decide +revert
theorem own4 (c : Dev nD) : k0_off4 c = ![c.val / 2, 0, 0] := by decide +revert
theorem near4_0 (c : Dev nD) : k0_off11 (flip1s.symm c) = ![(flip1s.symm c).val / 2, 8 * (c.val % 2), 0] ∧ k0_off12 (flip1s.symm c) = ![8 * (c.val % 2), 0] := by decide +revert
theorem far4_0 (c : Dev nD) : k0_off22 (sibs.symm c) = ![(flip1s.symm c).val / 2, 8 * (1 - c.val % 2), 0] ∧ k0_off12 (flip1s.symm (sibs.symm c)) = ![8 * (1 - c.val % 2), 0] := by decide +revert
theorem near4_1 (c : Dev nD) : k0_off11 (flip2s.symm c) = ![(flip2s.symm c).val / 2, 8 * (c.val % 2), 0] ∧ k0_off12 (flip2s.symm c) = ![8 * (c.val % 2), 0] := by decide +revert
theorem far4_1 (c : Dev nD) : k0_off23 (sibs.symm c) = ![(flip2s.symm c).val / 2, 8 * (1 - c.val % 2), 0] ∧ k0_off12 (flip2s.symm (sibs.symm c)) = ![8 * (1 - c.val % 2), 0] := by decide +revert
theorem near4_2 (c : Dev nD) : k0_off11 (flip3s.symm c) = ![(flip3s.symm c).val / 2, 8 * (c.val % 2), 0] ∧ k0_off12 (flip3s.symm c) = ![8 * (c.val % 2), 0] := by decide +revert
theorem far4_2 (c : Dev nD) : k0_off24 (sibs.symm c) = ![(flip3s.symm c).val / 2, 8 * (1 - c.val % 2), 0] ∧ k0_off12 (flip3s.symm (sibs.symm c)) = ![8 * (1 - c.val % 2), 0] := by decide +revert

set_option maxRecDepth 10000 in
/-- What result 0 holds in the end. -/
theorem result0 (m : (ℓ : Loc nD τ sig) → Buf (Elt F) ℓ) (c : Dev nD) (mem : (ℓ : Loc nD τ sig) → Buf (Elt F) ℓ) (h : (moves m).After args c mem)
    (i : S4x1024x772.Idx) (k : S1024x772.Idx) (hk0 : (k 0).val = (i 1).val) (hk1 : (k 1).val = (i 2).val) :
    ∃ d : Dev nD, d.val / 2 = (i 0).val ∧ mem ((c.tc : Thread nD τ).loc main_v1_0) i = m ((d.tc : Thread nD τ).loc main_arg0) k := by
  have hi0 : (i 0).val < 4 := (i 0).isLt
  have hi1 : (i 1).val < 1024 := (i 1).isLt
  have piece (o : ℕ) (ho : o ≤ (i 1).val) (ho' : (i 1).val < o + 512) : ∃ l : S512x772.Idx, (i 1).val = o + (l 0).val ∧ (i 2).val = (l 1).val :=
    ⟨fun a => match a with | ⟨0, _⟩ => ⟨(i 1).val - o, by show _ < 512; omega⟩ | ⟨1, _⟩ => ⟨(i 2).val, (i 2).isLt⟩, by show _ = o + ((i 1).val - o); omega, rfl⟩
  rcases chip c _ hi0 with e | e | e | e
  · refine ⟨c, e.symm, ?_⟩
    exact (congrArg (mem ((c.tc : Thread nD τ).loc main_v1_0)) (show (slot0 (k0_off1 c) (Facts₀.k0_off1_inb c)).view.emb k = i from emb_slab (Memref.whole main_v1_0) _ 0 (own0 c) k i e (by omega) hk1.symm).symm).trans (congrFun (h.1 s60 rfl) k)
  · by_cases hh : 512 * (c.val % 2) ≤ (i 1).val ∧ (i 1).val < 512 * (c.val % 2) + 512
    · obtain ⟨l, l0, l1⟩ := piece _ hh.1 hh.2
      refine ⟨flip1s.symm c, e.symm, ?_⟩
      refine (congrArg (mem ((c.tc : Thread nD τ).loc main_v1_0)) (show (half0 (k0_off5 (flip1s.symm c)) (Facts₀.k0_off5_inb _)).view.emb l = i from emb_slab (Memref.whole main_v1_0) _ _ (near0_0 c).1 l i e l0 l1).symm).trans ((congrFun (h.1 s30 rfl) l).trans ?_)
      exact congrArg (m (((flip1s.symm c).tc : Thread nD τ).loc main_arg0)) (show (piece0 (k0_off6 (flip1s.symm c)) (Facts₀.k0_off6_inb _)).view.emb l = k from emb_piece (Memref.whole main_arg0) _ 0 (near0_0 c).2 l k (by omega) (by omega))
    · obtain ⟨l, l0, l1⟩ := piece (512 * (1 - c.val % 2)) (by omega) (by omega)
      refine ⟨flip1s.symm (sibs.symm c), (beside0 c).trans e.symm, ?_⟩
      refine (congrArg (mem ((c.tc : Thread nD τ).loc main_v1_0)) (show (half0 (k0_off13 (sibs.symm c)) (Facts₀.k0_off13_inb _)).view.emb l = i from emb_slab (Memref.whole main_v1_0) _ _ (far0_0 c).1 l i e l0 l1).symm).trans ((congrFun (h.1 s33 rfl) l).trans ?_)
      exact congrArg (m (((flip1s.symm (sibs.symm c)).tc : Thread nD τ).loc main_arg0)) (show (piece0 (k0_off6 (flip1s.symm (sibs.symm c))) (Facts₀.k0_off6_inb _)).view.emb l = k from emb_piece (Memref.whole main_arg0) _ 0 (far0_0 c).2 l k (by omega) (by omega))
  · by_cases hh : 512 * (c.val % 2) ≤ (i 1).val ∧ (i 1).val < 512 * (c.val % 2) + 512
    · obtain ⟨l, l0, l1⟩ := piece _ hh.1 hh.2
      refine ⟨flip2s.symm c, e.symm, ?_⟩
      refine (congrArg (mem ((c.tc : Thread nD τ).loc main_v1_0)) (show (half0 (k0_off5 (flip2s.symm c)) (Facts₀.k0_off5_inb _)).view.emb l = i from emb_slab (Memref.whole main_v1_0) _ _ (near0_1 c).1 l i e l0 l1).symm).trans ((congrFun (h.1 s31 rfl) l).trans ?_)
      exact congrArg (m (((flip2s.symm c).tc : Thread nD τ).loc main_arg0)) (show (piece0 (k0_off6 (flip2s.symm c)) (Facts₀.k0_off6_inb _)).view.emb l = k from emb_piece (Memref.whole main_arg0) _ 0 (near0_1 c).2 l k (by omega) (by omega))
    · obtain ⟨l, l0, l1⟩ := piece (512 * (1 - c.val % 2)) (by omega) (by omega)
      refine ⟨flip2s.symm (sibs.symm c), (beside1 c).trans e.symm, ?_⟩
      refine (congrArg (mem ((c.tc : Thread nD τ).loc main_v1_0)) (show (half0 (k0_off14 (sibs.symm c)) (Facts₀.k0_off14_inb _)).view.emb l = i from emb_slab (Memref.whole main_v1_0) _ _ (far0_1 c).1 l i e l0 l1).symm).trans ((congrFun (h.1 s34 rfl) l).trans ?_)
      exact congrArg (m (((flip2s.symm (sibs.symm c)).tc : Thread nD τ).loc main_arg0)) (show (piece0 (k0_off6 (flip2s.symm (sibs.symm c))) (Facts₀.k0_off6_inb _)).view.emb l = k from emb_piece (Memref.whole main_arg0) _ 0 (far0_1 c).2 l k (by omega) (by omega))
  · by_cases hh : 512 * (c.val % 2) ≤ (i 1).val ∧ (i 1).val < 512 * (c.val % 2) + 512
    · obtain ⟨l, l0, l1⟩ := piece _ hh.1 hh.2
      refine ⟨flip3s.symm c, e.symm, ?_⟩
      refine (congrArg (mem ((c.tc : Thread nD τ).loc main_v1_0)) (show (half0 (k0_off5 (flip3s.symm c)) (Facts₀.k0_off5_inb _)).view.emb l = i from emb_slab (Memref.whole main_v1_0) _ _ (near0_2 c).1 l i e l0 l1).symm).trans ((congrFun (h.1 s32 rfl) l).trans ?_)
      exact congrArg (m (((flip3s.symm c).tc : Thread nD τ).loc main_arg0)) (show (piece0 (k0_off6 (flip3s.symm c)) (Facts₀.k0_off6_inb _)).view.emb l = k from emb_piece (Memref.whole main_arg0) _ 0 (near0_2 c).2 l k (by omega) (by omega))
    · obtain ⟨l, l0, l1⟩ := piece (512 * (1 - c.val % 2)) (by omega) (by omega)
      refine ⟨flip3s.symm (sibs.symm c), (beside2 c).trans e.symm, ?_⟩
      refine (congrArg (mem ((c.tc : Thread nD τ).loc main_v1_0)) (show (half0 (k0_off15 (sibs.symm c)) (Facts₀.k0_off15_inb _)).view.emb l = i from emb_slab (Memref.whole main_v1_0) _ _ (far0_2 c).1 l i e l0 l1).symm).trans ((congrFun (h.1 s35 rfl) l).trans ?_)
      exact congrArg (m (((flip3s.symm (sibs.symm c)).tc : Thread nD τ).loc main_arg0)) (show (piece0 (k0_off6 (flip3s.symm (sibs.symm c))) (Facts₀.k0_off6_inb _)).view.emb l = k from emb_piece (Memref.whole main_arg0) _ 0 (far0_2 c).2 l k (by omega) (by omega))

set_option maxRecDepth 10000 in
/-- What result 1 holds in the end. -/
theorem result1 (m : (ℓ : Loc nD τ sig) → Buf (Elt F) ℓ) (c : Dev nD) (mem : (ℓ : Loc nD τ sig) → Buf (Elt F) ℓ) (h : (moves m).After args c mem)
    (i : S4x256x1024.Idx) (k : S256x1024.Idx) (hk0 : (k 0).val = (i 1).val) (hk1 : (k 1).val = (i 2).val) :
    ∃ d : Dev nD, d.val / 2 = (i 0).val ∧ mem ((c.tc : Thread nD τ).loc main_v1_1) i = m ((d.tc : Thread nD τ).loc main_arg1) k := by
  have hi0 : (i 0).val < 4 := (i 0).isLt
  have hi1 : (i 1).val < 256 := (i 1).isLt
  have piece (o : ℕ) (ho : o ≤ (i 1).val) (ho' : (i 1).val < o + 128) : ∃ l : S128x1024.Idx, (i 1).val = o + (l 0).val ∧ (i 2).val = (l 1).val :=
    ⟨fun a => match a with | ⟨0, _⟩ => ⟨(i 1).val - o, by show _ < 128; omega⟩ | ⟨1, _⟩ => ⟨(i 2).val, (i 2).isLt⟩, by show _ = o + ((i 1).val - o); omega, rfl⟩
  rcases chip c _ hi0 with e | e | e | e
  · refine ⟨c, e.symm, ?_⟩
    exact (congrArg (mem ((c.tc : Thread nD τ).loc main_v1_1)) (show (slot1 (k0_off2 c) (Facts₀.k0_off2_inb c)).view.emb k = i from emb_slab (Memref.whole main_v1_1) _ 0 (own1 c) k i e (by omega) hk1.symm).symm).trans (congrFun (h.1 s61 rfl) k)
  · by_cases hh : 128 * (c.val % 2) ≤ (i 1).val ∧ (i 1).val < 128 * (c.val % 2) + 128
    · obtain ⟨l, l0, l1⟩ := piece _ hh.1 hh.2
      refine ⟨flip1s.symm c, e.symm, ?_⟩
      refine (congrArg (mem ((c.tc : Thread nD τ).loc main_v1_1)) (show (half1 (k0_off7 (flip1s.symm c)) (Facts₀.k0_off7_inb _)).view.emb l = i from emb_slab (Memref.whole main_v1_1) _ _ (near1_0 c).1 l i e l0 l1).symm).trans ((congrFun (h.1 s36 rfl) l).trans ?_)
      exact congrArg (m (((flip1s.symm c).tc : Thread nD τ).loc main_arg1)) (show (piece1 (k0_off8 (flip1s.symm c)) (Facts₀.k0_off8_inb _)).view.emb l = k from emb_piece (Memref.whole main_arg1) _ 0 (near1_0 c).2 l k (by omega) (by omega))
    · obtain ⟨l, l0, l1⟩ := piece (128 * (1 - c.val % 2)) (by omega) (by omega)
      refine ⟨flip1s.symm (sibs.symm c), (beside0 c).trans e.symm, ?_⟩
      refine (congrArg (mem ((c.tc : Thread nD τ).loc main_v1_1)) (show (half1 (k0_off16 (sibs.symm c)) (Facts₀.k0_off16_inb _)).view.emb l = i from emb_slab (Memref.whole main_v1_1) _ _ (far1_0 c).1 l i e l0 l1).symm).trans ((congrFun (h.1 s39 rfl) l).trans ?_)
      exact congrArg (m (((flip1s.symm (sibs.symm c)).tc : Thread nD τ).loc main_arg1)) (show (piece1 (k0_off8 (flip1s.symm (sibs.symm c))) (Facts₀.k0_off8_inb _)).view.emb l = k from emb_piece (Memref.whole main_arg1) _ 0 (far1_0 c).2 l k (by omega) (by omega))
  · by_cases hh : 128 * (c.val % 2) ≤ (i 1).val ∧ (i 1).val < 128 * (c.val % 2) + 128
    · obtain ⟨l, l0, l1⟩ := piece _ hh.1 hh.2
      refine ⟨flip2s.symm c, e.symm, ?_⟩
      refine (congrArg (mem ((c.tc : Thread nD τ).loc main_v1_1)) (show (half1 (k0_off7 (flip2s.symm c)) (Facts₀.k0_off7_inb _)).view.emb l = i from emb_slab (Memref.whole main_v1_1) _ _ (near1_1 c).1 l i e l0 l1).symm).trans ((congrFun (h.1 s37 rfl) l).trans ?_)
      exact congrArg (m (((flip2s.symm c).tc : Thread nD τ).loc main_arg1)) (show (piece1 (k0_off8 (flip2s.symm c)) (Facts₀.k0_off8_inb _)).view.emb l = k from emb_piece (Memref.whole main_arg1) _ 0 (near1_1 c).2 l k (by omega) (by omega))
    · obtain ⟨l, l0, l1⟩ := piece (128 * (1 - c.val % 2)) (by omega) (by omega)
      refine ⟨flip2s.symm (sibs.symm c), (beside1 c).trans e.symm, ?_⟩
      refine (congrArg (mem ((c.tc : Thread nD τ).loc main_v1_1)) (show (half1 (k0_off17 (sibs.symm c)) (Facts₀.k0_off17_inb _)).view.emb l = i from emb_slab (Memref.whole main_v1_1) _ _ (far1_1 c).1 l i e l0 l1).symm).trans ((congrFun (h.1 s40 rfl) l).trans ?_)
      exact congrArg (m (((flip2s.symm (sibs.symm c)).tc : Thread nD τ).loc main_arg1)) (show (piece1 (k0_off8 (flip2s.symm (sibs.symm c))) (Facts₀.k0_off8_inb _)).view.emb l = k from emb_piece (Memref.whole main_arg1) _ 0 (far1_1 c).2 l k (by omega) (by omega))
  · by_cases hh : 128 * (c.val % 2) ≤ (i 1).val ∧ (i 1).val < 128 * (c.val % 2) + 128
    · obtain ⟨l, l0, l1⟩ := piece _ hh.1 hh.2
      refine ⟨flip3s.symm c, e.symm, ?_⟩
      refine (congrArg (mem ((c.tc : Thread nD τ).loc main_v1_1)) (show (half1 (k0_off7 (flip3s.symm c)) (Facts₀.k0_off7_inb _)).view.emb l = i from emb_slab (Memref.whole main_v1_1) _ _ (near1_2 c).1 l i e l0 l1).symm).trans ((congrFun (h.1 s38 rfl) l).trans ?_)
      exact congrArg (m (((flip3s.symm c).tc : Thread nD τ).loc main_arg1)) (show (piece1 (k0_off8 (flip3s.symm c)) (Facts₀.k0_off8_inb _)).view.emb l = k from emb_piece (Memref.whole main_arg1) _ 0 (near1_2 c).2 l k (by omega) (by omega))
    · obtain ⟨l, l0, l1⟩ := piece (128 * (1 - c.val % 2)) (by omega) (by omega)
      refine ⟨flip3s.symm (sibs.symm c), (beside2 c).trans e.symm, ?_⟩
      refine (congrArg (mem ((c.tc : Thread nD τ).loc main_v1_1)) (show (half1 (k0_off18 (sibs.symm c)) (Facts₀.k0_off18_inb _)).view.emb l = i from emb_slab (Memref.whole main_v1_1) _ _ (far1_2 c).1 l i e l0 l1).symm).trans ((congrFun (h.1 s41 rfl) l).trans ?_)
      exact congrArg (m (((flip3s.symm (sibs.symm c)).tc : Thread nD τ).loc main_arg1)) (show (piece1 (k0_off8 (flip3s.symm (sibs.symm c))) (Facts₀.k0_off8_inb _)).view.emb l = k from emb_piece (Memref.whole main_arg1) _ 0 (far1_2 c).2 l k (by omega) (by omega))

set_option maxRecDepth 10000 in
/-- What result 2 holds in the end. -/
theorem result2 (m : (ℓ : Loc nD τ sig) → Buf (Elt F) ℓ) (c : Dev nD) (mem : (ℓ : Loc nD τ sig) → Buf (Elt F) ℓ) (h : (moves m).After args c mem)
    (i : S4x1024x1024.Idx) (k : S1024x1024.Idx) (hk0 : (k 0).val = (i 1).val) (hk1 : (k 1).val = (i 2).val) :
    ∃ d : Dev nD, d.val / 2 = (i 0).val ∧ mem ((c.tc : Thread nD τ).loc main_v1_2) i = m ((d.tc : Thread nD τ).loc main_arg2) k := by
  have hi0 : (i 0).val < 4 := (i 0).isLt
  have hi1 : (i 1).val < 1024 := (i 1).isLt
  have piece (o : ℕ) (ho : o ≤ (i 1).val) (ho' : (i 1).val < o + 512) : ∃ l : S512x1024.Idx, (i 1).val = o + (l 0).val ∧ (i 2).val = (l 1).val :=
    ⟨fun a => match a with | ⟨0, _⟩ => ⟨(i 1).val - o, by show _ < 512; omega⟩ | ⟨1, _⟩ => ⟨(i 2).val, (i 2).isLt⟩, by show _ = o + ((i 1).val - o); omega, rfl⟩
  rcases chip c _ hi0 with e | e | e | e
  · refine ⟨c, e.symm, ?_⟩
    exact (congrArg (mem ((c.tc : Thread nD τ).loc main_v1_2)) (show (slot2 (k0_off3 c) (Facts₀.k0_off3_inb c)).view.emb k = i from emb_slab (Memref.whole main_v1_2) _ 0 (own2 c) k i e (by omega) hk1.symm).symm).trans (congrFun (h.1 s62 rfl) k)
  · by_cases hh : 512 * (c.val % 2) ≤ (i 1).val ∧ (i 1).val < 512 * (c.val % 2) + 512
    · obtain ⟨l, l0, l1⟩ := piece _ hh.1 hh.2
      refine ⟨flip1s.symm c, e.symm, ?_⟩
      refine (congrArg (mem ((c.tc : Thread nD τ).loc main_v1_2)) (show (half2 (k0_off9 (flip1s.symm c)) (Facts₀.k0_off9_inb _)).view.emb l = i from emb_slab (Memref.whole main_v1_2) _ _ (near2_0 c).1 l i e l0 l1).symm).trans ((congrFun (h.1 s42 rfl) l).trans ?_)
      exact congrArg (m (((flip1s.symm c).tc : Thread nD τ).loc main_arg2)) (show (piece2 (k0_off10 (flip1s.symm c)) (Facts₀.k0_off10_inb _)).view.emb l = k from emb_piece (Memref.whole main_arg2) _ 0 (near2_0 c).2 l k (by omega) (by omega))
    · obtain ⟨l, l0, l1⟩ := piece (512 * (1 - c.val % 2)) (by omega) (by omega)
      refine ⟨flip1s.symm (sibs.symm c), (beside0 c).trans e.symm, ?_⟩
      refine (congrArg (mem ((c.tc : Thread nD τ).loc main_v1_2)) (show (half2 (k0_off19 (sibs.symm c)) (Facts₀.k0_off19_inb _)).view.emb l = i from emb_slab (Memref.whole main_v1_2) _ _ (far2_0 c).1 l i e l0 l1).symm).trans ((congrFun (h.1 s45 rfl) l).trans ?_)
      exact congrArg (m (((flip1s.symm (sibs.symm c)).tc : Thread nD τ).loc main_arg2)) (show (piece2 (k0_off10 (flip1s.symm (sibs.symm c))) (Facts₀.k0_off10_inb _)).view.emb l = k from emb_piece (Memref.whole main_arg2) _ 0 (far2_0 c).2 l k (by omega) (by omega))
  · by_cases hh : 512 * (c.val % 2) ≤ (i 1).val ∧ (i 1).val < 512 * (c.val % 2) + 512
    · obtain ⟨l, l0, l1⟩ := piece _ hh.1 hh.2
      refine ⟨flip2s.symm c, e.symm, ?_⟩
      refine (congrArg (mem ((c.tc : Thread nD τ).loc main_v1_2)) (show (half2 (k0_off9 (flip2s.symm c)) (Facts₀.k0_off9_inb _)).view.emb l = i from emb_slab (Memref.whole main_v1_2) _ _ (near2_1 c).1 l i e l0 l1).symm).trans ((congrFun (h.1 s43 rfl) l).trans ?_)
      exact congrArg (m (((flip2s.symm c).tc : Thread nD τ).loc main_arg2)) (show (piece2 (k0_off10 (flip2s.symm c)) (Facts₀.k0_off10_inb _)).view.emb l = k from emb_piece (Memref.whole main_arg2) _ 0 (near2_1 c).2 l k (by omega) (by omega))
    · obtain ⟨l, l0, l1⟩ := piece (512 * (1 - c.val % 2)) (by omega) (by omega)
      refine ⟨flip2s.symm (sibs.symm c), (beside1 c).trans e.symm, ?_⟩
      refine (congrArg (mem ((c.tc : Thread nD τ).loc main_v1_2)) (show (half2 (k0_off20 (sibs.symm c)) (Facts₀.k0_off20_inb _)).view.emb l = i from emb_slab (Memref.whole main_v1_2) _ _ (far2_1 c).1 l i e l0 l1).symm).trans ((congrFun (h.1 s46 rfl) l).trans ?_)
      exact congrArg (m (((flip2s.symm (sibs.symm c)).tc : Thread nD τ).loc main_arg2)) (show (piece2 (k0_off10 (flip2s.symm (sibs.symm c))) (Facts₀.k0_off10_inb _)).view.emb l = k from emb_piece (Memref.whole main_arg2) _ 0 (far2_1 c).2 l k (by omega) (by omega))
  · by_cases hh : 512 * (c.val % 2) ≤ (i 1).val ∧ (i 1).val < 512 * (c.val % 2) + 512
    · obtain ⟨l, l0, l1⟩ := piece _ hh.1 hh.2
      refine ⟨flip3s.symm c, e.symm, ?_⟩
      refine (congrArg (mem ((c.tc : Thread nD τ).loc main_v1_2)) (show (half2 (k0_off9 (flip3s.symm c)) (Facts₀.k0_off9_inb _)).view.emb l = i from emb_slab (Memref.whole main_v1_2) _ _ (near2_2 c).1 l i e l0 l1).symm).trans ((congrFun (h.1 s44 rfl) l).trans ?_)
      exact congrArg (m (((flip3s.symm c).tc : Thread nD τ).loc main_arg2)) (show (piece2 (k0_off10 (flip3s.symm c)) (Facts₀.k0_off10_inb _)).view.emb l = k from emb_piece (Memref.whole main_arg2) _ 0 (near2_2 c).2 l k (by omega) (by omega))
    · obtain ⟨l, l0, l1⟩ := piece (512 * (1 - c.val % 2)) (by omega) (by omega)
      refine ⟨flip3s.symm (sibs.symm c), (beside2 c).trans e.symm, ?_⟩
      refine (congrArg (mem ((c.tc : Thread nD τ).loc main_v1_2)) (show (half2 (k0_off21 (sibs.symm c)) (Facts₀.k0_off21_inb _)).view.emb l = i from emb_slab (Memref.whole main_v1_2) _ _ (far2_2 c).1 l i e l0 l1).symm).trans ((congrFun (h.1 s47 rfl) l).trans ?_)
      exact congrArg (m (((flip3s.symm (sibs.symm c)).tc : Thread nD τ).loc main_arg2)) (show (piece2 (k0_off10 (flip3s.symm (sibs.symm c))) (Facts₀.k0_off10_inb _)).view.emb l = k from emb_piece (Memref.whole main_arg2) _ 0 (far2_2 c).2 l k (by omega) (by omega))

set_option maxRecDepth 10000 in
/-- What result 3 holds in the end. -/
theorem result3 (m : (ℓ : Loc nD τ sig) → Buf (Elt F) ℓ) (c : Dev nD) (mem : (ℓ : Loc nD τ sig) → Buf (Elt F) ℓ) (h : (moves m).After args c mem)
    (i : S4x1024x1024.Idx) (k : S1024x1024.Idx) (hk0 : (k 0).val = (i 1).val) (hk1 : (k 1).val = (i 2).val) :
    ∃ d : Dev nD, d.val / 2 = (i 0).val ∧ mem ((c.tc : Thread nD τ).loc main_v1_3) i = m ((d.tc : Thread nD τ).loc main_arg3) k := by
  have hi0 : (i 0).val < 4 := (i 0).isLt
  have hi1 : (i 1).val < 1024 := (i 1).isLt
  have piece (o : ℕ) (ho : o ≤ (i 1).val) (ho' : (i 1).val < o + 512) : ∃ l : S512x1024.Idx, (i 1).val = o + (l 0).val ∧ (i 2).val = (l 1).val :=
    ⟨fun a => match a with | ⟨0, _⟩ => ⟨(i 1).val - o, by show _ < 512; omega⟩ | ⟨1, _⟩ => ⟨(i 2).val, (i 2).isLt⟩, by show _ = o + ((i 1).val - o); omega, rfl⟩
  rcases chip c _ hi0 with e | e | e | e
  · refine ⟨c, e.symm, ?_⟩
    exact (congrArg (mem ((c.tc : Thread nD τ).loc main_v1_3)) (show (slot3 (k0_off3 c) (Facts₀.k0_off3_inb c)).view.emb k = i from emb_slab (Memref.whole main_v1_3) _ 0 (own2 c) k i e (by omega) hk1.symm).symm).trans (congrFun (h.1 s63 rfl) k)
  · by_cases hh : 512 * (c.val % 2) ≤ (i 1).val ∧ (i 1).val < 512 * (c.val % 2) + 512
    · obtain ⟨l, l0, l1⟩ := piece _ hh.1 hh.2
      refine ⟨flip1s.symm c, e.symm, ?_⟩
      refine (congrArg (mem ((c.tc : Thread nD τ).loc main_v1_3)) (show (half3 (k0_off9 (flip1s.symm c)) (Facts₀.k0_off9_inb _)).view.emb l = i from emb_slab (Memref.whole main_v1_3) _ _ (near2_0 c).1 l i e l0 l1).symm).trans ((congrFun (h.1 s48 rfl) l).trans ?_)
      exact congrArg (m (((flip1s.symm c).tc : Thread nD τ).loc main_arg3)) (show (piece3 (k0_off10 (flip1s.symm c)) (Facts₀.k0_off10_inb _)).view.emb l = k from emb_piece (Memref.whole main_arg3) _ 0 (near2_0 c).2 l k (by omega) (by omega))
    · obtain ⟨l, l0, l1⟩ := piece (512 * (1 - c.val % 2)) (by omega) (by omega)
      refine ⟨flip1s.symm (sibs.symm c), (beside0 c).trans e.symm, ?_⟩
      refine (congrArg (mem ((c.tc : Thread nD τ).loc main_v1_3)) (show (half3 (k0_off19 (sibs.symm c)) (Facts₀.k0_off19_inb _)).view.emb l = i from emb_slab (Memref.whole main_v1_3) _ _ (far2_0 c).1 l i e l0 l1).symm).trans ((congrFun (h.1 s51 rfl) l).trans ?_)
      exact congrArg (m (((flip1s.symm (sibs.symm c)).tc : Thread nD τ).loc main_arg3)) (show (piece3 (k0_off10 (flip1s.symm (sibs.symm c))) (Facts₀.k0_off10_inb _)).view.emb l = k from emb_piece (Memref.whole main_arg3) _ 0 (far2_0 c).2 l k (by omega) (by omega))
  · by_cases hh : 512 * (c.val % 2) ≤ (i 1).val ∧ (i 1).val < 512 * (c.val % 2) + 512
    · obtain ⟨l, l0, l1⟩ := piece _ hh.1 hh.2
      refine ⟨flip2s.symm c, e.symm, ?_⟩
      refine (congrArg (mem ((c.tc : Thread nD τ).loc main_v1_3)) (show (half3 (k0_off9 (flip2s.symm c)) (Facts₀.k0_off9_inb _)).view.emb l = i from emb_slab (Memref.whole main_v1_3) _ _ (near2_1 c).1 l i e l0 l1).symm).trans ((congrFun (h.1 s49 rfl) l).trans ?_)
      exact congrArg (m (((flip2s.symm c).tc : Thread nD τ).loc main_arg3)) (show (piece3 (k0_off10 (flip2s.symm c)) (Facts₀.k0_off10_inb _)).view.emb l = k from emb_piece (Memref.whole main_arg3) _ 0 (near2_1 c).2 l k (by omega) (by omega))
    · obtain ⟨l, l0, l1⟩ := piece (512 * (1 - c.val % 2)) (by omega) (by omega)
      refine ⟨flip2s.symm (sibs.symm c), (beside1 c).trans e.symm, ?_⟩
      refine (congrArg (mem ((c.tc : Thread nD τ).loc main_v1_3)) (show (half3 (k0_off20 (sibs.symm c)) (Facts₀.k0_off20_inb _)).view.emb l = i from emb_slab (Memref.whole main_v1_3) _ _ (far2_1 c).1 l i e l0 l1).symm).trans ((congrFun (h.1 s52 rfl) l).trans ?_)
      exact congrArg (m (((flip2s.symm (sibs.symm c)).tc : Thread nD τ).loc main_arg3)) (show (piece3 (k0_off10 (flip2s.symm (sibs.symm c))) (Facts₀.k0_off10_inb _)).view.emb l = k from emb_piece (Memref.whole main_arg3) _ 0 (far2_1 c).2 l k (by omega) (by omega))
  · by_cases hh : 512 * (c.val % 2) ≤ (i 1).val ∧ (i 1).val < 512 * (c.val % 2) + 512
    · obtain ⟨l, l0, l1⟩ := piece _ hh.1 hh.2
      refine ⟨flip3s.symm c, e.symm, ?_⟩
      refine (congrArg (mem ((c.tc : Thread nD τ).loc main_v1_3)) (show (half3 (k0_off9 (flip3s.symm c)) (Facts₀.k0_off9_inb _)).view.emb l = i from emb_slab (Memref.whole main_v1_3) _ _ (near2_2 c).1 l i e l0 l1).symm).trans ((congrFun (h.1 s50 rfl) l).trans ?_)
      exact congrArg (m (((flip3s.symm c).tc : Thread nD τ).loc main_arg3)) (show (piece3 (k0_off10 (flip3s.symm c)) (Facts₀.k0_off10_inb _)).view.emb l = k from emb_piece (Memref.whole main_arg3) _ 0 (near2_2 c).2 l k (by omega) (by omega))
    · obtain ⟨l, l0, l1⟩ := piece (512 * (1 - c.val % 2)) (by omega) (by omega)
      refine ⟨flip3s.symm (sibs.symm c), (beside2 c).trans e.symm, ?_⟩
      refine (congrArg (mem ((c.tc : Thread nD τ).loc main_v1_3)) (show (half3 (k0_off21 (sibs.symm c)) (Facts₀.k0_off21_inb _)).view.emb l = i from emb_slab (Memref.whole main_v1_3) _ _ (far2_2 c).1 l i e l0 l1).symm).trans ((congrFun (h.1 s53 rfl) l).trans ?_)
      exact congrArg (m (((flip3s.symm (sibs.symm c)).tc : Thread nD τ).loc main_arg3)) (show (piece3 (k0_off10 (flip3s.symm (sibs.symm c))) (Facts₀.k0_off10_inb _)).view.emb l = k from emb_piece (Memref.whole main_arg3) _ 0 (far2_2 c).2 l k (by omega) (by omega))

set_option maxRecDepth 10000 in
/-- What result 4 holds in the end. -/
theorem result4 (m : (ℓ : Loc nD τ sig) → Buf (Elt F) ℓ) (c : Dev nD) (mem : (ℓ : Loc nD τ sig) → Buf (Elt F) ℓ) (h : (moves m).After args c mem)
    (i : S4x16x64.Idx) (k : S16x64.Idx) (hk0 : (k 0).val = (i 1).val) (hk1 : (k 1).val = (i 2).val) :
    ∃ d : Dev nD, d.val / 2 = (i 0).val ∧ mem ((c.tc : Thread nD τ).loc main_v1_4) i = m ((d.tc : Thread nD τ).loc main_arg4) k := by
  have hi0 : (i 0).val < 4 := (i 0).isLt
  have hi1 : (i 1).val < 16 := (i 1).isLt
  have piece (o : ℕ) (ho : o ≤ (i 1).val) (ho' : (i 1).val < o + 8) : ∃ l : S8x64.Idx, (i 1).val = o + (l 0).val ∧ (i 2).val = (l 1).val :=
    ⟨fun a => match a with | ⟨0, _⟩ => ⟨(i 1).val - o, by show _ < 8; omega⟩ | ⟨1, _⟩ => ⟨(i 2).val, (i 2).isLt⟩, by show _ = o + ((i 1).val - o); omega, rfl⟩
  rcases chip c _ hi0 with e | e | e | e
  · refine ⟨c, e.symm, ?_⟩
    exact (congrArg (mem ((c.tc : Thread nD τ).loc main_v1_4)) (show (slot4 (k0_off4 c) (Facts₀.k0_off4_inb c)).view.emb k = i from emb_slab (Memref.whole main_v1_4) _ 0 (own4 c) k i e (by omega) hk1.symm).symm).trans (congrFun (h.1 s64 rfl) k)
  · by_cases hh : 8 * (c.val % 2) ≤ (i 1).val ∧ (i 1).val < 8 * (c.val % 2) + 8
    · obtain ⟨l, l0, l1⟩ := piece _ hh.1 hh.2
      refine ⟨flip1s.symm c, e.symm, ?_⟩
      refine (congrArg (mem ((c.tc : Thread nD τ).loc main_v1_4)) (show (half4 (k0_off11 (flip1s.symm c)) (Facts₀.k0_off11_inb _)).view.emb l = i from emb_slab (Memref.whole main_v1_4) _ _ (near4_0 c).1 l i e l0 l1).symm).trans ((congrFun (h.1 s54 rfl) l).trans ?_)
      exact congrArg (m (((flip1s.symm c).tc : Thread nD τ).loc main_arg4)) (show (piece4 (k0_off12 (flip1s.symm c)) (Facts₀.k0_off12_inb _)).view.emb l = k from emb_piece (Memref.whole main_arg4) _ 0 (near4_0 c).2 l k (by omega) (by omega))
    · obtain ⟨l, l0, l1⟩ := piece (8 * (1 - c.val % 2)) (by omega) (by omega)
      refine ⟨flip1s.symm (sibs.symm c), (beside0 c).trans e.symm, ?_⟩
      refine (congrArg (mem ((c.tc : Thread nD τ).loc main_v1_4)) (show (half4 (k0_off22 (sibs.symm c)) (Facts₀.k0_off22_inb _)).view.emb l = i from emb_slab (Memref.whole main_v1_4) _ _ (far4_0 c).1 l i e l0 l1).symm).trans ((congrFun (h.1 s57 rfl) l).trans ?_)
      exact congrArg (m (((flip1s.symm (sibs.symm c)).tc : Thread nD τ).loc main_arg4)) (show (piece4 (k0_off12 (flip1s.symm (sibs.symm c))) (Facts₀.k0_off12_inb _)).view.emb l = k from emb_piece (Memref.whole main_arg4) _ 0 (far4_0 c).2 l k (by omega) (by omega))
  · by_cases hh : 8 * (c.val % 2) ≤ (i 1).val ∧ (i 1).val < 8 * (c.val % 2) + 8
    · obtain ⟨l, l0, l1⟩ := piece _ hh.1 hh.2
      refine ⟨flip2s.symm c, e.symm, ?_⟩
      refine (congrArg (mem ((c.tc : Thread nD τ).loc main_v1_4)) (show (half4 (k0_off11 (flip2s.symm c)) (Facts₀.k0_off11_inb _)).view.emb l = i from emb_slab (Memref.whole main_v1_4) _ _ (near4_1 c).1 l i e l0 l1).symm).trans ((congrFun (h.1 s55 rfl) l).trans ?_)
      exact congrArg (m (((flip2s.symm c).tc : Thread nD τ).loc main_arg4)) (show (piece4 (k0_off12 (flip2s.symm c)) (Facts₀.k0_off12_inb _)).view.emb l = k from emb_piece (Memref.whole main_arg4) _ 0 (near4_1 c).2 l k (by omega) (by omega))
    · obtain ⟨l, l0, l1⟩ := piece (8 * (1 - c.val % 2)) (by omega) (by omega)
      refine ⟨flip2s.symm (sibs.symm c), (beside1 c).trans e.symm, ?_⟩
      refine (congrArg (mem ((c.tc : Thread nD τ).loc main_v1_4)) (show (half4 (k0_off23 (sibs.symm c)) (Facts₀.k0_off23_inb _)).view.emb l = i from emb_slab (Memref.whole main_v1_4) _ _ (far4_1 c).1 l i e l0 l1).symm).trans ((congrFun (h.1 s58 rfl) l).trans ?_)
      exact congrArg (m (((flip2s.symm (sibs.symm c)).tc : Thread nD τ).loc main_arg4)) (show (piece4 (k0_off12 (flip2s.symm (sibs.symm c))) (Facts₀.k0_off12_inb _)).view.emb l = k from emb_piece (Memref.whole main_arg4) _ 0 (far4_1 c).2 l k (by omega) (by omega))
  · by_cases hh : 8 * (c.val % 2) ≤ (i 1).val ∧ (i 1).val < 8 * (c.val % 2) + 8
    · obtain ⟨l, l0, l1⟩ := piece _ hh.1 hh.2
      refine ⟨flip3s.symm c, e.symm, ?_⟩
      refine (congrArg (mem ((c.tc : Thread nD τ).loc main_v1_4)) (show (half4 (k0_off11 (flip3s.symm c)) (Facts₀.k0_off11_inb _)).view.emb l = i from emb_slab (Memref.whole main_v1_4) _ _ (near4_2 c).1 l i e l0 l1).symm).trans ((congrFun (h.1 s56 rfl) l).trans ?_)
      exact congrArg (m (((flip3s.symm c).tc : Thread nD τ).loc main_arg4)) (show (piece4 (k0_off12 (flip3s.symm c)) (Facts₀.k0_off12_inb _)).view.emb l = k from emb_piece (Memref.whole main_arg4) _ 0 (near4_2 c).2 l k (by omega) (by omega))
    · obtain ⟨l, l0, l1⟩ := piece (8 * (1 - c.val % 2)) (by omega) (by omega)
      refine ⟨flip3s.symm (sibs.symm c), (beside2 c).trans e.symm, ?_⟩
      refine (congrArg (mem ((c.tc : Thread nD τ).loc main_v1_4)) (show (half4 (k0_off24 (sibs.symm c)) (Facts₀.k0_off24_inb _)).view.emb l = i from emb_slab (Memref.whole main_v1_4) _ _ (far4_2 c).1 l i e l0 l1).symm).trans ((congrFun (h.1 s59 rfl) l).trans ?_)
      exact congrArg (m (((flip3s.symm (sibs.symm c)).tc : Thread nD τ).loc main_arg4)) (show (piece4 (k0_off12 (flip3s.symm (sibs.symm c))) (Facts₀.k0_off12_inb _)).view.emb l = k from emb_piece (Memref.whole main_arg4) _ 0 (far4_2 c).2 l k (by omega) (by omega))

end Cert.GatherWeightsIdeal

namespace Cert

open Cert.GatherWeightsIdeal

theorem quiescent_weightsIdeal (F : FTy → Type) [FloatOps F] (m : (ℓ : Loc nD τ sig) → Buf (Elt F) ℓ) (g : Dev nD → PrngReg) :
    θ_run (defs (F := F)) (onTc (τ := τ) (main (F := F))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run _ _ _).mono (fun r h => ⟨fun c => ⟨(h.1 c).2 _ (by decide), (h.1 c).2 _ (by decide), (h.1 c).2 _ (by decide), (h.1 c).2 _ (by decide), (h.1 c).2 _ (by decide)⟩, h.2⟩)
    (GatherWeightsIdeal.run m g)

theorem weights_P : @quiescent_GatherWeights GatherWeights.Gen.facts := fun m g _ => quiescent_weightsIdeal Bits m g
theorem weights_PI : @quiescent_GatherWeightsIdeal GatherWeightsIdeal.Gen.facts := fun m g _ => quiescent_weightsIdeal Ideal m g
theorem weights_RI : @quiescent_GatherWeightsRefIdeal GatherWeightsRefIdeal.Gen.facts := fun m g _ =>
  (θ_run _ _ _).mono (fun r h => ⟨fun c => (h c).2.2.2.2.2, sem_eq_zero_of_no_sems rfl r.2⟩) (GatherWeightsRefIdeal.Value.run m g)

theorem weights_algebraic : @algebraic_GatherWeightsIdeal_GatherWeightsRefIdeal GatherWeightsIdeal.Gen.facts GatherWeightsRefIdeal.Gen.facts := by
  intro m g m' g' _ hin
  refine ⟨_, _, _, _, _, (θ_run _ _ _).mono (fun r h c => ?_) (GatherWeightsIdeal.run m g),
    (θ_run _ _ _).mono (fun r h => h 0) (GatherWeightsRefIdeal.Value.run m' g')⟩
  have hc := h.1 c
  refine ⟨?_, ?_, ?_, ?_, ?_, hc.2 _ (by decide), hc.2 _ (by decide), hc.2 _ (by decide), hc.2 _ (by decide), hc.2 _ (by decide)⟩
  · funext (i : S4x1024x772.Idx)
    let k : S1024x772.Idx := fun a => match a with | ⟨0, _⟩ => ⟨(i 1).val, (i 1).isLt⟩ | ⟨1, _⟩ => ⟨(i 2).val, (i 2).isLt⟩
    obtain ⟨d, hd, e⟩ := result0 m c r.2.mem hc i k rfl rfl
    refine e.trans ?_
    rw [(hin d).1]
    exact columns 1024 772 3088 _ _ _ _ rfl d i k hd rfl rfl
  · funext (i : S4x256x1024.Idx)
    let k : S256x1024.Idx := fun a => match a with | ⟨0, _⟩ => ⟨(i 1).val, (i 1).isLt⟩ | ⟨1, _⟩ => ⟨(i 2).val, (i 2).isLt⟩
    obtain ⟨d, hd, e⟩ := result1 m c r.2.mem hc i k rfl rfl
    refine e.trans ?_
    rw [(hin d).2.1]
    exact bands 256 1024 1024 _ _ _ d i k hd rfl rfl
  · funext (i : S4x1024x1024.Idx)
    let k : S1024x1024.Idx := fun a => match a with | ⟨0, _⟩ => ⟨(i 1).val, (i 1).isLt⟩ | ⟨1, _⟩ => ⟨(i 2).val, (i 2).isLt⟩
    obtain ⟨d, hd, e⟩ := result2 m c r.2.mem hc i k rfl rfl
    refine e.trans ?_
    rw [(hin d).2.2.1]
    exact columns 1024 1024 4096 _ _ _ _ rfl d i k hd rfl rfl
  · funext (i : S4x1024x1024.Idx)
    let k : S1024x1024.Idx := fun a => match a with | ⟨0, _⟩ => ⟨(i 1).val, (i 1).isLt⟩ | ⟨1, _⟩ => ⟨(i 2).val, (i 2).isLt⟩
    obtain ⟨d, hd, e⟩ := result3 m c r.2.mem hc i k rfl rfl
    refine e.trans ?_
    rw [(hin d).2.2.2.1]
    exact bands 1024 1024 4096 _ _ _ d i k hd rfl rfl
  · funext (i : S4x16x64.Idx)
    let k : S16x64.Idx := fun a => match a with | ⟨0, _⟩ => ⟨(i 1).val, (i 1).isLt⟩ | ⟨1, _⟩ => ⟨(i 2).val, (i 2).isLt⟩
    obtain ⟨d, hd, e⟩ := result4 m c r.2.mem hc i k rfl rfl
    refine e.trans ?_
    rw [(hin d).2.2.2.2]
    exact columns 16 64 256 _ _ _ _ rfl d i k hd rfl rfl

end Cert

end
-- ==== Proof.AdamwValue.lean ====
module

public import proofs.«01_k».proof.Defs
public import proofs.«01_k».proof.Proof.Gen.AdamwAttnNormG.Frame
public import proofs.«01_k».proof.Proof.Gen.AdamwAttnNormGIdeal.Value
public import proofs.«01_k».proof.Proof.Gen.AdamwAttnNormGRefIdeal.Run
public import proofs.«01_k».proof.Proof.Gen.AdamwWIn.Frame
public import proofs.«01_k».proof.Proof.Gen.AdamwWInIdeal.Value
public import proofs.«01_k».proof.Proof.Gen.AdamwWInRefIdeal.Run
public import proofs.«01_k».proof.Proof.Gen.AdamwGlaGateW2.Frame
public import proofs.«01_k».proof.Proof.Gen.AdamwGlaGateW2Ideal.Value
public import proofs.«01_k».proof.Proof.Gen.AdamwGlaGateW2RefIdeal.Run
public import proofs.«01_k».proof.Proof.Gen.AdamwGlaGateB.Frame
public import proofs.«01_k».proof.Proof.Gen.AdamwGlaGateBIdeal.Value
public import proofs.«01_k».proof.Proof.Gen.AdamwGlaGateBRefIdeal.Run
public import proofs.«01_k».proof.Proof.Gen.AdamwGlaNormG.Frame
public import proofs.«01_k».proof.Proof.Gen.AdamwGlaNormGIdeal.Value
public import proofs.«01_k».proof.Proof.Gen.AdamwGlaNormGRefIdeal.Run
public import proofs.«01_k».proof.Proof.Gen.AdamwRelBias.Frame
public import proofs.«01_k».proof.Proof.Gen.AdamwRelBiasIdeal.Value
public import proofs.«01_k».proof.Proof.Gen.AdamwRelBiasRefIdeal.Run
public import proofs.«01_k».proof.Proof.Gen.AdamwWOut.Frame
public import proofs.«01_k».proof.Proof.Gen.AdamwWOutIdeal.Value
public import proofs.«01_k».proof.Proof.Gen.AdamwWOutRefIdeal.Run
public import proofs.«01_k».proof.Proof.Gen.AdamwWFf1.Frame
public import proofs.«01_k».proof.Proof.Gen.AdamwWFf1Ideal.Value
public import proofs.«01_k».proof.Proof.Gen.AdamwWFf1RefIdeal.Run

/-!
The AdamW step at each of the eight shapes that the weights have on a device. The kernel's three results are, block by block
and so as wholes, the same operations on the same arguments as the reference's.
-/

@[expose] public section

open Idealize.ShloMosaic Idealize.SL.Sem

namespace Cert

theorem adamwAttnNormG_P : @quiescent_AdamwAttnNormG AdamwAttnNormG.Gen.facts := fun m g _ => AdamwAttnNormG.Gen.frame m g
theorem adamwAttnNormG_PI : @quiescent_AdamwAttnNormGIdeal AdamwAttnNormGIdeal.Gen.facts := fun m g _ => AdamwAttnNormGIdeal.Gen.frame m g
theorem adamwAttnNormG_RI : @quiescent_AdamwAttnNormGRefIdeal AdamwAttnNormGRefIdeal.Gen.facts := fun m g _ =>
  (θ_run _ _ _).mono (fun r h => ⟨fun c => (h c).2.2.2, sem_eq_zero_of_no_sems rfl r.2⟩) (AdamwAttnNormGRefIdeal.Value.run m g)
theorem adamwAttnNormG_algebraic : @algebraic_AdamwAttnNormGIdeal_AdamwAttnNormGRefIdeal AdamwAttnNormGIdeal.Gen.facts AdamwAttnNormGRefIdeal.Gen.facts := by
  intro m g m' g' _ hin
  refine ⟨_, _, _, AdamwAttnNormGIdeal.Value.run m g, (θ_run _ _ _).mono (fun r h c => ?_) (AdamwAttnNormGRefIdeal.Value.run m' g')⟩
  obtain ⟨h0, h1, h2, h3⟩ := h c
  obtain ⟨e0, e1, e2, e3⟩ := hin c
  refine ⟨h0.trans ?_, h1.trans ?_, h2.trans ?_, h3⟩
  · rw [e0, e1, e2, e3]; rfl
  · rw [e1, e2]; rfl
  · rw [e1, e3]; rfl

theorem adamwWIn_P : @quiescent_AdamwWIn AdamwWIn.Gen.facts := fun m g _ => AdamwWIn.Gen.frame m g
theorem adamwWIn_PI : @quiescent_AdamwWInIdeal AdamwWInIdeal.Gen.facts := fun m g _ => AdamwWInIdeal.Gen.frame m g
theorem adamwWIn_RI : @quiescent_AdamwWInRefIdeal AdamwWInRefIdeal.Gen.facts := fun m g _ =>
  (θ_run _ _ _).mono (fun r h => ⟨fun c => (h c).2.2.2, sem_eq_zero_of_no_sems rfl r.2⟩) (AdamwWInRefIdeal.Value.run m g)
theorem adamwWIn_algebraic : @algebraic_AdamwWInIdeal_AdamwWInRefIdeal AdamwWInIdeal.Gen.facts AdamwWInRefIdeal.Gen.facts := by
  intro m g m' g' _ hin
  refine ⟨_, _, _, AdamwWInIdeal.Value.run m g, (θ_run _ _ _).mono (fun r h c => ?_) (AdamwWInRefIdeal.Value.run m' g')⟩
  obtain ⟨h0, h1, h2, h3⟩ := h c
  obtain ⟨e0, e1, e2, e3⟩ := hin c
  refine ⟨h0.trans ?_, h1.trans ?_, h2.trans ?_, h3⟩
  · rw [e0, e1, e2, e3]; rfl
  · rw [e1, e2]; rfl
  · rw [e1, e3]; rfl

theorem adamwGlaGateW2_P : @quiescent_AdamwGlaGateW2 AdamwGlaGateW2.Gen.facts := fun m g _ => AdamwGlaGateW2.Gen.frame m g
theorem adamwGlaGateW2_PI : @quiescent_AdamwGlaGateW2Ideal AdamwGlaGateW2Ideal.Gen.facts := fun m g _ => AdamwGlaGateW2Ideal.Gen.frame m g
theorem adamwGlaGateW2_RI : @quiescent_AdamwGlaGateW2RefIdeal AdamwGlaGateW2RefIdeal.Gen.facts := fun m g _ =>
  (θ_run _ _ _).mono (fun r h => ⟨fun c => (h c).2.2.2, sem_eq_zero_of_no_sems rfl r.2⟩) (AdamwGlaGateW2RefIdeal.Value.run m g)
theorem adamwGlaGateW2_algebraic : @algebraic_AdamwGlaGateW2Ideal_AdamwGlaGateW2RefIdeal AdamwGlaGateW2Ideal.Gen.facts AdamwGlaGateW2RefIdeal.Gen.facts := by
  intro m g m' g' _ hin
  refine ⟨_, _, _, AdamwGlaGateW2Ideal.Value.run m g, (θ_run _ _ _).mono (fun r h c => ?_) (AdamwGlaGateW2RefIdeal.Value.run m' g')⟩
  obtain ⟨h0, h1, h2, h3⟩ := h c
  obtain ⟨e0, e1, e2, e3⟩ := hin c
  refine ⟨h0.trans ?_, h1.trans ?_, h2.trans ?_, h3⟩
  · rw [e0, e1, e2, e3]; rfl
  · rw [e1, e2]; rfl
  · rw [e1, e3]; rfl

theorem adamwGlaGateB_P : @quiescent_AdamwGlaGateB AdamwGlaGateB.Gen.facts := fun m g _ => AdamwGlaGateB.Gen.frame m g
theorem adamwGlaGateB_PI : @quiescent_AdamwGlaGateBIdeal AdamwGlaGateBIdeal.Gen.facts := fun m g _ => AdamwGlaGateBIdeal.Gen.frame m g
theorem adamwGlaGateB_RI : @quiescent_AdamwGlaGateBRefIdeal AdamwGlaGateBRefIdeal.Gen.facts := fun m g _ =>
  (θ_run _ _ _).mono (fun r h => ⟨fun c => (h c).2.2.2, sem_eq_zero_of_no_sems rfl r.2⟩) (AdamwGlaGateBRefIdeal.Value.run m g)
theorem adamwGlaGateB_algebraic : @algebraic_AdamwGlaGateBIdeal_AdamwGlaGateBRefIdeal AdamwGlaGateBIdeal.Gen.facts AdamwGlaGateBRefIdeal.Gen.facts := by
  intro m g m' g' _ hin
  refine ⟨_, _, _, AdamwGlaGateBIdeal.Value.run m g, (θ_run _ _ _).mono (fun r h c => ?_) (AdamwGlaGateBRefIdeal.Value.run m' g')⟩
  obtain ⟨h0, h1, h2, h3⟩ := h c
  obtain ⟨e0, e1, e2, e3⟩ := hin c
  refine ⟨h0.trans ?_, h1.trans ?_, h2.trans ?_, h3⟩
  · rw [e0, e1, e2, e3]; rfl
  · rw [e1, e2]; rfl
  · rw [e1, e3]; rfl

theorem adamwGlaNormG_P : @quiescent_AdamwGlaNormG AdamwGlaNormG.Gen.facts := fun m g _ => AdamwGlaNormG.Gen.frame m g
theorem adamwGlaNormG_PI : @quiescent_AdamwGlaNormGIdeal AdamwGlaNormGIdeal.Gen.facts := fun m g _ => AdamwGlaNormGIdeal.Gen.frame m g
theorem adamwGlaNormG_RI : @quiescent_AdamwGlaNormGRefIdeal AdamwGlaNormGRefIdeal.Gen.facts := fun m g _ =>
  (θ_run _ _ _).mono (fun r h => ⟨fun c => (h c).2.2.2, sem_eq_zero_of_no_sems rfl r.2⟩) (AdamwGlaNormGRefIdeal.Value.run m g)
theorem adamwGlaNormG_algebraic : @algebraic_AdamwGlaNormGIdeal_AdamwGlaNormGRefIdeal AdamwGlaNormGIdeal.Gen.facts AdamwGlaNormGRefIdeal.Gen.facts := by
  intro m g m' g' _ hin
  refine ⟨_, _, _, AdamwGlaNormGIdeal.Value.run m g, (θ_run _ _ _).mono (fun r h c => ?_) (AdamwGlaNormGRefIdeal.Value.run m' g')⟩
  obtain ⟨h0, h1, h2, h3⟩ := h c
  obtain ⟨e0, e1, e2, e3⟩ := hin c
  refine ⟨h0.trans ?_, h1.trans ?_, h2.trans ?_, h3⟩
  · rw [e0, e1, e2, e3]; rfl
  · rw [e1, e2]; rfl
  · rw [e1, e3]; rfl

theorem adamwRelBias_P : @quiescent_AdamwRelBias AdamwRelBias.Gen.facts := fun m g _ => AdamwRelBias.Gen.frame m g
theorem adamwRelBias_PI : @quiescent_AdamwRelBiasIdeal AdamwRelBiasIdeal.Gen.facts := fun m g _ => AdamwRelBiasIdeal.Gen.frame m g
theorem adamwRelBias_RI : @quiescent_AdamwRelBiasRefIdeal AdamwRelBiasRefIdeal.Gen.facts := fun m g _ =>
  (θ_run _ _ _).mono (fun r h => ⟨fun c => (h c).2.2.2, sem_eq_zero_of_no_sems rfl r.2⟩) (AdamwRelBiasRefIdeal.Value.run m g)
theorem adamwRelBias_algebraic : @algebraic_AdamwRelBiasIdeal_AdamwRelBiasRefIdeal AdamwRelBiasIdeal.Gen.facts AdamwRelBiasRefIdeal.Gen.facts := by
  intro m g m' g' _ hin
  refine ⟨_, _, _, AdamwRelBiasIdeal.Value.run m g, (θ_run _ _ _).mono (fun r h c => ?_) (AdamwRelBiasRefIdeal.Value.run m' g')⟩
  obtain ⟨h0, h1, h2, h3⟩ := h c
  obtain ⟨e0, e1, e2, e3⟩ := hin c
  refine ⟨h0.trans ?_, h1.trans ?_, h2.trans ?_, h3⟩
  · rw [e0, e1, e2, e3]; rfl
  · rw [e1, e2]; rfl
  · rw [e1, e3]; rfl

theorem adamwWOut_P : @quiescent_AdamwWOut AdamwWOut.Gen.facts := fun m g _ => AdamwWOut.Gen.frame m g
theorem adamwWOut_PI : @quiescent_AdamwWOutIdeal AdamwWOutIdeal.Gen.facts := fun m g _ => AdamwWOutIdeal.Gen.frame m g
theorem adamwWOut_RI : @quiescent_AdamwWOutRefIdeal AdamwWOutRefIdeal.Gen.facts := fun m g _ =>
  (θ_run _ _ _).mono (fun r h => ⟨fun c => (h c).2.2.2, sem_eq_zero_of_no_sems rfl r.2⟩) (AdamwWOutRefIdeal.Value.run m g)
theorem adamwWOut_algebraic : @algebraic_AdamwWOutIdeal_AdamwWOutRefIdeal AdamwWOutIdeal.Gen.facts AdamwWOutRefIdeal.Gen.facts := by
  intro m g m' g' _ hin
  refine ⟨_, _, _, AdamwWOutIdeal.Value.run m g, (θ_run _ _ _).mono (fun r h c => ?_) (AdamwWOutRefIdeal.Value.run m' g')⟩
  obtain ⟨h0, h1, h2, h3⟩ := h c
  obtain ⟨e0, e1, e2, e3⟩ := hin c
  refine ⟨h0.trans ?_, h1.trans ?_, h2.trans ?_, h3⟩
  · rw [e0, e1, e2, e3]; rfl
  · rw [e1, e2]; rfl
  · rw [e1, e3]; rfl

theorem adamwWFf1_P : @quiescent_AdamwWFf1 AdamwWFf1.Gen.facts := fun m g _ => AdamwWFf1.Gen.frame m g
theorem adamwWFf1_PI : @quiescent_AdamwWFf1Ideal AdamwWFf1Ideal.Gen.facts := fun m g _ => AdamwWFf1Ideal.Gen.frame m g
theorem adamwWFf1_RI : @quiescent_AdamwWFf1RefIdeal AdamwWFf1RefIdeal.Gen.facts := fun m g _ =>
  (θ_run _ _ _).mono (fun r h => ⟨fun c => (h c).2.2.2, sem_eq_zero_of_no_sems rfl r.2⟩) (AdamwWFf1RefIdeal.Value.run m g)
theorem adamwWFf1_algebraic : @algebraic_AdamwWFf1Ideal_AdamwWFf1RefIdeal AdamwWFf1Ideal.Gen.facts AdamwWFf1RefIdeal.Gen.facts := by
  intro m g m' g' _ hin
  refine ⟨_, _, _, AdamwWFf1Ideal.Value.run m g, (θ_run _ _ _).mono (fun r h c => ?_) (AdamwWFf1RefIdeal.Value.run m' g')⟩
  obtain ⟨h0, h1, h2, h3⟩ := h c
  obtain ⟨e0, e1, e2, e3⟩ := hin c
  refine ⟨h0.trans ?_, h1.trans ?_, h2.trans ?_, h3⟩
  · rw [e0, e1, e2, e3]; rfl
  · rw [e1, e2]; rfl
  · rw [e1, e3]; rfl

end Cert

end
-- ==== Proof.SumValue.lean ====
module

public import proofs.«01_k».proof.Defs
public import proofs.«01_k».proof.Proof.Gen.SumIn.Frame
public import proofs.«01_k».proof.Proof.Gen.SumInIdeal.Value
public import proofs.«01_k».proof.Proof.Gen.SumInRefIdeal.Run
public import proofs.«01_k».proof.Proof.Gen.SumOut.Frame
public import proofs.«01_k».proof.Proof.Gen.SumOutIdeal.Value
public import proofs.«01_k».proof.Proof.Gen.SumOutRefIdeal.Run
public import proofs.«01_k».proof.Proof.Gen.SumFf.Frame
public import proofs.«01_k».proof.Proof.Gen.SumFfIdeal.Value
public import proofs.«01_k».proof.Proof.Gen.SumFfRefIdeal.Run
public import proofs.«01_k».proof.Proof.Gen.SumSmall.Frame
public import proofs.«01_k».proof.Proof.Gen.SumSmallIdeal.Value
public import proofs.«01_k».proof.Proof.Gen.SumSmallRefIdeal.Run
public import Idealize.ShloMosaic.Lib.Pointwise.Reduce

/-! # The slot sums

Each `sum_slots` call adds the slots of a stacked array in order; the plain `jnp.sum(parts, axis=0)` adds them from zero.
Over the extended reals both are the sum over the slot number, index by index. -/

@[expose] public section

noncomputable section

namespace Cert

open Idealize.ShloMosaic Idealize.ShloMosaic.TcCoe Idealize.SL.Sem
open Idealize.ShloMosaic.Pipeline (Dat)

/-! ## SumIn: 4 slots of 512 × 772 -/

namespace SumInIdeal.Value
open Cert.SumInIdeal Cert.SumInIdeal.Gen

/-- The sum over the slot number, index by index. -/
def total (x : S4x512x772.Idx → EReal) : S512x772.Idx → EReal := fun i =>
  ∑ k : Fin 4, x (ix3 k (i 0) (i 1))

/-- The blocks of the argument move with the blocks of the result. -/
theorem moves : ∀ t : Fin cfg0.N, win0_0.index t (0 : Fin 3) = 0
    ∧ win0_0.index t (1 : Fin 3) = win0_1.index t (0 : Fin 2)
    ∧ win0_0.index t (2 : Fin 3) = win0_1.index t (1 : Fin 2)
    ∧ win0_1.index t (0 : Fin 2) ≤ 3 ∧ win0_1.index t (1 : Fin 2) = 0 :=
  (by decide +kernel : ∀ t : Fin grid0.N, _)

/-- Every block of rows is some point's. -/
theorem hits : ∀ q : Fin 4, ∃ t : Fin cfg0.N, win0_1.index t = ![q.val, 0] :=
  (by decide +kernel : ∀ q : Fin 4, ∃ t : Fin grid0.N, win0_1.index t = ![q.val, 0])

variable (m : (ℓ : Loc nD τ sig) → Buf (Elt Ideal) ℓ)

/-- What a point writes back is its block of the sum. -/
theorem writes (c : Dev nD) (t : Fin cfg0.N) :
    (dats m 0 c).flushed 1 t = ((cfg0.win 1).blk t).view.read (Elt Ideal) (total (V m c main_arg0)) := by
  rw [flushed1]
  obtain ⟨a0, a1, a2, a3, a4⟩ := moves t
  funext j
  have hj0 : (j 0).val < 128 := (j 0).isLt
  have hj1 : (j 1).val < 772 := (j 1).isLt
  obtain ⟨b, hb⟩ : ∃ b : S4x128x772.Idx → EReal, b = iblk m c 0 t := ⟨_, rfl⟩
  have hs (k : Fin 4) (y : S4x128x772.Idx) (y0 : (y 0).val = k.val) (y1 : (y 1).val = (j 0).val) (y2 : (y 2).val = (j 1).val) :
      b y = V m c main_arg0
        (ix3 k ((((cfg0.win 1).blk t).view.emb j) 0) ((((cfg0.win 1).blk t).view.emb j) 1)) := by
    rw [hb]
    show V m c main_arg0 (((cfg0.win 0).blk t).view.emb y) = _
    refine congrArg _ (funext fun a => Fin.ext ?_)
    match a with
    | ⟨0, _⟩ => show win0_0.index t (0 : Fin 3) * 4 + 1 * (y 0).val = k.val; omega
    | ⟨1, _⟩ => show win0_0.index t (1 : Fin 3) * 128 + 1 * (y 1).val = win0_1.index t (0 : Fin 2) * 128 + 1 * (j 0).val; omega
    | ⟨2, _⟩ => show win0_0.index t (2 : Fin 3) * 772 + 1 * (y 2).val = win0_1.index t (1 : Fin 2) * 772 + 1 * (j 1).val; omega
  show out0_1 (iblk m c 0 t) j = total (V m c main_arg0) (((cfg0.win 1).blk t).view.emb j)
  rw [← hb]
  unfold out0_1
  rw [canon1_eq]
  show (b (r0_0.idx (ix1_0 j)) + b (r0_1.idx (ix1_1 j)) + b (r0_2.idx (ix1_2 j)) + b (r0_3.idx (ix1_3 j)) : EReal) = _
  rw [hs 0 _ ?_ ?_ ?_, hs 1 _ ?_ ?_ ?_, hs 2 _ ?_ ?_ ?_, hs 3 _ ?_ ?_ ?_]
  · unfold total
    simp only [Fin.sum_univ_succ, Fin.sum_univ_zero]
    simp [add_assoc]
    done
  all_goals (first | rfl | exact (Nat.zero_add _).trans (Nat.one_mul _))

/-- The blocks cover the array. -/
theorem covers (i : S512x772.Idx) : ∃ t : Fin cfg0.N, (cfg0.win 1).flush t = true ∧ i ∈ ((cfg0.win 1).blk t).view.set := by
  have h0 : (i 0).val < 512 := (i 0).isLt
  have h1 : (i 1).val < 772 := (i 1).isLt
  obtain ⟨t, ht⟩ := hits ⟨(i 0).val / 128, by omega⟩
  have q0 : win0_1.index t (0 : Fin 2) = (i 0).val / 128 := congrFun ht 0
  have q1 : win0_1.index t (1 : Fin 2) = 0 := congrFun ht 1
  refine ⟨t, flush0_1 t, ?_⟩
  show i ∈ ((View.whole main_v0).slice (win0_1.rect t)).set
  rw [View.set_slice_whole, Rect.mem_set_unit]
  intro a
  match a with
  | ⟨0, _⟩ => show win0_1.index t (0 : Fin 2) * 128 ≤ (i 0).val ∧ (i 0).val < win0_1.index t (0 : Fin 2) * 128 + 128; omega
  | ⟨1, _⟩ => show win0_1.index t (1 : Fin 2) * 772 ≤ (i 1).val ∧ (i 1).val < win0_1.index t (1 : Fin 2) * 772 + 772; omega

/-- The array after the run is the sum. -/
theorem final (c : Dev nD) : (dats m 0 c).arrAt 1 cfg0.N = total (m ((c : Thread nD τ).loc main_arg0)) :=
  (dats m 0 c).arrAt_eq_of_cover 1 _ (fun t _ => writes m c t) covers

end SumInIdeal.Value

theorem sumIn_P : @quiescent_SumIn SumIn.Gen.facts := fun m g _ => SumIn.Gen.frame m g
theorem sumIn_PI : @quiescent_SumInIdeal SumInIdeal.Gen.facts := fun m g _ => SumInIdeal.Gen.frame m g
theorem sumIn_RI : @quiescent_SumInRefIdeal SumInRefIdeal.Gen.facts := fun m g _ =>
  (θ_run _ _ _).mono (fun r h => ⟨fun c => (h c).2, sem_eq_zero_of_no_sems rfl r.2⟩) (SumInRefIdeal.Value.run m g)
theorem sumIn_algebraic : @algebraic_SumInIdeal_SumInRefIdeal SumInIdeal.Gen.facts SumInRefIdeal.Gen.facts := by
  intro m g m' g' _ hin
  refine ⟨_, SumInIdeal.Value.run_blocks m g, (θ_run _ _ _).mono (fun r h c => ?_) (SumInRefIdeal.Value.run m' g')⟩
  obtain ⟨h0, h1⟩ := h c
  refine ⟨h0.trans ?_, h1⟩
  rw [hin c, SumInIdeal.Value.final m c]
  funext i
  rw [Host.reduceAdd_apply, Ideal.hostReduceAdd_def, Ideal.hostReduceAdd_r3_a0]
  exact (congrArg (· + _) Ideal.ofBits_zero_f32).trans (zero_add _)

/-! ## SumOut: 4 slots of 128 × 1024 -/

namespace SumOutIdeal.Value
open Cert.SumOutIdeal Cert.SumOutIdeal.Gen

/-- The sum over the slot number, index by index. -/
def total (x : S4x128x1024.Idx → EReal) : S128x1024.Idx → EReal := fun i =>
  ∑ k : Fin 4, x (ix3 k (i 0) (i 1))

/-- The blocks of the argument move with the blocks of the result. -/
theorem moves : ∀ t : Fin cfg0.N, win0_0.index t (0 : Fin 3) = 0
    ∧ win0_0.index t (1 : Fin 3) = win0_1.index t (0 : Fin 2)
    ∧ win0_0.index t (2 : Fin 3) = win0_1.index t (1 : Fin 2)
    ∧ win0_1.index t (0 : Fin 2) ≤ 0 ∧ win0_1.index t (1 : Fin 2) = 0 :=
  (by decide +kernel : ∀ t : Fin grid0.N, _)

/-- Every block of rows is some point's. -/
theorem hits : ∀ q : Fin 1, ∃ t : Fin cfg0.N, win0_1.index t = ![q.val, 0] :=
  (by decide +kernel : ∀ q : Fin 1, ∃ t : Fin grid0.N, win0_1.index t = ![q.val, 0])

variable (m : (ℓ : Loc nD τ sig) → Buf (Elt Ideal) ℓ)

/-- What a point writes back is its block of the sum. -/
theorem writes (c : Dev nD) (t : Fin cfg0.N) :
    (dats m 0 c).flushed 1 t = ((cfg0.win 1).blk t).view.read (Elt Ideal) (total (V m c main_arg0)) := by
  rw [flushed1]
  obtain ⟨a0, a1, a2, a3, a4⟩ := moves t
  funext j
  have hj0 : (j 0).val < 128 := (j 0).isLt
  have hj1 : (j 1).val < 1024 := (j 1).isLt
  obtain ⟨b, hb⟩ : ∃ b : S4x128x1024.Idx → EReal, b = iblk m c 0 t := ⟨_, rfl⟩
  have hs (k : Fin 4) (y : S4x128x1024.Idx) (y0 : (y 0).val = k.val) (y1 : (y 1).val = (j 0).val) (y2 : (y 2).val = (j 1).val) :
      b y = V m c main_arg0
        (ix3 k ((((cfg0.win 1).blk t).view.emb j) 0) ((((cfg0.win 1).blk t).view.emb j) 1)) := by
    rw [hb]
    show V m c main_arg0 (((cfg0.win 0).blk t).view.emb y) = _
    refine congrArg _ (funext fun a => Fin.ext ?_)
    match a with
    | ⟨0, _⟩ => show win0_0.index t (0 : Fin 3) * 4 + 1 * (y 0).val = k.val; omega
    | ⟨1, _⟩ => show win0_0.index t (1 : Fin 3) * 128 + 1 * (y 1).val = win0_1.index t (0 : Fin 2) * 128 + 1 * (j 0).val; omega
    | ⟨2, _⟩ => show win0_0.index t (2 : Fin 3) * 1024 + 1 * (y 2).val = win0_1.index t (1 : Fin 2) * 1024 + 1 * (j 1).val; omega
  show out0_1 (iblk m c 0 t) j = total (V m c main_arg0) (((cfg0.win 1).blk t).view.emb j)
  rw [← hb]
  unfold out0_1
  rw [canon1_eq]
  show (b (r0_0.idx (ix1_0 j)) + b (r0_1.idx (ix1_1 j)) + b (r0_2.idx (ix1_2 j)) + b (r0_3.idx (ix1_3 j)) : EReal) = _
  rw [hs 0 _ ?_ ?_ ?_, hs 1 _ ?_ ?_ ?_, hs 2 _ ?_ ?_ ?_, hs 3 _ ?_ ?_ ?_]
  · unfold total
    simp only [Fin.sum_univ_succ, Fin.sum_univ_zero]
    simp [add_assoc]
    done
  all_goals (first | rfl | exact (Nat.zero_add _).trans (Nat.one_mul _))

/-- The blocks cover the array. -/
theorem covers (i : S128x1024.Idx) : ∃ t : Fin cfg0.N, (cfg0.win 1).flush t = true ∧ i ∈ ((cfg0.win 1).blk t).view.set := by
  have h0 : (i 0).val < 128 := (i 0).isLt
  have h1 : (i 1).val < 1024 := (i 1).isLt
  obtain ⟨t, ht⟩ := hits ⟨(i 0).val / 128, by omega⟩
  have q0 : win0_1.index t (0 : Fin 2) = (i 0).val / 128 := congrFun ht 0
  have q1 : win0_1.index t (1 : Fin 2) = 0 := congrFun ht 1
  refine ⟨t, flush0_1 t, ?_⟩
  show i ∈ ((View.whole main_v0).slice (win0_1.rect t)).set
  rw [View.set_slice_whole, Rect.mem_set_unit]
  intro a
  match a with
  | ⟨0, _⟩ => show win0_1.index t (0 : Fin 2) * 128 ≤ (i 0).val ∧ (i 0).val < win0_1.index t (0 : Fin 2) * 128 + 128; omega
  | ⟨1, _⟩ => show win0_1.index t (1 : Fin 2) * 1024 ≤ (i 1).val ∧ (i 1).val < win0_1.index t (1 : Fin 2) * 1024 + 1024; omega

/-- The array after the run is the sum. -/
theorem final (c : Dev nD) : (dats m 0 c).arrAt 1 cfg0.N = total (m ((c : Thread nD τ).loc main_arg0)) :=
  (dats m 0 c).arrAt_eq_of_cover 1 _ (fun t _ => writes m c t) covers

end SumOutIdeal.Value

theorem sumOut_P : @quiescent_SumOut SumOut.Gen.facts := fun m g _ => SumOut.Gen.frame m g
theorem sumOut_PI : @quiescent_SumOutIdeal SumOutIdeal.Gen.facts := fun m g _ => SumOutIdeal.Gen.frame m g
theorem sumOut_RI : @quiescent_SumOutRefIdeal SumOutRefIdeal.Gen.facts := fun m g _ =>
  (θ_run _ _ _).mono (fun r h => ⟨fun c => (h c).2, sem_eq_zero_of_no_sems rfl r.2⟩) (SumOutRefIdeal.Value.run m g)
theorem sumOut_algebraic : @algebraic_SumOutIdeal_SumOutRefIdeal SumOutIdeal.Gen.facts SumOutRefIdeal.Gen.facts := by
  intro m g m' g' _ hin
  refine ⟨_, SumOutIdeal.Value.run_blocks m g, (θ_run _ _ _).mono (fun r h c => ?_) (SumOutRefIdeal.Value.run m' g')⟩
  obtain ⟨h0, h1⟩ := h c
  refine ⟨h0.trans ?_, h1⟩
  rw [hin c, SumOutIdeal.Value.final m c]
  funext i
  rw [Host.reduceAdd_apply, Ideal.hostReduceAdd_def, Ideal.hostReduceAdd_r3_a0]
  exact (congrArg (· + _) Ideal.ofBits_zero_f32).trans (zero_add _)

/-! ## SumFf: 4 slots of 512 × 1024 -/

namespace SumFfIdeal.Value
open Cert.SumFfIdeal Cert.SumFfIdeal.Gen

/-- The sum over the slot number, index by index. -/
def total (x : S4x512x1024.Idx → EReal) : S512x1024.Idx → EReal := fun i =>
  ∑ k : Fin 4, x (ix3 k (i 0) (i 1))

/-- The blocks of the argument move with the blocks of the result. -/
theorem moves : ∀ t : Fin cfg0.N, win0_0.index t (0 : Fin 3) = 0
    ∧ win0_0.index t (1 : Fin 3) = win0_1.index t (0 : Fin 2)
    ∧ win0_0.index t (2 : Fin 3) = win0_1.index t (1 : Fin 2)
    ∧ win0_1.index t (0 : Fin 2) ≤ 3 ∧ win0_1.index t (1 : Fin 2) = 0 :=
  (by decide +kernel : ∀ t : Fin grid0.N, _)

/-- Every block of rows is some point's. -/
theorem hits : ∀ q : Fin 4, ∃ t : Fin cfg0.N, win0_1.index t = ![q.val, 0] :=
  (by decide +kernel : ∀ q : Fin 4, ∃ t : Fin grid0.N, win0_1.index t = ![q.val, 0])

variable (m : (ℓ : Loc nD τ sig) → Buf (Elt Ideal) ℓ)

/-- What a point writes back is its block of the sum. -/
theorem writes (c : Dev nD) (t : Fin cfg0.N) :
    (dats m 0 c).flushed 1 t = ((cfg0.win 1).blk t).view.read (Elt Ideal) (total (V m c main_arg0)) := by
  rw [flushed1]
  obtain ⟨a0, a1, a2, a3, a4⟩ := moves t
  funext j
  have hj0 : (j 0).val < 128 := (j 0).isLt
  have hj1 : (j 1).val < 1024 := (j 1).isLt
  obtain ⟨b, hb⟩ : ∃ b : S4x128x1024.Idx → EReal, b = iblk m c 0 t := ⟨_, rfl⟩
  have hs (k : Fin 4) (y : S4x128x1024.Idx) (y0 : (y 0).val = k.val) (y1 : (y 1).val = (j 0).val) (y2 : (y 2).val = (j 1).val) :
      b y = V m c main_arg0
        (ix3 k ((((cfg0.win 1).blk t).view.emb j) 0) ((((cfg0.win 1).blk t).view.emb j) 1)) := by
    rw [hb]
    show V m c main_arg0 (((cfg0.win 0).blk t).view.emb y) = _
    refine congrArg _ (funext fun a => Fin.ext ?_)
    match a with
    | ⟨0, _⟩ => show win0_0.index t (0 : Fin 3) * 4 + 1 * (y 0).val = k.val; omega
    | ⟨1, _⟩ => show win0_0.index t (1 : Fin 3) * 128 + 1 * (y 1).val = win0_1.index t (0 : Fin 2) * 128 + 1 * (j 0).val; omega
    | ⟨2, _⟩ => show win0_0.index t (2 : Fin 3) * 1024 + 1 * (y 2).val = win0_1.index t (1 : Fin 2) * 1024 + 1 * (j 1).val; omega
  show out0_1 (iblk m c 0 t) j = total (V m c main_arg0) (((cfg0.win 1).blk t).view.emb j)
  rw [← hb]
  unfold out0_1
  rw [canon1_eq]
  show (b (r0_0.idx (ix1_0 j)) + b (r0_1.idx (ix1_1 j)) + b (r0_2.idx (ix1_2 j)) + b (r0_3.idx (ix1_3 j)) : EReal) = _
  rw [hs 0 _ ?_ ?_ ?_, hs 1 _ ?_ ?_ ?_, hs 2 _ ?_ ?_ ?_, hs 3 _ ?_ ?_ ?_]
  · unfold total
    simp only [Fin.sum_univ_succ, Fin.sum_univ_zero]
    simp [add_assoc]
    done
  all_goals (first | rfl | exact (Nat.zero_add _).trans (Nat.one_mul _))

/-- The blocks cover the array. -/
theorem covers (i : S512x1024.Idx) : ∃ t : Fin cfg0.N, (cfg0.win 1).flush t = true ∧ i ∈ ((cfg0.win 1).blk t).view.set := by
  have h0 : (i 0).val < 512 := (i 0).isLt
  have h1 : (i 1).val < 1024 := (i 1).isLt
  obtain ⟨t, ht⟩ := hits ⟨(i 0).val / 128, by omega⟩
  have q0 : win0_1.index t (0 : Fin 2) = (i 0).val / 128 := congrFun ht 0
  have q1 : win0_1.index t (1 : Fin 2) = 0 := congrFun ht 1
  refine ⟨t, flush0_1 t, ?_⟩
  show i ∈ ((View.whole main_v0).slice (win0_1.rect t)).set
  rw [View.set_slice_whole, Rect.mem_set_unit]
  intro a
  match a with
  | ⟨0, _⟩ => show win0_1.index t (0 : Fin 2) * 128 ≤ (i 0).val ∧ (i 0).val < win0_1.index t (0 : Fin 2) * 128 + 128; omega
  | ⟨1, _⟩ => show win0_1.index t (1 : Fin 2) * 1024 ≤ (i 1).val ∧ (i 1).val < win0_1.index t (1 : Fin 2) * 1024 + 1024; omega

/-- The array after the run is the sum. -/
theorem final (c : Dev nD) : (dats m 0 c).arrAt 1 cfg0.N = total (m ((c : Thread nD τ).loc main_arg0)) :=
  (dats m 0 c).arrAt_eq_of_cover 1 _ (fun t _ => writes m c t) covers

end SumFfIdeal.Value

theorem sumFf_P : @quiescent_SumFf SumFf.Gen.facts := fun m g _ => SumFf.Gen.frame m g
theorem sumFf_PI : @quiescent_SumFfIdeal SumFfIdeal.Gen.facts := fun m g _ => SumFfIdeal.Gen.frame m g
theorem sumFf_RI : @quiescent_SumFfRefIdeal SumFfRefIdeal.Gen.facts := fun m g _ =>
  (θ_run _ _ _).mono (fun r h => ⟨fun c => (h c).2, sem_eq_zero_of_no_sems rfl r.2⟩) (SumFfRefIdeal.Value.run m g)
theorem sumFf_algebraic : @algebraic_SumFfIdeal_SumFfRefIdeal SumFfIdeal.Gen.facts SumFfRefIdeal.Gen.facts := by
  intro m g m' g' _ hin
  refine ⟨_, SumFfIdeal.Value.run_blocks m g, (θ_run _ _ _).mono (fun r h c => ?_) (SumFfRefIdeal.Value.run m' g')⟩
  obtain ⟨h0, h1⟩ := h c
  refine ⟨h0.trans ?_, h1⟩
  rw [hin c, SumFfIdeal.Value.final m c]
  funext i
  rw [Host.reduceAdd_apply, Ideal.hostReduceAdd_def, Ideal.hostReduceAdd_r3_a0]
  exact (congrArg (· + _) Ideal.ofBits_zero_f32).trans (zero_add _)

/-! ## SumSmall: 8 slots of 64 × 128 -/

namespace SumSmallIdeal.Value
open Cert.SumSmallIdeal Cert.SumSmallIdeal.Gen

/-- The sum over the slot number, index by index. -/
def total (x : S8x64x128.Idx → EReal) : S64x128.Idx → EReal := fun i =>
  ∑ k : Fin 8, x (ix3 k (i 0) (i 1))

/-- The blocks of the argument move with the blocks of the result. -/
theorem moves : ∀ t : Fin cfg0.N, win0_0.index t (0 : Fin 3) = 0
    ∧ win0_0.index t (1 : Fin 3) = win0_1.index t (0 : Fin 2)
    ∧ win0_0.index t (2 : Fin 3) = win0_1.index t (1 : Fin 2)
    ∧ win0_1.index t (0 : Fin 2) ≤ 0 ∧ win0_1.index t (1 : Fin 2) = 0 :=
  (by decide +kernel : ∀ t : Fin grid0.N, _)

/-- Every block of rows is some point's. -/
theorem hits : ∀ q : Fin 1, ∃ t : Fin cfg0.N, win0_1.index t = ![q.val, 0] :=
  (by decide +kernel : ∀ q : Fin 1, ∃ t : Fin grid0.N, win0_1.index t = ![q.val, 0])

variable (m : (ℓ : Loc nD τ sig) → Buf (Elt Ideal) ℓ)

/-- What a point writes back is its block of the sum. -/
theorem writes (c : Dev nD) (t : Fin cfg0.N) :
    (dats m 0 c).flushed 1 t = ((cfg0.win 1).blk t).view.read (Elt Ideal) (total (V m c main_arg0)) := by
  rw [flushed1]
  obtain ⟨a0, a1, a2, a3, a4⟩ := moves t
  funext j
  have hj0 : (j 0).val < 64 := (j 0).isLt
  have hj1 : (j 1).val < 128 := (j 1).isLt
  obtain ⟨b, hb⟩ : ∃ b : S8x64x128.Idx → EReal, b = iblk m c 0 t := ⟨_, rfl⟩
  have hs (k : Fin 8) (y : S8x64x128.Idx) (y0 : (y 0).val = k.val) (y1 : (y 1).val = (j 0).val) (y2 : (y 2).val = (j 1).val) :
      b y = V m c main_arg0
        (ix3 k ((((cfg0.win 1).blk t).view.emb j) 0) ((((cfg0.win 1).blk t).view.emb j) 1)) := by
    rw [hb]
    show V m c main_arg0 (((cfg0.win 0).blk t).view.emb y) = _
    refine congrArg _ (funext fun a => Fin.ext ?_)
    match a with
    | ⟨0, _⟩ => show win0_0.index t (0 : Fin 3) * 8 + 1 * (y 0).val = k.val; omega
    | ⟨1, _⟩ => show win0_0.index t (1 : Fin 3) * 64 + 1 * (y 1).val = win0_1.index t (0 : Fin 2) * 64 + 1 * (j 0).val; omega
    | ⟨2, _⟩ => show win0_0.index t (2 : Fin 3) * 128 + 1 * (y 2).val = win0_1.index t (1 : Fin 2) * 128 + 1 * (j 1).val; omega
  show out0_1 (iblk m c 0 t) j = total (V m c main_arg0) (((cfg0.win 1).blk t).view.emb j)
  rw [← hb]
  unfold out0_1
  rw [canon1_eq]
  show (b (r0_0.idx (ix1_0 j)) + b (r0_1.idx (ix1_1 j)) + b (r0_2.idx (ix1_2 j)) + b (r0_3.idx (ix1_3 j)) + b (r0_4.idx (ix1_4 j)) + b (r0_5.idx (ix1_5 j)) + b (r0_6.idx (ix1_6 j)) + b (r0_7.idx (ix1_7 j)) : EReal) = _
  rw [hs 0 _ ?_ ?_ ?_, hs 1 _ ?_ ?_ ?_, hs 2 _ ?_ ?_ ?_, hs 3 _ ?_ ?_ ?_, hs 4 _ ?_ ?_ ?_, hs 5 _ ?_ ?_ ?_, hs 6 _ ?_ ?_ ?_, hs 7 _ ?_ ?_ ?_]
  · unfold total
    simp only [Fin.sum_univ_succ, Fin.sum_univ_zero]
    simp [add_assoc]
    done
  all_goals (first | rfl | exact (Nat.zero_add _).trans (Nat.one_mul _))

/-- The blocks cover the array. -/
theorem covers (i : S64x128.Idx) : ∃ t : Fin cfg0.N, (cfg0.win 1).flush t = true ∧ i ∈ ((cfg0.win 1).blk t).view.set := by
  have h0 : (i 0).val < 64 := (i 0).isLt
  have h1 : (i 1).val < 128 := (i 1).isLt
  obtain ⟨t, ht⟩ := hits ⟨(i 0).val / 64, by omega⟩
  have q0 : win0_1.index t (0 : Fin 2) = (i 0).val / 64 := congrFun ht 0
  have q1 : win0_1.index t (1 : Fin 2) = 0 := congrFun ht 1
  refine ⟨t, flush0_1 t, ?_⟩
  show i ∈ ((View.whole main_v0).slice (win0_1.rect t)).set
  rw [View.set_slice_whole, Rect.mem_set_unit]
  intro a
  match a with
  | ⟨0, _⟩ => show win0_1.index t (0 : Fin 2) * 64 ≤ (i 0).val ∧ (i 0).val < win0_1.index t (0 : Fin 2) * 64 + 64; omega
  | ⟨1, _⟩ => show win0_1.index t (1 : Fin 2) * 128 ≤ (i 1).val ∧ (i 1).val < win0_1.index t (1 : Fin 2) * 128 + 128; omega

/-- The array after the run is the sum. -/
theorem final (c : Dev nD) : (dats m 0 c).arrAt 1 cfg0.N = total (m ((c : Thread nD τ).loc main_arg0)) :=
  (dats m 0 c).arrAt_eq_of_cover 1 _ (fun t _ => writes m c t) covers

end SumSmallIdeal.Value

theorem sumSmall_P : @quiescent_SumSmall SumSmall.Gen.facts := fun m g _ => SumSmall.Gen.frame m g
theorem sumSmall_PI : @quiescent_SumSmallIdeal SumSmallIdeal.Gen.facts := fun m g _ => SumSmallIdeal.Gen.frame m g
theorem sumSmall_RI : @quiescent_SumSmallRefIdeal SumSmallRefIdeal.Gen.facts := fun m g _ =>
  (θ_run _ _ _).mono (fun r h => ⟨fun c => (h c).2, sem_eq_zero_of_no_sems rfl r.2⟩) (SumSmallRefIdeal.Value.run m g)
theorem sumSmall_algebraic : @algebraic_SumSmallIdeal_SumSmallRefIdeal SumSmallIdeal.Gen.facts SumSmallRefIdeal.Gen.facts := by
  intro m g m' g' _ hin
  refine ⟨_, SumSmallIdeal.Value.run_blocks m g, (θ_run _ _ _).mono (fun r h c => ?_) (SumSmallRefIdeal.Value.run m' g')⟩
  obtain ⟨h0, h1⟩ := h c
  refine ⟨h0.trans ?_, h1⟩
  rw [hin c, SumSmallIdeal.Value.final m c]
  funext i
  rw [Host.reduceAdd_apply, Ideal.hostReduceAdd_def, Ideal.hostReduceAdd_r3_a0]
  exact (congrArg (· + _) Ideal.ofBits_zero_f32).trans (zero_add _)

end Cert

end
-- ==== Proof.AddValue.lean ====
module

public import proofs.«01_k».proof.Defs
public import proofs.«01_k».proof.Proof.Gen.AddIn.Frame
public import proofs.«01_k».proof.Proof.Gen.AddInIdeal.Frame
public import proofs.«01_k».proof.Proof.Gen.AddInRefIdeal.Run
public import proofs.«01_k».proof.Proof.Gen.Pre_core_named_in
public import proofs.«01_k».proof.Proof.Gen.AddOut.Frame
public import proofs.«01_k».proof.Proof.Gen.AddOutIdeal.Frame
public import proofs.«01_k».proof.Proof.Gen.AddOutRefIdeal.Run
public import proofs.«01_k».proof.Proof.Gen.Pre_core_named_out
public import proofs.«01_k».proof.Proof.Gen.AddFf.Frame
public import proofs.«01_k».proof.Proof.Gen.AddFfIdeal.Frame
public import proofs.«01_k».proof.Proof.Gen.AddFfRefIdeal.Run
public import proofs.«01_k».proof.Proof.Gen.Pre_core_named_ff
public import Idealize.ShloMosaic.Lib.Pipeline.Value
public import Idealize.ShloMosaic.Lib.Pipeline.ValueKit
public import Idealize.ShloMosaic.Lib.Pipeline.Covers
public import Idealize.ShloMosaic.Lib.Pipeline.ReadBack
public import Idealize.ShloMosaic.Lib.Pointwise

/-! # The half that a core keeps

Each `add_halves` call adds what the other core sent to this core's half of the rows, and the number of the core says
which half that is. The number is 0 or 1; at any other the call would read rows that the array does not have. -/

@[expose] public section

noncomputable section

namespace Cert

open Idealize.ShloMosaic Idealize.ShloMosaic.TcCoe Idealize.SL.Sem
open Idealize.ShloMosaic.Pipeline (Dat)

/-- The core's number is 0 or 1. -/
def core_is (w : (⟨1, ![1]⟩ : Shape).Idx → BitVec 32) : Prop := ∀ j, w j = 0#32 ∨ w j = 1#32

theorem one_index (j k : (⟨1, ![1]⟩ : Shape).Idx) : j = k := by
  funext a
  match a with
  | ⟨0, _⟩ => exact Subsingleton.elim (α := Fin 1) _ _

/-- The one index of the core's number. -/
abbrev only : (⟨1, ![1]⟩ : Shape).Idx := fun a => ⟨0, by match a with | ⟨0, _⟩ => exact Nat.one_pos⟩

theorem eq_word (v : BitVec 32) : IntOp.cmpi .eq v 0#32 = 1#1 ↔ v = 0#32 := by
  have ofBool_one (p : Bool) : BitVec.ofBool p = 1#1 ↔ p = true := by cases p <;> decide
  simp [IntOp.cmpi, ofBool_one]

theorem core_of_word {v : BitVec 32} (h : IntOp.andi (IntOp.cmpi .sge v 0#32) (IntOp.cmpi .sle v 1#32) = 1#1) : v = 0#32 ∨ v = 1#32 := by
  have andi_one (a b : BitVec 1) : IntOp.andi a b = 1#1 ↔ a = 1#1 ∧ b = 1#1 := by revert a b; decide
  have ofBool_one (p : Bool) : BitVec.ofBool p = 1#1 ↔ p = true := by cases p <;> decide
  rw [andi_one] at h
  simp only [IntOp.cmpi, ofBool_one, BitVec.sle, decide_eq_true_eq] at h
  obtain ⟨h0, h1⟩ := h
  have e0 : (0#32).toInt = 0 := by decide
  have e1 : (1#32).toInt = 1 := by decide
  rw [e0] at h0
  rw [e1] at h1
  have hv : v = BitVec.ofInt 32 v.toInt := (BitVec.ofInt_toInt ..).symm
  rcases (by omega : v.toInt = 0 ∨ v.toInt = 1) with e | e <;> rw [e] at hv
  · exact .inl hv
  · exact .inr hv

/-! ## AddIn: 4 slots of 1024 × 772, of which 512 rows are the core's -/

namespace AddIn.Value
open Cert.AddIn Cert.AddIn.Gen

/-- The index map of the first argument, at a core's number that is 0 or 1, names blocks inside the array. -/
theorem ok {F : FTy → Type} [FloatOps F] (m : (ℓ : Loc nD τ sig) → Buf (Elt F) ℓ)
    (hw : core_is (m (((0 : Dev nD) : Thread nD τ).loc main_arg2))) : Ok m := by
  intro i
  have i0 : (i 0).val < 4 := (i 0).isLt
  have i1 : (i 1).val < 4 := (i 1).isLt
  refine ⟨fun a => ?_, .inl rfl⟩
  unfold cc0_transform_0
  obtain ⟨v, hv⟩ : ∃ v, v = (tbl m).at 0 (Rect.unit (s := S1) ![0] S1.size inb_S1_S1_0) numel1_S1 := ⟨_, rfl⟩
  have hw : v = 0#32 ∨ v = 1#32 := by rw [hv]; exact hw _
  rw [← hv]
  rcases hw with rfl | rfl <;>
  match a with
  | ⟨0, _⟩ => show ((BitVec.ofNat 32 (i 0).val).toNat + 1) * 1 ≤ 4; rw [BitVec.toNat_ofNat]; omega
  | ⟨1, _⟩ => simp [Scalar.addi, Scalar.muli, IntOp.addi, IntOp.muli] <;> omega
  | ⟨2, _⟩ => show (0 + 1) * 772 ≤ 772; omega

end AddIn.Value

namespace AddInIdeal.Value
open Cert.AddInIdeal Cert.AddInIdeal.Gen

/-- The index map of the first argument, at a core's number that is 0 or 1, names blocks inside the array. -/
theorem ok {F : FTy → Type} [FloatOps F] (m : (ℓ : Loc nD τ sig) → Buf (Elt F) ℓ)
    (hw : core_is (m (((0 : Dev nD) : Thread nD τ).loc main_arg2))) : Ok m := by
  intro i
  have i0 : (i 0).val < 4 := (i 0).isLt
  have i1 : (i 1).val < 4 := (i 1).isLt
  refine ⟨fun a => ?_, .inl rfl⟩
  unfold cc0_transform_0
  obtain ⟨v, hv⟩ : ∃ v, v = (tbl m).at 0 (Rect.unit (s := S1) ![0] S1.size inb_S1_S1_0) numel1_S1 := ⟨_, rfl⟩
  have hw : v = 0#32 ∨ v = 1#32 := by rw [hv]; exact hw _
  rw [← hv]
  rcases hw with rfl | rfl <;>
  match a with
  | ⟨0, _⟩ => show ((BitVec.ofNat 32 (i 0).val).toNat + 1) * 1 ≤ 4; rw [BitVec.toNat_ofNat]; omega
  | ⟨1, _⟩ => simp [Scalar.addi, Scalar.muli, IntOp.addi, IntOp.muli] <;> omega
  | ⟨2, _⟩ => show (0 + 1) * 772 ≤ 772; omega

end AddInIdeal.Value

theorem addIn_core {F : FTy → Type} [FloatOps F] (x : FVec F Pre_core_named_in.S4x1024x772 .f32) (y : FVec F Pre_core_named_in.S4x512x772 .f32)
    (w : IVec Pre_core_named_in.S1 32)
    (hp : @Pre_core_named_in.fn Pre_core_named_in.Gen.facts F _ x y w = fun _ => 1#1) : core_is w := by
  intro j
  have hj := congrFun hp j
  simp only [Pre_core_named_in.fn, constantI, broadcastInDim, cmpi, andi] at hj
  exact core_of_word hj

namespace AddInIdeal.Value
open Cert.AddInIdeal Cert.AddInIdeal.Gen

variable (m : (ℓ : Loc nD τ sig) → Buf (Elt Ideal) ℓ) (ρ : Dev nD → PrngReg)

/-- The run leaves the result as its window's array after the last point, and the arguments as they were. -/
theorem run_blocks (hO : Ok m) : θ_run defs (onTc (τ := τ) (main (F := Ideal))) ⟨m, fun _ => 0, ρ⟩ fun r => ∀ c : Dev nD,
      r.2.mem ((c : Thread nD τ).loc main_v0) = (dats m hO 0 c).arrAt 2 (cfgM m hO).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 2,
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).2 main_arg2 (by decide : main_arg2 ∈ Pipeline.restRefs sig spec0)).trans (V_main_arg2 m c)⟩)
    (run_main m ρ hO)

/-- The core's rows of the first argument. -/
def kept (w : S1.Idx → BitVec 32) (g : S4x1024x772.Idx → EReal) (i : S4x512x772.Idx) : EReal :=
  if w only = 0#32
  then g (ix3 (i 0) ⟨(i 1).val, Nat.lt_of_lt_of_le (i 1).isLt (by decide)⟩ (i 2))
  else g (ix3 (i 0) ⟨512 + (i 1).val, Nat.add_lt_add_left (i 1).isLt 512⟩ (i 2))

/-- The blocks of the three arrays at a point, in the two cases of the core's number. -/
theorem blocks : ∀ t : Fin grid0.N, cc0_transform_2 (grid0.coords t) = cc0_transform_1 (grid0.coords t) ∧ cc0_transform_1 (grid0.coords t) 1 < 4 ∧ cc0_transform_1 (grid0.coords t) 2 = 0 :=
  by decide +kernel

/-- The first argument's block is the result's, or that many blocks further, as the core's number says. -/
theorem first (hw : core_is (m (((0 : Dev nD) : Thread nD τ).loc main_arg2))) (i : grid0.Coords) :
    ((m (((0 : Dev nD) : Thread nD τ).loc main_arg2) : S1.Idx → BitVec 32) only = 0#32
        ∧ cc0_transform_0 inb_S1_S1_0 numel1_S1 (tbl m) i = cc0_transform_1 i)
    ∨ ((m (((0 : Dev nD) : Thread nD τ).loc main_arg2) : S1.Idx → BitVec 32) only ≠ 0#32
        ∧ cc0_transform_0 inb_S1_S1_0 numel1_S1 (tbl m) i = ![cc0_transform_1 i 0, 4 + cc0_transform_1 i 1, 0]) := by
  have i1 : (i 1).val < 4 := (i 1).isLt
  unfold cc0_transform_0 cc0_transform_1
  obtain ⟨v, hv⟩ : ∃ v, v = (tbl m).at 0 (Rect.unit (s := S1) ![0] S1.size inb_S1_S1_0) numel1_S1 := ⟨_, rfl⟩
  have hv' : v = (m (((0 : Dev nD) : Thread nD τ).loc main_arg2) : S1.Idx → BitVec 32) only :=
    hv.trans (congrArg (m (((0 : Dev nD) : Thread nD τ).loc main_arg2) : S1.Idx → BitVec 32) (one_index _ _))
  rw [← hv, ← hv']
  have hw : v = 0#32 ∨ v = 1#32 := by rw [hv']; exact hw _
  rcases hw with rfl | rfl
  · refine .inl ⟨rfl, ?_⟩
    simp [Scalar.addi, Scalar.muli, IntOp.addi, IntOp.muli]
  · refine .inr ⟨(by decide : (1#32 : BitVec 32) ≠ 0#32), ?_⟩
    simp [Scalar.addi, Scalar.muli, IntOp.addi, IntOp.muli] <;> omega

/-- What a point leaves is the sum of its two blocks. -/
theorem out_eq (c : Dev nD) (i : grid0.Coords) (a : Memref sig .tc .vmem S1x128x772 .f32) (ha : a.IsWhole) (b : Memref sig .tc .vmem S1x128x772 .f32) (hb : b.IsWhole)
    (o : Memref sig .tc .vmem S1x128x772 .bf16) (ho : o.IsWhole) (x y : Vec Ideal S1x128x772 .f32) (w : TbBuf0 (F := Ideal) c tbM0_0) (j : S1x128x772.Idx) :
    out0_A_2 c i a ha b hb o ho x y w j = @HAdd.hAdd EReal EReal EReal _ (x j) (y j) := by
  frame_out
  rfl

/-- Every block of the result is some point's. -/
theorem hits : ∀ (k : Fin 4) (q : Fin 4), ∃ t : Fin grid0.N, cc0_transform_2 (grid0.coords t) = ![k.val, q.val, 0] := by
  decide +kernel

/-- The result after the run: the core's rows of the first argument and the second argument, added. -/
theorem final (hw : core_is (m (((0 : Dev nD) : Thread nD τ).loc main_arg2))) (hO : Ok m) (c : Dev nD) : (dats m hO 0 c).arrAt 2 (cfgM m hO).N
    = fun i => (kept (m ((c : Thread nD τ).loc main_arg2)) (m ((c : Thread nD τ).loc main_arg0)) i
        + (m ((c : Thread nD τ).loc main_arg1) : S4x512x772.Idx → EReal) i : EReal) := by
  refine (dats m hO 0 c).arrAt_eq_of_emb 2 _ (fun t hf (y : S1x128x772.Idx) => ?_) ?_
  · show (dats m hO 0 c).after 2 t y = _
    rw [after0_2]
    unfold outsAt0
    refine (out_eq c _ _ _ _ _ _ _ _ _ _ y).trans ?_
    obtain rfl : c = 0 := Subsingleton.elim _ _
    obtain ⟨b0, b1, b2⟩ := blocks t
    have y0 : (y 0).val < 1 := (y 0).isLt
    have y1 : (y 1).val < 128 := (y 1).isLt
    have y2 : (y 2).val < 772 := (y 2).isLt
    have q0 := congrFun b0 0
    have q1 := congrFun b0 1
    have q2 := congrFun b0 2
    show @HAdd.hAdd EReal EReal EReal _ (V m 0 main_arg0 ((((cfgM m hO).win 0).blk t).view.emb y)) (V m 0 main_arg1 ((((cfgM m hO).win 1).blk t).view.emb y))
      = @HAdd.hAdd EReal EReal EReal _ (kept (m (((0 : Dev nD) : Thread nD τ).loc main_arg2)) (m (((0 : Dev nD) : Thread nD τ).loc main_arg0)) ((((cfgM m hO).win 2).blk t).view.emb y))
        ((m (((0 : Dev nD) : Thread nD τ).loc main_arg1) : S4x512x772.Idx → EReal) ((((cfgM m hO).win 2).blk t).view.emb y))
    refine congrArg₂ (@HAdd.hAdd EReal EReal EReal _) ?_ ?_
    · unfold kept
      rcases first m hw (grid0.coords t) with ⟨hz, e⟩ | ⟨hz, e⟩
      · rw [if_pos hz]
        refine congrArg (m (((0 : Dev nD) : Thread nD τ).loc main_arg0) : S4x1024x772.Idx → EReal) (funext fun a => Fin.ext ?_)
        have p0 := congrFun e 0
        have p1 := congrFun e 1
        have p2 := congrFun e 2
        match a with
        | ⟨0, _⟩ => show cc0_transform_0 inb_S1_S1_0 numel1_S1 (tbl m) (grid0.coords t) 0 * 1 + 1 * (y 0).val = cc0_transform_2 (grid0.coords t) 0 * 1 + 1 * (y 0).val; omega
        | ⟨1, _⟩ => show cc0_transform_0 inb_S1_S1_0 numel1_S1 (tbl m) (grid0.coords t) 1 * 128 + 1 * (y 1).val = cc0_transform_2 (grid0.coords t) 1 * 128 + 1 * (y 1).val; omega
        | ⟨2, _⟩ => show cc0_transform_0 inb_S1_S1_0 numel1_S1 (tbl m) (grid0.coords t) 2 * 772 + 1 * (y 2).val = cc0_transform_2 (grid0.coords t) 2 * 772 + 1 * (y 2).val; omega
      · rw [if_neg hz]
        refine congrArg (m (((0 : Dev nD) : Thread nD τ).loc main_arg0) : S4x1024x772.Idx → EReal) (funext fun a => Fin.ext ?_)
        have p0 : cc0_transform_0 inb_S1_S1_0 numel1_S1 (tbl m) (grid0.coords t) 0 = cc0_transform_1 (grid0.coords t) 0 := congrFun e 0
        have p1 : cc0_transform_0 inb_S1_S1_0 numel1_S1 (tbl m) (grid0.coords t) 1 = 4 + cc0_transform_1 (grid0.coords t) 1 := congrFun e 1
        have p2 : cc0_transform_0 inb_S1_S1_0 numel1_S1 (tbl m) (grid0.coords t) 2 = 0 := congrFun e 2
        match a with
        | ⟨0, _⟩ => show cc0_transform_0 inb_S1_S1_0 numel1_S1 (tbl m) (grid0.coords t) 0 * 1 + 1 * (y 0).val = cc0_transform_2 (grid0.coords t) 0 * 1 + 1 * (y 0).val; omega
        | ⟨1, _⟩ => show cc0_transform_0 inb_S1_S1_0 numel1_S1 (tbl m) (grid0.coords t) 1 * 128 + 1 * (y 1).val = 512 + (cc0_transform_2 (grid0.coords t) 1 * 128 + 1 * (y 1).val); omega
        | ⟨2, _⟩ => show cc0_transform_0 inb_S1_S1_0 numel1_S1 (tbl m) (grid0.coords t) 2 * 772 + 1 * (y 2).val = cc0_transform_2 (grid0.coords t) 2 * 772 + 1 * (y 2).val; omega
    · refine congrArg (m (((0 : Dev nD) : Thread nD τ).loc main_arg1) : S4x512x772.Idx → EReal) (funext fun a => Fin.ext ?_)
      match a with
      | ⟨0, _⟩ => show cc0_transform_1 (grid0.coords t) 0 * 1 + 1 * (y 0).val = cc0_transform_2 (grid0.coords t) 0 * 1 + 1 * (y 0).val; omega
      | ⟨1, _⟩ => show cc0_transform_1 (grid0.coords t) 1 * 128 + 1 * (y 1).val = cc0_transform_2 (grid0.coords t) 1 * 128 + 1 * (y 1).val; omega
      | ⟨2, _⟩ => show cc0_transform_1 (grid0.coords t) 2 * 772 + 1 * (y 2).val = cc0_transform_2 (grid0.coords t) 2 * 772 + 1 * (y 2).val; omega
  · intro (i : S4x512x772.Idx)
    have h0 : (i 0).val < 4 := (i 0).isLt
    have h1 : (i 1).val < 512 := (i 1).isLt
    have h2 : (i 2).val < 772 := (i 2).isLt
    obtain ⟨t0, ht0⟩ := hits ⟨(i 0).val, h0⟩ ⟨(i 1).val / 128, by omega⟩
    obtain ⟨t, -, hf, ht⟩ := Pipeline.Window.exists_flush_same_index ((cfgM m hO).win 2) rfl t0
    have ht' : cc0_transform_2 (grid0.coords t) = ![(i 0).val, (i 1).val / 128, 0] := Eq.trans ht ht0
    have q0 : cc0_transform_2 (grid0.coords t) 0 = (i 0).val := congrFun ht' 0
    have q1 : cc0_transform_2 (grid0.coords t) 1 = (i 1).val / 128 := congrFun ht' 1
    have q2 : cc0_transform_2 (grid0.coords t) 2 = 0 := congrFun ht' 2
    refine ⟨t, hf, ?_⟩
    suffices hi : i ∈ ((View.whole main_v0).slice (Rect.block (s := S4x512x772) S1x128x772.size (cc0_transform_2 (grid0.coords t)) (hinb0_2 (grid0.coords t)))).set by exact hi
    rw [View.set_slice_whole, Rect.mem_set_unit]
    intro a
    match a with
    | ⟨0, _⟩ => show cc0_transform_2 (grid0.coords t) 0 * 1 ≤ (i 0).val ∧ (i 0).val < cc0_transform_2 (grid0.coords t) 0 * 1 + 1; omega
    | ⟨1, _⟩ => show cc0_transform_2 (grid0.coords t) 1 * 128 ≤ (i 1).val ∧ (i 1).val < cc0_transform_2 (grid0.coords t) 1 * 128 + 128; omega
    | ⟨2, _⟩ => show cc0_transform_2 (grid0.coords t) 2 * 772 ≤ (i 2).val ∧ (i 2).val < cc0_transform_2 (grid0.coords t) 2 * 772 + 772; omega

end AddInIdeal.Value

theorem okB_In (m : (ℓ : Loc AddIn.nD AddIn.τ AddIn.sig) → Buf (Elt Bits) ℓ) (hp : @Pre_AddIn Pre_core_named_in.Gen.facts m) : AddIn.Gen.Ok m :=
  AddIn.Value.ok m (addIn_core _ _ _ (hp 0))

theorem addIn_word (m : (ℓ : Loc AddInIdeal.nD AddInIdeal.τ AddInIdeal.sig) → Buf (Elt Ideal) ℓ) (hp : @Pre_AddInIdeal Pre_core_named_in.Gen.facts m) :
    core_is (m (((0 : Dev AddInIdeal.nD) : Thread AddInIdeal.nD AddInIdeal.τ).loc AddInIdeal.main_arg2)) :=
  addIn_core _ _ _ (hp 0)

theorem addIn_P : @quiescent_AddIn AddIn.Gen.facts Pre_core_named_in.Gen.facts := fun m g hp => AddIn.Gen.frame m g (okB_In m hp)
theorem addIn_PI : @quiescent_AddInIdeal AddInIdeal.Gen.facts Pre_core_named_in.Gen.facts := fun m g hp =>
  AddInIdeal.Gen.frame m g (AddInIdeal.Value.ok m (addIn_word m hp))
theorem addIn_RI : @quiescent_AddInRefIdeal AddInRefIdeal.Gen.facts := fun m g _ =>
  (θ_run _ _ _).mono (fun r h => ⟨fun c => (h c).2, sem_eq_zero_of_no_sems rfl r.2⟩) (AddInRefIdeal.Value.run m g)
theorem addIn_RI_core : @quiescent_AddInRefIdeal_pre_core_named_in AddInRefIdeal.Gen.facts Pre_core_named_in.Gen.facts := fun m g _ =>
  addIn_RI m g trivial
theorem addIn_algebraic : @algebraic_AddInIdeal_AddInRefIdeal AddInIdeal.Gen.facts AddInRefIdeal.Gen.facts Pre_core_named_in.Gen.facts := by
  intro m g m' g' hp hin
  have hw := addIn_word m hp
  refine ⟨_, AddInIdeal.Value.run_blocks m g (AddInIdeal.Value.ok m hw), (θ_run _ _ _).mono (fun r h c => ?_) (AddInRefIdeal.Value.run m' g')⟩
  obtain ⟨h0, h1⟩ := h c
  obtain ⟨e0, e1, e2⟩ := hin c
  refine ⟨h0.trans ?_, h1⟩
  rw [e0, e1, e2, AddInIdeal.Value.final m hw]
  funext i
  obtain rfl : c = 0 := Subsingleton.elim _ _
  have hc : (shapeCast AddInRefIdeal.S_ (m (((0 : Dev AddInIdeal.nD) : Thread AddInIdeal.nD AddInIdeal.τ).loc AddInIdeal.main_arg2) : IVec AddInRefIdeal.S1 32) AddInRefIdeal.Gen.shapeCasts_S1_S_ : IVec AddInRefIdeal.S_ 32)
      = fun _ => (m (((0 : Dev AddInIdeal.nD) : Thread AddInIdeal.nD AddInIdeal.τ).loc AddInIdeal.main_arg2) : AddInIdeal.S1.Idx → BitVec 32) only :=
    funext fun _ => congrArg (m (((0 : Dev AddInIdeal.nD) : Thread AddInIdeal.nD AddInIdeal.τ).loc AddInIdeal.main_arg2) : AddInIdeal.S1.Idx → BitVec 32) (one_index _ _)
  rw [hc]
  refine congrArg (fun s : EReal => @HAdd.hAdd EReal EReal EReal _ s ((m (((0 : Dev AddInIdeal.nD) : Thread AddInIdeal.nD AddInIdeal.τ).loc AddInIdeal.main_arg1) : AddInIdeal.S4x512x772.Idx → EReal) i)) (?_ : _ = _)
  show (if IntOp.cmpi .eq ((m (((0 : Dev AddInIdeal.nD) : Thread AddInIdeal.nD AddInIdeal.τ).loc AddInIdeal.main_arg2) : AddInIdeal.S1.Idx → BitVec 32) only) 0#32 = 1#1
      then (m (((0 : Dev AddInIdeal.nD) : Thread AddInIdeal.nD AddInIdeal.τ).loc AddInIdeal.main_arg0) : AddInIdeal.S4x1024x772.Idx → EReal) _
      else (m (((0 : Dev AddInIdeal.nD) : Thread AddInIdeal.nD AddInIdeal.τ).loc AddInIdeal.main_arg0) : AddInIdeal.S4x1024x772.Idx → EReal) _ : EReal) = _
  unfold AddInIdeal.Value.kept
  refine if_congr (eq_word _) (congrArg _ (funext fun a => Fin.ext ?_)) (congrArg _ (funext fun a => Fin.ext ?_))
  · match a with
    | ⟨0, _⟩ => show 0 + (i 0).val = (i 0).val; omega
    | ⟨1, _⟩ => show 0 + (i 1).val = (i 1).val; omega
    | ⟨2, _⟩ => show 0 + (i 2).val = (i 2).val; omega
  · match a with
    | ⟨0, _⟩ => show 0 + (i 0).val = (i 0).val; omega
    | ⟨1, _⟩ => show 512 + (i 1).val = 512 + (i 1).val; omega
    | ⟨2, _⟩ => show 0 + (i 2).val = (i 2).val; omega

/-! ## AddOut: 4 slots of 256 × 1024, of which 128 rows are the core's -/

namespace AddOut.Value
open Cert.AddOut Cert.AddOut.Gen

/-- The index map of the first argument, at a core's number that is 0 or 1, names blocks inside the array. -/
theorem ok {F : FTy → Type} [FloatOps F] (m : (ℓ : Loc nD τ sig) → Buf (Elt F) ℓ)
    (hw : core_is (m (((0 : Dev nD) : Thread nD τ).loc main_arg2))) : Ok m := by
  intro i
  have i0 : (i 0).val < 4 := (i 0).isLt
  have i1 : (i 1).val < 1 := (i 1).isLt
  refine ⟨fun a => ?_, .inl rfl⟩
  unfold cc0_transform_0
  obtain ⟨v, hv⟩ : ∃ v, v = (tbl m).at 0 (Rect.unit (s := S1) ![0] S1.size inb_S1_S1_0) numel1_S1 := ⟨_, rfl⟩
  have hw : v = 0#32 ∨ v = 1#32 := by rw [hv]; exact hw _
  rw [← hv]
  rcases hw with rfl | rfl <;>
  match a with
  | ⟨0, _⟩ => show ((BitVec.ofNat 32 (i 0).val).toNat + 1) * 1 ≤ 4; rw [BitVec.toNat_ofNat]; omega
  | ⟨1, _⟩ => simp [Scalar.addi, Scalar.muli, IntOp.addi, IntOp.muli] <;> omega
  | ⟨2, _⟩ => show (0 + 1) * 1024 ≤ 1024; omega

end AddOut.Value

namespace AddOutIdeal.Value
open Cert.AddOutIdeal Cert.AddOutIdeal.Gen

/-- The index map of the first argument, at a core's number that is 0 or 1, names blocks inside the array. -/
theorem ok {F : FTy → Type} [FloatOps F] (m : (ℓ : Loc nD τ sig) → Buf (Elt F) ℓ)
    (hw : core_is (m (((0 : Dev nD) : Thread nD τ).loc main_arg2))) : Ok m := by
  intro i
  have i0 : (i 0).val < 4 := (i 0).isLt
  have i1 : (i 1).val < 1 := (i 1).isLt
  refine ⟨fun a => ?_, .inl rfl⟩
  unfold cc0_transform_0
  obtain ⟨v, hv⟩ : ∃ v, v = (tbl m).at 0 (Rect.unit (s := S1) ![0] S1.size inb_S1_S1_0) numel1_S1 := ⟨_, rfl⟩
  have hw : v = 0#32 ∨ v = 1#32 := by rw [hv]; exact hw _
  rw [← hv]
  rcases hw with rfl | rfl <;>
  match a with
  | ⟨0, _⟩ => show ((BitVec.ofNat 32 (i 0).val).toNat + 1) * 1 ≤ 4; rw [BitVec.toNat_ofNat]; omega
  | ⟨1, _⟩ => simp [Scalar.addi, Scalar.muli, IntOp.addi, IntOp.muli] <;> omega
  | ⟨2, _⟩ => show (0 + 1) * 1024 ≤ 1024; omega

end AddOutIdeal.Value

theorem addOut_core {F : FTy → Type} [FloatOps F] (x : FVec F Pre_core_named_out.S4x256x1024 .f32) (y : FVec F Pre_core_named_out.S4x128x1024 .f32)
    (w : IVec Pre_core_named_out.S1 32)
    (hp : @Pre_core_named_out.fn Pre_core_named_out.Gen.facts F _ x y w = fun _ => 1#1) : core_is w := by
  intro j
  have hj := congrFun hp j
  simp only [Pre_core_named_out.fn, constantI, broadcastInDim, cmpi, andi] at hj
  exact core_of_word hj

namespace AddOutIdeal.Value
open Cert.AddOutIdeal Cert.AddOutIdeal.Gen

variable (m : (ℓ : Loc nD τ sig) → Buf (Elt Ideal) ℓ) (ρ : Dev nD → PrngReg)

/-- The run leaves the result as its window's array after the last point, and the arguments as they were. -/
theorem run_blocks (hO : Ok m) : θ_run defs (onTc (τ := τ) (main (F := Ideal))) ⟨m, fun _ => 0, ρ⟩ fun r => ∀ c : Dev nD,
      r.2.mem ((c : Thread nD τ).loc main_v0) = (dats m hO 0 c).arrAt 2 (cfgM m hO).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 2,
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).2 main_arg2 (by decide : main_arg2 ∈ Pipeline.restRefs sig spec0)).trans (V_main_arg2 m c)⟩)
    (run_main m ρ hO)

/-- The core's rows of the first argument. -/
def kept (w : S1.Idx → BitVec 32) (g : S4x256x1024.Idx → EReal) (i : S4x128x1024.Idx) : EReal :=
  if w only = 0#32
  then g (ix3 (i 0) ⟨(i 1).val, Nat.lt_of_lt_of_le (i 1).isLt (by decide)⟩ (i 2))
  else g (ix3 (i 0) ⟨128 + (i 1).val, Nat.add_lt_add_left (i 1).isLt 128⟩ (i 2))

/-- The blocks of the three arrays at a point, in the two cases of the core's number. -/
theorem blocks : ∀ t : Fin grid0.N, cc0_transform_2 (grid0.coords t) = cc0_transform_1 (grid0.coords t) ∧ cc0_transform_1 (grid0.coords t) 1 < 1 ∧ cc0_transform_1 (grid0.coords t) 2 = 0 :=
  by decide +kernel

/-- The first argument's block is the result's, or that many blocks further, as the core's number says. -/
theorem first (hw : core_is (m (((0 : Dev nD) : Thread nD τ).loc main_arg2))) (i : grid0.Coords) :
    ((m (((0 : Dev nD) : Thread nD τ).loc main_arg2) : S1.Idx → BitVec 32) only = 0#32
        ∧ cc0_transform_0 inb_S1_S1_0 numel1_S1 (tbl m) i = cc0_transform_1 i)
    ∨ ((m (((0 : Dev nD) : Thread nD τ).loc main_arg2) : S1.Idx → BitVec 32) only ≠ 0#32
        ∧ cc0_transform_0 inb_S1_S1_0 numel1_S1 (tbl m) i = ![cc0_transform_1 i 0, 1 + cc0_transform_1 i 1, 0]) := by
  have i1 : (i 1).val < 1 := (i 1).isLt
  unfold cc0_transform_0 cc0_transform_1
  obtain ⟨v, hv⟩ : ∃ v, v = (tbl m).at 0 (Rect.unit (s := S1) ![0] S1.size inb_S1_S1_0) numel1_S1 := ⟨_, rfl⟩
  have hv' : v = (m (((0 : Dev nD) : Thread nD τ).loc main_arg2) : S1.Idx → BitVec 32) only :=
    hv.trans (congrArg (m (((0 : Dev nD) : Thread nD τ).loc main_arg2) : S1.Idx → BitVec 32) (one_index _ _))
  rw [← hv, ← hv']
  have hw : v = 0#32 ∨ v = 1#32 := by rw [hv']; exact hw _
  rcases hw with rfl | rfl
  · refine .inl ⟨rfl, ?_⟩
    simp [Scalar.addi, Scalar.muli, IntOp.addi, IntOp.muli]
  · refine .inr ⟨(by decide : (1#32 : BitVec 32) ≠ 0#32), ?_⟩
    simp [Scalar.addi, Scalar.muli, IntOp.addi, IntOp.muli] <;> omega

/-- What a point leaves is the sum of its two blocks. -/
theorem out_eq (c : Dev nD) (i : grid0.Coords) (a : Memref sig .tc .vmem S1x128x1024 .f32) (ha : a.IsWhole) (b : Memref sig .tc .vmem S1x128x1024 .f32) (hb : b.IsWhole)
    (o : Memref sig .tc .vmem S1x128x1024 .bf16) (ho : o.IsWhole) (x y : Vec Ideal S1x128x1024 .f32) (w : TbBuf0 (F := Ideal) c tbM0_0) (j : S1x128x1024.Idx) :
    out0_A_2 c i a ha b hb o ho x y w j = @HAdd.hAdd EReal EReal EReal _ (x j) (y j) := by
  frame_out
  rfl

/-- Every block of the result is some point's. -/
theorem hits : ∀ (k : Fin 4) (q : Fin 1), ∃ t : Fin grid0.N, cc0_transform_2 (grid0.coords t) = ![k.val, q.val, 0] := by
  decide +kernel

/-- The result after the run: the core's rows of the first argument and the second argument, added. -/
theorem final (hw : core_is (m (((0 : Dev nD) : Thread nD τ).loc main_arg2))) (hO : Ok m) (c : Dev nD) : (dats m hO 0 c).arrAt 2 (cfgM m hO).N
    = fun i => (kept (m ((c : Thread nD τ).loc main_arg2)) (m ((c : Thread nD τ).loc main_arg0)) i
        + (m ((c : Thread nD τ).loc main_arg1) : S4x128x1024.Idx → EReal) i : EReal) := by
  refine (dats m hO 0 c).arrAt_eq_of_emb 2 _ (fun t hf (y : S1x128x1024.Idx) => ?_) ?_
  · show (dats m hO 0 c).after 2 t y = _
    rw [after0_2]
    unfold outsAt0
    refine (out_eq c _ _ _ _ _ _ _ _ _ _ y).trans ?_
    obtain rfl : c = 0 := Subsingleton.elim _ _
    obtain ⟨b0, b1, b2⟩ := blocks t
    have y0 : (y 0).val < 1 := (y 0).isLt
    have y1 : (y 1).val < 128 := (y 1).isLt
    have y2 : (y 2).val < 1024 := (y 2).isLt
    have q0 := congrFun b0 0
    have q1 := congrFun b0 1
    have q2 := congrFun b0 2
    show @HAdd.hAdd EReal EReal EReal _ (V m 0 main_arg0 ((((cfgM m hO).win 0).blk t).view.emb y)) (V m 0 main_arg1 ((((cfgM m hO).win 1).blk t).view.emb y))
      = @HAdd.hAdd EReal EReal EReal _ (kept (m (((0 : Dev nD) : Thread nD τ).loc main_arg2)) (m (((0 : Dev nD) : Thread nD τ).loc main_arg0)) ((((cfgM m hO).win 2).blk t).view.emb y))
        ((m (((0 : Dev nD) : Thread nD τ).loc main_arg1) : S4x128x1024.Idx → EReal) ((((cfgM m hO).win 2).blk t).view.emb y))
    refine congrArg₂ (@HAdd.hAdd EReal EReal EReal _) ?_ ?_
    · unfold kept
      rcases first m hw (grid0.coords t) with ⟨hz, e⟩ | ⟨hz, e⟩
      · rw [if_pos hz]
        refine congrArg (m (((0 : Dev nD) : Thread nD τ).loc main_arg0) : S4x256x1024.Idx → EReal) (funext fun a => Fin.ext ?_)
        have p0 := congrFun e 0
        have p1 := congrFun e 1
        have p2 := congrFun e 2
        match a with
        | ⟨0, _⟩ => show cc0_transform_0 inb_S1_S1_0 numel1_S1 (tbl m) (grid0.coords t) 0 * 1 + 1 * (y 0).val = cc0_transform_2 (grid0.coords t) 0 * 1 + 1 * (y 0).val; omega
        | ⟨1, _⟩ => show cc0_transform_0 inb_S1_S1_0 numel1_S1 (tbl m) (grid0.coords t) 1 * 128 + 1 * (y 1).val = cc0_transform_2 (grid0.coords t) 1 * 128 + 1 * (y 1).val; omega
        | ⟨2, _⟩ => show cc0_transform_0 inb_S1_S1_0 numel1_S1 (tbl m) (grid0.coords t) 2 * 1024 + 1 * (y 2).val = cc0_transform_2 (grid0.coords t) 2 * 1024 + 1 * (y 2).val; omega
      · rw [if_neg hz]
        refine congrArg (m (((0 : Dev nD) : Thread nD τ).loc main_arg0) : S4x256x1024.Idx → EReal) (funext fun a => Fin.ext ?_)
        have p0 : cc0_transform_0 inb_S1_S1_0 numel1_S1 (tbl m) (grid0.coords t) 0 = cc0_transform_1 (grid0.coords t) 0 := congrFun e 0
        have p1 : cc0_transform_0 inb_S1_S1_0 numel1_S1 (tbl m) (grid0.coords t) 1 = 1 + cc0_transform_1 (grid0.coords t) 1 := congrFun e 1
        have p2 : cc0_transform_0 inb_S1_S1_0 numel1_S1 (tbl m) (grid0.coords t) 2 = 0 := congrFun e 2
        match a with
        | ⟨0, _⟩ => show cc0_transform_0 inb_S1_S1_0 numel1_S1 (tbl m) (grid0.coords t) 0 * 1 + 1 * (y 0).val = cc0_transform_2 (grid0.coords t) 0 * 1 + 1 * (y 0).val; omega
        | ⟨1, _⟩ => show cc0_transform_0 inb_S1_S1_0 numel1_S1 (tbl m) (grid0.coords t) 1 * 128 + 1 * (y 1).val = 128 + (cc0_transform_2 (grid0.coords t) 1 * 128 + 1 * (y 1).val); omega
        | ⟨2, _⟩ => show cc0_transform_0 inb_S1_S1_0 numel1_S1 (tbl m) (grid0.coords t) 2 * 1024 + 1 * (y 2).val = cc0_transform_2 (grid0.coords t) 2 * 1024 + 1 * (y 2).val; omega
    · refine congrArg (m (((0 : Dev nD) : Thread nD τ).loc main_arg1) : S4x128x1024.Idx → EReal) (funext fun a => Fin.ext ?_)
      match a with
      | ⟨0, _⟩ => show cc0_transform_1 (grid0.coords t) 0 * 1 + 1 * (y 0).val = cc0_transform_2 (grid0.coords t) 0 * 1 + 1 * (y 0).val; omega
      | ⟨1, _⟩ => show cc0_transform_1 (grid0.coords t) 1 * 128 + 1 * (y 1).val = cc0_transform_2 (grid0.coords t) 1 * 128 + 1 * (y 1).val; omega
      | ⟨2, _⟩ => show cc0_transform_1 (grid0.coords t) 2 * 1024 + 1 * (y 2).val = cc0_transform_2 (grid0.coords t) 2 * 1024 + 1 * (y 2).val; omega
  · intro (i : S4x128x1024.Idx)
    have h0 : (i 0).val < 4 := (i 0).isLt
    have h1 : (i 1).val < 128 := (i 1).isLt
    have h2 : (i 2).val < 1024 := (i 2).isLt
    obtain ⟨t0, ht0⟩ := hits ⟨(i 0).val, h0⟩ ⟨(i 1).val / 128, by omega⟩
    obtain ⟨t, -, hf, ht⟩ := Pipeline.Window.exists_flush_same_index ((cfgM m hO).win 2) rfl t0
    have ht' : cc0_transform_2 (grid0.coords t) = ![(i 0).val, (i 1).val / 128, 0] := Eq.trans ht ht0
    have q0 : cc0_transform_2 (grid0.coords t) 0 = (i 0).val := congrFun ht' 0
    have q1 : cc0_transform_2 (grid0.coords t) 1 = (i 1).val / 128 := congrFun ht' 1
    have q2 : cc0_transform_2 (grid0.coords t) 2 = 0 := congrFun ht' 2
    refine ⟨t, hf, ?_⟩
    suffices hi : i ∈ ((View.whole main_v0).slice (Rect.block (s := S4x128x1024) S1x128x1024.size (cc0_transform_2 (grid0.coords t)) (hinb0_2 (grid0.coords t)))).set by exact hi
    rw [View.set_slice_whole, Rect.mem_set_unit]
    intro a
    match a with
    | ⟨0, _⟩ => show cc0_transform_2 (grid0.coords t) 0 * 1 ≤ (i 0).val ∧ (i 0).val < cc0_transform_2 (grid0.coords t) 0 * 1 + 1; omega
    | ⟨1, _⟩ => show cc0_transform_2 (grid0.coords t) 1 * 128 ≤ (i 1).val ∧ (i 1).val < cc0_transform_2 (grid0.coords t) 1 * 128 + 128; omega
    | ⟨2, _⟩ => show cc0_transform_2 (grid0.coords t) 2 * 1024 ≤ (i 2).val ∧ (i 2).val < cc0_transform_2 (grid0.coords t) 2 * 1024 + 1024; omega

end AddOutIdeal.Value

theorem okB_Out (m : (ℓ : Loc AddOut.nD AddOut.τ AddOut.sig) → Buf (Elt Bits) ℓ) (hp : @Pre_AddOut Pre_core_named_out.Gen.facts m) : AddOut.Gen.Ok m :=
  AddOut.Value.ok m (addOut_core _ _ _ (hp 0))

theorem addOut_word (m : (ℓ : Loc AddOutIdeal.nD AddOutIdeal.τ AddOutIdeal.sig) → Buf (Elt Ideal) ℓ) (hp : @Pre_AddOutIdeal Pre_core_named_out.Gen.facts m) :
    core_is (m (((0 : Dev AddOutIdeal.nD) : Thread AddOutIdeal.nD AddOutIdeal.τ).loc AddOutIdeal.main_arg2)) :=
  addOut_core _ _ _ (hp 0)

theorem addOut_P : @quiescent_AddOut AddOut.Gen.facts Pre_core_named_out.Gen.facts := fun m g hp => AddOut.Gen.frame m g (okB_Out m hp)
theorem addOut_PI : @quiescent_AddOutIdeal AddOutIdeal.Gen.facts Pre_core_named_out.Gen.facts := fun m g hp =>
  AddOutIdeal.Gen.frame m g (AddOutIdeal.Value.ok m (addOut_word m hp))
theorem addOut_RI : @quiescent_AddOutRefIdeal AddOutRefIdeal.Gen.facts := fun m g _ =>
  (θ_run _ _ _).mono (fun r h => ⟨fun c => (h c).2, sem_eq_zero_of_no_sems rfl r.2⟩) (AddOutRefIdeal.Value.run m g)
theorem addOut_RI_core : @quiescent_AddOutRefIdeal_pre_core_named_out AddOutRefIdeal.Gen.facts Pre_core_named_out.Gen.facts := fun m g _ =>
  addOut_RI m g trivial
theorem addOut_algebraic : @algebraic_AddOutIdeal_AddOutRefIdeal AddOutIdeal.Gen.facts AddOutRefIdeal.Gen.facts Pre_core_named_out.Gen.facts := by
  intro m g m' g' hp hin
  have hw := addOut_word m hp
  refine ⟨_, AddOutIdeal.Value.run_blocks m g (AddOutIdeal.Value.ok m hw), (θ_run _ _ _).mono (fun r h c => ?_) (AddOutRefIdeal.Value.run m' g')⟩
  obtain ⟨h0, h1⟩ := h c
  obtain ⟨e0, e1, e2⟩ := hin c
  refine ⟨h0.trans ?_, h1⟩
  rw [e0, e1, e2, AddOutIdeal.Value.final m hw]
  funext i
  obtain rfl : c = 0 := Subsingleton.elim _ _
  have hc : (shapeCast AddOutRefIdeal.S_ (m (((0 : Dev AddOutIdeal.nD) : Thread AddOutIdeal.nD AddOutIdeal.τ).loc AddOutIdeal.main_arg2) : IVec AddOutRefIdeal.S1 32) AddOutRefIdeal.Gen.shapeCasts_S1_S_ : IVec AddOutRefIdeal.S_ 32)
      = fun _ => (m (((0 : Dev AddOutIdeal.nD) : Thread AddOutIdeal.nD AddOutIdeal.τ).loc AddOutIdeal.main_arg2) : AddOutIdeal.S1.Idx → BitVec 32) only :=
    funext fun _ => congrArg (m (((0 : Dev AddOutIdeal.nD) : Thread AddOutIdeal.nD AddOutIdeal.τ).loc AddOutIdeal.main_arg2) : AddOutIdeal.S1.Idx → BitVec 32) (one_index _ _)
  rw [hc]
  refine congrArg (fun s : EReal => @HAdd.hAdd EReal EReal EReal _ s ((m (((0 : Dev AddOutIdeal.nD) : Thread AddOutIdeal.nD AddOutIdeal.τ).loc AddOutIdeal.main_arg1) : AddOutIdeal.S4x128x1024.Idx → EReal) i)) (?_ : _ = _)
  show (if IntOp.cmpi .eq ((m (((0 : Dev AddOutIdeal.nD) : Thread AddOutIdeal.nD AddOutIdeal.τ).loc AddOutIdeal.main_arg2) : AddOutIdeal.S1.Idx → BitVec 32) only) 0#32 = 1#1
      then (m (((0 : Dev AddOutIdeal.nD) : Thread AddOutIdeal.nD AddOutIdeal.τ).loc AddOutIdeal.main_arg0) : AddOutIdeal.S4x256x1024.Idx → EReal) _
      else (m (((0 : Dev AddOutIdeal.nD) : Thread AddOutIdeal.nD AddOutIdeal.τ).loc AddOutIdeal.main_arg0) : AddOutIdeal.S4x256x1024.Idx → EReal) _ : EReal) = _
  unfold AddOutIdeal.Value.kept
  refine if_congr (eq_word _) (congrArg _ (funext fun a => Fin.ext ?_)) (congrArg _ (funext fun a => Fin.ext ?_))
  · match a with
    | ⟨0, _⟩ => show 0 + (i 0).val = (i 0).val; omega
    | ⟨1, _⟩ => show 0 + (i 1).val = (i 1).val; omega
    | ⟨2, _⟩ => show 0 + (i 2).val = (i 2).val; omega
  · match a with
    | ⟨0, _⟩ => show 0 + (i 0).val = (i 0).val; omega
    | ⟨1, _⟩ => show 128 + (i 1).val = 128 + (i 1).val; omega
    | ⟨2, _⟩ => show 0 + (i 2).val = (i 2).val; omega

/-! ## AddFf: 4 slots of 1024 × 1024, of which 512 rows are the core's -/

namespace AddFf.Value
open Cert.AddFf Cert.AddFf.Gen

/-- The index map of the first argument, at a core's number that is 0 or 1, names blocks inside the array. -/
theorem ok {F : FTy → Type} [FloatOps F] (m : (ℓ : Loc nD τ sig) → Buf (Elt F) ℓ)
    (hw : core_is (m (((0 : Dev nD) : Thread nD τ).loc main_arg2))) : Ok m := by
  intro i
  have i0 : (i 0).val < 4 := (i 0).isLt
  have i1 : (i 1).val < 4 := (i 1).isLt
  refine ⟨fun a => ?_, .inl rfl⟩
  unfold cc0_transform_0
  obtain ⟨v, hv⟩ : ∃ v, v = (tbl m).at 0 (Rect.unit (s := S1) ![0] S1.size inb_S1_S1_0) numel1_S1 := ⟨_, rfl⟩
  have hw : v = 0#32 ∨ v = 1#32 := by rw [hv]; exact hw _
  rw [← hv]
  rcases hw with rfl | rfl <;>
  match a with
  | ⟨0, _⟩ => show ((BitVec.ofNat 32 (i 0).val).toNat + 1) * 1 ≤ 4; rw [BitVec.toNat_ofNat]; omega
  | ⟨1, _⟩ => simp [Scalar.addi, Scalar.muli, IntOp.addi, IntOp.muli] <;> omega
  | ⟨2, _⟩ => show (0 + 1) * 1024 ≤ 1024; omega

end AddFf.Value

namespace AddFfIdeal.Value
open Cert.AddFfIdeal Cert.AddFfIdeal.Gen

/-- The index map of the first argument, at a core's number that is 0 or 1, names blocks inside the array. -/
theorem ok {F : FTy → Type} [FloatOps F] (m : (ℓ : Loc nD τ sig) → Buf (Elt F) ℓ)
    (hw : core_is (m (((0 : Dev nD) : Thread nD τ).loc main_arg2))) : Ok m := by
  intro i
  have i0 : (i 0).val < 4 := (i 0).isLt
  have i1 : (i 1).val < 4 := (i 1).isLt
  refine ⟨fun a => ?_, .inl rfl⟩
  unfold cc0_transform_0
  obtain ⟨v, hv⟩ : ∃ v, v = (tbl m).at 0 (Rect.unit (s := S1) ![0] S1.size inb_S1_S1_0) numel1_S1 := ⟨_, rfl⟩
  have hw : v = 0#32 ∨ v = 1#32 := by rw [hv]; exact hw _
  rw [← hv]
  rcases hw with rfl | rfl <;>
  match a with
  | ⟨0, _⟩ => show ((BitVec.ofNat 32 (i 0).val).toNat + 1) * 1 ≤ 4; rw [BitVec.toNat_ofNat]; omega
  | ⟨1, _⟩ => simp [Scalar.addi, Scalar.muli, IntOp.addi, IntOp.muli] <;> omega
  | ⟨2, _⟩ => show (0 + 1) * 1024 ≤ 1024; omega

end AddFfIdeal.Value

theorem addFf_core {F : FTy → Type} [FloatOps F] (x : FVec F Pre_core_named_ff.S4x1024x1024 .f32) (y : FVec F Pre_core_named_ff.S4x512x1024 .f32)
    (w : IVec Pre_core_named_ff.S1 32)
    (hp : @Pre_core_named_ff.fn Pre_core_named_ff.Gen.facts F _ x y w = fun _ => 1#1) : core_is w := by
  intro j
  have hj := congrFun hp j
  simp only [Pre_core_named_ff.fn, constantI, broadcastInDim, cmpi, andi] at hj
  exact core_of_word hj

namespace AddFfIdeal.Value
open Cert.AddFfIdeal Cert.AddFfIdeal.Gen

variable (m : (ℓ : Loc nD τ sig) → Buf (Elt Ideal) ℓ) (ρ : Dev nD → PrngReg)

/-- The run leaves the result as its window's array after the last point, and the arguments as they were. -/
theorem run_blocks (hO : Ok m) : θ_run defs (onTc (τ := τ) (main (F := Ideal))) ⟨m, fun _ => 0, ρ⟩ fun r => ∀ c : Dev nD,
      r.2.mem ((c : Thread nD τ).loc main_v0) = (dats m hO 0 c).arrAt 2 (cfgM m hO).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 2,
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).2 main_arg2 (by decide : main_arg2 ∈ Pipeline.restRefs sig spec0)).trans (V_main_arg2 m c)⟩)
    (run_main m ρ hO)

/-- The core's rows of the first argument. -/
def kept (w : S1.Idx → BitVec 32) (g : S4x1024x1024.Idx → EReal) (i : S4x512x1024.Idx) : EReal :=
  if w only = 0#32
  then g (ix3 (i 0) ⟨(i 1).val, Nat.lt_of_lt_of_le (i 1).isLt (by decide)⟩ (i 2))
  else g (ix3 (i 0) ⟨512 + (i 1).val, Nat.add_lt_add_left (i 1).isLt 512⟩ (i 2))

/-- The blocks of the three arrays at a point, in the two cases of the core's number. -/
theorem blocks : ∀ t : Fin grid0.N, cc0_transform_2 (grid0.coords t) = cc0_transform_1 (grid0.coords t) ∧ cc0_transform_1 (grid0.coords t) 1 < 4 ∧ cc0_transform_1 (grid0.coords t) 2 = 0 :=
  by decide +kernel

/-- The first argument's block is the result's, or that many blocks further, as the core's number says. -/
theorem first (hw : core_is (m (((0 : Dev nD) : Thread nD τ).loc main_arg2))) (i : grid0.Coords) :
    ((m (((0 : Dev nD) : Thread nD τ).loc main_arg2) : S1.Idx → BitVec 32) only = 0#32
        ∧ cc0_transform_0 inb_S1_S1_0 numel1_S1 (tbl m) i = cc0_transform_1 i)
    ∨ ((m (((0 : Dev nD) : Thread nD τ).loc main_arg2) : S1.Idx → BitVec 32) only ≠ 0#32
        ∧ cc0_transform_0 inb_S1_S1_0 numel1_S1 (tbl m) i = ![cc0_transform_1 i 0, 4 + cc0_transform_1 i 1, 0]) := by
  have i1 : (i 1).val < 4 := (i 1).isLt
  unfold cc0_transform_0 cc0_transform_1
  obtain ⟨v, hv⟩ : ∃ v, v = (tbl m).at 0 (Rect.unit (s := S1) ![0] S1.size inb_S1_S1_0) numel1_S1 := ⟨_, rfl⟩
  have hv' : v = (m (((0 : Dev nD) : Thread nD τ).loc main_arg2) : S1.Idx → BitVec 32) only :=
    hv.trans (congrArg (m (((0 : Dev nD) : Thread nD τ).loc main_arg2) : S1.Idx → BitVec 32) (one_index _ _))
  rw [← hv, ← hv']
  have hw : v = 0#32 ∨ v = 1#32 := by rw [hv']; exact hw _
  rcases hw with rfl | rfl
  · refine .inl ⟨rfl, ?_⟩
    simp [Scalar.addi, Scalar.muli, IntOp.addi, IntOp.muli]
  · refine .inr ⟨(by decide : (1#32 : BitVec 32) ≠ 0#32), ?_⟩
    simp [Scalar.addi, Scalar.muli, IntOp.addi, IntOp.muli] <;> omega

/-- What a point leaves is the sum of its two blocks. -/
theorem out_eq (c : Dev nD) (i : grid0.Coords) (a : Memref sig .tc .vmem S1x128x1024 .f32) (ha : a.IsWhole) (b : Memref sig .tc .vmem S1x128x1024 .f32) (hb : b.IsWhole)
    (o : Memref sig .tc .vmem S1x128x1024 .bf16) (ho : o.IsWhole) (x y : Vec Ideal S1x128x1024 .f32) (w : TbBuf0 (F := Ideal) c tbM0_0) (j : S1x128x1024.Idx) :
    out0_A_2 c i a ha b hb o ho x y w j = @HAdd.hAdd EReal EReal EReal _ (x j) (y j) := by
  frame_out
  rfl

/-- Every block of the result is some point's. -/
theorem hits : ∀ (k : Fin 4) (q : Fin 4), ∃ t : Fin grid0.N, cc0_transform_2 (grid0.coords t) = ![k.val, q.val, 0] := by
  decide +kernel

/-- The result after the run: the core's rows of the first argument and the second argument, added. -/
theorem final (hw : core_is (m (((0 : Dev nD) : Thread nD τ).loc main_arg2))) (hO : Ok m) (c : Dev nD) : (dats m hO 0 c).arrAt 2 (cfgM m hO).N
    = fun i => (kept (m ((c : Thread nD τ).loc main_arg2)) (m ((c : Thread nD τ).loc main_arg0)) i
        + (m ((c : Thread nD τ).loc main_arg1) : S4x512x1024.Idx → EReal) i : EReal) := by
  refine (dats m hO 0 c).arrAt_eq_of_emb 2 _ (fun t hf (y : S1x128x1024.Idx) => ?_) ?_
  · show (dats m hO 0 c).after 2 t y = _
    rw [after0_2]
    unfold outsAt0
    refine (out_eq c _ _ _ _ _ _ _ _ _ _ y).trans ?_
    obtain rfl : c = 0 := Subsingleton.elim _ _
    obtain ⟨b0, b1, b2⟩ := blocks t
    have y0 : (y 0).val < 1 := (y 0).isLt
    have y1 : (y 1).val < 128 := (y 1).isLt
    have y2 : (y 2).val < 1024 := (y 2).isLt
    have q0 := congrFun b0 0
    have q1 := congrFun b0 1
    have q2 := congrFun b0 2
    show @HAdd.hAdd EReal EReal EReal _ (V m 0 main_arg0 ((((cfgM m hO).win 0).blk t).view.emb y)) (V m 0 main_arg1 ((((cfgM m hO).win 1).blk t).view.emb y))
      = @HAdd.hAdd EReal EReal EReal _ (kept (m (((0 : Dev nD) : Thread nD τ).loc main_arg2)) (m (((0 : Dev nD) : Thread nD τ).loc main_arg0)) ((((cfgM m hO).win 2).blk t).view.emb y))
        ((m (((0 : Dev nD) : Thread nD τ).loc main_arg1) : S4x512x1024.Idx → EReal) ((((cfgM m hO).win 2).blk t).view.emb y))
    refine congrArg₂ (@HAdd.hAdd EReal EReal EReal _) ?_ ?_
    · unfold kept
      rcases first m hw (grid0.coords t) with ⟨hz, e⟩ | ⟨hz, e⟩
      · rw [if_pos hz]
        refine congrArg (m (((0 : Dev nD) : Thread nD τ).loc main_arg0) : S4x1024x1024.Idx → EReal) (funext fun a => Fin.ext ?_)
        have p0 := congrFun e 0
        have p1 := congrFun e 1
        have p2 := congrFun e 2
        match a with
        | ⟨0, _⟩ => show cc0_transform_0 inb_S1_S1_0 numel1_S1 (tbl m) (grid0.coords t) 0 * 1 + 1 * (y 0).val = cc0_transform_2 (grid0.coords t) 0 * 1 + 1 * (y 0).val; omega
        | ⟨1, _⟩ => show cc0_transform_0 inb_S1_S1_0 numel1_S1 (tbl m) (grid0.coords t) 1 * 128 + 1 * (y 1).val = cc0_transform_2 (grid0.coords t) 1 * 128 + 1 * (y 1).val; omega
        | ⟨2, _⟩ => show cc0_transform_0 inb_S1_S1_0 numel1_S1 (tbl m) (grid0.coords t) 2 * 1024 + 1 * (y 2).val = cc0_transform_2 (grid0.coords t) 2 * 1024 + 1 * (y 2).val; omega
      · rw [if_neg hz]
        refine congrArg (m (((0 : Dev nD) : Thread nD τ).loc main_arg0) : S4x1024x1024.Idx → EReal) (funext fun a => Fin.ext ?_)
        have p0 : cc0_transform_0 inb_S1_S1_0 numel1_S1 (tbl m) (grid0.coords t) 0 = cc0_transform_1 (grid0.coords t) 0 := congrFun e 0
        have p1 : cc0_transform_0 inb_S1_S1_0 numel1_S1 (tbl m) (grid0.coords t) 1 = 4 + cc0_transform_1 (grid0.coords t) 1 := congrFun e 1
        have p2 : cc0_transform_0 inb_S1_S1_0 numel1_S1 (tbl m) (grid0.coords t) 2 = 0 := congrFun e 2
        match a with
        | ⟨0, _⟩ => show cc0_transform_0 inb_S1_S1_0 numel1_S1 (tbl m) (grid0.coords t) 0 * 1 + 1 * (y 0).val = cc0_transform_2 (grid0.coords t) 0 * 1 + 1 * (y 0).val; omega
        | ⟨1, _⟩ => show cc0_transform_0 inb_S1_S1_0 numel1_S1 (tbl m) (grid0.coords t) 1 * 128 + 1 * (y 1).val = 512 + (cc0_transform_2 (grid0.coords t) 1 * 128 + 1 * (y 1).val); omega
        | ⟨2, _⟩ => show cc0_transform_0 inb_S1_S1_0 numel1_S1 (tbl m) (grid0.coords t) 2 * 1024 + 1 * (y 2).val = cc0_transform_2 (grid0.coords t) 2 * 1024 + 1 * (y 2).val; omega
    · refine congrArg (m (((0 : Dev nD) : Thread nD τ).loc main_arg1) : S4x512x1024.Idx → EReal) (funext fun a => Fin.ext ?_)
      match a with
      | ⟨0, _⟩ => show cc0_transform_1 (grid0.coords t) 0 * 1 + 1 * (y 0).val = cc0_transform_2 (grid0.coords t) 0 * 1 + 1 * (y 0).val; omega
      | ⟨1, _⟩ => show cc0_transform_1 (grid0.coords t) 1 * 128 + 1 * (y 1).val = cc0_transform_2 (grid0.coords t) 1 * 128 + 1 * (y 1).val; omega
      | ⟨2, _⟩ => show cc0_transform_1 (grid0.coords t) 2 * 1024 + 1 * (y 2).val = cc0_transform_2 (grid0.coords t) 2 * 1024 + 1 * (y 2).val; omega
  · intro (i : S4x512x1024.Idx)
    have h0 : (i 0).val < 4 := (i 0).isLt
    have h1 : (i 1).val < 512 := (i 1).isLt
    have h2 : (i 2).val < 1024 := (i 2).isLt
    obtain ⟨t0, ht0⟩ := hits ⟨(i 0).val, h0⟩ ⟨(i 1).val / 128, by omega⟩
    obtain ⟨t, -, hf, ht⟩ := Pipeline.Window.exists_flush_same_index ((cfgM m hO).win 2) rfl t0
    have ht' : cc0_transform_2 (grid0.coords t) = ![(i 0).val, (i 1).val / 128, 0] := Eq.trans ht ht0
    have q0 : cc0_transform_2 (grid0.coords t) 0 = (i 0).val := congrFun ht' 0
    have q1 : cc0_transform_2 (grid0.coords t) 1 = (i 1).val / 128 := congrFun ht' 1
    have q2 : cc0_transform_2 (grid0.coords t) 2 = 0 := congrFun ht' 2
    refine ⟨t, hf, ?_⟩
    suffices hi : i ∈ ((View.whole main_v0).slice (Rect.block (s := S4x512x1024) S1x128x1024.size (cc0_transform_2 (grid0.coords t)) (hinb0_2 (grid0.coords t)))).set by exact hi
    rw [View.set_slice_whole, Rect.mem_set_unit]
    intro a
    match a with
    | ⟨0, _⟩ => show cc0_transform_2 (grid0.coords t) 0 * 1 ≤ (i 0).val ∧ (i 0).val < cc0_transform_2 (grid0.coords t) 0 * 1 + 1; omega
    | ⟨1, _⟩ => show cc0_transform_2 (grid0.coords t) 1 * 128 ≤ (i 1).val ∧ (i 1).val < cc0_transform_2 (grid0.coords t) 1 * 128 + 128; omega
    | ⟨2, _⟩ => show cc0_transform_2 (grid0.coords t) 2 * 1024 ≤ (i 2).val ∧ (i 2).val < cc0_transform_2 (grid0.coords t) 2 * 1024 + 1024; omega

end AddFfIdeal.Value

theorem okB_Ff (m : (ℓ : Loc AddFf.nD AddFf.τ AddFf.sig) → Buf (Elt Bits) ℓ) (hp : @Pre_AddFf Pre_core_named_ff.Gen.facts m) : AddFf.Gen.Ok m :=
  AddFf.Value.ok m (addFf_core _ _ _ (hp 0))

theorem addFf_word (m : (ℓ : Loc AddFfIdeal.nD AddFfIdeal.τ AddFfIdeal.sig) → Buf (Elt Ideal) ℓ) (hp : @Pre_AddFfIdeal Pre_core_named_ff.Gen.facts m) :
    core_is (m (((0 : Dev AddFfIdeal.nD) : Thread AddFfIdeal.nD AddFfIdeal.τ).loc AddFfIdeal.main_arg2)) :=
  addFf_core _ _ _ (hp 0)

theorem addFf_P : @quiescent_AddFf AddFf.Gen.facts Pre_core_named_ff.Gen.facts := fun m g hp => AddFf.Gen.frame m g (okB_Ff m hp)
theorem addFf_PI : @quiescent_AddFfIdeal AddFfIdeal.Gen.facts Pre_core_named_ff.Gen.facts := fun m g hp =>
  AddFfIdeal.Gen.frame m g (AddFfIdeal.Value.ok m (addFf_word m hp))
theorem addFf_RI : @quiescent_AddFfRefIdeal AddFfRefIdeal.Gen.facts := fun m g _ =>
  (θ_run _ _ _).mono (fun r h => ⟨fun c => (h c).2, sem_eq_zero_of_no_sems rfl r.2⟩) (AddFfRefIdeal.Value.run m g)
theorem addFf_RI_core : @quiescent_AddFfRefIdeal_pre_core_named_ff AddFfRefIdeal.Gen.facts Pre_core_named_ff.Gen.facts := fun m g _ =>
  addFf_RI m g trivial
theorem addFf_algebraic : @algebraic_AddFfIdeal_AddFfRefIdeal AddFfIdeal.Gen.facts AddFfRefIdeal.Gen.facts Pre_core_named_ff.Gen.facts := by
  intro m g m' g' hp hin
  have hw := addFf_word m hp
  refine ⟨_, AddFfIdeal.Value.run_blocks m g (AddFfIdeal.Value.ok m hw), (θ_run _ _ _).mono (fun r h c => ?_) (AddFfRefIdeal.Value.run m' g')⟩
  obtain ⟨h0, h1⟩ := h c
  obtain ⟨e0, e1, e2⟩ := hin c
  refine ⟨h0.trans ?_, h1⟩
  rw [e0, e1, e2, AddFfIdeal.Value.final m hw]
  funext i
  obtain rfl : c = 0 := Subsingleton.elim _ _
  have hc : (shapeCast AddFfRefIdeal.S_ (m (((0 : Dev AddFfIdeal.nD) : Thread AddFfIdeal.nD AddFfIdeal.τ).loc AddFfIdeal.main_arg2) : IVec AddFfRefIdeal.S1 32) AddFfRefIdeal.Gen.shapeCasts_S1_S_ : IVec AddFfRefIdeal.S_ 32)
      = fun _ => (m (((0 : Dev AddFfIdeal.nD) : Thread AddFfIdeal.nD AddFfIdeal.τ).loc AddFfIdeal.main_arg2) : AddFfIdeal.S1.Idx → BitVec 32) only :=
    funext fun _ => congrArg (m (((0 : Dev AddFfIdeal.nD) : Thread AddFfIdeal.nD AddFfIdeal.τ).loc AddFfIdeal.main_arg2) : AddFfIdeal.S1.Idx → BitVec 32) (one_index _ _)
  rw [hc]
  refine congrArg (fun s : EReal => @HAdd.hAdd EReal EReal EReal _ s ((m (((0 : Dev AddFfIdeal.nD) : Thread AddFfIdeal.nD AddFfIdeal.τ).loc AddFfIdeal.main_arg1) : AddFfIdeal.S4x512x1024.Idx → EReal) i)) (?_ : _ = _)
  show (if IntOp.cmpi .eq ((m (((0 : Dev AddFfIdeal.nD) : Thread AddFfIdeal.nD AddFfIdeal.τ).loc AddFfIdeal.main_arg2) : AddFfIdeal.S1.Idx → BitVec 32) only) 0#32 = 1#1
      then (m (((0 : Dev AddFfIdeal.nD) : Thread AddFfIdeal.nD AddFfIdeal.τ).loc AddFfIdeal.main_arg0) : AddFfIdeal.S4x1024x1024.Idx → EReal) _
      else (m (((0 : Dev AddFfIdeal.nD) : Thread AddFfIdeal.nD AddFfIdeal.τ).loc AddFfIdeal.main_arg0) : AddFfIdeal.S4x1024x1024.Idx → EReal) _ : EReal) = _
  unfold AddFfIdeal.Value.kept
  refine if_congr (eq_word _) (congrArg _ (funext fun a => Fin.ext ?_)) (congrArg _ (funext fun a => Fin.ext ?_))
  · match a with
    | ⟨0, _⟩ => show 0 + (i 0).val = (i 0).val; omega
    | ⟨1, _⟩ => show 0 + (i 1).val = (i 1).val; omega
    | ⟨2, _⟩ => show 0 + (i 2).val = (i 2).val; omega
  · match a with
    | ⟨0, _⟩ => show 0 + (i 0).val = (i 0).val; omega
    | ⟨1, _⟩ => show 512 + (i 1).val = 512 + (i 1).val; omega
    | ⟨2, _⟩ => show 0 + (i 2).val = (i 2).val; omega

end Cert

end

end
-- ==== Proof.WgradValue.lean ====
module

public import proofs.«01_k».proof.Defs
public import proofs.«01_k».proof.Proof.Gen.WgradGla.Frame
public import proofs.«01_k».proof.Proof.Gen.WgradGlaIdeal.Value
public import proofs.«01_k».proof.Proof.Gen.WgradGlaRefIdeal.Run
public import proofs.«01_k».proof.Proof.Gen.WgradHeads.Frame
public import proofs.«01_k».proof.Proof.Gen.WgradHeadsIdeal.Value
public import proofs.«01_k».proof.Proof.Gen.WgradHeadsRefIdeal.Run
public import proofs.«01_k».proof.Proof.Gen.WgradOut.Frame
public import proofs.«01_k».proof.Proof.Gen.WgradOutIdeal.Value
public import proofs.«01_k».proof.Proof.Gen.WgradOutRefIdeal.Run
public import proofs.«01_k».proof.Proof.Gen.WgradFf1.Frame
public import proofs.«01_k».proof.Proof.Gen.WgradFf1Ideal.Value
public import proofs.«01_k».proof.Proof.Gen.WgradFf1RefIdeal.Run
public import proofs.«01_k».proof.Proof.Gen.WgradFf2.Frame
public import proofs.«01_k».proof.Proof.Gen.WgradFf2Ideal.Value
public import proofs.«01_k».proof.Proof.Gen.WgradFf2RefIdeal.Run
public import Idealize.ShloMosaic.Lib.Pipeline.ValueKit
public import Idealize.ShloMosaic.Lib.Pipeline.ReadBack
public import Idealize.ShloMosaic.Lib.Pointwise

/-! # The gradients of the weights

Each `wgrad` call multiplies a transposed array of rows with another, 1024 tokens at a time, and adds the products of eight
blocks of tokens into a block of the result. Over the extended reals that is one sum over all 8192 tokens. -/

@[expose] public section
set_option maxRecDepth 16384
noncomputable section
namespace Cert
open Idealize.ShloMosaic Idealize.ShloMosaic.TcCoe Idealize.SL.Sem
open Idealize.ShloMosaic.Pipeline (Dat)

namespace WgradGlaIdeal.Value
open Cert.WgradGlaIdeal Cert.WgradGlaIdeal.Gen

section body
variable {F : FTy → Type} [FloatOps F]
variable (m : (ℓ : Loc nD τ sig) → Buf (Elt F) ℓ)

/-- The first block of tokens starts the sum. -/
theorem first (c : Dev nD) (t : Fin cfg0.N) (h0 : t.val % 8 = 0) :
    outsAt0 m c t.val t.isLt = k0_pay1 (iblk m c 0 t) (iblk m c 1 t) := by
  rw [outsAt0_A m c t h0 (by have := lt_of_lt_of_eq t.isLt N_0; omega)]
  frame_out

/-- Each further block is added. -/
theorem next (c : Dev nD) (t : Fin cfg0.N) (h0 : ¬ t.val % 8 = 0) : outsAt0 m c t.val t.isLt =
    k0_pay2 (iblk m c 0 t) (iblk m c 1 t) (outsAt0 m c (t.val - 1) (Nat.lt_of_le_of_lt (Nat.sub_le _ _) t.isLt)) := by
  rw [outsAt0_B m c t h0 (by omega)]
  frame_out
end body

/-- The blocks of the arrays that a point reads and writes. -/
theorem places : ∀ t : Fin cfg0.N, win0_0.index t = ![t.val % 8, 0] ∧ win0_1.index t = ![t.val % 8, 0] ∧ win0_2.index t = ![0, 0] :=
  (by decide +kernel : ∀ t : Fin grid0.N, _)

/-- The product of the transpose of `a` with `b`, at row `i`, column `j`. -/
def prod (a : S8192x1024.Idx → EReal) (b : S8192x1664.Idx → EReal) (i : Fin 1024) (j : Fin 1664) : EReal :=
  ∑ s : Fin 8192, a (ix2 s i) * b (ix2 s j)

/-- The result. -/
def result (a : S8192x1024.Idx → EReal) (b : S8192x1664.Idx → EReal) : S1024x1664.Idx → EReal := fun i =>
  prod a b (i 0) (i 1)

variable (m : (ℓ : Loc nD τ sig) → Buf (Elt Ideal) ℓ)

theorem a_apply (c : Dev nD) (t : Fin cfg0.N) (k : Fin 1024) (i : Fin 1024) (s : Fin 8192) (i' : Fin 1024)
    (hs : s.val = t.val % 8 * 1024 + k.val) (hi : i'.val = i.val) :
    (iblk m c 0 t : S1024x1024.Idx → EReal) (ix2 k i) = V m c main_arg0 (ix2 s i') := by
  obtain ⟨p0, p1, p2⟩ := places t
  blk_ext [iblk, p0]

theorem b_apply (c : Dev nD) (t : Fin cfg0.N) (k : Fin 1024) (j : Fin 1664) (s : Fin 8192) (j' : Fin 1664)
    (hs : s.val = t.val % 8 * 1024 + k.val) (hj : j'.val = j.val) :
    (iblk m c 1 t : S1024x1664.Idx → EReal) (ix2 k j) = V m c main_arg1 (ix2 s j') := by
  obtain ⟨p0, p1, p2⟩ := places t
  blk_ext [iblk, p1]

/-- One block of tokens' part, at row `i`, column `j` of a block. -/
def part (a : S1024x1024.Idx → EReal) (b : S1024x1664.Idx → EReal) (i : Fin 1024) (j : Fin 1664) : EReal :=
  ∑ k : Fin 1024, a (ix2 k i) * b (ix2 k j)

/-- What the last point of a run leaves in the buffer. -/
theorem value (c : Dev nD) (t : Fin cfg0.N) (ht : t.val % 8 = 7) (y : S1024x1664.Idx) (i : Fin 1024) (j : Fin 1664)
    (hi : i.val = (y 0).val) (hj : j.val = (y 1).val) :
    outsAt0 m c t.val t.isLt y = prod (V m c main_arg0) (V m c main_arg1) i j := by
  have hN : cfg0.N = 8 := N_0
  have htl : t.val < cfg0.N := t.isLt
  refine (Pipeline.eq_sum_fin_of_reset_step_apply_of_flush (fun n h => outsAt0 m c n h) 8 (fun _ => (0 : EReal))
    (fun t y => part (iblk m c 0 t) (iblk m c 1 t) (y 0) (y 1)) (fun t h j => ?_) (fun t h j => ?_) t ht y).trans ?_
  · rw [first m c t h]
    pointwise [k0_pay1, part]
  · rw [next m c t h]
    pointwise [k0_pay2, k0_pay1, part]
  · rw [zero_add]
    unfold prod
    refine Fin.sum_mul_add_congr (fun s k h => ?_) (by rfl)
    exact congrArg₂ (· * ·) (a_apply m c _ k _ _ i (by simp; omega) (by first | exact hi | (simp; omega))) (b_apply m c _ k _ _ j (by simp; omega) (by first | exact hj | (simp; omega)))

theorem final (c : Dev nD) : (dats m 0 c).arrAt 2 cfg0.N = result (V m c main_arg0) (V m c main_arg1) := by
  refine (dats m 0 c).arrAt_eq_of_covers 2 _ (by decide +kernel) fun t hf y => ?_
  obtain ⟨p0, p1, p2⟩ := places t
  rw [after0_2]
  have hN : cfg0.N = 8 := N_0
  have ht : t.val < cfg0.N := t.isLt
  refine (value m c t ((flush0_2 t).mp hf) _ _ _ ?_ ?_ : _ = result _ _ _)
  · blk_simp [p2]
  · blk_simp [p2]

end WgradGlaIdeal.Value

theorem wgradGla_P : @quiescent_WgradGla WgradGla.Gen.facts := fun m g _ => WgradGla.Gen.frame m g
theorem wgradGla_PI : @quiescent_WgradGlaIdeal WgradGlaIdeal.Gen.facts := fun m g _ => WgradGlaIdeal.Gen.frame m g
theorem wgradGla_RI : @quiescent_WgradGlaRefIdeal WgradGlaRefIdeal.Gen.facts := fun m g _ =>
  (θ_run _ _ _).mono (fun r h => ⟨fun c => (h c).2, sem_eq_zero_of_no_sems rfl r.2⟩) (WgradGlaRefIdeal.Value.run m g)
theorem wgradGla_algebraic : @algebraic_WgradGlaIdeal_WgradGlaRefIdeal WgradGlaIdeal.Gen.facts WgradGlaRefIdeal.Gen.facts := by
  intro m g m' g' _ hin
  refine ⟨_, WgradGlaIdeal.Value.run_blocks m g, (θ_run _ _ _).mono (fun r h c => ?_) (WgradGlaRefIdeal.Value.run m' g')⟩
  obtain ⟨h0, h1⟩ := h c
  obtain ⟨e0, e1⟩ := hin c
  refine ⟨h0.trans ?_, h1⟩
  clear h0 h1
  rw [WgradGlaIdeal.Value.final m c, e0, e1]
  funext i
  clear e0 e1
  pointwise [WgradGlaIdeal.Value.result, WgradGlaIdeal.Value.prod]

namespace WgradHeadsIdeal.Value
open Cert.WgradHeadsIdeal Cert.WgradHeadsIdeal.Gen

section body
variable {F : FTy → Type} [FloatOps F]
variable (m : (ℓ : Loc nD τ sig) → Buf (Elt F) ℓ)

/-- The first block of tokens starts the sum. -/
theorem first (c : Dev nD) (t : Fin cfg0.N) (h0 : t.val % 8 = 0) :
    outsAt0 m c t.val t.isLt = k0_pay1 (iblk m c 0 t) (iblk m c 1 t) := by
  rw [outsAt0_A m c t h0 (by have := lt_of_lt_of_eq t.isLt N_0; omega)]
  frame_out

/-- Each further block is added. -/
theorem next (c : Dev nD) (t : Fin cfg0.N) (h0 : ¬ t.val % 8 = 0) : outsAt0 m c t.val t.isLt =
    k0_pay2 (iblk m c 0 t) (iblk m c 1 t) (outsAt0 m c (t.val - 1) (Nat.lt_of_le_of_lt (Nat.sub_le _ _) t.isLt)) := by
  rw [outsAt0_B m c t h0 (by omega)]
  frame_out
end body

/-- The blocks of the arrays that a point reads and writes. -/
theorem places : ∀ t : Fin cfg0.N, win0_0.index t = ![t.val % 8, 0] ∧ win0_1.index t = ![t.val % 8, 0] ∧ win0_2.index t = ![0, 0] :=
  (by decide +kernel : ∀ t : Fin grid0.N, _)

/-- The product of the transpose of `a` with `b`, at row `i`, column `j`. -/
def prod (a : S8192x1024.Idx → EReal) (b : S8192x512.Idx → EReal) (i : Fin 1024) (j : Fin 512) : EReal :=
  ∑ s : Fin 8192, a (ix2 s i) * b (ix2 s j)

/-- The result. -/
def result (a : S8192x1024.Idx → EReal) (b : S8192x512.Idx → EReal) : S1024x512.Idx → EReal := fun i =>
  prod a b (i 0) (i 1)

variable (m : (ℓ : Loc nD τ sig) → Buf (Elt Ideal) ℓ)

theorem a_apply (c : Dev nD) (t : Fin cfg0.N) (k : Fin 1024) (i : Fin 1024) (s : Fin 8192) (i' : Fin 1024)
    (hs : s.val = t.val % 8 * 1024 + k.val) (hi : i'.val = i.val) :
    (iblk m c 0 t : S1024x1024.Idx → EReal) (ix2 k i) = V m c main_arg0 (ix2 s i') := by
  obtain ⟨p0, p1, p2⟩ := places t
  blk_ext [iblk, p0]

theorem b_apply (c : Dev nD) (t : Fin cfg0.N) (k : Fin 1024) (j : Fin 512) (s : Fin 8192) (j' : Fin 512)
    (hs : s.val = t.val % 8 * 1024 + k.val) (hj : j'.val = j.val) :
    (iblk m c 1 t : S1024x512.Idx → EReal) (ix2 k j) = V m c main_arg1 (ix2 s j') := by
  obtain ⟨p0, p1, p2⟩ := places t
  blk_ext [iblk, p1]

/-- One block of tokens' part, at row `i`, column `j` of a block. -/
def part (a : S1024x1024.Idx → EReal) (b : S1024x512.Idx → EReal) (i : Fin 1024) (j : Fin 512) : EReal :=
  ∑ k : Fin 1024, a (ix2 k i) * b (ix2 k j)

/-- What the last point of a run leaves in the buffer. -/
theorem value (c : Dev nD) (t : Fin cfg0.N) (ht : t.val % 8 = 7) (y : S1024x512.Idx) (i : Fin 1024) (j : Fin 512)
    (hi : i.val = (y 0).val) (hj : j.val = (y 1).val) :
    outsAt0 m c t.val t.isLt y = prod (V m c main_arg0) (V m c main_arg1) i j := by
  have hN : cfg0.N = 8 := N_0
  have htl : t.val < cfg0.N := t.isLt
  refine (Pipeline.eq_sum_fin_of_reset_step_apply_of_flush (fun n h => outsAt0 m c n h) 8 (fun _ => (0 : EReal))
    (fun t y => part (iblk m c 0 t) (iblk m c 1 t) (y 0) (y 1)) (fun t h j => ?_) (fun t h j => ?_) t ht y).trans ?_
  · rw [first m c t h]
    pointwise [k0_pay1, part]
  · rw [next m c t h]
    pointwise [k0_pay2, k0_pay1, part]
  · rw [zero_add]
    unfold prod
    refine Fin.sum_mul_add_congr (fun s k h => ?_) (by rfl)
    exact congrArg₂ (· * ·) (a_apply m c _ k _ _ i (by simp; omega) (by first | exact hi | (simp; omega))) (b_apply m c _ k _ _ j (by simp; omega) (by first | exact hj | (simp; omega)))

theorem final (c : Dev nD) : (dats m 0 c).arrAt 2 cfg0.N = result (V m c main_arg0) (V m c main_arg1) := by
  refine (dats m 0 c).arrAt_eq_of_covers 2 _ (by decide +kernel) fun t hf y => ?_
  obtain ⟨p0, p1, p2⟩ := places t
  rw [after0_2]
  have hN : cfg0.N = 8 := N_0
  have ht : t.val < cfg0.N := t.isLt
  refine (value m c t ((flush0_2 t).mp hf) _ _ _ ?_ ?_ : _ = result _ _ _)
  · blk_simp [p2]
  · blk_simp [p2]

end WgradHeadsIdeal.Value

theorem wgradHeads_P : @quiescent_WgradHeads WgradHeads.Gen.facts := fun m g _ => WgradHeads.Gen.frame m g
theorem wgradHeads_PI : @quiescent_WgradHeadsIdeal WgradHeadsIdeal.Gen.facts := fun m g _ => WgradHeadsIdeal.Gen.frame m g
theorem wgradHeads_RI : @quiescent_WgradHeadsRefIdeal WgradHeadsRefIdeal.Gen.facts := fun m g _ =>
  (θ_run _ _ _).mono (fun r h => ⟨fun c => (h c).2, sem_eq_zero_of_no_sems rfl r.2⟩) (WgradHeadsRefIdeal.Value.run m g)
theorem wgradHeads_algebraic : @algebraic_WgradHeadsIdeal_WgradHeadsRefIdeal WgradHeadsIdeal.Gen.facts WgradHeadsRefIdeal.Gen.facts := by
  intro m g m' g' _ hin
  refine ⟨_, WgradHeadsIdeal.Value.run_blocks m g, (θ_run _ _ _).mono (fun r h c => ?_) (WgradHeadsRefIdeal.Value.run m' g')⟩
  obtain ⟨h0, h1⟩ := h c
  obtain ⟨e0, e1⟩ := hin c
  refine ⟨h0.trans ?_, h1⟩
  clear h0 h1
  rw [WgradHeadsIdeal.Value.final m c, e0, e1]
  funext i
  clear e0 e1
  pointwise [WgradHeadsIdeal.Value.result, WgradHeadsIdeal.Value.prod]

namespace WgradOutIdeal.Value
open Cert.WgradOutIdeal Cert.WgradOutIdeal.Gen

section body
variable {F : FTy → Type} [FloatOps F]
variable (m : (ℓ : Loc nD τ sig) → Buf (Elt F) ℓ)

/-- The first block of tokens starts the sum. -/
theorem first (c : Dev nD) (t : Fin cfg0.N) (h0 : t.val % 8 = 0) :
    outsAt0 m c t.val t.isLt = k0_pay1 (iblk m c 0 t) (iblk m c 1 t) := by
  rw [outsAt0_A m c t h0 (by have := lt_of_lt_of_eq t.isLt N_0; omega)]
  frame_out

/-- Each further block is added. -/
theorem next (c : Dev nD) (t : Fin cfg0.N) (h0 : ¬ t.val % 8 = 0) : outsAt0 m c t.val t.isLt =
    k0_pay2 (iblk m c 0 t) (iblk m c 1 t) (outsAt0 m c (t.val - 1) (Nat.lt_of_le_of_lt (Nat.sub_le _ _) t.isLt)) := by
  rw [outsAt0_B m c t h0 (by omega)]
  frame_out
end body

/-- The blocks of the arrays that a point reads and writes. -/
theorem places : ∀ t : Fin cfg0.N, win0_0.index t = ![t.val % 8, 0] ∧ win0_1.index t = ![t.val % 8, 0] ∧ win0_2.index t = ![0, 0] :=
  (by decide +kernel : ∀ t : Fin grid0.N, _)

/-- The product of the transpose of `a` with `b`, at row `i`, column `j`. -/
def prod (a : S8192x1024.Idx → EReal) (b : S8192x1024.Idx → EReal) (i : Fin 1024) (j : Fin 1024) : EReal :=
  ∑ s : Fin 8192, a (ix2 s i) * b (ix2 s j)

/-- The result. -/
def result (a : S8192x1024.Idx → EReal) (b : S8192x1024.Idx → EReal) : S1024x1024.Idx → EReal := fun i =>
  prod a b (i 0) (i 1)

variable (m : (ℓ : Loc nD τ sig) → Buf (Elt Ideal) ℓ)

theorem a_apply (c : Dev nD) (t : Fin cfg0.N) (k : Fin 1024) (i : Fin 1024) (s : Fin 8192) (i' : Fin 1024)
    (hs : s.val = t.val % 8 * 1024 + k.val) (hi : i'.val = i.val) :
    (iblk m c 0 t : S1024x1024.Idx → EReal) (ix2 k i) = V m c main_arg0 (ix2 s i') := by
  obtain ⟨p0, p1, p2⟩ := places t
  blk_ext [iblk, p0]

theorem b_apply (c : Dev nD) (t : Fin cfg0.N) (k : Fin 1024) (j : Fin 1024) (s : Fin 8192) (j' : Fin 1024)
    (hs : s.val = t.val % 8 * 1024 + k.val) (hj : j'.val = j.val) :
    (iblk m c 1 t : S1024x1024.Idx → EReal) (ix2 k j) = V m c main_arg1 (ix2 s j') := by
  obtain ⟨p0, p1, p2⟩ := places t
  blk_ext [iblk, p1]

/-- One block of tokens' part, at row `i`, column `j` of a block. -/
def part (a : S1024x1024.Idx → EReal) (b : S1024x1024.Idx → EReal) (i : Fin 1024) (j : Fin 1024) : EReal :=
  ∑ k : Fin 1024, a (ix2 k i) * b (ix2 k j)

/-- What the last point of a run leaves in the buffer. -/
theorem value (c : Dev nD) (t : Fin cfg0.N) (ht : t.val % 8 = 7) (y : S1024x1024.Idx) (i : Fin 1024) (j : Fin 1024)
    (hi : i.val = (y 0).val) (hj : j.val = (y 1).val) :
    outsAt0 m c t.val t.isLt y = prod (V m c main_arg0) (V m c main_arg1) i j := by
  have hN : cfg0.N = 8 := N_0
  have htl : t.val < cfg0.N := t.isLt
  refine (Pipeline.eq_sum_fin_of_reset_step_apply_of_flush (fun n h => outsAt0 m c n h) 8 (fun _ => (0 : EReal))
    (fun t y => part (iblk m c 0 t) (iblk m c 1 t) (y 0) (y 1)) (fun t h j => ?_) (fun t h j => ?_) t ht y).trans ?_
  · rw [first m c t h]
    pointwise [k0_pay1, part]
  · rw [next m c t h]
    pointwise [k0_pay2, k0_pay1, part]
  · rw [zero_add]
    unfold prod
    refine Fin.sum_mul_add_congr (fun s k h => ?_) (by rfl)
    exact congrArg₂ (· * ·) (a_apply m c _ k _ _ i (by simp; omega) (by first | exact hi | (simp; omega))) (b_apply m c _ k _ _ j (by simp; omega) (by first | exact hj | (simp; omega)))

theorem final (c : Dev nD) : (dats m 0 c).arrAt 2 cfg0.N = result (V m c main_arg0) (V m c main_arg1) := by
  refine (dats m 0 c).arrAt_eq_of_covers 2 _ (by decide +kernel) fun t hf y => ?_
  obtain ⟨p0, p1, p2⟩ := places t
  rw [after0_2]
  have hN : cfg0.N = 8 := N_0
  have ht : t.val < cfg0.N := t.isLt
  refine (value m c t ((flush0_2 t).mp hf) _ _ _ ?_ ?_ : _ = result _ _ _)
  · blk_simp [p2]
  · blk_simp [p2]

end WgradOutIdeal.Value

theorem wgradOut_P : @quiescent_WgradOut WgradOut.Gen.facts := fun m g _ => WgradOut.Gen.frame m g
theorem wgradOut_PI : @quiescent_WgradOutIdeal WgradOutIdeal.Gen.facts := fun m g _ => WgradOutIdeal.Gen.frame m g
theorem wgradOut_RI : @quiescent_WgradOutRefIdeal WgradOutRefIdeal.Gen.facts := fun m g _ =>
  (θ_run _ _ _).mono (fun r h => ⟨fun c => (h c).2, sem_eq_zero_of_no_sems rfl r.2⟩) (WgradOutRefIdeal.Value.run m g)
theorem wgradOut_algebraic : @algebraic_WgradOutIdeal_WgradOutRefIdeal WgradOutIdeal.Gen.facts WgradOutRefIdeal.Gen.facts := by
  intro m g m' g' _ hin
  refine ⟨_, WgradOutIdeal.Value.run_blocks m g, (θ_run _ _ _).mono (fun r h c => ?_) (WgradOutRefIdeal.Value.run m' g')⟩
  obtain ⟨h0, h1⟩ := h c
  obtain ⟨e0, e1⟩ := hin c
  refine ⟨h0.trans ?_, h1⟩
  clear h0 h1
  rw [WgradOutIdeal.Value.final m c, e0, e1]
  funext i
  clear e0 e1
  pointwise [WgradOutIdeal.Value.result, WgradOutIdeal.Value.prod]

namespace WgradFf1Ideal.Value
open Cert.WgradFf1Ideal Cert.WgradFf1Ideal.Gen

section body
variable {F : FTy → Type} [FloatOps F]
variable (m : (ℓ : Loc nD τ sig) → Buf (Elt F) ℓ)

/-- The first block of tokens starts the sum. -/
theorem first (c : Dev nD) (t : Fin cfg0.N) (h0 : t.val % 8 = 0) :
    outsAt0 m c t.val t.isLt = k0_pay2 (iblk m c 0 t) (iblk m c 1 t) := by
  rw [outsAt0_A m c t h0 (by omega)]
  frame_out

/-- Each further block is added. -/
theorem next (c : Dev nD) (t : Fin cfg0.N) (h0 : ¬ t.val % 8 = 0) : outsAt0 m c t.val t.isLt =
    k0_pay3 (iblk m c 0 t) (iblk m c 1 t) (outsAt0 m c (t.val - 1) (Nat.lt_of_le_of_lt (Nat.sub_le _ _) t.isLt)) := by
  rw [outsAt0_B m c t h0 (by omega)]
  frame_out
end body

/-- The blocks of the arrays that a point reads and writes. -/
theorem places : ∀ t : Fin cfg0.N, win0_0.index t = ![t.val % 8, 0] ∧ win0_1.index t = ![t.val % 8, t.val / 8] ∧ win0_2.index t = ![t.val / 8, 0, 0] :=
  (by decide +kernel : ∀ t : Fin grid0.N, _)

/-- The product of the transpose of `a` with `b`, at row `i`, column `j`. -/
def prod (a : S8192x1024.Idx → EReal) (b : S8192x4096.Idx → EReal) (i : Fin 1024) (j : Fin 4096) : EReal :=
  ∑ s : Fin 8192, a (ix2 s i) * b (ix2 s j)

/-- The result. -/
def result (a : S8192x1024.Idx → EReal) (b : S8192x4096.Idx → EReal) : S4x1024x1024.Idx → EReal := fun i =>
  prod a b (i 1) ⟨(i 0).val * 1024 + (i 2).val, by have := (i 0).isLt; have := (i 2).isLt; simp at *; omega⟩

variable (m : (ℓ : Loc nD τ sig) → Buf (Elt Ideal) ℓ)

theorem a_apply (c : Dev nD) (t : Fin cfg0.N) (k : Fin 1024) (i : Fin 1024) (s : Fin 8192) (i' : Fin 1024)
    (hs : s.val = t.val % 8 * 1024 + k.val) (hi : i'.val = i.val) :
    (iblk m c 0 t : S1024x1024.Idx → EReal) (ix2 k i) = V m c main_arg0 (ix2 s i') := by
  obtain ⟨p0, p1, p2⟩ := places t
  blk_ext [iblk, p0]

theorem b_apply (c : Dev nD) (t : Fin cfg0.N) (k : Fin 1024) (j : Fin 1024) (s : Fin 8192) (j' : Fin 4096)
    (hs : s.val = t.val % 8 * 1024 + k.val) (hj : j'.val = t.val / 8 * 1024 + j.val) :
    (iblk m c 1 t : S1024x1024.Idx → EReal) (ix2 k j) = V m c main_arg1 (ix2 s j') := by
  obtain ⟨p0, p1, p2⟩ := places t
  blk_ext [iblk, p1]

/-- One block of tokens' part, at row `i`, column `j` of a block. -/
def part (a : S1024x1024.Idx → EReal) (b : S1024x1024.Idx → EReal) (i : Fin 1024) (j : Fin 1024) : EReal :=
  ∑ k : Fin 1024, a (ix2 k i) * b (ix2 k j)

/-- What the last point of a run leaves in the buffer. -/
theorem value (c : Dev nD) (t : Fin cfg0.N) (ht : t.val % 8 = 7) (y : S1x1024x1024.Idx) (i : Fin 1024) (j : Fin 4096)
    (hi : i.val = (y 1).val) (hj : j.val = t.val / 8 * 1024 + (y 2).val) :
    outsAt0 m c t.val t.isLt y = prod (V m c main_arg0) (V m c main_arg1) i j := by
  have hN : cfg0.N = 32 := N_0
  have htl : t.val < cfg0.N := t.isLt
  refine (Pipeline.eq_sum_fin_of_reset_step_apply_of_flush (fun n h => outsAt0 m c n h) 8 (fun _ => (0 : EReal))
    (fun t y => part (iblk m c 0 t) (iblk m c 1 t) (y 1) (y 2)) (fun t h j => ?_) (fun t h j => ?_) t ht y).trans ?_
  · rw [first m c t h]
    pointwise [k0_pay2, k0_pay1, part]
  · rw [next m c t h]
    pointwise [k0_pay3, k0_pay1, part]
  · rw [zero_add]
    unfold prod
    refine Fin.sum_mul_add_congr (fun s k h => ?_) (by rfl)
    exact congrArg₂ (· * ·) (a_apply m c _ k _ _ i (by simp; omega) (by first | exact hi | (simp; omega))) (b_apply m c _ k _ _ j (by simp; omega) (by first | exact hj | (simp; omega)))

theorem final (c : Dev nD) : (dats m 0 c).arrAt 2 cfg0.N = result (V m c main_arg0) (V m c main_arg1) := by
  refine (dats m 0 c).arrAt_eq_of_covers 2 _ (by decide +kernel) fun t hf y => ?_
  obtain ⟨p0, p1, p2⟩ := places t
  rw [after0_2]
  have hN : cfg0.N = 32 := N_0
  have ht : t.val < cfg0.N := t.isLt
  refine (value m c t ((flush0_2 t).mp hf) _ _ _ ?_ ?_ : _ = result _ _ _)
  · blk_simp [p2]
  · blk_simp [p2]

end WgradFf1Ideal.Value

theorem wgradFf1_P : @quiescent_WgradFf1 WgradFf1.Gen.facts := fun m g _ => WgradFf1.Gen.frame m g
theorem wgradFf1_PI : @quiescent_WgradFf1Ideal WgradFf1Ideal.Gen.facts := fun m g _ => WgradFf1Ideal.Gen.frame m g
theorem wgradFf1_RI : @quiescent_WgradFf1RefIdeal WgradFf1RefIdeal.Gen.facts := fun m g _ =>
  (θ_run _ _ _).mono (fun r h => ⟨fun c => (h c).2, sem_eq_zero_of_no_sems rfl r.2⟩) (WgradFf1RefIdeal.Value.run m g)
theorem wgradFf1_algebraic : @algebraic_WgradFf1Ideal_WgradFf1RefIdeal WgradFf1Ideal.Gen.facts WgradFf1RefIdeal.Gen.facts := by
  intro m g m' g' _ hin
  refine ⟨_, WgradFf1Ideal.Value.run_blocks m g, (θ_run _ _ _).mono (fun r h c => ?_) (WgradFf1RefIdeal.Value.run m' g')⟩
  obtain ⟨h0, h1⟩ := h c
  obtain ⟨e0, e1⟩ := hin c
  refine ⟨h0.trans ?_, h1⟩
  clear h0 h1
  rw [WgradFf1Ideal.Value.final m c, e0, e1]
  funext i
  clear e0 e1
  pointwise [WgradFf1Ideal.Value.result, WgradFf1Ideal.Value.prod]

namespace WgradFf2Ideal.Value
open Cert.WgradFf2Ideal Cert.WgradFf2Ideal.Gen

section body
variable {F : FTy → Type} [FloatOps F]
variable (m : (ℓ : Loc nD τ sig) → Buf (Elt F) ℓ)

/-- The first block of tokens starts the sum. -/
theorem first (c : Dev nD) (t : Fin cfg0.N) (h0 : t.val % 8 = 0) :
    outsAt0 m c t.val t.isLt = k0_pay1 (iblk m c 0 t) (iblk m c 1 t) := by
  rw [outsAt0_A m c t h0 (by omega)]
  frame_out

/-- Each further block is added. -/
theorem next (c : Dev nD) (t : Fin cfg0.N) (h0 : ¬ t.val % 8 = 0) : outsAt0 m c t.val t.isLt =
    k0_pay2 (iblk m c 0 t) (iblk m c 1 t) (outsAt0 m c (t.val - 1) (Nat.lt_of_le_of_lt (Nat.sub_le _ _) t.isLt)) := by
  rw [outsAt0_B m c t h0 (by omega)]
  frame_out
end body

/-- The blocks of the arrays that a point reads and writes. -/
theorem places : ∀ t : Fin cfg0.N, win0_0.index t = ![t.val % 8, t.val / 8] ∧ win0_1.index t = ![t.val % 8, 0] ∧ win0_2.index t = ![t.val / 8, 0] :=
  (by decide +kernel : ∀ t : Fin grid0.N, _)

/-- The product of the transpose of `a` with `b`, at row `i`, column `j`. -/
def prod (a : S8192x4096.Idx → EReal) (b : S8192x1024.Idx → EReal) (i : Fin 4096) (j : Fin 1024) : EReal :=
  ∑ s : Fin 8192, a (ix2 s i) * b (ix2 s j)

/-- The result. -/
def result (a : S8192x4096.Idx → EReal) (b : S8192x1024.Idx → EReal) : S4096x1024.Idx → EReal := fun i =>
  prod a b (i 0) (i 1)

variable (m : (ℓ : Loc nD τ sig) → Buf (Elt Ideal) ℓ)

theorem a_apply (c : Dev nD) (t : Fin cfg0.N) (k : Fin 1024) (i : Fin 1024) (s : Fin 8192) (i' : Fin 4096)
    (hs : s.val = t.val % 8 * 1024 + k.val) (hi : i'.val = t.val / 8 * 1024 + i.val) :
    (iblk m c 0 t : S1024x1024.Idx → EReal) (ix2 k i) = V m c main_arg0 (ix2 s i') := by
  obtain ⟨p0, p1, p2⟩ := places t
  blk_ext [iblk, p0]

theorem b_apply (c : Dev nD) (t : Fin cfg0.N) (k : Fin 1024) (j : Fin 1024) (s : Fin 8192) (j' : Fin 1024)
    (hs : s.val = t.val % 8 * 1024 + k.val) (hj : j'.val = j.val) :
    (iblk m c 1 t : S1024x1024.Idx → EReal) (ix2 k j) = V m c main_arg1 (ix2 s j') := by
  obtain ⟨p0, p1, p2⟩ := places t
  blk_ext [iblk, p1]

/-- One block of tokens' part, at row `i`, column `j` of a block. -/
def part (a : S1024x1024.Idx → EReal) (b : S1024x1024.Idx → EReal) (i : Fin 1024) (j : Fin 1024) : EReal :=
  ∑ k : Fin 1024, a (ix2 k i) * b (ix2 k j)

/-- What the last point of a run leaves in the buffer. -/
theorem value (c : Dev nD) (t : Fin cfg0.N) (ht : t.val % 8 = 7) (y : S1024x1024.Idx) (i : Fin 4096) (j : Fin 1024)
    (hi : i.val = t.val / 8 * 1024 + (y 0).val) (hj : j.val = (y 1).val) :
    outsAt0 m c t.val t.isLt y = prod (V m c main_arg0) (V m c main_arg1) i j := by
  have hN : cfg0.N = 32 := N_0
  have htl : t.val < cfg0.N := t.isLt
  refine (Pipeline.eq_sum_fin_of_reset_step_apply_of_flush (fun n h => outsAt0 m c n h) 8 (fun _ => (0 : EReal))
    (fun t y => part (iblk m c 0 t) (iblk m c 1 t) (y 0) (y 1)) (fun t h j => ?_) (fun t h j => ?_) t ht y).trans ?_
  · rw [first m c t h]
    pointwise [k0_pay1, part]
  · rw [next m c t h]
    pointwise [k0_pay2, k0_pay1, part]
  · rw [zero_add]
    unfold prod
    refine Fin.sum_mul_add_congr (fun s k h => ?_) (by rfl)
    exact congrArg₂ (· * ·) (a_apply m c _ k _ _ i (by simp; omega) (by first | exact hi | (simp; omega))) (b_apply m c _ k _ _ j (by simp; omega) (by first | exact hj | (simp; omega)))

theorem final (c : Dev nD) : (dats m 0 c).arrAt 2 cfg0.N = result (V m c main_arg0) (V m c main_arg1) := by
  refine (dats m 0 c).arrAt_eq_of_covers 2 _ (by decide +kernel) fun t hf y => ?_
  obtain ⟨p0, p1, p2⟩ := places t
  rw [after0_2]
  have hN : cfg0.N = 32 := N_0
  have ht : t.val < cfg0.N := t.isLt
  refine (value m c t ((flush0_2 t).mp hf) _ _ _ ?_ ?_ : _ = result _ _ _)
  · blk_simp [p2]
  · blk_simp [p2]

end WgradFf2Ideal.Value

theorem wgradFf2_P : @quiescent_WgradFf2 WgradFf2.Gen.facts := fun m g _ => WgradFf2.Gen.frame m g
theorem wgradFf2_PI : @quiescent_WgradFf2Ideal WgradFf2Ideal.Gen.facts := fun m g _ => WgradFf2Ideal.Gen.frame m g
theorem wgradFf2_RI : @quiescent_WgradFf2RefIdeal WgradFf2RefIdeal.Gen.facts := fun m g _ =>
  (θ_run _ _ _).mono (fun r h => ⟨fun c => (h c).2, sem_eq_zero_of_no_sems rfl r.2⟩) (WgradFf2RefIdeal.Value.run m g)
theorem wgradFf2_algebraic : @algebraic_WgradFf2Ideal_WgradFf2RefIdeal WgradFf2Ideal.Gen.facts WgradFf2RefIdeal.Gen.facts := by
  intro m g m' g' _ hin
  refine ⟨_, WgradFf2Ideal.Value.run_blocks m g, (θ_run _ _ _).mono (fun r h c => ?_) (WgradFf2RefIdeal.Value.run m' g')⟩
  obtain ⟨h0, h1⟩ := h c
  obtain ⟨e0, e1⟩ := hin c
  refine ⟨h0.trans ?_, h1⟩
  clear h0 h1
  rw [WgradFf2Ideal.Value.final m c, e0, e1]
  funext i
  clear e0 e1
  pointwise [WgradFf2Ideal.Value.result, WgradFf2Ideal.Value.prod]

end Cert
-- ==== Proof.DxValue.lean ====
module

public import proofs.«01_k».proof.Defs
public import proofs.«01_k».proof.Proof.Gen.DxFinal.Frame
public import proofs.«01_k».proof.Proof.Gen.DxFinalIdeal.Value
public import proofs.«01_k».proof.Proof.Gen.DxFinalRefIdeal.Run
public import Idealize.ShloMosaic.Lib.Pipeline.ValueKit
public import Idealize.ShloMosaic.Lib.Pipeline.ReadBack
public import Idealize.ShloMosaic.Lib.Pointwise

/-! # The gradient of the layer's input

One call takes the gradient of the projection's output, back through the projection and the first normalisation.
The weights are copied once into a scratch, the rows are done 256 at a time, and the gradient of the
normalisation's gain is accumulated over the points. Both sides are the same sums over the extended reals: the kernel's
four products against column ranges of the weights are the reference's one product of the concatenation, and the
accumulated sums over 256 rows are the sum over all rows. -/

@[expose] public section
set_option maxRecDepth 16384
noncomputable section
namespace Cert
open Idealize.ShloMosaic Idealize.ShloMosaic.TcCoe Idealize.SL.Sem
open Idealize.ShloMosaic.Pipeline (Dat)
namespace DxFinalIdeal.Value
open Cert.DxFinalIdeal Cert.DxFinalIdeal.Gen

section body
variable {F : FTy → Type} [FloatOps F]
variable (m : (ℓ : Loc nD τ sig) → Buf (Elt F) ℓ)

/-- One store of a whole buffer leaves what was stored. -/
theorem canon_whole {s : Shape} {e : EltTy} (Z : s.Idx → Elt F e) (L : List (View.Piece (Elt F) s e)) :
    View.canon (⟨Rect.whole s, Z⟩ :: L) = Z :=
  View.canon_cons_unit_lit _ Z L (fun _ => rfl)

/-- The scratch holds the weights after every point. -/
theorem carried (c : Dev nD) : ∀ (n : ℕ) (h : n < cfg0.N), (outsAt0 m c n h).2.2 = V m c main_arg7 := by
  intro n
  induction n with
  | zero =>
    intro h
    rw [outsAt0_A m c ⟨0, h⟩ rfl]
    frame_out
    exact canon_whole _ _
  | succ n ih =>
    intro h
    by_cases h0 : (n + 1) % 32 = 0
    · rw [outsAt0_A m c ⟨n + 1, h⟩ h0]
      frame_out
      exact canon_whole _ _
    · rw [outsAt0_B m c ⟨n + 1, h⟩ h0]
      dsimp only
      delta sout0_B_0
      exact ih _

/-- The gradient of the normalised rows of a point's block. -/
def rows (c : Dev nD) (t : Fin cfg0.N) : FVec F S256x1024 .f32 :=
  k0_pay4 (iblk m c 3 t) (View.ld (V m c main_arg7) (Rect.unit ![0, 0] ![1024, 1664] inb_S1024x3200_S1024x1664_0_0))
    (iblk m c 4 t) (View.ld (V m c main_arg7) (Rect.unit ![0, 1664] ![1024, 512] inb_S1024x3200_S1024x512_0_1664))
    (iblk m c 5 t) (View.ld (V m c main_arg7) (Rect.unit ![0, 2176] ![1024, 512] inb_S1024x3200_S1024x512_0_2176))
    (iblk m c 6 t) (View.ld (V m c main_arg7) (Rect.unit ![0, 2688] ![1024, 512] inb_S1024x3200_S1024x512_0_2688))

theorem after7 (c : Dev nD) (t : Fin cfg0.N) : (outsAt0 m c t.val t.isLt).1 =
    k0_pay2 (rows m c t) (k0_pay5 (iblk m c 0 t)) (k0_pay6 (iblk m c 0 t)) (iblk m c 2 t) (iblk m c 1 t) := by
  by_cases h0 : t.val % 32 = 0
  · rw [outsAt0_A m c t h0]
    frame_out
    simp only [View.readCov_eq_canon', canon_whole]
    rfl
  · rw [outsAt0_B m c t h0]
    frame_out
    simp only [read_unread_whole, carried]
    rfl

theorem first8 (c : Dev nD) (t : Fin cfg0.N) (h0 : t.val % 32 = 0) : (outsAt0 m c t.val t.isLt).2.1 =
    k0_pay1 (rows m c t) (k0_pay6 (iblk m c 0 t)) k0_pay3 := by
  rw [outsAt0_A m c t h0]
  frame_out
  simp only [View.readCov_eq_canon', canon_whole]
  rfl

theorem next8 (c : Dev nD) (t : Fin cfg0.N) (h0 : ¬ t.val % 32 = 0) : (outsAt0 m c t.val t.isLt).2.1 =
    k0_pay1 (rows m c t) (k0_pay6 (iblk m c 0 t)) (outsAt0 m c (t.val - 1) (Nat.lt_of_le_of_lt (Nat.sub_le _ _) t.isLt)).2.1 := by
  rw [outsAt0_B m c t h0]
  frame_out
  simp only [read_unread_whole, carried]
  rfl
end body

/-- The blocks of the arrays that a point reads and writes. -/
theorem places : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0]
    ∧ win0_6.index t = ![t.val, 0] ∧ win0_7.index t = ![t.val, 0] ∧ win0_8.index t = ![0, 0] :=
  (by decide +kernel : ∀ t : Fin grid0.N, _)

variable (x dh1 : S8192x1024.Idx → EReal) (g : S1x1024.Idx → EReal) (da : S8192x1664.Idx → EReal)
  (dq dk dv : S8192x512.Idx → EReal) (w : S1024x3200.Idx → EReal)

/-- The gradient of the normalised input at row `i`, column `j`. -/
def dn (i : Fin 8192) (j : Fin 1024) : EReal :=
  ∑ k : Fin 1664, da (ix2 i k) * w (ix2 j ⟨k.val, by omega⟩)
    + ∑ k : Fin 512, dq (ix2 i k) * w (ix2 j ⟨1664 + k.val, by omega⟩)
    + ∑ k : Fin 512, dk (ix2 i k) * w (ix2 j ⟨2176 + k.val, by omega⟩)
    + ∑ k : Fin 512, dv (ix2 i k) * w (ix2 j ⟨2688 + k.val, by omega⟩)

/-- The reciprocal root mean square of row `i`. -/
def rs (i : Fin 8192) : EReal :=
  Ideal.rsqrt (Ideal.div (∑ k : Fin 1024, x (ix2 i k) * x (ix2 i k)) (Ideal.ofBits .f32 1149239296#32) + Ideal.ofBits .f32 897988541#32)

/-- The normalised input at row `i`, column `j`. -/
def hn (i : Fin 8192) (j : Fin 1024) : EReal := x (ix2 i j) * rs x i

/-- The gradient of the input. -/
def dx : S8192x1024.Idx → EReal := fun i =>
  dh1 i + rs x (i 0) * (dn da dq dk dv w (i 0) (i 1) * g (ix2 0 (i 1))
    - hn x (i 0) (i 1) * Ideal.div (∑ k : Fin 1024, dn da dq dk dv w (i 0) k * g (ix2 0 k) * hn x (i 0) k)
        (Ideal.ofBits .f32 1149239296#32))

/-- The gradient of the gain. -/
def dg : S1x1024.Idx → EReal := fun i =>
  ∑ s : Fin 8192, dn da dq dk dv w s (i 1) * hn x s (i 1)

variable (m : (ℓ : Loc nD τ sig) → Buf (Elt Ideal) ℓ)

theorem rows_apply (c : Dev nD) (t : Fin cfg0.N) (r : Fin 256) (j : Fin 1024) (i : Fin 8192) (hi : i.val = t.val * 256 + r.val) :
    rows m c t (ix2 r j) = dn (V m c main_arg3) (V m c main_arg4) (V m c main_arg5) (V m c main_arg6) (V m c main_arg7) i j := by
  obtain ⟨p0, p1, p2, p3, p4, p5, p6, p7, p8⟩ := places t
  unfold rows dn
  pointwise [k0_pay4]
  blk_point [iblk, p3, p4, p5, p6]

theorem x_apply (c : Dev nD) (t : Fin cfg0.N) (r : Fin 256) (k : Fin 1024) (i : Fin 8192) (hi : i.val = t.val * 256 + r.val) :
    (iblk m c 0 t : S256x1024.Idx → EReal) (ix2 r k) = V m c main_arg0 (ix2 i k) := by
  obtain ⟨p0, p1, p2, p3, p4, p5, p6, p7, p8⟩ := places t
  blk_ext [iblk, p0]

theorem dh1_apply (c : Dev nD) (t : Fin cfg0.N) (r : Fin 256) (k : Fin 1024) (i : Fin 8192) (hi : i.val = t.val * 256 + r.val) :
    (iblk m c 1 t : S256x1024.Idx → EReal) (ix2 r k) = V m c main_arg1 (ix2 i k) := by
  obtain ⟨p0, p1, p2, p3, p4, p5, p6, p7, p8⟩ := places t
  blk_ext [iblk, p1]

theorem g_apply (c : Dev nD) (t : Fin cfg0.N) (k : Fin 1024) :
    (iblk m c 2 t : S1x1024.Idx → EReal) (ix2 0 k) = V m c main_arg2 (ix2 0 k) := by
  obtain ⟨p0, p1, p2, p3, p4, p5, p6, p7, p8⟩ := places t
  blk_ext [iblk, p2]

theorem rs_apply (c : Dev nD) (t : Fin cfg0.N) (r : Fin 256) (i : Fin 8192) (hi : i.val = t.val * 256 + r.val) :
    k0_pay5 (iblk m c 0 t : Vec Ideal S256x1024 .f32) (ix2 r 0) = rs (V m c main_arg0) i := by
  unfold rs
  pointwise [k0_pay5]
  simp only [x_apply m c t r _ i hi]

theorem hn_apply (c : Dev nD) (t : Fin cfg0.N) (r : Fin 256) (k : Fin 1024) (i : Fin 8192) (hi : i.val = t.val * 256 + r.val) :
    k0_pay6 (iblk m c 0 t : Vec Ideal S256x1024 .f32) (ix2 r k) = hn (V m c main_arg0) i k := by
  unfold hn
  rw [← rs_apply m c t r i hi, ← x_apply m c t r k i hi]
  pointwise [k0_pay6]

/-- What a point leaves in the first result's buffer. -/
theorem value7 (c : Dev nD) (t : Fin cfg0.N) (r : Fin 256) (j : Fin 1024) (i : Fin 8192) (hi : i.val = t.val * 256 + r.val) :
    (outsAt0 m c t.val t.isLt).1 (ix2 r j) = dx (V m c main_arg0) (V m c main_arg1) (V m c main_arg2) (V m c main_arg3)
      (V m c main_arg4) (V m c main_arg5) (V m c main_arg6) (V m c main_arg7) (ix2 i j) := by
  rw [after7]
  unfold dx
  pointwise [k0_pay2]
  simp only [rows_apply m c t r _ i hi, rs_apply m c t r i hi, hn_apply m c t r _ i hi, g_apply m c t, dh1_apply m c t r _ i hi]

/-- What a point adds to the second result. -/
def part (c : Dev nD) (t : Fin cfg0.N) : S1x1024.Idx → EReal := fun y =>
  ∑ r : Fin 256, rows m c t (ix2 r (y 1)) * k0_pay6 (iblk m c 0 t : Vec Ideal S256x1024 .f32) (ix2 r (y 1))

/-- The last point of the grid. -/
def last : Fin cfg0.N := ⟨31, by rw [show cfg0.N = 32 from N_0]; omega⟩

theorem value8 (c : Dev nD) (y : S1x1024.Idx) : (outsAt0 m c last.val last.isLt).2.1 y =
    dg (V m c main_arg0) (V m c main_arg3) (V m c main_arg4) (V m c main_arg5) (V m c main_arg6) (V m c main_arg7) y := by
  refine (Pipeline.eq_sum_fin_of_reset_step_apply_last (fun n h => (outsAt0 m c n h).2.1) 32 (fun _ => (0 : EReal)) (part m c) (fun t h j => ?_) (fun t h j => ?_) (le_of_eq N_0) last rfl y).trans ?_
  · rw [first8 m c t h]
    pointwise [k0_pay1, k0_pay3, part]
  · rw [next8 m c t h]
    pointwise [k0_pay1, part]
  · rw [zero_add]
    unfold dg
    refine Fin.sum_mul_add_congr (fun t k h => ?_) (by rw [show cfg0.N = 32 from N_0])
    exact congrArg₂ (· * ·) (rows_apply m c t k (y 1) _ rfl) (hn_apply m c t k (y 1) _ rfl)

theorem final7 (c : Dev nD) : (dats m 0 c).arrAt 7 cfg0.N = dx (V m c main_arg0) (V m c main_arg1) (V m c main_arg2) (V m c main_arg3)
      (V m c main_arg4) (V m c main_arg5) (V m c main_arg6) (V m c main_arg7) := by
  refine (dats m 0 c).arrAt_eq_of_covers 7 _ (by decide +kernel) fun t hf y => ?_
  obtain ⟨p0, p1, p2, p3, p4, p5, p6, p7, p8⟩ := places t
  rw [after0_7]
  have hN : cfg0.N = 32 := N_0
  have ht : t.val < cfg0.N := t.isLt
  obtain ⟨r, j, hy⟩ : ∃ (r : Fin 256) (j : Fin 1024), (cfg0.win 7).xinj (cfg0.grid.coords t) y = ix2 r j := ⟨_, _, eq_ix2 _⟩
  show (outsAt0 m c t.val t.isLt).1 ((cfg0.win 7).xinj (cfg0.grid.coords t) y) = _
  rw [hy, value7 m c t r j ⟨t.val * 256 + r.val, by omega⟩ rfl]
  have e0 : (y 0).val = r.val := congrArg (fun z : S256x1024.Idx => (z 0).val) hy
  have e1 : (y 1).val = j.val := congrArg (fun z : S256x1024.Idx => (z 1).val) hy
  refine congrArg _ ?_
  blk_ext [p7, e0, e1]

theorem final8 (c : Dev nD) : (dats m 0 c).arrAt 8 cfg0.N = dg (V m c main_arg0) (V m c main_arg3)
      (V m c main_arg4) (V m c main_arg5) (V m c main_arg6) (V m c main_arg7) := by
  refine (dats m 0 c).arrAt_eq_of_after_last 8 last (by decide +kernel) _ fun j => ?_
  obtain ⟨p0, p1, p2, p3, p4, p5, p6, p7, p8⟩ := places last
  rw [after0_8]
  refine (value8 m c _).trans ?_
  refine congrArg _ ?_
  rfl

/-- A sum over the columns of the projection, by its four ranges. -/
theorem ranges (f : Fin 3200 → EReal) : ∑ k : Fin 3200, f k = ∑ k : Fin 1664, f ⟨k.val, by omega⟩
    + ∑ k : Fin 512, f ⟨1664 + k.val, by omega⟩ + ∑ k : Fin 512, f ⟨2176 + k.val, by omega⟩ + ∑ k : Fin 512, f ⟨2688 + k.val, by omega⟩ := by
  rw [show (∑ k : Fin 3200, f k) = ∑ k : Fin (1664 + 512 + 512 + 512), f k from rfl, Fin.sum_univ_add, Fin.sum_univ_add, Fin.sum_univ_add]
  rfl

theorem in0 (x : Fin 1664) : (x.val < 1664) = True := eq_true x.isLt
theorem out1 (x : Fin 512) : (1664 + x.val < 1664) = False := eq_false (by omega)
theorem in1 (x : Fin 512) : (1664 + x.val - 1664 < 512) = True := eq_true (by omega)
theorem out2 (x : Fin 512) : (2176 + x.val < 1664) = False := eq_false (by omega)
theorem out2' (x : Fin 512) : (2176 + x.val - 1664 < 512) = False := eq_false (by omega)
theorem in2 (x : Fin 512) : (2176 + x.val - 1664 - 512 < 512) = True := eq_true (by omega)
theorem out3 (x : Fin 512) : (2688 + x.val < 1664) = False := eq_false (by omega)
theorem out3' (x : Fin 512) : (2688 + x.val - 1664 < 512) = False := eq_false (by omega)
theorem out3'' (x : Fin 512) : (2688 + x.val - 1664 - 512 < 512) = False := eq_false (by omega)
theorem at1 (x : Fin 512) (h : 1664 + x.val - 1664 < 512) : (⟨1664 + x.val - 1664, h⟩ : Fin 512) = x := Fin.ext (by simp)
theorem at2 (x : Fin 512) (h : 2176 + x.val - 1664 - 512 < 512) : (⟨2176 + x.val - 1664 - 512, h⟩ : Fin 512) = x := Fin.ext (by simp; omega)
theorem at3 (x : Fin 512) (h : 2688 + x.val - 1664 - 512 - 512 < 512) : (⟨2688 + x.val - 1664 - 512 - 512, h⟩ : Fin 512) = x := Fin.ext (by simp; omega)

end DxFinalIdeal.Value

theorem dxFinal_P : @quiescent_DxFinal DxFinal.Gen.facts := fun m g _ => DxFinal.Gen.frame m g
theorem dxFinal_PI : @quiescent_DxFinalIdeal DxFinalIdeal.Gen.facts := fun m g _ => DxFinalIdeal.Gen.frame m g
theorem dxFinal_RI : @quiescent_DxFinalRefIdeal DxFinalRefIdeal.Gen.facts := fun m g _ =>
  (θ_run _ _ _).mono (fun r h => ⟨fun c => (h c).2.2, sem_eq_zero_of_no_sems rfl r.2⟩) (DxFinalRefIdeal.Value.run m g)
open DxFinalIdeal.Value in
theorem dxFinal_algebraic : @algebraic_DxFinalIdeal_DxFinalRefIdeal DxFinalIdeal.Gen.facts DxFinalRefIdeal.Gen.facts := by
  intro m g m' g' _ hin
  refine ⟨_, _, DxFinalIdeal.Value.run_blocks m g, (θ_run _ _ _).mono (fun r h c => ?_) (DxFinalRefIdeal.Value.run m' g')⟩
  obtain ⟨h0, h1, h2⟩ := h c
  obtain ⟨e0, e1, e2, e3, e4, e5, e6, e7⟩ := hin c
  refine ⟨h0.trans ?_, h1.trans ?_, h2⟩
  · clear h0 h1 h2
    rw [DxFinalIdeal.Value.final7 m c, e0, e1, e2, e3, e4, e5, e6, e7]
    funext i
    clear e0 e1 e2 e3 e4 e5 e6 e7
    pointwise [DxFinalIdeal.Value.dx, DxFinalIdeal.Value.hn, DxFinalIdeal.Value.rs, DxFinalIdeal.Value.dn]
    simp only [DxFinalIdeal.Value.ranges, in0, out1, in1, out2, out2', in2, out3, out3', out3'', at1, at2, at3, dite_true, dite_false]
  · clear h0 h1 h2
    rw [DxFinalIdeal.Value.final8 m c, e0, e3, e4, e5, e6, e7]
    funext i
    clear e0 e1 e2 e3 e4 e5 e6 e7
    pointwise [DxFinalIdeal.Value.dg, DxFinalIdeal.Value.hn, DxFinalIdeal.Value.rs, DxFinalIdeal.Value.dn]
    simp only [DxFinalIdeal.Value.ranges, in0, out1, in1, out2, out2', in2, out3, out3', out3'', at1, at2, at3, dite_true, dite_false]

end Cert
-- ==== Proof.InprojValue.lean ====
module

public import proofs.«01_k».proof.Defs
public import proofs.«01_k».proof.Proof.Gen.Inproj.Frame
public import proofs.«01_k».proof.Proof.Gen.InprojIdeal.Value
public import proofs.«01_k».proof.Proof.Gen.InprojRefIdeal.Run
public import Idealize.ShloMosaic.Lib.Pipeline.ValueKit
public import Idealize.ShloMosaic.Lib.Pipeline.ReadBack
public import Idealize.ShloMosaic.Lib.Pointwise

/-! # The projection of the layer's input

One call normalises the rows of the input, 256 at a time, and multiplies them with the weights, which are copied once
into a scratch. Every row of both results is the row that the plain expressions give. -/

@[expose] public section
set_option maxRecDepth 16384
noncomputable section
namespace Cert
open Idealize.ShloMosaic Idealize.ShloMosaic.TcCoe Idealize.SL.Sem
open Idealize.ShloMosaic.Pipeline (Dat)
namespace InprojIdeal.Value
open Cert.InprojIdeal Cert.InprojIdeal.Gen

section body
variable {F : FTy → Type} [FloatOps F]
variable (m : (ℓ : Loc nD τ sig) → Buf (Elt F) ℓ)

/-- One store of a whole buffer leaves what was stored. -/
theorem canon_whole {s : Shape} {e : EltTy} (Z : s.Idx → Elt F e) (L : List (View.Piece (Elt F) s e)) :
    View.canon (⟨Rect.whole s, Z⟩ :: L) = Z :=
  View.canon_cons_unit_lit _ Z L (fun _ => rfl)

/-- Every element of the whole buffer, read through its rectangle, is that element. -/
theorem whole_apply (f : S1024x3200.Idx → Elt F .bf16) :
    (fun j => f ((Rect.unit (s := S1024x3200) ![0, 0] ![1024, 3200] inb_S1024x3200_S1024x3200_0_0).idx j)) = f := by
  funext j
  refine congrArg f (funext fun a => Fin.ext ?_)
  match a with
  | ⟨0, _⟩ => show 0 + 1 * (j 0).val = (j 0).val; omega
  | ⟨1, _⟩ => show 0 + 1 * (j 1).val = (j 1).val; omega

/-- The scratch holds the weights after every point. -/
theorem carried (c : Dev nD) : ∀ (n : ℕ) (h : n < cfg0.N), (outsAt0 m c n h).2.2 = V m c main_arg2 := by
  intro n
  induction n with
  | zero =>
    intro h
    rw [outsAt0_A m c ⟨0, h⟩ rfl]
    frame_out
    exact canon_whole _ _
  | succ n ih =>
    intro h
    by_cases h0 : (n + 1) % 32 = 0
    · rw [outsAt0_A m c ⟨n + 1, h⟩ h0]
      frame_out
      exact canon_whole _ _
    · rw [outsAt0_B m c ⟨n + 1, h⟩ h0]
      dsimp only
      delta sout0_B_0
      exact ih _

theorem after2 (c : Dev nD) (t : Fin cfg0.N) : (outsAt0 m c t.val t.isLt).1 =
    k0_pay2 (iblk m c 0 t) (iblk m c 1 t) (V m c main_arg2) := by
  by_cases h0 : t.val % 32 = 0
  · rw [outsAt0_A m c t h0]
    frame_out
    simp only [View.readCov_eq_canon', canon_whole]
    exact congrArg (k0_pay2 _ _) (whole_apply _)
  · rw [outsAt0_B m c t h0]
    frame_out
    simp only [read_unread_whole, carried]

theorem after3 (c : Dev nD) (t : Fin cfg0.N) : (outsAt0 m c t.val t.isLt).2.1 =
    k0_pay1 (iblk m c 0 t) (iblk m c 1 t) := by
  by_cases h0 : t.val % 32 = 0
  · rw [outsAt0_A m c t h0]
    frame_out
  · rw [outsAt0_B m c t h0]
    frame_out
end body

/-- The blocks of the arrays that a point reads and writes. -/
theorem places : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

variable (x : S8192x1024.Idx → EReal) (g : S1x1024.Idx → EReal) (w : S1024x3200.Idx → EReal)

/-- The normalised input at row `i`, column `j`. -/
def nx (i : Fin 8192) (j : Fin 1024) : EReal :=
  x (ix2 i j) * Ideal.rsqrt (Ideal.div (∑ k : Fin 1024, x (ix2 i k) * x (ix2 i k)) (Ideal.ofBits .f32 1149239296#32)
    + Ideal.ofBits .f32 897988541#32) * g (ix2 0 j)

/-- The projection. -/
def proj : S8192x3200.Idx → EReal := fun i => ∑ k : Fin 1024, nx x g (i 0) k * w (ix2 k (i 1))

/-- The normalised input as an array. -/
def normed : S8192x1024.Idx → EReal := fun i => nx x g (i 0) (i 1)

variable (m : (ℓ : Loc nD τ sig) → Buf (Elt Ideal) ℓ)

theorem x_apply (c : Dev nD) (t : Fin cfg0.N) (r : Fin 256) (k : Fin 1024) (i : Fin 8192) (hi : i.val = t.val * 256 + r.val) :
    (iblk m c 0 t : S256x1024.Idx → EReal) (ix2 r k) = V m c main_arg0 (ix2 i k) := by
  obtain ⟨p0, p1, p2, p3⟩ := places t
  blk_ext [iblk, p0]

theorem g_apply (c : Dev nD) (t : Fin cfg0.N) (k : Fin 1024) :
    (iblk m c 1 t : S1x1024.Idx → EReal) (ix2 0 k) = V m c main_arg1 (ix2 0 k) := by
  obtain ⟨p0, p1, p2, p3⟩ := places t
  blk_ext [iblk, p1]

theorem value3 (c : Dev nD) (t : Fin cfg0.N) (r : Fin 256) (j : Fin 1024) (i : Fin 8192) (hi : i.val = t.val * 256 + r.val) :
    k0_pay1 (F := Ideal) (iblk m c 0 t) (iblk m c 1 t) (ix2 r j) = nx (V m c main_arg0) (V m c main_arg1) i j := by
  unfold nx
  pointwise [k0_pay1]
  simp only [x_apply m c t r _ i hi, g_apply m c t]

theorem value2 (c : Dev nD) (t : Fin cfg0.N) (r : Fin 256) (j : Fin 3200) (i : Fin 8192) (hi : i.val = t.val * 256 + r.val) :
    (outsAt0 m c t.val t.isLt).1 (ix2 r j) = proj (V m c main_arg0) (V m c main_arg1) (V m c main_arg2) (ix2 i j) := by
  rw [after2]
  unfold proj
  pointwise [k0_pay2]
  simp only [value3 m c t r _ i hi]

theorem final2 (c : Dev nD) : (dats m 0 c).arrAt 2 cfg0.N = proj (V m c main_arg0) (V m c main_arg1) (V m c main_arg2) := by
  refine (dats m 0 c).arrAt_eq_of_covers 2 _ (by decide +kernel) fun t hf y => ?_
  obtain ⟨p0, p1, p2, p3⟩ := places t
  rw [after0_2]
  have hN : cfg0.N = 32 := N_0
  have ht : t.val < cfg0.N := t.isLt
  obtain ⟨r, j, hy⟩ : ∃ (r : Fin 256) (j : Fin 3200), (cfg0.win 2).xinj (cfg0.grid.coords t) y = ix2 r j := ⟨_, _, eq_ix2 _⟩
  show (outsAt0 m c t.val t.isLt).1 ((cfg0.win 2).xinj (cfg0.grid.coords t) y) = _
  rw [hy, value2 m c t r j ⟨t.val * 256 + r.val, by omega⟩ rfl]
  have e0 : (y 0).val = r.val := congrArg (fun z : S256x3200.Idx => (z 0).val) hy
  have e1 : (y 1).val = j.val := congrArg (fun z : S256x3200.Idx => (z 1).val) hy
  refine congrArg _ ?_
  blk_ext [p2, e0, e1]

theorem final3 (c : Dev nD) : (dats m 0 c).arrAt 3 cfg0.N = normed (V m c main_arg0) (V m c main_arg1) := by
  refine (dats m 0 c).arrAt_eq_of_covers 3 _ (by decide +kernel) fun t hf y => ?_
  obtain ⟨p0, p1, p2, p3⟩ := places t
  rw [after0_3]
  have hN : cfg0.N = 32 := N_0
  have ht : t.val < cfg0.N := t.isLt
  obtain ⟨r, j, hy⟩ : ∃ (r : Fin 256) (j : Fin 1024), (cfg0.win 3).xinj (cfg0.grid.coords t) y = ix2 r j := ⟨_, _, eq_ix2 _⟩
  show (outsAt0 m c t.val t.isLt).2.1 ((cfg0.win 3).xinj (cfg0.grid.coords t) y) = _
  rw [hy, after3, value3 m c t r j ⟨t.val * 256 + r.val, by omega⟩ rfl]
  have e0 : (y 0).val = r.val := congrArg (fun z : S256x1024.Idx => (z 0).val) hy
  have e1 : (y 1).val = j.val := congrArg (fun z : S256x1024.Idx => (z 1).val) hy
  show normed _ _ (ix2 _ j) = _
  refine congrArg _ ?_
  blk_ext [p3, e0, e1]

end InprojIdeal.Value

theorem inproj_P : @quiescent_Inproj Inproj.Gen.facts := fun m g _ => Inproj.Gen.frame m g
theorem inproj_PI : @quiescent_InprojIdeal InprojIdeal.Gen.facts := fun m g _ => InprojIdeal.Gen.frame m g
theorem inproj_RI : @quiescent_InprojRefIdeal InprojRefIdeal.Gen.facts := fun m g _ =>
  (θ_run _ _ _).mono (fun r h => ⟨fun c => (h c).2.2, sem_eq_zero_of_no_sems rfl r.2⟩) (InprojRefIdeal.Value.run m g)
theorem inproj_algebraic : @algebraic_InprojIdeal_InprojRefIdeal InprojIdeal.Gen.facts InprojRefIdeal.Gen.facts := by
  intro m g m' g' _ hin
  refine ⟨_, _, InprojIdeal.Value.run_blocks m g, (θ_run _ _ _).mono (fun r h c => ?_) (InprojRefIdeal.Value.run m' g')⟩
  obtain ⟨h0, h1, h2⟩ := h c
  obtain ⟨e0, e1, e2⟩ := hin c
  refine ⟨h0.trans ?_, h1.trans ?_, h2⟩
  · clear h0 h1 h2
    rw [InprojIdeal.Value.final2 m c, e0, e1, e2]
    funext i
    clear e0 e1 e2
    pointwise [InprojIdeal.Value.proj, InprojIdeal.Value.nx]
  · clear h0 h1 h2
    rw [InprojIdeal.Value.final3 m c, e0, e1]
    funext i
    clear e0 e1 e2
    pointwise [InprojIdeal.Value.normed, InprojIdeal.Value.nx]

end Cert
-- ==== Proof.PostBlocks.lean ====
module

public import proofs.«01_k».proof.Defs
public import proofs.«01_k».proof.Proof.Gen.PostFused.Frame
public import proofs.«01_k».proof.Proof.Gen.PostFusedIdeal.Frame
public import Idealize.ShloMosaic.Lib.Pipeline.Value
public import proofs.«01_k».proof.Proof.Gen.PostFusedRefIdeal.Run
public import Idealize.ShloMosaic.Lib.Pipeline.ValueKit
public import Idealize.ShloMosaic.Lib.Pipeline.ReadBack
public import Idealize.ShloMosaic.Lib.Pointwise

/-! # The second half of the layer and its gradient: what a point leaves

One call does the output projection, the feed-forward, the loss and the way back to the gradient of the mixed heads,
256 rows at a time. The three weights are copied once into scratches; the loss and the two gains' gradients are
accumulated over the points. Here the blocks that a point computes are named one after another, and each result's buffer
after a point is one of them. -/

@[expose] public section
set_option maxRecDepth 16384
noncomputable section
namespace Cert
open Idealize.ShloMosaic Idealize.ShloMosaic.TcCoe Idealize.SL.Sem
open Idealize.ShloMosaic.Pipeline (Dat)
namespace PostFusedIdeal.Value
open Cert.PostFusedIdeal Cert.PostFusedIdeal.Gen

section body
variable {F : FTy → Type} [FloatOps F]
variable (m : (ℓ : Loc nD τ sig) → Buf (Elt F) ℓ)

/-- One store of a whole buffer leaves what was stored. -/
theorem canon_whole {s : Shape} {e : EltTy} (Z : s.Idx → Elt F e) (L : List (View.Piece (Elt F) s e)) :
    View.canon (⟨Rect.whole s, Z⟩ :: L) = Z :=
  View.canon_cons_unit_lit _ Z L (fun _ => rfl)

theorem left6 (r : PUnit × MemSt nD τ sig (Elt F)) (h : Pipeline.FramePost cfgs (dats m) 0 (V m) r) (c : Dev nD) :
    r.2.mem ((c : Thread nD τ).loc main_v0_0) = (dats m 0 c).arrAt 6 cfg0.N :=
  (h c).1 6

theorem left7 (r : PUnit × MemSt nD τ sig (Elt F)) (h : Pipeline.FramePost cfgs (dats m) 0 (V m) r) (c : Dev nD) :
    r.2.mem ((c : Thread nD τ).loc main_v0_1) = (dats m 0 c).arrAt 7 cfg0.N :=
  (h c).1 7

theorem left8 (r : PUnit × MemSt nD τ sig (Elt F)) (h : Pipeline.FramePost cfgs (dats m) 0 (V m) r) (c : Dev nD) :
    r.2.mem ((c : Thread nD τ).loc main_v0_2) = (dats m 0 c).arrAt 8 cfg0.N :=
  (h c).1 8

theorem left9 (r : PUnit × MemSt nD τ sig (Elt F)) (h : Pipeline.FramePost cfgs (dats m) 0 (V m) r) (c : Dev nD) :
    r.2.mem ((c : Thread nD τ).loc main_v0_3) = (dats m 0 c).arrAt 9 cfg0.N :=
  (h c).1 9

theorem left10 (r : PUnit × MemSt nD τ sig (Elt F)) (h : Pipeline.FramePost cfgs (dats m) 0 (V m) r) (c : Dev nD) :
    r.2.mem ((c : Thread nD τ).loc main_v0_4) = (dats m 0 c).arrAt 10 cfg0.N :=
  (h c).1 10

theorem left11 (r : PUnit × MemSt nD τ sig (Elt F)) (h : Pipeline.FramePost cfgs (dats m) 0 (V m) r) (c : Dev nD) :
    r.2.mem ((c : Thread nD τ).loc main_v0_5) = (dats m 0 c).arrAt 11 cfg0.N :=
  (h c).1 11

theorem left12 (r : PUnit × MemSt nD τ sig (Elt F)) (h : Pipeline.FramePost cfgs (dats m) 0 (V m) r) (c : Dev nD) :
    r.2.mem ((c : Thread nD τ).loc main_v0_6) = (dats m 0 c).arrAt 12 cfg0.N :=
  (h c).1 12

theorem left13 (r : PUnit × MemSt nD τ sig (Elt F)) (h : Pipeline.FramePost cfgs (dats m) 0 (V m) r) (c : Dev nD) :
    r.2.mem ((c : Thread nD τ).loc main_v0_7) = (dats m 0 c).arrAt 13 cfg0.N :=
  (h c).1 13

theorem left14 (r : PUnit × MemSt nD τ sig (Elt F)) (h : Pipeline.FramePost cfgs (dats m) 0 (V m) r) (c : Dev nD) :
    r.2.mem ((c : Thread nD τ).loc main_v0_8) = (dats m 0 c).arrAt 14 cfg0.N :=
  (h c).1 14

theorem left15 (r : PUnit × MemSt nD τ sig (Elt F)) (h : Pipeline.FramePost cfgs (dats m) 0 (V m) r) (c : Dev nD) :
    r.2.mem ((c : Thread nD τ).loc main_v0_9) = (dats m 0 c).arrAt 15 cfg0.N :=
  (h c).1 15

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- The run leaves each result as its window's array after the last point, and the arguments as they were. -/
theorem run_blocks (ρ : Dev nD → PrngReg) : θ_run defs (onTc (τ := τ) (main (F := F))) ⟨m, fun _ => 0, ρ⟩ fun r => ∀ c : Dev nD,
      r.2.mem ((c : Thread nD τ).loc main_v0_0) = (dats m 0 c).arrAt 6 cfg0.N
      ∧ r.2.mem ((c : Thread nD τ).loc main_v0_1) = (dats m 0 c).arrAt 7 cfg0.N
      ∧ r.2.mem ((c : Thread nD τ).loc main_v0_2) = (dats m 0 c).arrAt 8 cfg0.N
      ∧ r.2.mem ((c : Thread nD τ).loc main_v0_3) = (dats m 0 c).arrAt 9 cfg0.N
      ∧ r.2.mem ((c : Thread nD τ).loc main_v0_4) = (dats m 0 c).arrAt 10 cfg0.N
      ∧ r.2.mem ((c : Thread nD τ).loc main_v0_5) = (dats m 0 c).arrAt 11 cfg0.N
      ∧ r.2.mem ((c : Thread nD τ).loc main_v0_6) = (dats m 0 c).arrAt 12 cfg0.N
      ∧ r.2.mem ((c : Thread nD τ).loc main_v0_7) = (dats m 0 c).arrAt 13 cfg0.N
      ∧ r.2.mem ((c : Thread nD τ).loc main_v0_8) = (dats m 0 c).arrAt 14 cfg0.N
      ∧ r.2.mem ((c : Thread nD τ).loc main_v0_9) = (dats m 0 c).arrAt 15 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨left6 m r h c,
      left7 m r h c,
      left8 m r h c,
      left9 m r h c,
      left10 m r h c,
      left11 m r h c,
      left12 m r h c,
      left13 m r h c,
      left14 m r h c,
      left15 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c⟩)
    (run_main m ρ)

/-- The scratch holds the weights after every point. -/
theorem carried_out (c : Dev nD) : ∀ (n : ℕ) (h : n < cfg0.N), (outsAt0 m c n h).2.2.2.2.2.2.2.2.2.2.1 = V m c main_arg6 := by
  intro n
  induction n with
  | zero =>
    intro h
    rw [outsAt0_A m c ⟨0, h⟩ rfl]
    frame_out
    exact canon_whole _ _
  | succ n ih =>
    intro h
    by_cases h0 : (n + 1) % 32 = 0
    · rw [outsAt0_A m c ⟨n + 1, h⟩ h0]
      frame_out
      exact canon_whole _ _
    · rw [outsAt0_B m c ⟨n + 1, h⟩ h0]
      dsimp only
      delta sout0_B_0
      exact ih _

/-- The scratch holds the weights after every point. -/
theorem carried_up (c : Dev nD) : ∀ (n : ℕ) (h : n < cfg0.N), (outsAt0 m c n h).2.2.2.2.2.2.2.2.2.2.2.1 = V m c main_arg7 := by
  intro n
  induction n with
  | zero =>
    intro h
    rw [outsAt0_A m c ⟨0, h⟩ rfl]
    frame_out
    exact canon_whole _ _
  | succ n ih =>
    intro h
    by_cases h0 : (n + 1) % 32 = 0
    · rw [outsAt0_A m c ⟨n + 1, h⟩ h0]
      frame_out
      exact canon_whole _ _
    · rw [outsAt0_B m c ⟨n + 1, h⟩ h0]
      dsimp only
      delta sout0_B_1
      exact ih _

/-- The scratch holds the weights after every point. -/
theorem carried_down (c : Dev nD) : ∀ (n : ℕ) (h : n < cfg0.N), (outsAt0 m c n h).2.2.2.2.2.2.2.2.2.2.2.2 = V m c main_arg8 := by
  intro n
  induction n with
  | zero =>
    intro h
    rw [outsAt0_A m c ⟨0, h⟩ rfl]
    frame_out
    exact canon_whole _ _
  | succ n ih =>
    intro h
    by_cases h0 : (n + 1) % 32 = 0
    · rw [outsAt0_A m c ⟨n + 1, h⟩ h0]
      frame_out
      exact canon_whole _ _
    · rw [outsAt0_B m c ⟨n + 1, h⟩ h0]
      dsimp only
      delta sout0_B_2
      exact ih _

/-- Reading the whole output projection reads the output projection. -/
theorem whole_out {α : Type} (f : S1024x1024.Idx → α) :
    (fun j => f ((Rect.unit (s := S1024x1024) ![0, 0] ![1024, 1024] inb_S1024x1024_S1024x1024_0_0).idx j)) = f := by
  funext j
  refine congrArg f (funext fun a => Fin.ext ?_)
  match a with
  | ⟨0, _⟩ => show 0 + 1 * (j 0).val = (j 0).val; omega
  | ⟨1, _⟩ => show 0 + 1 * (j 1).val = (j 1).val; omega

theorem read_out (c : Dev nD) : (fun j => ReadAs.same.apply (View.read (Elt F) (View.whole main_arg6) (V m c main_arg6))
    ((Rect.unit (s := S1024x1024) ![0, 0] ![1024, 1024] inb_S1024x1024_S1024x1024_0_0).idx j)) = V m c main_arg6 :=
  whole_out _

/-- Block 0 of the upward weights. -/
def up0 (c : Dev nD) : Vec F S1x1024x1024 .bf16 :=
  View.ld (V m c main_arg7) (Rect.unit ![0, 0, 0] ![1, 1024, 1024] inb_S4x1024x1024_S1x1024x1024_0_0_0)

/-- Block 1 of the upward weights. -/
def up1 (c : Dev nD) : Vec F S1x1024x1024 .bf16 :=
  View.ld (V m c main_arg7) (Rect.unit ![1, 0, 0] ![1, 1024, 1024] inb_S4x1024x1024_S1x1024x1024_1_0_0)

/-- Block 2 of the upward weights. -/
def up2 (c : Dev nD) : Vec F S1x1024x1024 .bf16 :=
  View.ld (V m c main_arg7) (Rect.unit ![2, 0, 0] ![1, 1024, 1024] inb_S4x1024x1024_S1x1024x1024_2_0_0)

/-- Block 3 of the upward weights. -/
def up3 (c : Dev nD) : Vec F S1x1024x1024 .bf16 :=
  View.ld (V m c main_arg7) (Rect.unit ![3, 0, 0] ![1, 1024, 1024] inb_S4x1024x1024_S1x1024x1024_3_0_0)

/-- Block 0 of the downward weights. -/
def down0 (c : Dev nD) : Vec F S1024x1024 .bf16 :=
  View.ld (V m c main_arg8) (Rect.unit ![0, 0] ![1024, 1024] inb_S4096x1024_S1024x1024_0_0)

/-- Block 1 of the downward weights. -/
def down1 (c : Dev nD) : Vec F S1024x1024 .bf16 :=
  View.ld (V m c main_arg8) (Rect.unit ![1024, 0] ![1024, 1024] inb_S4096x1024_S1024x1024_1024_0)

/-- Block 2 of the downward weights. -/
def down2 (c : Dev nD) : Vec F S1024x1024 .bf16 :=
  View.ld (V m c main_arg8) (Rect.unit ![2048, 0] ![1024, 1024] inb_S4096x1024_S1024x1024_2048_0)

/-- Block 3 of the downward weights. -/
def down3 (c : Dev nD) : Vec F S1024x1024 .bf16 :=
  View.ld (V m c main_arg8) (Rect.unit ![3072, 0] ![1024, 1024] inb_S4096x1024_S1024x1024_3072_0)

/-- The mixed heads. -/
def mixedB (c : Dev nD) (t : Fin cfg0.N) : FVec F S256x1024 .bf16 :=
  k0_pay8 (iblk m c 1 t) (iblk m c 2 t)

/-- The residual after the mixer. -/
def h1B (c : Dev nD) (t : Fin cfg0.N) : FVec F S256x1024 .f32 :=
  k0_pay9 (iblk m c 1 t) (iblk m c 2 t) (iblk m c 0 t) (V m c main_arg6)

/-- Its reciprocal root mean square. -/
def rs1B (c : Dev nD) (t : Fin cfg0.N) : FVec F S256x1 .f32 :=
  k0_pay10 (iblk m c 1 t) (iblk m c 2 t) (iblk m c 0 t) (V m c main_arg6)

/-- The normalised rows. -/
def hn1B (c : Dev nD) (t : Fin cfg0.N) : FVec F S256x1024 .f32 :=
  k0_pay11 (iblk m c 1 t) (iblk m c 2 t) (iblk m c 0 t) (V m c main_arg6)

/-- The normalised rows with the gain. -/
def nmB (c : Dev nD) (t : Fin cfg0.N) : FVec F S256x1024 .bf16 :=
  k0_pay12 (iblk m c 1 t) (iblk m c 2 t) (iblk m c 0 t) (V m c main_arg6) (iblk m c 4 t)

/-- The first block before the activation. -/
def pre0B (c : Dev nD) (t : Fin cfg0.N) : FVec F S256x1024 .f32 :=
  k0_pay14 (iblk m c 1 t) (iblk m c 2 t) (iblk m c 0 t) (V m c main_arg6) (iblk m c 4 t) (up0 m c)

/-- The rectified first block. -/
def r0B (c : Dev nD) (t : Fin cfg0.N) : FVec F S256x1024 .f32 :=
  k0_pay15 (pre0B m c t)

/-- The activation, first block. -/
def a0B (c : Dev nD) (t : Fin cfg0.N) : FVec F S256x1024 .bf16 :=
  k0_pay16 (pre0B m c t)

/-- The rectified second block. -/
def r1B (c : Dev nD) (t : Fin cfg0.N) : FVec F S256x1024 .f32 :=
  k0_pay17 (nmB m c t) (up1 m c)

/-- The activation, second block. -/
def a1B (c : Dev nD) (t : Fin cfg0.N) : FVec F S256x1024 .bf16 :=
  k0_pay18 (nmB m c t) (up1 m c)

/-- The rectified third block. -/
def r2B (c : Dev nD) (t : Fin cfg0.N) : FVec F S256x1024 .f32 :=
  k0_pay19 (nmB m c t) (up2 m c)

/-- The activation, third block. -/
def a2B (c : Dev nD) (t : Fin cfg0.N) : FVec F S256x1024 .bf16 :=
  k0_pay20 (nmB m c t) (up2 m c)

/-- The feed-forward of three blocks. -/
def mlpB (c : Dev nD) (t : Fin cfg0.N) : FVec F S256x1024 .f32 :=
  k0_pay21 (nmB m c t) k0_pay13 (pre0B m c t) (down0 m c) (up1 m c) (down1 m c) (up2 m c) (down2 m c)

/-- The rectified fourth block. -/
def r3B (c : Dev nD) (t : Fin cfg0.N) : FVec F S256x1024 .f32 :=
  k0_pay22 (nmB m c t) (up3 m c)

/-- The activation, fourth block. -/
def a3B (c : Dev nD) (t : Fin cfg0.N) : FVec F S256x1024 .bf16 :=
  k0_pay23 (nmB m c t) (up3 m c)

/-- The layer's output. -/
def h2B (c : Dev nD) (t : Fin cfg0.N) : FVec F S256x1024 .f32 :=
  k0_pay24 (h1B m c t) (nmB m c t) (mlpB m c t) (up3 m c) (down3 m c)

/-- Its reciprocal root mean square. -/
def rsfB (c : Dev nD) (t : Fin cfg0.N) : FVec F S256x1 .f32 :=
  k0_pay25 (h1B m c t) (nmB m c t) (mlpB m c t) (up3 m c) (down3 m c)

/-- The output normalised. -/
def hnfB (c : Dev nD) (t : Fin cfg0.N) : FVec F S256x1024 .f32 :=
  k0_pay26 (h1B m c t) (nmB m c t) (mlpB m c t) (up3 m c) (down3 m c)

/-- The difference to the target. -/
def diffB (c : Dev nD) (t : Fin cfg0.N) : FVec F S256x1024 .f32 :=
  k0_pay27 (h1B m c t) (nmB m c t) (mlpB m c t) (up3 m c) (down3 m c) (iblk m c 5 t) (iblk m c 3 t)

/-- The rows' mean squares added up. -/
def lossB (c : Dev nD) (t : Fin cfg0.N) : FVec F S1x1 .f32 :=
  k0_pay29 (h1B m c t) (nmB m c t) (mlpB m c t) (up3 m c) (down3 m c) (iblk m c 5 t) (iblk m c 3 t)

/-- The gradient of the layer's output. -/
def dh2B (c : Dev nD) (t : Fin cfg0.N) : FVec F S256x1024 .f32 :=
  k0_pay34 (rsfB m c t) (hnfB m c t) (iblk m c 5 t) (diffB m c t)

/-- The same, rounded. -/
def dh2bB (c : Dev nD) (t : Fin cfg0.N) : FVec F S256x1024 .bf16 :=
  k0_pay35 (rsfB m c t) (hnfB m c t) (iblk m c 5 t) (diffB m c t)

/-- The gradient before the activation, first block. -/
def dpre0B (c : Dev nD) (t : Fin cfg0.N) : FVec F S256x1024 .bf16 :=
  k0_pay37 (r0B m c t) (rsfB m c t) (hnfB m c t) (iblk m c 5 t) (diffB m c t) (down0 m c)

/-- The second block. -/
def dpre1B (c : Dev nD) (t : Fin cfg0.N) : FVec F S256x1024 .bf16 :=
  k0_pay38 (r1B m c t) (dh2bB m c t) (down1 m c)

/-- The third block. -/
def dpre2B (c : Dev nD) (t : Fin cfg0.N) : FVec F S256x1024 .bf16 :=
  k0_pay39 (r2B m c t) (dh2bB m c t) (down2 m c)

/-- The gradient of the normalised rows, of three blocks. -/
def dnm3B (c : Dev nD) (t : Fin cfg0.N) : FVec F S256x1024 .f32 :=
  k0_pay40 (r1B m c t) (r2B m c t) (dh2bB m c t) k0_pay36 (dpre0B m c t) (up0 m c) (down1 m c) (up1 m c) (down2 m c) (up2 m c)

/-- The fourth block. -/
def dpre3B (c : Dev nD) (t : Fin cfg0.N) : FVec F S256x1024 .bf16 :=
  k0_pay41 (r3B m c t) (dh2bB m c t) (down3 m c)

/-- The gradient of the normalised rows. -/
def dnmB (c : Dev nD) (t : Fin cfg0.N) : FVec F S256x1024 .f32 :=
  k0_pay1 (dnm3B m c t) (dpre3B m c t) (up3 m c)

/-- The gradient of the residual after the mixer. -/
def dh1B (c : Dev nD) (t : Fin cfg0.N) : FVec F S256x1024 .f32 :=
  k0_pay3 (rs1B m c t) (hn1B m c t) (iblk m c 4 t) (dh2B m c t) (dnm3B m c t) (dpre3B m c t) (up3 m c)

/-- The gradient of the mixed heads. -/
def dmixedB (c : Dev nD) (t : Fin cfg0.N) : FVec F S256x1024 .f32 :=
  k0_pay4 (rs1B m c t) (hn1B m c t) (iblk m c 4 t) (dh2B m c t) (dnm3B m c t) (dpre3B m c t) (up3 m c) (V m c main_arg6)

theorem after6 (c : Dev nD) (t : Fin cfg0.N) : (outsAt0 m c t.val t.isLt).1 = mixedB m c t := by
  by_cases h0 : t.val % 32 = 0
  · rw [outsAt0_A m c t h0]
    frame_out
    try simp only [View.readCov_eq_canon', canon_whole, read_out]
    try rfl
  · rw [outsAt0_B m c t h0]
    frame_out
    try simp only [read_unread_whole, carried_out, carried_up, carried_down]
    try rfl

theorem after7 (c : Dev nD) (t : Fin cfg0.N) : (outsAt0 m c t.val t.isLt).2.1 = nmB m c t := by
  by_cases h0 : t.val % 32 = 0
  · rw [outsAt0_A m c t h0]
    frame_out
    try simp only [View.readCov_eq_canon', canon_whole, read_out]
    try rfl
  · rw [outsAt0_B m c t h0]
    frame_out
    try simp only [read_unread_whole, carried_out, carried_up, carried_down]
    try rfl

theorem after10 (c : Dev nD) (t : Fin cfg0.N) : (outsAt0 m c t.val t.isLt).2.2.2.2.1 = dh2bB m c t := by
  by_cases h0 : t.val % 32 = 0
  · rw [outsAt0_A m c t h0]
    frame_out
    try simp only [View.readCov_eq_canon', canon_whole, read_out]
    try rfl
  · rw [outsAt0_B m c t h0]
    frame_out
    try simp only [read_unread_whole, carried_out, carried_up, carried_down]
    try rfl

theorem after11 (c : Dev nD) (t : Fin cfg0.N) : (outsAt0 m c t.val t.isLt).2.2.2.2.2.1 = dh1B m c t := by
  by_cases h0 : t.val % 32 = 0
  · rw [outsAt0_A m c t h0]
    frame_out
    try simp only [View.readCov_eq_canon', canon_whole, read_out]
    try rfl
  · rw [outsAt0_B m c t h0]
    frame_out
    try simp only [read_unread_whole, carried_out, carried_up, carried_down]
    try rfl

theorem after12 (c : Dev nD) (t : Fin cfg0.N) : (outsAt0 m c t.val t.isLt).2.2.2.2.2.2.1 = dmixedB m c t := by
  by_cases h0 : t.val % 32 = 0
  · rw [outsAt0_A m c t h0]
    frame_out
    try simp only [View.readCov_eq_canon', canon_whole, read_out]
    try rfl
  · rw [outsAt0_B m c t h0]
    frame_out
    try simp only [read_unread_whole, carried_out, carried_up, carried_down]
    try rfl

theorem first13 (c : Dev nD) (t : Fin cfg0.N) (h0 : t.val % 32 = 0) : (outsAt0 m c t.val t.isLt).2.2.2.2.2.2.2.1 = k0_pay31 (k0_pay28 k0_pay5) (lossB m c t) k0_pay30 := by
  rw [outsAt0_A m c t h0]
  frame_out
  simp only [View.readCov_eq_canon', canon_whole, read_out]
  rfl

theorem next13 (c : Dev nD) (t : Fin cfg0.N) (h0 : ¬ t.val % 32 = 0) : (outsAt0 m c t.val t.isLt).2.2.2.2.2.2.2.1 =
    k0_pay31 (k0_pay28 (outsAt0 m c (t.val - 1) (Nat.lt_of_le_of_lt (Nat.sub_le _ _) t.isLt)).2.2.2.2.2.2.2.1) (lossB m c t) k0_pay30 := by
  rw [outsAt0_B m c t h0]
  frame_out
  simp only [read_unread_whole, carried_out, carried_up, carried_down]
  rfl

theorem first14 (c : Dev nD) (t : Fin cfg0.N) (h0 : t.val % 32 = 0) : (outsAt0 m c t.val t.isLt).2.2.2.2.2.2.2.2.1 = k0_pay33 (hnfB m c t) (diffB m c t) k0_pay6 := by
  rw [outsAt0_A m c t h0]
  frame_out
  simp only [View.readCov_eq_canon', canon_whole, read_out]
  rfl

theorem next14 (c : Dev nD) (t : Fin cfg0.N) (h0 : ¬ t.val % 32 = 0) : (outsAt0 m c t.val t.isLt).2.2.2.2.2.2.2.2.1 =
    k0_pay33 (hnfB m c t) (diffB m c t) (outsAt0 m c (t.val - 1) (Nat.lt_of_le_of_lt (Nat.sub_le _ _) t.isLt)).2.2.2.2.2.2.2.2.1 := by
  rw [outsAt0_B m c t h0]
  frame_out
  simp only [read_unread_whole, carried_out, carried_up, carried_down]
  rfl

theorem first15 (c : Dev nD) (t : Fin cfg0.N) (h0 : t.val % 32 = 0) : (outsAt0 m c t.val t.isLt).2.2.2.2.2.2.2.2.2.1 = k0_pay2 (hn1B m c t) (dnm3B m c t) (dpre3B m c t) (up3 m c) k0_pay7 := by
  rw [outsAt0_A m c t h0]
  frame_out
  simp only [View.readCov_eq_canon', canon_whole, read_out]
  rfl

theorem next15 (c : Dev nD) (t : Fin cfg0.N) (h0 : ¬ t.val % 32 = 0) : (outsAt0 m c t.val t.isLt).2.2.2.2.2.2.2.2.2.1 =
    k0_pay2 (hn1B m c t) (dnm3B m c t) (dpre3B m c t) (up3 m c) (outsAt0 m c (t.val - 1) (Nat.lt_of_le_of_lt (Nat.sub_le _ _) t.isLt)).2.2.2.2.2.2.2.2.2.1 := by
  rw [outsAt0_B m c t h0]
  frame_out
  simp only [read_unread_whole, carried_out, carried_up, carried_down]
  rfl

/-- The four column blocks stored into a result of 4096 columns. -/
theorem after8 (c : Dev nD) (t : Fin cfg0.N) : (outsAt0 m c t.val t.isLt).2.2.1 = View.canon [
    ⟨Rect.unit ![0, 3072] ![256, 1024] inb_S256x4096_S256x1024_0_3072, a3B m c t⟩,
    ⟨Rect.unit ![0, 2048] ![256, 1024] inb_S256x4096_S256x1024_0_2048, a2B m c t⟩,
    ⟨Rect.unit ![0, 1024] ![256, 1024] inb_S256x4096_S256x1024_0_1024, a1B m c t⟩,
    ⟨Rect.unit ![0, 0] ![256, 1024] inb_S256x4096_S256x1024_0_0, a0B m c t⟩] := by
  by_cases h0 : t.val % 32 = 0
  · rw [outsAt0_A m c t h0]
    frame_out
    simp only [View.readCov_eq_canon', canon_whole, read_out]
    rfl
  · rw [outsAt0_B m c t h0]
    frame_out
    simp only [read_unread_whole, carried_out, carried_up, carried_down]
    rfl

/-- The four column blocks stored into a result of 4096 columns. -/
theorem after9 (c : Dev nD) (t : Fin cfg0.N) : (outsAt0 m c t.val t.isLt).2.2.2.1 = View.canon [
    ⟨Rect.unit ![0, 3072] ![256, 1024] inb_S256x4096_S256x1024_0_3072, dpre3B m c t⟩,
    ⟨Rect.unit ![0, 2048] ![256, 1024] inb_S256x4096_S256x1024_0_2048, dpre2B m c t⟩,
    ⟨Rect.unit ![0, 1024] ![256, 1024] inb_S256x4096_S256x1024_0_1024, dpre1B m c t⟩,
    ⟨Rect.unit ![0, 0] ![256, 1024] inb_S256x4096_S256x1024_0_0, dpre0B m c t⟩] := by
  by_cases h0 : t.val % 32 = 0
  · rw [outsAt0_A m c t h0]
    frame_out
    simp only [View.readCov_eq_canon', canon_whole, read_out]
    rfl
  · rw [outsAt0_B m c t h0]
    frame_out
    simp only [read_unread_whole, carried_out, carried_up, carried_down]
    rfl

end body

end PostFusedIdeal.Value

end Cert
-- ==== Proof.PostRows.lean ====
module

public import proofs.«01_k».proof.Proof.PostBlocks

/-! # The second half of the layer and its gradient: what a point computes, row by row

Each block of `PostBlocks`, read at a row and a column, is the quantity of that name of the whole arrays at that row of
the batch. The quantities are written once, as functions of the nine arguments; the reference's results are the same
functions. -/

@[expose] public section
set_option maxRecDepth 16384
noncomputable section
namespace Cert
open Idealize.ShloMosaic Idealize.ShloMosaic.TcCoe Idealize.SL.Sem
open Idealize.ShloMosaic.Pipeline (Dat)
open scoped BigOperators
namespace PostFusedIdeal.Value
open Cert.PostFusedIdeal Cert.PostFusedIdeal.Gen

/-- The nine arguments, as functions into the extended reals. -/
structure Args where
  x : S8192x1024.Idx → EReal
  oa : S8192x512.Idx → EReal
  ob : S8192x512.Idx → EReal
  tgt : S8192x1024.Idx → EReal
  g2 : S1x1024.Idx → EReal
  gf : S1x1024.Idx → EReal
  wo : S1024x1024.Idx → EReal
  w1 : S4x1024x1024.Idx → EReal
  w2 : S4096x1024.Idx → EReal

/-! ## The results, row by row -/

section rows
variable (p : Args)

/-- 1024, as the programs write it. -/
abbrev width : EReal := Ideal.ofBits .f32 1149239296#32

def mixed (i : Fin 8192) (j : Fin 1024) : EReal :=
  if h : j.val < 512 then p.oa (ix2 i ⟨j.val, h⟩) else p.ob (ix2 i ⟨j.val - 512, by omega⟩)
def h1 (i : Fin 8192) (j : Fin 1024) : EReal := p.x (ix2 i j) + ∑ k : Fin 1024, mixed p i k * p.wo (ix2 k j)
def rs1 (i : Fin 8192) : EReal :=
  Ideal.rsqrt (Ideal.div (∑ k : Fin 1024, h1 p i k * h1 p i k) width + Ideal.ofBits .f32 897988541#32)
def hn1 (i : Fin 8192) (j : Fin 1024) : EReal := h1 p i j * rs1 p i
def nm (i : Fin 8192) (j : Fin 1024) : EReal := hn1 p i j * p.g2 (ix2 0 j)
/-- The upward weights at row `d`, column `f` of the four blocks side by side. -/
def w1at (d : Fin 1024) (f : Fin 4096) : EReal := p.w1 (ix3 ⟨f.val / 1024, by omega⟩ d ⟨f.val % 1024, by omega⟩)
def rect (i : Fin 8192) (f : Fin 4096) : EReal := max (∑ k : Fin 1024, nm p i k * w1at p k f) 0
def act (i : Fin 8192) (f : Fin 4096) : EReal := rect p i f * rect p i f
def h2 (i : Fin 8192) (j : Fin 1024) : EReal := h1 p i j + ∑ f : Fin 4096, act p i f * p.w2 (ix2 f j)
def rsf (i : Fin 8192) : EReal :=
  Ideal.rsqrt (Ideal.div (∑ k : Fin 1024, h2 p i k * h2 p i k) width + Ideal.ofBits .f32 897988541#32)
def hnf (i : Fin 8192) (j : Fin 1024) : EReal := h2 p i j * rsf p i
def diff (i : Fin 8192) (j : Fin 1024) : EReal := hnf p i j * p.gf (ix2 0 j) - p.tgt (ix2 i j)
def loss : EReal := Ideal.ofBits .f32 1056964608#32 * ∑ i : Fin 8192, Ideal.div (∑ k : Fin 1024, diff p i k * diff p i k) width
def dy (i : Fin 8192) (j : Fin 1024) : EReal := Ideal.div (diff p i j) width
def dgf (j : Fin 1024) : EReal := ∑ i : Fin 8192, dy p i j * hnf p i j
def dh2 (i : Fin 8192) (j : Fin 1024) : EReal := rsf p i * (dy p i j * p.gf (ix2 0 j)
  - hnf p i j * Ideal.div (∑ k : Fin 1024, dy p i k * p.gf (ix2 0 k) * hnf p i k) width)
def dpre (i : Fin 8192) (f : Fin 4096) : EReal :=
  (∑ d : Fin 1024, dh2 p i d * p.w2 (ix2 f d)) * (Ideal.ofBits .f32 1073741824#32 * rect p i f)
def dnm (i : Fin 8192) (j : Fin 1024) : EReal := ∑ f : Fin 4096, dpre p i f * w1at p j f
def dg2 (j : Fin 1024) : EReal := ∑ i : Fin 8192, dnm p i j * hn1 p i j
def dh1 (i : Fin 8192) (j : Fin 1024) : EReal := dh2 p i j + rs1 p i * (dnm p i j * p.g2 (ix2 0 j)
  - hn1 p i j * Ideal.div (∑ k : Fin 1024, dnm p i k * p.g2 (ix2 0 k) * hn1 p i k) width)
def dmixed (i : Fin 8192) (j : Fin 1024) : EReal := ∑ d : Fin 1024, dh1 p i d * p.wo (ix2 j d)
end rows

/-! ## Constants and sums -/

theorem width_eq : width = ((1024 : ℝ) : EReal) := by
  simp [width, Ideal.ofBits, Ideal.ieee, -EReal.coe_mul]; norm_num
theorem inv_eq : Ideal.ofBits .f32 981467136#32 = ((1 / 1024 : ℝ) : EReal) := by
  simp [Ideal.ofBits, Ideal.ieee, -EReal.coe_mul]; norm_num
theorem half_eq : Ideal.ofBits .f32 1056964608#32 = ((1 / 2 : ℝ) : EReal) := by
  simp [Ideal.ofBits, Ideal.ieee, -EReal.coe_mul]; norm_num

/-- Multiplying by the reciprocal of 1024 is dividing by 1024. -/
theorem mul_inv (a : EReal) : a * Ideal.ofBits .f32 981467136#32 = Ideal.div a width := by
  rw [width_eq, inv_eq, Ideal.div_coe (by norm_num : (1024 : ℝ) ≠ 0)]

theorem half_add (a b : EReal) : Ideal.ofBits .f32 1056964608#32 * (a + b)
    = Ideal.ofBits .f32 1056964608#32 * a + Ideal.ofBits .f32 1056964608#32 * b := by
  rw [half_eq]
  exact EReal.left_distrib_of_nonneg_of_ne_top (by exact_mod_cast (by norm_num : (0:ℝ) ≤ 1 / 2)) (EReal.coe_ne_top _) a b

theorem half_sum {n : ℕ} (f : Fin n → EReal) : Ideal.ofBits .f32 1056964608#32 * ∑ i, f i
    = ∑ i, Ideal.ofBits .f32 1056964608#32 * f i := by
  induction n with
  | zero => simp
  | succ n ih => rw [Fin.sum_univ_succ, Fin.sum_univ_succ, half_add, ih]

/-- Column `k` of block 0. -/
def col0 (k : Fin 1024) : Fin 4096 := ⟨0 + k.val, by omega⟩
/-- Column `k` of block 1. -/
def col1 (k : Fin 1024) : Fin 4096 := ⟨1024 + k.val, by omega⟩
/-- Column `k` of block 2. -/
def col2 (k : Fin 1024) : Fin 4096 := ⟨2048 + k.val, by omega⟩
/-- Column `k` of block 3. -/
def col3 (k : Fin 1024) : Fin 4096 := ⟨3072 + k.val, by omega⟩

/-- A sum over the columns of the feed-forward, by its four blocks. -/
theorem quarters (f : Fin 4096 → EReal) : ∑ k : Fin 4096, f k = ∑ k : Fin 1024, f (col0 k) + ∑ k : Fin 1024, f (col1 k)
    + ∑ k : Fin 1024, f (col2 k) + ∑ k : Fin 1024, f (col3 k) := by
  rw [show (∑ k : Fin 4096, f k) = ∑ k : Fin (1024 + 1024 + 1024 + 1024), f k from rfl, Fin.sum_univ_add, Fin.sum_univ_add, Fin.sum_univ_add]
  refine congrArg₂ (· + ·) (congrArg₂ (· + ·) (congrArg₂ (· + ·) ?_ ?_) ?_) ?_
  all_goals exact Finset.sum_congr rfl fun k _ => congrArg f (Fin.ext (by simp [col0, col1, col2, col3, Fin.val_natAdd] <;> omega))

/-- The blocks of the arrays that a point reads and writes. -/
theorem places : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] :=
  (by decide +kernel : ∀ t : Fin grid0.N, _)

/-! ## What a point computes, row by row -/

section point
variable (m : (ℓ : Loc nD τ sig) → Buf (Elt Ideal) ℓ)

/-- The arguments as the run finds them. -/
def ins (c : Dev nD) : Args :=
  ⟨V m c main_arg0, V m c main_arg1, V m c main_arg2, V m c main_arg3, V m c main_arg4, V m c main_arg5, V m c main_arg6, V m c main_arg7, V m c main_arg8⟩

theorem x_apply (c : Dev nD) (t : Fin cfg0.N) (r : Fin 256) (k : Fin 1024) (i : Fin 8192) (hi : i.val = t.val * 256 + r.val) :
    (iblk m c 0 t : S256x1024.Idx → EReal) (ix2 r k) = (ins m c).x (ix2 i k) := by
  obtain ⟨p0, p1, p2, p3, p4, p5⟩ := places t
  show _ = V m c main_arg0 (ix2 i k)
  blk_ext [iblk, p0]

theorem oa_apply (c : Dev nD) (t : Fin cfg0.N) (r : Fin 256) (k : Fin 512) (i : Fin 8192) (hi : i.val = t.val * 256 + r.val) :
    (iblk m c 1 t : S256x512.Idx → EReal) (ix2 r k) = (ins m c).oa (ix2 i k) := by
  obtain ⟨p0, p1, p2, p3, p4, p5⟩ := places t
  show _ = V m c main_arg1 (ix2 i k)
  blk_ext [iblk, p1]

theorem ob_apply (c : Dev nD) (t : Fin cfg0.N) (r : Fin 256) (k : Fin 512) (i : Fin 8192) (hi : i.val = t.val * 256 + r.val) :
    (iblk m c 2 t : S256x512.Idx → EReal) (ix2 r k) = (ins m c).ob (ix2 i k) := by
  obtain ⟨p0, p1, p2, p3, p4, p5⟩ := places t
  show _ = V m c main_arg2 (ix2 i k)
  blk_ext [iblk, p2]

theorem tgt_apply (c : Dev nD) (t : Fin cfg0.N) (r : Fin 256) (k : Fin 1024) (i : Fin 8192) (hi : i.val = t.val * 256 + r.val) :
    (iblk m c 3 t : S256x1024.Idx → EReal) (ix2 r k) = (ins m c).tgt (ix2 i k) := by
  obtain ⟨p0, p1, p2, p3, p4, p5⟩ := places t
  show _ = V m c main_arg3 (ix2 i k)
  blk_ext [iblk, p3]

theorem g2_apply (c : Dev nD) (t : Fin cfg0.N) (k : Fin 1024) :
    (iblk m c 4 t : S1x1024.Idx → EReal) (ix2 0 k) = (ins m c).g2 (ix2 0 k) := by
  obtain ⟨p0, p1, p2, p3, p4, p5⟩ := places t
  show _ = V m c main_arg4 (ix2 0 k)
  blk_ext [iblk, p4]

theorem gf_apply (c : Dev nD) (t : Fin cfg0.N) (k : Fin 1024) :
    (iblk m c 5 t : S1x1024.Idx → EReal) (ix2 0 k) = (ins m c).gf (ix2 0 k) := by
  obtain ⟨p0, p1, p2, p3, p4, p5⟩ := places t
  show _ = V m c main_arg5 (ix2 0 k)
  blk_ext [iblk, p5]

theorem up0_apply (c : Dev nD) (d k : Fin 1024) : (up0 m c : S1x1024x1024.Idx → EReal) (ix3 0 d k) = w1at (ins m c) d (col0 k) := by
  show V m c main_arg7 ((Rect.unit (s := S4x1024x1024) ![0, 0, 0] ![1, 1024, 1024] inb_S4x1024x1024_S1x1024x1024_0_0_0).idx (ix3 0 d k)) = V m c main_arg7 _
  refine congrArg _ (funext fun a => Fin.ext ?_)
  match a with
  | ⟨0, _⟩ => show 0 + 1 * 0 = (0 + k.val) / 1024; omega
  | ⟨1, _⟩ => show 0 + 1 * d.val = d.val; omega
  | ⟨2, _⟩ => show 0 + 1 * k.val = (0 + k.val) % 1024; omega

theorem down0_apply (c : Dev nD) (k d : Fin 1024) : (down0 m c : S1024x1024.Idx → EReal) (ix2 k d) = (ins m c).w2 (ix2 (col0 k) d) := by
  show V m c main_arg8 ((Rect.unit (s := S4096x1024) ![0, 0] ![1024, 1024] inb_S4096x1024_S1024x1024_0_0).idx (ix2 k d)) = V m c main_arg8 _
  refine congrArg _ (funext fun a => Fin.ext ?_)
  match a with
  | ⟨0, _⟩ => show 0 + 1 * k.val = 0 + k.val; omega
  | ⟨1, _⟩ => show 0 + 1 * d.val = d.val; omega

theorem up1_apply (c : Dev nD) (d k : Fin 1024) : (up1 m c : S1x1024x1024.Idx → EReal) (ix3 0 d k) = w1at (ins m c) d (col1 k) := by
  show V m c main_arg7 ((Rect.unit (s := S4x1024x1024) ![1, 0, 0] ![1, 1024, 1024] inb_S4x1024x1024_S1x1024x1024_1_0_0).idx (ix3 0 d k)) = V m c main_arg7 _
  refine congrArg _ (funext fun a => Fin.ext ?_)
  match a with
  | ⟨0, _⟩ => show 1 + 1 * 0 = (1024 + k.val) / 1024; omega
  | ⟨1, _⟩ => show 0 + 1 * d.val = d.val; omega
  | ⟨2, _⟩ => show 0 + 1 * k.val = (1024 + k.val) % 1024; omega

theorem down1_apply (c : Dev nD) (k d : Fin 1024) : (down1 m c : S1024x1024.Idx → EReal) (ix2 k d) = (ins m c).w2 (ix2 (col1 k) d) := by
  show V m c main_arg8 ((Rect.unit (s := S4096x1024) ![1024, 0] ![1024, 1024] inb_S4096x1024_S1024x1024_1024_0).idx (ix2 k d)) = V m c main_arg8 _
  refine congrArg _ (funext fun a => Fin.ext ?_)
  match a with
  | ⟨0, _⟩ => show 1024 + 1 * k.val = 1024 + k.val; omega
  | ⟨1, _⟩ => show 0 + 1 * d.val = d.val; omega

theorem up2_apply (c : Dev nD) (d k : Fin 1024) : (up2 m c : S1x1024x1024.Idx → EReal) (ix3 0 d k) = w1at (ins m c) d (col2 k) := by
  show V m c main_arg7 ((Rect.unit (s := S4x1024x1024) ![2, 0, 0] ![1, 1024, 1024] inb_S4x1024x1024_S1x1024x1024_2_0_0).idx (ix3 0 d k)) = V m c main_arg7 _
  refine congrArg _ (funext fun a => Fin.ext ?_)
  match a with
  | ⟨0, _⟩ => show 2 + 1 * 0 = (2048 + k.val) / 1024; omega
  | ⟨1, _⟩ => show 0 + 1 * d.val = d.val; omega
  | ⟨2, _⟩ => show 0 + 1 * k.val = (2048 + k.val) % 1024; omega

theorem down2_apply (c : Dev nD) (k d : Fin 1024) : (down2 m c : S1024x1024.Idx → EReal) (ix2 k d) = (ins m c).w2 (ix2 (col2 k) d) := by
  show V m c main_arg8 ((Rect.unit (s := S4096x1024) ![2048, 0] ![1024, 1024] inb_S4096x1024_S1024x1024_2048_0).idx (ix2 k d)) = V m c main_arg8 _
  refine congrArg _ (funext fun a => Fin.ext ?_)
  match a with
  | ⟨0, _⟩ => show 2048 + 1 * k.val = 2048 + k.val; omega
  | ⟨1, _⟩ => show 0 + 1 * d.val = d.val; omega

theorem up3_apply (c : Dev nD) (d k : Fin 1024) : (up3 m c : S1x1024x1024.Idx → EReal) (ix3 0 d k) = w1at (ins m c) d (col3 k) := by
  show V m c main_arg7 ((Rect.unit (s := S4x1024x1024) ![3, 0, 0] ![1, 1024, 1024] inb_S4x1024x1024_S1x1024x1024_3_0_0).idx (ix3 0 d k)) = V m c main_arg7 _
  refine congrArg _ (funext fun a => Fin.ext ?_)
  match a with
  | ⟨0, _⟩ => show 3 + 1 * 0 = (3072 + k.val) / 1024; omega
  | ⟨1, _⟩ => show 0 + 1 * d.val = d.val; omega
  | ⟨2, _⟩ => show 0 + 1 * k.val = (3072 + k.val) % 1024; omega

theorem down3_apply (c : Dev nD) (k d : Fin 1024) : (down3 m c : S1024x1024.Idx → EReal) (ix2 k d) = (ins m c).w2 (ix2 (col3 k) d) := by
  show V m c main_arg8 ((Rect.unit (s := S4096x1024) ![3072, 0] ![1024, 1024] inb_S4096x1024_S1024x1024_3072_0).idx (ix2 k d)) = V m c main_arg8 _
  refine congrArg _ (funext fun a => Fin.ext ?_)
  match a with
  | ⟨0, _⟩ => show 3072 + 1 * k.val = 3072 + k.val; omega
  | ⟨1, _⟩ => show 0 + 1 * d.val = d.val; omega
theorem mixedB_fold (c : Dev nD) (t : Fin cfg0.N) : (k0_pay8 (iblk m c 1 t) (iblk m c 2 t) : FVec Ideal S256x1024 .bf16) = mixedB m c t := rfl
theorem h1B_fold (c : Dev nD) (t : Fin cfg0.N) : (k0_pay9 (iblk m c 1 t) (iblk m c 2 t) (iblk m c 0 t) (V m c main_arg6) : FVec Ideal S256x1024 .f32) = h1B m c t := rfl
theorem rs1B_fold (c : Dev nD) (t : Fin cfg0.N) : (k0_pay10 (iblk m c 1 t) (iblk m c 2 t) (iblk m c 0 t) (V m c main_arg6) : FVec Ideal S256x1 .f32) = rs1B m c t := rfl
theorem hn1B_fold (c : Dev nD) (t : Fin cfg0.N) : (k0_pay11 (iblk m c 1 t) (iblk m c 2 t) (iblk m c 0 t) (V m c main_arg6) : FVec Ideal S256x1024 .f32) = hn1B m c t := rfl
theorem nmB_fold (c : Dev nD) (t : Fin cfg0.N) : (k0_pay12 (iblk m c 1 t) (iblk m c 2 t) (iblk m c 0 t) (V m c main_arg6) (iblk m c 4 t) : FVec Ideal S256x1024 .bf16) = nmB m c t := rfl
theorem pre0B_fold (c : Dev nD) (t : Fin cfg0.N) : (k0_pay14 (iblk m c 1 t) (iblk m c 2 t) (iblk m c 0 t) (V m c main_arg6) (iblk m c 4 t) (up0 m c) : FVec Ideal S256x1024 .f32) = pre0B m c t := rfl
theorem r0B_fold (c : Dev nD) (t : Fin cfg0.N) : (k0_pay15 (pre0B m c t) : FVec Ideal S256x1024 .f32) = r0B m c t := rfl
theorem a0B_fold (c : Dev nD) (t : Fin cfg0.N) : (k0_pay16 (pre0B m c t) : FVec Ideal S256x1024 .bf16) = a0B m c t := rfl
theorem r1B_fold (c : Dev nD) (t : Fin cfg0.N) : (k0_pay17 (nmB m c t) (up1 m c) : FVec Ideal S256x1024 .f32) = r1B m c t := rfl
theorem a1B_fold (c : Dev nD) (t : Fin cfg0.N) : (k0_pay18 (nmB m c t) (up1 m c) : FVec Ideal S256x1024 .bf16) = a1B m c t := rfl
theorem r2B_fold (c : Dev nD) (t : Fin cfg0.N) : (k0_pay19 (nmB m c t) (up2 m c) : FVec Ideal S256x1024 .f32) = r2B m c t := rfl
theorem a2B_fold (c : Dev nD) (t : Fin cfg0.N) : (k0_pay20 (nmB m c t) (up2 m c) : FVec Ideal S256x1024 .bf16) = a2B m c t := rfl
theorem mlpB_fold (c : Dev nD) (t : Fin cfg0.N) : (k0_pay21 (nmB m c t) k0_pay13 (pre0B m c t) (down0 m c) (up1 m c) (down1 m c) (up2 m c) (down2 m c) : FVec Ideal S256x1024 .f32) = mlpB m c t := rfl
theorem r3B_fold (c : Dev nD) (t : Fin cfg0.N) : (k0_pay22 (nmB m c t) (up3 m c) : FVec Ideal S256x1024 .f32) = r3B m c t := rfl
theorem a3B_fold (c : Dev nD) (t : Fin cfg0.N) : (k0_pay23 (nmB m c t) (up3 m c) : FVec Ideal S256x1024 .bf16) = a3B m c t := rfl
theorem h2B_fold (c : Dev nD) (t : Fin cfg0.N) : (k0_pay24 (h1B m c t) (nmB m c t) (mlpB m c t) (up3 m c) (down3 m c) : FVec Ideal S256x1024 .f32) = h2B m c t := rfl
theorem rsfB_fold (c : Dev nD) (t : Fin cfg0.N) : (k0_pay25 (h1B m c t) (nmB m c t) (mlpB m c t) (up3 m c) (down3 m c) : FVec Ideal S256x1 .f32) = rsfB m c t := rfl
theorem hnfB_fold (c : Dev nD) (t : Fin cfg0.N) : (k0_pay26 (h1B m c t) (nmB m c t) (mlpB m c t) (up3 m c) (down3 m c) : FVec Ideal S256x1024 .f32) = hnfB m c t := rfl
theorem diffB_fold (c : Dev nD) (t : Fin cfg0.N) : (k0_pay27 (h1B m c t) (nmB m c t) (mlpB m c t) (up3 m c) (down3 m c) (iblk m c 5 t) (iblk m c 3 t) : FVec Ideal S256x1024 .f32) = diffB m c t := rfl
theorem lossB_fold (c : Dev nD) (t : Fin cfg0.N) : (k0_pay29 (h1B m c t) (nmB m c t) (mlpB m c t) (up3 m c) (down3 m c) (iblk m c 5 t) (iblk m c 3 t) : FVec Ideal S1x1 .f32) = lossB m c t := rfl
theorem dh2B_fold (c : Dev nD) (t : Fin cfg0.N) : (k0_pay34 (rsfB m c t) (hnfB m c t) (iblk m c 5 t) (diffB m c t) : FVec Ideal S256x1024 .f32) = dh2B m c t := rfl
theorem dh2bB_fold (c : Dev nD) (t : Fin cfg0.N) : (k0_pay35 (rsfB m c t) (hnfB m c t) (iblk m c 5 t) (diffB m c t) : FVec Ideal S256x1024 .bf16) = dh2bB m c t := rfl
theorem dpre0B_fold (c : Dev nD) (t : Fin cfg0.N) : (k0_pay37 (r0B m c t) (rsfB m c t) (hnfB m c t) (iblk m c 5 t) (diffB m c t) (down0 m c) : FVec Ideal S256x1024 .bf16) = dpre0B m c t := rfl
theorem dpre1B_fold (c : Dev nD) (t : Fin cfg0.N) : (k0_pay38 (r1B m c t) (dh2bB m c t) (down1 m c) : FVec Ideal S256x1024 .bf16) = dpre1B m c t := rfl
theorem dpre2B_fold (c : Dev nD) (t : Fin cfg0.N) : (k0_pay39 (r2B m c t) (dh2bB m c t) (down2 m c) : FVec Ideal S256x1024 .bf16) = dpre2B m c t := rfl
theorem dnm3B_fold (c : Dev nD) (t : Fin cfg0.N) : (k0_pay40 (r1B m c t) (r2B m c t) (dh2bB m c t) k0_pay36 (dpre0B m c t) (up0 m c) (down1 m c) (up1 m c) (down2 m c) (up2 m c) : FVec Ideal S256x1024 .f32) = dnm3B m c t := rfl
theorem dpre3B_fold (c : Dev nD) (t : Fin cfg0.N) : (k0_pay41 (r3B m c t) (dh2bB m c t) (down3 m c) : FVec Ideal S256x1024 .bf16) = dpre3B m c t := rfl
theorem dnmB_fold (c : Dev nD) (t : Fin cfg0.N) : (k0_pay1 (dnm3B m c t) (dpre3B m c t) (up3 m c) : FVec Ideal S256x1024 .f32) = dnmB m c t := rfl
theorem dh1B_fold (c : Dev nD) (t : Fin cfg0.N) : (k0_pay3 (rs1B m c t) (hn1B m c t) (iblk m c 4 t) (dh2B m c t) (dnm3B m c t) (dpre3B m c t) (up3 m c) : FVec Ideal S256x1024 .f32) = dh1B m c t := rfl
theorem dmixedB_fold (c : Dev nD) (t : Fin cfg0.N) : (k0_pay4 (rs1B m c t) (hn1B m c t) (iblk m c 4 t) (dh2B m c t) (dnm3B m c t) (dpre3B m c t) (up3 m c) (V m c main_arg6) : FVec Ideal S256x1024 .f32) = dmixedB m c t := rfl

theorem mixedB_apply (c : Dev nD) (t : Fin cfg0.N) (r : Fin 256) (j : Fin 1024) (i : Fin 8192) (hi : i.val = t.val * 256 + r.val) :
    mixedB m c t (ix2 r j) = mixed (ins m c) i j := by
  unfold mixedB mixed
  pointwise [k0_pay8]
  simp only [oa_apply m c t r _ i hi, ob_apply m c t r _ i hi]

theorem h1B_apply (c : Dev nD) (t : Fin cfg0.N) (r : Fin 256) (j : Fin 1024) (i : Fin 8192) (hi : i.val = t.val * 256 + r.val) :
    h1B m c t (ix2 r j) = h1 (ins m c) i j := by
  unfold h1B h1
  pointwise [k0_pay9]
  simp only [mixedB_fold m c t, mixedB_apply m c t r _ i hi, x_apply m c t r _ i hi]
  rfl

theorem rs1B_apply (c : Dev nD) (t : Fin cfg0.N) (r : Fin 256) (i : Fin 8192) (hi : i.val = t.val * 256 + r.val) :
    rs1B m c t (ix2 r 0) = rs1 (ins m c) i := by
  unfold rs1B rs1
  pointwise [k0_pay10]
  simp only [h1B_fold m c t, h1B_apply m c t r _ i hi]

theorem hn1B_apply (c : Dev nD) (t : Fin cfg0.N) (r : Fin 256) (j : Fin 1024) (i : Fin 8192) (hi : i.val = t.val * 256 + r.val) :
    hn1B m c t (ix2 r j) = hn1 (ins m c) i j := by
  unfold hn1B hn1
  pointwise [k0_pay11]
  simp only [h1B_fold m c t, rs1B_fold m c t, h1B_apply m c t r _ i hi, rs1B_apply m c t r i hi]

theorem nmB_apply (c : Dev nD) (t : Fin cfg0.N) (r : Fin 256) (j : Fin 1024) (i : Fin 8192) (hi : i.val = t.val * 256 + r.val) :
    nmB m c t (ix2 r j) = nm (ins m c) i j := by
  unfold nmB nm
  pointwise [k0_pay12]
  simp only [hn1B_fold m c t, hn1B_apply m c t r _ i hi, g2_apply m c t]

theorem pre0B_apply (c : Dev nD) (t : Fin cfg0.N) (r : Fin 256) (j : Fin 1024) (i : Fin 8192) (hi : i.val = t.val * 256 + r.val) :
    pre0B m c t (ix2 r j) = ∑ k : Fin 1024, nm (ins m c) i k * w1at (ins m c) k (col0 j) := by
  unfold pre0B
  pointwise [k0_pay14]
  simp only [nmB_fold m c t, nmB_apply m c t r _ i hi, up0_apply m c]

theorem r0B_apply (c : Dev nD) (t : Fin cfg0.N) (r : Fin 256) (j : Fin 1024) (i : Fin 8192) (hi : i.val = t.val * 256 + r.val) :
    r0B m c t (ix2 r j) = rect (ins m c) i (col0 j) := by
  unfold r0B rect
  pointwise [k0_pay15]
  simp only [pre0B_apply m c t r _ i hi]

theorem r1B_apply (c : Dev nD) (t : Fin cfg0.N) (r : Fin 256) (j : Fin 1024) (i : Fin 8192) (hi : i.val = t.val * 256 + r.val) :
    r1B m c t (ix2 r j) = rect (ins m c) i (col1 j) := by
  unfold r1B rect
  pointwise [k0_pay17]
  simp only [nmB_apply m c t r _ i hi, up1_apply m c]

theorem r2B_apply (c : Dev nD) (t : Fin cfg0.N) (r : Fin 256) (j : Fin 1024) (i : Fin 8192) (hi : i.val = t.val * 256 + r.val) :
    r2B m c t (ix2 r j) = rect (ins m c) i (col2 j) := by
  unfold r2B rect
  pointwise [k0_pay19]
  simp only [nmB_apply m c t r _ i hi, up2_apply m c]

theorem r3B_apply (c : Dev nD) (t : Fin cfg0.N) (r : Fin 256) (j : Fin 1024) (i : Fin 8192) (hi : i.val = t.val * 256 + r.val) :
    r3B m c t (ix2 r j) = rect (ins m c) i (col3 j) := by
  unfold r3B rect
  pointwise [k0_pay22]
  simp only [nmB_apply m c t r _ i hi, up3_apply m c]

theorem a0B_apply (c : Dev nD) (t : Fin cfg0.N) (r : Fin 256) (j : Fin 1024) (i : Fin 8192) (hi : i.val = t.val * 256 + r.val) :
    a0B m c t (ix2 r j) = act (ins m c) i (col0 j) := by
  unfold a0B act
  pointwise [k0_pay16]
  simp only [r0B_fold m c t, r0B_apply m c t r _ i hi]

theorem a1B_apply (c : Dev nD) (t : Fin cfg0.N) (r : Fin 256) (j : Fin 1024) (i : Fin 8192) (hi : i.val = t.val * 256 + r.val) :
    a1B m c t (ix2 r j) = act (ins m c) i (col1 j) := by
  unfold a1B act
  pointwise [k0_pay18]
  simp only [r1B_fold m c t, r1B_apply m c t r _ i hi]

theorem a2B_apply (c : Dev nD) (t : Fin cfg0.N) (r : Fin 256) (j : Fin 1024) (i : Fin 8192) (hi : i.val = t.val * 256 + r.val) :
    a2B m c t (ix2 r j) = act (ins m c) i (col2 j) := by
  unfold a2B act
  pointwise [k0_pay20]
  simp only [r2B_fold m c t, r2B_apply m c t r _ i hi]

theorem a3B_apply (c : Dev nD) (t : Fin cfg0.N) (r : Fin 256) (j : Fin 1024) (i : Fin 8192) (hi : i.val = t.val * 256 + r.val) :
    a3B m c t (ix2 r j) = act (ins m c) i (col3 j) := by
  unfold a3B act
  pointwise [k0_pay23]
  simp only [r3B_fold m c t, r3B_apply m c t r _ i hi]

theorem mlpB_apply (c : Dev nD) (t : Fin cfg0.N) (r : Fin 256) (j : Fin 1024) (i : Fin 8192) (hi : i.val = t.val * 256 + r.val) :
    mlpB m c t (ix2 r j) = ∑ k : Fin 1024, act (ins m c) i (col0 k) * (ins m c).w2 (ix2 (col0 k) j) + ∑ k : Fin 1024, act (ins m c) i (col1 k) * (ins m c).w2 (ix2 (col1 k) j) + ∑ k : Fin 1024, act (ins m c) i (col2 k) * (ins m c).w2 (ix2 (col2 k) j) := by
  unfold mlpB
  pointwise [k0_pay21, k0_pay13]
  simp only [a0B_fold m c t, a1B_fold m c t, a2B_fold m c t, a0B_apply m c t r _ i hi, a1B_apply m c t r _ i hi, a2B_apply m c t r _ i hi, down0_apply m c, down1_apply m c, down2_apply m c]

theorem h2B_apply (c : Dev nD) (t : Fin cfg0.N) (r : Fin 256) (j : Fin 1024) (i : Fin 8192) (hi : i.val = t.val * 256 + r.val) :
    h2B m c t (ix2 r j) = h2 (ins m c) i j := by
  unfold h2B h2
  pointwise [k0_pay24]
  simp only [quarters, a3B_fold m c t, h1B_apply m c t r _ i hi, mlpB_apply m c t r _ i hi, a3B_apply m c t r _ i hi, down3_apply m c]

theorem rsfB_apply (c : Dev nD) (t : Fin cfg0.N) (r : Fin 256) (i : Fin 8192) (hi : i.val = t.val * 256 + r.val) :
    rsfB m c t (ix2 r 0) = rsf (ins m c) i := by
  unfold rsfB rsf
  pointwise [k0_pay25]
  simp only [h2B_fold m c t, h2B_apply m c t r _ i hi]

theorem hnfB_apply (c : Dev nD) (t : Fin cfg0.N) (r : Fin 256) (j : Fin 1024) (i : Fin 8192) (hi : i.val = t.val * 256 + r.val) :
    hnfB m c t (ix2 r j) = hnf (ins m c) i j := by
  unfold hnfB hnf
  pointwise [k0_pay26]
  simp only [h2B_fold m c t, rsfB_fold m c t, h2B_apply m c t r _ i hi, rsfB_apply m c t r i hi]

theorem diffB_apply (c : Dev nD) (t : Fin cfg0.N) (r : Fin 256) (j : Fin 1024) (i : Fin 8192) (hi : i.val = t.val * 256 + r.val) :
    diffB m c t (ix2 r j) = diff (ins m c) i j := by
  unfold diffB diff
  pointwise [k0_pay27]
  simp only [hnfB_fold m c t, hnfB_apply m c t r _ i hi, gf_apply m c t, tgt_apply m c t r _ i hi]

theorem dyB_apply (c : Dev nD) (t : Fin cfg0.N) (r : Fin 256) (j : Fin 1024) (i : Fin 8192) (hi : i.val = t.val * 256 + r.val) :
    k0_pay32 (diffB m c t) (ix2 r j) = dy (ins m c) i j := by
  unfold dy
  pointwise [k0_pay32]
  simp only [mul_inv, diffB_apply m c t r _ i hi]

theorem dh2B_apply (c : Dev nD) (t : Fin cfg0.N) (r : Fin 256) (j : Fin 1024) (i : Fin 8192) (hi : i.val = t.val * 256 + r.val) :
    dh2B m c t (ix2 r j) = dh2 (ins m c) i j := by
  unfold dh2B dh2
  pointwise [k0_pay34]
  simp only [dyB_apply m c t r _ i hi, hnfB_apply m c t r _ i hi, gf_apply m c t, rsfB_apply m c t r i hi]

theorem dh2bB_apply (c : Dev nD) (t : Fin cfg0.N) (r : Fin 256) (j : Fin 1024) (i : Fin 8192) (hi : i.val = t.val * 256 + r.val) :
    dh2bB m c t (ix2 r j) = dh2 (ins m c) i j := by
  unfold dh2bB
  pointwise [k0_pay35]
  simp only [dh2B_fold m c t, dh2B_apply m c t r _ i hi]

theorem dpre0B_apply (c : Dev nD) (t : Fin cfg0.N) (r : Fin 256) (j : Fin 1024) (i : Fin 8192) (hi : i.val = t.val * 256 + r.val) :
    dpre0B m c t (ix2 r j) = dpre (ins m c) i (col0 j) := by
  unfold dpre0B dpre
  pointwise [k0_pay37]
  simp only [dh2bB_fold m c t, dh2bB_apply m c t r _ i hi, r0B_apply m c t r _ i hi, down0_apply m c]

theorem dpre1B_apply (c : Dev nD) (t : Fin cfg0.N) (r : Fin 256) (j : Fin 1024) (i : Fin 8192) (hi : i.val = t.val * 256 + r.val) :
    dpre1B m c t (ix2 r j) = dpre (ins m c) i (col1 j) := by
  unfold dpre1B dpre
  pointwise [k0_pay38]
  simp only [dh2bB_apply m c t r _ i hi, r1B_apply m c t r _ i hi, down1_apply m c]

theorem dpre2B_apply (c : Dev nD) (t : Fin cfg0.N) (r : Fin 256) (j : Fin 1024) (i : Fin 8192) (hi : i.val = t.val * 256 + r.val) :
    dpre2B m c t (ix2 r j) = dpre (ins m c) i (col2 j) := by
  unfold dpre2B dpre
  pointwise [k0_pay39]
  simp only [dh2bB_apply m c t r _ i hi, r2B_apply m c t r _ i hi, down2_apply m c]

theorem dpre3B_apply (c : Dev nD) (t : Fin cfg0.N) (r : Fin 256) (j : Fin 1024) (i : Fin 8192) (hi : i.val = t.val * 256 + r.val) :
    dpre3B m c t (ix2 r j) = dpre (ins m c) i (col3 j) := by
  unfold dpre3B dpre
  pointwise [k0_pay41]
  simp only [dh2bB_apply m c t r _ i hi, r3B_apply m c t r _ i hi, down3_apply m c]

theorem dnm3B_apply (c : Dev nD) (t : Fin cfg0.N) (r : Fin 256) (j : Fin 1024) (i : Fin 8192) (hi : i.val = t.val * 256 + r.val) :
    dnm3B m c t (ix2 r j) = ∑ k : Fin 1024, dpre (ins m c) i (col0 k) * w1at (ins m c) j (col0 k) + ∑ k : Fin 1024, dpre (ins m c) i (col1 k) * w1at (ins m c) j (col1 k) + ∑ k : Fin 1024, dpre (ins m c) i (col2 k) * w1at (ins m c) j (col2 k) := by
  unfold dnm3B
  pointwise [k0_pay40, k0_pay36]
  simp only [dpre1B_fold m c t, dpre2B_fold m c t, dpre0B_apply m c t r _ i hi, dpre1B_apply m c t r _ i hi, dpre2B_apply m c t r _ i hi, up0_apply m c, up1_apply m c, up2_apply m c]

theorem dnmB_apply (c : Dev nD) (t : Fin cfg0.N) (r : Fin 256) (j : Fin 1024) (i : Fin 8192) (hi : i.val = t.val * 256 + r.val) :
    dnmB m c t (ix2 r j) = dnm (ins m c) i j := by
  unfold dnmB dnm
  pointwise [k0_pay1]
  simp only [quarters, dnm3B_apply m c t r _ i hi, dpre3B_apply m c t r _ i hi, up3_apply m c]

theorem dh1B_apply (c : Dev nD) (t : Fin cfg0.N) (r : Fin 256) (j : Fin 1024) (i : Fin 8192) (hi : i.val = t.val * 256 + r.val) :
    dh1B m c t (ix2 r j) = dh1 (ins m c) i j := by
  unfold dh1B dh1
  pointwise [k0_pay3]
  simp only [dnmB_fold m c t, dnmB_apply m c t r _ i hi, dh2B_apply m c t r _ i hi, hn1B_apply m c t r _ i hi, g2_apply m c t, rs1B_apply m c t r i hi]

theorem dmixedB_apply (c : Dev nD) (t : Fin cfg0.N) (r : Fin 256) (j : Fin 1024) (i : Fin 8192) (hi : i.val = t.val * 256 + r.val) :
    dmixedB m c t (ix2 r j) = dmixed (ins m c) i j := by
  unfold dmixedB dmixed
  pointwise [k0_pay4]
  simp only [dh1B_fold m c t, dh1B_apply m c t r _ i hi]
  rfl

theorem value8 (c : Dev nD) (t : Fin cfg0.N) (r : Fin 256) (f : Fin 4096) (i : Fin 8192) (hi : i.val = t.val * 256 + r.val) :
    (outsAt0 m c t.val t.isLt).2.2.1 (ix2 r f) = act (ins m c) i f := by
  rw [after8]
  canon_tiles x h
  · refine (congrArg (a3B m c t) (eq_ix2 x)).trans ((a3B_apply m c t (x 0) (x 1) i ?_).trans (congrArg (act (ins m c) i) (Fin.ext ?_)))
    · have h2 : r.val = (x 0).val := h0
      omega
    · have h2 : f.val = _ := h1
      exact h2.symm
  · refine (congrArg (a2B m c t) (eq_ix2 x)).trans ((a2B_apply m c t (x 0) (x 1) i ?_).trans (congrArg (act (ins m c) i) (Fin.ext ?_)))
    · have h2 : r.val = (x 0).val := h0
      omega
    · have h2 : f.val = _ := h1
      exact h2.symm
  · refine (congrArg (a1B m c t) (eq_ix2 x)).trans ((a1B_apply m c t (x 0) (x 1) i ?_).trans (congrArg (act (ins m c) i) (Fin.ext ?_)))
    · have h2 : r.val = (x 0).val := h0
      omega
    · have h2 : f.val = _ := h1
      exact h2.symm
  · refine (congrArg (a0B m c t) (eq_ix2 x)).trans ((a0B_apply m c t (x 0) (x 1) i ?_).trans (congrArg (act (ins m c) i) (Fin.ext ?_)))
    · have h2 : r.val = (x 0).val := h0
      omega
    · have h2 : f.val = _ := h1
      rw [h2]; exact Nat.zero_add _

theorem value9 (c : Dev nD) (t : Fin cfg0.N) (r : Fin 256) (f : Fin 4096) (i : Fin 8192) (hi : i.val = t.val * 256 + r.val) :
    (outsAt0 m c t.val t.isLt).2.2.2.1 (ix2 r f) = dpre (ins m c) i f := by
  rw [after9]
  canon_tiles x h
  · refine (congrArg (dpre3B m c t) (eq_ix2 x)).trans ((dpre3B_apply m c t (x 0) (x 1) i ?_).trans (congrArg (dpre (ins m c) i) (Fin.ext ?_)))
    · have h2 : r.val = (x 0).val := h0
      omega
    · have h2 : f.val = _ := h1
      exact h2.symm
  · refine (congrArg (dpre2B m c t) (eq_ix2 x)).trans ((dpre2B_apply m c t (x 0) (x 1) i ?_).trans (congrArg (dpre (ins m c) i) (Fin.ext ?_)))
    · have h2 : r.val = (x 0).val := h0
      omega
    · have h2 : f.val = _ := h1
      exact h2.symm
  · refine (congrArg (dpre1B m c t) (eq_ix2 x)).trans ((dpre1B_apply m c t (x 0) (x 1) i ?_).trans (congrArg (dpre (ins m c) i) (Fin.ext ?_)))
    · have h2 : r.val = (x 0).val := h0
      omega
    · have h2 : f.val = _ := h1
      exact h2.symm
  · refine (congrArg (dpre0B m c t) (eq_ix2 x)).trans ((dpre0B_apply m c t (x 0) (x 1) i ?_).trans (congrArg (dpre (ins m c) i) (Fin.ext ?_)))
    · have h2 : r.val = (x 0).val := h0
      omega
    · have h2 : f.val = _ := h1
      rw [h2]; exact Nat.zero_add _

theorem value6 (c : Dev nD) (t : Fin cfg0.N) (r : Fin 256) (j : Fin 1024) (i : Fin 8192) (hi : i.val = t.val * 256 + r.val) :
    (outsAt0 m c t.val t.isLt).1 (ix2 r j) = mixed (ins m c) i j := by
  rw [after6]
  exact mixedB_apply m c t r j i hi

theorem value7 (c : Dev nD) (t : Fin cfg0.N) (r : Fin 256) (j : Fin 1024) (i : Fin 8192) (hi : i.val = t.val * 256 + r.val) :
    (outsAt0 m c t.val t.isLt).2.1 (ix2 r j) = nm (ins m c) i j := by
  rw [after7]
  exact nmB_apply m c t r j i hi

theorem value10 (c : Dev nD) (t : Fin cfg0.N) (r : Fin 256) (j : Fin 1024) (i : Fin 8192) (hi : i.val = t.val * 256 + r.val) :
    (outsAt0 m c t.val t.isLt).2.2.2.2.1 (ix2 r j) = dh2 (ins m c) i j := by
  rw [after10]
  exact dh2bB_apply m c t r j i hi

theorem value11 (c : Dev nD) (t : Fin cfg0.N) (r : Fin 256) (j : Fin 1024) (i : Fin 8192) (hi : i.val = t.val * 256 + r.val) :
    (outsAt0 m c t.val t.isLt).2.2.2.2.2.1 (ix2 r j) = dh1 (ins m c) i j := by
  rw [after11]
  exact dh1B_apply m c t r j i hi

theorem value12 (c : Dev nD) (t : Fin cfg0.N) (r : Fin 256) (j : Fin 1024) (i : Fin 8192) (hi : i.val = t.val * 256 + r.val) :
    (outsAt0 m c t.val t.isLt).2.2.2.2.2.2.1 (ix2 r j) = dmixed (ins m c) i j := by
  rw [after12]
  exact dmixedB_apply m c t r j i hi

/-- A function of the row and the column, as an array. -/
def arr {n : ℕ} (f : Fin 8192 → Fin n → EReal) : (⟨2, ![8192, n]⟩ : Shape).Idx → EReal := fun y => f (y 0) (y 1)

/-- The blocks of the results that a point writes. -/
theorem places_out : ∀ t : Fin cfg0.N, win0_6.index t = ![t.val, 0] ∧ win0_7.index t = ![t.val, 0] ∧ win0_8.index t = ![t.val, 0]
    ∧ win0_9.index t = ![t.val, 0] ∧ win0_10.index t = ![t.val, 0] ∧ win0_11.index t = ![t.val, 0] ∧ win0_12.index t = ![t.val, 0] :=
  (by decide +kernel : ∀ t : Fin grid0.N, _)

theorem final6 (c : Dev nD) : (dats m 0 c).arrAt 6 cfg0.N = arr (mixed (ins m c)) := by
  refine (dats m 0 c).arrAt_eq_of_covers 6 _ (by decide +kernel) fun t hf y => ?_
  obtain ⟨p6, p7, p8, p9, p10, p11, p12⟩ := places_out t
  rw [after0_6]
  have hN : cfg0.N = 32 := N_0
  have ht : t.val < cfg0.N := t.isLt
  obtain ⟨r, j, hy⟩ : ∃ (r : Fin 256) (j : Fin 1024), (cfg0.win 6).xinj (cfg0.grid.coords t) y = ix2 r j := ⟨_, _, eq_ix2 _⟩
  show (outsAt0 m c t.val t.isLt).1 ((cfg0.win 6).xinj (cfg0.grid.coords t) y) = _
  rw [hy, value6 m c t r j ⟨t.val * 256 + r.val, by omega⟩ rfl]
  have e0 : (y 0).val = r.val := congrArg (fun z : S256x1024.Idx => (z 0).val) hy
  have e1 : (y 1).val = j.val := congrArg (fun z : S256x1024.Idx => (z 1).val) hy
  show arr (mixed (ins m c)) (ix2 ⟨t.val * 256 + r.val, _⟩ j) = _
  refine congrArg _ ?_
  blk_ext [p6, e0, e1]

theorem final7 (c : Dev nD) : (dats m 0 c).arrAt 7 cfg0.N = arr (nm (ins m c)) := by
  refine (dats m 0 c).arrAt_eq_of_covers 7 _ (by decide +kernel) fun t hf y => ?_
  obtain ⟨p6, p7, p8, p9, p10, p11, p12⟩ := places_out t
  rw [after0_7]
  have hN : cfg0.N = 32 := N_0
  have ht : t.val < cfg0.N := t.isLt
  obtain ⟨r, j, hy⟩ : ∃ (r : Fin 256) (j : Fin 1024), (cfg0.win 7).xinj (cfg0.grid.coords t) y = ix2 r j := ⟨_, _, eq_ix2 _⟩
  show (outsAt0 m c t.val t.isLt).2.1 ((cfg0.win 7).xinj (cfg0.grid.coords t) y) = _
  rw [hy, value7 m c t r j ⟨t.val * 256 + r.val, by omega⟩ rfl]
  have e0 : (y 0).val = r.val := congrArg (fun z : S256x1024.Idx => (z 0).val) hy
  have e1 : (y 1).val = j.val := congrArg (fun z : S256x1024.Idx => (z 1).val) hy
  show arr (nm (ins m c)) (ix2 ⟨t.val * 256 + r.val, _⟩ j) = _
  refine congrArg _ ?_
  blk_ext [p7, e0, e1]

theorem final8 (c : Dev nD) : (dats m 0 c).arrAt 8 cfg0.N = arr (act (ins m c)) := by
  refine (dats m 0 c).arrAt_eq_of_covers 8 _ (by decide +kernel) fun t hf y => ?_
  obtain ⟨p6, p7, p8, p9, p10, p11, p12⟩ := places_out t
  rw [after0_8]
  have hN : cfg0.N = 32 := N_0
  have ht : t.val < cfg0.N := t.isLt
  obtain ⟨r, j, hy⟩ : ∃ (r : Fin 256) (j : Fin 4096), (cfg0.win 8).xinj (cfg0.grid.coords t) y = ix2 r j := ⟨_, _, eq_ix2 _⟩
  show (outsAt0 m c t.val t.isLt).2.2.1 ((cfg0.win 8).xinj (cfg0.grid.coords t) y) = _
  rw [hy, value8 m c t r j ⟨t.val * 256 + r.val, by omega⟩ rfl]
  have e0 : (y 0).val = r.val := congrArg (fun z : S256x4096.Idx => (z 0).val) hy
  have e1 : (y 1).val = j.val := congrArg (fun z : S256x4096.Idx => (z 1).val) hy
  show arr (act (ins m c)) (ix2 ⟨t.val * 256 + r.val, _⟩ j) = _
  refine congrArg _ ?_
  blk_ext [p8, e0, e1]

theorem final9 (c : Dev nD) : (dats m 0 c).arrAt 9 cfg0.N = arr (dpre (ins m c)) := by
  refine (dats m 0 c).arrAt_eq_of_covers 9 _ (by decide +kernel) fun t hf y => ?_
  obtain ⟨p6, p7, p8, p9, p10, p11, p12⟩ := places_out t
  rw [after0_9]
  have hN : cfg0.N = 32 := N_0
  have ht : t.val < cfg0.N := t.isLt
  obtain ⟨r, j, hy⟩ : ∃ (r : Fin 256) (j : Fin 4096), (cfg0.win 9).xinj (cfg0.grid.coords t) y = ix2 r j := ⟨_, _, eq_ix2 _⟩
  show (outsAt0 m c t.val t.isLt).2.2.2.1 ((cfg0.win 9).xinj (cfg0.grid.coords t) y) = _
  rw [hy, value9 m c t r j ⟨t.val * 256 + r.val, by omega⟩ rfl]
  have e0 : (y 0).val = r.val := congrArg (fun z : S256x4096.Idx => (z 0).val) hy
  have e1 : (y 1).val = j.val := congrArg (fun z : S256x4096.Idx => (z 1).val) hy
  show arr (dpre (ins m c)) (ix2 ⟨t.val * 256 + r.val, _⟩ j) = _
  refine congrArg _ ?_
  blk_ext [p9, e0, e1]

theorem final10 (c : Dev nD) : (dats m 0 c).arrAt 10 cfg0.N = arr (dh2 (ins m c)) := by
  refine (dats m 0 c).arrAt_eq_of_covers 10 _ (by decide +kernel) fun t hf y => ?_
  obtain ⟨p6, p7, p8, p9, p10, p11, p12⟩ := places_out t
  rw [after0_10]
  have hN : cfg0.N = 32 := N_0
  have ht : t.val < cfg0.N := t.isLt
  obtain ⟨r, j, hy⟩ : ∃ (r : Fin 256) (j : Fin 1024), (cfg0.win 10).xinj (cfg0.grid.coords t) y = ix2 r j := ⟨_, _, eq_ix2 _⟩
  show (outsAt0 m c t.val t.isLt).2.2.2.2.1 ((cfg0.win 10).xinj (cfg0.grid.coords t) y) = _
  rw [hy, value10 m c t r j ⟨t.val * 256 + r.val, by omega⟩ rfl]
  have e0 : (y 0).val = r.val := congrArg (fun z : S256x1024.Idx => (z 0).val) hy
  have e1 : (y 1).val = j.val := congrArg (fun z : S256x1024.Idx => (z 1).val) hy
  show arr (dh2 (ins m c)) (ix2 ⟨t.val * 256 + r.val, _⟩ j) = _
  refine congrArg _ ?_
  blk_ext [p10, e0, e1]

theorem final11 (c : Dev nD) : (dats m 0 c).arrAt 11 cfg0.N = arr (dh1 (ins m c)) := by
  refine (dats m 0 c).arrAt_eq_of_covers 11 _ (by decide +kernel) fun t hf y => ?_
  obtain ⟨p6, p7, p8, p9, p10, p11, p12⟩ := places_out t
  rw [after0_11]
  have hN : cfg0.N = 32 := N_0
  have ht : t.val < cfg0.N := t.isLt
  obtain ⟨r, j, hy⟩ : ∃ (r : Fin 256) (j : Fin 1024), (cfg0.win 11).xinj (cfg0.grid.coords t) y = ix2 r j := ⟨_, _, eq_ix2 _⟩
  show (outsAt0 m c t.val t.isLt).2.2.2.2.2.1 ((cfg0.win 11).xinj (cfg0.grid.coords t) y) = _
  rw [hy, value11 m c t r j ⟨t.val * 256 + r.val, by omega⟩ rfl]
  have e0 : (y 0).val = r.val := congrArg (fun z : S256x1024.Idx => (z 0).val) hy
  have e1 : (y 1).val = j.val := congrArg (fun z : S256x1024.Idx => (z 1).val) hy
  show arr (dh1 (ins m c)) (ix2 ⟨t.val * 256 + r.val, _⟩ j) = _
  refine congrArg _ ?_
  blk_ext [p11, e0, e1]

theorem final12 (c : Dev nD) : (dats m 0 c).arrAt 12 cfg0.N = arr (dmixed (ins m c)) := by
  refine (dats m 0 c).arrAt_eq_of_covers 12 _ (by decide +kernel) fun t hf y => ?_
  obtain ⟨p6, p7, p8, p9, p10, p11, p12⟩ := places_out t
  rw [after0_12]
  have hN : cfg0.N = 32 := N_0
  have ht : t.val < cfg0.N := t.isLt
  obtain ⟨r, j, hy⟩ : ∃ (r : Fin 256) (j : Fin 1024), (cfg0.win 12).xinj (cfg0.grid.coords t) y = ix2 r j := ⟨_, _, eq_ix2 _⟩
  show (outsAt0 m c t.val t.isLt).2.2.2.2.2.2.1 ((cfg0.win 12).xinj (cfg0.grid.coords t) y) = _
  rw [hy, value12 m c t r j ⟨t.val * 256 + r.val, by omega⟩ rfl]
  have e0 : (y 0).val = r.val := congrArg (fun z : S256x1024.Idx => (z 0).val) hy
  have e1 : (y 1).val = j.val := congrArg (fun z : S256x1024.Idx => (z 1).val) hy
  show arr (dmixed (ins m c)) (ix2 ⟨t.val * 256 + r.val, _⟩ j) = _
  refine congrArg _ ?_
  blk_ext [p12, e0, e1]

/-- The last point of the grid. -/
def last : Fin cfg0.N := ⟨31, by rw [show cfg0.N = 32 from N_0]; omega⟩

/-- What a point adds to the loss. -/
def part13 (c : Dev nD) (t : Fin cfg0.N) : S1x1.Idx → EReal := fun _ =>
  ∑ r : Fin 256, Ideal.ofBits .f32 1056964608#32 * Ideal.div (∑ k : Fin 1024, diffB m c t (ix2 r k) * diffB m c t (ix2 r k)) width

/-- What a point adds to the gradient of the last gain. -/
def part14 (c : Dev nD) (t : Fin cfg0.N) : S1x1024.Idx → EReal := fun y =>
  ∑ r : Fin 256, k0_pay32 (diffB m c t) (ix2 r (y 1)) * hnfB m c t (ix2 r (y 1))

/-- What a point adds to the gradient of the second gain. -/
def part15 (c : Dev nD) (t : Fin cfg0.N) : S1x1024.Idx → EReal := fun y =>
  ∑ r : Fin 256, dnmB m c t (ix2 r (y 1)) * hn1B m c t (ix2 r (y 1))

theorem value13 (c : Dev nD) (y : S1x1.Idx) : (outsAt0 m c last.val last.isLt).2.2.2.2.2.2.2.1 y = (fun _ => loss (ins m c) : S1x1.Idx → EReal) y := by
  refine (Pipeline.eq_sum_fin_of_reset_step_apply_last (fun n h => (outsAt0 m c n h).2.2.2.2.2.2.2.1) 32 (fun _ => (0 : EReal)) (part13 m c) (fun t h j => ?_) (fun t h j => ?_) (le_of_eq N_0) last rfl y).trans ?_
  · rw [first13 m c t h]
    pointwise [k0_pay5, k0_pay31, k0_pay28, k0_pay30, lossB, k0_pay29, part13]
    simp only [diffB_fold m c t, mul_inv, half_sum]
  · rw [next13 m c t h]
    pointwise [k0_pay31, k0_pay28, k0_pay30, lossB, k0_pay29, part13]
    simp only [diffB_fold m c t, mul_inv, half_sum]
  · rw [zero_add]
    show _ = loss (ins m c)
    unfold loss
    rw [half_sum]
    refine Fin.sum_mul_add_congr (fun t k h => ?_) (by rw [show cfg0.N = 32 from N_0])
    exact congrArg (Ideal.ofBits .f32 1056964608#32 * ·) (congrArg (Ideal.div · width)
      (Finset.sum_congr rfl fun j _ => congrArg₂ (· * ·) (diffB_apply m c t k j _ rfl) (diffB_apply m c t k j _ rfl)))

theorem final13 (c : Dev nD) : (dats m 0 c).arrAt 13 cfg0.N = (fun _ => loss (ins m c) : S1x1.Idx → EReal) := by
  refine (dats m 0 c).arrAt_eq_of_after_last 13 last (by decide +kernel) _ fun j => ?_
  rw [after0_13]
  refine (value13 m c _).trans ?_
  rfl

theorem value14 (c : Dev nD) (y : S1x1024.Idx) : (outsAt0 m c last.val last.isLt).2.2.2.2.2.2.2.2.1 y = (fun y => dgf (ins m c) (y 1) : S1x1024.Idx → EReal) y := by
  refine (Pipeline.eq_sum_fin_of_reset_step_apply_last (fun n h => (outsAt0 m c n h).2.2.2.2.2.2.2.2.1) 32 (fun _ => (0 : EReal)) (part14 m c) (fun t h j => ?_) (fun t h j => ?_) (le_of_eq N_0) last rfl y).trans ?_
  · rw [first14 m c t h]
    pointwise [k0_pay6, k0_pay33, part14]
  · rw [next14 m c t h]
    pointwise [k0_pay33, part14]
  · rw [zero_add]
    show _ = dgf (ins m c) (y 1)
    unfold dgf
    refine Fin.sum_mul_add_congr (fun t k h => ?_) (by rw [show cfg0.N = 32 from N_0])
    exact congrArg₂ (· * ·) (dyB_apply m c t k (y 1) _ rfl) (hnfB_apply m c t k (y 1) _ rfl)

theorem final14 (c : Dev nD) : (dats m 0 c).arrAt 14 cfg0.N = (fun y => dgf (ins m c) (y 1) : S1x1024.Idx → EReal) := by
  refine (dats m 0 c).arrAt_eq_of_after_last 14 last (by decide +kernel) _ fun j => ?_
  rw [after0_14]
  refine (value14 m c _).trans ?_
  rfl

theorem value15 (c : Dev nD) (y : S1x1024.Idx) : (outsAt0 m c last.val last.isLt).2.2.2.2.2.2.2.2.2.1 y = (fun y => dg2 (ins m c) (y 1) : S1x1024.Idx → EReal) y := by
  refine (Pipeline.eq_sum_fin_of_reset_step_apply_last (fun n h => (outsAt0 m c n h).2.2.2.2.2.2.2.2.2.1) 32 (fun _ => (0 : EReal)) (part15 m c) (fun t h j => ?_) (fun t h j => ?_) (le_of_eq N_0) last rfl y).trans ?_
  · rw [first15 m c t h]
    pointwise [k0_pay7, k0_pay2, part15]
    simp only [dnmB_fold m c t]
  · rw [next15 m c t h]
    pointwise [k0_pay2, part15]
    simp only [dnmB_fold m c t]
  · rw [zero_add]
    show _ = dg2 (ins m c) (y 1)
    unfold dg2
    refine Fin.sum_mul_add_congr (fun t k h => ?_) (by rw [show cfg0.N = 32 from N_0])
    exact congrArg₂ (· * ·) (dnmB_apply m c t k (y 1) _ rfl) (hn1B_apply m c t k (y 1) _ rfl)

theorem final15 (c : Dev nD) : (dats m 0 c).arrAt 15 cfg0.N = (fun y => dg2 (ins m c) (y 1) : S1x1024.Idx → EReal) := by
  refine (dats m 0 c).arrAt_eq_of_after_last 15 last (by decide +kernel) _ fun j => ?_
  rw [after0_15]
  refine (value15 m c _).trans ?_
  rfl

end point

end PostFusedIdeal.Value

end Cert
-- ==== Proof.PostValue.lean ====
module

public import proofs.«01_k».proof.Proof.PostRows

/-! # The second half of the layer and its gradient

The reference computes the same quantities of whole arrays; so each of the ten results of the call is the reference's. -/

@[expose] public section
set_option maxRecDepth 16384
noncomputable section
namespace Cert
open Idealize.ShloMosaic Idealize.ShloMosaic.TcCoe Idealize.SL.Sem Idealize.ShloMosaic.StableHlo
open scoped BigOperators
namespace PostFusedRefIdeal.Value
open Cert.PostFusedRefIdeal Cert.PostFusedRefIdeal.Gen
open Cert.PostFusedIdeal.Value (Args width mixed h1 rs1 hn1 nm w1at rect act h2 rsf hnf diff loss dy dgf dh2 dpre dnm dg2 dh1 dmixed arr)

section reference
variable (V0 : Valuation τ sig (Elt Ideal))

/-- The arguments as the reference finds them. -/
def refs : Args :=
  ⟨V0 (Proc.devRef .tc main_arg0), V0 (Proc.devRef .tc main_arg1), V0 (Proc.devRef .tc main_arg2), V0 (Proc.devRef .tc main_arg3),
    V0 (Proc.devRef .tc main_arg4), V0 (Proc.devRef .tc main_arg5), V0 (Proc.devRef .tc main_arg6), V0 (Proc.devRef .tc main_arg7),
    V0 (Proc.devRef .tc main_arg8)⟩

theorem w1at_ref (d : Fin 1024) (f : Fin 4096) : res_main_v1 V0 (ix2 d f) = w1at (refs V0) d f := by
  unfold w1at
  pointwise [res_main_v1, refs]

theorem h1_ref (i : Fin 8192) (j : Fin 1024) : res_main_v5 V0 (ix2 i j) = h1 (refs V0) i j := by
  unfold h1 mixed
  pointwise [res_main_v5, refs]
  all_goals rfl

theorem rs1_ref (i : Fin 8192) : res_main_v13 V0 (ix2 i 0) = rs1 (refs V0) i := by
  unfold rs1
  pointwise [res_main_v13, refs]
  simp only [h1_ref]
  all_goals rfl

theorem hn1_ref (i : Fin 8192) (j : Fin 1024) : res_main_v15 V0 (ix2 i j) = hn1 (refs V0) i j := by
  unfold hn1
  pointwise [res_main_v15, refs]
  simp only [h1_ref, rs1_ref]
  all_goals rfl

theorem rect_ref (i : Fin 8192) (f : Fin 4096) : res_main_v20 V0 (ix2 i f) = rect (refs V0) i f := by
  unfold rect nm
  pointwise [res_main_v20, refs]
  simp only [hn1_ref, w1at_ref]
  all_goals rfl

theorem h2_ref (i : Fin 8192) (j : Fin 1024) : res_main_v24 V0 (ix2 i j) = h2 (refs V0) i j := by
  unfold h2 act
  pointwise [res_main_v24, refs]
  simp only [h1_ref, rect_ref]
  all_goals rfl

theorem rsf_ref (i : Fin 8192) : res_main_v32 V0 (ix2 i 0) = rsf (refs V0) i := by
  unfold rsf
  pointwise [res_main_v32, refs]
  simp only [h2_ref]
  all_goals rfl

theorem hnf_ref (i : Fin 8192) (j : Fin 1024) : res_main_v34 V0 (ix2 i j) = hnf (refs V0) i j := by
  unfold hnf
  pointwise [res_main_v34, refs]
  simp only [h2_ref, rsf_ref]
  all_goals rfl

theorem diff_ref (i : Fin 8192) (j : Fin 1024) : res_main_v37 V0 (ix2 i j) = diff (refs V0) i j := by
  unfold diff
  pointwise [res_main_v37, refs]
  simp only [hnf_ref]
  all_goals rfl

theorem dy_ref (i : Fin 8192) (j : Fin 1024) : res_main_v47 V0 (ix2 i j) = dy (refs V0) i j := by
  unfold dy
  pointwise [res_main_v47, refs]
  simp only [diff_ref]
  all_goals rfl

theorem dh2_ref (i : Fin 8192) (j : Fin 1024) : res_main_v62 V0 (ix2 i j) = dh2 (refs V0) i j := by
  unfold dh2
  pointwise [res_main_v62, res_main_v52, refs]
  simp only [rsf_ref, hnf_ref, dy_ref]
  all_goals rfl

theorem dnm_ref (i : Fin 8192) (j : Fin 1024) : res_main_v69 V0 (ix2 i j) = dnm (refs V0) i j := by
  unfold dnm dpre
  pointwise [res_main_v69, refs]
  simp only [dh2_ref, rect_ref, w1at_ref]
  all_goals rfl

end reference

end PostFusedRefIdeal.Value

theorem postFused_P : @quiescent_PostFused PostFused.Gen.facts := fun m g _ => PostFused.Gen.frame m g
theorem postFused_PI : @quiescent_PostFusedIdeal PostFusedIdeal.Gen.facts := fun m g _ => PostFusedIdeal.Gen.frame m g
theorem postFused_RI : @quiescent_PostFusedRefIdeal PostFusedRefIdeal.Gen.facts := fun m g _ =>
  (θ_run _ _ _).mono (fun r h => ⟨fun c => (h c).2.2.2.2.2.2.2.2.2.2, sem_eq_zero_of_no_sems rfl r.2⟩) (PostFusedRefIdeal.Value.run m g)

open PostFusedRefIdeal.Value PostFusedIdeal.Value in
theorem postFused_algebraic : @algebraic_PostFusedIdeal_PostFusedRefIdeal PostFusedIdeal.Gen.facts PostFusedRefIdeal.Gen.facts := by
  intro m g m' g' _ hin
  refine ⟨_, _, _, _, _, _, _, _, _, _, PostFusedIdeal.Value.run_blocks m g, (θ_run _ _ _).mono (fun r h c => ?_) (PostFusedRefIdeal.Value.run m' g')⟩
  obtain ⟨q6, q7, q8, q9, q10, q11, q12, q13, q14, q15, q⟩ := h c
  obtain ⟨e0, e1, e2, e3, e4, e5, e6, e7, e8⟩ := hin c
  clear h hin
  have e : ins m c = refs (launchContents m' c) := by
    unfold ins refs
    rw [Args.mk.injEq]
    exact ⟨e0.symm, e1.symm, e2.symm, e3.symm, e4.symm, e5.symm, e6.symm, e7.symm, e8.symm⟩
  refine ⟨q6.trans ?_, q7.trans ?_, q8.trans ?_, q9.trans ?_, q10.trans ?_, q11.trans ?_, q12.trans ?_, q13.trans ?_, q14.trans ?_, q15.trans ?_, q⟩
  · rw [PostFusedIdeal.Value.final6 m c, e]
    clear q6 q7 q8 q9 q10 q11 q12 q13 q14 q15 q e e0 e1 e2 e3 e4 e5 e6 e7 e8
    funext y
    obtain ⟨i, j, rfl⟩ : ∃ (i : Fin 8192) (j : Fin 1024), y = ix2 i j := ⟨_, _, eq_ix2 _⟩
    show _ = mixed (refs (launchContents m' c)) i j
    pointwise [mixed, refs]
    all_goals rfl
  · rw [PostFusedIdeal.Value.final7 m c, e]
    clear q6 q7 q8 q9 q10 q11 q12 q13 q14 q15 q e e0 e1 e2 e3 e4 e5 e6 e7 e8
    funext y
    obtain ⟨i, j, rfl⟩ : ∃ (i : Fin 8192) (j : Fin 1024), y = ix2 i j := ⟨_, _, eq_ix2 _⟩
    show _ = nm (refs (launchContents m' c)) i j
    pointwise [nm]
    simp only [hn1_ref]
    all_goals rfl
  · rw [PostFusedIdeal.Value.final8 m c, e]
    clear q6 q7 q8 q9 q10 q11 q12 q13 q14 q15 q e e0 e1 e2 e3 e4 e5 e6 e7 e8
    funext y
    obtain ⟨i, j, rfl⟩ : ∃ (i : Fin 8192) (j : Fin 4096), y = ix2 i j := ⟨_, _, eq_ix2 _⟩
    show _ = act (refs (launchContents m' c)) i j
    pointwise [act]
    simp only [rect_ref]
    all_goals rfl
  · rw [PostFusedIdeal.Value.final9 m c, e]
    clear q6 q7 q8 q9 q10 q11 q12 q13 q14 q15 q e e0 e1 e2 e3 e4 e5 e6 e7 e8
    funext y
    obtain ⟨i, j, rfl⟩ : ∃ (i : Fin 8192) (j : Fin 4096), y = ix2 i j := ⟨_, _, eq_ix2 _⟩
    show _ = dpre (refs (launchContents m' c)) i j
    pointwise [dpre]
    simp only [dh2_ref, rect_ref]
    all_goals rfl
  · rw [PostFusedIdeal.Value.final10 m c, e]
    clear q6 q7 q8 q9 q10 q11 q12 q13 q14 q15 q e e0 e1 e2 e3 e4 e5 e6 e7 e8
    funext y
    obtain ⟨i, j, rfl⟩ : ∃ (i : Fin 8192) (j : Fin 1024), y = ix2 i j := ⟨_, _, eq_ix2 _⟩
    show _ = dh2 (refs (launchContents m' c)) i j
    pointwise []
    simp only [dh2_ref]
    all_goals rfl
  · rw [PostFusedIdeal.Value.final11 m c, e]
    clear q6 q7 q8 q9 q10 q11 q12 q13 q14 q15 q e e0 e1 e2 e3 e4 e5 e6 e7 e8
    funext y
    obtain ⟨i, j, rfl⟩ : ∃ (i : Fin 8192) (j : Fin 1024), y = ix2 i j := ⟨_, _, eq_ix2 _⟩
    show _ = dh1 (refs (launchContents m' c)) i j
    pointwise [dh1, res_main_v74]
    simp only [dh2_ref, rs1_ref, hn1_ref, dnm_ref]
    all_goals rfl
  · rw [PostFusedIdeal.Value.final12 m c, e]
    clear q6 q7 q8 q9 q10 q11 q12 q13 q14 q15 q e e0 e1 e2 e3 e4 e5 e6 e7 e8
    funext y
    obtain ⟨i, j, rfl⟩ : ∃ (i : Fin 8192) (j : Fin 1024), y = ix2 i j := ⟨_, _, eq_ix2 _⟩
    show _ = dmixed (refs (launchContents m' c)) i j
    pointwise [dmixed, dh1, res_main_v74]
    simp only [dh2_ref, rs1_ref, hn1_ref, dnm_ref]
    all_goals rfl
  · rw [PostFusedIdeal.Value.final13 m c, e]
    clear q6 q7 q8 q9 q10 q11 q12 q13 q14 q15 q e e0 e1 e2 e3 e4 e5 e6 e7 e8
    funext y
    pointwise [loss]
    simp only [diff_ref]
    all_goals rfl
  · rw [PostFusedIdeal.Value.final14 m c, e]
    clear q6 q7 q8 q9 q10 q11 q12 q13 q14 q15 q e e0 e1 e2 e3 e4 e5 e6 e7 e8
    funext y
    obtain ⟨i, j, rfl⟩ : ∃ (i : Fin 1) (j : Fin 1024), y = ix2 i j := ⟨_, _, eq_ix2 _⟩
    show _ = dgf (refs (launchContents m' c)) j
    pointwise [dgf]
    simp only [dy_ref, hnf_ref]
    all_goals rfl
  · rw [PostFusedIdeal.Value.final15 m c, e]
    clear q6 q7 q8 q9 q10 q11 q12 q13 q14 q15 q e e0 e1 e2 e3 e4 e5 e6 e7 e8
    funext y
    obtain ⟨i, j, rfl⟩ : ∃ (i : Fin 1) (j : Fin 1024), y = ix2 i j := ⟨_, _, eq_ix2 _⟩
    show _ = dg2 (refs (launchContents m' c)) j
    pointwise [dg2]
    simp only [dnm_ref, hn1_ref]
    all_goals rfl

end Cert
-- ==== Proof.BiasValue.lean ====
module

public import proofs.«01_k».proof.Defs
public import proofs.«01_k».proof.Proof.Gen.BiasTables.Frame
public import proofs.«01_k».proof.Proof.Gen.BiasTablesIdeal.Value
public import proofs.«01_k».proof.Proof.Gen.BiasTablesRefIdeal.Run
public import Idealize.ShloMosaic.Lib.Pipeline.ValueKit
public import Idealize.ShloMosaic.Lib.Pipeline.Covers
public import Idealize.ShloMosaic.Lib.Pipeline.ReadBack
public import Idealize.ShloMosaic.Lib.Pointwise
public import Idealize.ShloMosaic.Lib.Pointwise.Reduce

/-! # The tables of relative biases

`bias_tables` goes over the 32 buckets and takes the bias of the one that an entry names; the plain form is the sum over the
buckets of the bias where the entry names it. At most one bucket is named, so both are that bias, or zero if there is none. -/

@[expose] public section

noncomputable section

namespace Cert

open Idealize.ShloMosaic Idealize.ShloMosaic.TcCoe Idealize.SL.Sem
open Idealize.ShloMosaic.Pipeline (Dat)

/-- Bucket by bucket: the last value whose number the word is, `N` for a negative word, `Z` for none. -/
def fold (N Z : EReal) (w : BitVec 32) (f : ℕ → EReal) : ℕ → EReal
  | 0 => if IntOp.cmpi .slt w 0#32 = 1#1 then N else Z
  | n + 1 => if IntOp.cmpi .eq w (BitVec.ofNat 32 n) = 1#1 then f n else fold N Z w f n

theorem is_word (v w : BitVec 32) : IntOp.cmpi .eq v w = 1#1 ↔ v = w := by
  have ofBool_one (p : Bool) : BitVec.ofBool p = 1#1 ↔ p = true := by cases p <;> decide
  simp [IntOp.cmpi, ofBool_one]

theorem not_negative (n : ℕ) (h : n < 32) : ¬ IntOp.cmpi .slt (BitVec.ofNat 32 n) 0#32 = 1#1 := by
  have : ∀ n : Fin 32, ¬ IntOp.cmpi .slt (BitVec.ofNat 32 n.val) 0#32 = 1#1 := by decide
  exact this ⟨n, h⟩

/-- The same as a sum over the buckets. -/
theorem fold_eq (N : EReal) (w : BitVec 32) (f : ℕ → EReal) (n : ℕ) (hn : n ≤ 32) : fold N 0 w f n
    = if IntOp.cmpi .slt w 0#32 = 1#1 then N else ∑ k : Fin n, if IntOp.cmpi .eq w (BitVec.ofNat 32 k.val) = 1#1 then f k.val else 0 := by
  induction n with
  | zero => simp [fold]
  | succ n ih =>
    have ih := ih (by omega)
    rw [fold]
    by_cases h : w = BitVec.ofNat 32 n
    · subst h
      rw [if_pos ((is_word _ _).mpr rfl), if_neg (not_negative n (by omega))]
      rw [Fin.sum_univ_castSucc, Finset.sum_eq_zero, zero_add]
      · exact (if_pos ((is_word _ _).mpr rfl)).symm
      · intro k _
        refine if_neg fun e => ?_
        have e := congrArg BitVec.toNat ((is_word _ _).mp e)
        have hk := k.isLt
        simp only [Fin.val_castSucc, BitVec.toNat_ofNat] at e
        omega
    · rw [if_neg (fun e => h ((is_word _ _).mp e)), ih]
      refine if_congr Iff.rfl rfl ?_
      have hl : (if IntOp.cmpi .eq w (BitVec.ofNat 32 (Fin.last n).val) = 1#1 then f (Fin.last n).val else 0) = 0 :=
        if_neg (fun e => h ((is_word _ _).mp e))
      rw [Fin.sum_univ_castSucc, hl, add_zero]
      rfl

namespace BiasTablesIdeal.Value
open Cert.BiasTablesIdeal Cert.BiasTablesIdeal.Gen

/-- The bias of a bucket for a head. -/
def rel (x : S32x8.Idx → EReal) (h : Fin 8) (n : ℕ) : EReal := if hn : n < 32 then x (ix2 ⟨n, hn⟩ h) else 0

/-- What a point leaves at an entry. -/
theorem out_eq (c : Dev nD) (i : grid0.Coords) (a : Memref sig .tc .smem S32x8 .f32) (ha : a.IsWhole) (b : Memref sig .tc .vmem S1x128x256 .i32) (hb : b.IsWhole)
    (o : Memref sig .tc .vmem S1x1x128x256 .f32) (ho : o.IsWhole) (x : Vec Ideal S32x8 .f32) (y : Vec Ideal S1x128x256 .i32) (j : S1x1x128x256.Idx) :
    out0_A_2 c i a ha b hb o ho x y j
      = fold (Scalar.ofBits (F := Ideal) .f32 0xF149F2CA#32) (Scalar.ofBits (F := Ideal) .f32 0x00000000#32) (y (ix3 0 (j 2) (j 3))) (rel x (i 1)) 32 := by
  have i1 : (i 1).val < 8 := (i 1).isLt
  have hi : (Scalar.indexCast (BitVec.ofNat 32 (i 1).val)).toNat = (i 1).val := by
    rw [Scalar.indexCast, BitVec.toNat_ofNat]; omega
  have e (o : Fin 2 → ℕ) (h) (n : ℕ) (hn : n < 32) (o0 : o 0 = n) (o1 : o 1 = (i 1).val) (k) :
      View.ld (Val := Elt Ideal) (e' := .f32) x (Rect.unit (s := S32x8) o ![1, 1] h) k = rel x (i 1) n := by
    have k0 : (k 0).val < 1 := (k 0).isLt
    have k1 : (k 1).val < 1 := (k 1).isLt
    unfold rel
    rw [dif_pos hn]
    show x _ = x _
    refine congrArg x (funext fun a => Fin.ext ?_)
    match a with
    | ⟨0, _⟩ => show o 0 + 1 * (k 0).val = n; omega
    | ⟨1, _⟩ => show o 1 + 1 * (k 1).val = (i 1).val; omega
  have j0 : (j 0).val < 1 := (j 0).isLt
  have j1 : (j 1).val < 1 := (j 1).isLt
  have hy : k0_pay2 y (ix2 (j 2) (j 3)) = y (ix3 0 (j 2) (j 3)) := by
    refine shapeCast_apply _ _ _ _ ?_
    refine (Shape.rowMajor_val_three _).trans (.trans ?_ (Shape.rowMajor_val_two _).symm)
    show (0 * 128 + (j 2).val) * 256 + (j 3).val = (j 2).val * 256 + (j 3).val
    omega
  frame_out
  rw [e (k0_off1 i) _ 0 (by decide) rfl hi,
    e (k0_off2 i) _ 1 (by decide) rfl hi,
    e (k0_off3 i) _ 2 (by decide) rfl hi,
    e (k0_off4 i) _ 3 (by decide) rfl hi,
    e (k0_off5 i) _ 4 (by decide) rfl hi,
    e (k0_off6 i) _ 5 (by decide) rfl hi,
    e (k0_off7 i) _ 6 (by decide) rfl hi,
    e (k0_off8 i) _ 7 (by decide) rfl hi,
    e (k0_off9 i) _ 8 (by decide) rfl hi,
    e (k0_off10 i) _ 9 (by decide) rfl hi,
    e (k0_off11 i) _ 10 (by decide) rfl hi,
    e (k0_off12 i) _ 11 (by decide) rfl hi,
    e (k0_off13 i) _ 12 (by decide) rfl hi,
    e (k0_off14 i) _ 13 (by decide) rfl hi,
    e (k0_off15 i) _ 14 (by decide) rfl hi,
    e (k0_off16 i) _ 15 (by decide) rfl hi,
    e (k0_off17 i) _ 16 (by decide) rfl hi,
    e (k0_off18 i) _ 17 (by decide) rfl hi,
    e (k0_off19 i) _ 18 (by decide) rfl hi,
    e (k0_off20 i) _ 19 (by decide) rfl hi,
    e (k0_off21 i) _ 20 (by decide) rfl hi,
    e (k0_off22 i) _ 21 (by decide) rfl hi,
    e (k0_off23 i) _ 22 (by decide) rfl hi,
    e (k0_off24 i) _ 23 (by decide) rfl hi,
    e (k0_off25 i) _ 24 (by decide) rfl hi,
    e (k0_off26 i) _ 25 (by decide) rfl hi,
    e (k0_off27 i) _ 26 (by decide) rfl hi,
    e (k0_off28 i) _ 27 (by decide) rfl hi,
    e (k0_off29 i) _ 28 (by decide) rfl hi,
    e (k0_off30 i) _ 29 (by decide) rfl hi,
    e (k0_off31 i) _ 30 (by decide) rfl hi,
    e (k0_off32 i) _ 31 (by decide) rfl hi]
  unfold k0_pay1
  refine (shapeCast_apply _ _ j (ix2 (j 2) (j 3)) ?_).trans ?_
  · refine (Shape.rowMajor_val_two _).trans (.trans ?_ (Shape.rowMajor_val_four _).symm)
    show (j 2).val * 256 + (j 3).val = (((j 0).val * 1 + (j 1).val) * 128 + (j 2).val) * 256 + (j 3).val
    omega
  · rw [← hy]
    rfl

theorem blocks : ∀ t : Fin cfg0.N, win0_2.index t = ![((grid0.coords t) 0).val, ((grid0.coords t) 1).val, 0, 0]
    ∧ win0_1.index t = ![((grid0.coords t) 0).val, 0, 0] ∧ win0_0.index t = ![0, 0] :=
  (by decide +kernel : ∀ t : Fin grid0.N, _)

/-- Every block of the result is some point's. -/
theorem hits : ∀ (d : Fin 3) (h : Fin 8), ∃ t : Fin cfg0.N, win0_2.index t = ![d.val, h.val, 0, 0] :=
  (by decide +kernel : ∀ (d : Fin 3) (h : Fin 8), ∃ t : Fin grid0.N, win0_2.index t = ![d.val, h.val, 0, 0])

variable (m : (ℓ : Loc nD τ sig) → Buf (Elt Ideal) ℓ)

/-- The tables: for each entry the bias of the bucket it names. -/
def table (x : S32x8.Idx → EReal) (y : S3x128x256.Idx → BitVec 32) : S3x8x128x256.Idx → EReal := fun i =>
  fold (Scalar.ofBits (F := Ideal) .f32 0xF149F2CA#32) (Scalar.ofBits (F := Ideal) .f32 0x00000000#32) (y (ix3 (i 0) (i 2) (i 3))) (rel x (i 1)) 32

/-- The array after the run is the tables. -/
theorem final (c : Dev nD) : (dats m 0 c).arrAt 2 cfg0.N = table (m ((c : Thread nD τ).loc main_arg0)) (m ((c : Thread nD τ).loc main_arg1)) := by
  refine (dats m 0 c).arrAt_eq_of_emb 2 _ (fun t hf (j : S1x1x128x256.Idx) => ?_) ?_
  · show (dats m 0 c).after 2 t j = _
    rw [after0_2]
    unfold outsAt0
    refine (out_eq c _ _ _ _ _ _ _ _ _ j).trans ?_
    obtain ⟨b2, b1, b0⟩ := blocks t
    have j0 : (j 0).val < 1 := (j 0).isLt
    have j1 : (j 1).val < 1 := (j 1).isLt
    have p0 : win0_2.index t 0 = ((grid0.coords t) 0).val := congrFun b2 0
    have p1 : win0_2.index t 1 = ((grid0.coords t) 1).val := congrFun b2 1
    have p2 : win0_2.index t 2 = 0 := congrFun b2 2
    have p3 : win0_2.index t 3 = 0 := congrFun b2 3
    have q0 : win0_1.index t 0 = ((grid0.coords t) 0).val := congrFun b1 0
    have q1 : win0_1.index t 1 = 0 := congrFun b1 1
    have q2 : win0_1.index t 2 = 0 := congrFun b1 2
    have r0 : win0_0.index t 0 = 0 := congrFun b0 0
    have r1 : win0_0.index t 1 = 0 := congrFun b0 1
    have hx : (iblk m c 0 t : S32x8.Idx → EReal) = m ((c : Thread nD τ).loc main_arg0) := by
      funext k
      show (m ((c : Thread nD τ).loc main_arg0) : S32x8.Idx → EReal) (((cfg0.win 0).blk t).view.emb k) = _
      refine congrArg (m ((c : Thread nD τ).loc main_arg0) : S32x8.Idx → EReal) (funext fun a => Fin.ext ?_)
      match a with
      | ⟨0, _⟩ => show win0_0.index t 0 * 32 + 1 * (k 0).val = (k 0).val; omega
      | ⟨1, _⟩ => show win0_0.index t 1 * 8 + 1 * (k 1).val = (k 1).val; omega
    have hy : (iblk m c 1 t : S1x128x256.Idx → BitVec 32) (ix3 0 (j 2) (j 3))
        = (m ((c : Thread nD τ).loc main_arg1) : S3x128x256.Idx → BitVec 32)
          (ix3 ((((cfg0.win 2).blk t).view.emb j : S3x8x128x256.Idx) 0) ((((cfg0.win 2).blk t).view.emb j : S3x8x128x256.Idx) 2) ((((cfg0.win 2).blk t).view.emb j : S3x8x128x256.Idx) 3)) := by
      show (m ((c : Thread nD τ).loc main_arg1) : S3x128x256.Idx → BitVec 32) (((cfg0.win 1).blk t).view.emb (ix3 0 (j 2) (j 3))) = _
      refine congrArg (m ((c : Thread nD τ).loc main_arg1) : S3x128x256.Idx → BitVec 32) (funext fun a => Fin.ext ?_)
      match a with
      | ⟨0, _⟩ => show win0_1.index t 0 * 1 + 1 * 0 = win0_2.index t 0 * 1 + 1 * (j 0).val; omega
      | ⟨1, _⟩ => show win0_1.index t 1 * 128 + 1 * (j 2).val = win0_2.index t 2 * 128 + 1 * (j 2).val; omega
      | ⟨2, _⟩ => show win0_1.index t 2 * 256 + 1 * (j 3).val = win0_2.index t 3 * 256 + 1 * (j 3).val; omega
    have hh : (grid0.coords t) 1 = (((cfg0.win 2).blk t).view.emb j : S3x8x128x256.Idx) 1 := by
      refine Fin.ext ?_
      show ((grid0.coords t) 1).val = win0_2.index t 1 * 1 + 1 * (j 1).val
      omega
    exact congr (congrArg₂ (fun w f => fold (Scalar.ofBits (F := Ideal) .f32 0xF149F2CA#32) (Scalar.ofBits (F := Ideal) .f32 0x00000000#32) w f) hy
      (congrArg₂ rel hx hh)) rfl
  · intro (i : S3x8x128x256.Idx)
    have h0 : (i 0).val < 3 := (i 0).isLt
    have h1 : (i 1).val < 8 := (i 1).isLt
    have h2 : (i 2).val < 128 := (i 2).isLt
    have h3 : (i 3).val < 256 := (i 3).isLt
    obtain ⟨t, ht⟩ := hits ⟨(i 0).val, h0⟩ ⟨(i 1).val, h1⟩
    have q0 : win0_2.index t 0 = (i 0).val := congrFun ht 0
    have q1 : win0_2.index t 1 = (i 1).val := congrFun ht 1
    have q2 : win0_2.index t 2 = 0 := congrFun ht 2
    have q3 : win0_2.index t 3 = 0 := congrFun ht 3
    refine ⟨t, flush0_2 t, ?_⟩
    show i ∈ ((View.whole main_v0).slice (win0_2.rect t)).set
    rw [View.set_slice_whole, Rect.mem_set_unit]
    intro a
    match a with
    | ⟨0, _⟩ => show win0_2.index t 0 * 1 ≤ (i 0).val ∧ (i 0).val < win0_2.index t 0 * 1 + 1; omega
    | ⟨1, _⟩ => show win0_2.index t 1 * 1 ≤ (i 1).val ∧ (i 1).val < win0_2.index t 1 * 1 + 1; omega
    | ⟨2, _⟩ => show win0_2.index t 2 * 128 ≤ (i 2).val ∧ (i 2).val < win0_2.index t 2 * 128 + 128; omega
    | ⟨3, _⟩ => show win0_2.index t 3 * 256 ≤ (i 3).val ∧ (i 3).val < win0_2.index t 3 * 256 + 256; omega

end BiasTablesIdeal.Value

theorem biasTables_P : @quiescent_BiasTables BiasTables.Gen.facts := fun m g _ => BiasTables.Gen.frame m g
theorem biasTables_PI : @quiescent_BiasTablesIdeal BiasTablesIdeal.Gen.facts := fun m g _ => BiasTablesIdeal.Gen.frame m g
theorem biasTables_RI : @quiescent_BiasTablesRefIdeal BiasTablesRefIdeal.Gen.facts := fun m g _ =>
  (θ_run _ _ _).mono (fun r h => ⟨fun c => (h c).2, sem_eq_zero_of_no_sems rfl r.2⟩) (BiasTablesRefIdeal.Value.run m g)
theorem biasTables_algebraic : @algebraic_BiasTablesIdeal_BiasTablesRefIdeal BiasTablesIdeal.Gen.facts BiasTablesRefIdeal.Gen.facts := by
  intro m g m' g' _ hin
  refine ⟨_, BiasTablesIdeal.Value.run_blocks m g, (θ_run _ _ _).mono (fun r h c => ?_) (BiasTablesRefIdeal.Value.run m' g')⟩
  obtain ⟨h0, h1⟩ := h c
  obtain ⟨e0, e1⟩ := hin c
  refine ⟨h0.trans ?_, h1⟩
  rw [e0, e1, BiasTablesIdeal.Value.final m c]
  funext (i : BiasTablesIdeal.S3x8x128x256.Idx)
  have hz : (Scalar.ofBits (F := Ideal) .f32 0x00000000#32 : EReal) = 0 := Ideal.ofBits_zero_f32
  unfold BiasTablesIdeal.Value.table
  rw [hz, fold_eq _ _ _ 32 le_rfl]
  show ite _ _ _ = ite _ _ _
  refine if_congr (Iff.of_eq (congrArg (IntOp.cmpi .slt · 0#32 = 1#1) (congrArg (m ((c : Thread BiasTablesIdeal.nD BiasTablesIdeal.τ).loc BiasTablesIdeal.main_arg1) : BiasTablesIdeal.S3x128x256.Idx → BitVec 32)
    (funext fun a => by match a with | ⟨0, _⟩ => rfl | ⟨1, _⟩ => rfl | ⟨2, _⟩ => rfl)))) rfl ?_
  rw [Host.reduceAdd_apply, Ideal.hostReduceAdd_def, Ideal.hostReduceAdd_r5_a4]
  refine ((congrArg (· + _) Ideal.ofBits_zero_f32).trans (zero_add _)).trans (Finset.sum_congr rfl fun k _ => ?_)
  show ite _ _ _ = ite _ _ _
  refine if_congr (Iff.of_eq (congrArg (IntOp.cmpi .eq · (BitVec.ofNat 32 k.val) = 1#1) (congrArg (m ((c : Thread BiasTablesIdeal.nD BiasTablesIdeal.τ).loc BiasTablesIdeal.main_arg1) : BiasTablesIdeal.S3x128x256.Idx → BitVec 32)
    (funext fun a => by match a with | ⟨0, _⟩ => rfl | ⟨1, _⟩ => rfl | ⟨2, _⟩ => rfl)))) ?_ hz
  unfold BiasTablesIdeal.Value.rel
  rw [dif_pos k.isLt]
  exact congrArg (m ((c : Thread BiasTablesIdeal.nD BiasTablesIdeal.τ).loc BiasTablesIdeal.main_arg0) : BiasTablesIdeal.S32x8.Idx → EReal)
    (funext fun a => by match a with | ⟨0, _⟩ => rfl | ⟨1, _⟩ => rfl)

end Cert

end

end
-- ==== Proof.lean ====
module

public import proofs.«01_k».proof.Defs
public import proofs.«01_k».proof.Proof.SwapValue
public import proofs.«01_k».proof.Proof.JoinValue
public import proofs.«01_k».proof.Proof.ScatterValue
public import proofs.«01_k».proof.Proof.SmallValue
public import proofs.«01_k».proof.Proof.WeightsValue
public import proofs.«01_k».proof.Proof.AdamwValue
public import proofs.«01_k».proof.Proof.SumValue
public import proofs.«01_k».proof.Proof.AddValue
public import proofs.«01_k».proof.Proof.WgradValue
public import proofs.«01_k».proof.Proof.DxValue
public import proofs.«01_k».proof.Proof.InprojValue
public import proofs.«01_k».proof.Proof.PostValue
public import proofs.«01_k».proof.Proof.BiasValue

@[expose] public section

namespace Cert

theorem Proof.claim : Cert.Claim :=
  ⟨SwapHalves.Gen.facts, SwapHalvesIdeal.Gen.facts, SwapHalvesRefIdeal.Gen.facts,
    JoinHalves.Gen.facts, JoinHalvesIdeal.Gen.facts, JoinHalvesRefIdeal.Gen.facts,
    ScatterChips.Gen.facts, ScatterChipsIdeal.Gen.facts, ScatterChipsRefIdeal.Gen.facts,
    GatherSmall.Gen.facts, GatherSmallIdeal.Gen.facts, GatherSmallRefIdeal.Gen.facts,
    GatherWeights.Gen.facts, GatherWeightsIdeal.Gen.facts, GatherWeightsRefIdeal.Gen.facts,
    AdamwAttnNormG.Gen.facts, AdamwAttnNormGIdeal.Gen.facts, AdamwAttnNormGRefIdeal.Gen.facts,
    AdamwWIn.Gen.facts, AdamwWInIdeal.Gen.facts, AdamwWInRefIdeal.Gen.facts,
    AdamwGlaGateW2.Gen.facts, AdamwGlaGateW2Ideal.Gen.facts, AdamwGlaGateW2RefIdeal.Gen.facts,
    AdamwGlaGateB.Gen.facts, AdamwGlaGateBIdeal.Gen.facts, AdamwGlaGateBRefIdeal.Gen.facts,
    AdamwGlaNormG.Gen.facts, AdamwGlaNormGIdeal.Gen.facts, AdamwGlaNormGRefIdeal.Gen.facts,
    AdamwRelBias.Gen.facts, AdamwRelBiasIdeal.Gen.facts, AdamwRelBiasRefIdeal.Gen.facts,
    AdamwWOut.Gen.facts, AdamwWOutIdeal.Gen.facts, AdamwWOutRefIdeal.Gen.facts,
    AdamwWFf1.Gen.facts, AdamwWFf1Ideal.Gen.facts, AdamwWFf1RefIdeal.Gen.facts,
    SumIn.Gen.facts, SumInIdeal.Gen.facts, SumInRefIdeal.Gen.facts,
    SumOut.Gen.facts, SumOutIdeal.Gen.facts, SumOutRefIdeal.Gen.facts,
    SumFf.Gen.facts, SumFfIdeal.Gen.facts, SumFfRefIdeal.Gen.facts,
    SumSmall.Gen.facts, SumSmallIdeal.Gen.facts, SumSmallRefIdeal.Gen.facts,
    AddIn.Gen.facts, AddInIdeal.Gen.facts, AddInRefIdeal.Gen.facts,
    AddOut.Gen.facts, AddOutIdeal.Gen.facts, AddOutRefIdeal.Gen.facts,
    AddFf.Gen.facts, AddFfIdeal.Gen.facts, AddFfRefIdeal.Gen.facts,
    WgradGla.Gen.facts, WgradGlaIdeal.Gen.facts, WgradGlaRefIdeal.Gen.facts,
    WgradHeads.Gen.facts, WgradHeadsIdeal.Gen.facts, WgradHeadsRefIdeal.Gen.facts,
    WgradOut.Gen.facts, WgradOutIdeal.Gen.facts, WgradOutRefIdeal.Gen.facts,
    WgradFf1.Gen.facts, WgradFf1Ideal.Gen.facts, WgradFf1RefIdeal.Gen.facts,
    WgradFf2.Gen.facts, WgradFf2Ideal.Gen.facts, WgradFf2RefIdeal.Gen.facts,
    Inproj.Gen.facts, InprojIdeal.Gen.facts, InprojRefIdeal.Gen.facts,
    DxFinal.Gen.facts, DxFinalIdeal.Gen.facts, DxFinalRefIdeal.Gen.facts,
    PostFused.Gen.facts, PostFusedIdeal.Gen.facts, PostFusedRefIdeal.Gen.facts,
    BiasTables.Gen.facts, BiasTablesIdeal.Gen.facts, BiasTablesRefIdeal.Gen.facts,
    Pre_core_named_in.Gen.facts, Pre_core_named_out.Gen.facts, Pre_core_named_ff.Gen.facts,
    swap_P, swap_PI, swap_RI,
    join_P, join_PI, join_RI,
    scatter_P, scatter_PI, scatter_RI,
    small_P, small_PI, small_RI,
    weights_P, weights_PI, weights_RI,
    adamwAttnNormG_P, adamwAttnNormG_PI, adamwAttnNormG_RI,
    adamwWIn_P, adamwWIn_PI, adamwWIn_RI,
    adamwGlaGateW2_P, adamwGlaGateW2_PI, adamwGlaGateW2_RI,
    adamwGlaGateB_P, adamwGlaGateB_PI, adamwGlaGateB_RI,
    adamwGlaNormG_P, adamwGlaNormG_PI, adamwGlaNormG_RI,
    adamwRelBias_P, adamwRelBias_PI, adamwRelBias_RI,
    adamwWOut_P, adamwWOut_PI, adamwWOut_RI,
    adamwWFf1_P, adamwWFf1_PI, adamwWFf1_RI,
    sumIn_P, sumIn_PI, sumIn_RI,
    sumOut_P, sumOut_PI, sumOut_RI,
    sumFf_P, sumFf_PI, sumFf_RI,
    sumSmall_P, sumSmall_PI, sumSmall_RI,
    addIn_P, addIn_PI, addIn_RI, addIn_RI_core,
    addOut_P, addOut_PI, addOut_RI, addOut_RI_core,
    addFf_P, addFf_PI, addFf_RI, addFf_RI_core,
    wgradGla_P, wgradGla_PI, wgradGla_RI,
    wgradHeads_P, wgradHeads_PI, wgradHeads_RI,
    wgradOut_P, wgradOut_PI, wgradOut_RI,
    wgradFf1_P, wgradFf1_PI, wgradFf1_RI,
    wgradFf2_P, wgradFf2_PI, wgradFf2_RI,
    inproj_P, inproj_PI, inproj_RI,
    dxFinal_P, dxFinal_PI, dxFinal_RI,
    postFused_P, postFused_PI, postFused_RI,
    biasTables_P, biasTables_PI, biasTables_RI,
    trivial, swap_algebraic,
    trivial, join_algebraic,
    trivial, scatter_algebraic,
    trivial, small_algebraic,
    trivial, weights_algebraic,
    trivial, adamwAttnNormG_algebraic,
    trivial, adamwWIn_algebraic,
    trivial, adamwGlaGateW2_algebraic,
    trivial, adamwGlaGateB_algebraic,
    trivial, adamwGlaNormG_algebraic,
    trivial, adamwRelBias_algebraic,
    trivial, adamwWOut_algebraic,
    trivial, adamwWFf1_algebraic,
    trivial, sumIn_algebraic,
    trivial, sumOut_algebraic,
    trivial, sumFf_algebraic,
    trivial, sumSmall_algebraic,
    trivial, addIn_algebraic,
    trivial, addOut_algebraic,
    trivial, addFf_algebraic,
    trivial, wgradGla_algebraic,
    trivial, wgradHeads_algebraic,
    trivial, wgradOut_algebraic,
    trivial, wgradFf1_algebraic,
    trivial, wgradFf2_algebraic,
    trivial, inproj_algebraic,
    trivial, dxFinal_algebraic,
    trivial, postFused_algebraic,
    trivial, biasTables_algebraic⟩

end Cert

end
